-- ==== Defs.lean ====
def Pre_Fc2 (m : (ℓ : Loc Cert.Fc2.nD Cert.Fc2.τ Cert.Fc2.sig) → Buf (Elt Bits) ℓ) : Prop :=
  True

def Pre_Fc2Ideal (m : (ℓ : Loc Cert.Fc2Ideal.nD Cert.Fc2Ideal.τ Cert.Fc2Ideal.sig) → Buf (Elt Ideal) ℓ) : Prop :=
  True

def Pre_RefFc2Ideal (m : (ℓ : Loc Cert.RefFc2Ideal.nD Cert.RefFc2Ideal.τ Cert.RefFc2Ideal.sig) → Buf (Elt Ideal) ℓ) : Prop :=
  True

def Pre_QkvS (m : (ℓ : Loc Cert.QkvS.nD Cert.QkvS.τ Cert.QkvS.sig) → Buf (Elt Bits) ℓ) : Prop :=
  True

def Pre_QkvSIdeal (m : (ℓ : Loc Cert.QkvSIdeal.nD Cert.QkvSIdeal.τ Cert.QkvSIdeal.sig) → Buf (Elt Ideal) ℓ) : Prop :=
  True

def Pre_RefQkvSIdeal (m : (ℓ : Loc Cert.RefQkvSIdeal.nD Cert.RefQkvSIdeal.τ Cert.RefQkvSIdeal.sig) → Buf (Elt Ideal) ℓ) : Prop :=
  True

def Pre_QkvTQ (m : (ℓ : Loc Cert.QkvTQ.nD Cert.QkvTQ.τ Cert.QkvTQ.sig) → Buf (Elt Bits) ℓ) : Prop :=
  True

def Pre_QkvTQIdeal (m : (ℓ : Loc Cert.QkvTQIdeal.nD Cert.QkvTQIdeal.τ Cert.QkvTQIdeal.sig) → Buf (Elt Ideal) ℓ) : Prop :=
  True

def Pre_RefQkvTQIdeal (m : (ℓ : Loc Cert.RefQkvTQIdeal.nD Cert.RefQkvTQIdeal.τ Cert.RefQkvTQIdeal.sig) → Buf (Elt Ideal) ℓ) : Prop :=
  True

def Pre_QkvTKv (m : (ℓ : Loc Cert.QkvTKv.nD Cert.QkvTKv.τ Cert.QkvTKv.sig) → Buf (Elt Bits) ℓ) : Prop :=
  True

def Pre_QkvTKvIdeal (m : (ℓ : Loc Cert.QkvTKvIdeal.nD Cert.QkvTKvIdeal.τ Cert.QkvTKvIdeal.sig) → Buf (Elt Ideal) ℓ) : Prop :=
  True

def Pre_RefQkvTKvIdeal (m : (ℓ : Loc Cert.RefQkvTKvIdeal.nD Cert.RefQkvTKvIdeal.τ Cert.RefQkvTKvIdeal.sig) → Buf (Elt Ideal) ℓ) : Prop :=
  True

def Pre_Ln1 (m : (ℓ : Loc Cert.Ln1.nD Cert.Ln1.τ Cert.Ln1.sig) → Buf (Elt Bits) ℓ) : Prop :=
  True

def Pre_Ln1Ideal (m : (ℓ : Loc Cert.Ln1Ideal.nD Cert.Ln1Ideal.τ Cert.Ln1Ideal.sig) → Buf (Elt Ideal) ℓ) : Prop :=
  True

def Pre_RefLn1Ideal (m : (ℓ : Loc Cert.RefLn1Ideal.nD Cert.RefLn1Ideal.τ Cert.RefLn1Ideal.sig) → Buf (Elt Ideal) ℓ) : Prop :=
  True

def Pre_OprojT (m : (ℓ : Loc Cert.OprojT.nD Cert.OprojT.τ Cert.OprojT.sig) → Buf (Elt Bits) ℓ) : Prop :=
  True

def Pre_OprojTIdeal (m : (ℓ : Loc Cert.OprojTIdeal.nD Cert.OprojTIdeal.τ Cert.OprojTIdeal.sig) → Buf (Elt Ideal) ℓ) : Prop :=
  True

def Pre_RefOprojTIdeal (m : (ℓ : Loc Cert.RefOprojTIdeal.nD Cert.RefOprojTIdeal.τ Cert.RefOprojTIdeal.sig) → Buf (Elt Ideal) ℓ) : Prop :=
  True

def Pre_Fc1 (m : (ℓ : Loc Cert.Fc1.nD Cert.Fc1.τ Cert.Fc1.sig) → Buf (Elt Bits) ℓ) : Prop :=
  True

def Pre_Fc1Ideal (m : (ℓ : Loc Cert.Fc1Ideal.nD Cert.Fc1Ideal.τ Cert.Fc1Ideal.sig) → Buf (Elt Ideal) ℓ) : Prop :=
  True

def Pre_RefFc1Ideal (m : (ℓ : Loc Cert.RefFc1Ideal.nD Cert.RefFc1Ideal.τ Cert.RefFc1Ideal.sig) → Buf (Elt Ideal) ℓ) : Prop :=
  True

def Pre_OprojS [hPre_ids_ok : Cert.Pre_ids_ok.Facts] (m : (ℓ : Loc Cert.OprojS.nD Cert.OprojS.τ Cert.OprojS.sig) → Buf (Elt Bits) ℓ) : Prop :=
  ∀ c : Dev Cert.OprojS.nD,
    (Cert.Pre_ids_ok.fn (F := Bits) (m ((c.tc : Thread Cert.OprojS.nD Cert.OprojS.τ).loc Cert.OprojS.main_arg0)) (m ((c.tc : Thread Cert.OprojS.nD Cert.OprojS.τ).loc Cert.OprojS.main_arg1)) (m ((c.tc : Thread Cert.OprojS.nD Cert.OprojS.τ).loc Cert.OprojS.main_arg2)) (m ((c.tc : Thread Cert.OprojS.nD Cert.OprojS.τ).loc Cert.OprojS.main_arg3)) (m ((c.tc : Thread Cert.OprojS.nD Cert.OprojS.τ).loc Cert.OprojS.main_arg4)) (m ((c.tc : Thread Cert.OprojS.nD Cert.OprojS.τ).loc Cert.OprojS.main_arg5)) (m ((c.tc : Thread Cert.OprojS.nD Cert.OprojS.τ).loc Cert.OprojS.main_arg6)) (m ((c.tc : Thread Cert.OprojS.nD Cert.OprojS.τ).loc Cert.OprojS.main_arg7)) (m ((c.tc : Thread Cert.OprojS.nD Cert.OprojS.τ).loc Cert.OprojS.main_arg8))) = (fun _ => 1#1)

def Pre_OprojSIdeal [hPre_ids_ok : Cert.Pre_ids_ok.Facts] (m : (ℓ : Loc Cert.OprojSIdeal.nD Cert.OprojSIdeal.τ Cert.OprojSIdeal.sig) → Buf (Elt Ideal) ℓ) : Prop :=
  ∀ c : Dev Cert.OprojSIdeal.nD,
    (Cert.Pre_ids_ok.fn (F := Ideal) (m ((c.tc : Thread Cert.OprojSIdeal.nD Cert.OprojSIdeal.τ).loc Cert.OprojSIdeal.main_arg0)) (m ((c.tc : Thread Cert.OprojSIdeal.nD Cert.OprojSIdeal.τ).loc Cert.OprojSIdeal.main_arg1)) (m ((c.tc : Thread Cert.OprojSIdeal.nD Cert.OprojSIdeal.τ).loc Cert.OprojSIdeal.main_arg2)) (m ((c.tc : Thread Cert.OprojSIdeal.nD Cert.OprojSIdeal.τ).loc Cert.OprojSIdeal.main_arg3)) (m ((c.tc : Thread Cert.OprojSIdeal.nD Cert.OprojSIdeal.τ).loc Cert.OprojSIdeal.main_arg4)) (m ((c.tc : Thread Cert.OprojSIdeal.nD Cert.OprojSIdeal.τ).loc Cert.OprojSIdeal.main_arg5)) (m ((c.tc : Thread Cert.OprojSIdeal.nD Cert.OprojSIdeal.τ).loc Cert.OprojSIdeal.main_arg6)) (m ((c.tc : Thread Cert.OprojSIdeal.nD Cert.OprojSIdeal.τ).loc Cert.OprojSIdeal.main_arg7)) (m ((c.tc : Thread Cert.OprojSIdeal.nD Cert.OprojSIdeal.τ).loc Cert.OprojSIdeal.main_arg8))) = (fun _ => 1#1)

def Pre_RefOprojSIdeal [hPre_ids_ok : Cert.Pre_ids_ok.Facts] (m : (ℓ : Loc Cert.RefOprojSIdeal.nD Cert.RefOprojSIdeal.τ Cert.RefOprojSIdeal.sig) → Buf (Elt Ideal) ℓ) : Prop :=
  ∀ c : Dev Cert.RefOprojSIdeal.nD,
    (Cert.Pre_ids_ok.fn (F := Ideal) (m ((c.tc : Thread Cert.RefOprojSIdeal.nD Cert.RefOprojSIdeal.τ).loc Cert.RefOprojSIdeal.main_arg0)) (m ((c.tc : Thread Cert.RefOprojSIdeal.nD Cert.RefOprojSIdeal.τ).loc Cert.RefOprojSIdeal.main_arg1)) (m ((c.tc : Thread Cert.RefOprojSIdeal.nD Cert.RefOprojSIdeal.τ).loc Cert.RefOprojSIdeal.main_arg2)) (m ((c.tc : Thread Cert.RefOprojSIdeal.nD Cert.RefOprojSIdeal.τ).loc Cert.RefOprojSIdeal.main_arg3)) (m ((c.tc : Thread Cert.RefOprojSIdeal.nD Cert.RefOprojSIdeal.τ).loc Cert.RefOprojSIdeal.main_arg4)) (m ((c.tc : Thread Cert.RefOprojSIdeal.nD Cert.RefOprojSIdeal.τ).loc Cert.RefOprojSIdeal.main_arg5)) (m ((c.tc : Thread Cert.RefOprojSIdeal.nD Cert.RefOprojSIdeal.τ).loc Cert.RefOprojSIdeal.main_arg6)) (m ((c.tc : Thread Cert.RefOprojSIdeal.nD Cert.RefOprojSIdeal.τ).loc Cert.RefOprojSIdeal.main_arg7)) (m ((c.tc : Thread Cert.RefOprojSIdeal.nD Cert.RefOprojSIdeal.τ).loc Cert.RefOprojSIdeal.main_arg8))) = (fun _ => 1#1)

def Pre_Spatial (m : (ℓ : Loc Cert.Spatial.nD Cert.Spatial.τ Cert.Spatial.sig) → Buf (Elt Bits) ℓ) : Prop :=
  True

def Pre_SpatialIdeal (m : (ℓ : Loc Cert.SpatialIdeal.nD Cert.SpatialIdeal.τ Cert.SpatialIdeal.sig) → Buf (Elt Ideal) ℓ) : Prop :=
  True

def Pre_RefSpatialIdeal (m : (ℓ : Loc Cert.RefSpatialIdeal.nD Cert.RefSpatialIdeal.τ Cert.RefSpatialIdeal.sig) → Buf (Elt Ideal) ℓ) : Prop :=
  True

def quiescent_Fc2 [hFc2 : Cert.Fc2.Facts] : Prop :=
  ∀ (m : (ℓ : Loc Cert.Fc2.nD Cert.Fc2.τ Cert.Fc2.sig) → Buf (Elt Bits) ℓ) (g : Dev Cert.Fc2.nD → PrngReg), Pre_Fc2 m →
    θ_run (Cert.Fc2.defs (F := Bits)) (onTc (τ := Cert.Fc2.τ) (Cert.Fc2.main (F := Bits))) ⟨m, fun _ => 0, g⟩ (fun r => (∀ c : Dev Cert.Fc2.nD,
      r.2.mem ((c.tc : Thread Cert.Fc2.nD Cert.Fc2.τ).loc Cert.Fc2.main_arg0) = m ((c.tc : Thread Cert.Fc2.nD Cert.Fc2.τ).loc Cert.Fc2.main_arg0)
      ∧ r.2.mem ((c.tc : Thread Cert.Fc2.nD Cert.Fc2.τ).loc Cert.Fc2.main_arg1) = m ((c.tc : Thread Cert.Fc2.nD Cert.Fc2.τ).loc Cert.Fc2.main_arg1)
      ∧ r.2.mem ((c.tc : Thread Cert.Fc2.nD Cert.Fc2.τ).loc Cert.Fc2.main_arg2) = m ((c.tc : Thread Cert.Fc2.nD Cert.Fc2.τ).loc Cert.Fc2.main_arg2)
      ∧ r.2.mem ((c.tc : Thread Cert.Fc2.nD Cert.Fc2.τ).loc Cert.Fc2.main_arg3) = m ((c.tc : Thread Cert.Fc2.nD Cert.Fc2.τ).loc Cert.Fc2.main_arg3)
      ∧ r.2.mem ((c.tc : Thread Cert.Fc2.nD Cert.Fc2.τ).loc Cert.Fc2.main_arg4) = m ((c.tc : Thread Cert.Fc2.nD Cert.Fc2.τ).loc Cert.Fc2.main_arg4)
      ∧ r.2.mem ((c.tc : Thread Cert.Fc2.nD Cert.Fc2.τ).loc Cert.Fc2.main_arg5) = m ((c.tc : Thread Cert.Fc2.nD Cert.Fc2.τ).loc Cert.Fc2.main_arg5))
      ∧ r.2.sem = fun _ => 0)

def quiescent_Fc2Ideal [hFc2Ideal : Cert.Fc2Ideal.Facts] : Prop :=
  ∀ (m : (ℓ : Loc Cert.Fc2Ideal.nD Cert.Fc2Ideal.τ Cert.Fc2Ideal.sig) → Buf (Elt Ideal) ℓ) (g : Dev Cert.Fc2Ideal.nD → PrngReg), Pre_Fc2Ideal m →
    θ_run (Cert.Fc2Ideal.defs (F := Ideal)) (onTc (τ := Cert.Fc2Ideal.τ) (Cert.Fc2Ideal.main (F := Ideal))) ⟨m, fun _ => 0, g⟩ (fun r => (∀ c : Dev Cert.Fc2Ideal.nD,
      r.2.mem ((c.tc : Thread Cert.Fc2Ideal.nD Cert.Fc2Ideal.τ).loc Cert.Fc2Ideal.main_arg0) = m ((c.tc : Thread Cert.Fc2Ideal.nD Cert.Fc2Ideal.τ).loc Cert.Fc2Ideal.main_arg0)
      ∧ r.2.mem ((c.tc : Thread Cert.Fc2Ideal.nD Cert.Fc2Ideal.τ).loc Cert.Fc2Ideal.main_arg1) = m ((c.tc : Thread Cert.Fc2Ideal.nD Cert.Fc2Ideal.τ).loc Cert.Fc2Ideal.main_arg1)
      ∧ r.2.mem ((c.tc : Thread Cert.Fc2Ideal.nD Cert.Fc2Ideal.τ).loc Cert.Fc2Ideal.main_arg2) = m ((c.tc : Thread Cert.Fc2Ideal.nD Cert.Fc2Ideal.τ).loc Cert.Fc2Ideal.main_arg2)
      ∧ r.2.mem ((c.tc : Thread Cert.Fc2Ideal.nD Cert.Fc2Ideal.τ).loc Cert.Fc2Ideal.main_arg3) = m ((c.tc : Thread Cert.Fc2Ideal.nD Cert.Fc2Ideal.τ).loc Cert.Fc2Ideal.main_arg3)
      ∧ r.2.mem ((c.tc : Thread Cert.Fc2Ideal.nD Cert.Fc2Ideal.τ).loc Cert.Fc2Ideal.main_arg4) = m ((c.tc : Thread Cert.Fc2Ideal.nD Cert.Fc2Ideal.τ).loc Cert.Fc2Ideal.main_arg4)
      ∧ r.2.mem ((c.tc : Thread Cert.Fc2Ideal.nD Cert.Fc2Ideal.τ).loc Cert.Fc2Ideal.main_arg5) = m ((c.tc : Thread Cert.Fc2Ideal.nD Cert.Fc2Ideal.τ).loc Cert.Fc2Ideal.main_arg5))
      ∧ r.2.sem = fun _ => 0)

def quiescent_RefFc2Ideal [hRefFc2Ideal : Cert.RefFc2Ideal.Facts] : Prop :=
  ∀ (m : (ℓ : Loc Cert.RefFc2Ideal.nD Cert.RefFc2Ideal.τ Cert.RefFc2Ideal.sig) → Buf (Elt Ideal) ℓ) (g : Dev Cert.RefFc2Ideal.nD → PrngReg), Pre_RefFc2Ideal m →
    θ_run (Cert.RefFc2Ideal.defs (F := Ideal)) (onTc (τ := Cert.RefFc2Ideal.τ) (Cert.RefFc2Ideal.main (F := Ideal))) ⟨m, fun _ => 0, g⟩ (fun r => (∀ c : Dev Cert.RefFc2Ideal.nD,
      r.2.mem ((c.tc : Thread Cert.RefFc2Ideal.nD Cert.RefFc2Ideal.τ).loc Cert.RefFc2Ideal.main_arg0) = m ((c.tc : Thread Cert.RefFc2Ideal.nD Cert.RefFc2Ideal.τ).loc Cert.RefFc2Ideal.main_arg0)
      ∧ r.2.mem ((c.tc : Thread Cert.RefFc2Ideal.nD Cert.RefFc2Ideal.τ).loc Cert.RefFc2Ideal.main_arg1) = m ((c.tc : Thread Cert.RefFc2Ideal.nD Cert.RefFc2Ideal.τ).loc Cert.RefFc2Ideal.main_arg1)
      ∧ r.2.mem ((c.tc : Thread Cert.RefFc2Ideal.nD Cert.RefFc2Ideal.τ).loc Cert.RefFc2Ideal.main_arg2) = m ((c.tc : Thread Cert.RefFc2Ideal.nD Cert.RefFc2Ideal.τ).loc Cert.RefFc2Ideal.main_arg2)
      ∧ r.2.mem ((c.tc : Thread Cert.RefFc2Ideal.nD Cert.RefFc2Ideal.τ).loc Cert.RefFc2Ideal.main_arg3) = m ((c.tc : Thread Cert.RefFc2Ideal.nD Cert.RefFc2Ideal.τ).loc Cert.RefFc2Ideal.main_arg3)
      ∧ r.2.mem ((c.tc : Thread Cert.RefFc2Ideal.nD Cert.RefFc2Ideal.τ).loc Cert.RefFc2Ideal.main_arg4) = m ((c.tc : Thread Cert.RefFc2Ideal.nD Cert.RefFc2Ideal.τ).loc Cert.RefFc2Ideal.main_arg4)
      ∧ r.2.mem ((c.tc : Thread Cert.RefFc2Ideal.nD Cert.RefFc2Ideal.τ).loc Cert.RefFc2Ideal.main_arg5) = m ((c.tc : Thread Cert.RefFc2Ideal.nD Cert.RefFc2Ideal.τ).loc Cert.RefFc2Ideal.main_arg5))
      ∧ r.2.sem = fun _ => 0)

def quiescent_QkvS [hQkvS : Cert.QkvS.Facts] : Prop :=
  ∀ (m : (ℓ : Loc Cert.QkvS.nD Cert.QkvS.τ Cert.QkvS.sig) → Buf (Elt Bits) ℓ) (g : Dev Cert.QkvS.nD → PrngReg), Pre_QkvS m →
    θ_run (Cert.QkvS.defs (F := Bits)) (onTc (τ := Cert.QkvS.τ) (Cert.QkvS.main (F := Bits))) ⟨m, fun _ => 0, g⟩ (fun r => (∀ c : Dev Cert.QkvS.nD,
      r.2.mem ((c.tc : Thread Cert.QkvS.nD Cert.QkvS.τ).loc Cert.QkvS.main_arg0) = m ((c.tc : Thread Cert.QkvS.nD Cert.QkvS.τ).loc Cert.QkvS.main_arg0)
      ∧ r.2.mem ((c.tc : Thread Cert.QkvS.nD Cert.QkvS.τ).loc Cert.QkvS.main_arg1) = m ((c.tc : Thread Cert.QkvS.nD Cert.QkvS.τ).loc Cert.QkvS.main_arg1)
      ∧ r.2.mem ((c.tc : Thread Cert.QkvS.nD Cert.QkvS.τ).loc Cert.QkvS.main_arg2) = m ((c.tc : Thread Cert.QkvS.nD Cert.QkvS.τ).loc Cert.QkvS.main_arg2)
      ∧ r.2.mem ((c.tc : Thread Cert.QkvS.nD Cert.QkvS.τ).loc Cert.QkvS.main_arg3) = m ((c.tc : Thread Cert.QkvS.nD Cert.QkvS.τ).loc Cert.QkvS.main_arg3))
      ∧ r.2.sem = fun _ => 0)

def quiescent_QkvSIdeal [hQkvSIdeal : Cert.QkvSIdeal.Facts] : Prop :=
  ∀ (m : (ℓ : Loc Cert.QkvSIdeal.nD Cert.QkvSIdeal.τ Cert.QkvSIdeal.sig) → Buf (Elt Ideal) ℓ) (g : Dev Cert.QkvSIdeal.nD → PrngReg), Pre_QkvSIdeal m →
    θ_run (Cert.QkvSIdeal.defs (F := Ideal)) (onTc (τ := Cert.QkvSIdeal.τ) (Cert.QkvSIdeal.main (F := Ideal))) ⟨m, fun _ => 0, g⟩ (fun r => (∀ c : Dev Cert.QkvSIdeal.nD,
      r.2.mem ((c.tc : Thread Cert.QkvSIdeal.nD Cert.QkvSIdeal.τ).loc Cert.QkvSIdeal.main_arg0) = m ((c.tc : Thread Cert.QkvSIdeal.nD Cert.QkvSIdeal.τ).loc Cert.QkvSIdeal.main_arg0)
      ∧ r.2.mem ((c.tc : Thread Cert.QkvSIdeal.nD Cert.QkvSIdeal.τ).loc Cert.QkvSIdeal.main_arg1) = m ((c.tc : Thread Cert.QkvSIdeal.nD Cert.QkvSIdeal.τ).loc Cert.QkvSIdeal.main_arg1)
      ∧ r.2.mem ((c.tc : Thread Cert.QkvSIdeal.nD Cert.QkvSIdeal.τ).loc Cert.QkvSIdeal.main_arg2) = m ((c.tc : Thread Cert.QkvSIdeal.nD Cert.QkvSIdeal.τ).loc Cert.QkvSIdeal.main_arg2)
      ∧ r.2.mem ((c.tc : Thread Cert.QkvSIdeal.nD Cert.QkvSIdeal.τ).loc Cert.QkvSIdeal.main_arg3) = m ((c.tc : Thread Cert.QkvSIdeal.nD Cert.QkvSIdeal.τ).loc Cert.QkvSIdeal.main_arg3))
      ∧ r.2.sem = fun _ => 0)

def quiescent_RefQkvSIdeal [hRefQkvSIdeal : Cert.RefQkvSIdeal.Facts] : Prop :=
  ∀ (m : (ℓ : Loc Cert.RefQkvSIdeal.nD Cert.RefQkvSIdeal.τ Cert.RefQkvSIdeal.sig) → Buf (Elt Ideal) ℓ) (g : Dev Cert.RefQkvSIdeal.nD → PrngReg), Pre_RefQkvSIdeal m →
    θ_run (Cert.RefQkvSIdeal.defs (F := Ideal)) (onTc (τ := Cert.RefQkvSIdeal.τ) (Cert.RefQkvSIdeal.main (F := Ideal))) ⟨m, fun _ => 0, g⟩ (fun r => (∀ c : Dev Cert.RefQkvSIdeal.nD,
      r.2.mem ((c.tc : Thread Cert.RefQkvSIdeal.nD Cert.RefQkvSIdeal.τ).loc Cert.RefQkvSIdeal.main_arg0) = m ((c.tc : Thread Cert.RefQkvSIdeal.nD Cert.RefQkvSIdeal.τ).loc Cert.RefQkvSIdeal.main_arg0)
      ∧ r.2.mem ((c.tc : Thread Cert.RefQkvSIdeal.nD Cert.RefQkvSIdeal.τ).loc Cert.RefQkvSIdeal.main_arg1) = m ((c.tc : Thread Cert.RefQkvSIdeal.nD Cert.RefQkvSIdeal.τ).loc Cert.RefQkvSIdeal.main_arg1)
      ∧ r.2.mem ((c.tc : Thread Cert.RefQkvSIdeal.nD Cert.RefQkvSIdeal.τ).loc Cert.RefQkvSIdeal.main_arg2) = m ((c.tc : Thread Cert.RefQkvSIdeal.nD Cert.RefQkvSIdeal.τ).loc Cert.RefQkvSIdeal.main_arg2)
      ∧ r.2.mem ((c.tc : Thread Cert.RefQkvSIdeal.nD Cert.RefQkvSIdeal.τ).loc Cert.RefQkvSIdeal.main_arg3) = m ((c.tc : Thread Cert.RefQkvSIdeal.nD Cert.RefQkvSIdeal.τ).loc Cert.RefQkvSIdeal.main_arg3))
      ∧ r.2.sem = fun _ => 0)

def quiescent_QkvTQ [hQkvTQ : Cert.QkvTQ.Facts] : Prop :=
  ∀ (m : (ℓ : Loc Cert.QkvTQ.nD Cert.QkvTQ.τ Cert.QkvTQ.sig) → Buf (Elt Bits) ℓ) (g : Dev Cert.QkvTQ.nD → PrngReg), Pre_QkvTQ m →
    θ_run (Cert.QkvTQ.defs (F := Bits)) (onTc (τ := Cert.QkvTQ.τ) (Cert.QkvTQ.main (F := Bits))) ⟨m, fun _ => 0, g⟩ (fun r => (∀ c : Dev Cert.QkvTQ.nD,
      r.2.mem ((c.tc : Thread Cert.QkvTQ.nD Cert.QkvTQ.τ).loc Cert.QkvTQ.main_arg0) = m ((c.tc : Thread Cert.QkvTQ.nD Cert.QkvTQ.τ).loc Cert.QkvTQ.main_arg0)
      ∧ r.2.mem ((c.tc : Thread Cert.QkvTQ.nD Cert.QkvTQ.τ).loc Cert.QkvTQ.main_arg1) = m ((c.tc : Thread Cert.QkvTQ.nD Cert.QkvTQ.τ).loc Cert.QkvTQ.main_arg1)
      ∧ r.2.mem ((c.tc : Thread Cert.QkvTQ.nD Cert.QkvTQ.τ).loc Cert.QkvTQ.main_arg2) = m ((c.tc : Thread Cert.QkvTQ.nD Cert.QkvTQ.τ).loc Cert.QkvTQ.main_arg2)
      ∧ r.2.mem ((c.tc : Thread Cert.QkvTQ.nD Cert.QkvTQ.τ).loc Cert.QkvTQ.main_arg3) = m ((c.tc : Thread Cert.QkvTQ.nD Cert.QkvTQ.τ).loc Cert.QkvTQ.main_arg3))
      ∧ r.2.sem = fun _ => 0)

def quiescent_QkvTQIdeal [hQkvTQIdeal : Cert.QkvTQIdeal.Facts] : Prop :=
  ∀ (m : (ℓ : Loc Cert.QkvTQIdeal.nD Cert.QkvTQIdeal.τ Cert.QkvTQIdeal.sig) → Buf (Elt Ideal) ℓ) (g : Dev Cert.QkvTQIdeal.nD → PrngReg), Pre_QkvTQIdeal m →
    θ_run (Cert.QkvTQIdeal.defs (F := Ideal)) (onTc (τ := Cert.QkvTQIdeal.τ) (Cert.QkvTQIdeal.main (F := Ideal))) ⟨m, fun _ => 0, g⟩ (fun r => (∀ c : Dev Cert.QkvTQIdeal.nD,
      r.2.mem ((c.tc : Thread Cert.QkvTQIdeal.nD Cert.QkvTQIdeal.τ).loc Cert.QkvTQIdeal.main_arg0) = m ((c.tc : Thread Cert.QkvTQIdeal.nD Cert.QkvTQIdeal.τ).loc Cert.QkvTQIdeal.main_arg0)
      ∧ r.2.mem ((c.tc : Thread Cert.QkvTQIdeal.nD Cert.QkvTQIdeal.τ).loc Cert.QkvTQIdeal.main_arg1) = m ((c.tc : Thread Cert.QkvTQIdeal.nD Cert.QkvTQIdeal.τ).loc Cert.QkvTQIdeal.main_arg1)
      ∧ r.2.mem ((c.tc : Thread Cert.QkvTQIdeal.nD Cert.QkvTQIdeal.τ).loc Cert.QkvTQIdeal.main_arg2) = m ((c.tc : Thread Cert.QkvTQIdeal.nD Cert.QkvTQIdeal.τ).loc Cert.QkvTQIdeal.main_arg2)
      ∧ r.2.mem ((c.tc : Thread Cert.QkvTQIdeal.nD Cert.QkvTQIdeal.τ).loc Cert.QkvTQIdeal.main_arg3) = m ((c.tc : Thread Cert.QkvTQIdeal.nD Cert.QkvTQIdeal.τ).loc Cert.QkvTQIdeal.main_arg3))
      ∧ r.2.sem = fun _ => 0)

def quiescent_RefQkvTQIdeal [hRefQkvTQIdeal : Cert.RefQkvTQIdeal.Facts] : Prop :=
  ∀ (m : (ℓ : Loc Cert.RefQkvTQIdeal.nD Cert.RefQkvTQIdeal.τ Cert.RefQkvTQIdeal.sig) → Buf (Elt Ideal) ℓ) (g : Dev Cert.RefQkvTQIdeal.nD → PrngReg), Pre_RefQkvTQIdeal m →
    θ_run (Cert.RefQkvTQIdeal.defs (F := Ideal)) (onTc (τ := Cert.RefQkvTQIdeal.τ) (Cert.RefQkvTQIdeal.main (F := Ideal))) ⟨m, fun _ => 0, g⟩ (fun r => (∀ c : Dev Cert.RefQkvTQIdeal.nD,
      r.2.mem ((c.tc : Thread Cert.RefQkvTQIdeal.nD Cert.RefQkvTQIdeal.τ).loc Cert.RefQkvTQIdeal.main_arg0) = m ((c.tc : Thread Cert.RefQkvTQIdeal.nD Cert.RefQkvTQIdeal.τ).loc Cert.RefQkvTQIdeal.main_arg0)
      ∧ r.2.mem ((c.tc : Thread Cert.RefQkvTQIdeal.nD Cert.RefQkvTQIdeal.τ).loc Cert.RefQkvTQIdeal.main_arg1) = m ((c.tc : Thread Cert.RefQkvTQIdeal.nD Cert.RefQkvTQIdeal.τ).loc Cert.RefQkvTQIdeal.main_arg1)
      ∧ r.2.mem ((c.tc : Thread Cert.RefQkvTQIdeal.nD Cert.RefQkvTQIdeal.τ).loc Cert.RefQkvTQIdeal.main_arg2) = m ((c.tc : Thread Cert.RefQkvTQIdeal.nD Cert.RefQkvTQIdeal.τ).loc Cert.RefQkvTQIdeal.main_arg2)
      ∧ r.2.mem ((c.tc : Thread Cert.RefQkvTQIdeal.nD Cert.RefQkvTQIdeal.τ).loc Cert.RefQkvTQIdeal.main_arg3) = m ((c.tc : Thread Cert.RefQkvTQIdeal.nD Cert.RefQkvTQIdeal.τ).loc Cert.RefQkvTQIdeal.main_arg3))
      ∧ r.2.sem = fun _ => 0)

def quiescent_QkvTKv [hQkvTKv : Cert.QkvTKv.Facts] : Prop :=
  ∀ (m : (ℓ : Loc Cert.QkvTKv.nD Cert.QkvTKv.τ Cert.QkvTKv.sig) → Buf (Elt Bits) ℓ) (g : Dev Cert.QkvTKv.nD → PrngReg), Pre_QkvTKv m →
    θ_run (Cert.QkvTKv.defs (F := Bits)) (onTc (τ := Cert.QkvTKv.τ) (Cert.QkvTKv.main (F := Bits))) ⟨m, fun _ => 0, g⟩ (fun r => (∀ c : Dev Cert.QkvTKv.nD,
      r.2.mem ((c.tc : Thread Cert.QkvTKv.nD Cert.QkvTKv.τ).loc Cert.QkvTKv.main_arg0) = m ((c.tc : Thread Cert.QkvTKv.nD Cert.QkvTKv.τ).loc Cert.QkvTKv.main_arg0)
      ∧ r.2.mem ((c.tc : Thread Cert.QkvTKv.nD Cert.QkvTKv.τ).loc Cert.QkvTKv.main_arg1) = m ((c.tc : Thread Cert.QkvTKv.nD Cert.QkvTKv.τ).loc Cert.QkvTKv.main_arg1)
      ∧ r.2.mem ((c.tc : Thread Cert.QkvTKv.nD Cert.QkvTKv.τ).loc Cert.QkvTKv.main_arg2) = m ((c.tc : Thread Cert.QkvTKv.nD Cert.QkvTKv.τ).loc Cert.QkvTKv.main_arg2)
      ∧ r.2.mem ((c.tc : Thread Cert.QkvTKv.nD Cert.QkvTKv.τ).loc Cert.QkvTKv.main_arg3) = m ((c.tc : Thread Cert.QkvTKv.nD Cert.QkvTKv.τ).loc Cert.QkvTKv.main_arg3))
      ∧ r.2.sem = fun _ => 0)

def quiescent_QkvTKvIdeal [hQkvTKvIdeal : Cert.QkvTKvIdeal.Facts] : Prop :=
  ∀ (m : (ℓ : Loc Cert.QkvTKvIdeal.nD Cert.QkvTKvIdeal.τ Cert.QkvTKvIdeal.sig) → Buf (Elt Ideal) ℓ) (g : Dev Cert.QkvTKvIdeal.nD → PrngReg), Pre_QkvTKvIdeal m →
    θ_run (Cert.QkvTKvIdeal.defs (F := Ideal)) (onTc (τ := Cert.QkvTKvIdeal.τ) (Cert.QkvTKvIdeal.main (F := Ideal))) ⟨m, fun _ => 0, g⟩ (fun r => (∀ c : Dev Cert.QkvTKvIdeal.nD,
      r.2.mem ((c.tc : Thread Cert.QkvTKvIdeal.nD Cert.QkvTKvIdeal.τ).loc Cert.QkvTKvIdeal.main_arg0) = m ((c.tc : Thread Cert.QkvTKvIdeal.nD Cert.QkvTKvIdeal.τ).loc Cert.QkvTKvIdeal.main_arg0)
      ∧ r.2.mem ((c.tc : Thread Cert.QkvTKvIdeal.nD Cert.QkvTKvIdeal.τ).loc Cert.QkvTKvIdeal.main_arg1) = m ((c.tc : Thread Cert.QkvTKvIdeal.nD Cert.QkvTKvIdeal.τ).loc Cert.QkvTKvIdeal.main_arg1)
      ∧ r.2.mem ((c.tc : Thread Cert.QkvTKvIdeal.nD Cert.QkvTKvIdeal.τ).loc Cert.QkvTKvIdeal.main_arg2) = m ((c.tc : Thread Cert.QkvTKvIdeal.nD Cert.QkvTKvIdeal.τ).loc Cert.QkvTKvIdeal.main_arg2)
      ∧ r.2.mem ((c.tc : Thread Cert.QkvTKvIdeal.nD Cert.QkvTKvIdeal.τ).loc Cert.QkvTKvIdeal.main_arg3) = m ((c.tc : Thread Cert.QkvTKvIdeal.nD Cert.QkvTKvIdeal.τ).loc Cert.QkvTKvIdeal.main_arg3))
      ∧ r.2.sem = fun _ => 0)

def quiescent_RefQkvTKvIdeal [hRefQkvTKvIdeal : Cert.RefQkvTKvIdeal.Facts] : Prop :=
  ∀ (m : (ℓ : Loc Cert.RefQkvTKvIdeal.nD Cert.RefQkvTKvIdeal.τ Cert.RefQkvTKvIdeal.sig) → Buf (Elt Ideal) ℓ) (g : Dev Cert.RefQkvTKvIdeal.nD → PrngReg), Pre_RefQkvTKvIdeal m →
    θ_run (Cert.RefQkvTKvIdeal.defs (F := Ideal)) (onTc (τ := Cert.RefQkvTKvIdeal.τ) (Cert.RefQkvTKvIdeal.main (F := Ideal))) ⟨m, fun _ => 0, g⟩ (fun r => (∀ c : Dev Cert.RefQkvTKvIdeal.nD,
      r.2.mem ((c.tc : Thread Cert.RefQkvTKvIdeal.nD Cert.RefQkvTKvIdeal.τ).loc Cert.RefQkvTKvIdeal.main_arg0) = m ((c.tc : Thread Cert.RefQkvTKvIdeal.nD Cert.RefQkvTKvIdeal.τ).loc Cert.RefQkvTKvIdeal.main_arg0)
      ∧ r.2.mem ((c.tc : Thread Cert.RefQkvTKvIdeal.nD Cert.RefQkvTKvIdeal.τ).loc Cert.RefQkvTKvIdeal.main_arg1) = m ((c.tc : Thread Cert.RefQkvTKvIdeal.nD Cert.RefQkvTKvIdeal.τ).loc Cert.RefQkvTKvIdeal.main_arg1)
      ∧ r.2.mem ((c.tc : Thread Cert.RefQkvTKvIdeal.nD Cert.RefQkvTKvIdeal.τ).loc Cert.RefQkvTKvIdeal.main_arg2) = m ((c.tc : Thread Cert.RefQkvTKvIdeal.nD Cert.RefQkvTKvIdeal.τ).loc Cert.RefQkvTKvIdeal.main_arg2)
      ∧ r.2.mem ((c.tc : Thread Cert.RefQkvTKvIdeal.nD Cert.RefQkvTKvIdeal.τ).loc Cert.RefQkvTKvIdeal.main_arg3) = m ((c.tc : Thread Cert.RefQkvTKvIdeal.nD Cert.RefQkvTKvIdeal.τ).loc Cert.RefQkvTKvIdeal.main_arg3))
      ∧ r.2.sem = fun _ => 0)

def quiescent_Ln1 [hLn1 : Cert.Ln1.Facts] : Prop :=
  ∀ (m : (ℓ : Loc Cert.Ln1.nD Cert.Ln1.τ Cert.Ln1.sig) → Buf (Elt Bits) ℓ) (g : Dev Cert.Ln1.nD → PrngReg), Pre_Ln1 m →
    θ_run (Cert.Ln1.defs (F := Bits)) (onTc (τ := Cert.Ln1.τ) (Cert.Ln1.main (F := Bits))) ⟨m, fun _ => 0, g⟩ (fun r => (∀ c : Dev Cert.Ln1.nD,
      r.2.mem ((c.tc : Thread Cert.Ln1.nD Cert.Ln1.τ).loc Cert.Ln1.main_arg0) = m ((c.tc : Thread Cert.Ln1.nD Cert.Ln1.τ).loc Cert.Ln1.main_arg0)
      ∧ r.2.mem ((c.tc : Thread Cert.Ln1.nD Cert.Ln1.τ).loc Cert.Ln1.main_arg1) = m ((c.tc : Thread Cert.Ln1.nD Cert.Ln1.τ).loc Cert.Ln1.main_arg1)
      ∧ r.2.mem ((c.tc : Thread Cert.Ln1.nD Cert.Ln1.τ).loc Cert.Ln1.main_arg2) = m ((c.tc : Thread Cert.Ln1.nD Cert.Ln1.τ).loc Cert.Ln1.main_arg2))
      ∧ r.2.sem = fun _ => 0)

def quiescent_Ln1Ideal [hLn1Ideal : Cert.Ln1Ideal.Facts] : Prop :=
  ∀ (m : (ℓ : Loc Cert.Ln1Ideal.nD Cert.Ln1Ideal.τ Cert.Ln1Ideal.sig) → Buf (Elt Ideal) ℓ) (g : Dev Cert.Ln1Ideal.nD → PrngReg), Pre_Ln1Ideal m →
    θ_run (Cert.Ln1Ideal.defs (F := Ideal)) (onTc (τ := Cert.Ln1Ideal.τ) (Cert.Ln1Ideal.main (F := Ideal))) ⟨m, fun _ => 0, g⟩ (fun r => (∀ c : Dev Cert.Ln1Ideal.nD,
      r.2.mem ((c.tc : Thread Cert.Ln1Ideal.nD Cert.Ln1Ideal.τ).loc Cert.Ln1Ideal.main_arg0) = m ((c.tc : Thread Cert.Ln1Ideal.nD Cert.Ln1Ideal.τ).loc Cert.Ln1Ideal.main_arg0)
      ∧ r.2.mem ((c.tc : Thread Cert.Ln1Ideal.nD Cert.Ln1Ideal.τ).loc Cert.Ln1Ideal.main_arg1) = m ((c.tc : Thread Cert.Ln1Ideal.nD Cert.Ln1Ideal.τ).loc Cert.Ln1Ideal.main_arg1)
      ∧ r.2.mem ((c.tc : Thread Cert.Ln1Ideal.nD Cert.Ln1Ideal.τ).loc Cert.Ln1Ideal.main_arg2) = m ((c.tc : Thread Cert.Ln1Ideal.nD Cert.Ln1Ideal.τ).loc Cert.Ln1Ideal.main_arg2))
      ∧ r.2.sem = fun _ => 0)

def quiescent_RefLn1Ideal [hRefLn1Ideal : Cert.RefLn1Ideal.Facts] : Prop :=
  ∀ (m : (ℓ : Loc Cert.RefLn1Ideal.nD Cert.RefLn1Ideal.τ Cert.RefLn1Ideal.sig) → Buf (Elt Ideal) ℓ) (g : Dev Cert.RefLn1Ideal.nD → PrngReg), Pre_RefLn1Ideal m →
    θ_run (Cert.RefLn1Ideal.defs (F := Ideal)) (onTc (τ := Cert.RefLn1Ideal.τ) (Cert.RefLn1Ideal.main (F := Ideal))) ⟨m, fun _ => 0, g⟩ (fun r => (∀ c : Dev Cert.RefLn1Ideal.nD,
      r.2.mem ((c.tc : Thread Cert.RefLn1Ideal.nD Cert.RefLn1Ideal.τ).loc Cert.RefLn1Ideal.main_arg0) = m ((c.tc : Thread Cert.RefLn1Ideal.nD Cert.RefLn1Ideal.τ).loc Cert.RefLn1Ideal.main_arg0)
      ∧ r.2.mem ((c.tc : Thread Cert.RefLn1Ideal.nD Cert.RefLn1Ideal.τ).loc Cert.RefLn1Ideal.main_arg1) = m ((c.tc : Thread Cert.RefLn1Ideal.nD Cert.RefLn1Ideal.τ).loc Cert.RefLn1Ideal.main_arg1)
      ∧ r.2.mem ((c.tc : Thread Cert.RefLn1Ideal.nD Cert.RefLn1Ideal.τ).loc Cert.RefLn1Ideal.main_arg2) = m ((c.tc : Thread Cert.RefLn1Ideal.nD Cert.RefLn1Ideal.τ).loc Cert.RefLn1Ideal.main_arg2))
      ∧ r.2.sem = fun _ => 0)

def quiescent_OprojT [hOprojT : Cert.OprojT.Facts] : Prop :=
  ∀ (m : (ℓ : Loc Cert.OprojT.nD Cert.OprojT.τ Cert.OprojT.sig) → Buf (Elt Bits) ℓ) (g : Dev Cert.OprojT.nD → PrngReg), Pre_OprojT m →
    θ_run (Cert.OprojT.defs (F := Bits)) (onTc (τ := Cert.OprojT.τ) (Cert.OprojT.main (F := Bits))) ⟨m, fun _ => 0, g⟩ (fun r => (∀ c : Dev Cert.OprojT.nD,
      r.2.mem ((c.tc : Thread Cert.OprojT.nD Cert.OprojT.τ).loc Cert.OprojT.main_arg0) = m ((c.tc : Thread Cert.OprojT.nD Cert.OprojT.τ).loc Cert.OprojT.main_arg0)
      ∧ r.2.mem ((c.tc : Thread Cert.OprojT.nD Cert.OprojT.τ).loc Cert.OprojT.main_arg1) = m ((c.tc : Thread Cert.OprojT.nD Cert.OprojT.τ).loc Cert.OprojT.main_arg1)
      ∧ r.2.mem ((c.tc : Thread Cert.OprojT.nD Cert.OprojT.τ).loc Cert.OprojT.main_arg2) = m ((c.tc : Thread Cert.OprojT.nD Cert.OprojT.τ).loc Cert.OprojT.main_arg2)
      ∧ r.2.mem ((c.tc : Thread Cert.OprojT.nD Cert.OprojT.τ).loc Cert.OprojT.main_arg3) = m ((c.tc : Thread Cert.OprojT.nD Cert.OprojT.τ).loc Cert.OprojT.main_arg3)
      ∧ r.2.mem ((c.tc : Thread Cert.OprojT.nD Cert.OprojT.τ).loc Cert.OprojT.main_arg4) = m ((c.tc : Thread Cert.OprojT.nD Cert.OprojT.τ).loc Cert.OprojT.main_arg4)
      ∧ r.2.mem ((c.tc : Thread Cert.OprojT.nD Cert.OprojT.τ).loc Cert.OprojT.main_arg5) = m ((c.tc : Thread Cert.OprojT.nD Cert.OprojT.τ).loc Cert.OprojT.main_arg5)
      ∧ r.2.mem ((c.tc : Thread Cert.OprojT.nD Cert.OprojT.τ).loc Cert.OprojT.main_arg6) = m ((c.tc : Thread Cert.OprojT.nD Cert.OprojT.τ).loc Cert.OprojT.main_arg6))
      ∧ r.2.sem = fun _ => 0)

def quiescent_OprojTIdeal [hOprojTIdeal : Cert.OprojTIdeal.Facts] : Prop :=
  ∀ (m : (ℓ : Loc Cert.OprojTIdeal.nD Cert.OprojTIdeal.τ Cert.OprojTIdeal.sig) → Buf (Elt Ideal) ℓ) (g : Dev Cert.OprojTIdeal.nD → PrngReg), Pre_OprojTIdeal m →
    θ_run (Cert.OprojTIdeal.defs (F := Ideal)) (onTc (τ := Cert.OprojTIdeal.τ) (Cert.OprojTIdeal.main (F := Ideal))) ⟨m, fun _ => 0, g⟩ (fun r => (∀ c : Dev Cert.OprojTIdeal.nD,
      r.2.mem ((c.tc : Thread Cert.OprojTIdeal.nD Cert.OprojTIdeal.τ).loc Cert.OprojTIdeal.main_arg0) = m ((c.tc : Thread Cert.OprojTIdeal.nD Cert.OprojTIdeal.τ).loc Cert.OprojTIdeal.main_arg0)
      ∧ r.2.mem ((c.tc : Thread Cert.OprojTIdeal.nD Cert.OprojTIdeal.τ).loc Cert.OprojTIdeal.main_arg1) = m ((c.tc : Thread Cert.OprojTIdeal.nD Cert.OprojTIdeal.τ).loc Cert.OprojTIdeal.main_arg1)
      ∧ r.2.mem ((c.tc : Thread Cert.OprojTIdeal.nD Cert.OprojTIdeal.τ).loc Cert.OprojTIdeal.main_arg2) = m ((c.tc : Thread Cert.OprojTIdeal.nD Cert.OprojTIdeal.τ).loc Cert.OprojTIdeal.main_arg2)
      ∧ r.2.mem ((c.tc : Thread Cert.OprojTIdeal.nD Cert.OprojTIdeal.τ).loc Cert.OprojTIdeal.main_arg3) = m ((c.tc : Thread Cert.OprojTIdeal.nD Cert.OprojTIdeal.τ).loc Cert.OprojTIdeal.main_arg3)
      ∧ r.2.mem ((c.tc : Thread Cert.OprojTIdeal.nD Cert.OprojTIdeal.τ).loc Cert.OprojTIdeal.main_arg4) = m ((c.tc : Thread Cert.OprojTIdeal.nD Cert.OprojTIdeal.τ).loc Cert.OprojTIdeal.main_arg4)
      ∧ r.2.mem ((c.tc : Thread Cert.OprojTIdeal.nD Cert.OprojTIdeal.τ).loc Cert.OprojTIdeal.main_arg5) = m ((c.tc : Thread Cert.OprojTIdeal.nD Cert.OprojTIdeal.τ).loc Cert.OprojTIdeal.main_arg5)
      ∧ r.2.mem ((c.tc : Thread Cert.OprojTIdeal.nD Cert.OprojTIdeal.τ).loc Cert.OprojTIdeal.main_arg6) = m ((c.tc : Thread Cert.OprojTIdeal.nD Cert.OprojTIdeal.τ).loc Cert.OprojTIdeal.main_arg6))
      ∧ r.2.sem = fun _ => 0)

def quiescent_RefOprojTIdeal [hRefOprojTIdeal : Cert.RefOprojTIdeal.Facts] : Prop :=
  ∀ (m : (ℓ : Loc Cert.RefOprojTIdeal.nD Cert.RefOprojTIdeal.τ Cert.RefOprojTIdeal.sig) → Buf (Elt Ideal) ℓ) (g : Dev Cert.RefOprojTIdeal.nD → PrngReg), Pre_RefOprojTIdeal m →
    θ_run (Cert.RefOprojTIdeal.defs (F := Ideal)) (onTc (τ := Cert.RefOprojTIdeal.τ) (Cert.RefOprojTIdeal.main (F := Ideal))) ⟨m, fun _ => 0, g⟩ (fun r => (∀ c : Dev Cert.RefOprojTIdeal.nD,
      r.2.mem ((c.tc : Thread Cert.RefOprojTIdeal.nD Cert.RefOprojTIdeal.τ).loc Cert.RefOprojTIdeal.main_arg0) = m ((c.tc : Thread Cert.RefOprojTIdeal.nD Cert.RefOprojTIdeal.τ).loc Cert.RefOprojTIdeal.main_arg0)
      ∧ r.2.mem ((c.tc : Thread Cert.RefOprojTIdeal.nD Cert.RefOprojTIdeal.τ).loc Cert.RefOprojTIdeal.main_arg1) = m ((c.tc : Thread Cert.RefOprojTIdeal.nD Cert.RefOprojTIdeal.τ).loc Cert.RefOprojTIdeal.main_arg1)
      ∧ r.2.mem ((c.tc : Thread Cert.RefOprojTIdeal.nD Cert.RefOprojTIdeal.τ).loc Cert.RefOprojTIdeal.main_arg2) = m ((c.tc : Thread Cert.RefOprojTIdeal.nD Cert.RefOprojTIdeal.τ).loc Cert.RefOprojTIdeal.main_arg2)
      ∧ r.2.mem ((c.tc : Thread Cert.RefOprojTIdeal.nD Cert.RefOprojTIdeal.τ).loc Cert.RefOprojTIdeal.main_arg3) = m ((c.tc : Thread Cert.RefOprojTIdeal.nD Cert.RefOprojTIdeal.τ).loc Cert.RefOprojTIdeal.main_arg3)
      ∧ r.2.mem ((c.tc : Thread Cert.RefOprojTIdeal.nD Cert.RefOprojTIdeal.τ).loc Cert.RefOprojTIdeal.main_arg4) = m ((c.tc : Thread Cert.RefOprojTIdeal.nD Cert.RefOprojTIdeal.τ).loc Cert.RefOprojTIdeal.main_arg4)
      ∧ r.2.mem ((c.tc : Thread Cert.RefOprojTIdeal.nD Cert.RefOprojTIdeal.τ).loc Cert.RefOprojTIdeal.main_arg5) = m ((c.tc : Thread Cert.RefOprojTIdeal.nD Cert.RefOprojTIdeal.τ).loc Cert.RefOprojTIdeal.main_arg5)
      ∧ r.2.mem ((c.tc : Thread Cert.RefOprojTIdeal.nD Cert.RefOprojTIdeal.τ).loc Cert.RefOprojTIdeal.main_arg6) = m ((c.tc : Thread Cert.RefOprojTIdeal.nD Cert.RefOprojTIdeal.τ).loc Cert.RefOprojTIdeal.main_arg6))
      ∧ r.2.sem = fun _ => 0)

def quiescent_Fc1 [hFc1 : Cert.Fc1.Facts] : Prop :=
  ∀ (m : (ℓ : Loc Cert.Fc1.nD Cert.Fc1.τ Cert.Fc1.sig) → Buf (Elt Bits) ℓ) (g : Dev Cert.Fc1.nD → PrngReg), Pre_Fc1 m →
    θ_run (Cert.Fc1.defs (F := Bits)) (onTc (τ := Cert.Fc1.τ) (Cert.Fc1.main (F := Bits))) ⟨m, fun _ => 0, g⟩ (fun r => (∀ c : Dev Cert.Fc1.nD,
      r.2.mem ((c.tc : Thread Cert.Fc1.nD Cert.Fc1.τ).loc Cert.Fc1.main_arg0) = m ((c.tc : Thread Cert.Fc1.nD Cert.Fc1.τ).loc Cert.Fc1.main_arg0)
      ∧ r.2.mem ((c.tc : Thread Cert.Fc1.nD Cert.Fc1.τ).loc Cert.Fc1.main_arg1) = m ((c.tc : Thread Cert.Fc1.nD Cert.Fc1.τ).loc Cert.Fc1.main_arg1)
      ∧ r.2.mem ((c.tc : Thread Cert.Fc1.nD Cert.Fc1.τ).loc Cert.Fc1.main_arg2) = m ((c.tc : Thread Cert.Fc1.nD Cert.Fc1.τ).loc Cert.Fc1.main_arg2)
      ∧ r.2.mem ((c.tc : Thread Cert.Fc1.nD Cert.Fc1.τ).loc Cert.Fc1.main_arg3) = m ((c.tc : Thread Cert.Fc1.nD Cert.Fc1.τ).loc Cert.Fc1.main_arg3)
      ∧ r.2.mem ((c.tc : Thread Cert.Fc1.nD Cert.Fc1.τ).loc Cert.Fc1.main_arg4) = m ((c.tc : Thread Cert.Fc1.nD Cert.Fc1.τ).loc Cert.Fc1.main_arg4))
      ∧ r.2.sem = fun _ => 0)

def quiescent_Fc1Ideal [hFc1Ideal : Cert.Fc1Ideal.Facts] : Prop :=
  ∀ (m : (ℓ : Loc Cert.Fc1Ideal.nD Cert.Fc1Ideal.τ Cert.Fc1Ideal.sig) → Buf (Elt Ideal) ℓ) (g : Dev Cert.Fc1Ideal.nD → PrngReg), Pre_Fc1Ideal m →
    θ_run (Cert.Fc1Ideal.defs (F := Ideal)) (onTc (τ := Cert.Fc1Ideal.τ) (Cert.Fc1Ideal.main (F := Ideal))) ⟨m, fun _ => 0, g⟩ (fun r => (∀ c : Dev Cert.Fc1Ideal.nD,
      r.2.mem ((c.tc : Thread Cert.Fc1Ideal.nD Cert.Fc1Ideal.τ).loc Cert.Fc1Ideal.main_arg0) = m ((c.tc : Thread Cert.Fc1Ideal.nD Cert.Fc1Ideal.τ).loc Cert.Fc1Ideal.main_arg0)
      ∧ r.2.mem ((c.tc : Thread Cert.Fc1Ideal.nD Cert.Fc1Ideal.τ).loc Cert.Fc1Ideal.main_arg1) = m ((c.tc : Thread Cert.Fc1Ideal.nD Cert.Fc1Ideal.τ).loc Cert.Fc1Ideal.main_arg1)
      ∧ r.2.mem ((c.tc : Thread Cert.Fc1Ideal.nD Cert.Fc1Ideal.τ).loc Cert.Fc1Ideal.main_arg2) = m ((c.tc : Thread Cert.Fc1Ideal.nD Cert.Fc1Ideal.τ).loc Cert.Fc1Ideal.main_arg2)
      ∧ r.2.mem ((c.tc : Thread Cert.Fc1Ideal.nD Cert.Fc1Ideal.τ).loc Cert.Fc1Ideal.main_arg3) = m ((c.tc : Thread Cert.Fc1Ideal.nD Cert.Fc1Ideal.τ).loc Cert.Fc1Ideal.main_arg3)
      ∧ r.2.mem ((c.tc : Thread Cert.Fc1Ideal.nD Cert.Fc1Ideal.τ).loc Cert.Fc1Ideal.main_arg4) = m ((c.tc : Thread Cert.Fc1Ideal.nD Cert.Fc1Ideal.τ).loc Cert.Fc1Ideal.main_arg4))
      ∧ r.2.sem = fun _ => 0)

def quiescent_RefFc1Ideal [hRefFc1Ideal : Cert.RefFc1Ideal.Facts] : Prop :=
  ∀ (m : (ℓ : Loc Cert.RefFc1Ideal.nD Cert.RefFc1Ideal.τ Cert.RefFc1Ideal.sig) → Buf (Elt Ideal) ℓ) (g : Dev Cert.RefFc1Ideal.nD → PrngReg), Pre_RefFc1Ideal m →
    θ_run (Cert.RefFc1Ideal.defs (F := Ideal)) (onTc (τ := Cert.RefFc1Ideal.τ) (Cert.RefFc1Ideal.main (F := Ideal))) ⟨m, fun _ => 0, g⟩ (fun r => (∀ c : Dev Cert.RefFc1Ideal.nD,
      r.2.mem ((c.tc : Thread Cert.RefFc1Ideal.nD Cert.RefFc1Ideal.τ).loc Cert.RefFc1Ideal.main_arg0) = m ((c.tc : Thread Cert.RefFc1Ideal.nD Cert.RefFc1Ideal.τ).loc Cert.RefFc1Ideal.main_arg0)
      ∧ r.2.mem ((c.tc : Thread Cert.RefFc1Ideal.nD Cert.RefFc1Ideal.τ).loc Cert.RefFc1Ideal.main_arg1) = m ((c.tc : Thread Cert.RefFc1Ideal.nD Cert.RefFc1Ideal.τ).loc Cert.RefFc1Ideal.main_arg1)
      ∧ r.2.mem ((c.tc : Thread Cert.RefFc1Ideal.nD Cert.RefFc1Ideal.τ).loc Cert.RefFc1Ideal.main_arg2) = m ((c.tc : Thread Cert.RefFc1Ideal.nD Cert.RefFc1Ideal.τ).loc Cert.RefFc1Ideal.main_arg2)
      ∧ r.2.mem ((c.tc : Thread Cert.RefFc1Ideal.nD Cert.RefFc1Ideal.τ).loc Cert.RefFc1Ideal.main_arg3) = m ((c.tc : Thread Cert.RefFc1Ideal.nD Cert.RefFc1Ideal.τ).loc Cert.RefFc1Ideal.main_arg3)
      ∧ r.2.mem ((c.tc : Thread Cert.RefFc1Ideal.nD Cert.RefFc1Ideal.τ).loc Cert.RefFc1Ideal.main_arg4) = m ((c.tc : Thread Cert.RefFc1Ideal.nD Cert.RefFc1Ideal.τ).loc Cert.RefFc1Ideal.main_arg4))
      ∧ r.2.sem = fun _ => 0)

def quiescent_OprojS [hOprojS : Cert.OprojS.Facts] [hPre_ids_ok : Cert.Pre_ids_ok.Facts] : Prop :=
  ∀ (m : (ℓ : Loc Cert.OprojS.nD Cert.OprojS.τ Cert.OprojS.sig) → Buf (Elt Bits) ℓ) (g : Dev Cert.OprojS.nD → PrngReg), Pre_OprojS m →
    θ_run (Cert.OprojS.defs (F := Bits)) (onTc (τ := Cert.OprojS.τ) (Cert.OprojS.main (F := Bits))) ⟨m, fun _ => 0, g⟩ (fun r => (∀ c : Dev Cert.OprojS.nD,
      r.2.mem ((c.tc : Thread Cert.OprojS.nD Cert.OprojS.τ).loc Cert.OprojS.main_arg0) = m ((c.tc : Thread Cert.OprojS.nD Cert.OprojS.τ).loc Cert.OprojS.main_arg0)
      ∧ r.2.mem ((c.tc : Thread Cert.OprojS.nD Cert.OprojS.τ).loc Cert.OprojS.main_arg1) = m ((c.tc : Thread Cert.OprojS.nD Cert.OprojS.τ).loc Cert.OprojS.main_arg1)
      ∧ r.2.mem ((c.tc : Thread Cert.OprojS.nD Cert.OprojS.τ).loc Cert.OprojS.main_arg2) = m ((c.tc : Thread Cert.OprojS.nD Cert.OprojS.τ).loc Cert.OprojS.main_arg2)
      ∧ r.2.mem ((c.tc : Thread Cert.OprojS.nD Cert.OprojS.τ).loc Cert.OprojS.main_arg3) = m ((c.tc : Thread Cert.OprojS.nD Cert.OprojS.τ).loc Cert.OprojS.main_arg3)
      ∧ r.2.mem ((c.tc : Thread Cert.OprojS.nD Cert.OprojS.τ).loc Cert.OprojS.main_arg4) = m ((c.tc : Thread Cert.OprojS.nD Cert.OprojS.τ).loc Cert.OprojS.main_arg4)
      ∧ r.2.mem ((c.tc : Thread Cert.OprojS.nD Cert.OprojS.τ).loc Cert.OprojS.main_arg5) = m ((c.tc : Thread Cert.OprojS.nD Cert.OprojS.τ).loc Cert.OprojS.main_arg5)
      ∧ r.2.mem ((c.tc : Thread Cert.OprojS.nD Cert.OprojS.τ).loc Cert.OprojS.main_arg6) = m ((c.tc : Thread Cert.OprojS.nD Cert.OprojS.τ).loc Cert.OprojS.main_arg6)
      ∧ r.2.mem ((c.tc : Thread Cert.OprojS.nD Cert.OprojS.τ).loc Cert.OprojS.main_arg7) = m ((c.tc : Thread Cert.OprojS.nD Cert.OprojS.τ).loc Cert.OprojS.main_arg7)
      ∧ r.2.mem ((c.tc : Thread Cert.OprojS.nD Cert.OprojS.τ).loc Cert.OprojS.main_arg8) = m ((c.tc : Thread Cert.OprojS.nD Cert.OprojS.τ).loc Cert.OprojS.main_arg8))
      ∧ r.2.sem = fun _ => 0)

def quiescent_OprojSIdeal [hOprojSIdeal : Cert.OprojSIdeal.Facts] [hPre_ids_ok : Cert.Pre_ids_ok.Facts] : Prop :=
  ∀ (m : (ℓ : Loc Cert.OprojSIdeal.nD Cert.OprojSIdeal.τ Cert.OprojSIdeal.sig) → Buf (Elt Ideal) ℓ) (g : Dev Cert.OprojSIdeal.nD → PrngReg), Pre_OprojSIdeal m →
    θ_run (Cert.OprojSIdeal.defs (F := Ideal)) (onTc (τ := Cert.OprojSIdeal.τ) (Cert.OprojSIdeal.main (F := Ideal))) ⟨m, fun _ => 0, g⟩ (fun r => (∀ c : Dev Cert.OprojSIdeal.nD,
      r.2.mem ((c.tc : Thread Cert.OprojSIdeal.nD Cert.OprojSIdeal.τ).loc Cert.OprojSIdeal.main_arg0) = m ((c.tc : Thread Cert.OprojSIdeal.nD Cert.OprojSIdeal.τ).loc Cert.OprojSIdeal.main_arg0)
      ∧ r.2.mem ((c.tc : Thread Cert.OprojSIdeal.nD Cert.OprojSIdeal.τ).loc Cert.OprojSIdeal.main_arg1) = m ((c.tc : Thread Cert.OprojSIdeal.nD Cert.OprojSIdeal.τ).loc Cert.OprojSIdeal.main_arg1)
      ∧ r.2.mem ((c.tc : Thread Cert.OprojSIdeal.nD Cert.OprojSIdeal.τ).loc Cert.OprojSIdeal.main_arg2) = m ((c.tc : Thread Cert.OprojSIdeal.nD Cert.OprojSIdeal.τ).loc Cert.OprojSIdeal.main_arg2)
      ∧ r.2.mem ((c.tc : Thread Cert.OprojSIdeal.nD Cert.OprojSIdeal.τ).loc Cert.OprojSIdeal.main_arg3) = m ((c.tc : Thread Cert.OprojSIdeal.nD Cert.OprojSIdeal.τ).loc Cert.OprojSIdeal.main_arg3)
      ∧ r.2.mem ((c.tc : Thread Cert.OprojSIdeal.nD Cert.OprojSIdeal.τ).loc Cert.OprojSIdeal.main_arg4) = m ((c.tc : Thread Cert.OprojSIdeal.nD Cert.OprojSIdeal.τ).loc Cert.OprojSIdeal.main_arg4)
      ∧ r.2.mem ((c.tc : Thread Cert.OprojSIdeal.nD Cert.OprojSIdeal.τ).loc Cert.OprojSIdeal.main_arg5) = m ((c.tc : Thread Cert.OprojSIdeal.nD Cert.OprojSIdeal.τ).loc Cert.OprojSIdeal.main_arg5)
      ∧ r.2.mem ((c.tc : Thread Cert.OprojSIdeal.nD Cert.OprojSIdeal.τ).loc Cert.OprojSIdeal.main_arg6) = m ((c.tc : Thread Cert.OprojSIdeal.nD Cert.OprojSIdeal.τ).loc Cert.OprojSIdeal.main_arg6)
      ∧ r.2.mem ((c.tc : Thread Cert.OprojSIdeal.nD Cert.OprojSIdeal.τ).loc Cert.OprojSIdeal.main_arg7) = m ((c.tc : Thread Cert.OprojSIdeal.nD Cert.OprojSIdeal.τ).loc Cert.OprojSIdeal.main_arg7)
      ∧ r.2.mem ((c.tc : Thread Cert.OprojSIdeal.nD Cert.OprojSIdeal.τ).loc Cert.OprojSIdeal.main_arg8) = m ((c.tc : Thread Cert.OprojSIdeal.nD Cert.OprojSIdeal.τ).loc Cert.OprojSIdeal.main_arg8))
      ∧ r.2.sem = fun _ => 0)

def quiescent_RefOprojSIdeal [hRefOprojSIdeal : Cert.RefOprojSIdeal.Facts] [hPre_ids_ok : Cert.Pre_ids_ok.Facts] : Prop :=
  ∀ (m : (ℓ : Loc Cert.RefOprojSIdeal.nD Cert.RefOprojSIdeal.τ Cert.RefOprojSIdeal.sig) → Buf (Elt Ideal) ℓ) (g : Dev Cert.RefOprojSIdeal.nD → PrngReg), Pre_RefOprojSIdeal m →
    θ_run (Cert.RefOprojSIdeal.defs (F := Ideal)) (onTc (τ := Cert.RefOprojSIdeal.τ) (Cert.RefOprojSIdeal.main (F := Ideal))) ⟨m, fun _ => 0, g⟩ (fun r => (∀ c : Dev Cert.RefOprojSIdeal.nD,
      r.2.mem ((c.tc : Thread Cert.RefOprojSIdeal.nD Cert.RefOprojSIdeal.τ).loc Cert.RefOprojSIdeal.main_arg0) = m ((c.tc : Thread Cert.RefOprojSIdeal.nD Cert.RefOprojSIdeal.τ).loc Cert.RefOprojSIdeal.main_arg0)
      ∧ r.2.mem ((c.tc : Thread Cert.RefOprojSIdeal.nD Cert.RefOprojSIdeal.τ).loc Cert.RefOprojSIdeal.main_arg1) = m ((c.tc : Thread Cert.RefOprojSIdeal.nD Cert.RefOprojSIdeal.τ).loc Cert.RefOprojSIdeal.main_arg1)
      ∧ r.2.mem ((c.tc : Thread Cert.RefOprojSIdeal.nD Cert.RefOprojSIdeal.τ).loc Cert.RefOprojSIdeal.main_arg2) = m ((c.tc : Thread Cert.RefOprojSIdeal.nD Cert.RefOprojSIdeal.τ).loc Cert.RefOprojSIdeal.main_arg2)
      ∧ r.2.mem ((c.tc : Thread Cert.RefOprojSIdeal.nD Cert.RefOprojSIdeal.τ).loc Cert.RefOprojSIdeal.main_arg3) = m ((c.tc : Thread Cert.RefOprojSIdeal.nD Cert.RefOprojSIdeal.τ).loc Cert.RefOprojSIdeal.main_arg3)
      ∧ r.2.mem ((c.tc : Thread Cert.RefOprojSIdeal.nD Cert.RefOprojSIdeal.τ).loc Cert.RefOprojSIdeal.main_arg4) = m ((c.tc : Thread Cert.RefOprojSIdeal.nD Cert.RefOprojSIdeal.τ).loc Cert.RefOprojSIdeal.main_arg4)
      ∧ r.2.mem ((c.tc : Thread Cert.RefOprojSIdeal.nD Cert.RefOprojSIdeal.τ).loc Cert.RefOprojSIdeal.main_arg5) = m ((c.tc : Thread Cert.RefOprojSIdeal.nD Cert.RefOprojSIdeal.τ).loc Cert.RefOprojSIdeal.main_arg5)
      ∧ r.2.mem ((c.tc : Thread Cert.RefOprojSIdeal.nD Cert.RefOprojSIdeal.τ).loc Cert.RefOprojSIdeal.main_arg6) = m ((c.tc : Thread Cert.RefOprojSIdeal.nD Cert.RefOprojSIdeal.τ).loc Cert.RefOprojSIdeal.main_arg6)
      ∧ r.2.mem ((c.tc : Thread Cert.RefOprojSIdeal.nD Cert.RefOprojSIdeal.τ).loc Cert.RefOprojSIdeal.main_arg7) = m ((c.tc : Thread Cert.RefOprojSIdeal.nD Cert.RefOprojSIdeal.τ).loc Cert.RefOprojSIdeal.main_arg7)
      ∧ r.2.mem ((c.tc : Thread Cert.RefOprojSIdeal.nD Cert.RefOprojSIdeal.τ).loc Cert.RefOprojSIdeal.main_arg8) = m ((c.tc : Thread Cert.RefOprojSIdeal.nD Cert.RefOprojSIdeal.τ).loc Cert.RefOprojSIdeal.main_arg8))
      ∧ r.2.sem = fun _ => 0)

def quiescent_Spatial [hSpatial : Cert.Spatial.Facts] : Prop :=
  ∀ (m : (ℓ : Loc Cert.Spatial.nD Cert.Spatial.τ Cert.Spatial.sig) → Buf (Elt Bits) ℓ) (g : Dev Cert.Spatial.nD → PrngReg), Pre_Spatial m →
    θ_run (Cert.Spatial.defs (F := Bits)) (onTc (τ := Cert.Spatial.τ) (Cert.Spatial.main (F := Bits))) ⟨m, fun _ => 0, g⟩ (fun r => (∀ c : Dev Cert.Spatial.nD,
      r.2.mem ((c.tc : Thread Cert.Spatial.nD Cert.Spatial.τ).loc Cert.Spatial.main_arg0) = m ((c.tc : Thread Cert.Spatial.nD Cert.Spatial.τ).loc Cert.Spatial.main_arg0))
      ∧ r.2.sem = fun _ => 0)

def quiescent_SpatialIdeal [hSpatialIdeal : Cert.SpatialIdeal.Facts] : Prop :=
  ∀ (m : (ℓ : Loc Cert.SpatialIdeal.nD Cert.SpatialIdeal.τ Cert.SpatialIdeal.sig) → Buf (Elt Ideal) ℓ) (g : Dev Cert.SpatialIdeal.nD → PrngReg), Pre_SpatialIdeal m →
    θ_run (Cert.SpatialIdeal.defs (F := Ideal)) (onTc (τ := Cert.SpatialIdeal.τ) (Cert.SpatialIdeal.main (F := Ideal))) ⟨m, fun _ => 0, g⟩ (fun r => (∀ c : Dev Cert.SpatialIdeal.nD,
      r.2.mem ((c.tc : Thread Cert.SpatialIdeal.nD Cert.SpatialIdeal.τ).loc Cert.SpatialIdeal.main_arg0) = m ((c.tc : Thread Cert.SpatialIdeal.nD Cert.SpatialIdeal.τ).loc Cert.SpatialIdeal.main_arg0))
      ∧ r.2.sem = fun _ => 0)

def quiescent_RefSpatialIdeal [hRefSpatialIdeal : Cert.RefSpatialIdeal.Facts] : Prop :=
  ∀ (m : (ℓ : Loc Cert.RefSpatialIdeal.nD Cert.RefSpatialIdeal.τ Cert.RefSpatialIdeal.sig) → Buf (Elt Ideal) ℓ) (g : Dev Cert.RefSpatialIdeal.nD → PrngReg), Pre_RefSpatialIdeal m →
    θ_run (Cert.RefSpatialIdeal.defs (F := Ideal)) (onTc (τ := Cert.RefSpatialIdeal.τ) (Cert.RefSpatialIdeal.main (F := Ideal))) ⟨m, fun _ => 0, g⟩ (fun r => (∀ c : Dev Cert.RefSpatialIdeal.nD,
      r.2.mem ((c.tc : Thread Cert.RefSpatialIdeal.nD Cert.RefSpatialIdeal.τ).loc Cert.RefSpatialIdeal.main_arg0) = m ((c.tc : Thread Cert.RefSpatialIdeal.nD Cert.RefSpatialIdeal.τ).loc Cert.RefSpatialIdeal.main_arg0))
      ∧ r.2.sem = fun _ => 0)

def preserves_Fc2_Fc2Ideal : Prop :=
  True

def algebraic_Fc2Ideal_RefFc2Ideal [hFc2Ideal : Cert.Fc2Ideal.Facts] [hRefFc2Ideal : Cert.RefFc2Ideal.Facts] : Prop :=
  ∀ (m : (ℓ : Loc Cert.Fc2Ideal.nD Cert.Fc2Ideal.τ Cert.Fc2Ideal.sig) → Buf (Elt Ideal) ℓ) (g : Dev Cert.Fc2Ideal.nD → PrngReg)
    (m' : (ℓ : Loc Cert.RefFc2Ideal.nD Cert.RefFc2Ideal.τ Cert.RefFc2Ideal.sig) → Buf (Elt Ideal) ℓ) (g' : Dev Cert.RefFc2Ideal.nD → PrngReg), Pre_Fc2Ideal m →
    (∀ c : Dev Cert.Fc2Ideal.nD,
      m' ((c.tc : Thread Cert.RefFc2Ideal.nD Cert.RefFc2Ideal.τ).loc Cert.RefFc2Ideal.main_arg0) = m ((c.tc : Thread Cert.Fc2Ideal.nD Cert.Fc2Ideal.τ).loc Cert.Fc2Ideal.main_arg0)
      ∧ m' ((c.tc : Thread Cert.RefFc2Ideal.nD Cert.RefFc2Ideal.τ).loc Cert.RefFc2Ideal.main_arg1) = m ((c.tc : Thread Cert.Fc2Ideal.nD Cert.Fc2Ideal.τ).loc Cert.Fc2Ideal.main_arg1)
      ∧ m' ((c.tc : Thread Cert.RefFc2Ideal.nD Cert.RefFc2Ideal.τ).loc Cert.RefFc2Ideal.main_arg2) = m ((c.tc : Thread Cert.Fc2Ideal.nD Cert.Fc2Ideal.τ).loc Cert.Fc2Ideal.main_arg2)
      ∧ m' ((c.tc : Thread Cert.RefFc2Ideal.nD Cert.RefFc2Ideal.τ).loc Cert.RefFc2Ideal.main_arg3) = m ((c.tc : Thread Cert.Fc2Ideal.nD Cert.Fc2Ideal.τ).loc Cert.Fc2Ideal.main_arg3)
      ∧ m' ((c.tc : Thread Cert.RefFc2Ideal.nD Cert.RefFc2Ideal.τ).loc Cert.RefFc2Ideal.main_arg4) = m ((c.tc : Thread Cert.Fc2Ideal.nD Cert.Fc2Ideal.τ).loc Cert.Fc2Ideal.main_arg4)
      ∧ m' ((c.tc : Thread Cert.RefFc2Ideal.nD Cert.RefFc2Ideal.τ).loc Cert.RefFc2Ideal.main_arg5) = m ((c.tc : Thread Cert.Fc2Ideal.nD Cert.Fc2Ideal.τ).loc Cert.Fc2Ideal.main_arg5)) →
    ∃ (v0 : (c : Dev Cert.Fc2Ideal.nD) → Buf (Elt Ideal) ((c.tc : Thread Cert.Fc2Ideal.nD Cert.Fc2Ideal.τ).loc Cert.Fc2Ideal.main_v0)),
      θ_run (Cert.Fc2Ideal.defs (F := Ideal)) (onTc (τ := Cert.Fc2Ideal.τ) (Cert.Fc2Ideal.main (F := Ideal))) ⟨m, fun _ => 0, g⟩ (fun r => ∀ c : Dev Cert.Fc2Ideal.nD,
          r.2.mem ((c.tc : Thread Cert.Fc2Ideal.nD Cert.Fc2Ideal.τ).loc Cert.Fc2Ideal.main_v0) = v0 c
          ∧ r.2.mem ((c.tc : Thread Cert.Fc2Ideal.nD Cert.Fc2Ideal.τ).loc Cert.Fc2Ideal.main_arg0) = m ((c.tc : Thread Cert.Fc2Ideal.nD Cert.Fc2Ideal.τ).loc Cert.Fc2Ideal.main_arg0)
          ∧ r.2.mem ((c.tc : Thread Cert.Fc2Ideal.nD Cert.Fc2Ideal.τ).loc Cert.Fc2Ideal.main_arg1) = m ((c.tc : Thread Cert.Fc2Ideal.nD Cert.Fc2Ideal.τ).loc Cert.Fc2Ideal.main_arg1)
          ∧ r.2.mem ((c.tc : Thread Cert.Fc2Ideal.nD Cert.Fc2Ideal.τ).loc Cert.Fc2Ideal.main_arg2) = m ((c.tc : Thread Cert.Fc2Ideal.nD Cert.Fc2Ideal.τ).loc Cert.Fc2Ideal.main_arg2)
          ∧ r.2.mem ((c.tc : Thread Cert.Fc2Ideal.nD Cert.Fc2Ideal.τ).loc Cert.Fc2Ideal.main_arg3) = m ((c.tc : Thread Cert.Fc2Ideal.nD Cert.Fc2Ideal.τ).loc Cert.Fc2Ideal.main_arg3)
          ∧ r.2.mem ((c.tc : Thread Cert.Fc2Ideal.nD Cert.Fc2Ideal.τ).loc Cert.Fc2Ideal.main_arg4) = m ((c.tc : Thread Cert.Fc2Ideal.nD Cert.Fc2Ideal.τ).loc Cert.Fc2Ideal.main_arg4)
          ∧ r.2.mem ((c.tc : Thread Cert.Fc2Ideal.nD Cert.Fc2Ideal.τ).loc Cert.Fc2Ideal.main_arg5) = m ((c.tc : Thread Cert.Fc2Ideal.nD Cert.Fc2Ideal.τ).loc Cert.Fc2Ideal.main_arg5))
      ∧ θ_run (Cert.RefFc2Ideal.defs (F := Ideal)) (onTc (τ := Cert.RefFc2Ideal.τ) (Cert.RefFc2Ideal.main (F := Ideal))) ⟨m', fun _ => 0, g'⟩ (fun r => ∀ c : Dev Cert.RefFc2Ideal.nD,
          r.2.mem ((c.tc : Thread Cert.RefFc2Ideal.nD Cert.RefFc2Ideal.τ).loc Cert.RefFc2Ideal.main_v0) = v0 c
          ∧ r.2.mem ((c.tc : Thread Cert.RefFc2Ideal.nD Cert.RefFc2Ideal.τ).loc Cert.RefFc2Ideal.main_arg0) = m' ((c.tc : Thread Cert.RefFc2Ideal.nD Cert.RefFc2Ideal.τ).loc Cert.RefFc2Ideal.main_arg0)
          ∧ r.2.mem ((c.tc : Thread Cert.RefFc2Ideal.nD Cert.RefFc2Ideal.τ).loc Cert.RefFc2Ideal.main_arg1) = m' ((c.tc : Thread Cert.RefFc2Ideal.nD Cert.RefFc2Ideal.τ).loc Cert.RefFc2Ideal.main_arg1)
          ∧ r.2.mem ((c.tc : Thread Cert.RefFc2Ideal.nD Cert.RefFc2Ideal.τ).loc Cert.RefFc2Ideal.main_arg2) = m' ((c.tc : Thread Cert.RefFc2Ideal.nD Cert.RefFc2Ideal.τ).loc Cert.RefFc2Ideal.main_arg2)
          ∧ r.2.mem ((c.tc : Thread Cert.RefFc2Ideal.nD Cert.RefFc2Ideal.τ).loc Cert.RefFc2Ideal.main_arg3) = m' ((c.tc : Thread Cert.RefFc2Ideal.nD Cert.RefFc2Ideal.τ).loc Cert.RefFc2Ideal.main_arg3)
          ∧ r.2.mem ((c.tc : Thread Cert.RefFc2Ideal.nD Cert.RefFc2Ideal.τ).loc Cert.RefFc2Ideal.main_arg4) = m' ((c.tc : Thread Cert.RefFc2Ideal.nD Cert.RefFc2Ideal.τ).loc Cert.RefFc2Ideal.main_arg4)
          ∧ r.2.mem ((c.tc : Thread Cert.RefFc2Ideal.nD Cert.RefFc2Ideal.τ).loc Cert.RefFc2Ideal.main_arg5) = m' ((c.tc : Thread Cert.RefFc2Ideal.nD Cert.RefFc2Ideal.τ).loc Cert.RefFc2Ideal.main_arg5))

def preserves_QkvS_QkvSIdeal : Prop :=
  True

def algebraic_QkvSIdeal_RefQkvSIdeal [hQkvSIdeal : Cert.QkvSIdeal.Facts] [hRefQkvSIdeal : Cert.RefQkvSIdeal.Facts] : Prop :=
  ∀ (m : (ℓ : Loc Cert.QkvSIdeal.nD Cert.QkvSIdeal.τ Cert.QkvSIdeal.sig) → Buf (Elt Ideal) ℓ) (g : Dev Cert.QkvSIdeal.nD → PrngReg)
    (m' : (ℓ : Loc Cert.RefQkvSIdeal.nD Cert.RefQkvSIdeal.τ Cert.RefQkvSIdeal.sig) → Buf (Elt Ideal) ℓ) (g' : Dev Cert.RefQkvSIdeal.nD → PrngReg), Pre_QkvSIdeal m →
    (∀ c : Dev Cert.QkvSIdeal.nD,
      m' ((c.tc : Thread Cert.RefQkvSIdeal.nD Cert.RefQkvSIdeal.τ).loc Cert.RefQkvSIdeal.main_arg0) = m ((c.tc : Thread Cert.QkvSIdeal.nD Cert.QkvSIdeal.τ).loc Cert.QkvSIdeal.main_arg0)
      ∧ m' ((c.tc : Thread Cert.RefQkvSIdeal.nD Cert.RefQkvSIdeal.τ).loc Cert.RefQkvSIdeal.main_arg1) = m ((c.tc : Thread Cert.QkvSIdeal.nD Cert.QkvSIdeal.τ).loc Cert.QkvSIdeal.main_arg1)
      ∧ m' ((c.tc : Thread Cert.RefQkvSIdeal.nD Cert.RefQkvSIdeal.τ).loc Cert.RefQkvSIdeal.main_arg2) = m ((c.tc : Thread Cert.QkvSIdeal.nD Cert.QkvSIdeal.τ).loc Cert.QkvSIdeal.main_arg2)
      ∧ m' ((c.tc : Thread Cert.RefQkvSIdeal.nD Cert.RefQkvSIdeal.τ).loc Cert.RefQkvSIdeal.main_arg3) = m ((c.tc : Thread Cert.QkvSIdeal.nD Cert.QkvSIdeal.τ).loc Cert.QkvSIdeal.main_arg3)) →
    ∃ (v0 : (c : Dev Cert.QkvSIdeal.nD) → Buf (Elt Ideal) ((c.tc : Thread Cert.QkvSIdeal.nD Cert.QkvSIdeal.τ).loc Cert.QkvSIdeal.main_v0)),
      θ_run (Cert.QkvSIdeal.defs (F := Ideal)) (onTc (τ := Cert.QkvSIdeal.τ) (Cert.QkvSIdeal.main (F := Ideal))) ⟨m, fun _ => 0, g⟩ (fun r => ∀ c : Dev Cert.QkvSIdeal.nD,
          r.2.mem ((c.tc : Thread Cert.QkvSIdeal.nD Cert.QkvSIdeal.τ).loc Cert.QkvSIdeal.main_v0) = v0 c
          ∧ r.2.mem ((c.tc : Thread Cert.QkvSIdeal.nD Cert.QkvSIdeal.τ).loc Cert.QkvSIdeal.main_arg0) = m ((c.tc : Thread Cert.QkvSIdeal.nD Cert.QkvSIdeal.τ).loc Cert.QkvSIdeal.main_arg0)
          ∧ r.2.mem ((c.tc : Thread Cert.QkvSIdeal.nD Cert.QkvSIdeal.τ).loc Cert.QkvSIdeal.main_arg1) = m ((c.tc : Thread Cert.QkvSIdeal.nD Cert.QkvSIdeal.τ).loc Cert.QkvSIdeal.main_arg1)
          ∧ r.2.mem ((c.tc : Thread Cert.QkvSIdeal.nD Cert.QkvSIdeal.τ).loc Cert.QkvSIdeal.main_arg2) = m ((c.tc : Thread Cert.QkvSIdeal.nD Cert.QkvSIdeal.τ).loc Cert.QkvSIdeal.main_arg2)
          ∧ r.2.mem ((c.tc : Thread Cert.QkvSIdeal.nD Cert.QkvSIdeal.τ).loc Cert.QkvSIdeal.main_arg3) = m ((c.tc : Thread Cert.QkvSIdeal.nD Cert.QkvSIdeal.τ).loc Cert.QkvSIdeal.main_arg3))
      ∧ θ_run (Cert.RefQkvSIdeal.defs (F := Ideal)) (onTc (τ := Cert.RefQkvSIdeal.τ) (Cert.RefQkvSIdeal.main (F := Ideal))) ⟨m', fun _ => 0, g'⟩ (fun r => ∀ c : Dev Cert.RefQkvSIdeal.nD,
          r.2.mem ((c.tc : Thread Cert.RefQkvSIdeal.nD Cert.RefQkvSIdeal.τ).loc Cert.RefQkvSIdeal.main_v2) = v0 c
          ∧ r.2.mem ((c.tc : Thread Cert.RefQkvSIdeal.nD Cert.RefQkvSIdeal.τ).loc Cert.RefQkvSIdeal.main_arg0) = m' ((c.tc : Thread Cert.RefQkvSIdeal.nD Cert.RefQkvSIdeal.τ).loc Cert.RefQkvSIdeal.main_arg0)
          ∧ r.2.mem ((c.tc : Thread Cert.RefQkvSIdeal.nD Cert.RefQkvSIdeal.τ).loc Cert.RefQkvSIdeal.main_arg1) = m' ((c.tc : Thread Cert.RefQkvSIdeal.nD Cert.RefQkvSIdeal.τ).loc Cert.RefQkvSIdeal.main_arg1)
          ∧ r.2.mem ((c.tc : Thread Cert.RefQkvSIdeal.nD Cert.RefQkvSIdeal.τ).loc Cert.RefQkvSIdeal.main_arg2) = m' ((c.tc : Thread Cert.RefQkvSIdeal.nD Cert.RefQkvSIdeal.τ).loc Cert.RefQkvSIdeal.main_arg2)
          ∧ r.2.mem ((c.tc : Thread Cert.RefQkvSIdeal.nD Cert.RefQkvSIdeal.τ).loc Cert.RefQkvSIdeal.main_arg3) = m' ((c.tc : Thread Cert.RefQkvSIdeal.nD Cert.RefQkvSIdeal.τ).loc Cert.RefQkvSIdeal.main_arg3))

def preserves_QkvTQ_QkvTQIdeal : Prop :=
  True

def algebraic_QkvTQIdeal_RefQkvTQIdeal [hQkvTQIdeal : Cert.QkvTQIdeal.Facts] [hRefQkvTQIdeal : Cert.RefQkvTQIdeal.Facts] : Prop :=
  ∀ (m : (ℓ : Loc Cert.QkvTQIdeal.nD Cert.QkvTQIdeal.τ Cert.QkvTQIdeal.sig) → Buf (Elt Ideal) ℓ) (g : Dev Cert.QkvTQIdeal.nD → PrngReg)
    (m' : (ℓ : Loc Cert.RefQkvTQIdeal.nD Cert.RefQkvTQIdeal.τ Cert.RefQkvTQIdeal.sig) → Buf (Elt Ideal) ℓ) (g' : Dev Cert.RefQkvTQIdeal.nD → PrngReg), Pre_QkvTQIdeal m →
    (∀ c : Dev Cert.QkvTQIdeal.nD,
      m' ((c.tc : Thread Cert.RefQkvTQIdeal.nD Cert.RefQkvTQIdeal.τ).loc Cert.RefQkvTQIdeal.main_arg0) = m ((c.tc : Thread Cert.QkvTQIdeal.nD Cert.QkvTQIdeal.τ).loc Cert.QkvTQIdeal.main_arg0)
      ∧ m' ((c.tc : Thread Cert.RefQkvTQIdeal.nD Cert.RefQkvTQIdeal.τ).loc Cert.RefQkvTQIdeal.main_arg1) = m ((c.tc : Thread Cert.QkvTQIdeal.nD Cert.QkvTQIdeal.τ).loc Cert.QkvTQIdeal.main_arg1)
      ∧ m' ((c.tc : Thread Cert.RefQkvTQIdeal.nD Cert.RefQkvTQIdeal.τ).loc Cert.RefQkvTQIdeal.main_arg2) = m ((c.tc : Thread Cert.QkvTQIdeal.nD Cert.QkvTQIdeal.τ).loc Cert.QkvTQIdeal.main_arg2)
      ∧ m' ((c.tc : Thread Cert.RefQkvTQIdeal.nD Cert.RefQkvTQIdeal.τ).loc Cert.RefQkvTQIdeal.main_arg3) = m ((c.tc : Thread Cert.QkvTQIdeal.nD Cert.QkvTQIdeal.τ).loc Cert.QkvTQIdeal.main_arg3)) →
    ∃ (v0 : (c : Dev Cert.QkvTQIdeal.nD) → Buf (Elt Ideal) ((c.tc : Thread Cert.QkvTQIdeal.nD Cert.QkvTQIdeal.τ).loc Cert.QkvTQIdeal.main_v0)),
      θ_run (Cert.QkvTQIdeal.defs (F := Ideal)) (onTc (τ := Cert.QkvTQIdeal.τ) (Cert.QkvTQIdeal.main (F := Ideal))) ⟨m, fun _ => 0, g⟩ (fun r => ∀ c : Dev Cert.QkvTQIdeal.nD,
          r.2.mem ((c.tc : Thread Cert.QkvTQIdeal.nD Cert.QkvTQIdeal.τ).loc Cert.QkvTQIdeal.main_v0) = v0 c
          ∧ r.2.mem ((c.tc : Thread Cert.QkvTQIdeal.nD Cert.QkvTQIdeal.τ).loc Cert.QkvTQIdeal.main_arg0) = m ((c.tc : Thread Cert.QkvTQIdeal.nD Cert.QkvTQIdeal.τ).loc Cert.QkvTQIdeal.main_arg0)
          ∧ r.2.mem ((c.tc : Thread Cert.QkvTQIdeal.nD Cert.QkvTQIdeal.τ).loc Cert.QkvTQIdeal.main_arg1) = m ((c.tc : Thread Cert.QkvTQIdeal.nD Cert.QkvTQIdeal.τ).loc Cert.QkvTQIdeal.main_arg1)
          ∧ r.2.mem ((c.tc : Thread Cert.QkvTQIdeal.nD Cert.QkvTQIdeal.τ).loc Cert.QkvTQIdeal.main_arg2) = m ((c.tc : Thread Cert.QkvTQIdeal.nD Cert.QkvTQIdeal.τ).loc Cert.QkvTQIdeal.main_arg2)
          ∧ r.2.mem ((c.tc : Thread Cert.QkvTQIdeal.nD Cert.QkvTQIdeal.τ).loc Cert.QkvTQIdeal.main_arg3) = m ((c.tc : Thread Cert.QkvTQIdeal.nD Cert.QkvTQIdeal.τ).loc Cert.QkvTQIdeal.main_arg3))
      ∧ θ_run (Cert.RefQkvTQIdeal.defs (F := Ideal)) (onTc (τ := Cert.RefQkvTQIdeal.τ) (Cert.RefQkvTQIdeal.main (F := Ideal))) ⟨m', fun _ => 0, g'⟩ (fun r => ∀ c : Dev Cert.RefQkvTQIdeal.nD,
          r.2.mem ((c.tc : Thread Cert.RefQkvTQIdeal.nD Cert.RefQkvTQIdeal.τ).loc Cert.RefQkvTQIdeal.main_v2) = v0 c
          ∧ r.2.mem ((c.tc : Thread Cert.RefQkvTQIdeal.nD Cert.RefQkvTQIdeal.τ).loc Cert.RefQkvTQIdeal.main_arg0) = m' ((c.tc : Thread Cert.RefQkvTQIdeal.nD Cert.RefQkvTQIdeal.τ).loc Cert.RefQkvTQIdeal.main_arg0)
          ∧ r.2.mem ((c.tc : Thread Cert.RefQkvTQIdeal.nD Cert.RefQkvTQIdeal.τ).loc Cert.RefQkvTQIdeal.main_arg1) = m' ((c.tc : Thread Cert.RefQkvTQIdeal.nD Cert.RefQkvTQIdeal.τ).loc Cert.RefQkvTQIdeal.main_arg1)
          ∧ r.2.mem ((c.tc : Thread Cert.RefQkvTQIdeal.nD Cert.RefQkvTQIdeal.τ).loc Cert.RefQkvTQIdeal.main_arg2) = m' ((c.tc : Thread Cert.RefQkvTQIdeal.nD Cert.RefQkvTQIdeal.τ).loc Cert.RefQkvTQIdeal.main_arg2)
          ∧ r.2.mem ((c.tc : Thread Cert.RefQkvTQIdeal.nD Cert.RefQkvTQIdeal.τ).loc Cert.RefQkvTQIdeal.main_arg3) = m' ((c.tc : Thread Cert.RefQkvTQIdeal.nD Cert.RefQkvTQIdeal.τ).loc Cert.RefQkvTQIdeal.main_arg3))

def preserves_QkvTKv_QkvTKvIdeal : Prop :=
  True

def algebraic_QkvTKvIdeal_RefQkvTKvIdeal [hQkvTKvIdeal : Cert.QkvTKvIdeal.Facts] [hRefQkvTKvIdeal : Cert.RefQkvTKvIdeal.Facts] : Prop :=
  ∀ (m : (ℓ : Loc Cert.QkvTKvIdeal.nD Cert.QkvTKvIdeal.τ Cert.QkvTKvIdeal.sig) → Buf (Elt Ideal) ℓ) (g : Dev Cert.QkvTKvIdeal.nD → PrngReg)
    (m' : (ℓ : Loc Cert.RefQkvTKvIdeal.nD Cert.RefQkvTKvIdeal.τ Cert.RefQkvTKvIdeal.sig) → Buf (Elt Ideal) ℓ) (g' : Dev Cert.RefQkvTKvIdeal.nD → PrngReg), Pre_QkvTKvIdeal m →
    (∀ c : Dev Cert.QkvTKvIdeal.nD,
      m' ((c.tc : Thread Cert.RefQkvTKvIdeal.nD Cert.RefQkvTKvIdeal.τ).loc Cert.RefQkvTKvIdeal.main_arg0) = m ((c.tc : Thread Cert.QkvTKvIdeal.nD Cert.QkvTKvIdeal.τ).loc Cert.QkvTKvIdeal.main_arg0)
      ∧ m' ((c.tc : Thread Cert.RefQkvTKvIdeal.nD Cert.RefQkvTKvIdeal.τ).loc Cert.RefQkvTKvIdeal.main_arg1) = m ((c.tc : Thread Cert.QkvTKvIdeal.nD Cert.QkvTKvIdeal.τ).loc Cert.QkvTKvIdeal.main_arg1)
      ∧ m' ((c.tc : Thread Cert.RefQkvTKvIdeal.nD Cert.RefQkvTKvIdeal.τ).loc Cert.RefQkvTKvIdeal.main_arg2) = m ((c.tc : Thread Cert.QkvTKvIdeal.nD Cert.QkvTKvIdeal.τ).loc Cert.QkvTKvIdeal.main_arg2)
      ∧ m' ((c.tc : Thread Cert.RefQkvTKvIdeal.nD Cert.RefQkvTKvIdeal.τ).loc Cert.RefQkvTKvIdeal.main_arg3) = m ((c.tc : Thread Cert.QkvTKvIdeal.nD Cert.QkvTKvIdeal.τ).loc Cert.QkvTKvIdeal.main_arg3)) →
    ∃ (v0 : (c : Dev Cert.QkvTKvIdeal.nD) → Buf (Elt Ideal) ((c.tc : Thread Cert.QkvTKvIdeal.nD Cert.QkvTKvIdeal.τ).loc Cert.QkvTKvIdeal.main_v0_0)) (v1 : (c : Dev Cert.QkvTKvIdeal.nD) → Buf (Elt Ideal) ((c.tc : Thread Cert.QkvTKvIdeal.nD Cert.QkvTKvIdeal.τ).loc Cert.QkvTKvIdeal.main_v0_1)) (v2 : (c : Dev Cert.QkvTKvIdeal.nD) → Buf (Elt Ideal) ((c.tc : Thread Cert.QkvTKvIdeal.nD Cert.QkvTKvIdeal.τ).loc Cert.QkvTKvIdeal.main_v0_2)),
      θ_run (Cert.QkvTKvIdeal.defs (F := Ideal)) (onTc (τ := Cert.QkvTKvIdeal.τ) (Cert.QkvTKvIdeal.main (F := Ideal))) ⟨m, fun _ => 0, g⟩ (fun r => ∀ c : Dev Cert.QkvTKvIdeal.nD,
          r.2.mem ((c.tc : Thread Cert.QkvTKvIdeal.nD Cert.QkvTKvIdeal.τ).loc Cert.QkvTKvIdeal.main_v0_0) = v0 c
          ∧ r.2.mem ((c.tc : Thread Cert.QkvTKvIdeal.nD Cert.QkvTKvIdeal.τ).loc Cert.QkvTKvIdeal.main_v0_1) = v1 c
          ∧ r.2.mem ((c.tc : Thread Cert.QkvTKvIdeal.nD Cert.QkvTKvIdeal.τ).loc Cert.QkvTKvIdeal.main_v0_2) = v2 c
          ∧ r.2.mem ((c.tc : Thread Cert.QkvTKvIdeal.nD Cert.QkvTKvIdeal.τ).loc Cert.QkvTKvIdeal.main_arg0) = m ((c.tc : Thread Cert.QkvTKvIdeal.nD Cert.QkvTKvIdeal.τ).loc Cert.QkvTKvIdeal.main_arg0)
          ∧ r.2.mem ((c.tc : Thread Cert.QkvTKvIdeal.nD Cert.QkvTKvIdeal.τ).loc Cert.QkvTKvIdeal.main_arg1) = m ((c.tc : Thread Cert.QkvTKvIdeal.nD Cert.QkvTKvIdeal.τ).loc Cert.QkvTKvIdeal.main_arg1)
          ∧ r.2.mem ((c.tc : Thread Cert.QkvTKvIdeal.nD Cert.QkvTKvIdeal.τ).loc Cert.QkvTKvIdeal.main_arg2) = m ((c.tc : Thread Cert.QkvTKvIdeal.nD Cert.QkvTKvIdeal.τ).loc Cert.QkvTKvIdeal.main_arg2)
          ∧ r.2.mem ((c.tc : Thread Cert.QkvTKvIdeal.nD Cert.QkvTKvIdeal.τ).loc Cert.QkvTKvIdeal.main_arg3) = m ((c.tc : Thread Cert.QkvTKvIdeal.nD Cert.QkvTKvIdeal.τ).loc Cert.QkvTKvIdeal.main_arg3))
      ∧ θ_run (Cert.RefQkvTKvIdeal.defs (F := Ideal)) (onTc (τ := Cert.RefQkvTKvIdeal.τ) (Cert.RefQkvTKvIdeal.main (F := Ideal))) ⟨m', fun _ => 0, g'⟩ (fun r => ∀ c : Dev Cert.RefQkvTKvIdeal.nD,
          r.2.mem ((c.tc : Thread Cert.RefQkvTKvIdeal.nD Cert.RefQkvTKvIdeal.τ).loc Cert.RefQkvTKvIdeal.main_v2) = v0 c
          ∧ r.2.mem ((c.tc : Thread Cert.RefQkvTKvIdeal.nD Cert.RefQkvTKvIdeal.τ).loc Cert.RefQkvTKvIdeal.main_v4) = v1 c
          ∧ r.2.mem ((c.tc : Thread Cert.RefQkvTKvIdeal.nD Cert.RefQkvTKvIdeal.τ).loc Cert.RefQkvTKvIdeal.main_v7) = v2 c
          ∧ r.2.mem ((c.tc : Thread Cert.RefQkvTKvIdeal.nD Cert.RefQkvTKvIdeal.τ).loc Cert.RefQkvTKvIdeal.main_arg0) = m' ((c.tc : Thread Cert.RefQkvTKvIdeal.nD Cert.RefQkvTKvIdeal.τ).loc Cert.RefQkvTKvIdeal.main_arg0)
          ∧ r.2.mem ((c.tc : Thread Cert.RefQkvTKvIdeal.nD Cert.RefQkvTKvIdeal.τ).loc Cert.RefQkvTKvIdeal.main_arg1) = m' ((c.tc : Thread Cert.RefQkvTKvIdeal.nD Cert.RefQkvTKvIdeal.τ).loc Cert.RefQkvTKvIdeal.main_arg1)
          ∧ r.2.mem ((c.tc : Thread Cert.RefQkvTKvIdeal.nD Cert.RefQkvTKvIdeal.τ).loc Cert.RefQkvTKvIdeal.main_arg2) = m' ((c.tc : Thread Cert.RefQkvTKvIdeal.nD Cert.RefQkvTKvIdeal.τ).loc Cert.RefQkvTKvIdeal.main_arg2)
          ∧ r.2.mem ((c.tc : Thread Cert.RefQkvTKvIdeal.nD Cert.RefQkvTKvIdeal.τ).loc Cert.RefQkvTKvIdeal.main_arg3) = m' ((c.tc : Thread Cert.RefQkvTKvIdeal.nD Cert.RefQkvTKvIdeal.τ).loc Cert.RefQkvTKvIdeal.main_arg3))

def preserves_Ln1_Ln1Ideal : Prop :=
  True

def algebraic_Ln1Ideal_RefLn1Ideal [hLn1Ideal : Cert.Ln1Ideal.Facts] [hRefLn1Ideal : Cert.RefLn1Ideal.Facts] : Prop :=
  ∀ (m : (ℓ : Loc Cert.Ln1Ideal.nD Cert.Ln1Ideal.τ Cert.Ln1Ideal.sig) → Buf (Elt Ideal) ℓ) (g : Dev Cert.Ln1Ideal.nD → PrngReg)
    (m' : (ℓ : Loc Cert.RefLn1Ideal.nD Cert.RefLn1Ideal.τ Cert.RefLn1Ideal.sig) → Buf (Elt Ideal) ℓ) (g' : Dev Cert.RefLn1Ideal.nD → PrngReg), Pre_Ln1Ideal m →
    (∀ c : Dev Cert.Ln1Ideal.nD,
      m' ((c.tc : Thread Cert.RefLn1Ideal.nD Cert.RefLn1Ideal.τ).loc Cert.RefLn1Ideal.main_arg0) = m ((c.tc : Thread Cert.Ln1Ideal.nD Cert.Ln1Ideal.τ).loc Cert.Ln1Ideal.main_arg0)
      ∧ m' ((c.tc : Thread Cert.RefLn1Ideal.nD Cert.RefLn1Ideal.τ).loc Cert.RefLn1Ideal.main_arg1) = m ((c.tc : Thread Cert.Ln1Ideal.nD Cert.Ln1Ideal.τ).loc Cert.Ln1Ideal.main_arg1)
      ∧ m' ((c.tc : Thread Cert.RefLn1Ideal.nD Cert.RefLn1Ideal.τ).loc Cert.RefLn1Ideal.main_arg2) = m ((c.tc : Thread Cert.Ln1Ideal.nD Cert.Ln1Ideal.τ).loc Cert.Ln1Ideal.main_arg2)) →
    ∃ (v0 : (c : Dev Cert.Ln1Ideal.nD) → Buf (Elt Ideal) ((c.tc : Thread Cert.Ln1Ideal.nD Cert.Ln1Ideal.τ).loc Cert.Ln1Ideal.main_v0_0)) (v1 : (c : Dev Cert.Ln1Ideal.nD) → Buf (Elt Ideal) ((c.tc : Thread Cert.Ln1Ideal.nD Cert.Ln1Ideal.τ).loc Cert.Ln1Ideal.main_v0_1)),
      θ_run (Cert.Ln1Ideal.defs (F := Ideal)) (onTc (τ := Cert.Ln1Ideal.τ) (Cert.Ln1Ideal.main (F := Ideal))) ⟨m, fun _ => 0, g⟩ (fun r => ∀ c : Dev Cert.Ln1Ideal.nD,
          r.2.mem ((c.tc : Thread Cert.Ln1Ideal.nD Cert.Ln1Ideal.τ).loc Cert.Ln1Ideal.main_v0_0) = v0 c
          ∧ r.2.mem ((c.tc : Thread Cert.Ln1Ideal.nD Cert.Ln1Ideal.τ).loc Cert.Ln1Ideal.main_v0_1) = v1 c
          ∧ r.2.mem ((c.tc : Thread Cert.Ln1Ideal.nD Cert.Ln1Ideal.τ).loc Cert.Ln1Ideal.main_arg0) = m ((c.tc : Thread Cert.Ln1Ideal.nD Cert.Ln1Ideal.τ).loc Cert.Ln1Ideal.main_arg0)
          ∧ r.2.mem ((c.tc : Thread Cert.Ln1Ideal.nD Cert.Ln1Ideal.τ).loc Cert.Ln1Ideal.main_arg1) = m ((c.tc : Thread Cert.Ln1Ideal.nD Cert.Ln1Ideal.τ).loc Cert.Ln1Ideal.main_arg1)
          ∧ r.2.mem ((c.tc : Thread Cert.Ln1Ideal.nD Cert.Ln1Ideal.τ).loc Cert.Ln1Ideal.main_arg2) = m ((c.tc : Thread Cert.Ln1Ideal.nD Cert.Ln1Ideal.τ).loc Cert.Ln1Ideal.main_arg2))
      ∧ θ_run (Cert.RefLn1Ideal.defs (F := Ideal)) (onTc (τ := Cert.RefLn1Ideal.τ) (Cert.RefLn1Ideal.main (F := Ideal))) ⟨m', fun _ => 0, g'⟩ (fun r => ∀ c : Dev Cert.RefLn1Ideal.nD,
          r.2.mem ((c.tc : Thread Cert.RefLn1Ideal.nD Cert.RefLn1Ideal.τ).loc Cert.RefLn1Ideal.main_v0_0) = v0 c
          ∧ r.2.mem ((c.tc : Thread Cert.RefLn1Ideal.nD Cert.RefLn1Ideal.τ).loc Cert.RefLn1Ideal.main_v0_1) = v1 c
          ∧ r.2.mem ((c.tc : Thread Cert.RefLn1Ideal.nD Cert.RefLn1Ideal.τ).loc Cert.RefLn1Ideal.main_arg0) = m' ((c.tc : Thread Cert.RefLn1Ideal.nD Cert.RefLn1Ideal.τ).loc Cert.RefLn1Ideal.main_arg0)
          ∧ r.2.mem ((c.tc : Thread Cert.RefLn1Ideal.nD Cert.RefLn1Ideal.τ).loc Cert.RefLn1Ideal.main_arg1) = m' ((c.tc : Thread Cert.RefLn1Ideal.nD Cert.RefLn1Ideal.τ).loc Cert.RefLn1Ideal.main_arg1)
          ∧ r.2.mem ((c.tc : Thread Cert.RefLn1Ideal.nD Cert.RefLn1Ideal.τ).loc Cert.RefLn1Ideal.main_arg2) = m' ((c.tc : Thread Cert.RefLn1Ideal.nD Cert.RefLn1Ideal.τ).loc Cert.RefLn1Ideal.main_arg2))

def preserves_OprojT_OprojTIdeal : Prop :=
  True

def algebraic_OprojTIdeal_RefOprojTIdeal [hOprojTIdeal : Cert.OprojTIdeal.Facts] [hRefOprojTIdeal : Cert.RefOprojTIdeal.Facts] : Prop :=
  ∀ (m : (ℓ : Loc Cert.OprojTIdeal.nD Cert.OprojTIdeal.τ Cert.OprojTIdeal.sig) → Buf (Elt Ideal) ℓ) (g : Dev Cert.OprojTIdeal.nD → PrngReg)
    (m' : (ℓ : Loc Cert.RefOprojTIdeal.nD Cert.RefOprojTIdeal.τ Cert.RefOprojTIdeal.sig) → Buf (Elt Ideal) ℓ) (g' : Dev Cert.RefOprojTIdeal.nD → PrngReg), Pre_OprojTIdeal m →
    (∀ c : Dev Cert.OprojTIdeal.nD,
      m' ((c.tc : Thread Cert.RefOprojTIdeal.nD Cert.RefOprojTIdeal.τ).loc Cert.RefOprojTIdeal.main_arg0) = m ((c.tc : Thread Cert.OprojTIdeal.nD Cert.OprojTIdeal.τ).loc Cert.OprojTIdeal.main_arg0)
      ∧ m' ((c.tc : Thread Cert.RefOprojTIdeal.nD Cert.RefOprojTIdeal.τ).loc Cert.RefOprojTIdeal.main_arg1) = m ((c.tc : Thread Cert.OprojTIdeal.nD Cert.OprojTIdeal.τ).loc Cert.OprojTIdeal.main_arg1)
      ∧ m' ((c.tc : Thread Cert.RefOprojTIdeal.nD Cert.RefOprojTIdeal.τ).loc Cert.RefOprojTIdeal.main_arg2) = m ((c.tc : Thread Cert.OprojTIdeal.nD Cert.OprojTIdeal.τ).loc Cert.OprojTIdeal.main_arg2)
      ∧ m' ((c.tc : Thread Cert.RefOprojTIdeal.nD Cert.RefOprojTIdeal.τ).loc Cert.RefOprojTIdeal.main_arg3) = m ((c.tc : Thread Cert.OprojTIdeal.nD Cert.OprojTIdeal.τ).loc Cert.OprojTIdeal.main_arg3)
      ∧ m' ((c.tc : Thread Cert.RefOprojTIdeal.nD Cert.RefOprojTIdeal.τ).loc Cert.RefOprojTIdeal.main_arg4) = m ((c.tc : Thread Cert.OprojTIdeal.nD Cert.OprojTIdeal.τ).loc Cert.OprojTIdeal.main_arg4)
      ∧ m' ((c.tc : Thread Cert.RefOprojTIdeal.nD Cert.RefOprojTIdeal.τ).loc Cert.RefOprojTIdeal.main_arg5) = m ((c.tc : Thread Cert.OprojTIdeal.nD Cert.OprojTIdeal.τ).loc Cert.OprojTIdeal.main_arg5)
      ∧ m' ((c.tc : Thread Cert.RefOprojTIdeal.nD Cert.RefOprojTIdeal.τ).loc Cert.RefOprojTIdeal.main_arg6) = m ((c.tc : Thread Cert.OprojTIdeal.nD Cert.OprojTIdeal.τ).loc Cert.OprojTIdeal.main_arg6)) →
    ∃ (v0 : (c : Dev Cert.OprojTIdeal.nD) → Buf (Elt Ideal) ((c.tc : Thread Cert.OprojTIdeal.nD Cert.OprojTIdeal.τ).loc Cert.OprojTIdeal.main_v0_0)) (v1 : (c : Dev Cert.OprojTIdeal.nD) → Buf (Elt Ideal) ((c.tc : Thread Cert.OprojTIdeal.nD Cert.OprojTIdeal.τ).loc Cert.OprojTIdeal.main_v0_1)) (v2 : (c : Dev Cert.OprojTIdeal.nD) → Buf (Elt Ideal) ((c.tc : Thread Cert.OprojTIdeal.nD Cert.OprojTIdeal.τ).loc Cert.OprojTIdeal.main_v0_2)),
      θ_run (Cert.OprojTIdeal.defs (F := Ideal)) (onTc (τ := Cert.OprojTIdeal.τ) (Cert.OprojTIdeal.main (F := Ideal))) ⟨m, fun _ => 0, g⟩ (fun r => ∀ c : Dev Cert.OprojTIdeal.nD,
          r.2.mem ((c.tc : Thread Cert.OprojTIdeal.nD Cert.OprojTIdeal.τ).loc Cert.OprojTIdeal.main_v0_0) = v0 c
          ∧ r.2.mem ((c.tc : Thread Cert.OprojTIdeal.nD Cert.OprojTIdeal.τ).loc Cert.OprojTIdeal.main_v0_1) = v1 c
          ∧ r.2.mem ((c.tc : Thread Cert.OprojTIdeal.nD Cert.OprojTIdeal.τ).loc Cert.OprojTIdeal.main_v0_2) = v2 c
          ∧ r.2.mem ((c.tc : Thread Cert.OprojTIdeal.nD Cert.OprojTIdeal.τ).loc Cert.OprojTIdeal.main_arg0) = m ((c.tc : Thread Cert.OprojTIdeal.nD Cert.OprojTIdeal.τ).loc Cert.OprojTIdeal.main_arg0)
          ∧ r.2.mem ((c.tc : Thread Cert.OprojTIdeal.nD Cert.OprojTIdeal.τ).loc Cert.OprojTIdeal.main_arg1) = m ((c.tc : Thread Cert.OprojTIdeal.nD Cert.OprojTIdeal.τ).loc Cert.OprojTIdeal.main_arg1)
          ∧ r.2.mem ((c.tc : Thread Cert.OprojTIdeal.nD Cert.OprojTIdeal.τ).loc Cert.OprojTIdeal.main_arg2) = m ((c.tc : Thread Cert.OprojTIdeal.nD Cert.OprojTIdeal.τ).loc Cert.OprojTIdeal.main_arg2)
          ∧ r.2.mem ((c.tc : Thread Cert.OprojTIdeal.nD Cert.OprojTIdeal.τ).loc Cert.OprojTIdeal.main_arg3) = m ((c.tc : Thread Cert.OprojTIdeal.nD Cert.OprojTIdeal.τ).loc Cert.OprojTIdeal.main_arg3)
          ∧ r.2.mem ((c.tc : Thread Cert.OprojTIdeal.nD Cert.OprojTIdeal.τ).loc Cert.OprojTIdeal.main_arg4) = m ((c.tc : Thread Cert.OprojTIdeal.nD Cert.OprojTIdeal.τ).loc Cert.OprojTIdeal.main_arg4)
          ∧ r.2.mem ((c.tc : Thread Cert.OprojTIdeal.nD Cert.OprojTIdeal.τ).loc Cert.OprojTIdeal.main_arg5) = m ((c.tc : Thread Cert.OprojTIdeal.nD Cert.OprojTIdeal.τ).loc Cert.OprojTIdeal.main_arg5)
          ∧ r.2.mem ((c.tc : Thread Cert.OprojTIdeal.nD Cert.OprojTIdeal.τ).loc Cert.OprojTIdeal.main_arg6) = m ((c.tc : Thread Cert.OprojTIdeal.nD Cert.OprojTIdeal.τ).loc Cert.OprojTIdeal.main_arg6))
      ∧ θ_run (Cert.RefOprojTIdeal.defs (F := Ideal)) (onTc (τ := Cert.RefOprojTIdeal.τ) (Cert.RefOprojTIdeal.main (F := Ideal))) ⟨m', fun _ => 0, g'⟩ (fun r => ∀ c : Dev Cert.RefOprojTIdeal.nD,
          r.2.mem ((c.tc : Thread Cert.RefOprojTIdeal.nD Cert.RefOprojTIdeal.τ).loc Cert.RefOprojTIdeal.main_v0_0) = v0 c
          ∧ r.2.mem ((c.tc : Thread Cert.RefOprojTIdeal.nD Cert.RefOprojTIdeal.τ).loc Cert.RefOprojTIdeal.main_v0_1) = v1 c
          ∧ r.2.mem ((c.tc : Thread Cert.RefOprojTIdeal.nD Cert.RefOprojTIdeal.τ).loc Cert.RefOprojTIdeal.main_v0_2) = v2 c
          ∧ r.2.mem ((c.tc : Thread Cert.RefOprojTIdeal.nD Cert.RefOprojTIdeal.τ).loc Cert.RefOprojTIdeal.main_arg0) = m' ((c.tc : Thread Cert.RefOprojTIdeal.nD Cert.RefOprojTIdeal.τ).loc Cert.RefOprojTIdeal.main_arg0)
          ∧ r.2.mem ((c.tc : Thread Cert.RefOprojTIdeal.nD Cert.RefOprojTIdeal.τ).loc Cert.RefOprojTIdeal.main_arg1) = m' ((c.tc : Thread Cert.RefOprojTIdeal.nD Cert.RefOprojTIdeal.τ).loc Cert.RefOprojTIdeal.main_arg1)
          ∧ r.2.mem ((c.tc : Thread Cert.RefOprojTIdeal.nD Cert.RefOprojTIdeal.τ).loc Cert.RefOprojTIdeal.main_arg2) = m' ((c.tc : Thread Cert.RefOprojTIdeal.nD Cert.RefOprojTIdeal.τ).loc Cert.RefOprojTIdeal.main_arg2)
          ∧ r.2.mem ((c.tc : Thread Cert.RefOprojTIdeal.nD Cert.RefOprojTIdeal.τ).loc Cert.RefOprojTIdeal.main_arg3) = m' ((c.tc : Thread Cert.RefOprojTIdeal.nD Cert.RefOprojTIdeal.τ).loc Cert.RefOprojTIdeal.main_arg3)
          ∧ r.2.mem ((c.tc : Thread Cert.RefOprojTIdeal.nD Cert.RefOprojTIdeal.τ).loc Cert.RefOprojTIdeal.main_arg4) = m' ((c.tc : Thread Cert.RefOprojTIdeal.nD Cert.RefOprojTIdeal.τ).loc Cert.RefOprojTIdeal.main_arg4)
          ∧ r.2.mem ((c.tc : Thread Cert.RefOprojTIdeal.nD Cert.RefOprojTIdeal.τ).loc Cert.RefOprojTIdeal.main_arg5) = m' ((c.tc : Thread Cert.RefOprojTIdeal.nD Cert.RefOprojTIdeal.τ).loc Cert.RefOprojTIdeal.main_arg5)
          ∧ r.2.mem ((c.tc : Thread Cert.RefOprojTIdeal.nD Cert.RefOprojTIdeal.τ).loc Cert.RefOprojTIdeal.main_arg6) = m' ((c.tc : Thread Cert.RefOprojTIdeal.nD Cert.RefOprojTIdeal.τ).loc Cert.RefOprojTIdeal.main_arg6))

def preserves_Fc1_Fc1Ideal : Prop :=
  True

def algebraic_Fc1Ideal_RefFc1Ideal [hFc1Ideal : Cert.Fc1Ideal.Facts] [hRefFc1Ideal : Cert.RefFc1Ideal.Facts] : Prop :=
  ∀ (m : (ℓ : Loc Cert.Fc1Ideal.nD Cert.Fc1Ideal.τ Cert.Fc1Ideal.sig) → Buf (Elt Ideal) ℓ) (g : Dev Cert.Fc1Ideal.nD → PrngReg)
    (m' : (ℓ : Loc Cert.RefFc1Ideal.nD Cert.RefFc1Ideal.τ Cert.RefFc1Ideal.sig) → Buf (Elt Ideal) ℓ) (g' : Dev Cert.RefFc1Ideal.nD → PrngReg), Pre_Fc1Ideal m →
    (∀ c : Dev Cert.Fc1Ideal.nD,
      m' ((c.tc : Thread Cert.RefFc1Ideal.nD Cert.RefFc1Ideal.τ).loc Cert.RefFc1Ideal.main_arg0) = m ((c.tc : Thread Cert.Fc1Ideal.nD Cert.Fc1Ideal.τ).loc Cert.Fc1Ideal.main_arg0)
      ∧ m' ((c.tc : Thread Cert.RefFc1Ideal.nD Cert.RefFc1Ideal.τ).loc Cert.RefFc1Ideal.main_arg1) = m ((c.tc : Thread Cert.Fc1Ideal.nD Cert.Fc1Ideal.τ).loc Cert.Fc1Ideal.main_arg1)
      ∧ m' ((c.tc : Thread Cert.RefFc1Ideal.nD Cert.RefFc1Ideal.τ).loc Cert.RefFc1Ideal.main_arg2) = m ((c.tc : Thread Cert.Fc1Ideal.nD Cert.Fc1Ideal.τ).loc Cert.Fc1Ideal.main_arg2)
      ∧ m' ((c.tc : Thread Cert.RefFc1Ideal.nD Cert.RefFc1Ideal.τ).loc Cert.RefFc1Ideal.main_arg3) = m ((c.tc : Thread Cert.Fc1Ideal.nD Cert.Fc1Ideal.τ).loc Cert.Fc1Ideal.main_arg3)
      ∧ m' ((c.tc : Thread Cert.RefFc1Ideal.nD Cert.RefFc1Ideal.τ).loc Cert.RefFc1Ideal.main_arg4) = m ((c.tc : Thread Cert.Fc1Ideal.nD Cert.Fc1Ideal.τ).loc Cert.Fc1Ideal.main_arg4)) →
    ∃ (v0 : (c : Dev Cert.Fc1Ideal.nD) → Buf (Elt Ideal) ((c.tc : Thread Cert.Fc1Ideal.nD Cert.Fc1Ideal.τ).loc Cert.Fc1Ideal.main_v0_0)) (v1 : (c : Dev Cert.Fc1Ideal.nD) → Buf (Elt Ideal) ((c.tc : Thread Cert.Fc1Ideal.nD Cert.Fc1Ideal.τ).loc Cert.Fc1Ideal.main_v0_1)),
      θ_run (Cert.Fc1Ideal.defs (F := Ideal)) (onTc (τ := Cert.Fc1Ideal.τ) (Cert.Fc1Ideal.main (F := Ideal))) ⟨m, fun _ => 0, g⟩ (fun r => ∀ c : Dev Cert.Fc1Ideal.nD,
          r.2.mem ((c.tc : Thread Cert.Fc1Ideal.nD Cert.Fc1Ideal.τ).loc Cert.Fc1Ideal.main_v0_0) = v0 c
          ∧ r.2.mem ((c.tc : Thread Cert.Fc1Ideal.nD Cert.Fc1Ideal.τ).loc Cert.Fc1Ideal.main_v0_1) = v1 c
          ∧ r.2.mem ((c.tc : Thread Cert.Fc1Ideal.nD Cert.Fc1Ideal.τ).loc Cert.Fc1Ideal.main_arg0) = m ((c.tc : Thread Cert.Fc1Ideal.nD Cert.Fc1Ideal.τ).loc Cert.Fc1Ideal.main_arg0)
          ∧ r.2.mem ((c.tc : Thread Cert.Fc1Ideal.nD Cert.Fc1Ideal.τ).loc Cert.Fc1Ideal.main_arg1) = m ((c.tc : Thread Cert.Fc1Ideal.nD Cert.Fc1Ideal.τ).loc Cert.Fc1Ideal.main_arg1)
          ∧ r.2.mem ((c.tc : Thread Cert.Fc1Ideal.nD Cert.Fc1Ideal.τ).loc Cert.Fc1Ideal.main_arg2) = m ((c.tc : Thread Cert.Fc1Ideal.nD Cert.Fc1Ideal.τ).loc Cert.Fc1Ideal.main_arg2)
          ∧ r.2.mem ((c.tc : Thread Cert.Fc1Ideal.nD Cert.Fc1Ideal.τ).loc Cert.Fc1Ideal.main_arg3) = m ((c.tc : Thread Cert.Fc1Ideal.nD Cert.Fc1Ideal.τ).loc Cert.Fc1Ideal.main_arg3)
          ∧ r.2.mem ((c.tc : Thread Cert.Fc1Ideal.nD Cert.Fc1Ideal.τ).loc Cert.Fc1Ideal.main_arg4) = m ((c.tc : Thread Cert.Fc1Ideal.nD Cert.Fc1Ideal.τ).loc Cert.Fc1Ideal.main_arg4))
      ∧ θ_run (Cert.RefFc1Ideal.defs (F := Ideal)) (onTc (τ := Cert.RefFc1Ideal.τ) (Cert.RefFc1Ideal.main (F := Ideal))) ⟨m', fun _ => 0, g'⟩ (fun r => ∀ c : Dev Cert.RefFc1Ideal.nD,
          r.2.mem ((c.tc : Thread Cert.RefFc1Ideal.nD Cert.RefFc1Ideal.τ).loc Cert.RefFc1Ideal.main_v0_0) = v0 c
          ∧ r.2.mem ((c.tc : Thread Cert.RefFc1Ideal.nD Cert.RefFc1Ideal.τ).loc Cert.RefFc1Ideal.main_v0_1) = v1 c
          ∧ r.2.mem ((c.tc : Thread Cert.RefFc1Ideal.nD Cert.RefFc1Ideal.τ).loc Cert.RefFc1Ideal.main_arg0) = m' ((c.tc : Thread Cert.RefFc1Ideal.nD Cert.RefFc1Ideal.τ).loc Cert.RefFc1Ideal.main_arg0)
          ∧ r.2.mem ((c.tc : Thread Cert.RefFc1Ideal.nD Cert.RefFc1Ideal.τ).loc Cert.RefFc1Ideal.main_arg1) = m' ((c.tc : Thread Cert.RefFc1Ideal.nD Cert.RefFc1Ideal.τ).loc Cert.RefFc1Ideal.main_arg1)
          ∧ r.2.mem ((c.tc : Thread Cert.RefFc1Ideal.nD Cert.RefFc1Ideal.τ).loc Cert.RefFc1Ideal.main_arg2) = m' ((c.tc : Thread Cert.RefFc1Ideal.nD Cert.RefFc1Ideal.τ).loc Cert.RefFc1Ideal.main_arg2)
          ∧ r.2.mem ((c.tc : Thread Cert.RefFc1Ideal.nD Cert.RefFc1Ideal.τ).loc Cert.RefFc1Ideal.main_arg3) = m' ((c.tc : Thread Cert.RefFc1Ideal.nD Cert.RefFc1Ideal.τ).loc Cert.RefFc1Ideal.main_arg3)
          ∧ r.2.mem ((c.tc : Thread Cert.RefFc1Ideal.nD Cert.RefFc1Ideal.τ).loc Cert.RefFc1Ideal.main_arg4) = m' ((c.tc : Thread Cert.RefFc1Ideal.nD Cert.RefFc1Ideal.τ).loc Cert.RefFc1Ideal.main_arg4))

def preserves_OprojS_OprojSIdeal : Prop :=
  True

def algebraic_OprojSIdeal_RefOprojSIdeal [hOprojSIdeal : Cert.OprojSIdeal.Facts] [hRefOprojSIdeal : Cert.RefOprojSIdeal.Facts] [hPre_ids_ok : Cert.Pre_ids_ok.Facts] : Prop :=
  ∀ (m : (ℓ : Loc Cert.OprojSIdeal.nD Cert.OprojSIdeal.τ Cert.OprojSIdeal.sig) → Buf (Elt Ideal) ℓ) (g : Dev Cert.OprojSIdeal.nD → PrngReg)
    (m' : (ℓ : Loc Cert.RefOprojSIdeal.nD Cert.RefOprojSIdeal.τ Cert.RefOprojSIdeal.sig) → Buf (Elt Ideal) ℓ) (g' : Dev Cert.RefOprojSIdeal.nD → PrngReg), Pre_OprojSIdeal m →
    (∀ c : Dev Cert.OprojSIdeal.nD,
      m' ((c.tc : Thread Cert.RefOprojSIdeal.nD Cert.RefOprojSIdeal.τ).loc Cert.RefOprojSIdeal.main_arg0) = m ((c.tc : Thread Cert.OprojSIdeal.nD Cert.OprojSIdeal.τ).loc Cert.OprojSIdeal.main_arg0)
      ∧ m' ((c.tc : Thread Cert.RefOprojSIdeal.nD Cert.RefOprojSIdeal.τ).loc Cert.RefOprojSIdeal.main_arg1) = m ((c.tc : Thread Cert.OprojSIdeal.nD Cert.OprojSIdeal.τ).loc Cert.OprojSIdeal.main_arg1)
      ∧ m' ((c.tc : Thread Cert.RefOprojSIdeal.nD Cert.RefOprojSIdeal.τ).loc Cert.RefOprojSIdeal.main_arg2) = m ((c.tc : Thread Cert.OprojSIdeal.nD Cert.OprojSIdeal.τ).loc Cert.OprojSIdeal.main_arg2)
      ∧ m' ((c.tc : Thread Cert.RefOprojSIdeal.nD Cert.RefOprojSIdeal.τ).loc Cert.RefOprojSIdeal.main_arg3) = m ((c.tc : Thread Cert.OprojSIdeal.nD Cert.OprojSIdeal.τ).loc Cert.OprojSIdeal.main_arg3)
      ∧ m' ((c.tc : Thread Cert.RefOprojSIdeal.nD Cert.RefOprojSIdeal.τ).loc Cert.RefOprojSIdeal.main_arg4) = m ((c.tc : Thread Cert.OprojSIdeal.nD Cert.OprojSIdeal.τ).loc Cert.OprojSIdeal.main_arg4)
      ∧ m' ((c.tc : Thread Cert.RefOprojSIdeal.nD Cert.RefOprojSIdeal.τ).loc Cert.RefOprojSIdeal.main_arg5) = m ((c.tc : Thread Cert.OprojSIdeal.nD Cert.OprojSIdeal.τ).loc Cert.OprojSIdeal.main_arg5)
      ∧ m' ((c.tc : Thread Cert.RefOprojSIdeal.nD Cert.RefOprojSIdeal.τ).loc Cert.RefOprojSIdeal.main_arg6) = m ((c.tc : Thread Cert.OprojSIdeal.nD Cert.OprojSIdeal.τ).loc Cert.OprojSIdeal.main_arg6)
      ∧ m' ((c.tc : Thread Cert.RefOprojSIdeal.nD Cert.RefOprojSIdeal.τ).loc Cert.RefOprojSIdeal.main_arg7) = m ((c.tc : Thread Cert.OprojSIdeal.nD Cert.OprojSIdeal.τ).loc Cert.OprojSIdeal.main_arg7)
      ∧ m' ((c.tc : Thread Cert.RefOprojSIdeal.nD Cert.RefOprojSIdeal.τ).loc Cert.RefOprojSIdeal.main_arg8) = m ((c.tc : Thread Cert.OprojSIdeal.nD Cert.OprojSIdeal.τ).loc Cert.OprojSIdeal.main_arg8)) →
    ∃ (v0 : (c : Dev Cert.OprojSIdeal.nD) → Buf (Elt Ideal) ((c.tc : Thread Cert.OprojSIdeal.nD Cert.OprojSIdeal.τ).loc Cert.OprojSIdeal.main_v0_0)) (v1 : (c : Dev Cert.OprojSIdeal.nD) → Buf (Elt Ideal) ((c.tc : Thread Cert.OprojSIdeal.nD Cert.OprojSIdeal.τ).loc Cert.OprojSIdeal.main_v0_1)) (v2 : (c : Dev Cert.OprojSIdeal.nD) → Buf (Elt Ideal) ((c.tc : Thread Cert.OprojSIdeal.nD Cert.OprojSIdeal.τ).loc Cert.OprojSIdeal.main_v0_2)),
      θ_run (Cert.OprojSIdeal.defs (F := Ideal)) (onTc (τ := Cert.OprojSIdeal.τ) (Cert.OprojSIdeal.main (F := Ideal))) ⟨m, fun _ => 0, g⟩ (fun r => ∀ c : Dev Cert.OprojSIdeal.nD,
          r.2.mem ((c.tc : Thread Cert.OprojSIdeal.nD Cert.OprojSIdeal.τ).loc Cert.OprojSIdeal.main_v0_0) = v0 c
          ∧ r.2.mem ((c.tc : Thread Cert.OprojSIdeal.nD Cert.OprojSIdeal.τ).loc Cert.OprojSIdeal.main_v0_1) = v1 c
          ∧ r.2.mem ((c.tc : Thread Cert.OprojSIdeal.nD Cert.OprojSIdeal.τ).loc Cert.OprojSIdeal.main_v0_2) = v2 c
          ∧ r.2.mem ((c.tc : Thread Cert.OprojSIdeal.nD Cert.OprojSIdeal.τ).loc Cert.OprojSIdeal.main_arg0) = m ((c.tc : Thread Cert.OprojSIdeal.nD Cert.OprojSIdeal.τ).loc Cert.OprojSIdeal.main_arg0)
          ∧ r.2.mem ((c.tc : Thread Cert.OprojSIdeal.nD Cert.OprojSIdeal.τ).loc Cert.OprojSIdeal.main_arg1) = m ((c.tc : Thread Cert.OprojSIdeal.nD Cert.OprojSIdeal.τ).loc Cert.OprojSIdeal.main_arg1)
          ∧ r.2.mem ((c.tc : Thread Cert.OprojSIdeal.nD Cert.OprojSIdeal.τ).loc Cert.OprojSIdeal.main_arg2) = m ((c.tc : Thread Cert.OprojSIdeal.nD Cert.OprojSIdeal.τ).loc Cert.OprojSIdeal.main_arg2)
          ∧ r.2.mem ((c.tc : Thread Cert.OprojSIdeal.nD Cert.OprojSIdeal.τ).loc Cert.OprojSIdeal.main_arg3) = m ((c.tc : Thread Cert.OprojSIdeal.nD Cert.OprojSIdeal.τ).loc Cert.OprojSIdeal.main_arg3)
          ∧ r.2.mem ((c.tc : Thread Cert.OprojSIdeal.nD Cert.OprojSIdeal.τ).loc Cert.OprojSIdeal.main_arg4) = m ((c.tc : Thread Cert.OprojSIdeal.nD Cert.OprojSIdeal.τ).loc Cert.OprojSIdeal.main_arg4)
          ∧ r.2.mem ((c.tc : Thread Cert.OprojSIdeal.nD Cert.OprojSIdeal.τ).loc Cert.OprojSIdeal.main_arg5) = m ((c.tc : Thread Cert.OprojSIdeal.nD Cert.OprojSIdeal.τ).loc Cert.OprojSIdeal.main_arg5)
          ∧ r.2.mem ((c.tc : Thread Cert.OprojSIdeal.nD Cert.OprojSIdeal.τ).loc Cert.OprojSIdeal.main_arg6) = m ((c.tc : Thread Cert.OprojSIdeal.nD Cert.OprojSIdeal.τ).loc Cert.OprojSIdeal.main_arg6)
          ∧ r.2.mem ((c.tc : Thread Cert.OprojSIdeal.nD Cert.OprojSIdeal.τ).loc Cert.OprojSIdeal.main_arg7) = m ((c.tc : Thread Cert.OprojSIdeal.nD Cert.OprojSIdeal.τ).loc Cert.OprojSIdeal.main_arg7)
          ∧ r.2.mem ((c.tc : Thread Cert.OprojSIdeal.nD Cert.OprojSIdeal.τ).loc Cert.OprojSIdeal.main_arg8) = m ((c.tc : Thread Cert.OprojSIdeal.nD Cert.OprojSIdeal.τ).loc Cert.OprojSIdeal.main_arg8))
      ∧ θ_run (Cert.RefOprojSIdeal.defs (F := Ideal)) (onTc (τ := Cert.RefOprojSIdeal.τ) (Cert.RefOprojSIdeal.main (F := Ideal))) ⟨m', fun _ => 0, g'⟩ (fun r => ∀ c : Dev Cert.RefOprojSIdeal.nD,
          r.2.mem ((c.tc : Thread Cert.RefOprojSIdeal.nD Cert.RefOprojSIdeal.τ).loc Cert.RefOprojSIdeal.main_v10_0) = v0 c
          ∧ r.2.mem ((c.tc : Thread Cert.RefOprojSIdeal.nD Cert.RefOprojSIdeal.τ).loc Cert.RefOprojSIdeal.main_v10_1) = v1 c
          ∧ r.2.mem ((c.tc : Thread Cert.RefOprojSIdeal.nD Cert.RefOprojSIdeal.τ).loc Cert.RefOprojSIdeal.main_v10_2) = v2 c
          ∧ r.2.mem ((c.tc : Thread Cert.RefOprojSIdeal.nD Cert.RefOprojSIdeal.τ).loc Cert.RefOprojSIdeal.main_arg0) = m' ((c.tc : Thread Cert.RefOprojSIdeal.nD Cert.RefOprojSIdeal.τ).loc Cert.RefOprojSIdeal.main_arg0)
          ∧ r.2.mem ((c.tc : Thread Cert.RefOprojSIdeal.nD Cert.RefOprojSIdeal.τ).loc Cert.RefOprojSIdeal.main_arg1) = m' ((c.tc : Thread Cert.RefOprojSIdeal.nD Cert.RefOprojSIdeal.τ).loc Cert.RefOprojSIdeal.main_arg1)
          ∧ r.2.mem ((c.tc : Thread Cert.RefOprojSIdeal.nD Cert.RefOprojSIdeal.τ).loc Cert.RefOprojSIdeal.main_arg2) = m' ((c.tc : Thread Cert.RefOprojSIdeal.nD Cert.RefOprojSIdeal.τ).loc Cert.RefOprojSIdeal.main_arg2)
          ∧ r.2.mem ((c.tc : Thread Cert.RefOprojSIdeal.nD Cert.RefOprojSIdeal.τ).loc Cert.RefOprojSIdeal.main_arg3) = m' ((c.tc : Thread Cert.RefOprojSIdeal.nD Cert.RefOprojSIdeal.τ).loc Cert.RefOprojSIdeal.main_arg3)
          ∧ r.2.mem ((c.tc : Thread Cert.RefOprojSIdeal.nD Cert.RefOprojSIdeal.τ).loc Cert.RefOprojSIdeal.main_arg4) = m' ((c.tc : Thread Cert.RefOprojSIdeal.nD Cert.RefOprojSIdeal.τ).loc Cert.RefOprojSIdeal.main_arg4)
          ∧ r.2.mem ((c.tc : Thread Cert.RefOprojSIdeal.nD Cert.RefOprojSIdeal.τ).loc Cert.RefOprojSIdeal.main_arg5) = m' ((c.tc : Thread Cert.RefOprojSIdeal.nD Cert.RefOprojSIdeal.τ).loc Cert.RefOprojSIdeal.main_arg5)
          ∧ r.2.mem ((c.tc : Thread Cert.RefOprojSIdeal.nD Cert.RefOprojSIdeal.τ).loc Cert.RefOprojSIdeal.main_arg6) = m' ((c.tc : Thread Cert.RefOprojSIdeal.nD Cert.RefOprojSIdeal.τ).loc Cert.RefOprojSIdeal.main_arg6)
          ∧ r.2.mem ((c.tc : Thread Cert.RefOprojSIdeal.nD Cert.RefOprojSIdeal.τ).loc Cert.RefOprojSIdeal.main_arg7) = m' ((c.tc : Thread Cert.RefOprojSIdeal.nD Cert.RefOprojSIdeal.τ).loc Cert.RefOprojSIdeal.main_arg7)
          ∧ r.2.mem ((c.tc : Thread Cert.RefOprojSIdeal.nD Cert.RefOprojSIdeal.τ).loc Cert.RefOprojSIdeal.main_arg8) = m' ((c.tc : Thread Cert.RefOprojSIdeal.nD Cert.RefOprojSIdeal.τ).loc Cert.RefOprojSIdeal.main_arg8))

def preserves_Spatial_SpatialIdeal : Prop :=
  True

def algebraic_SpatialIdeal_RefSpatialIdeal [hSpatialIdeal : Cert.SpatialIdeal.Facts] [hRefSpatialIdeal : Cert.RefSpatialIdeal.Facts] : Prop :=
  ∀ (m : (ℓ : Loc Cert.SpatialIdeal.nD Cert.SpatialIdeal.τ Cert.SpatialIdeal.sig) → Buf (Elt Ideal) ℓ) (g : Dev Cert.SpatialIdeal.nD → PrngReg)
    (m' : (ℓ : Loc Cert.RefSpatialIdeal.nD Cert.RefSpatialIdeal.τ Cert.RefSpatialIdeal.sig) → Buf (Elt Ideal) ℓ) (g' : Dev Cert.RefSpatialIdeal.nD → PrngReg), Pre_SpatialIdeal m →
    (∀ c : Dev Cert.SpatialIdeal.nD,
      m' ((c.tc : Thread Cert.RefSpatialIdeal.nD Cert.RefSpatialIdeal.τ).loc Cert.RefSpatialIdeal.main_arg0) = m ((c.tc : Thread Cert.SpatialIdeal.nD Cert.SpatialIdeal.τ).loc Cert.SpatialIdeal.main_arg0)) →
    ∃ (v0 : (c : Dev Cert.SpatialIdeal.nD) → Buf (Elt Ideal) ((c.tc : Thread Cert.SpatialIdeal.nD Cert.SpatialIdeal.τ).loc Cert.SpatialIdeal.main_v0_0)) (v1 : (c : Dev Cert.SpatialIdeal.nD) → Buf (Elt Ideal) ((c.tc : Thread Cert.SpatialIdeal.nD Cert.SpatialIdeal.τ).loc Cert.SpatialIdeal.main_v0_1)),
      θ_run (Cert.SpatialIdeal.defs (F := Ideal)) (onTc (τ := Cert.SpatialIdeal.τ) (Cert.SpatialIdeal.main (F := Ideal))) ⟨m, fun _ => 0, g⟩ (fun r => ∀ c : Dev Cert.SpatialIdeal.nD,
          r.2.mem ((c.tc : Thread Cert.SpatialIdeal.nD Cert.SpatialIdeal.τ).loc Cert.SpatialIdeal.main_v0_0) = v0 c
          ∧ r.2.mem ((c.tc : Thread Cert.SpatialIdeal.nD Cert.SpatialIdeal.τ).loc Cert.SpatialIdeal.main_v0_1) = v1 c
          ∧ r.2.mem ((c.tc : Thread Cert.SpatialIdeal.nD Cert.SpatialIdeal.τ).loc Cert.SpatialIdeal.main_arg0) = m ((c.tc : Thread Cert.SpatialIdeal.nD Cert.SpatialIdeal.τ).loc Cert.SpatialIdeal.main_arg0))
      ∧ θ_run (Cert.RefSpatialIdeal.defs (F := Ideal)) (onTc (τ := Cert.RefSpatialIdeal.τ) (Cert.RefSpatialIdeal.main (F := Ideal))) ⟨m', fun _ => 0, g'⟩ (fun r => ∀ c : Dev Cert.RefSpatialIdeal.nD,
          r.2.mem ((c.tc : Thread Cert.RefSpatialIdeal.nD Cert.RefSpatialIdeal.τ).loc Cert.RefSpatialIdeal.main_v21_0) = v0 c
          ∧ r.2.mem ((c.tc : Thread Cert.RefSpatialIdeal.nD Cert.RefSpatialIdeal.τ).loc Cert.RefSpatialIdeal.main_v21_1) = v1 c
          ∧ r.2.mem ((c.tc : Thread Cert.RefSpatialIdeal.nD Cert.RefSpatialIdeal.τ).loc Cert.RefSpatialIdeal.main_arg0) = m' ((c.tc : Thread Cert.RefSpatialIdeal.nD Cert.RefSpatialIdeal.τ).loc Cert.RefSpatialIdeal.main_arg0))

def Claim : Prop :=
  ∃ (hFc2 : Cert.Fc2.Facts) (hFc2Ideal : Cert.Fc2Ideal.Facts) (hRefFc2Ideal : Cert.RefFc2Ideal.Facts) (hQkvS : Cert.QkvS.Facts) (hQkvSIdeal : Cert.QkvSIdeal.Facts) (hRefQkvSIdeal : Cert.RefQkvSIdeal.Facts) (hQkvTQ : Cert.QkvTQ.Facts) (hQkvTQIdeal : Cert.QkvTQIdeal.Facts) (hRefQkvTQIdeal : Cert.RefQkvTQIdeal.Facts) (hQkvTKv : Cert.QkvTKv.Facts) (hQkvTKvIdeal : Cert.QkvTKvIdeal.Facts) (hRefQkvTKvIdeal : Cert.RefQkvTKvIdeal.Facts) (hLn1 : Cert.Ln1.Facts) (hLn1Ideal : Cert.Ln1Ideal.Facts) (hRefLn1Ideal : Cert.RefLn1Ideal.Facts) (hOprojT : Cert.OprojT.Facts) (hOprojTIdeal : Cert.OprojTIdeal.Facts) (hRefOprojTIdeal : Cert.RefOprojTIdeal.Facts) (hFc1 : Cert.Fc1.Facts) (hFc1Ideal : Cert.Fc1Ideal.Facts) (hRefFc1Ideal : Cert.RefFc1Ideal.Facts) (hOprojS : Cert.OprojS.Facts) (hOprojSIdeal : Cert.OprojSIdeal.Facts) (hRefOprojSIdeal : Cert.RefOprojSIdeal.Facts) (hSpatial : Cert.Spatial.Facts) (hSpatialIdeal : Cert.SpatialIdeal.Facts) (hRefSpatialIdeal : Cert.RefSpatialIdeal.Facts) (hPre_ids_ok : Cert.Pre_ids_ok.Facts),
    quiescent_Fc2 (hFc2 := hFc2)
    ∧ quiescent_Fc2Ideal (hFc2Ideal := hFc2Ideal)
    ∧ quiescent_RefFc2Ideal (hRefFc2Ideal := hRefFc2Ideal)
    ∧ quiescent_QkvS (hQkvS := hQkvS)
    ∧ quiescent_QkvSIdeal (hQkvSIdeal := hQkvSIdeal)
    ∧ quiescent_RefQkvSIdeal (hRefQkvSIdeal := hRefQkvSIdeal)
    ∧ quiescent_QkvTQ (hQkvTQ := hQkvTQ)
    ∧ quiescent_QkvTQIdeal (hQkvTQIdeal := hQkvTQIdeal)
    ∧ quiescent_RefQkvTQIdeal (hRefQkvTQIdeal := hRefQkvTQIdeal)
    ∧ quiescent_QkvTKv (hQkvTKv := hQkvTKv)
    ∧ quiescent_QkvTKvIdeal (hQkvTKvIdeal := hQkvTKvIdeal)
    ∧ quiescent_RefQkvTKvIdeal (hRefQkvTKvIdeal := hRefQkvTKvIdeal)
    ∧ quiescent_Ln1 (hLn1 := hLn1)
    ∧ quiescent_Ln1Ideal (hLn1Ideal := hLn1Ideal)
    ∧ quiescent_RefLn1Ideal (hRefLn1Ideal := hRefLn1Ideal)
    ∧ quiescent_OprojT (hOprojT := hOprojT)
    ∧ quiescent_OprojTIdeal (hOprojTIdeal := hOprojTIdeal)
    ∧ quiescent_RefOprojTIdeal (hRefOprojTIdeal := hRefOprojTIdeal)
    ∧ quiescent_Fc1 (hFc1 := hFc1)
    ∧ quiescent_Fc1Ideal (hFc1Ideal := hFc1Ideal)
    ∧ quiescent_RefFc1Ideal (hRefFc1Ideal := hRefFc1Ideal)
    ∧ quiescent_OprojS (hOprojS := hOprojS) (hPre_ids_ok := hPre_ids_ok)
    ∧ quiescent_OprojSIdeal (hOprojSIdeal := hOprojSIdeal) (hPre_ids_ok := hPre_ids_ok)
    ∧ quiescent_RefOprojSIdeal (hRefOprojSIdeal := hRefOprojSIdeal) (hPre_ids_ok := hPre_ids_ok)
    ∧ quiescent_Spatial (hSpatial := hSpatial)
    ∧ quiescent_SpatialIdeal (hSpatialIdeal := hSpatialIdeal)
    ∧ quiescent_RefSpatialIdeal (hRefSpatialIdeal := hRefSpatialIdeal)
    ∧ preserves_Fc2_Fc2Ideal
    ∧ algebraic_Fc2Ideal_RefFc2Ideal (hFc2Ideal := hFc2Ideal) (hRefFc2Ideal := hRefFc2Ideal)
    ∧ preserves_QkvS_QkvSIdeal
    ∧ algebraic_QkvSIdeal_RefQkvSIdeal (hQkvSIdeal := hQkvSIdeal) (hRefQkvSIdeal := hRefQkvSIdeal)
    ∧ preserves_QkvTQ_QkvTQIdeal
    ∧ algebraic_QkvTQIdeal_RefQkvTQIdeal (hQkvTQIdeal := hQkvTQIdeal) (hRefQkvTQIdeal := hRefQkvTQIdeal)
    ∧ preserves_QkvTKv_QkvTKvIdeal
    ∧ algebraic_QkvTKvIdeal_RefQkvTKvIdeal (hQkvTKvIdeal := hQkvTKvIdeal) (hRefQkvTKvIdeal := hRefQkvTKvIdeal)
    ∧ preserves_Ln1_Ln1Ideal
    ∧ algebraic_Ln1Ideal_RefLn1Ideal (hLn1Ideal := hLn1Ideal) (hRefLn1Ideal := hRefLn1Ideal)
    ∧ preserves_OprojT_OprojTIdeal
    ∧ algebraic_OprojTIdeal_RefOprojTIdeal (hOprojTIdeal := hOprojTIdeal) (hRefOprojTIdeal := hRefOprojTIdeal)
    ∧ preserves_Fc1_Fc1Ideal
    ∧ algebraic_Fc1Ideal_RefFc1Ideal (hFc1Ideal := hFc1Ideal) (hRefFc1Ideal := hRefFc1Ideal)
    ∧ preserves_OprojS_OprojSIdeal
    ∧ algebraic_OprojSIdeal_RefOprojSIdeal (hOprojSIdeal := hOprojSIdeal) (hRefOprojSIdeal := hRefOprojSIdeal) (hPre_ids_ok := hPre_ids_ok)
    ∧ preserves_Spatial_SpatialIdeal
    ∧ algebraic_SpatialIdeal_RefSpatialIdeal (hSpatialIdeal := hSpatialIdeal) (hRefSpatialIdeal := hRefSpatialIdeal)
-- ==== Pre_ids_ok.lean ====
abbrev S6 : Shape := ⟨1, ![6]⟩
abbrev S5520x5120 : Shape := ⟨2, ![5520, 5120]⟩
abbrev S5520x1 : Shape := ⟨2, ![5520, 1]⟩
abbrev S5120x5120 : Shape := ⟨2, ![5120, 5120]⟩
abbrev S1x5120 : Shape := ⟨2, ![1, 5120]⟩
abbrev S8x5120 : Shape := ⟨2, ![8, 5120]⟩
abbrev S_ : Shape := ⟨0, ![]⟩

class Facts : Prop where
  bcast_S_S6 : S_.BroadcastsInDim S6 (![] : Fin 0 → Fin S6.rank)

variable [Facts]

def fn {F : FTy → Type} [FloatOps F] (main_arg0 : IVec S6 32) (main_arg1 : FVec F S5520x5120 .fp8e4m3) (main_arg2 : FVec F S5520x1 .f32) (main_arg3 : FVec F S5120x5120 .fp8e4m3) (main_arg4 : FVec F S1x5120 .f32) (main_arg5 : FVec F S5520x5120 .bf16) (main_arg6 : FVec F S1x5120 .f32) (main_arg7 : FVec F S1x5120 .f32) (main_arg8 : FVec F S8x5120 .f32) : IVec S6 1 :=
  let main_c : IVec S_ 32 := constantI S_ 32 0#32
  let main_v0 : IVec S6 32 := broadcastInDim S6 ![] bcast_S_S6 main_c
  let main_v1 : IVec S6 1 := cmpi .sge main_arg0 main_v0
  let main_c_0 : IVec S_ 32 := constantI S_ 32 8#32
  let main_v2 : IVec S6 32 := broadcastInDim S6 ![] bcast_S_S6 main_c_0
  let main_v3 : IVec S6 1 := cmpi .slt main_arg0 main_v2
  let main_v4 : IVec S6 1 := andi main_v1 main_v3
  main_v4
-- ==== Fc2.lean ====
abbrev S5520x20480 : Shape := ⟨2, ![5520, 20480]⟩
abbrev S5520x1 : Shape := ⟨2, ![5520, 1]⟩
abbrev S20480x5120 : Shape := ⟨2, ![20480, 5120]⟩
abbrev S1x5120 : Shape := ⟨2, ![1, 5120]⟩
abbrev S5520x5120 : Shape := ⟨2, ![5520, 5120]⟩
abbrev S920x20480 : Shape := ⟨2, ![920, 20480]⟩
abbrev S920x1 : Shape := ⟨2, ![920, 1]⟩
abbrev S20480x256 : Shape := ⟨2, ![20480, 256]⟩
abbrev S1x256 : Shape := ⟨2, ![1, 256]⟩
abbrev S920x256 : Shape := ⟨2, ![920, 256]⟩

abbrev nBuf : Space → Nat
  | .hbm => 7
  | .vmem => 14
  | .smem => 0
  | _ => 0

abbrev bufTy : (tb : Table) → Fin (tcTables nBuf tb) → BufTy
  | .hbm, ⟨0, _⟩ => ⟨S5520x20480, .fp8e4m3⟩
  | .hbm, ⟨1, _⟩ => ⟨S5520x1, .f32⟩
  | .hbm, ⟨2, _⟩ => ⟨S20480x5120, .fp8e4m3⟩
  | .hbm, ⟨3, _⟩ => ⟨S1x5120, .f32⟩
  | .hbm, ⟨4, _⟩ => ⟨S1x5120, .f32⟩
  | .hbm, ⟨5, _⟩ => ⟨S5520x5120, .f32⟩
  | .hbm, ⟨6, _⟩ => ⟨S5520x5120, .bf16⟩
  | .local _ .vmem, ⟨0, _⟩ => ⟨S920x20480, .fp8e4m3⟩
  | .local _ .vmem, ⟨1, _⟩ => ⟨S920x20480, .fp8e4m3⟩
  | .local _ .vmem, ⟨2, _⟩ => ⟨S920x1, .f32⟩
  | .local _ .vmem, ⟨3, _⟩ => ⟨S920x1, .f32⟩
  | .local _ .vmem, ⟨4, _⟩ => ⟨S20480x256, .fp8e4m3⟩
  | .local _ .vmem, ⟨5, _⟩ => ⟨S20480x256, .fp8e4m3⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S920x256, .f32⟩
  | .local _ .vmem, ⟨11, _⟩ => ⟨S920x256, .f32⟩
  | .local _ .vmem, ⟨12, _⟩ => ⟨S920x256, .bf16⟩
  | .local _ .vmem, ⟨13, _⟩ => ⟨S920x256, .bf16⟩
  | _, _ => ⟨S5520x20480, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![6, 20], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S920x20480 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S920x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S20480x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S920x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S920x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RefFc2Ideal.lean ====
abbrev S5520x20480 : Shape := ⟨2, ![5520, 20480]⟩
abbrev S5520x1 : Shape := ⟨2, ![5520, 1]⟩
abbrev S20480x5120 : Shape := ⟨2, ![20480, 5120]⟩
abbrev S1x5120 : Shape := ⟨2, ![1, 5120]⟩
abbrev S5520x5120 : Shape := ⟨2, ![5520, 5120]⟩

abbrev nBuf : Space → Nat
  | .hbm => 7
  | .vmem => 7
  | .smem => 0
  | _ => 0

abbrev bufTy : (tb : Table) → Fin (tcTables nBuf tb) → BufTy
  | .hbm, ⟨0, _⟩ => ⟨S5520x20480, .fp8e4m3⟩
  | .hbm, ⟨1, _⟩ => ⟨S5520x1, .f32⟩
  | .hbm, ⟨2, _⟩ => ⟨S20480x5120, .fp8e4m3⟩
  | .hbm, ⟨3, _⟩ => ⟨S1x5120, .f32⟩
  | .hbm, ⟨4, _⟩ => ⟨S1x5120, .f32⟩
  | .hbm, ⟨5, _⟩ => ⟨S5520x5120, .f32⟩
  | .hbm, ⟨6, _⟩ => ⟨S5520x5120, .bf16⟩
  | .local _ .vmem, ⟨0, _⟩ => ⟨S5520x20480, .fp8e4m3⟩
  | .local _ .vmem, ⟨1, _⟩ => ⟨S5520x1, .f32⟩
  | .local _ .vmem, ⟨2, _⟩ => ⟨S20480x5120, .fp8e4m3⟩
  | .local _ .vmem, ⟨3, _⟩ => ⟨S1x5120, .f32⟩
  | .local _ .vmem, ⟨4, _⟩ => ⟨S1x5120, .f32⟩
  | .local _ .vmem, ⟨5, _⟩ => ⟨S5520x5120, .f32⟩
  | .local _ .vmem, ⟨6, _⟩ => ⟨S5520x5120, .bf16⟩
  | _, _ => ⟨S5520x20480, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S5520x20480 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5520x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S20480x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5520x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5520x5120 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== QkvS.lean ====
abbrev S5520x5120 : Shape := ⟨2, ![5520, 5120]⟩
abbrev S5520x1 : Shape := ⟨2, ![5520, 1]⟩
abbrev S5120x15360 : Shape := ⟨2, ![5120, 15360]⟩
abbrev S1x15360 : Shape := ⟨2, ![1, 15360]⟩
abbrev S120x6x920x128 : Shape := ⟨4, ![120, 6, 920, 128]⟩
abbrev S920x5120 : Shape := ⟨2, ![920, 5120]⟩
abbrev S920x1 : Shape := ⟨2, ![920, 1]⟩
abbrev S5120x1024 : Shape := ⟨2, ![5120, 1024]⟩
abbrev S1x1024 : Shape := ⟨2, ![1, 1024]⟩
abbrev S8x1x920x128 : Shape := ⟨4, ![8, 1, 920, 128]⟩
abbrev S920x1024 : Shape := ⟨2, ![920, 1024]⟩
abbrev S920x128 : Shape := ⟨2, ![920, 128]⟩
abbrev S1x1x920x128 : Shape := ⟨4, ![1, 1, 920, 128]⟩

abbrev nBuf : Space → Nat
  | .hbm => 5
  | .vmem => 10
  | .smem => 0
  | _ => 0

abbrev bufTy : (tb : Table) → Fin (tcTables nBuf tb) → BufTy
  | .hbm, ⟨0, _⟩ => ⟨S5520x5120, .fp8e4m3⟩
  | .hbm, ⟨1, _⟩ => ⟨S5520x1, .f32⟩
  | .hbm, ⟨2, _⟩ => ⟨S5120x15360, .fp8e4m3⟩
  | .hbm, ⟨3, _⟩ => ⟨S1x15360, .f32⟩
  | .hbm, ⟨4, _⟩ => ⟨S120x6x920x128, .bf16⟩
  | .local _ .vmem, ⟨0, _⟩ => ⟨S920x5120, .fp8e4m3⟩
  | .local _ .vmem, ⟨1, _⟩ => ⟨S920x5120, .fp8e4m3⟩
  | .local _ .vmem, ⟨2, _⟩ => ⟨S920x1, .f32⟩
  | .local _ .vmem, ⟨3, _⟩ => ⟨S920x1, .f32⟩
  | .local _ .vmem, ⟨4, _⟩ => ⟨S5120x1024, .fp8e4m3⟩
  | .local _ .vmem, ⟨5, _⟩ => ⟨S5120x1024, .fp8e4m3⟩
  | .local _ .vmem, ⟨6, _⟩ => ⟨S1x1024, .f32⟩
  | .local _ .vmem, ⟨7, _⟩ => ⟨S1x1024, .f32⟩
  | .local _ .vmem, ⟨8, _⟩ => ⟨S8x1x920x128, .bf16⟩
  | .local _ .vmem, ⟨9, _⟩ => ⟨S8x1x920x128, .bf16⟩
  | _, _ => ⟨S5520x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![15, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S920x5120 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S920x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S5120x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x1x920x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RefQkvSIdeal.lean ====
abbrev S5520x5120 : Shape := ⟨2, ![5520, 5120]⟩
abbrev S5520x1 : Shape := ⟨2, ![5520, 1]⟩
abbrev S5120x15360 : Shape := ⟨2, ![5120, 15360]⟩
abbrev S1x15360 : Shape := ⟨2, ![1, 15360]⟩
abbrev S5520x15360 : Shape := ⟨2, ![5520, 15360]⟩
abbrev S6x920x120x128 : Shape := ⟨4, ![6, 920, 120, 128]⟩
abbrev S120x6x920x128 : Shape := ⟨4, ![120, 6, 920, 128]⟩

abbrev nBuf : Space → Nat
  | .hbm => 7
  | .vmem => 5
  | .smem => 0
  | _ => 0

abbrev bufTy : (tb : Table) → Fin (tcTables nBuf tb) → BufTy
  | .hbm, ⟨0, _⟩ => ⟨S5520x5120, .fp8e4m3⟩
  | .hbm, ⟨1, _⟩ => ⟨S5520x1, .f32⟩
  | .hbm, ⟨2, _⟩ => ⟨S5120x15360, .fp8e4m3⟩
  | .hbm, ⟨3, _⟩ => ⟨S1x15360, .f32⟩
  | .hbm, ⟨4, _⟩ => ⟨S5520x15360, .bf16⟩
  | .hbm, ⟨5, _⟩ => ⟨S6x920x120x128, .bf16⟩
  | .hbm, ⟨6, _⟩ => ⟨S120x6x920x128, .bf16⟩
  | .local _ .vmem, ⟨0, _⟩ => ⟨S5520x5120, .fp8e4m3⟩
  | .local _ .vmem, ⟨1, _⟩ => ⟨S5520x1, .f32⟩
  | .local _ .vmem, ⟨2, _⟩ => ⟨S5120x15360, .fp8e4m3⟩
  | .local _ .vmem, ⟨3, _⟩ => ⟨S1x15360, .f32⟩
  | .local _ .vmem, ⟨4, _⟩ => ⟨S5520x15360, .bf16⟩
  | _, _ => ⟨S5520x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S5520x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5520x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x15360 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x15360 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5520x15360 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== QkvTQ.lean ====
abbrev S5520x5120 : Shape := ⟨2, ![5520, 5120]⟩
abbrev S5520x1 : Shape := ⟨2, ![5520, 1]⟩
abbrev S5120x15360 : Shape := ⟨2, ![5120, 15360]⟩
abbrev S1x15360 : Shape := ⟨2, ![1, 15360]⟩
abbrev S40x6x920x128 : Shape := ⟨4, ![40, 6, 920, 128]⟩
abbrev S920x5120 : Shape := ⟨2, ![920, 5120]⟩
abbrev S920x1 : Shape := ⟨2, ![920, 1]⟩
abbrev S5120x1024 : Shape := ⟨2, ![5120, 1024]⟩
abbrev S1x1024 : Shape := ⟨2, ![1, 1024]⟩
abbrev S8x1x920x128 : Shape := ⟨4, ![8, 1, 920, 128]⟩
abbrev S920x1024 : Shape := ⟨2, ![920, 1024]⟩
abbrev S920x128 : Shape := ⟨2, ![920, 128]⟩
abbrev S1x1x920x128 : Shape := ⟨4, ![1, 1, 920, 128]⟩

abbrev nBuf : Space → Nat
  | .hbm => 5
  | .vmem => 10
  | .smem => 0
  | _ => 0

abbrev bufTy : (tb : Table) → Fin (tcTables nBuf tb) → BufTy
  | .hbm, ⟨0, _⟩ => ⟨S5520x5120, .fp8e4m3⟩
  | .hbm, ⟨1, _⟩ => ⟨S5520x1, .f32⟩
  | .hbm, ⟨2, _⟩ => ⟨S5120x15360, .fp8e4m3⟩
  | .hbm, ⟨3, _⟩ => ⟨S1x15360, .f32⟩
  | .hbm, ⟨4, _⟩ => ⟨S40x6x920x128, .f32⟩
  | .local _ .vmem, ⟨0, _⟩ => ⟨S920x5120, .fp8e4m3⟩
  | .local _ .vmem, ⟨1, _⟩ => ⟨S920x5120, .fp8e4m3⟩
  | .local _ .vmem, ⟨2, _⟩ => ⟨S920x1, .f32⟩
  | .local _ .vmem, ⟨3, _⟩ => ⟨S920x1, .f32⟩
  | .local _ .vmem, ⟨4, _⟩ => ⟨S5120x1024, .fp8e4m3⟩
  | .local _ .vmem, ⟨5, _⟩ => ⟨S5120x1024, .fp8e4m3⟩
  | .local _ .vmem, ⟨6, _⟩ => ⟨S1x1024, .f32⟩
  | .local _ .vmem, ⟨7, _⟩ => ⟨S1x1024, .f32⟩
  | .local _ .vmem, ⟨8, _⟩ => ⟨S8x1x920x128, .f32⟩
  | .local _ .vmem, ⟨9, _⟩ => ⟨S8x1x920x128, .f32⟩
  | _, _ => ⟨S5520x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![5, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S920x5120 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S920x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S5120x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x1x920x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RefQkvTQIdeal.lean ====
abbrev S5520x5120 : Shape := ⟨2, ![5520, 5120]⟩
abbrev S5520x1 : Shape := ⟨2, ![5520, 1]⟩
abbrev S5120x15360 : Shape := ⟨2, ![5120, 15360]⟩
abbrev S1x15360 : Shape := ⟨2, ![1, 15360]⟩
abbrev S5520x15360 : Shape := ⟨2, ![5520, 15360]⟩
abbrev S6x920x40x128 : Shape := ⟨4, ![6, 920, 40, 128]⟩
abbrev S40x6x920x128 : Shape := ⟨4, ![40, 6, 920, 128]⟩

abbrev nBuf : Space → Nat
  | .hbm => 7
  | .vmem => 5
  | .smem => 0
  | _ => 0

abbrev bufTy : (tb : Table) → Fin (tcTables nBuf tb) → BufTy
  | .hbm, ⟨0, _⟩ => ⟨S5520x5120, .fp8e4m3⟩
  | .hbm, ⟨1, _⟩ => ⟨S5520x1, .f32⟩
  | .hbm, ⟨2, _⟩ => ⟨S5120x15360, .fp8e4m3⟩
  | .hbm, ⟨3, _⟩ => ⟨S1x15360, .f32⟩
  | .hbm, ⟨4, _⟩ => ⟨S5520x5120, .f32⟩
  | .hbm, ⟨5, _⟩ => ⟨S6x920x40x128, .f32⟩
  | .hbm, ⟨6, _⟩ => ⟨S40x6x920x128, .f32⟩
  | .local _ .vmem, ⟨0, _⟩ => ⟨S5520x5120, .fp8e4m3⟩
  | .local _ .vmem, ⟨1, _⟩ => ⟨S5520x1, .f32⟩
  | .local _ .vmem, ⟨2, _⟩ => ⟨S5120x15360, .fp8e4m3⟩
  | .local _ .vmem, ⟨3, _⟩ => ⟨S1x15360, .f32⟩
  | .local _ .vmem, ⟨4, _⟩ => ⟨S5520x5120, .f32⟩
  | _, _ => ⟨S5520x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S5520x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5520x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x15360 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x15360 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5520x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== QkvTKv.lean ====
abbrev S5520x5120 : Shape := ⟨2, ![5520, 5120]⟩
abbrev S5520x1 : Shape := ⟨2, ![5520, 1]⟩
abbrev S5120x15360 : Shape := ⟨2, ![5120, 15360]⟩
abbrev S1x15360 : Shape := ⟨2, ![1, 15360]⟩
abbrev S80x6x920x128 : Shape := ⟨4, ![80, 6, 920, 128]⟩
abbrev S2x5520x5120 : Shape := ⟨3, ![2, 5520, 5120]⟩
abbrev S10x6x920x128 : Shape := ⟨4, ![10, 6, 920, 128]⟩
abbrev S920x5120 : Shape := ⟨2, ![920, 5120]⟩
abbrev S920x1 : Shape := ⟨2, ![920, 1]⟩
abbrev S5120x1024 : Shape := ⟨2, ![5120, 1024]⟩
abbrev S1x1024 : Shape := ⟨2, ![1, 1024]⟩
abbrev S8x1x920x128 : Shape := ⟨4, ![8, 1, 920, 128]⟩
abbrev S1x920x1024 : Shape := ⟨3, ![1, 920, 1024]⟩
abbrev S1x1x920x128 : Shape := ⟨4, ![1, 1, 920, 128]⟩
abbrev S920x1024 : Shape := ⟨2, ![920, 1024]⟩
abbrev S920x128 : Shape := ⟨2, ![920, 128]⟩
abbrev S920 : Shape := ⟨1, ![920]⟩
abbrev S1x920x128 : Shape := ⟨3, ![1, 920, 128]⟩

abbrev nBuf : Space → Nat
  | .hbm => 7
  | .vmem => 14
  | .smem => 0
  | _ => 0

abbrev bufTy : (tb : Table) → Fin (tcTables nBuf tb) → BufTy
  | .hbm, ⟨0, _⟩ => ⟨S5520x5120, .fp8e4m3⟩
  | .hbm, ⟨1, _⟩ => ⟨S5520x1, .f32⟩
  | .hbm, ⟨2, _⟩ => ⟨S5120x15360, .fp8e4m3⟩
  | .hbm, ⟨3, _⟩ => ⟨S1x15360, .f32⟩
  | .hbm, ⟨4, _⟩ => ⟨S80x6x920x128, .bf16⟩
  | .hbm, ⟨5, _⟩ => ⟨S2x5520x5120, .i8⟩
  | .hbm, ⟨6, _⟩ => ⟨S10x6x920x128, .f32⟩
  | .local _ .vmem, ⟨0, _⟩ => ⟨S920x5120, .fp8e4m3⟩
  | .local _ .vmem, ⟨1, _⟩ => ⟨S920x5120, .fp8e4m3⟩
  | .local _ .vmem, ⟨2, _⟩ => ⟨S920x1, .f32⟩
  | .local _ .vmem, ⟨3, _⟩ => ⟨S920x1, .f32⟩
  | .local _ .vmem, ⟨4, _⟩ => ⟨S5120x1024, .fp8e4m3⟩
  | .local _ .vmem, ⟨5, _⟩ => ⟨S5120x1024, .fp8e4m3⟩
  | .local _ .vmem, ⟨6, _⟩ => ⟨S1x1024, .f32⟩
  | .local _ .vmem, ⟨7, _⟩ => ⟨S1x1024, .f32⟩
  | .local _ .vmem, ⟨8, _⟩ => ⟨S8x1x920x128, .bf16⟩
  | .local _ .vmem, ⟨9, _⟩ => ⟨S8x1x920x128, .bf16⟩
  | .local _ .vmem, ⟨10, _⟩ => ⟨S1x920x1024, .i8⟩
  | .local _ .vmem, ⟨11, _⟩ => ⟨S1x920x1024, .i8⟩
  | .local _ .vmem, ⟨12, _⟩ => ⟨S1x1x920x128, .f32⟩
  | .local _ .vmem, ⟨13, _⟩ => ⟨S1x1x920x128, .f32⟩
  | _, _ => ⟨S5520x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![10, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi arg0 c5_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi arg0 c5_i32
  let c0_i32 : BitVec 32 := 0#32
  let c0_i32_0 : BitVec 32 := 0#32
  ![c0_i32.toNat, v0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.divsi arg0 c5_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg0 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c5_i32_4 : BitVec 32 := 5#32
  let c0_i32_5 : BitVec 32 := 0#32
  let v17 : BitVec 1 := Scalar.cmpi .eq c5_i32_4 c0_i32_5
  let c1_i32_6 : BitVec 32 := 1#32
  let v18 : BitVec 32 := Scalar.select v17 c1_i32_6 c5_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S920x5120 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S920x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S5120x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x1x920x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x920x1024 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x920x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RefQkvTKvIdeal.lean ====
abbrev S5520x5120 : Shape := ⟨2, ![5520, 5120]⟩
abbrev S5520x1 : Shape := ⟨2, ![5520, 1]⟩
abbrev S5120x15360 : Shape := ⟨2, ![5120, 15360]⟩
abbrev S1x15360 : Shape := ⟨2, ![1, 15360]⟩
abbrev S5520x80x128 : Shape := ⟨3, ![5520, 80, 128]⟩
abbrev S5520x80x1 : Shape := ⟨3, ![5520, 80, 1]⟩
abbrev S5520x15360 : Shape := ⟨2, ![5520, 15360]⟩
abbrev S5520x10240 : Shape := ⟨2, ![5520, 10240]⟩
abbrev S5520x80 : Shape := ⟨2, ![5520, 80]⟩
abbrev S6x920x80x128 : Shape := ⟨4, ![6, 920, 80, 128]⟩
abbrev S80x6x920x128 : Shape := ⟨4, ![80, 6, 920, 128]⟩
abbrev S5520x2x5120 : Shape := ⟨3, ![5520, 2, 5120]⟩
abbrev S2x5520x5120 : Shape := ⟨3, ![2, 5520, 5120]⟩
abbrev S6x920x10x8 : Shape := ⟨4, ![6, 920, 10, 8]⟩
abbrev S10x6x920x8 : Shape := ⟨4, ![10, 6, 920, 8]⟩
abbrev S_ : Shape := ⟨0, ![]⟩
abbrev S10x6x920x128 : Shape := ⟨4, ![10, 6, 920, 128]⟩

abbrev nBuf : Space → Nat
  | .hbm => 15
  | .vmem => 7
  | .smem => 0
  | _ => 0

abbrev bufTy : (tb : Table) → Fin (tcTables nBuf tb) → BufTy
  | .hbm, ⟨0, _⟩ => ⟨S5520x5120, .fp8e4m3⟩
  | .hbm, ⟨1, _⟩ => ⟨S5520x1, .f32⟩
  | .hbm, ⟨2, _⟩ => ⟨S5120x15360, .fp8e4m3⟩
  | .hbm, ⟨3, _⟩ => ⟨S1x15360, .f32⟩
  | .hbm, ⟨4, _⟩ => ⟨S5520x80x128, .bf16⟩
  | .hbm, ⟨5, _⟩ => ⟨S5520x80x128, .i8⟩
  | .hbm, ⟨6, _⟩ => ⟨S5520x80x1, .f32⟩
  | .hbm, ⟨7, _⟩ => ⟨S6x920x80x128, .bf16⟩
  | .hbm, ⟨8, _⟩ => ⟨S80x6x920x128, .bf16⟩
  | .hbm, ⟨9, _⟩ => ⟨S5520x2x5120, .i8⟩
  | .hbm, ⟨10, _⟩ => ⟨S2x5520x5120, .i8⟩
  | .hbm, ⟨11, _⟩ => ⟨S6x920x10x8, .f32⟩
  | .hbm, ⟨12, _⟩ => ⟨S10x6x920x8, .f32⟩
  | .hbm, ⟨13, _⟩ => ⟨S_, .f32⟩
  | .hbm, ⟨14, _⟩ => ⟨S10x6x920x128, .f32⟩
  | .local _ .vmem, ⟨0, _⟩ => ⟨S5520x5120, .fp8e4m3⟩
  | .local _ .vmem, ⟨1, _⟩ => ⟨S5520x1, .f32⟩
  | .local _ .vmem, ⟨2, _⟩ => ⟨S5120x15360, .fp8e4m3⟩
  | .local _ .vmem, ⟨3, _⟩ => ⟨S1x15360, .f32⟩
  | .local _ .vmem, ⟨4, _⟩ => ⟨S5520x80x128, .bf16⟩
  | .local _ .vmem, ⟨5, _⟩ => ⟨S5520x80x128, .i8⟩
  | .local _ .vmem, ⟨6, _⟩ => ⟨S5520x80x1, .f32⟩
  | _, _ => ⟨S5520x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S5520x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5520x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x15360 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x15360 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5520x80x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5520x80x128 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5520x80x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Ln1.lean ====
abbrev S5520x5120 : Shape := ⟨2, ![5520, 5120]⟩
abbrev S1x5120 : Shape := ⟨2, ![1, 5120]⟩
abbrev S5520x1 : Shape := ⟨2, ![5520, 1]⟩
abbrev S184x5120 : Shape := ⟨2, ![184, 5120]⟩
abbrev S184x1 : Shape := ⟨2, ![184, 1]⟩
abbrev S184 : Shape := ⟨1, ![184]⟩

abbrev nBuf : Space → Nat
  | .hbm => 5
  | .vmem => 8
  | .smem => 0
  | _ => 0

abbrev bufTy : (tb : Table) → Fin (tcTables nBuf tb) → BufTy
  | .hbm, ⟨0, _⟩ => ⟨S5520x5120, .bf16⟩
  | .hbm, ⟨1, _⟩ => ⟨S1x5120, .f32⟩
  | .hbm, ⟨2, _⟩ => ⟨S1x5120, .f32⟩
  | .hbm, ⟨3, _⟩ => ⟨S5520x5120, .fp8e4m3⟩
  | .hbm, ⟨4, _⟩ => ⟨S5520x1, .f32⟩
  | .local _ .vmem, ⟨0, _⟩ => ⟨S184x5120, .bf16⟩
  | .local _ .vmem, ⟨1, _⟩ => ⟨S184x5120, .bf16⟩
  | .local _ .vmem, ⟨2, _⟩ => ⟨S1x5120, .f32⟩
  | .local _ .vmem, ⟨3, _⟩ => ⟨S1x5120, .f32⟩
  | .local _ .vmem, ⟨4, _⟩ => ⟨S184x5120, .fp8e4m3⟩
  | .local _ .vmem, ⟨5, _⟩ => ⟨S184x5120, .fp8e4m3⟩
  | .local _ .vmem, ⟨6, _⟩ => ⟨S184x1, .f32⟩
  | .local _ .vmem, ⟨7, _⟩ => ⟨S184x1, .f32⟩
  | _, _ => ⟨S5520x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S184x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S184x5120 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S184x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefLn1Ideal.lean ====
abbrev S5520x5120 : Shape := ⟨2, ![5520, 5120]⟩
abbrev S1x5120 : Shape := ⟨2, ![1, 5120]⟩
abbrev S5520x1 : Shape := ⟨2, ![5520, 1]⟩
abbrev S5520 : Shape := ⟨1, ![5520]⟩

abbrev nBuf : Space → Nat
  | .hbm => 5
  | .vmem => 5
  | .smem => 0
  | _ => 0

abbrev bufTy : (tb : Table) → Fin (tcTables nBuf tb) → BufTy
  | .hbm, ⟨0, _⟩ => ⟨S5520x5120, .bf16⟩
  | .hbm, ⟨1, _⟩ => ⟨S1x5120, .f32⟩
  | .hbm, ⟨2, _⟩ => ⟨S1x5120, .f32⟩
  | .hbm, ⟨3, _⟩ => ⟨S5520x5120, .fp8e4m3⟩
  | .hbm, ⟨4, _⟩ => ⟨S5520x1, .f32⟩
  | .local _ .vmem, ⟨0, _⟩ => ⟨S5520x5120, .bf16⟩
  | .local _ .vmem, ⟨1, _⟩ => ⟨S1x5120, .f32⟩
  | .local _ .vmem, ⟨2, _⟩ => ⟨S1x5120, .f32⟩
  | .local _ .vmem, ⟨3, _⟩ => ⟨S5520x5120, .fp8e4m3⟩
  | .local _ .vmem, ⟨4, _⟩ => ⟨S5520x1, .f32⟩
  | _, _ => ⟨S5520x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S5520x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5520x5120 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5520x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== OprojT.lean ====
abbrev S5520x5120 : Shape := ⟨2, ![5520, 5120]⟩
abbrev S5520x1 : Shape := ⟨2, ![5520, 1]⟩
abbrev S5120x5120 : Shape := ⟨2, ![5120, 5120]⟩
abbrev S1x5120 : Shape := ⟨2, ![1, 5120]⟩
abbrev S192x5120 : Shape := ⟨2, ![192, 5120]⟩
abbrev S192x1 : Shape := ⟨2, ![192, 1]⟩
abbrev S192 : Shape := ⟨1, ![192]⟩

abbrev nBuf : Space → Nat
  | .hbm => 10
  | .vmem => 16
  | .smem => 0
  | _ => 0

abbrev bufTy : (tb : Table) → Fin (tcTables nBuf tb) → BufTy
  | .hbm, ⟨0, _⟩ => ⟨S5520x5120, .fp8e4m3⟩
  | .hbm, ⟨1, _⟩ => ⟨S5520x1, .f32⟩
  | .hbm, ⟨2, _⟩ => ⟨S5120x5120, .fp8e4m3⟩
  | .hbm, ⟨3, _⟩ => ⟨S1x5120, .f32⟩
  | .hbm, ⟨4, _⟩ => ⟨S5520x5120, .f32⟩
  | .hbm, ⟨5, _⟩ => ⟨S1x5120, .f32⟩
  | .hbm, ⟨6, _⟩ => ⟨S1x5120, .f32⟩
  | .hbm, ⟨7, _⟩ => ⟨S5520x5120, .f32⟩
  | .hbm, ⟨8, _⟩ => ⟨S5520x5120, .fp8e4m3⟩
  | .hbm, ⟨9, _⟩ => ⟨S5520x1, .f32⟩
  | .local _ .vmem, ⟨0, _⟩ => ⟨S192x5120, .fp8e4m3⟩
  | .local _ .vmem, ⟨1, _⟩ => ⟨S192x5120, .fp8e4m3⟩
  | .local _ .vmem, ⟨2, _⟩ => ⟨S192x1, .f32⟩
  | .local _ .vmem, ⟨3, _⟩ => ⟨S192x1, .f32⟩
  | .local _ .vmem, ⟨4, _⟩ => ⟨S5120x5120, .fp8e4m3⟩
  | .local _ .vmem, ⟨5, _⟩ => ⟨S1x5120, .f32⟩
  | .local _ .vmem, ⟨6, _⟩ => ⟨S192x5120, .f32⟩
  | .local _ .vmem, ⟨7, _⟩ => ⟨S192x5120, .f32⟩
  | .local _ .vmem, ⟨8, _⟩ => ⟨S1x5120, .f32⟩
  | .local _ .vmem, ⟨9, _⟩ => ⟨S1x5120, .f32⟩
  | .local _ .vmem, ⟨10, _⟩ => ⟨S192x5120, .f32⟩
  | .local _ .vmem, ⟨11, _⟩ => ⟨S192x5120, .f32⟩
  | .local _ .vmem, ⟨12, _⟩ => ⟨S192x5120, .fp8e4m3⟩
  | .local _ .vmem, ⟨13, _⟩ => ⟨S192x5120, .fp8e4m3⟩
  | .local _ .vmem, ⟨14, _⟩ => ⟨S192x1, .f32⟩
  | .local _ .vmem, ⟨15, _⟩ => ⟨S192x1, .f32⟩
  | _, _ => ⟨S5520x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![29], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x5120 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5120x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S192x5120 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x5120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S192x5120 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S192x5120 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S192x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RefOprojTIdeal.lean ====
abbrev S5520x5120 : Shape := ⟨2, ![5520, 5120]⟩
abbrev S5520x1 : Shape := ⟨2, ![5520, 1]⟩
abbrev S5120x5120 : Shape := ⟨2, ![5120, 5120]⟩
abbrev S1x5120 : Shape := ⟨2, ![1, 5120]⟩
abbrev S5520 : Shape := ⟨1, ![5520]⟩

abbrev nBuf : Space → Nat
  | .hbm => 10
  | .vmem => 10
  | .smem => 0
  | _ => 0

abbrev bufTy : (tb : Table) → Fin (tcTables nBuf tb) → BufTy
  | .hbm, ⟨0, _⟩ => ⟨S5520x5120, .fp8e4m3⟩
  | .hbm, ⟨1, _⟩ => ⟨S5520x1, .f32⟩
  | .hbm, ⟨2, _⟩ => ⟨S5120x5120, .fp8e4m3⟩
  | .hbm, ⟨3, _⟩ => ⟨S1x5120, .f32⟩
  | .hbm, ⟨4, _⟩ => ⟨S5520x5120, .f32⟩
  | .hbm, ⟨5, _⟩ => ⟨S1x5120, .f32⟩
  | .hbm, ⟨6, _⟩ => ⟨S1x5120, .f32⟩
  | .hbm, ⟨7, _⟩ => ⟨S5520x5120, .f32⟩
  | .hbm, ⟨8, _⟩ => ⟨S5520x5120, .fp8e4m3⟩
  | .hbm, ⟨9, _⟩ => ⟨S5520x1, .f32⟩
  | .local _ .vmem, ⟨0, _⟩ => ⟨S5520x5120, .fp8e4m3⟩
  | .local _ .vmem, ⟨1, _⟩ => ⟨S5520x1, .f32⟩
  | .local _ .vmem, ⟨2, _⟩ => ⟨S5120x5120, .fp8e4m3⟩
  | .local _ .vmem, ⟨3, _⟩ => ⟨S1x5120, .f32⟩
  | .local _ .vmem, ⟨4, _⟩ => ⟨S5520x5120, .f32⟩
  | .local _ .vmem, ⟨5, _⟩ => ⟨S1x5120, .f32⟩
  | .local _ .vmem, ⟨6, _⟩ => ⟨S1x5120, .f32⟩
  | .local _ .vmem, ⟨7, _⟩ => ⟨S5520x5120, .f32⟩
  | .local _ .vmem, ⟨8, _⟩ => ⟨S5520x5120, .fp8e4m3⟩
  | .local _ .vmem, ⟨9, _⟩ => ⟨S5520x1, .f32⟩
  | _, _ => ⟨S5520x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S5520x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5520x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5520x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x5120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S5520x5120 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S5520x5120 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S5520x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Fc1.lean ====
abbrev S5520x5120 : Shape := ⟨2, ![5520, 5120]⟩
abbrev S5520x1 : Shape := ⟨2, ![5520, 1]⟩
abbrev S5120x20480 : Shape := ⟨2, ![5120, 20480]⟩
abbrev S1x20480 : Shape := ⟨2, ![1, 20480]⟩
abbrev S5520x20480 : Shape := ⟨2, ![5520, 20480]⟩
abbrev S512x5120 : Shape := ⟨2, ![512, 5120]⟩
abbrev S512x1 : Shape := ⟨2, ![512, 1]⟩
abbrev S5120x512 : Shape := ⟨2, ![5120, 512]⟩
abbrev S1x512 : Shape := ⟨2, ![1, 512]⟩
abbrev S512x512 : Shape := ⟨2, ![512, 512]⟩
abbrev S512x20480 : Shape := ⟨2, ![512, 20480]⟩
abbrev S512x128 : Shape := ⟨2, ![512, 128]⟩
abbrev S512 : Shape := ⟨1, ![512]⟩

abbrev nBuf : Space → Nat
  | .hbm => 7
  | .vmem => 17
  | .smem => 0
  | _ => 0

abbrev bufTy : (tb : Table) → Fin (tcTables nBuf tb) → BufTy
  | .hbm, ⟨0, _⟩ => ⟨S5520x5120, .fp8e4m3⟩
  | .hbm, ⟨1, _⟩ => ⟨S5520x1, .f32⟩
  | .hbm, ⟨2, _⟩ => ⟨S5120x20480, .fp8e4m3⟩
  | .hbm, ⟨3, _⟩ => ⟨S1x20480, .f32⟩
  | .hbm, ⟨4, _⟩ => ⟨S1x20480, .f32⟩
  | .hbm, ⟨5, _⟩ => ⟨S5520x20480, .fp8e4m3⟩
  | .hbm, ⟨6, _⟩ => ⟨S5520x1, .f32⟩
  | .local _ .vmem, ⟨0, _⟩ => ⟨S512x5120, .fp8e4m3⟩
  | .local _ .vmem, ⟨1, _⟩ => ⟨S512x5120, .fp8e4m3⟩
  | .local _ .vmem, ⟨2, _⟩ => ⟨S512x1, .f32⟩
  | .local _ .vmem, ⟨3, _⟩ => ⟨S512x1, .f32⟩
  | .local _ .vmem, ⟨4, _⟩ => ⟨S5120x512, .fp8e4m3⟩
  | .local _ .vmem, ⟨5, _⟩ => ⟨S5120x512, .fp8e4m3⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S512x512, .fp8e4m3⟩
  | .local _ .vmem, ⟨11, _⟩ => ⟨S512x512, .fp8e4m3⟩
  | .local _ .vmem, ⟨12, _⟩ => ⟨S512x1, .f32⟩
  | .local _ .vmem, ⟨13, _⟩ => ⟨S512x1, .f32⟩
  | .local _ .vmem, ⟨14, _⟩ => ⟨S512x20480, .f32⟩
  | .local _ .vmem, ⟨15, _⟩ => ⟨S512x128, .f32⟩
  | .local _ .vmem, ⟨16, _⟩ => ⟨S512x1, .f32⟩
  | _, _ => ⟨S5520x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![12, 40], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond3 (i : grid0.Coords) : BitVec 1 :=
  let arg0 : BitVec 32 := BitVec.ofNat 32 (i 0).val
  let c0_i32_4 : BitVec 32 := 0#32
  let v10 : BitVec 1 := Scalar.cmpi .sgt arg0 c0_i32_4
  let v11 : BitVec 32 := Scalar.extui v10
  let c0_i32_5 : BitVec 32 := 0#32
  let v12 : BitVec 1 := Scalar.cmpi .ne v11 c0_i32_5
  v12

def k0_off1 (i : grid0.Coords) : Fin 2 → Nat :=
  let c0_10 : Index := 0#32
  let arg1 : BitVec 32 := BitVec.ofNat 32 (i 1).val
  let c512_i32 : BitVec 32 := 512#32
  let v0 : BitVec 32 := Scalar.muli arg1 c512_i32
  let v1 : BitVec 32 := v0
  let v18 : Index := Scalar.indexCast v1
  ![0, v18.toNat]
def k0_cond4 (i : grid0.Coords) : BitVec 1 :=
  let arg0 : BitVec 32 := BitVec.ofNat 32 (i 0).val
  let c11_i32 : BitVec 32 := 11#32
  let v13 : BitVec 1 := Scalar.cmpi .slt arg0 c11_i32
  let v14 : BitVec 32 := Scalar.extui v13
  let c0_i32_6 : BitVec 32 := 0#32
  let v15 : BitVec 1 := Scalar.cmpi .ne v14 c0_i32_6
  v15

def k0_off2 (i : grid0.Coords) : Fin 2 → Nat :=
  let c0_19 : Index := 0#32
  let arg1 : BitVec 32 := BitVec.ofNat 32 (i 1).val
  let c512_i32 : BitVec 32 := 512#32
  let v0 : BitVec 32 := Scalar.muli arg1 c512_i32
  let v1 : BitVec 32 := v0
  let v36 : Index := Scalar.indexCast v1
  ![0, v36.toNat]
def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.minsi arg0 c10_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.minsi arg0 c10_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 1 := Scalar.cmpi .slt arg0 c11_i32
  let c39_i32 : BitVec 32 := 39#32
  let v1 : BitVec 32 := Scalar.select v0 arg1 c39_i32
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 1 := Scalar.cmpi .slt arg0 c11_i32
  let c39_i32 : BitVec 32 := 39#32
  let v1 : BitVec 32 := Scalar.select v0 arg1 c39_i32
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 1 := Scalar.cmpi .slt arg0 c11_i32
  let c39_i32 : BitVec 32 := 39#32
  let v1 : BitVec 32 := Scalar.select v0 arg1 c39_i32
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c0_i32_1 : BitVec 32 := 0#32
  let v3 : BitVec 32 := Scalar.select v2 arg1 c0_i32_1
  let c0_i32_2 : BitVec 32 := 0#32
  ![v1.toNat, v3.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x5120 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S5120x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== RefFc1Ideal.lean ====
abbrev S5520x5120 : Shape := ⟨2, ![5520, 5120]⟩
abbrev S5520x1 : Shape := ⟨2, ![5520, 1]⟩
abbrev S5120x20480 : Shape := ⟨2, ![5120, 20480]⟩
abbrev S1x20480 : Shape := ⟨2, ![1, 20480]⟩
abbrev S5520x20480 : Shape := ⟨2, ![5520, 20480]⟩
abbrev S5520 : Shape := ⟨1, ![5520]⟩

abbrev nBuf : Space → Nat
  | .hbm => 7
  | .vmem => 7
  | .smem => 0
  | _ => 0

abbrev bufTy : (tb : Table) → Fin (tcTables nBuf tb) → BufTy
  | .hbm, ⟨0, _⟩ => ⟨S5520x5120, .fp8e4m3⟩
  | .hbm, ⟨1, _⟩ => ⟨S5520x1, .f32⟩
  | .hbm, ⟨2, _⟩ => ⟨S5120x20480, .fp8e4m3⟩
  | .hbm, ⟨3, _⟩ => ⟨S1x20480, .f32⟩
  | .hbm, ⟨4, _⟩ => ⟨S1x20480, .f32⟩
  | .hbm, ⟨5, _⟩ => ⟨S5520x20480, .fp8e4m3⟩
  | .hbm, ⟨6, _⟩ => ⟨S5520x1, .f32⟩
  | .local _ .vmem, ⟨0, _⟩ => ⟨S5520x5120, .fp8e4m3⟩
  | .local _ .vmem, ⟨1, _⟩ => ⟨S5520x1, .f32⟩
  | .local _ .vmem, ⟨2, _⟩ => ⟨S5120x20480, .fp8e4m3⟩
  | .local _ .vmem, ⟨3, _⟩ => ⟨S1x20480, .f32⟩
  | .local _ .vmem, ⟨4, _⟩ => ⟨S1x20480, .f32⟩
  | .local _ .vmem, ⟨5, _⟩ => ⟨S5520x20480, .fp8e4m3⟩
  | .local _ .vmem, ⟨6, _⟩ => ⟨S5520x1, .f32⟩
  | _, _ => ⟨S5520x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S5520x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5520x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x20480 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x20480 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x20480 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5520x20480 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5520x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== OprojS.lean ====
abbrev S6 : Shape := ⟨1, ![6]⟩
abbrev S5520x5120 : Shape := ⟨2, ![5520, 5120]⟩
abbrev S5520x1 : Shape := ⟨2, ![5520, 1]⟩
abbrev S5120x5120 : Shape := ⟨2, ![5120, 5120]⟩
abbrev S1x5120 : Shape := ⟨2, ![1, 5120]⟩
abbrev S8x5120 : Shape := ⟨2, ![8, 5120]⟩
abbrev S192x5120 : Shape := ⟨2, ![192, 5120]⟩
abbrev S192x1 : Shape := ⟨2, ![192, 1]⟩
abbrev S1 : Shape := ⟨1, ![1]⟩
abbrev S192 : Shape := ⟨1, ![192]⟩

abbrev nBuf : Space → Nat
  | .hbm => 11
  | .vmem => 17
  | .smem => 1
  | _ => 0

abbrev bufTy : (tb : Table) → Fin (tcTables nBuf tb) → BufTy
  | .hbm, ⟨0, _⟩ => ⟨S5520x5120, .fp8e4m3⟩
  | .hbm, ⟨1, _⟩ => ⟨S5520x1, .f32⟩
  | .hbm, ⟨2, _⟩ => ⟨S5120x5120, .fp8e4m3⟩
  | .hbm, ⟨3, _⟩ => ⟨S1x5120, .f32⟩
  | .hbm, ⟨4, _⟩ => ⟨S5520x5120, .bf16⟩
  | .hbm, ⟨5, _⟩ => ⟨S1x5120, .f32⟩
  | .hbm, ⟨6, _⟩ => ⟨S1x5120, .f32⟩
  | .hbm, ⟨7, _⟩ => ⟨S8x5120, .f32⟩
  | .hbm, ⟨8, _⟩ => ⟨S5520x5120, .f32⟩
  | .hbm, ⟨9, _⟩ => ⟨S5520x5120, .fp8e4m3⟩
  | .hbm, ⟨10, _⟩ => ⟨S5520x1, .f32⟩
  | .local _ .vmem, ⟨0, _⟩ => ⟨S192x5120, .fp8e4m3⟩
  | .local _ .vmem, ⟨1, _⟩ => ⟨S192x5120, .fp8e4m3⟩
  | .local _ .vmem, ⟨2, _⟩ => ⟨S192x1, .f32⟩
  | .local _ .vmem, ⟨3, _⟩ => ⟨S192x1, .f32⟩
  | .local _ .vmem, ⟨4, _⟩ => ⟨S5120x5120, .fp8e4m3⟩
  | .local _ .vmem, ⟨5, _⟩ => ⟨S1x5120, .f32⟩
  | .local _ .vmem, ⟨6, _⟩ => ⟨S192x5120, .bf16⟩
  | .local _ .vmem, ⟨7, _⟩ => ⟨S192x5120, .bf16⟩
  | .local _ .vmem, ⟨8, _⟩ => ⟨S1x5120, .f32⟩
  | .local _ .vmem, ⟨9, _⟩ => ⟨S1x5120, .f32⟩
  | .local _ .vmem, ⟨10, _⟩ => ⟨S8x5120, .f32⟩
  | .local _ .vmem, ⟨11, _⟩ => ⟨S192x5120, .f32⟩
  | .local _ .vmem, ⟨12, _⟩ => ⟨S192x5120, .f32⟩
  | .local _ .vmem, ⟨13, _⟩ => ⟨S192x5120, .fp8e4m3⟩
  | .local _ .vmem, ⟨14, _⟩ => ⟨S192x5120, .fp8e4m3⟩
  | .local _ .vmem, ⟨15, _⟩ => ⟨S192x1, .f32⟩
  | .local _ .vmem, ⟨16, _⟩ => ⟨S192x1, .f32⟩
  | .local _ .smem, ⟨0, _⟩ => ⟨S6, .i32⟩
  | _, _ => ⟨S5520x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![29], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c192_i32 : BitVec 32 := 192#32
  let v13 : BitVec 32 := Scalar.muli arg0 c192_i32
  let c0_i32 : BitVec 32 := 0#32
  let v15 : BitVec 1 := Scalar.cmpi .sgt v13 c0_i32
  let v16 : BitVec 32 := Scalar.extui v15
  let c0_i32_11 : BitVec 32 := 0#32
  let v17 : BitVec 1 := Scalar.cmpi .slt v13 c0_i32_11
  let v18 : BitVec 32 := Scalar.extui v17
  let v19 : BitVec 32 := Scalar.subi v16 v18
  let c920_i32 : BitVec 32 := 920#32
  let c0_i32_12 : BitVec 32 := 0#32
  let v20 : BitVec 1 := Scalar.cmpi .sgt c920_i32 c0_i32_12
  let v21 : BitVec 32 := Scalar.extui v20
  let c0_i32_13 : BitVec 32 := 0#32
  let v22 : BitVec 1 := Scalar.cmpi .slt c920_i32 c0_i32_13
  let v23 : BitVec 32 := Scalar.extui v22
  let v24 : BitVec 32 := Scalar.subi v21 v23
  let v25 : BitVec 1 := Scalar.cmpi .ne v19 v24
  let v26 : BitVec 32 := Scalar.remsi v13 c920_i32
  let c0_i32_14 : BitVec 32 := 0#32
  let v27 : BitVec 1 := Scalar.cmpi .ne v26 c0_i32_14
  let v28 : BitVec 1 := Scalar.andi v25 v27
  let v14 : BitVec 32 := Scalar.divsi v13 c920_i32
  let c1_i32 : BitVec 32 := 1#32
  let v29 : BitVec 32 := Scalar.subi v14 c1_i32
  let v30 : BitVec 32 := Scalar.select v28 v29 v14
  let v41 : Index := Scalar.indexCast v30
  ![v41.toNat]
def k0_off2 (v42 : BitVec 32) : Fin 2 → Nat :=
  let v43 : Index := Scalar.indexCast v42
  let c0_19 : Index := 0#32
  ![v43.toNat, 0]

def k0_chk1 (v42 : BitVec 32) : Prop :=
  (∀ a, (k0_off2 v42) a + S1x5120.size a ≤ S8x5120.size a)
theorem k0_off2_inb : ∀ (v42 : BitVec 32) (k0_hw1 : k0_chk1 v42), ∀ a, (k0_off2 v42) a + S1x5120.size a ≤ S8x5120.size a := fun v42 k0_hw1 => k0_hw1

def k0_off3 (i : grid0.Coords) : Fin 1 → Nat :=
  let arg0 : BitVec 32 := BitVec.ofNat 32 (i 0).val
  let c192_i32 : BitVec 32 := 192#32
  let v13 : BitVec 32 := Scalar.muli arg0 c192_i32
  let c0_i32 : BitVec 32 := 0#32
  let v15 : BitVec 1 := Scalar.cmpi .sgt v13 c0_i32
  let v16 : BitVec 32 := Scalar.extui v15
  let c0_i32_11 : BitVec 32 := 0#32
  let v17 : BitVec 1 := Scalar.cmpi .slt v13 c0_i32_11
  let v18 : BitVec 32 := Scalar.extui v17
  let v19 : BitVec 32 := Scalar.subi v16 v18
  let c920_i32 : BitVec 32 := 920#32
  let c0_i32_12 : BitVec 32 := 0#32
  let v20 : BitVec 1 := Scalar.cmpi .sgt c920_i32 c0_i32_12
  let v21 : BitVec 32 := Scalar.extui v20
  let c0_i32_13 : BitVec 32 := 0#32
  let v22 : BitVec 1 := Scalar.cmpi .slt c920_i32 c0_i32_13
  let v23 : BitVec 32 := Scalar.extui v22
  let v24 : BitVec 32 := Scalar.subi v21 v23
  let v25 : BitVec 1 := Scalar.cmpi .ne v19 v24
  let v26 : BitVec 32 := Scalar.remsi v13 c920_i32
  let c0_i32_14 : BitVec 32 := 0#32
  let v27 : BitVec 1 := Scalar.cmpi .ne v26 c0_i32_14
  let v28 : BitVec 1 := Scalar.andi v25 v27
  let v14 : BitVec 32 := Scalar.divsi v13 c920_i32
  let c1_i32 : BitVec 32 := 1#32
  let v29 : BitVec 32 := Scalar.subi v14 c1_i32
  let v30 : BitVec 32 := Scalar.select v28 v29 v14
  let c1_i32_15 : BitVec 32 := 1#32
  let v31 : BitVec 32 := Scalar.addi v30 c1_i32_15
  let c5_i32 : BitVec 32 := 5#32
  let v32 : BitVec 32 := Scalar.minsi v31 c5_i32
  let v45 : Index := Scalar.indexCast v32
  ![v45.toNat]
def k0_off4 (v46 : BitVec 32) : Fin 2 → Nat :=
  let v47 : Index := Scalar.indexCast v46
  let c0_20 : Index := 0#32
  ![v47.toNat, 0]

def k0_chk2 (v46 : BitVec 32) : Prop :=
  (∀ a, (k0_off4 v46) a + S1x5120.size a ≤ S8x5120.size a)
theorem k0_off4_inb : ∀ (v46 : BitVec 32) (k0_hw2 : k0_chk2 v46), ∀ a, (k0_off4 v46) a + S1x5120.size a ≤ S8x5120.size a := fun v46 k0_hw2 => k0_hw2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x5120 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5120x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S192x5120 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x5120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x5120 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S192x5120 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S192x5120 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S192x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== RefOprojSIdeal.lean ====
abbrev S6 : Shape := ⟨1, ![6]⟩
abbrev S5520x5120 : Shape := ⟨2, ![5520, 5120]⟩
abbrev S5520x1 : Shape := ⟨2, ![5520, 1]⟩
abbrev S5120x5120 : Shape := ⟨2, ![5120, 5120]⟩
abbrev S1x5120 : Shape := ⟨2, ![1, 5120]⟩
abbrev S8x5120 : Shape := ⟨2, ![8, 5120]⟩
abbrev S_ : Shape := ⟨0, ![]⟩
abbrev S6x1 : Shape := ⟨2, ![6, 1]⟩
abbrev S6x5120 : Shape := ⟨2, ![6, 5120]⟩
abbrev S6x1x5120 : Shape := ⟨3, ![6, 1, 5120]⟩
abbrev S6x920x5120 : Shape := ⟨3, ![6, 920, 5120]⟩
abbrev S5520 : Shape := ⟨1, ![5520]⟩

abbrev nBuf : Space → Nat
  | .hbm => 24
  | .vmem => 11
  | .smem => 0
  | _ => 0

abbrev bufTy : (tb : Table) → Fin (tcTables nBuf tb) → BufTy
  | .hbm, ⟨0, _⟩ => ⟨S6, .i32⟩
  | .hbm, ⟨1, _⟩ => ⟨S5520x5120, .fp8e4m3⟩
  | .hbm, ⟨2, _⟩ => ⟨S5520x1, .f32⟩
  | .hbm, ⟨3, _⟩ => ⟨S5120x5120, .fp8e4m3⟩
  | .hbm, ⟨4, _⟩ => ⟨S1x5120, .f32⟩
  | .hbm, ⟨5, _⟩ => ⟨S5520x5120, .bf16⟩
  | .hbm, ⟨6, _⟩ => ⟨S1x5120, .f32⟩
  | .hbm, ⟨7, _⟩ => ⟨S1x5120, .f32⟩
  | .hbm, ⟨8, _⟩ => ⟨S8x5120, .f32⟩
  | .hbm, ⟨9, _⟩ => ⟨S_, .i32⟩
  | .hbm, ⟨10, _⟩ => ⟨S6, .i32⟩
  | .hbm, ⟨11, _⟩ => ⟨S6, .i1⟩
  | .hbm, ⟨12, _⟩ => ⟨S_, .i32⟩
  | .hbm, ⟨13, _⟩ => ⟨S6, .i32⟩
  | .hbm, ⟨14, _⟩ => ⟨S6, .i32⟩
  | .hbm, ⟨15, _⟩ => ⟨S6, .i32⟩
  | .hbm, ⟨16, _⟩ => ⟨S6x1, .i32⟩
  | .hbm, ⟨17, _⟩ => ⟨S6x5120, .f32⟩
  | .hbm, ⟨18, _⟩ => ⟨S6x1x5120, .f32⟩
  | .hbm, ⟨19, _⟩ => ⟨S6x920x5120, .f32⟩
  | .hbm, ⟨20, _⟩ => ⟨S5520x5120, .f32⟩
  | .hbm, ⟨21, _⟩ => ⟨S5520x5120, .f32⟩
  | .hbm, ⟨22, _⟩ => ⟨S5520x5120, .fp8e4m3⟩
  | .hbm, ⟨23, _⟩ => ⟨S5520x1, .f32⟩
  | .local _ .vmem, ⟨0, _⟩ => ⟨S5520x5120, .fp8e4m3⟩
  | .local _ .vmem, ⟨1, _⟩ => ⟨S5520x1, .f32⟩
  | .local _ .vmem, ⟨2, _⟩ => ⟨S5120x5120, .fp8e4m3⟩
  | .local _ .vmem, ⟨3, _⟩ => ⟨S1x5120, .f32⟩
  | .local _ .vmem, ⟨4, _⟩ => ⟨S5520x5120, .bf16⟩
  | .local _ .vmem, ⟨5, _⟩ => ⟨S1x5120, .f32⟩
  | .local _ .vmem, ⟨6, _⟩ => ⟨S1x5120, .f32⟩
  | .local _ .vmem, ⟨7, _⟩ => ⟨S5520x5120, .f32⟩
  | .local _ .vmem, ⟨8, _⟩ => ⟨S5520x5120, .f32⟩
  | .local _ .vmem, ⟨9, _⟩ => ⟨S5520x5120, .fp8e4m3⟩
  | .local _ .vmem, ⟨10, _⟩ => ⟨S5520x1, .f32⟩
  | _, _ => ⟨S6, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S5520x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5520x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5520x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x5120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S5520x5120 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S5520x5120 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S5520x5120 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S5520x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Spatial.lean ====
abbrev S120x6x920x128 : Shape := ⟨4, ![120, 6, 920, 128]⟩
abbrev S5520x5120 : Shape := ⟨2, ![5520, 5120]⟩
abbrev S5520x1 : Shape := ⟨2, ![5520, 1]⟩
abbrev S1x1x920x128 : Shape := ⟨4, ![1, 1, 920, 128]⟩
abbrev S920x5120 : Shape := ⟨2, ![920, 5120]⟩
abbrev S920x1 : Shape := ⟨2, ![920, 1]⟩
abbrev S40x920x128 : Shape := ⟨3, ![40, 920, 128]⟩
abbrev S920x128 : Shape := ⟨2, ![920, 128]⟩
abbrev S920x920 : Shape := ⟨2, ![920, 920]⟩
abbrev S920 : Shape := ⟨1, ![920]⟩
abbrev S1x920x128 : Shape := ⟨3, ![1, 920, 128]⟩

abbrev nBuf : Space → Nat
  | .hbm => 3
  | .vmem => 12
  | .smem => 0
  | _ => 0

abbrev bufTy : (tb : Table) → Fin (tcTables nBuf tb) → BufTy
  | .hbm, ⟨0, _⟩ => ⟨S120x6x920x128, .bf16⟩
  | .hbm, ⟨1, _⟩ => ⟨S5520x5120, .fp8e4m3⟩
  | .hbm, ⟨2, _⟩ => ⟨S5520x1, .f32⟩
  | .local _ .vmem, ⟨0, _⟩ => ⟨S1x1x920x128, .bf16⟩
  | .local _ .vmem, ⟨1, _⟩ => ⟨S1x1x920x128, .bf16⟩
  | .local _ .vmem, ⟨2, _⟩ => ⟨S1x1x920x128, .bf16⟩
  | .local _ .vmem, ⟨3, _⟩ => ⟨S1x1x920x128, .bf16⟩
  | .local _ .vmem, ⟨4, _⟩ => ⟨S1x1x920x128, .bf16⟩
  | .local _ .vmem, ⟨5, _⟩ => ⟨S1x1x920x128, .bf16⟩
  | .local _ .vmem, ⟨6, _⟩ => ⟨S920x5120, .fp8e4m3⟩
  | .local _ .vmem, ⟨7, _⟩ => ⟨S920x5120, .fp8e4m3⟩
  | .local _ .vmem, ⟨8, _⟩ => ⟨S920x1, .f32⟩
  | .local _ .vmem, ⟨9, _⟩ => ⟨S920x1, .f32⟩
  | .local _ .vmem, ⟨10, _⟩ => ⟨S40x920x128, .f32⟩
  | .local _ .vmem, ⟨11, _⟩ => ⟨S920x128, .f32⟩
  | _, _ => ⟨S120x6x920x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![6, 40], ![false, false]⟩

def k0_off1 (i : grid0.Coords) : Fin 3 → Nat :=
  let arg1 : BitVec 32 := BitVec.ofNat 32 (i 1).val
  let v21 : Index := Scalar.indexCast arg1
  let c0_15 : Index := 0#32
  let c0_16 : Index := 0#32
  ![v21.toNat, 0, 0]
def k0_cond3 (i : grid0.Coords) : BitVec 1 :=
  let arg1 : BitVec 32 := BitVec.ofNat 32 (i 1).val
  let c39_i32 : BitVec 32 := 39#32
  let v32 : BitVec 1 := Scalar.cmpi .eq arg1 c39_i32
  let v33 : BitVec 32 := Scalar.extui v32
  let c0_i32_20 : BitVec 32 := 0#32
  let v34 : BitVec 1 := Scalar.cmpi .ne v33 c0_i32_20
  v34

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c40_i32 : BitVec 32 := 40#32
  let v0 : BitVec 32 := Scalar.addi arg1 c40_i32
  let c0_i32 : BitVec 32 := 0#32
  let c0_i32_0 : BitVec 32 := 0#32
  let c0_i32_1 : BitVec 32 := 0#32
  ![v0.toNat, arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c80_i32 : BitVec 32 := 80#32
  let v0 : BitVec 32 := Scalar.addi arg1 c80_i32
  let c0_i32 : BitVec 32 := 0#32
  let c0_i32_0 : BitVec 32 := 0#32
  let c0_i32_1 : BitVec 32 := 0#32
  ![v0.toNat, arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1x920x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x920x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x920x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S920x5120 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S920x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== RefSpatialIdeal.lean ====
abbrev S120x6x920x128 : Shape := ⟨4, ![120, 6, 920, 128]⟩
abbrev S40x6x920x128 : Shape := ⟨4, ![40, 6, 920, 128]⟩
abbrev S40x6x920x920 : Shape := ⟨4, ![40, 6, 920, 920]⟩
abbrev S_ : Shape := ⟨0, ![]⟩
abbrev S40x6x920 : Shape := ⟨3, ![40, 6, 920]⟩
abbrev S40x6x920x1 : Shape := ⟨4, ![40, 6, 920, 1]⟩
abbrev S6x920x40x128 : Shape := ⟨4, ![6, 920, 40, 128]⟩
abbrev S5520x5120 : Shape := ⟨2, ![5520, 5120]⟩
abbrev S5520x1 : Shape := ⟨2, ![5520, 1]⟩
abbrev S5520 : Shape := ⟨1, ![5520]⟩

abbrev nBuf : Space → Nat
  | .hbm => 28
  | .vmem => 3
  | .smem => 0
  | _ => 0

abbrev bufTy : (tb : Table) → Fin (tcTables nBuf tb) → BufTy
  | .hbm, ⟨0, _⟩ => ⟨S120x6x920x128, .bf16⟩
  | .hbm, ⟨1, _⟩ => ⟨S40x6x920x128, .bf16⟩
  | .hbm, ⟨2, _⟩ => ⟨S40x6x920x128, .bf16⟩
  | .hbm, ⟨3, _⟩ => ⟨S40x6x920x128, .bf16⟩
  | .hbm, ⟨4, _⟩ => ⟨S40x6x920x920, .f32⟩
  | .hbm, ⟨5, _⟩ => ⟨S_, .f32⟩
  | .hbm, ⟨6, _⟩ => ⟨S40x6x920x920, .f32⟩
  | .hbm, ⟨7, _⟩ => ⟨S40x6x920x920, .f32⟩
  | .hbm, ⟨8, _⟩ => ⟨S_, .f32⟩
  | .hbm, ⟨9, _⟩ => ⟨S40x6x920, .f32⟩
  | .hbm, ⟨10, _⟩ => ⟨S40x6x920x1, .f32⟩
  | .hbm, ⟨11, _⟩ => ⟨S40x6x920x1, .f32⟩
  | .hbm, ⟨12, _⟩ => ⟨S40x6x920x920, .f32⟩
  | .hbm, ⟨13, _⟩ => ⟨S40x6x920x920, .f32⟩
  | .hbm, ⟨14, _⟩ => ⟨S_, .f32⟩
  | .hbm, ⟨15, _⟩ => ⟨S40x6x920x920, .f32⟩
  | .hbm, ⟨16, _⟩ => ⟨S40x6x920x920, .f32⟩
  | .hbm, ⟨17, _⟩ => ⟨S_, .f32⟩
  | .hbm, ⟨18, _⟩ => ⟨S40x6x920, .f32⟩
  | .hbm, ⟨19, _⟩ => ⟨S40x6x920x920, .bf16⟩
  | .hbm, ⟨20, _⟩ => ⟨S40x6x920x128, .f32⟩
  | .hbm, ⟨21, _⟩ => ⟨S40x6x920x1, .f32⟩
  | .hbm, ⟨22, _⟩ => ⟨S40x6x920x128, .f32⟩
  | .hbm, ⟨23, _⟩ => ⟨S40x6x920x128, .f32⟩
  | .hbm, ⟨24, _⟩ => ⟨S6x920x40x128, .f32⟩
  | .hbm, ⟨25, _⟩ => ⟨S5520x5120, .f32⟩
  | .hbm, ⟨26, _⟩ => ⟨S5520x5120, .fp8e4m3⟩
  | .hbm, ⟨27, _⟩ => ⟨S5520x1, .f32⟩
  | .local _ .vmem, ⟨0, _⟩ => ⟨S5520x5120, .f32⟩
  | .local _ .vmem, ⟨1, _⟩ => ⟨S5520x5120, .fp8e4m3⟩
  | .local _ .vmem, ⟨2, _⟩ => ⟨S5520x1, .f32⟩
  | _, _ => ⟨S120x6x920x128, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21_0 : Ref sig .tc := ⟨.hbm, 26, rfl⟩
abbrev main_v21_1 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S5520x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5520x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5520x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.SpatialBody.lean ====
/- The spatial attention (Spatial): what its body leaves in the staging and scratch buffers, and the run of the whole call. -/
module

public import proofs.«01_k».proof.Proof.Gen.Spatial.Frame
public import proofs.«01_k».proof.Proof.Gen.Spatial.Skeleton
public import Idealize.ShloMosaic.Lib.Pipeline.FrameBody
public import Idealize.ShloMosaic.Lib.VecWindow
public import Idealize.ShloMosaic.Lib.Claim
public import Idealize.ShloMosaic.Lib.Tactic

@[expose] public section

set_option maxRecDepth 65536

noncomputable section

namespace Cert.Spatial.Body

open Cert.Spatial Cert.Spatial.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The slice of the scratch buffer that head `n` works on lies inside it. -/
theorem inb_head (n : ℕ) (hn : n < 40) : ∀ a, (![n, 0, 0] : Fin 3 → ℕ) a + S1x920x128.size a ≤ S40x920x128.size a := by
  intro a
  match a with
  | ⟨0, _⟩ => show n + 1 ≤ 40; omega
  | ⟨1, _⟩ => show 0 + 920 ≤ 920; omega
  | ⟨2, _⟩ => show 0 + 128 ≤ 128; omega

/-- The head outputs after the step. -/
def HID (i : grid0.Coords) (x0 x1 x2 : Vec F S1x1x920x128 .bf16) (h0 : Vec F S40x920x128 .f32) : Vec F S40x920x128 .f32 :=
  VecWindow.put h0 ![(i 1).val, 0, 0] S1x920x128.size (k0_pay51 x0 x1 x2)
/-- The running maximum after the step. -/
def MM (i : grid0.Coords) (x0 x1 x2 : Vec F S1x1x920x128 .bf16) (m0 : Vec F S920x128 .f32) : Vec F S920x128 .f32 :=
  if (i 1).val = 0 then k0_pay53 x0 x1 x2 else k0_pay54 x0 x1 x2 m0
/-- The code block with its first `n` heads stored. -/
def PUT (h : Vec F S40x920x128 .f32) (mx : Vec F S920x128 .f32) (y : Vec F S920x5120 .fp8e4m3) : ℕ → Vec F S920x5120 .fp8e4m3
  | 0 => y
  | n + 1 => if hn : n < 40 then VecWindow.put (PUT h mx y n) ![0, 128 * n] S920x128.size (k0_pay1 (k0_pay2 mx) (VecWindow.window h ![n, 0, 0] S1x920x128.size (inb_head n hn))) else y
/-- The code block after the step. -/
def Y3 (i : grid0.Coords) (h : Vec F S40x920x128 .f32) (mx : Vec F S920x128 .f32) (y : Vec F S920x5120 .fp8e4m3) : Vec F S920x5120 .fp8e4m3 :=
  if (i 1).val = 39 then PUT h mx y 40 else y
/-- The scale block after the step. -/
def Y4 (i : grid0.Coords) (mx : Vec F S920x128 .f32) (y : Vec F S920x1 .f32) : Vec F S920x1 .f32 := if (i 1).val = 39 then k0_pay2 mx else y

/-- The conditions read as numbers, at every head. -/
theorem conds : ∀ b : Fin 40,
    (Scalar.cmpi .ne (Scalar.extui (Scalar.cmpi .eq (BitVec.ofNat 32 b.val) 0#32)) 0#32 = 1#1 ↔ b.val = 0)
    ∧ (Scalar.cmpi .ne (Scalar.extui (Scalar.cmpi .sgt (BitVec.ofNat 32 b.val) 0#32)) 0#32 = 1#1 ↔ 0 < b.val)
    ∧ (Scalar.cmpi .ne (Scalar.extui (Scalar.cmpi .eq (BitVec.ofNat 32 b.val) 39#32)) 0#32 = 1#1 ↔ b.val = 39) := by decide +kernel

theorem c1_iff (i : grid0.Coords) : Scalar.cmpi .ne (Scalar.extui (Scalar.cmpi .eq (BitVec.ofNat 32 (i 1).val) 0#32)) 0#32 = 1#1 ↔ (i 1).val = 0 := (conds (i 1)).1
theorem c2_iff (i : grid0.Coords) : Scalar.cmpi .ne (Scalar.extui (Scalar.cmpi .sgt (BitVec.ofNat 32 (i 1).val) 0#32)) 0#32 = 1#1 ↔ 0 < (i 1).val := (conds (i 1)).2.1
theorem c3_iff (i : grid0.Coords) : k0_cond3 i = 1#1 ↔ (i 1).val = 39 := (conds (i 1)).2.2

/-- Storing the codes of one more head. -/
theorem put_next {sp : Space} (v : View sig .tc sp S920x5120 .fp8e4m3) (f : v.ty.Contents (Elt F)) (h : Vec F S40x920x128 .f32) (mx : Vec F S920x128 .f32) (y : Vec F S920x5120 .fp8e4m3)
    (n : ℕ) (hn : n < 40) {off : Fin 2 → ℕ} (inb : ∀ a, off a + S920x128.size a ≤ S920x5120.size a) (w : (Rect.unit (s := S920x5120) off S920x128.size inb).shape.Idx → Elt F .fp8e4m3) (L)
    (hw : w = k0_pay1 (k0_pay2 mx) (VecWindow.window h ![n, 0, 0] S1x920x128.size (inb_head n hn))) (ho : off = ![0, 128 * n])
    (hL : v.read (Elt F) (v.writes (Elt F) f L) = PUT h mx y n) :
    v.read (Elt F) (v.writes (Elt F) f (⟨Rect.unit off S920x128.size inb, w⟩ :: L)) = PUT h mx y (n + 1) := by
  rw [View.read_writes_cons_put v f inb w L ho, hL, hw]
  rw [PUT, dif_pos hn]

/-- A written block is the quantised head: its two arguments may be read through the buffers. -/
theorem piece {w : FVec F S920x128 .fp8e4m3} {a a' : Vec F S920x128 .f32} {b b' : Vec F S1x920x128 .f32} (h : w = k0_pay1 (k0_pay2 a) b) (ha : a = a') (hb : b = b') :
    w = k0_pay1 (k0_pay2 a') b' := by
  rw [h, ha, hb]

set_option maxHeartbeats 2000000 in
/-- One head's output, on whole buffers, the first head. -/
theorem headP (c : Dev nD) (E : Set ℕ) (i : grid0.Coords) (hn : (i 1).val = 0)
    (arg2 : Memref sig .tc .vmem S1x1x920x128 .bf16) (harg2 : arg2.IsWhole) (arg3 : Memref sig .tc .vmem S1x1x920x128 .bf16) (harg3 : arg3.IsWhole) (arg4 : Memref sig .tc .vmem S1x1x920x128 .bf16) (harg4 : arg4.IsWhole) (arg5 : Memref sig .tc .vmem S920x5120 .fp8e4m3) (harg5 : arg5.IsWhole) (arg6 : Memref sig .tc .vmem S920x1 .f32) (harg6 : arg6.IsWhole) (arg7 : Memref sig .tc .vmem S40x920x128 .f32) (harg7 : arg7.IsWhole) (arg8 : Memref sig .tc .vmem S920x128 .f32) (harg8 : arg8.IsWhole)
    (x0 x1 x2 : Vec F S1x1x920x128 .bf16) (h0 : Vec F S40x920x128 .f32) (m0 : Vec F S920x128 .f32) (K : BitVec 32 → sProp 𝕄) :
    iprop(owns (c : Thread nD τ) arg2 fullShare x0 ∗ owns (c : Thread nD τ) arg3 fullShare x1 ∗ owns (c : Thread nD τ) arg4 fullShare x2 ∗ owns (c : Thread nD τ) arg7 fullShare h0 ∗ owns (c : Thread nD τ) arg8 fullShare m0
        ∗ (iprop(owns (c : Thread nD τ) arg2 fullShare x0 ∗ owns (c : Thread nD τ) arg3 fullShare x1 ∗ owns (c : Thread nD τ) arg4 fullShare x2 ∗ owns (c : Thread nD τ) arg7 fullShare (HID i x0 x1 x2 h0) ∗ owns (c : Thread nD τ) arg8 fullShare (MM i x0 x1 x2 m0)) -∗ K (BitVec.ofNat 32 (i 1).val)))
      ⊢ wp frame (wpE (defs₀ (F := F)) Variants.none c none) E (k0_part13 i arg2 harg2 arg3 harg3 arg4 harg4 arg5 harg5 arg6 harg6 arg7 harg7 arg8 harg8) K := by
  have hc1 : (Scalar.cmpi .ne (Scalar.extui (Scalar.cmpi .eq (BitVec.ofNat 32 (i 1).val) 0#32)) 0#32 = 1#1) := by rw [c1_iff]; omega
  have hc2 : ¬ (Scalar.cmpi .ne (Scalar.extui (Scalar.cmpi .sgt (BitVec.ofNat 32 (i 1).val) 0#32)) 0#32 = 1#1) := by rw [c2_iff]; omega
  simp only [k0_part13_eq_skeleton]; unfold k0_part13_skel
  dsimp only
  simp only [dif_pos hc1, dif_neg hc2]
  unfold owns
  iintro ⟨⟨%f0, %hf0, H0⟩, ⟨%f1, %hf1, H1⟩, ⟨%f2, %hf2, H2⟩, ⟨%f5, %hf5, H5⟩, ⟨%f6, %hf6, H6⟩, Hk⟩
  subst hf0 hf1 hf2 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    exact (View.read_writes_cons_put _ _ _ _ _ (k0_off1_eq i)).trans (congrArg (VecWindow.put _ _ _) (congr (congr (congrArg k0_pay51 (View.readAt_full _ _ _)) (View.readAt_full _ _ _)) (View.readAt_full _ _ _)))
  iexists _; isplitr
  swap; · iexact H6
  ipureintro
  unfold MM; rw [if_pos hn]
  exact (View.read_writes_full _ _ _ _ _).trans (congr (congr (congrArg k0_pay53 (View.readAt_full _ _ _)) (View.readAt_full _ _ _)) (View.readAt_full _ _ _))

set_option maxHeartbeats 2000000 in
/-- One head's output, on whole buffers, a later head. -/
theorem headQ (c : Dev nD) (E : Set ℕ) (i : grid0.Coords) (hn : ¬ (i 1).val = 0)
    (arg2 : Memref sig .tc .vmem S1x1x920x128 .bf16) (harg2 : arg2.IsWhole) (arg3 : Memref sig .tc .vmem S1x1x920x128 .bf16) (harg3 : arg3.IsWhole) (arg4 : Memref sig .tc .vmem S1x1x920x128 .bf16) (harg4 : arg4.IsWhole) (arg5 : Memref sig .tc .vmem S920x5120 .fp8e4m3) (harg5 : arg5.IsWhole) (arg6 : Memref sig .tc .vmem S920x1 .f32) (harg6 : arg6.IsWhole) (arg7 : Memref sig .tc .vmem S40x920x128 .f32) (harg7 : arg7.IsWhole) (arg8 : Memref sig .tc .vmem S920x128 .f32) (harg8 : arg8.IsWhole)
    (x0 x1 x2 : Vec F S1x1x920x128 .bf16) (h0 : Vec F S40x920x128 .f32) (m0 : Vec F S920x128 .f32) (K : BitVec 32 → sProp 𝕄) :
    iprop(owns (c : Thread nD τ) arg2 fullShare x0 ∗ owns (c : Thread nD τ) arg3 fullShare x1 ∗ owns (c : Thread nD τ) arg4 fullShare x2 ∗ owns (c : Thread nD τ) arg7 fullShare h0 ∗ owns (c : Thread nD τ) arg8 fullShare m0
        ∗ (iprop(owns (c : Thread nD τ) arg2 fullShare x0 ∗ owns (c : Thread nD τ) arg3 fullShare x1 ∗ owns (c : Thread nD τ) arg4 fullShare x2 ∗ owns (c : Thread nD τ) arg7 fullShare (HID i x0 x1 x2 h0) ∗ owns (c : Thread nD τ) arg8 fullShare (MM i x0 x1 x2 m0)) -∗ K (BitVec.ofNat 32 (i 1).val)))
      ⊢ wp frame (wpE (defs₀ (F := F)) Variants.none c none) E (k0_part13 i arg2 harg2 arg3 harg3 arg4 harg4 arg5 harg5 arg6 harg6 arg7 harg7 arg8 harg8) K := by
  have hc1 : ¬ (Scalar.cmpi .ne (Scalar.extui (Scalar.cmpi .eq (BitVec.ofNat 32 (i 1).val) 0#32)) 0#32 = 1#1) := by rw [c1_iff]; omega
  have hc2 : (Scalar.cmpi .ne (Scalar.extui (Scalar.cmpi .sgt (BitVec.ofNat 32 (i 1).val) 0#32)) 0#32 = 1#1) := by rw [c2_iff]; omega
  simp only [k0_part13_eq_skeleton]; unfold k0_part13_skel
  dsimp only
  simp only [dif_neg hc1, dif_pos hc2]
  unfold owns
  iintro ⟨⟨%f0, %hf0, H0⟩, ⟨%f1, %hf1, H1⟩, ⟨%f2, %hf2, H2⟩, ⟨%f5, %hf5, H5⟩, ⟨%f6, %hf6, H6⟩, Hk⟩
  subst hf0 hf1 hf2 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    exact (View.read_writes_cons_put _ _ _ _ _ (k0_off1_eq i)).trans (congrArg (VecWindow.put _ _ _) (congr (congr (congrArg k0_pay51 (View.readAt_full _ _ _)) (View.readAt_full _ _ _)) (View.readAt_full _ _ _)))
  iexists _; isplitr
  swap; · iexact H6
  ipureintro
  unfold MM; rw [if_neg hn]
  exact (View.read_writes_full _ _ _ _ _).trans (congr (congr (congr (congrArg k0_pay54 (View.readAt_full _ _ _)) (View.readAt_full _ _ _)) (View.readAt_full _ _ _)) (View.readAt_full _ _ _))

/-- One head's output, on whole buffers, at any point. -/
theorem head_any (c : Dev nD) (E : Set ℕ) (i : grid0.Coords)
    (arg2 : Memref sig .tc .vmem S1x1x920x128 .bf16) (harg2 : arg2.IsWhole) (arg3 : Memref sig .tc .vmem S1x1x920x128 .bf16) (harg3 : arg3.IsWhole) (arg4 : Memref sig .tc .vmem S1x1x920x128 .bf16) (harg4 : arg4.IsWhole) (arg5 : Memref sig .tc .vmem S920x5120 .fp8e4m3) (harg5 : arg5.IsWhole) (arg6 : Memref sig .tc .vmem S920x1 .f32) (harg6 : arg6.IsWhole) (arg7 : Memref sig .tc .vmem S40x920x128 .f32) (harg7 : arg7.IsWhole) (arg8 : Memref sig .tc .vmem S920x128 .f32) (harg8 : arg8.IsWhole)
    (x0 x1 x2 : Vec F S1x1x920x128 .bf16) (h0 : Vec F S40x920x128 .f32) (m0 : Vec F S920x128 .f32) (K : BitVec 32 → sProp 𝕄) :
    iprop(owns (c : Thread nD τ) arg2 fullShare x0 ∗ owns (c : Thread nD τ) arg3 fullShare x1 ∗ owns (c : Thread nD τ) arg4 fullShare x2 ∗ owns (c : Thread nD τ) arg7 fullShare h0 ∗ owns (c : Thread nD τ) arg8 fullShare m0
        ∗ (iprop(owns (c : Thread nD τ) arg2 fullShare x0 ∗ owns (c : Thread nD τ) arg3 fullShare x1 ∗ owns (c : Thread nD τ) arg4 fullShare x2 ∗ owns (c : Thread nD τ) arg7 fullShare (HID i x0 x1 x2 h0) ∗ owns (c : Thread nD τ) arg8 fullShare (MM i x0 x1 x2 m0)) -∗ K (BitVec.ofNat 32 (i 1).val)))
      ⊢ wp frame (wpE (defs₀ (F := F)) Variants.none c none) E (k0_part13 i arg2 harg2 arg3 harg3 arg4 harg4 arg5 harg5 arg6 harg6 arg7 harg7 arg8 harg8) K := by
  by_cases hn : (i 1).val = 0
  · exact headP c E i hn arg2 harg2 arg3 harg3 arg4 harg4 arg5 harg5 arg6 harg6 arg7 harg7 arg8 harg8 x0 x1 x2 h0 m0 K
  · exact headQ c E i hn arg2 harg2 arg3 harg3 arg4 harg4 arg5 harg5 arg6 harg6 arg7 harg7 arg8 harg8 x0 x1 x2 h0 m0 K

set_option maxHeartbeats 8000000 in
/-- The body on whole buffers, before the last head. -/
theorem sound_kernelM (c : Dev nD) (E : Set ℕ) (i : grid0.Coords) (hn : ¬ (i 1).val = 39)
    (arg2 : Memref sig .tc .vmem S1x1x920x128 .bf16) (harg2 : arg2.IsWhole) (arg3 : Memref sig .tc .vmem S1x1x920x128 .bf16) (harg3 : arg3.IsWhole) (arg4 : Memref sig .tc .vmem S1x1x920x128 .bf16) (harg4 : arg4.IsWhole) (arg5 : Memref sig .tc .vmem S920x5120 .fp8e4m3) (harg5 : arg5.IsWhole) (arg6 : Memref sig .tc .vmem S920x1 .f32) (harg6 : arg6.IsWhole) (arg7 : Memref sig .tc .vmem S40x920x128 .f32) (harg7 : arg7.IsWhole) (arg8 : Memref sig .tc .vmem S920x128 .f32) (harg8 : arg8.IsWhole)
    (x0 : Vec F S1x1x920x128 .bf16) (x1 : Vec F S1x1x920x128 .bf16) (x2 : Vec F S1x1x920x128 .bf16) (y3 : Vec F S920x5120 .fp8e4m3) (y4 : Vec F S920x1 .f32) (h0 : Vec F S40x920x128 .f32) (m0 : Vec F S920x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare y3 ∗ owns (c : Thread nD τ) arg6 fullShare y4 ∗ owns (c : Thread nD τ) arg7 fullShare h0 ∗ owns (c : Thread nD τ) arg8 fullShare m0
        ∗ (iprop(owns (c : Thread nD τ) arg2 fullShare x0 ∗ owns (c : Thread nD τ) arg3 fullShare x1 ∗ owns (c : Thread nD τ) arg4 fullShare x2 ∗ owns (c : Thread nD τ) arg5 fullShare (Y3 i (HID i x0 x1 x2 h0) (MM i x0 x1 x2 m0) y3) ∗ owns (c : Thread nD τ) arg6 fullShare (Y4 i (MM i x0 x1 x2 m0) y4) ∗ owns (c : Thread nD τ) arg7 fullShare (HID i x0 x1 x2 h0) ∗ owns (c : Thread nD τ) arg8 fullShare (MM i x0 x1 x2 m0)) -∗ K ⟨⟩))
      ⊢ wp frame (wpE (defs₀ (F := F)) Variants.none c none) E (cc0_spatial i arg2 harg2 arg3 harg3 arg4 harg4 arg5 harg5 arg6 harg6 arg7 harg7 arg8 harg8) K := by
  have hc3 : ¬ (k0_cond3 i = 1#1) := by rw [c3_iff]; omega
  simp only [cc0_spatial_eq_skeleton]; unfold cc0_spatial_skel
  rw [wp_bind]
  iintro ⟨H0, H1, H2, H3, H4, H5, H6, Hk⟩
  iapply (head_any c E i arg2 harg2 arg3 harg3 arg4 harg4 arg5 harg5 arg6 harg6 arg7 harg7 arg8 harg8 x0 x1 x2 h0 m0 _)
  isplitl [H0]; · iexact H0
  isplitl [H1]; · iexact H1
  isplitl [H2]; · iexact H2
  isplitl [H5]; · iexact H5
  isplitl [H6]; · iexact H6
  iintro ⟨H0, H1, H2, H5, H6⟩
  dsimp only
  rw [dif_neg hc3]
  sl_step
  iapply Hk
  unfold Y3 Y4
  rw [if_neg hn, if_neg hn]
  isplitl [H0]; · iexact H0
  isplitl [H1]; · iexact H1
  isplitl [H2]; · iexact H2
  isplitl [H3]; · iexact H3
  isplitl [H4]; · iexact H4
  isplitl [H5]; · iexact H5
  iexact H6

set_option maxHeartbeats 8000000 in
/-- The body on whole buffers, at a last head. -/
theorem sound_kernelL (c : Dev nD) (E : Set ℕ) (i : grid0.Coords) (hn : (i 1).val = 39)
    (arg2 : Memref sig .tc .vmem S1x1x920x128 .bf16) (harg2 : arg2.IsWhole) (arg3 : Memref sig .tc .vmem S1x1x920x128 .bf16) (harg3 : arg3.IsWhole) (arg4 : Memref sig .tc .vmem S1x1x920x128 .bf16) (harg4 : arg4.IsWhole) (arg5 : Memref sig .tc .vmem S920x5120 .fp8e4m3) (harg5 : arg5.IsWhole) (arg6 : Memref sig .tc .vmem S920x1 .f32) (harg6 : arg6.IsWhole) (arg7 : Memref sig .tc .vmem S40x920x128 .f32) (harg7 : arg7.IsWhole) (arg8 : Memref sig .tc .vmem S920x128 .f32) (harg8 : arg8.IsWhole)
    (x0 : Vec F S1x1x920x128 .bf16) (x1 : Vec F S1x1x920x128 .bf16) (x2 : Vec F S1x1x920x128 .bf16) (y3 : Vec F S920x5120 .fp8e4m3) (y4 : Vec F S920x1 .f32) (h0 : Vec F S40x920x128 .f32) (m0 : Vec F S920x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare y3 ∗ owns (c : Thread nD τ) arg6 fullShare y4 ∗ owns (c : Thread nD τ) arg7 fullShare h0 ∗ owns (c : Thread nD τ) arg8 fullShare m0
        ∗ (iprop(owns (c : Thread nD τ) arg2 fullShare x0 ∗ owns (c : Thread nD τ) arg3 fullShare x1 ∗ owns (c : Thread nD τ) arg4 fullShare x2 ∗ owns (c : Thread nD τ) arg5 fullShare (Y3 i (HID i x0 x1 x2 h0) (MM i x0 x1 x2 m0) y3) ∗ owns (c : Thread nD τ) arg6 fullShare (Y4 i (MM i x0 x1 x2 m0) y4) ∗ owns (c : Thread nD τ) arg7 fullShare (HID i x0 x1 x2 h0) ∗ owns (c : Thread nD τ) arg8 fullShare (MM i x0 x1 x2 m0)) -∗ K ⟨⟩))
      ⊢ wp frame (wpE (defs₀ (F := F)) Variants.none c none) E (cc0_spatial i arg2 harg2 arg3 harg3 arg4 harg4 arg5 harg5 arg6 harg6 arg7 harg7 arg8 harg8) K := by
  have hc3 : (k0_cond3 i = 1#1) := by rw [c3_iff]; omega
  simp only [cc0_spatial_eq_skeleton]; unfold cc0_spatial_skel
  rw [wp_bind]
  iintro ⟨H0, H1, H2, H3, H4, H5, H6, Hk⟩
  iapply (head_any c E i arg2 harg2 arg3 harg3 arg4 harg4 arg5 harg5 arg6 harg6 arg7 harg7 arg8 harg8 x0 x1 x2 h0 m0 _)
  isplitl [H0]; · iexact H0
  isplitl [H1]; · iexact H1
  isplitl [H2]; · iexact H2
  isplitl [H5]; · iexact H5
  isplitl [H6]; · iexact H6
  iintro ⟨H0, H1, H2, H5, H6⟩
  dsimp only
  rw [dif_pos hc3]
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold k0_part1_skel k0_part2_skel k0_part3_skel k0_part4_skel k0_part5_skel k0_part6_skel k0_part7_skel k0_part8_skel k0_part9_skel k0_part10_skel k0_part11_skel k0_part12_skel
  dsimp only
  unfold owns
  icases H3 with ⟨%f3, %hf3, H3⟩
  icases H4 with ⟨%f4, %hf4, H4⟩
  icases H5 with ⟨%f5, %hf5, H5⟩
  icases H6 with ⟨%f6, %hf6, H6⟩
  subst hf3 hf4
  rw [← hf5, ← hf6]
  sl_exec
  sl_step
  iapply Hk
  unfold Y3 Y4
  rw [if_pos hn, if_pos hn]
  isplitl [H0]; · iexact H0
  isplitl [H1]; · iexact H1
  isplitl [H2]; · iexact H2
  isplitl [H3]
  · iexists _; isplitr
    swap; · iexact H3
    ipureintro
    dsimp only
    iterate 40 refine put_next _ _ _ _ _ _ (by omega) _ _ _ (piece rfl (View.readAt_full _ _ _) (View.readAt_unit _ _ _ rfl (inb_head _ (by omega)))) rfl ?_
    rfl
  isplitl [H4]
  · iexists _; isplitr
    swap; · iexact H4
    ipureintro
    exact (View.read_writes_full _ _ _ _ _).trans (congrArg k0_pay2 (View.readAt_full _ _ _))
  isplitl [H5]
  · iexists f5; isplitr; · ipureintro; rfl
    iexact H5
  iexists f6; isplitr; · ipureintro; rfl
  iexact H6

/-- The body on whole buffers, at any point. -/
theorem sound_kernel (c : Dev nD) (E : Set ℕ) (i : grid0.Coords)
    (arg2 : Memref sig .tc .vmem S1x1x920x128 .bf16) (harg2 : arg2.IsWhole) (arg3 : Memref sig .tc .vmem S1x1x920x128 .bf16) (harg3 : arg3.IsWhole) (arg4 : Memref sig .tc .vmem S1x1x920x128 .bf16) (harg4 : arg4.IsWhole) (arg5 : Memref sig .tc .vmem S920x5120 .fp8e4m3) (harg5 : arg5.IsWhole) (arg6 : Memref sig .tc .vmem S920x1 .f32) (harg6 : arg6.IsWhole) (arg7 : Memref sig .tc .vmem S40x920x128 .f32) (harg7 : arg7.IsWhole) (arg8 : Memref sig .tc .vmem S920x128 .f32) (harg8 : arg8.IsWhole)
    (x0 : Vec F S1x1x920x128 .bf16) (x1 : Vec F S1x1x920x128 .bf16) (x2 : Vec F S1x1x920x128 .bf16) (y3 : Vec F S920x5120 .fp8e4m3) (y4 : Vec F S920x1 .f32) (h0 : Vec F S40x920x128 .f32) (m0 : Vec F S920x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare y3 ∗ owns (c : Thread nD τ) arg6 fullShare y4 ∗ owns (c : Thread nD τ) arg7 fullShare h0 ∗ owns (c : Thread nD τ) arg8 fullShare m0
        ∗ (iprop(owns (c : Thread nD τ) arg2 fullShare x0 ∗ owns (c : Thread nD τ) arg3 fullShare x1 ∗ owns (c : Thread nD τ) arg4 fullShare x2 ∗ owns (c : Thread nD τ) arg5 fullShare (Y3 i (HID i x0 x1 x2 h0) (MM i x0 x1 x2 m0) y3) ∗ owns (c : Thread nD τ) arg6 fullShare (Y4 i (MM i x0 x1 x2 m0) y4) ∗ owns (c : Thread nD τ) arg7 fullShare (HID i x0 x1 x2 h0) ∗ owns (c : Thread nD τ) arg8 fullShare (MM i x0 x1 x2 m0)) -∗ K ⟨⟩))
      ⊢ wp frame (wpE (defs₀ (F := F)) Variants.none c none) E (cc0_spatial i arg2 harg2 arg3 harg3 arg4 harg4 arg5 harg5 arg6 harg6 arg7 harg7 arg8 harg8) K := by
  by_cases hn : (i 1).val = 39
  · exact sound_kernelL c E i hn arg2 harg2 arg3 harg3 arg4 harg4 arg5 harg5 arg6 harg6 arg7 harg7 arg8 harg8 x0 x1 x2 y3 y4 h0 m0 K
  · exact sound_kernelM c E i hn arg2 harg2 arg3 harg3 arg4 harg4 arg5 harg5 arg6 harg6 arg7 harg7 arg8 harg8 x0 x1 x2 y3 y4 h0 m0 K
/-- The scratch buffers of the call, as the body sees them. -/
theorem scoped_owns (c : Dev nD) :
    (Pipeline.scopedRest (Ix := Unit) (Name := ℕ) (U := UR sig nD τ) (Lvl := ℕ) (Val := Elt F) spec0 c : sProp 𝕄)
      = iprop((∃ f : Vec F S40x920x128 .f32, owns (c : Thread nD τ) (Memref.whole cc0_scratch0) fullShare f)
        ∗ (∃ f : Vec F S920x128 .f32, owns (c : Thread nD τ) (Memref.whole cc0_scratch1) fullShare f)) := by
  have h0 : ∀ f : Vec F S40x920x128 .f32, (owns (c : Thread nD τ) (Memref.whole cc0_scratch0) fullShare f : sProp 𝕄) = (((c : Thread nD τ).loc cc0_scratch0) ↦{fullShare} f) := fun f => owns_whole (c : Thread nD τ) cc0_scratch0 fullShare f
  have h1 : ∀ f : Vec F S920x128 .f32, (owns (c : Thread nD τ) (Memref.whole cc0_scratch1) fullShare f : sProp 𝕄) = (((c : Thread nD τ).loc cc0_scratch1) ↦{fullShare} f) := fun f => owns_whole (c : Thread nD τ) cc0_scratch1 fullShare f
  rw [scopedRest0_eq]
  simp only [h0, h1]
  rfl

/-- The proof data of the call: the arrays as launched; after the body each input's buffer as fetched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => fun _ => Scalar.ofBits .fp8e4m3 0
    | ⟨4, _⟩ => fun _ => Scalar.ofBits .f32 0
  Φ _ := Pipeline.ΦA spec0 c
  q := Pipeline.shareOf spec0
  owed _ := 0

/-- The arrays of the proof data are the launched ones. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = fun _ => Scalar.ofBits .fp8e4m3 0 := by dsimp only [dats]
theorem after0_4 (c : Dev nD) (t : Fin cfg0.N) : (dats m 0 c).after 4 t = fun _ => Scalar.ofBits .f32 0 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

set_option maxHeartbeats 1000000 in
/-- The body at any point, the outputs left open. -/
theorem sound_body_any (c : Dev nD) (t : Fin cfg0.N) :
    iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X)
    ∗ (∃ X, owns (c : Thread nD τ) (st0_4 t) fullShare X))
    ⊢ wp frame (wpE (defs₀ (F := F)) Variants.none c none) Set.univ (bodyAt0 t) (fun _ =>
    iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ X, owns (c : Thread nD τ) (st0_3 t) fullShare X)
    ∗ (∃ X, owns (c : Thread nD τ) (st0_4 t) fullShare X))) := by
  unfold bodyAt0
  simp only [before0_0, before0_1, before0_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2]
  unfold Pipeline.ΦA
  rw [scoped_owns]
  iintro ⟨⟨⟨⟨%h0, H5⟩, ⟨%m0, H6⟩⟩, Hr⟩, Ho, ⟨%d0, H0⟩, ⟨%d1, H1⟩, ⟨%d2, H2⟩, ⟨%d3, H3⟩, ⟨%d4, H4⟩⟩
  iapply (sound_kernel c Set.univ (grid0.coords t) _ _ _ _ _ _ _ _ _ _ _ _ _ _ (iblk m c 0 t) (iblk m c 1 t) (iblk m c 2 t) d3 d4 h0 m0 _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [H5 H6 Hr]
  · isplitl [H5 H6]
    · isplitl [H5]; · iexists _; iexact H5
      iexists _; iexact H6
    iexact Hr
  isplitl [Ho]; · iexact Ho
  isplitl [H0]; · iexact H0
  isplitl [H1]; · iexact H1
  isplitl [H2]; · iexact H2
  isplitl [H3]; · iexists _; iexact H3
  iexists _; iexact H4

/-- The body table's row is the body. -/
theorem defs₀_row (t : Fin cfg0.N) :
    defs₀ (F := F) .tc cfg0.body (cfg0.bodyArgs t (cfg0.slots t)) = bodyAt0 t := by
  unfold defs₀; rw [Defs.onTc_tc]

/-- The outputs, of which nothing is said when only the arguments matter. -/
def fgt : Fin cfg0.W → Bool := fun | 3 => true | 4 => true | _ => false

/-- The body obligation with the outputs left open. -/
theorem obligation_any (c : Dev nD) : BodyObligationLoose (dats (F := F) m 0 c) (defs₀ (F := F)) Variants.none () Set.univ fgt := fun t => by
  rw [bigSep_W0, bigSep_W0, defs₀_row]
  exact triple_restated (sound_body_any m c t) rfl .rfl fun _ => .rfl

set_option backward.isDefEq.respectTransparency.types false in
set_option maxHeartbeats 800000 in
/-- The run with the outputs left open. -/
theorem run_any : θ_run defs (onTc (τ := τ) (main (F := F))) (s₀ m ρ)
    (fun r => Pipeline.RDat.FramePost (cfgs 0) (fun c => (dats m 0 c).toRForget fgt) (V m) r ∧ r.2.sem = fun _ => 0) :=
  Pipeline.θ_run_frame_forget_shared (Q' := _) cfgs (dats m) (0 : Fin 1) launch₀0 defs₀ Variants.none fgt m ρ main
    (hbody := obligation_any m) (hq := fun _ _ _ => rfl)
    (howed := fun _ _ => rfl) (V := V m) (hmain := hmain m Variants.none) (hA := A_eq m) (hΦ := fun _ _ => rfl)

/-- The call runs to its end and leaves its arguments as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun r h => ⟨fun c => h.1.arr_in c 2 rfl, h.2⟩) (run_any m ρ)

end Cert.Spatial.Body

end
-- ==== Proof.SpatialIdealBody.lean ====
/- The spatial attention (SpatialIdeal): what its body leaves in the staging and scratch buffers, and the run of the whole call. -/
module

public import proofs.«01_k».proof.Proof.Gen.SpatialIdeal.Frame
public import proofs.«01_k».proof.Proof.Gen.SpatialIdeal.Skeleton
public import Idealize.ShloMosaic.Lib.Pipeline.FrameBody
public import Idealize.ShloMosaic.Lib.VecWindow
public import Idealize.ShloMosaic.Lib.Claim
public import Idealize.ShloMosaic.Lib.Tactic

@[expose] public section

set_option maxRecDepth 65536

noncomputable section

namespace Cert.SpatialIdeal.Body

open Cert.SpatialIdeal Cert.SpatialIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The slice of the scratch buffer that head `n` works on lies inside it. -/
theorem inb_head (n : ℕ) (hn : n < 40) : ∀ a, (![n, 0, 0] : Fin 3 → ℕ) a + S1x920x128.size a ≤ S40x920x128.size a := by
  intro a
  match a with
  | ⟨0, _⟩ => show n + 1 ≤ 40; omega
  | ⟨1, _⟩ => show 0 + 920 ≤ 920; omega
  | ⟨2, _⟩ => show 0 + 128 ≤ 128; omega

/-- The head outputs after the step. -/
def HID (i : grid0.Coords) (x0 x1 x2 : Vec F S1x1x920x128 .bf16) (h0 : Vec F S40x920x128 .f32) : Vec F S40x920x128 .f32 :=
  VecWindow.put h0 ![(i 1).val, 0, 0] S1x920x128.size (k0_pay51 x0 x1 x2)
/-- The running maximum after the step. -/
def MM (i : grid0.Coords) (x0 x1 x2 : Vec F S1x1x920x128 .bf16) (m0 : Vec F S920x128 .f32) : Vec F S920x128 .f32 :=
  if (i 1).val = 0 then k0_pay53 x0 x1 x2 else k0_pay54 x0 x1 x2 m0
/-- The code block with its first `n` heads stored. -/
def PUT (h : Vec F S40x920x128 .f32) (mx : Vec F S920x128 .f32) (y : Vec F S920x5120 .fp8e4m3) : ℕ → Vec F S920x5120 .fp8e4m3
  | 0 => y
  | n + 1 => if hn : n < 40 then VecWindow.put (PUT h mx y n) ![0, 128 * n] S920x128.size (k0_pay1 (k0_pay2 mx) (VecWindow.window h ![n, 0, 0] S1x920x128.size (inb_head n hn))) else y
/-- The code block after the step. -/
def Y3 (i : grid0.Coords) (h : Vec F S40x920x128 .f32) (mx : Vec F S920x128 .f32) (y : Vec F S920x5120 .fp8e4m3) : Vec F S920x5120 .fp8e4m3 :=
  if (i 1).val = 39 then PUT h mx y 40 else y
/-- The scale block after the step. -/
def Y4 (i : grid0.Coords) (mx : Vec F S920x128 .f32) (y : Vec F S920x1 .f32) : Vec F S920x1 .f32 := if (i 1).val = 39 then k0_pay2 mx else y

/-- The conditions read as numbers, at every head. -/
theorem conds : ∀ b : Fin 40,
    (Scalar.cmpi .ne (Scalar.extui (Scalar.cmpi .eq (BitVec.ofNat 32 b.val) 0#32)) 0#32 = 1#1 ↔ b.val = 0)
    ∧ (Scalar.cmpi .ne (Scalar.extui (Scalar.cmpi .sgt (BitVec.ofNat 32 b.val) 0#32)) 0#32 = 1#1 ↔ 0 < b.val)
    ∧ (Scalar.cmpi .ne (Scalar.extui (Scalar.cmpi .eq (BitVec.ofNat 32 b.val) 39#32)) 0#32 = 1#1 ↔ b.val = 39) := by decide +kernel

theorem c1_iff (i : grid0.Coords) : Scalar.cmpi .ne (Scalar.extui (Scalar.cmpi .eq (BitVec.ofNat 32 (i 1).val) 0#32)) 0#32 = 1#1 ↔ (i 1).val = 0 := (conds (i 1)).1
theorem c2_iff (i : grid0.Coords) : Scalar.cmpi .ne (Scalar.extui (Scalar.cmpi .sgt (BitVec.ofNat 32 (i 1).val) 0#32)) 0#32 = 1#1 ↔ 0 < (i 1).val := (conds (i 1)).2.1
theorem c3_iff (i : grid0.Coords) : k0_cond3 i = 1#1 ↔ (i 1).val = 39 := (conds (i 1)).2.2

/-- Storing the codes of one more head. -/
theorem put_next {sp : Space} (v : View sig .tc sp S920x5120 .fp8e4m3) (f : v.ty.Contents (Elt F)) (h : Vec F S40x920x128 .f32) (mx : Vec F S920x128 .f32) (y : Vec F S920x5120 .fp8e4m3)
    (n : ℕ) (hn : n < 40) {off : Fin 2 → ℕ} (inb : ∀ a, off a + S920x128.size a ≤ S920x5120.size a) (w : (Rect.unit (s := S920x5120) off S920x128.size inb).shape.Idx → Elt F .fp8e4m3) (L)
    (hw : w = k0_pay1 (k0_pay2 mx) (VecWindow.window h ![n, 0, 0] S1x920x128.size (inb_head n hn))) (ho : off = ![0, 128 * n])
    (hL : v.read (Elt F) (v.writes (Elt F) f L) = PUT h mx y n) :
    v.read (Elt F) (v.writes (Elt F) f (⟨Rect.unit off S920x128.size inb, w⟩ :: L)) = PUT h mx y (n + 1) := by
  rw [View.read_writes_cons_put v f inb w L ho, hL, hw]
  rw [PUT, dif_pos hn]

/-- A written block is the quantised head: its two arguments may be read through the buffers. -/
theorem piece {w : FVec F S920x128 .fp8e4m3} {a a' : Vec F S920x128 .f32} {b b' : Vec F S1x920x128 .f32} (h : w = k0_pay1 (k0_pay2 a) b) (ha : a = a') (hb : b = b') :
    w = k0_pay1 (k0_pay2 a') b' := by
  rw [h, ha, hb]

set_option maxHeartbeats 2000000 in
/-- One head's output, on whole buffers, the first head. -/
theorem headP (c : Dev nD) (E : Set ℕ) (i : grid0.Coords) (hn : (i 1).val = 0)
    (arg2 : Memref sig .tc .vmem S1x1x920x128 .bf16) (harg2 : arg2.IsWhole) (arg3 : Memref sig .tc .vmem S1x1x920x128 .bf16) (harg3 : arg3.IsWhole) (arg4 : Memref sig .tc .vmem S1x1x920x128 .bf16) (harg4 : arg4.IsWhole) (arg5 : Memref sig .tc .vmem S920x5120 .fp8e4m3) (harg5 : arg5.IsWhole) (arg6 : Memref sig .tc .vmem S920x1 .f32) (harg6 : arg6.IsWhole) (arg7 : Memref sig .tc .vmem S40x920x128 .f32) (harg7 : arg7.IsWhole) (arg8 : Memref sig .tc .vmem S920x128 .f32) (harg8 : arg8.IsWhole)
    (x0 x1 x2 : Vec F S1x1x920x128 .bf16) (h0 : Vec F S40x920x128 .f32) (m0 : Vec F S920x128 .f32) (K : BitVec 32 → sProp 𝕄) :
    iprop(owns (c : Thread nD τ) arg2 fullShare x0 ∗ owns (c : Thread nD τ) arg3 fullShare x1 ∗ owns (c : Thread nD τ) arg4 fullShare x2 ∗ owns (c : Thread nD τ) arg7 fullShare h0 ∗ owns (c : Thread nD τ) arg8 fullShare m0
        ∗ (iprop(owns (c : Thread nD τ) arg2 fullShare x0 ∗ owns (c : Thread nD τ) arg3 fullShare x1 ∗ owns (c : Thread nD τ) arg4 fullShare x2 ∗ owns (c : Thread nD τ) arg7 fullShare (HID i x0 x1 x2 h0) ∗ owns (c : Thread nD τ) arg8 fullShare (MM i x0 x1 x2 m0)) -∗ K (BitVec.ofNat 32 (i 1).val)))
      ⊢ wp frame (wpE (defs₀ (F := F)) Variants.none c none) E (k0_part13 i arg2 harg2 arg3 harg3 arg4 harg4 arg5 harg5 arg6 harg6 arg7 harg7 arg8 harg8) K := by
  have hc1 : (Scalar.cmpi .ne (Scalar.extui (Scalar.cmpi .eq (BitVec.ofNat 32 (i 1).val) 0#32)) 0#32 = 1#1) := by rw [c1_iff]; omega
  have hc2 : ¬ (Scalar.cmpi .ne (Scalar.extui (Scalar.cmpi .sgt (BitVec.ofNat 32 (i 1).val) 0#32)) 0#32 = 1#1) := by rw [c2_iff]; omega
  simp only [k0_part13_eq_skeleton]; unfold k0_part13_skel
  dsimp only
  simp only [dif_pos hc1, dif_neg hc2]
  unfold owns
  iintro ⟨⟨%f0, %hf0, H0⟩, ⟨%f1, %hf1, H1⟩, ⟨%f2, %hf2, H2⟩, ⟨%f5, %hf5, H5⟩, ⟨%f6, %hf6, H6⟩, Hk⟩
  subst hf0 hf1 hf2 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    exact (View.read_writes_cons_put _ _ _ _ _ (k0_off1_eq i)).trans (congrArg (VecWindow.put _ _ _) (congr (congr (congrArg k0_pay51 (View.readAt_full _ _ _)) (View.readAt_full _ _ _)) (View.readAt_full _ _ _)))
  iexists _; isplitr
  swap; · iexact H6
  ipureintro
  unfold MM; rw [if_pos hn]
  exact (View.read_writes_full _ _ _ _ _).trans (congr (congr (congrArg k0_pay53 (View.readAt_full _ _ _)) (View.readAt_full _ _ _)) (View.readAt_full _ _ _))

set_option maxHeartbeats 2000000 in
/-- One head's output, on whole buffers, a later head. -/
theorem headQ (c : Dev nD) (E : Set ℕ) (i : grid0.Coords) (hn : ¬ (i 1).val = 0)
    (arg2 : Memref sig .tc .vmem S1x1x920x128 .bf16) (harg2 : arg2.IsWhole) (arg3 : Memref sig .tc .vmem S1x1x920x128 .bf16) (harg3 : arg3.IsWhole) (arg4 : Memref sig .tc .vmem S1x1x920x128 .bf16) (harg4 : arg4.IsWhole) (arg5 : Memref sig .tc .vmem S920x5120 .fp8e4m3) (harg5 : arg5.IsWhole) (arg6 : Memref sig .tc .vmem S920x1 .f32) (harg6 : arg6.IsWhole) (arg7 : Memref sig .tc .vmem S40x920x128 .f32) (harg7 : arg7.IsWhole) (arg8 : Memref sig .tc .vmem S920x128 .f32) (harg8 : arg8.IsWhole)
    (x0 x1 x2 : Vec F S1x1x920x128 .bf16) (h0 : Vec F S40x920x128 .f32) (m0 : Vec F S920x128 .f32) (K : BitVec 32 → sProp 𝕄) :
    iprop(owns (c : Thread nD τ) arg2 fullShare x0 ∗ owns (c : Thread nD τ) arg3 fullShare x1 ∗ owns (c : Thread nD τ) arg4 fullShare x2 ∗ owns (c : Thread nD τ) arg7 fullShare h0 ∗ owns (c : Thread nD τ) arg8 fullShare m0
        ∗ (iprop(owns (c : Thread nD τ) arg2 fullShare x0 ∗ owns (c : Thread nD τ) arg3 fullShare x1 ∗ owns (c : Thread nD τ) arg4 fullShare x2 ∗ owns (c : Thread nD τ) arg7 fullShare (HID i x0 x1 x2 h0) ∗ owns (c : Thread nD τ) arg8 fullShare (MM i x0 x1 x2 m0)) -∗ K (BitVec.ofNat 32 (i 1).val)))
      ⊢ wp frame (wpE (defs₀ (F := F)) Variants.none c none) E (k0_part13 i arg2 harg2 arg3 harg3 arg4 harg4 arg5 harg5 arg6 harg6 arg7 harg7 arg8 harg8) K := by
  have hc1 : ¬ (Scalar.cmpi .ne (Scalar.extui (Scalar.cmpi .eq (BitVec.ofNat 32 (i 1).val) 0#32)) 0#32 = 1#1) := by rw [c1_iff]; omega
  have hc2 : (Scalar.cmpi .ne (Scalar.extui (Scalar.cmpi .sgt (BitVec.ofNat 32 (i 1).val) 0#32)) 0#32 = 1#1) := by rw [c2_iff]; omega
  simp only [k0_part13_eq_skeleton]; unfold k0_part13_skel
  dsimp only
  simp only [dif_neg hc1, dif_pos hc2]
  unfold owns
  iintro ⟨⟨%f0, %hf0, H0⟩, ⟨%f1, %hf1, H1⟩, ⟨%f2, %hf2, H2⟩, ⟨%f5, %hf5, H5⟩, ⟨%f6, %hf6, H6⟩, Hk⟩
  subst hf0 hf1 hf2 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    exact (View.read_writes_cons_put _ _ _ _ _ (k0_off1_eq i)).trans (congrArg (VecWindow.put _ _ _) (congr (congr (congrArg k0_pay51 (View.readAt_full _ _ _)) (View.readAt_full _ _ _)) (View.readAt_full _ _ _)))
  iexists _; isplitr
  swap; · iexact H6
  ipureintro
  unfold MM; rw [if_neg hn]
  exact (View.read_writes_full _ _ _ _ _).trans (congr (congr (congr (congrArg k0_pay54 (View.readAt_full _ _ _)) (View.readAt_full _ _ _)) (View.readAt_full _ _ _)) (View.readAt_full _ _ _))

/-- One head's output, on whole buffers, at any point. -/
theorem head_any (c : Dev nD) (E : Set ℕ) (i : grid0.Coords)
    (arg2 : Memref sig .tc .vmem S1x1x920x128 .bf16) (harg2 : arg2.IsWhole) (arg3 : Memref sig .tc .vmem S1x1x920x128 .bf16) (harg3 : arg3.IsWhole) (arg4 : Memref sig .tc .vmem S1x1x920x128 .bf16) (harg4 : arg4.IsWhole) (arg5 : Memref sig .tc .vmem S920x5120 .fp8e4m3) (harg5 : arg5.IsWhole) (arg6 : Memref sig .tc .vmem S920x1 .f32) (harg6 : arg6.IsWhole) (arg7 : Memref sig .tc .vmem S40x920x128 .f32) (harg7 : arg7.IsWhole) (arg8 : Memref sig .tc .vmem S920x128 .f32) (harg8 : arg8.IsWhole)
    (x0 x1 x2 : Vec F S1x1x920x128 .bf16) (h0 : Vec F S40x920x128 .f32) (m0 : Vec F S920x128 .f32) (K : BitVec 32 → sProp 𝕄) :
    iprop(owns (c : Thread nD τ) arg2 fullShare x0 ∗ owns (c : Thread nD τ) arg3 fullShare x1 ∗ owns (c : Thread nD τ) arg4 fullShare x2 ∗ owns (c : Thread nD τ) arg7 fullShare h0 ∗ owns (c : Thread nD τ) arg8 fullShare m0
        ∗ (iprop(owns (c : Thread nD τ) arg2 fullShare x0 ∗ owns (c : Thread nD τ) arg3 fullShare x1 ∗ owns (c : Thread nD τ) arg4 fullShare x2 ∗ owns (c : Thread nD τ) arg7 fullShare (HID i x0 x1 x2 h0) ∗ owns (c : Thread nD τ) arg8 fullShare (MM i x0 x1 x2 m0)) -∗ K (BitVec.ofNat 32 (i 1).val)))
      ⊢ wp frame (wpE (defs₀ (F := F)) Variants.none c none) E (k0_part13 i arg2 harg2 arg3 harg3 arg4 harg4 arg5 harg5 arg6 harg6 arg7 harg7 arg8 harg8) K := by
  by_cases hn : (i 1).val = 0
  · exact headP c E i hn arg2 harg2 arg3 harg3 arg4 harg4 arg5 harg5 arg6 harg6 arg7 harg7 arg8 harg8 x0 x1 x2 h0 m0 K
  · exact headQ c E i hn arg2 harg2 arg3 harg3 arg4 harg4 arg5 harg5 arg6 harg6 arg7 harg7 arg8 harg8 x0 x1 x2 h0 m0 K

set_option maxHeartbeats 8000000 in
/-- The body on whole buffers, before the last head. -/
theorem sound_kernelM (c : Dev nD) (E : Set ℕ) (i : grid0.Coords) (hn : ¬ (i 1).val = 39)
    (arg2 : Memref sig .tc .vmem S1x1x920x128 .bf16) (harg2 : arg2.IsWhole) (arg3 : Memref sig .tc .vmem S1x1x920x128 .bf16) (harg3 : arg3.IsWhole) (arg4 : Memref sig .tc .vmem S1x1x920x128 .bf16) (harg4 : arg4.IsWhole) (arg5 : Memref sig .tc .vmem S920x5120 .fp8e4m3) (harg5 : arg5.IsWhole) (arg6 : Memref sig .tc .vmem S920x1 .f32) (harg6 : arg6.IsWhole) (arg7 : Memref sig .tc .vmem S40x920x128 .f32) (harg7 : arg7.IsWhole) (arg8 : Memref sig .tc .vmem S920x128 .f32) (harg8 : arg8.IsWhole)
    (x0 : Vec F S1x1x920x128 .bf16) (x1 : Vec F S1x1x920x128 .bf16) (x2 : Vec F S1x1x920x128 .bf16) (y3 : Vec F S920x5120 .fp8e4m3) (y4 : Vec F S920x1 .f32) (h0 : Vec F S40x920x128 .f32) (m0 : Vec F S920x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare y3 ∗ owns (c : Thread nD τ) arg6 fullShare y4 ∗ owns (c : Thread nD τ) arg7 fullShare h0 ∗ owns (c : Thread nD τ) arg8 fullShare m0
        ∗ (iprop(owns (c : Thread nD τ) arg2 fullShare x0 ∗ owns (c : Thread nD τ) arg3 fullShare x1 ∗ owns (c : Thread nD τ) arg4 fullShare x2 ∗ owns (c : Thread nD τ) arg5 fullShare (Y3 i (HID i x0 x1 x2 h0) (MM i x0 x1 x2 m0) y3) ∗ owns (c : Thread nD τ) arg6 fullShare (Y4 i (MM i x0 x1 x2 m0) y4) ∗ owns (c : Thread nD τ) arg7 fullShare (HID i x0 x1 x2 h0) ∗ owns (c : Thread nD τ) arg8 fullShare (MM i x0 x1 x2 m0)) -∗ K ⟨⟩))
      ⊢ wp frame (wpE (defs₀ (F := F)) Variants.none c none) E (cc0_spatial i arg2 harg2 arg3 harg3 arg4 harg4 arg5 harg5 arg6 harg6 arg7 harg7 arg8 harg8) K := by
  have hc3 : ¬ (k0_cond3 i = 1#1) := by rw [c3_iff]; omega
  simp only [cc0_spatial_eq_skeleton]; unfold cc0_spatial_skel
  rw [wp_bind]
  iintro ⟨H0, H1, H2, H3, H4, H5, H6, Hk⟩
  iapply (head_any c E i arg2 harg2 arg3 harg3 arg4 harg4 arg5 harg5 arg6 harg6 arg7 harg7 arg8 harg8 x0 x1 x2 h0 m0 _)
  isplitl [H0]; · iexact H0
  isplitl [H1]; · iexact H1
  isplitl [H2]; · iexact H2
  isplitl [H5]; · iexact H5
  isplitl [H6]; · iexact H6
  iintro ⟨H0, H1, H2, H5, H6⟩
  dsimp only
  rw [dif_neg hc3]
  sl_step
  iapply Hk
  unfold Y3 Y4
  rw [if_neg hn, if_neg hn]
  isplitl [H0]; · iexact H0
  isplitl [H1]; · iexact H1
  isplitl [H2]; · iexact H2
  isplitl [H3]; · iexact H3
  isplitl [H4]; · iexact H4
  isplitl [H5]; · iexact H5
  iexact H6

set_option maxHeartbeats 8000000 in
/-- The body on whole buffers, at a last head. -/
theorem sound_kernelL (c : Dev nD) (E : Set ℕ) (i : grid0.Coords) (hn : (i 1).val = 39)
    (arg2 : Memref sig .tc .vmem S1x1x920x128 .bf16) (harg2 : arg2.IsWhole) (arg3 : Memref sig .tc .vmem S1x1x920x128 .bf16) (harg3 : arg3.IsWhole) (arg4 : Memref sig .tc .vmem S1x1x920x128 .bf16) (harg4 : arg4.IsWhole) (arg5 : Memref sig .tc .vmem S920x5120 .fp8e4m3) (harg5 : arg5.IsWhole) (arg6 : Memref sig .tc .vmem S920x1 .f32) (harg6 : arg6.IsWhole) (arg7 : Memref sig .tc .vmem S40x920x128 .f32) (harg7 : arg7.IsWhole) (arg8 : Memref sig .tc .vmem S920x128 .f32) (harg8 : arg8.IsWhole)
    (x0 : Vec F S1x1x920x128 .bf16) (x1 : Vec F S1x1x920x128 .bf16) (x2 : Vec F S1x1x920x128 .bf16) (y3 : Vec F S920x5120 .fp8e4m3) (y4 : Vec F S920x1 .f32) (h0 : Vec F S40x920x128 .f32) (m0 : Vec F S920x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare y3 ∗ owns (c : Thread nD τ) arg6 fullShare y4 ∗ owns (c : Thread nD τ) arg7 fullShare h0 ∗ owns (c : Thread nD τ) arg8 fullShare m0
        ∗ (iprop(owns (c : Thread nD τ) arg2 fullShare x0 ∗ owns (c : Thread nD τ) arg3 fullShare x1 ∗ owns (c : Thread nD τ) arg4 fullShare x2 ∗ owns (c : Thread nD τ) arg5 fullShare (Y3 i (HID i x0 x1 x2 h0) (MM i x0 x1 x2 m0) y3) ∗ owns (c : Thread nD τ) arg6 fullShare (Y4 i (MM i x0 x1 x2 m0) y4) ∗ owns (c : Thread nD τ) arg7 fullShare (HID i x0 x1 x2 h0) ∗ owns (c : Thread nD τ) arg8 fullShare (MM i x0 x1 x2 m0)) -∗ K ⟨⟩))
      ⊢ wp frame (wpE (defs₀ (F := F)) Variants.none c none) E (cc0_spatial i arg2 harg2 arg3 harg3 arg4 harg4 arg5 harg5 arg6 harg6 arg7 harg7 arg8 harg8) K := by
  have hc3 : (k0_cond3 i = 1#1) := by rw [c3_iff]; omega
  simp only [cc0_spatial_eq_skeleton]; unfold cc0_spatial_skel
  rw [wp_bind]
  iintro ⟨H0, H1, H2, H3, H4, H5, H6, Hk⟩
  iapply (head_any c E i arg2 harg2 arg3 harg3 arg4 harg4 arg5 harg5 arg6 harg6 arg7 harg7 arg8 harg8 x0 x1 x2 h0 m0 _)
  isplitl [H0]; · iexact H0
  isplitl [H1]; · iexact H1
  isplitl [H2]; · iexact H2
  isplitl [H5]; · iexact H5
  isplitl [H6]; · iexact H6
  iintro ⟨H0, H1, H2, H5, H6⟩
  dsimp only
  rw [dif_pos hc3]
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold k0_part1_skel k0_part2_skel k0_part3_skel k0_part4_skel k0_part5_skel k0_part6_skel k0_part7_skel k0_part8_skel k0_part9_skel k0_part10_skel k0_part11_skel k0_part12_skel
  dsimp only
  unfold owns
  icases H3 with ⟨%f3, %hf3, H3⟩
  icases H4 with ⟨%f4, %hf4, H4⟩
  icases H5 with ⟨%f5, %hf5, H5⟩
  icases H6 with ⟨%f6, %hf6, H6⟩
  subst hf3 hf4
  rw [← hf5, ← hf6]
  sl_exec
  sl_step
  iapply Hk
  unfold Y3 Y4
  rw [if_pos hn, if_pos hn]
  isplitl [H0]; · iexact H0
  isplitl [H1]; · iexact H1
  isplitl [H2]; · iexact H2
  isplitl [H3]
  · iexists _; isplitr
    swap; · iexact H3
    ipureintro
    dsimp only
    iterate 40 refine put_next _ _ _ _ _ _ (by omega) _ _ _ (piece rfl (View.readAt_full _ _ _) (View.readAt_unit _ _ _ rfl (inb_head _ (by omega)))) rfl ?_
    rfl
  isplitl [H4]
  · iexists _; isplitr
    swap; · iexact H4
    ipureintro
    exact (View.read_writes_full _ _ _ _ _).trans (congrArg k0_pay2 (View.readAt_full _ _ _))
  isplitl [H5]
  · iexists f5; isplitr; · ipureintro; rfl
    iexact H5
  iexists f6; isplitr; · ipureintro; rfl
  iexact H6

/-- The body on whole buffers, at any point. -/
theorem sound_kernel (c : Dev nD) (E : Set ℕ) (i : grid0.Coords)
    (arg2 : Memref sig .tc .vmem S1x1x920x128 .bf16) (harg2 : arg2.IsWhole) (arg3 : Memref sig .tc .vmem S1x1x920x128 .bf16) (harg3 : arg3.IsWhole) (arg4 : Memref sig .tc .vmem S1x1x920x128 .bf16) (harg4 : arg4.IsWhole) (arg5 : Memref sig .tc .vmem S920x5120 .fp8e4m3) (harg5 : arg5.IsWhole) (arg6 : Memref sig .tc .vmem S920x1 .f32) (harg6 : arg6.IsWhole) (arg7 : Memref sig .tc .vmem S40x920x128 .f32) (harg7 : arg7.IsWhole) (arg8 : Memref sig .tc .vmem S920x128 .f32) (harg8 : arg8.IsWhole)
    (x0 : Vec F S1x1x920x128 .bf16) (x1 : Vec F S1x1x920x128 .bf16) (x2 : Vec F S1x1x920x128 .bf16) (y3 : Vec F S920x5120 .fp8e4m3) (y4 : Vec F S920x1 .f32) (h0 : Vec F S40x920x128 .f32) (m0 : Vec F S920x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare y3 ∗ owns (c : Thread nD τ) arg6 fullShare y4 ∗ owns (c : Thread nD τ) arg7 fullShare h0 ∗ owns (c : Thread nD τ) arg8 fullShare m0
        ∗ (iprop(owns (c : Thread nD τ) arg2 fullShare x0 ∗ owns (c : Thread nD τ) arg3 fullShare x1 ∗ owns (c : Thread nD τ) arg4 fullShare x2 ∗ owns (c : Thread nD τ) arg5 fullShare (Y3 i (HID i x0 x1 x2 h0) (MM i x0 x1 x2 m0) y3) ∗ owns (c : Thread nD τ) arg6 fullShare (Y4 i (MM i x0 x1 x2 m0) y4) ∗ owns (c : Thread nD τ) arg7 fullShare (HID i x0 x1 x2 h0) ∗ owns (c : Thread nD τ) arg8 fullShare (MM i x0 x1 x2 m0)) -∗ K ⟨⟩))
      ⊢ wp frame (wpE (defs₀ (F := F)) Variants.none c none) E (cc0_spatial i arg2 harg2 arg3 harg3 arg4 harg4 arg5 harg5 arg6 harg6 arg7 harg7 arg8 harg8) K := by
  by_cases hn : (i 1).val = 39
  · exact sound_kernelL c E i hn arg2 harg2 arg3 harg3 arg4 harg4 arg5 harg5 arg6 harg6 arg7 harg7 arg8 harg8 x0 x1 x2 y3 y4 h0 m0 K
  · exact sound_kernelM c E i hn arg2 harg2 arg3 harg3 arg4 harg4 arg5 harg5 arg6 harg6 arg7 harg7 arg8 harg8 x0 x1 x2 y3 y4 h0 m0 K
/-- The scratch buffers of the call, as the body sees them. -/
theorem scoped_owns (c : Dev nD) :
    (Pipeline.scopedRest (Ix := Unit) (Name := ℕ) (U := UR sig nD τ) (Lvl := ℕ) (Val := Elt F) spec0 c : sProp 𝕄)
      = iprop((∃ f : Vec F S40x920x128 .f32, owns (c : Thread nD τ) (Memref.whole cc0_scratch0) fullShare f)
        ∗ (∃ f : Vec F S920x128 .f32, owns (c : Thread nD τ) (Memref.whole cc0_scratch1) fullShare f)) := by
  have h0 : ∀ f : Vec F S40x920x128 .f32, (owns (c : Thread nD τ) (Memref.whole cc0_scratch0) fullShare f : sProp 𝕄) = (((c : Thread nD τ).loc cc0_scratch0) ↦{fullShare} f) := fun f => owns_whole (c : Thread nD τ) cc0_scratch0 fullShare f
  have h1 : ∀ f : Vec F S920x128 .f32, (owns (c : Thread nD τ) (Memref.whole cc0_scratch1) fullShare f : sProp 𝕄) = (((c : Thread nD τ).loc cc0_scratch1) ↦{fullShare} f) := fun f => owns_whole (c : Thread nD τ) cc0_scratch1 fullShare f
  rw [scopedRest0_eq]
  simp only [h0, h1]
  rfl

/-- The proof data of the call: the arrays as launched; after the body each input's buffer as fetched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => fun _ => Scalar.ofBits .fp8e4m3 0
    | ⟨4, _⟩ => fun _ => Scalar.ofBits .f32 0
  Φ _ := Pipeline.ΦA spec0 c
  q := Pipeline.shareOf spec0
  owed _ := 0

/-- The arrays of the proof data are the launched ones. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = fun _ => Scalar.ofBits .fp8e4m3 0 := by dsimp only [dats]
theorem after0_4 (c : Dev nD) (t : Fin cfg0.N) : (dats m 0 c).after 4 t = fun _ => Scalar.ofBits .f32 0 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

set_option maxHeartbeats 1000000 in
/-- The body at any point, the outputs left open. -/
theorem sound_body_any (c : Dev nD) (t : Fin cfg0.N) :
    iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X)
    ∗ (∃ X, owns (c : Thread nD τ) (st0_4 t) fullShare X))
    ⊢ wp frame (wpE (defs₀ (F := F)) Variants.none c none) Set.univ (bodyAt0 t) (fun _ =>
    iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ X, owns (c : Thread nD τ) (st0_3 t) fullShare X)
    ∗ (∃ X, owns (c : Thread nD τ) (st0_4 t) fullShare X))) := by
  unfold bodyAt0
  simp only [before0_0, before0_1, before0_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2]
  unfold Pipeline.ΦA
  rw [scoped_owns]
  iintro ⟨⟨⟨⟨%h0, H5⟩, ⟨%m0, H6⟩⟩, Hr⟩, Ho, ⟨%d0, H0⟩, ⟨%d1, H1⟩, ⟨%d2, H2⟩, ⟨%d3, H3⟩, ⟨%d4, H4⟩⟩
  iapply (sound_kernel c Set.univ (grid0.coords t) _ _ _ _ _ _ _ _ _ _ _ _ _ _ (iblk m c 0 t) (iblk m c 1 t) (iblk m c 2 t) d3 d4 h0 m0 _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [H5 H6 Hr]
  · isplitl [H5 H6]
    · isplitl [H5]; · iexists _; iexact H5
      iexists _; iexact H6
    iexact Hr
  isplitl [Ho]; · iexact Ho
  isplitl [H0]; · iexact H0
  isplitl [H1]; · iexact H1
  isplitl [H2]; · iexact H2
  isplitl [H3]; · iexists _; iexact H3
  iexists _; iexact H4

/-- The body table's row is the body. -/
theorem defs₀_row (t : Fin cfg0.N) :
    defs₀ (F := F) .tc cfg0.body (cfg0.bodyArgs t (cfg0.slots t)) = bodyAt0 t := by
  unfold defs₀; rw [Defs.onTc_tc]

/-- The outputs, of which nothing is said when only the arguments matter. -/
def fgt : Fin cfg0.W → Bool := fun | 3 => true | 4 => true | _ => false

/-- The body obligation with the outputs left open. -/
theorem obligation_any (c : Dev nD) : BodyObligationLoose (dats (F := F) m 0 c) (defs₀ (F := F)) Variants.none () Set.univ fgt := fun t => by
  rw [bigSep_W0, bigSep_W0, defs₀_row]
  exact triple_restated (sound_body_any m c t) rfl .rfl fun _ => .rfl

set_option backward.isDefEq.respectTransparency.types false in
set_option maxHeartbeats 800000 in
/-- The run with the outputs left open. -/
theorem run_any : θ_run defs (onTc (τ := τ) (main (F := F))) (s₀ m ρ)
    (fun r => Pipeline.RDat.FramePost (cfgs 0) (fun c => (dats m 0 c).toRForget fgt) (V m) r ∧ r.2.sem = fun _ => 0) :=
  Pipeline.θ_run_frame_forget_shared (Q' := _) cfgs (dats m) (0 : Fin 1) launch₀0 defs₀ Variants.none fgt m ρ main
    (hbody := obligation_any m) (hq := fun _ _ _ => rfl)
    (howed := fun _ _ => rfl) (V := V m) (hmain := hmain m Variants.none) (hA := A_eq m) (hΦ := fun _ _ => rfl)

/-- The call runs to its end and leaves its arguments as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun r h => ⟨fun c => h.1.arr_in c 2 rfl, h.2⟩) (run_any m ρ)

end Cert.SpatialIdeal.Body

end
-- ==== Proof.Fc1IdealBody.lean ====
/- The first feed-forward product (Fc1Ideal): what its body leaves in the staging and scratch buffers, and the run of the whole call. -/
module

public import proofs.«01_k».proof.Proof.Gen.Fc1Ideal.Frame
public import proofs.«01_k».proof.Proof.Gen.Fc1Ideal.Skeleton
public import Idealize.ShloMosaic.Lib.Pipeline.FrameBody
public import Idealize.ShloMosaic.Lib.VecWindow
public import Idealize.ShloMosaic.Lib.Claim
public import Idealize.ShloMosaic.Lib.Tactic

@[expose] public section

set_option maxRecDepth 16384

noncomputable section

namespace Cert.Fc1Ideal.Body

open Cert.Fc1Ideal Cert.Fc1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The columns of row-block scratch that grid step `n` works on. -/
theorem inb_col (i : grid0.Coords) : ∀ a, (![0, 512 * (i 1).val] : Fin 2 → ℕ) a + S512x512.size a ≤ S512x20480.size a := by
  intro a
  have h : (i 1).val < 40 := (i 1).isLt
  match a with
  | ⟨0, _⟩ => show 0 + 512 ≤ 512; omega
  | ⟨1, _⟩ => show 512 * (i 1).val + 512 ≤ 20480; omega

/-- The running maximum after its reset at a row block's first step. -/
def M1 (i : grid0.Coords) (m0 : Vec F S512x128 .f32) : Vec F S512x128 .f32 := if (i 1).val = 0 then k0_pay2 else m0
/-- The scale kept: taken from the finished maximum at a row block's first step. -/
def SC (i : grid0.Coords) (m0 : Vec F S512x128 .f32) (sc0 : Vec F S512x1 .f32) : Vec F S512x1 .f32 :=
  if (i 1).val = 0 ∧ 0 < (i 0).val then k0_pay1 m0 else sc0
/-- The running maximum after the step. -/
def MM (i : grid0.Coords) (x0 : Vec F S512x5120 .fp8e4m3) (x1 : Vec F S512x1 .f32) (x2 : Vec F S5120x512 .fp8e4m3) (x3 x4 : Vec F S1x512 .f32)
    (m0 : Vec F S512x128 .f32) : Vec F S512x128 .f32 :=
  if (i 0).val < 11 then k0_pay6 x0 x2 x1 x3 x4 (M1 i m0) else M1 i m0
/-- The hidden rows after the step. -/
def HID (i : grid0.Coords) (x0 : Vec F S512x5120 .fp8e4m3) (x1 : Vec F S512x1 .f32) (x2 : Vec F S5120x512 .fp8e4m3) (x3 x4 : Vec F S1x512 .f32)
    (h0 : Vec F S512x20480 .f32) : Vec F S512x20480 .f32 :=
  if (i 0).val < 11 then VecWindow.put h0 ![0, 512 * (i 1).val] S512x512.size (k0_pay5 x0 x2 x1 x3 x4) else h0
/-- The quantised block stored. -/
def Y5 (i : grid0.Coords) (m0 : Vec F S512x128 .f32) (sc0 : Vec F S512x1 .f32) (h0 : Vec F S512x20480 .f32) (y5 : Vec F S512x512 .fp8e4m3) : Vec F S512x512 .fp8e4m3 :=
  if 0 < (i 0).val then k0_pay3 (SC i m0 sc0) (VecWindow.window h0 ![0, 512 * (i 1).val] S512x512.size (inb_col i)) else y5
/-- The scale block stored. -/
def Y6 (i : grid0.Coords) (m0 : Vec F S512x128 .f32) (sc0 : Vec F S512x1 .f32) (y6 : Vec F S512x1 .f32) : Vec F S512x1 .f32 :=
  if 0 < (i 0).val then SC i m0 sc0 else y6

/-- The first condition of the body. -/
abbrev c1 (i : grid0.Coords) : BitVec 1 :=
  Scalar.cmpi .ne (Scalar.extui (Scalar.andi (Scalar.cmpi .eq (BitVec.ofNat 32 (i 1).val) 0#32) (Scalar.cmpi .sgt (BitVec.ofNat 32 (i 0).val) 0#32))) 0#32
/-- The second condition of the body. -/
abbrev c2 (i : grid0.Coords) : BitVec 1 := Scalar.cmpi .ne (Scalar.extui (Scalar.cmpi .eq (BitVec.ofNat 32 (i 1).val) 0#32)) 0#32

/-- The conditions read as numbers, at every grid point. -/
theorem conds : ∀ (a : Fin 12) (b : Fin 40),
    (Scalar.cmpi .ne (Scalar.extui (Scalar.andi (Scalar.cmpi .eq (BitVec.ofNat 32 b.val) 0#32) (Scalar.cmpi .sgt (BitVec.ofNat 32 a.val) 0#32))) 0#32 = 1#1 ↔ b.val = 0 ∧ 0 < a.val)
    ∧ (Scalar.cmpi .ne (Scalar.extui (Scalar.cmpi .eq (BitVec.ofNat 32 b.val) 0#32)) 0#32 = 1#1 ↔ b.val = 0)
    ∧ (Scalar.cmpi .ne (Scalar.extui (Scalar.cmpi .sgt (BitVec.ofNat 32 a.val) 0#32)) 0#32 = 1#1 ↔ 0 < a.val)
    ∧ (Scalar.cmpi .ne (Scalar.extui (Scalar.cmpi .slt (BitVec.ofNat 32 a.val) 11#32)) 0#32 = 1#1 ↔ a.val < 11) := by decide +kernel

theorem c1_iff (i : grid0.Coords) : c1 i = 1#1 ↔ ((i 1).val = 0 ∧ 0 < (i 0).val) := (conds (i 0) (i 1)).1
theorem c2_iff (i : grid0.Coords) : c2 i = 1#1 ↔ (i 1).val = 0 := (conds (i 0) (i 1)).2.1
theorem c3_iff (i : grid0.Coords) : k0_cond3 i = 1#1 ↔ 0 < (i 0).val := (conds (i 0) (i 1)).2.2.1
theorem c4_iff (i : grid0.Coords) : k0_cond4 i = 1#1 ↔ (i 0).val < 11 := (conds (i 0) (i 1)).2.2.2

set_option maxHeartbeats 2000000 in
/-- The body on whole buffers, at a point with `n = 0` True, `0 < i` False, `i < 11` True. -/
theorem sound_kernelA (c : Dev nD) (E : Set ℕ) (i : grid0.Coords) (hn : (i 1).val = 0) (hi : ¬ 0 < (i 0).val) (hi' : (i 0).val < 11)
    (arg2 : Memref sig .tc .vmem S512x5120 .fp8e4m3) (harg2 : arg2.IsWhole) (arg3 : Memref sig .tc .vmem S512x1 .f32) (harg3 : arg3.IsWhole) (arg4 : Memref sig .tc .vmem S5120x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .fp8e4m3) (harg7 : arg7.IsWhole) (arg8 : Memref sig .tc .vmem S512x1 .f32) (harg8 : arg8.IsWhole) (arg9 : Memref sig .tc .vmem S512x20480 .f32) (harg9 : arg9.IsWhole) (arg10 : Memref sig .tc .vmem S512x128 .f32) (harg10 : arg10.IsWhole) (arg11 : Memref sig .tc .vmem S512x1 .f32) (harg11 : arg11.IsWhole)
    (x0 : Vec F S512x5120 .fp8e4m3) (x1 : Vec F S512x1 .f32) (x2 : Vec F S5120x512 .fp8e4m3) (x3 : Vec F S1x512 .f32) (x4 : Vec F S1x512 .f32) (y5 : Vec F S512x512 .fp8e4m3) (y6 : Vec F S512x1 .f32) (h0 : Vec F S512x20480 .f32) (m0 : Vec F S512x128 .f32) (sc0 : Vec F S512x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare h0 ∗ owns (c : Thread nD τ) arg10 fullShare m0 ∗ owns (c : Thread nD τ) arg11 fullShare sc0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (Y5 i m0 sc0 h0 y5) ∗ owns (c : Thread nD τ) arg8 fullShare (Y6 i m0 sc0 y6) ∗ owns (c : Thread nD τ) arg9 fullShare (HID i x0 x1 x2 x3 x4 h0) ∗ owns (c : Thread nD τ) arg10 fullShare (MM i x0 x1 x2 x3 x4 m0) ∗ owns (c : Thread nD τ) arg11 fullShare (SC i m0 sc0)) -∗ K ⟨⟩))
      ⊢ wp frame (wpE (defs₀ (F := F)) Variants.none c none) E (cc0_fc1 i arg2 harg2 arg3 harg3 arg4 harg4 arg5 harg5 arg6 harg6 arg7 harg7 arg8 harg8 arg9 harg9 arg10 harg10 arg11 harg11) K := by
  have hc1 : ¬ (c1 i = 1#1) := by rw [c1_iff]; omega
  have hc2 : (c2 i = 1#1) := by rw [c2_iff]; omega
  have hc3 : ¬ (k0_cond3 i = 1#1) := by rw [c3_iff]; omega
  have hc4 : (k0_cond4 i = 1#1) := by rw [c4_iff]; omega
  have hn1 : ¬ ((i 1).val = 0 ∧ 0 < (i 0).val) := by omega
  simp only [cc0_fc1_eq_skeleton]; unfold cc0_fc1_skel
  dsimp only
  rw [dif_neg hc1, dif_pos hc2, dif_neg hc3, dif_pos hc4]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    (unfold Y5 SC; rw [if_neg hi])
  isplitl [H6]
  · iexists _; isplitr
    swap; · iexact H6
    ipureintro
    (unfold Y6 SC; rw [if_neg hi])
  isplitl [H7]
  · iexists _; isplitr
    swap; · iexact H7
    ipureintro
    unfold HID; rw [if_pos hi']
    exact (View.read_writes_cons_put _ _ _ _ _ (k0_off2_eq i)).trans (congrArg (VecWindow.put _ _ _) (congr (congr (congr (congr (congrArg k0_pay5 (View.readAt_full _ _ _)) (View.readAt_full _ _ _)) (View.readAt_full _ _ _)) (View.readAt_full _ _ _)) (View.readAt_full _ _ _)))
  isplitl [H8]
  · iexists _; isplitr
    swap; · iexact H8
    ipureintro
    unfold MM M1; rw [if_pos hi', if_pos hn]
    exact (View.read_writes_full _ _ _ _ _).trans (congr (congr (congr (congr (congr (congrArg k0_pay6 (View.readAt_full _ _ _)) (View.readAt_full _ _ _)) (View.readAt_full _ _ _)) (View.readAt_full _ _ _)) (View.readAt_full _ _ _)) (View.readAt_writes_full _ _ _ _ _ _))
  iexists _; isplitr
  swap; · iexact H9
  ipureintro
  (unfold SC; rw [if_neg hn1])

set_option maxHeartbeats 2000000 in
/-- The body on whole buffers, at a point with `n = 0` False, `0 < i` False, `i < 11` True. -/
theorem sound_kernelB (c : Dev nD) (E : Set ℕ) (i : grid0.Coords) (hn : ¬ (i 1).val = 0) (hi : ¬ 0 < (i 0).val) (hi' : (i 0).val < 11)
    (arg2 : Memref sig .tc .vmem S512x5120 .fp8e4m3) (harg2 : arg2.IsWhole) (arg3 : Memref sig .tc .vmem S512x1 .f32) (harg3 : arg3.IsWhole) (arg4 : Memref sig .tc .vmem S5120x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .fp8e4m3) (harg7 : arg7.IsWhole) (arg8 : Memref sig .tc .vmem S512x1 .f32) (harg8 : arg8.IsWhole) (arg9 : Memref sig .tc .vmem S512x20480 .f32) (harg9 : arg9.IsWhole) (arg10 : Memref sig .tc .vmem S512x128 .f32) (harg10 : arg10.IsWhole) (arg11 : Memref sig .tc .vmem S512x1 .f32) (harg11 : arg11.IsWhole)
    (x0 : Vec F S512x5120 .fp8e4m3) (x1 : Vec F S512x1 .f32) (x2 : Vec F S5120x512 .fp8e4m3) (x3 : Vec F S1x512 .f32) (x4 : Vec F S1x512 .f32) (y5 : Vec F S512x512 .fp8e4m3) (y6 : Vec F S512x1 .f32) (h0 : Vec F S512x20480 .f32) (m0 : Vec F S512x128 .f32) (sc0 : Vec F S512x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare h0 ∗ owns (c : Thread nD τ) arg10 fullShare m0 ∗ owns (c : Thread nD τ) arg11 fullShare sc0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (Y5 i m0 sc0 h0 y5) ∗ owns (c : Thread nD τ) arg8 fullShare (Y6 i m0 sc0 y6) ∗ owns (c : Thread nD τ) arg9 fullShare (HID i x0 x1 x2 x3 x4 h0) ∗ owns (c : Thread nD τ) arg10 fullShare (MM i x0 x1 x2 x3 x4 m0) ∗ owns (c : Thread nD τ) arg11 fullShare (SC i m0 sc0)) -∗ K ⟨⟩))
      ⊢ wp frame (wpE (defs₀ (F := F)) Variants.none c none) E (cc0_fc1 i arg2 harg2 arg3 harg3 arg4 harg4 arg5 harg5 arg6 harg6 arg7 harg7 arg8 harg8 arg9 harg9 arg10 harg10 arg11 harg11) K := by
  have hc1 : ¬ (c1 i = 1#1) := by rw [c1_iff]; omega
  have hc2 : ¬ (c2 i = 1#1) := by rw [c2_iff]; omega
  have hc3 : ¬ (k0_cond3 i = 1#1) := by rw [c3_iff]; omega
  have hc4 : (k0_cond4 i = 1#1) := by rw [c4_iff]; omega
  have hn1 : ¬ ((i 1).val = 0 ∧ 0 < (i 0).val) := by omega
  simp only [cc0_fc1_eq_skeleton]; unfold cc0_fc1_skel
  dsimp only
  rw [dif_neg hc1, dif_neg hc2, dif_neg hc3, dif_pos hc4]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    (unfold Y5 SC; rw [if_neg hi])
  isplitl [H6]
  · iexists _; isplitr
    swap; · iexact H6
    ipureintro
    (unfold Y6 SC; rw [if_neg hi])
  isplitl [H7]
  · iexists _; isplitr
    swap; · iexact H7
    ipureintro
    unfold HID; rw [if_pos hi']
    exact (View.read_writes_cons_put _ _ _ _ _ (k0_off2_eq i)).trans (congrArg (VecWindow.put _ _ _) (congr (congr (congr (congr (congrArg k0_pay5 (View.readAt_full _ _ _)) (View.readAt_full _ _ _)) (View.readAt_full _ _ _)) (View.readAt_full _ _ _)) (View.readAt_full _ _ _)))
  isplitl [H8]
  · iexists _; isplitr
    swap; · iexact H8
    ipureintro
    unfold MM M1; rw [if_pos hi', if_neg hn]
    exact (View.read_writes_full _ _ _ _ _).trans (congr (congr (congr (congr (congr (congrArg k0_pay6 (View.readAt_full _ _ _)) (View.readAt_full _ _ _)) (View.readAt_full _ _ _)) (View.readAt_full _ _ _)) (View.readAt_full _ _ _)) (View.readAt_full _ _ _))
  iexists _; isplitr
  swap; · iexact H9
  ipureintro
  (unfold SC; rw [if_neg hn1])

set_option maxHeartbeats 2000000 in
/-- The body on whole buffers, at a point with `n = 0` True, `0 < i` True, `i < 11` True. -/
theorem sound_kernelC (c : Dev nD) (E : Set ℕ) (i : grid0.Coords) (hn : (i 1).val = 0) (hi : 0 < (i 0).val) (hi' : (i 0).val < 11)
    (arg2 : Memref sig .tc .vmem S512x5120 .fp8e4m3) (harg2 : arg2.IsWhole) (arg3 : Memref sig .tc .vmem S512x1 .f32) (harg3 : arg3.IsWhole) (arg4 : Memref sig .tc .vmem S5120x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .fp8e4m3) (harg7 : arg7.IsWhole) (arg8 : Memref sig .tc .vmem S512x1 .f32) (harg8 : arg8.IsWhole) (arg9 : Memref sig .tc .vmem S512x20480 .f32) (harg9 : arg9.IsWhole) (arg10 : Memref sig .tc .vmem S512x128 .f32) (harg10 : arg10.IsWhole) (arg11 : Memref sig .tc .vmem S512x1 .f32) (harg11 : arg11.IsWhole)
    (x0 : Vec F S512x5120 .fp8e4m3) (x1 : Vec F S512x1 .f32) (x2 : Vec F S5120x512 .fp8e4m3) (x3 : Vec F S1x512 .f32) (x4 : Vec F S1x512 .f32) (y5 : Vec F S512x512 .fp8e4m3) (y6 : Vec F S512x1 .f32) (h0 : Vec F S512x20480 .f32) (m0 : Vec F S512x128 .f32) (sc0 : Vec F S512x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare h0 ∗ owns (c : Thread nD τ) arg10 fullShare m0 ∗ owns (c : Thread nD τ) arg11 fullShare sc0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (Y5 i m0 sc0 h0 y5) ∗ owns (c : Thread nD τ) arg8 fullShare (Y6 i m0 sc0 y6) ∗ owns (c : Thread nD τ) arg9 fullShare (HID i x0 x1 x2 x3 x4 h0) ∗ owns (c : Thread nD τ) arg10 fullShare (MM i x0 x1 x2 x3 x4 m0) ∗ owns (c : Thread nD τ) arg11 fullShare (SC i m0 sc0)) -∗ K ⟨⟩))
      ⊢ wp frame (wpE (defs₀ (F := F)) Variants.none c none) E (cc0_fc1 i arg2 harg2 arg3 harg3 arg4 harg4 arg5 harg5 arg6 harg6 arg7 harg7 arg8 harg8 arg9 harg9 arg10 harg10 arg11 harg11) K := by
  have hc1 : (c1 i = 1#1) := by rw [c1_iff]; omega
  have hc2 : (c2 i = 1#1) := by rw [c2_iff]; omega
  have hc3 : (k0_cond3 i = 1#1) := by rw [c3_iff]; omega
  have hc4 : (k0_cond4 i = 1#1) := by rw [c4_iff]; omega
  have hn1 : ((i 1).val = 0 ∧ 0 < (i 0).val) := by omega
  simp only [cc0_fc1_eq_skeleton]; unfold cc0_fc1_skel
  dsimp only
  rw [dif_pos hc1, dif_pos hc2, dif_pos hc3, dif_pos hc4]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    unfold Y5 SC; rw [if_pos hi, if_pos hn1]
    exact (View.read_writes_full _ _ _ _ _).trans (congr (congrArg k0_pay3 ((View.readAt_writes_full _ _ _ _ _ _).trans (congrArg k0_pay1 (View.readAt_full _ _ _)))) (View.readAt_unit _ _ _ (k0_off1_eq i) (inb_col i)))
  isplitl [H6]
  · iexists _; isplitr
    swap; · iexact H6
    ipureintro
    unfold Y6 SC; rw [if_pos hi, if_pos hn1]
    exact (View.read_writes_full _ _ _ _ _).trans ((View.readAt_writes_full _ _ _ _ _ _).trans (congrArg k0_pay1 (View.readAt_full _ _ _)))
  isplitl [H7]
  · iexists _; isplitr
    swap; · iexact H7
    ipureintro
    unfold HID; rw [if_pos hi']
    exact (View.read_writes_cons_put _ _ _ _ _ (k0_off2_eq i)).trans (congrArg (VecWindow.put _ _ _) (congr (congr (congr (congr (congrArg k0_pay5 (View.readAt_full _ _ _)) (View.readAt_full _ _ _)) (View.readAt_full _ _ _)) (View.readAt_full _ _ _)) (View.readAt_full _ _ _)))
  isplitl [H8]
  · iexists _; isplitr
    swap; · iexact H8
    ipureintro
    unfold MM M1; rw [if_pos hi', if_pos hn]
    exact (View.read_writes_full _ _ _ _ _).trans (congr (congr (congr (congr (congr (congrArg k0_pay6 (View.readAt_full _ _ _)) (View.readAt_full _ _ _)) (View.readAt_full _ _ _)) (View.readAt_full _ _ _)) (View.readAt_full _ _ _)) (View.readAt_writes_full _ _ _ _ _ _))
  iexists _; isplitr
  swap; · iexact H9
  ipureintro
  unfold SC; rw [if_pos hn1]
  exact (View.read_writes_full _ _ _ _ _).trans (congrArg k0_pay1 (View.readAt_full _ _ _))

set_option maxHeartbeats 2000000 in
/-- The body on whole buffers, at a point with `n = 0` False, `0 < i` True, `i < 11` True. -/
theorem sound_kernelD (c : Dev nD) (E : Set ℕ) (i : grid0.Coords) (hn : ¬ (i 1).val = 0) (hi : 0 < (i 0).val) (hi' : (i 0).val < 11)
    (arg2 : Memref sig .tc .vmem S512x5120 .fp8e4m3) (harg2 : arg2.IsWhole) (arg3 : Memref sig .tc .vmem S512x1 .f32) (harg3 : arg3.IsWhole) (arg4 : Memref sig .tc .vmem S5120x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .fp8e4m3) (harg7 : arg7.IsWhole) (arg8 : Memref sig .tc .vmem S512x1 .f32) (harg8 : arg8.IsWhole) (arg9 : Memref sig .tc .vmem S512x20480 .f32) (harg9 : arg9.IsWhole) (arg10 : Memref sig .tc .vmem S512x128 .f32) (harg10 : arg10.IsWhole) (arg11 : Memref sig .tc .vmem S512x1 .f32) (harg11 : arg11.IsWhole)
    (x0 : Vec F S512x5120 .fp8e4m3) (x1 : Vec F S512x1 .f32) (x2 : Vec F S5120x512 .fp8e4m3) (x3 : Vec F S1x512 .f32) (x4 : Vec F S1x512 .f32) (y5 : Vec F S512x512 .fp8e4m3) (y6 : Vec F S512x1 .f32) (h0 : Vec F S512x20480 .f32) (m0 : Vec F S512x128 .f32) (sc0 : Vec F S512x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare h0 ∗ owns (c : Thread nD τ) arg10 fullShare m0 ∗ owns (c : Thread nD τ) arg11 fullShare sc0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (Y5 i m0 sc0 h0 y5) ∗ owns (c : Thread nD τ) arg8 fullShare (Y6 i m0 sc0 y6) ∗ owns (c : Thread nD τ) arg9 fullShare (HID i x0 x1 x2 x3 x4 h0) ∗ owns (c : Thread nD τ) arg10 fullShare (MM i x0 x1 x2 x3 x4 m0) ∗ owns (c : Thread nD τ) arg11 fullShare (SC i m0 sc0)) -∗ K ⟨⟩))
      ⊢ wp frame (wpE (defs₀ (F := F)) Variants.none c none) E (cc0_fc1 i arg2 harg2 arg3 harg3 arg4 harg4 arg5 harg5 arg6 harg6 arg7 harg7 arg8 harg8 arg9 harg9 arg10 harg10 arg11 harg11) K := by
  have hc1 : ¬ (c1 i = 1#1) := by rw [c1_iff]; omega
  have hc2 : ¬ (c2 i = 1#1) := by rw [c2_iff]; omega
  have hc3 : (k0_cond3 i = 1#1) := by rw [c3_iff]; omega
  have hc4 : (k0_cond4 i = 1#1) := by rw [c4_iff]; omega
  have hn1 : ¬ ((i 1).val = 0 ∧ 0 < (i 0).val) := by omega
  simp only [cc0_fc1_eq_skeleton]; unfold cc0_fc1_skel
  dsimp only
  rw [dif_neg hc1, dif_neg hc2, dif_pos hc3, dif_pos hc4]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    unfold Y5 SC; rw [if_pos hi, if_neg hn1]
    exact (View.read_writes_full _ _ _ _ _).trans (congr (congrArg k0_pay3 (View.readAt_full _ _ _)) (View.readAt_unit _ _ _ (k0_off1_eq i) (inb_col i)))
  isplitl [H6]
  · iexists _; isplitr
    swap; · iexact H6
    ipureintro
    unfold Y6 SC; rw [if_pos hi, if_neg hn1]
    exact (View.read_writes_full _ _ _ _ _).trans (View.readAt_full _ _ _)
  isplitl [H7]
  · iexists _; isplitr
    swap; · iexact H7
    ipureintro
    unfold HID; rw [if_pos hi']
    exact (View.read_writes_cons_put _ _ _ _ _ (k0_off2_eq i)).trans (congrArg (VecWindow.put _ _ _) (congr (congr (congr (congr (congrArg k0_pay5 (View.readAt_full _ _ _)) (View.readAt_full _ _ _)) (View.readAt_full _ _ _)) (View.readAt_full _ _ _)) (View.readAt_full _ _ _)))
  isplitl [H8]
  · iexists _; isplitr
    swap; · iexact H8
    ipureintro
    unfold MM M1; rw [if_pos hi', if_neg hn]
    exact (View.read_writes_full _ _ _ _ _).trans (congr (congr (congr (congr (congr (congrArg k0_pay6 (View.readAt_full _ _ _)) (View.readAt_full _ _ _)) (View.readAt_full _ _ _)) (View.readAt_full _ _ _)) (View.readAt_full _ _ _)) (View.readAt_full _ _ _))
  iexists _; isplitr
  swap; · iexact H9
  ipureintro
  (unfold SC; rw [if_neg hn1])

set_option maxHeartbeats 2000000 in
/-- The body on whole buffers, at a point with `n = 0` True, `0 < i` True, `i < 11` False. -/
theorem sound_kernelE (c : Dev nD) (E : Set ℕ) (i : grid0.Coords) (hn : (i 1).val = 0) (hi : 0 < (i 0).val) (hi' : ¬ (i 0).val < 11)
    (arg2 : Memref sig .tc .vmem S512x5120 .fp8e4m3) (harg2 : arg2.IsWhole) (arg3 : Memref sig .tc .vmem S512x1 .f32) (harg3 : arg3.IsWhole) (arg4 : Memref sig .tc .vmem S5120x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .fp8e4m3) (harg7 : arg7.IsWhole) (arg8 : Memref sig .tc .vmem S512x1 .f32) (harg8 : arg8.IsWhole) (arg9 : Memref sig .tc .vmem S512x20480 .f32) (harg9 : arg9.IsWhole) (arg10 : Memref sig .tc .vmem S512x128 .f32) (harg10 : arg10.IsWhole) (arg11 : Memref sig .tc .vmem S512x1 .f32) (harg11 : arg11.IsWhole)
    (x0 : Vec F S512x5120 .fp8e4m3) (x1 : Vec F S512x1 .f32) (x2 : Vec F S5120x512 .fp8e4m3) (x3 : Vec F S1x512 .f32) (x4 : Vec F S1x512 .f32) (y5 : Vec F S512x512 .fp8e4m3) (y6 : Vec F S512x1 .f32) (h0 : Vec F S512x20480 .f32) (m0 : Vec F S512x128 .f32) (sc0 : Vec F S512x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare h0 ∗ owns (c : Thread nD τ) arg10 fullShare m0 ∗ owns (c : Thread nD τ) arg11 fullShare sc0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (Y5 i m0 sc0 h0 y5) ∗ owns (c : Thread nD τ) arg8 fullShare (Y6 i m0 sc0 y6) ∗ owns (c : Thread nD τ) arg9 fullShare (HID i x0 x1 x2 x3 x4 h0) ∗ owns (c : Thread nD τ) arg10 fullShare (MM i x0 x1 x2 x3 x4 m0) ∗ owns (c : Thread nD τ) arg11 fullShare (SC i m0 sc0)) -∗ K ⟨⟩))
      ⊢ wp frame (wpE (defs₀ (F := F)) Variants.none c none) E (cc0_fc1 i arg2 harg2 arg3 harg3 arg4 harg4 arg5 harg5 arg6 harg6 arg7 harg7 arg8 harg8 arg9 harg9 arg10 harg10 arg11 harg11) K := by
  have hc1 : (c1 i = 1#1) := by rw [c1_iff]; omega
  have hc2 : (c2 i = 1#1) := by rw [c2_iff]; omega
  have hc3 : (k0_cond3 i = 1#1) := by rw [c3_iff]; omega
  have hc4 : ¬ (k0_cond4 i = 1#1) := by rw [c4_iff]; omega
  have hn1 : ((i 1).val = 0 ∧ 0 < (i 0).val) := by omega
  simp only [cc0_fc1_eq_skeleton]; unfold cc0_fc1_skel
  dsimp only
  rw [dif_pos hc1, dif_pos hc2, dif_pos hc3, dif_neg hc4]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    unfold Y5 SC; rw [if_pos hi, if_pos hn1]
    exact (View.read_writes_full _ _ _ _ _).trans (congr (congrArg k0_pay3 ((View.readAt_writes_full _ _ _ _ _ _).trans (congrArg k0_pay1 (View.readAt_full _ _ _)))) (View.readAt_unit _ _ _ (k0_off1_eq i) (inb_col i)))
  isplitl [H6]
  · iexists _; isplitr
    swap; · iexact H6
    ipureintro
    unfold Y6 SC; rw [if_pos hi, if_pos hn1]
    exact (View.read_writes_full _ _ _ _ _).trans ((View.readAt_writes_full _ _ _ _ _ _).trans (congrArg k0_pay1 (View.readAt_full _ _ _)))
  isplitl [H7]
  · iexists _; isplitr
    swap; · iexact H7
    ipureintro
    (unfold HID; rw [if_neg hi'])
  isplitl [H8]
  · iexists _; isplitr
    swap; · iexact H8
    ipureintro
    unfold MM M1; rw [if_neg hi', if_pos hn]
    exact (View.read_writes_full _ _ _ _ _)
  iexists _; isplitr
  swap; · iexact H9
  ipureintro
  unfold SC; rw [if_pos hn1]
  exact (View.read_writes_full _ _ _ _ _).trans (congrArg k0_pay1 (View.readAt_full _ _ _))

set_option maxHeartbeats 2000000 in
/-- The body on whole buffers, at a point with `n = 0` False, `0 < i` True, `i < 11` False. -/
theorem sound_kernelG (c : Dev nD) (E : Set ℕ) (i : grid0.Coords) (hn : ¬ (i 1).val = 0) (hi : 0 < (i 0).val) (hi' : ¬ (i 0).val < 11)
    (arg2 : Memref sig .tc .vmem S512x5120 .fp8e4m3) (harg2 : arg2.IsWhole) (arg3 : Memref sig .tc .vmem S512x1 .f32) (harg3 : arg3.IsWhole) (arg4 : Memref sig .tc .vmem S5120x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .fp8e4m3) (harg7 : arg7.IsWhole) (arg8 : Memref sig .tc .vmem S512x1 .f32) (harg8 : arg8.IsWhole) (arg9 : Memref sig .tc .vmem S512x20480 .f32) (harg9 : arg9.IsWhole) (arg10 : Memref sig .tc .vmem S512x128 .f32) (harg10 : arg10.IsWhole) (arg11 : Memref sig .tc .vmem S512x1 .f32) (harg11 : arg11.IsWhole)
    (x0 : Vec F S512x5120 .fp8e4m3) (x1 : Vec F S512x1 .f32) (x2 : Vec F S5120x512 .fp8e4m3) (x3 : Vec F S1x512 .f32) (x4 : Vec F S1x512 .f32) (y5 : Vec F S512x512 .fp8e4m3) (y6 : Vec F S512x1 .f32) (h0 : Vec F S512x20480 .f32) (m0 : Vec F S512x128 .f32) (sc0 : Vec F S512x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare h0 ∗ owns (c : Thread nD τ) arg10 fullShare m0 ∗ owns (c : Thread nD τ) arg11 fullShare sc0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (Y5 i m0 sc0 h0 y5) ∗ owns (c : Thread nD τ) arg8 fullShare (Y6 i m0 sc0 y6) ∗ owns (c : Thread nD τ) arg9 fullShare (HID i x0 x1 x2 x3 x4 h0) ∗ owns (c : Thread nD τ) arg10 fullShare (MM i x0 x1 x2 x3 x4 m0) ∗ owns (c : Thread nD τ) arg11 fullShare (SC i m0 sc0)) -∗ K ⟨⟩))
      ⊢ wp frame (wpE (defs₀ (F := F)) Variants.none c none) E (cc0_fc1 i arg2 harg2 arg3 harg3 arg4 harg4 arg5 harg5 arg6 harg6 arg7 harg7 arg8 harg8 arg9 harg9 arg10 harg10 arg11 harg11) K := by
  have hc1 : ¬ (c1 i = 1#1) := by rw [c1_iff]; omega
  have hc2 : ¬ (c2 i = 1#1) := by rw [c2_iff]; omega
  have hc3 : (k0_cond3 i = 1#1) := by rw [c3_iff]; omega
  have hc4 : ¬ (k0_cond4 i = 1#1) := by rw [c4_iff]; omega
  have hn1 : ¬ ((i 1).val = 0 ∧ 0 < (i 0).val) := by omega
  simp only [cc0_fc1_eq_skeleton]; unfold cc0_fc1_skel
  dsimp only
  rw [dif_neg hc1, dif_neg hc2, dif_pos hc3, dif_neg hc4]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    unfold Y5 SC; rw [if_pos hi, if_neg hn1]
    exact (View.read_writes_full _ _ _ _ _).trans (congr (congrArg k0_pay3 (View.readAt_full _ _ _)) (View.readAt_unit _ _ _ (k0_off1_eq i) (inb_col i)))
  isplitl [H6]
  · iexists _; isplitr
    swap; · iexact H6
    ipureintro
    unfold Y6 SC; rw [if_pos hi, if_neg hn1]
    exact (View.read_writes_full _ _ _ _ _).trans (View.readAt_full _ _ _)
  isplitl [H7]
  · iexists _; isplitr
    swap; · iexact H7
    ipureintro
    (unfold HID; rw [if_neg hi'])
  isplitl [H8]
  · iexists _; isplitr
    swap; · iexact H8
    ipureintro
    (unfold MM M1; rw [if_neg hi', if_neg hn])
  iexists _; isplitr
  swap; · iexact H9
  ipureintro
  (unfold SC; rw [if_neg hn1])

/-- The body on whole buffers, at any point. -/
theorem sound_kernel (c : Dev nD) (E : Set ℕ) (i : grid0.Coords)
    (arg2 : Memref sig .tc .vmem S512x5120 .fp8e4m3) (harg2 : arg2.IsWhole) (arg3 : Memref sig .tc .vmem S512x1 .f32) (harg3 : arg3.IsWhole) (arg4 : Memref sig .tc .vmem S5120x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .fp8e4m3) (harg7 : arg7.IsWhole) (arg8 : Memref sig .tc .vmem S512x1 .f32) (harg8 : arg8.IsWhole) (arg9 : Memref sig .tc .vmem S512x20480 .f32) (harg9 : arg9.IsWhole) (arg10 : Memref sig .tc .vmem S512x128 .f32) (harg10 : arg10.IsWhole) (arg11 : Memref sig .tc .vmem S512x1 .f32) (harg11 : arg11.IsWhole)
    (x0 : Vec F S512x5120 .fp8e4m3) (x1 : Vec F S512x1 .f32) (x2 : Vec F S5120x512 .fp8e4m3) (x3 : Vec F S1x512 .f32) (x4 : Vec F S1x512 .f32) (y5 : Vec F S512x512 .fp8e4m3) (y6 : Vec F S512x1 .f32) (h0 : Vec F S512x20480 .f32) (m0 : Vec F S512x128 .f32) (sc0 : Vec F S512x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare h0 ∗ owns (c : Thread nD τ) arg10 fullShare m0 ∗ owns (c : Thread nD τ) arg11 fullShare sc0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (Y5 i m0 sc0 h0 y5) ∗ owns (c : Thread nD τ) arg8 fullShare (Y6 i m0 sc0 y6) ∗ owns (c : Thread nD τ) arg9 fullShare (HID i x0 x1 x2 x3 x4 h0) ∗ owns (c : Thread nD τ) arg10 fullShare (MM i x0 x1 x2 x3 x4 m0) ∗ owns (c : Thread nD τ) arg11 fullShare (SC i m0 sc0)) -∗ K ⟨⟩))
      ⊢ wp frame (wpE (defs₀ (F := F)) Variants.none c none) E (cc0_fc1 i arg2 harg2 arg3 harg3 arg4 harg4 arg5 harg5 arg6 harg6 arg7 harg7 arg8 harg8 arg9 harg9 arg10 harg10 arg11 harg11) K := by
  by_cases hn : (i 1).val = 0
  · by_cases hi : 0 < (i 0).val
    · by_cases hi' : (i 0).val < 11
      · exact sound_kernelC c E i hn hi hi' _ _ _ _ _ _ _ _ _ _ _ _ _ _ _ _ _ _ _ _ _ _ _ _ _ _ _ _ _ _ _
      · exact sound_kernelE c E i hn hi hi' _ _ _ _ _ _ _ _ _ _ _ _ _ _ _ _ _ _ _ _ _ _ _ _ _ _ _ _ _ _ _
    · exact sound_kernelA c E i hn hi (by omega) _ _ _ _ _ _ _ _ _ _ _ _ _ _ _ _ _ _ _ _ _ _ _ _ _ _ _ _ _ _ _
  · by_cases hi : 0 < (i 0).val
    · by_cases hi' : (i 0).val < 11
      · exact sound_kernelD c E i hn hi hi' _ _ _ _ _ _ _ _ _ _ _ _ _ _ _ _ _ _ _ _ _ _ _ _ _ _ _ _ _ _ _
      · exact sound_kernelG c E i hn hi hi' _ _ _ _ _ _ _ _ _ _ _ _ _ _ _ _ _ _ _ _ _ _ _ _ _ _ _ _ _ _ _
    · exact sound_kernelB c E i hn hi (by omega) _ _ _ _ _ _ _ _ _ _ _ _ _ _ _ _ _ _ _ _ _ _ _ _ _ _ _ _ _ _ _
/-- Input window 0's buffer with zeros past the end of the array. -/
def X0 (c : Dev nD) (t : Fin cfg0.N) : Vec F S512x5120 .fp8e4m3 :=
  (cfg0.win 0).fill (cfg0.grid.coords t) (fun _ => Scalar.ofBits .fp8e4m3 0) (iblk m c 0 t)

/-- Input window 1's buffer with zeros past the end of the array. -/
def X1 (c : Dev nD) (t : Fin cfg0.N) : Vec F S512x1 .f32 :=
  (cfg0.win 1).fill (cfg0.grid.coords t) (fun _ => Scalar.ofBits .f32 0) (iblk m c 1 t)

/-- The scratch buffers of the call, as the body sees them. -/
theorem scoped_owns (c : Dev nD) :
    (Pipeline.scopedRest (Ix := Unit) (Name := ℕ) (U := UR sig nD τ) (Lvl := ℕ) (Val := Elt F) spec0 c : sProp 𝕄)
      = iprop((∃ f : Vec F S512x20480 .f32, owns (c : Thread nD τ) (Memref.whole cc0_scratch0) fullShare f)
        ∗ (∃ f : Vec F S512x128 .f32, owns (c : Thread nD τ) (Memref.whole cc0_scratch1) fullShare f)
        ∗ (∃ f : Vec F S512x1 .f32, owns (c : Thread nD τ) (Memref.whole cc0_scratch2) fullShare f)) := by
  have h0 : ∀ f : Vec F S512x20480 .f32, (owns (c : Thread nD τ) (Memref.whole cc0_scratch0) fullShare f : sProp 𝕄) = (((c : Thread nD τ).loc cc0_scratch0) ↦{fullShare} f) := fun f => owns_whole (c : Thread nD τ) cc0_scratch0 fullShare f
  have h1 : ∀ f : Vec F S512x128 .f32, (owns (c : Thread nD τ) (Memref.whole cc0_scratch1) fullShare f : sProp 𝕄) = (((c : Thread nD τ).loc cc0_scratch1) ↦{fullShare} f) := fun f => owns_whole (c : Thread nD τ) cc0_scratch1 fullShare f
  have h2 : ∀ f : Vec F S512x1 .f32, (owns (c : Thread nD τ) (Memref.whole cc0_scratch2) fullShare f : sProp 𝕄) = (((c : Thread nD τ).loc cc0_scratch2) ↦{fullShare} f) := fun f => owns_whole (c : Thread nD τ) cc0_scratch2 fullShare f
  rw [scopedRest0_eq]
  simp only [h0, h1, h2]
  rfl
/-- The proof data of the call: the arrays as launched; after the body each input's buffer as fetched. -/
def dats (_ : Fin 1) (c : Dev nD) : Dat τ (Elt F) Unit ℕ (UR sig nD τ) ℕ cfg0 c where
  A w := V m c (Pipeline.arrRef spec0 w)
  after w t := match w with
    | ⟨0, _⟩ => X0 m c t
    | ⟨1, _⟩ => X1 m c t
    | ⟨2, _⟩ => iblk m c 2 t
    | ⟨3, _⟩ => iblk m c 3 t
    | ⟨4, _⟩ => iblk m c 4 t
    | ⟨5, _⟩ => fun _ => Scalar.ofBits .fp8e4m3 0
    | ⟨6, _⟩ => fun _ => Scalar.ofBits .f32 0
  Φ _ := Pipeline.ΦA spec0 c
  q _ := fullShare
  owed _ := 0

/-- The arrays of the proof data are the launched ones. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = X0 m c t := by dsimp only [dats]
theorem after0_1 (c : Dev nD) (t : Fin cfg0.N) : (dats m 0 c).after 1 t = X1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = fun _ => Scalar.ofBits .fp8e4m3 0 := by dsimp only [dats]
theorem after0_6 (c : Dev nD) (t : Fin cfg0.N) : (dats m 0 c).after 6 t = fun _ => Scalar.ofBits .f32 0 := by dsimp only [dats]

/-- Clipped input window 0 holds its block at every point, anything past the array's end. -/
theorem before0_0 (c : Dev nD) (t : Fin cfg0.N) (d) : ∃ d', (dats m 0 c).before 0 t d = (cfg0.win 0).fill (cfg0.grid.coords t) d' (iblk m c 0 t) := by
  rw [Dat.before_in_eq_fetched (dats m 0 c) 0 rfl (fun _ => rfl) (fun t t' h => funext fun a => congrArg (fun x : Fin 2 → ℕ => Pipeline.Clip.of (x a) ((cfg0.win 0).block.size a) (S5520x5120.size a)) h)
    (fun t => by rw [after0_0]; unfold X0; rw [(cfg0.win 0).cut_fill]; unfold Dat.blockOf iblk; rw [A_eq])]
  refine ⟨d, ?_⟩
  unfold Dat.fetched Dat.blockOf iblk; rw [A_eq]
/-- Clipped input window 1 holds its block at every point, anything past the array's end. -/
theorem before0_1 (c : Dev nD) (t : Fin cfg0.N) (d) : ∃ d', (dats m 0 c).before 1 t d = (cfg0.win 1).fill (cfg0.grid.coords t) d' (iblk m c 1 t) := by
  rw [Dat.before_in_eq_fetched (dats m 0 c) 1 rfl (fun _ => rfl) (fun t t' h => funext fun a => congrArg (fun x : Fin 2 → ℕ => Pipeline.Clip.of (x a) ((cfg0.win 1).block.size a) (S5520x1.size a)) h)
    (fun t => by rw [after0_1]; unfold X1; rw [(cfg0.win 1).cut_fill]; unfold Dat.blockOf iblk; rw [A_eq])]
  refine ⟨d, ?_⟩
  unfold Dat.fetched Dat.blockOf iblk; rw [A_eq]
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

set_option maxHeartbeats 1000000 in
/-- The body at any point, the outputs left open. -/
theorem sound_body_any (c : Dev nD) (t : Fin cfg0.N) :
    iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ X, owns (c : Thread nD τ) (st0_5 t) fullShare X)
    ∗ (∃ X, owns (c : Thread nD τ) (st0_6 t) fullShare X))
    ⊢ wp frame (wpE (defs₀ (F := F)) Variants.none c none) Set.univ (bodyAt0 t) (fun _ =>
    iprop((dats m 0 c).Φ t.succ ∗ (dats m 0 c).owesAt () t.succ
    ∗ (∃ d, owns (c : Thread nD τ) (st0_0 t) fullShare ((cfg0.win 0).fill (cfg0.grid.coords t) d ((cfg0.win 0).cut (cfg0.grid.coords t) ((dats m 0 c).after 0 t))))
    ∗ (∃ d, owns (c : Thread nD τ) (st0_1 t) fullShare ((cfg0.win 1).fill (cfg0.grid.coords t) d ((cfg0.win 1).cut (cfg0.grid.coords t) ((dats m 0 c).after 1 t))))
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ X, owns (c : Thread nD τ) (st0_5 t) fullShare X)
    ∗ (∃ X, owns (c : Thread nD τ) (st0_6 t) fullShare X))) := by
  unfold bodyAt0
  simp only [before0_2, before0_3, before0_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4]
  unfold Pipeline.ΦA
  rw [scoped_owns]
  iintro ⟨⟨⟨⟨%h0, H7⟩, ⟨%m0, H8⟩, ⟨%sc0, H9⟩⟩, Hr⟩, Ho, ⟨%d0, H0⟩, ⟨%d1, H1⟩, ⟨%d2, H2⟩, ⟨%d3, H3⟩, ⟨%d4, H4⟩, ⟨%d5, H5⟩, ⟨%d6, H6⟩⟩
  obtain ⟨e0, he0⟩ := before0_0 m c t d0
  obtain ⟨e1, he1⟩ := before0_1 m c t d1
  rw [he0, he1]
  iapply (sound_kernel c Set.univ (grid0.coords t) _ _ _ _ _ _ _ _ _ _ _ _ _ _ _ _ _ _ _ _ ((cfg0.win 0).fill (cfg0.grid.coords t) e0 (iblk m c 0 t)) ((cfg0.win 1).fill (cfg0.grid.coords t) e1 (iblk m c 1 t)) (iblk m c 2 t) (iblk m c 3 t) (iblk m c 4 t) d5 d6 h0 m0 sc0 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, H5, H6, H7, H8, H9⟩
  isplitl [H7 H8 H9 Hr]
  · isplitl [H7 H8 H9]
    · isplitl [H7]; · iexists _; iexact H7
      isplitl [H8]; · iexists _; iexact H8
      iexists _; iexact H9
    iexact Hr
  isplitl [Ho]; · iexact Ho
  isplitl [H0]; · iexists e0; rw [show (cfg0.win 0).cut (cfg0.grid.coords t) (X0 m c t) = iblk m c 0 t from (cfg0.win 0).cut_fill _ _ _]; iexact H0
  isplitl [H1]; · iexists e1; rw [show (cfg0.win 1).cut (cfg0.grid.coords t) (X1 m c t) = iblk m c 1 t from (cfg0.win 1).cut_fill _ _ _]; iexact H1
  isplitl [H2]; · iexact H2
  isplitl [H3]; · iexact H3
  isplitl [H4]; · iexact H4
  isplitl [H5]; · iexists _; iexact H5
  iexists _; iexact H6

/-- The body table's row is the body. -/
theorem defs₀_row (t : Fin cfg0.N) :
    defs₀ (F := F) .tc cfg0.body (cfg0.bodyArgs t (cfg0.slots t)) = bodyAt0 t := by
  unfold defs₀; rw [Defs.onTc_tc]

/-- The outputs, of which nothing is said when only the arguments matter. -/
def fgt : Fin cfg0.W → Bool := fun | 5 => true | 6 => true | _ => false

/-- The body obligation with the outputs left open. -/
theorem obligation_any (c : Dev nD) : BodyObligationLoose (dats (F := F) m 0 c) (defs₀ (F := F)) Variants.none () Set.univ fgt := fun t => by
  rw [bigSep_W0, bigSep_W0, defs₀_row]
  exact triple_restated (sound_body_any m c t) rfl .rfl fun _ => .rfl

set_option backward.isDefEq.respectTransparency.types false in
set_option maxHeartbeats 800000 in
/-- The run with the outputs left open. -/
theorem run_any : θ_run defs (onTc (τ := τ) (main (F := F))) (s₀ m ρ)
    (fun r => Pipeline.RDat.FramePost (cfgs 0) (fun c => (dats m 0 c).toRForget fgt) (V m) r ∧ r.2.sem = fun _ => 0) :=
  Pipeline.θ_run_frame_forget (Q' := _) cfgs (dats m) (0 : Fin 1) launch0 defs₀ Variants.none fgt m ρ main
    (hbody := obligation_any m) (hshare := fun c => (dats m 0 c).share_full fun _ => rfl)
    (howed := fun _ _ => rfl) (V := V m) (hmain := hmain m Variants.none) (hA := A_eq m) (hΦ := fun _ _ => rfl)

/-- The call runs to its end and leaves its arguments as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨h.1.arr_in c 0 rfl, h.1.arr_in c 1 rfl, h.1.arr_in c 2 rfl, h.1.arr_in c 3 rfl, h.1.arr_in c 4 rfl⟩, h.2⟩) (run_any m ρ)

end Cert.Fc1Ideal.Body

end
-- ==== Proof.Rows.lean ====
/- Row functions of the reference's mathematics, on extended reals: mean, layer normalisation, the quantiser's scale and values. -/
module

public import Idealize.ShloMosaic.Lib.Pipeline.ValueKit
public import Idealize.ShloMosaic.Lib.Claim

@[expose] public section

noncomputable section

namespace Cert.Rows

open Idealize.ShloMosaic

/-- The mean of a row of 5120 numbers. -/
def mean (f : Fin 5120 → EReal) : EReal := Ideal.div (∑ k, f k) (Ideal.ofBits FTy.f32 0x45A00000#32)

/-- A row with its mean taken off. -/
def dev (f : Fin 5120 → EReal) (k : Fin 5120) : EReal := f k - mean f

/-- A row normalised, scaled and shifted. -/
def ln (f g b : Fin 5120 → EReal) (k : Fin 5120) : EReal :=
  Ideal.div (dev f k) (Ideal.sqrt (mean (fun j => dev f j * dev f j) + Ideal.ofBits FTy.f32 0x3727C5AC#32)) * g k + b k

/-- The largest magnitude of a row. -/
def amax {n : ℕ} (f : Fin n → EReal) : EReal :=
  Finset.fold max (Ideal.ofBits FTy.f32 0xFF800000#32) (fun k => FloatOps.absf (F := Ideal) (φ := .f32) (f k)) Finset.univ

/-- The quantiser's scale of a row of largest magnitude `a`, for the largest code `q`; one for a row of zeros. -/
def scale (q : BitVec 32) (a : EReal) : EReal := if a = 0 then 1 else Ideal.div a (Ideal.ofBits FTy.f32 q)

/-- The quantised value of `x` under scale `s`, for the 8-bit float format. -/
def quant (x s : EReal) : EReal :=
  min (Ideal.ofBits FTy.f32 0x43E00000#32) (max (Ideal.ofBits FTy.f32 0xC3E00000#32) (Ideal.div x s))

/-- The quantised value of `x` under scale `s`, for 8-bit integers. -/
def quantI (x s : EReal) : BitVec 8 :=
  FloatOps.fptosi (F := Ideal) (φ := .f32) 8 (min (Ideal.ofBits FTy.f32 0x42FE0000#32) (max (Ideal.ofBits FTy.f32 0xC2FE0000#32)
    (FloatOps.roundeven (F := Ideal) (φ := .f32) (Ideal.div x s))))

end Cert.Rows

end
-- ==== Proof.Fc1Rows.lean ====
/- The first feed-forward product at an index: the tile's terms and the reference's terms as the same row functions, and the
   running maximum kept lane by lane as the largest magnitude of the whole row. -/
module

public import proofs.«01_k».proof.Proof.Fc1IdealBody
public import proofs.«01_k».proof.Proof.Gen.RefFc1Ideal.Value
public import proofs.«01_k».proof.Proof.Rows

@[expose] public section

set_option maxRecDepth 16384

noncomputable section

namespace Cert.Rows

open Idealize.ShloMosaic

/-- One entry of the scaled product with its bias: row `c` of scale `s` against column `W` of scale `w`. -/
def lin (c : Fin 5120 → EReal) (s : EReal) (W : Fin 5120 → EReal) (w b : EReal) : EReal :=
  (Ideal.ofBits FTy.f32 0x00000000#32 + ∑ j : Fin 5120, c j * W j) * s * w + b

/-- The Gaussian error linear unit. -/
def gelu (z : EReal) : EReal :=
  Ideal.ofBits FTy.f32 0x3F000000#32 * z * (Ideal.ofBits FTy.f32 0x3F800000#32 + FloatOps.erf (F := Ideal) (φ := .f32) (z * Ideal.ofBits FTy.f32 0x3F3504F3#32))

/-- The largest of a row. -/
def top {n : ℕ} (f : Fin n → EReal) : EReal := Finset.fold max (Ideal.ofBits FTy.f32 0xFF800000#32) f Finset.univ

/-- The magnitude. -/
def mag (x : EReal) : EReal := FloatOps.absf (F := Ideal) (φ := .f32) x

/-- A magnitude is not negative. -/
theorem mag_nonneg (x : EReal) : 0 ≤ mag x := by
  show (0 : EReal) ≤ max x (-x)
  rcases le_total 0 x with h | h
  · exact le_max_of_le_left h
  · exact le_max_of_le_right (EReal.neg_nonneg.mpr h)

/-- The running maximum of lane `l` after `n` column blocks of 512, four lanes of 128 each. -/
def run (g : ℕ → EReal) (l : ℕ) : ℕ → EReal
  | 0 => 0
  | n + 1 => max (max (max (max (run g l n) (g (512 * n + l))) (g (512 * n + (128 + l)))) (g (512 * n + (256 + l)))) (g (512 * n + (384 + l)))

/-- What bounds the running maximum. -/
theorem run_le (g : ℕ → EReal) (l : ℕ) (T : EReal) (n : ℕ) :
    run g l n ≤ T ↔ 0 ≤ T ∧ ∀ b < n, ∀ q < 4, g (512 * b + (128 * q + l)) ≤ T := by
  induction n with
  | zero => simp [run]
  | succ n ih =>
    simp only [run, max_le_iff, ih]
    constructor
    · rintro ⟨⟨⟨⟨⟨h0, hb⟩, h1⟩, h2⟩, h3⟩, h4⟩
      refine ⟨h0, fun b hbn q hq => ?_⟩
      rcases Nat.lt_succ_iff_lt_or_eq.mp hbn with h | h
      · exact hb b h q hq
      · subst h
        have : q = 0 ∨ q = 1 ∨ q = 2 ∨ q = 3 := by omega
        rcases this with h | h | h | h <;> subst h
        · rw [show 512 * b + (128 * 0 + l) = 512 * b + l by omega]; exact h1
        · exact h2
        · exact h3
        · exact h4
    · rintro ⟨h0, hb⟩
      refine ⟨⟨⟨⟨⟨h0, fun b hbn => hb b (by omega)⟩, ?_⟩, hb n (by omega) 1 (by omega)⟩, hb n (by omega) 2 (by omega)⟩, hb n (by omega) 3 (by omega)⟩
      have := hb n (by omega) 0 (by omega)
      rwa [show 512 * n + (128 * 0 + l) = 512 * n + l by omega] at this

/-- The largest lane maximum is the largest of the row. -/
theorem top_run (g : ℕ → EReal) (hg : ∀ k, 0 ≤ g k) :
    top (fun l : Fin 128 => run g l 40) = top (fun k : Fin 20480 => g k) := by
  refine eq_of_forall_ge_iff fun T => ?_
  unfold top
  rw [Finset.fold_max_le, Finset.fold_max_le]
  simp only [run_le]
  refine and_congr_right fun _ => ?_
  constructor
  · intro h k _
    have := (h ⟨k.val % 128, Nat.mod_lt _ (by omega)⟩ (Finset.mem_univ _)).2 (k.val / 512) (by have := k.isLt; omega) (k.val % 512 / 128) (by omega)
    have e : 512 * (k.val / 512) + (128 * (k.val % 512 / 128) + k.val % 128) = k.val := by omega
    dsimp only at this
    rwa [e] at this
  · intro h l _
    refine ⟨(hg 0).trans (h ⟨0, by omega⟩ (Finset.mem_univ _)), fun b hb q hq => h ⟨512 * b + (128 * q + l.val), by have := l.isLt; omega⟩ (Finset.mem_univ _)⟩

end Cert.Rows

namespace Cert.Fc1Ideal.RowValue

open Cert Cert.Fc1Ideal Cert.Fc1Ideal.Gen Idealize.ShloMosaic Idealize.ShloMosaic.TcCoe Idealize.SL.Sem

/-- The hidden rows at an index. -/
theorem hid_at (x0 : Vec Ideal S512x5120 .fp8e4m3) (x1 : Vec Ideal S512x1 .f32) (x2 : Vec Ideal S5120x512 .fp8e4m3) (x3 x4 : Vec Ideal S1x512 .f32) (r : Fin 512) (k : Fin 512) :
    k0_pay4 (F := Ideal) x0 x2 x1 x3 x4 (ix2 r k) = Rows.gelu (Rows.lin (fun j => x0 (ix2 r j)) (x1 (ix2 r 0)) (fun j => x2 (ix2 j k)) (x3 (ix2 0 k)) (x4 (ix2 0 k))) := by
  pointwise [k0_pay4, Rows.gelu, Rows.lin]

/-- The quantiser's scales from the rows' largest magnitudes, as the program computes them. -/
def kScaleOf (a : FVec Ideal S512x1 .f32) : FVec Ideal S512x1 .f32 :=
  select (cmpf .oeq a (broadcast S512x1 (Scalar.ofBits (F := Ideal) .f32 0x00000000#32))) (broadcast S512x1 (Scalar.ofBits (F := Ideal) .f32 0x3F800000#32))
    (divf a (broadcast S512x1 (Scalar.ofBits (F := Ideal) .f32 0x43E00000#32)))

/-- The scales at an index, from the largest magnitudes. -/
theorem kScaleOf_at (a : FVec Ideal S512x1 .f32) (r : Fin 512) (z : Fin 1) : kScaleOf a (ix2 r z) = Rows.scale 0x43E00000#32 (a (ix2 r z)) := by
  unfold Rows.scale
  pointwise [kScaleOf]

/-- The quantised rows, as the program computes them. -/
def kQuant (v : FVec Ideal S512x512 .f32) (s : FVec Ideal S512x1 .f32) : FVec Ideal S512x512 .fp8e4m3 :=
  truncf .fp8e4m3 (minimumf (broadcast S512x512 (Scalar.ofBits (F := Ideal) .f32 0x43E00000#32)) (maximumf (broadcast S512x512 (Scalar.ofBits (F := Ideal) .f32 0xC3E00000#32))
    (divf v (broadcastTo S512x512 s broadcasts_S512x1_S512x512)))) bitsLt_fp8e4m3_f32

/-- The quantised rows at an index are the row function's. -/
theorem kQuant_at (v : FVec Ideal S512x512 .f32) (s : FVec Ideal S512x1 .f32) (r : Fin 512) (k : Fin 512) :
    (kQuant v s (ix2 r k) : EReal) = Rows.quant (v (ix2 r k)) (s (ix2 r 0)) := by
  pointwise [kQuant, Rows.quant]

/-- The rows' largest entries, as the program computes them. -/
def kTop (v : FVec Ideal S512x128 .f32) : FVec Ideal S512x1 .f32 :=
  shapeCast S512x1 (multiReduction .maximumf [1] S512 v 0xFF800000#32 reduces_S512x128_S512 (.inl rfl) rfl) shapeCasts_S512_S512x1

/-- The rows' largest entries at an index. -/
theorem kTop_at (v : FVec Ideal S512x128 .f32) (r : Fin 512) (z : Fin 1) : kTop v (ix2 r z) = Rows.top (fun k => v (ix2 r k)) := by
  unfold Rows.top
  pointwise [kTop]

/-- The scales at an index, from the lanes' maxima. -/
theorem scale_at (v : Vec Ideal S512x128 .f32) (r : Fin 512) (z : Fin 1) :
    k0_pay1 (F := Ideal) v (ix2 r z) = Rows.scale 0x43E00000#32 (Rows.top (fun l : Fin 128 => v (ix2 r l))) := by
  have h : k0_pay1 (F := Ideal) v = kScaleOf (kTop v) := by
    unfold k0_pay1
    exact shapeCast_self _ _
  rw [h, kScaleOf_at, kTop_at]

/-- The lanes' maxima start at zero. -/
theorem zero_at (r : Fin 512) (l : Fin 128) : (k0_pay2 (F := Ideal) (ix2 r l) : EReal) = 0 := by
  pointwise [k0_pay2]

/-- The stored hidden rows are the hidden rows. -/
theorem pay5_eq (x0 : Vec Ideal S512x5120 .fp8e4m3) (x1 : Vec Ideal S512x1 .f32) (x2 : Vec Ideal S5120x512 .fp8e4m3) (x3 x4 : Vec Ideal S1x512 .f32) : k0_pay5 (F := Ideal) x0 x2 x1 x3 x4 = k0_pay4 (F := Ideal) x0 x2 x1 x3 x4 := by
  unfold k0_pay5
  exact shapeCast_self _ _

/-- The codes at an index. -/
theorem code_at (s : Vec Ideal S512x1 .f32) (v : Vec Ideal S512x512 .f32) (r k : Fin 512) :
    (k0_pay3 (F := Ideal) s v (ix2 r k) : EReal) = Rows.quant (v (ix2 r k)) (s (ix2 r 0)) :=
  kQuant_at v s r k

/-- The lanes' maxima after a column block, as the program computes them from the block. -/
def kStep (h : FVec Ideal S512x512 .f32) (v : FVec Ideal S512x128 .f32) : FVec Ideal S512x128 .f32 :=
  maximumf (maximumf (maximumf (maximumf v (extractStridedSlice S512x128 ![0, 0] (absf h) slices_S512x512_o0_0_S512x128))
    (extractStridedSlice S512x128 ![0, 128] (absf h) slices_S512x512_o0_128_S512x128))
    (extractStridedSlice S512x128 ![0, 256] (absf h) slices_S512x512_o0_256_S512x128))
    (extractStridedSlice S512x128 ![0, 384] (absf h) slices_S512x512_o0_384_S512x128)

/-- The lanes' maxima after a column block, at an index. -/
theorem kStep_at (h : FVec Ideal S512x512 .f32) (v : FVec Ideal S512x128 .f32) (r : Fin 512) (l : Fin 128) :
    kStep h v (ix2 r l) = max (max (max (max (v (ix2 r l)) (Rows.mag (h (ix2 r ⟨l.val, by omega⟩)))) (Rows.mag (h (ix2 r ⟨128 + l.val, by omega⟩))))
      (Rows.mag (h (ix2 r ⟨256 + l.val, by omega⟩)))) (Rows.mag (h (ix2 r ⟨384 + l.val, by omega⟩))) := by
  pointwise [kStep, Rows.mag]

/-- The new maxima are the step of the old ones. -/
theorem pay6_eq (x0 : Vec Ideal S512x5120 .fp8e4m3) (x1 : Vec Ideal S512x1 .f32) (x2 : Vec Ideal S5120x512 .fp8e4m3) (x3 x4 : Vec Ideal S1x512 .f32) (v : Vec Ideal S512x128 .f32) :
    k0_pay6 (F := Ideal) x0 x2 x1 x3 x4 v = kStep (k0_pay4 (F := Ideal) x0 x2 x1 x3 x4) v := by
  unfold k0_pay6
  exact shapeCast_self _ _

end Cert.Fc1Ideal.RowValue

namespace Cert.RefFc1Ideal.RowValue

open Cert Cert.RefFc1Ideal Cert.RefFc1Ideal.Gen Idealize.ShloMosaic Idealize.ShloMosaic.TcCoe Idealize.SL.Sem

/-- The hidden rows at an index. -/
theorem hid_at (x0 : Vec Ideal S5520x5120 .fp8e4m3) (x1 : Vec Ideal S5520x1 .f32) (x2 : Vec Ideal S5120x20480 .fp8e4m3) (x3 x4 : Vec Ideal S1x20480 .f32) (r : Fin 5520) (k : Fin 20480) :
    k0_pay1 (F := Ideal) x0 x1 x2 x3 x4 (ix2 r k) = Rows.gelu (Rows.lin (fun j => x0 (ix2 r j)) (x1 (ix2 r 0)) (fun j => x2 (ix2 j k)) (x3 (ix2 0 k)) (x4 (ix2 0 k))) := by
  pointwise [k0_pay1, Rows.gelu, Rows.lin]

/-- The quantiser's scales from the rows' largest magnitudes, as the program computes them. -/
def kScaleOf (a : FVec Ideal S5520x1 .f32) : FVec Ideal S5520x1 .f32 :=
  select (cmpf .oeq a (broadcast S5520x1 (Scalar.ofBits (F := Ideal) .f32 0x00000000#32))) (broadcast S5520x1 (Scalar.ofBits (F := Ideal) .f32 0x3F800000#32))
    (divf a (broadcast S5520x1 (Scalar.ofBits (F := Ideal) .f32 0x43E00000#32)))

/-- The scales at an index, from the largest magnitudes. -/
theorem kScaleOf_at (a : FVec Ideal S5520x1 .f32) (r : Fin 5520) (z : Fin 1) : kScaleOf a (ix2 r z) = Rows.scale 0x43E00000#32 (a (ix2 r z)) := by
  unfold Rows.scale
  pointwise [kScaleOf]

/-- The quantised rows, as the program computes them. -/
def kQuant (v : FVec Ideal S5520x20480 .f32) (s : FVec Ideal S5520x1 .f32) : FVec Ideal S5520x20480 .fp8e4m3 :=
  truncf .fp8e4m3 (minimumf (broadcast S5520x20480 (Scalar.ofBits (F := Ideal) .f32 0x43E00000#32)) (maximumf (broadcast S5520x20480 (Scalar.ofBits (F := Ideal) .f32 0xC3E00000#32))
    (divf v (broadcastTo S5520x20480 s broadcasts_S5520x1_S5520x20480)))) bitsLt_fp8e4m3_f32

/-- The quantised rows at an index are the row function's. -/
theorem kQuant_at (v : FVec Ideal S5520x20480 .f32) (s : FVec Ideal S5520x1 .f32) (r : Fin 5520) (k : Fin 20480) :
    (kQuant v s (ix2 r k) : EReal) = Rows.quant (v (ix2 r k)) (s (ix2 r 0)) := by
  pointwise [kQuant, Rows.quant]

/-- The rows' largest entries, as the program computes them. -/
def kTop (v : FVec Ideal S5520x20480 .f32) : FVec Ideal S5520x1 .f32 :=
  shapeCast S5520x1 (multiReduction .maximumf [1] S5520 v 0xFF800000#32 reduces_S5520x20480_S5520 (.inl rfl) rfl) shapeCasts_S5520_S5520x1

/-- The rows' largest entries at an index. -/
theorem kTop_at (v : FVec Ideal S5520x20480 .f32) (r : Fin 5520) (z : Fin 1) : kTop v (ix2 r z) = Rows.top (fun k => v (ix2 r k)) := by
  unfold Rows.top
  pointwise [kTop]

/-- The scales at an index. -/
theorem scale_at (x0 : Vec Ideal S5520x5120 .fp8e4m3) (x1 : Vec Ideal S5520x1 .f32) (x2 : Vec Ideal S5120x20480 .fp8e4m3) (x3 x4 : Vec Ideal S1x20480 .f32) (r : Fin 5520) (z : Fin 1) :
    k0_pay2 (F := Ideal) x0 x1 x2 x3 x4 (ix2 r z) = Rows.scale 0x43E00000#32 (Rows.top (fun k : Fin 20480 => Rows.mag
      (Rows.gelu (Rows.lin (fun j => x0 (ix2 r j)) (x1 (ix2 r 0)) (fun j => x2 (ix2 j k)) (x3 (ix2 0 k)) (x4 (ix2 0 k)))))) := by
  refine (kScaleOf_at (kTop (absf (k0_pay1 (F := Ideal) x0 x1 x2 x3 x4))) r z).trans ?_
  rw [kTop_at]
  congr 2
  funext k
  exact congrArg Rows.mag (hid_at x0 x1 x2 x3 x4 r k)

/-- The codes at an index. -/
theorem code_at (x0 : Vec Ideal S5520x5120 .fp8e4m3) (x1 : Vec Ideal S5520x1 .f32) (x2 : Vec Ideal S5120x20480 .fp8e4m3) (x3 x4 : Vec Ideal S1x20480 .f32) (r : Fin 5520) (k : Fin 20480) :
    (k0_pay3 (F := Ideal) x0 x1 x2 x3 x4 (ix2 r k) : EReal) = Rows.quant
      (Rows.gelu (Rows.lin (fun j => x0 (ix2 r j)) (x1 (ix2 r 0)) (fun j => x2 (ix2 j k)) (x3 (ix2 0 k)) (x4 (ix2 0 k))))
      (k0_pay2 (F := Ideal) x0 x1 x2 x3 x4 (ix2 r 0)) := by
  refine (kQuant_at (k0_pay1 (F := Ideal) x0 x1 x2 x3 x4) (k0_pay2 (F := Ideal) x0 x1 x2 x3 x4) r k).trans ?_
  rw [hid_at]

end Cert.RefFc1Ideal.RowValue

end
-- ==== Proof.SpatialAtt.lean ====
/- Row functions of the spatial attention's mathematics, on extended reals: the scores of a row, the attention output, the largest magnitude. -/
module

public import proofs.«01_k».proof.Proof.Fc1Rows
public import Idealize.ShloMosaic.Lib.ValueIdxCore

@[expose] public section

set_option maxRecDepth 16384

noncomputable section

namespace Cert.Rows

open Idealize.ShloMosaic

/-- The scaled score of a query row and a key row. -/
def score (q k : Fin 128 → EReal) : EReal := (∑ e, q e * k e) * Ideal.ofBits FTy.f32 0x3E0293EE#32

/-- Two to the power of a score less the row's maximum rounded up. -/
def pw (s : Fin 920 → EReal) (k : Fin 920) : EReal := FloatOps.exp2 (F := Ideal) (φ := .f32) (s k - FloatOps.ceil (F := Ideal) (φ := .f32) (top s))

/-- The mean of the column `v` under a row of scores. -/
def att (s v : Fin 920 → EReal) : EReal := Ideal.div (∑ k, pw s k * v k) (∑ k, pw s k)

/-- The running maximum of lane `l` after `n` heads of 128 columns. -/
def lane (g : ℕ → EReal) (l : ℕ) : ℕ → EReal
  | 0 => 0
  | n + 1 => max (lane g l n) (g (128 * n + l))

/-- What bounds the running maximum. -/
theorem lane_le (g : ℕ → EReal) (l : ℕ) (T : EReal) (n : ℕ) : lane g l n ≤ T ↔ 0 ≤ T ∧ ∀ b < n, g (128 * b + l) ≤ T := by
  induction n with
  | zero => simp [lane]
  | succ n ih =>
    simp only [lane, max_le_iff, ih]
    constructor
    · rintro ⟨⟨h0, hb⟩, h⟩
      refine ⟨h0, fun b hbn => ?_⟩
      rcases Nat.lt_succ_iff_lt_or_eq.mp hbn with h' | h'
      · exact hb b h'
      · subst h'; exact h
    · rintro ⟨h0, hb⟩
      exact ⟨⟨h0, fun b hbn => hb b (by omega)⟩, hb n (by omega)⟩

/-- The largest lane maximum is the largest of the row. -/
theorem top_lane (g : ℕ → EReal) (hg : ∀ k, 0 ≤ g k) :
    top (fun l : Fin 128 => lane g l 40) = top (fun k : Fin 5120 => g k) := by
  refine eq_of_forall_ge_iff fun T => ?_
  unfold top
  rw [Finset.fold_max_le, Finset.fold_max_le]
  simp only [lane_le]
  refine and_congr_right fun _ => ?_
  constructor
  · intro h k _
    have := (h ⟨k.val % 128, Nat.mod_lt _ (by omega)⟩ (Finset.mem_univ _)).2 (k.val / 128) (by have := k.isLt; omega)
    have e : 128 * (k.val / 128) + k.val % 128 = k.val := by omega
    dsimp only at this
    rwa [e] at this
  · intro h l _
    refine ⟨(hg 0).trans (h ⟨0, by omega⟩ (Finset.mem_univ _)), fun b hb => h ⟨128 * b + l.val, by have := l.isLt; omega⟩ (Finset.mem_univ _)⟩

/-- The kernel's power of two is the reference's. -/
theorem exp2_eq_pow (x : EReal) : Ideal.exp2 x = Ideal.pow (Ideal.ofBits FTy.f32 0x40000000#32) x := by
  have h2 : Ideal.ofBits FTy.f32 0x40000000#32 = ((2 : ℝ) : EReal) := by
    simp [Ideal.ofBits, Ideal.ieee]
    norm_num
    exact_mod_cast congrArg (Real.toEReal) (by norm_num : (8388608 : ℝ) * (1 / 4194304) = 2)
  rw [h2]
  induction x with
  | bot => rw [Ideal.exp2_bot, Ideal.pow_coe_bot]; norm_num
  | top => rw [Ideal.exp2_top, Ideal.pow_coe_top]; norm_num
  | coe r => rw [Ideal.exp2_coe, Ideal.pow_coe_coe]

/-- One entry of the attention's output from the array of heads: row `i` of all the groups' rows, column `k` of all the heads' columns. -/
def heads (a : (⟨4, ![120, 6, 920, 128]⟩ : Shape).Idx → EReal) (i k : ℕ) : EReal :=
  att (fun j => score (fun e => a (ix4 (⟨k / 128 % 40, by omega⟩ : Fin 120) (⟨i / 920 % 6, by omega⟩ : Fin 6) (⟨i % 920, by omega⟩ : Fin 920) e))
      (fun e => a (ix4 (⟨40 + k / 128 % 40, by omega⟩ : Fin 120) (⟨i / 920 % 6, by omega⟩ : Fin 6) j e)))
    (fun j => a (ix4 (⟨80 + k / 128 % 40, by omega⟩ : Fin 120) (⟨i / 920 % 6, by omega⟩ : Fin 6) j (⟨k % 128, by omega⟩ : Fin 128)))

end Cert.Rows

end
-- ==== Proof.SpatialRows.lean ====
/- The spatial attention: one head's output, the quantiser's scale and the codes at an index, as the kernel computes them. -/
module

public import proofs.«01_k».proof.Proof.SpatialIdealBody
public import proofs.«01_k».proof.Proof.SpatialAtt

@[expose] public section

set_option maxRecDepth 16384

noncomputable section

namespace Cert.SpatialIdeal.RowValue
open Cert Cert.SpatialIdeal Cert.SpatialIdeal.Gen Idealize.ShloMosaic Idealize.ShloMosaic.TcCoe Idealize.SL.Sem

/-- The scaled scores of one head, as the program computes them. -/
def kScore (x0 x1 : Vec Ideal S1x1x920x128 .bf16) : FVec Ideal S920x920 .f32 :=
  mulf (matmul (F := Ideal) dot_S920x128_S920x128_S920x920_1_1_0_0_n_n none (shapeCast S920x128 x0 shapeCasts_S1x1x920x128_S920x128 : FVec Ideal S920x128 .bf16)
    (shapeCast S920x128 x1 shapeCasts_S1x1x920x128_S920x128 : FVec Ideal S920x128 .bf16) (constant S920x920 .f32 0x00000000#32)) (broadcast S920x920 (Scalar.ofBits (F := Ideal) .f32 0x3E0293EE#32))

/-- The scaled scores at an index. -/
theorem kScore_at (x0 x1 : Vec Ideal S1x1x920x128 .bf16) (r k : Fin 920) :
    (kScore x0 x1 (ix2 r k) : EReal) = (∑ e : Fin 128, x0 (ix4 0 0 r e) * x1 (ix4 0 0 k e)) * Ideal.ofBits FTy.f32 0x3E0293EE#32 := by
  pointwise [kScore]

/-- The rows' maxima rounded up. -/
def kCeil (s : FVec Ideal S920x920 .f32) : FVec Ideal S920x1 .f32 :=
  ceil (shapeCast S920x1 (multiReduction .maximumf [1] S920 s 0xFF800000#32 reduces_S920x920_S920 (.inl rfl) rfl) shapeCasts_S920_S920x1)

/-- The rounded maxima at an index. -/
theorem kCeil_at (s : FVec Ideal S920x920 .f32) (r : Fin 920) (z : Fin 1) :
    (kCeil s (ix2 r z) : EReal) = FloatOps.ceil (F := Ideal) (φ := .f32) (Rows.top fun k => s (ix2 r k)) := by
  unfold Rows.top
  pointwise [kCeil]

/-- The powers of two. -/
def kPow (s : FVec Ideal S920x920 .f32) : FVec Ideal S920x920 .f32 := exp2 (subf s (broadcastTo S920x920 (kCeil s) broadcasts_S920x1_S920x920))

/-- The powers of two at an index. -/
theorem kPow_at (s : FVec Ideal S920x920 .f32) (r k : Fin 920) :
    (kPow s (ix2 r k) : EReal) = FloatOps.exp2 (F := Ideal) (φ := .f32) (s (ix2 r k) - kCeil s (ix2 r 0)) := by
  pointwise [kPow]

/-- The rows' sums. -/
def kDen (p : FVec Ideal S920x920 .f32) : FVec Ideal S920x1 .f32 :=
  shapeCast S920x1 (multiReduction .add [1] S920 p 0x00000000#32 reduces_S920x920_S920 (.inl rfl) rfl) shapeCasts_S920_S920x1

/-- The rows' sums at an index. -/
theorem kDen_at (p : FVec Ideal S920x920 .f32) (r : Fin 920) (z : Fin 1) :
    (kDen p (ix2 r z) : EReal) = ∑ k, p (ix2 r k) := by
  pointwise [kDen]

/-- The head's output from the powers of two. -/
def kOut (p : FVec Ideal S920x920 .f32) (x2 : Vec Ideal S1x1x920x128 .bf16) : FVec Ideal S920x128 .f32 :=
  divf (matmul (F := Ideal) dot_S920x920_S920x128_S920x128_1_0_0_1_n_n none (truncf .bf16 p bitsLt_bf16_f32)
    (shapeCast S920x128 x2 shapeCasts_S1x1x920x128_S920x128 : FVec Ideal S920x128 .bf16) (constant S920x128 .f32 0x00000000#32)) (broadcastTo S920x128 (kDen p) broadcasts_S920x1_S920x128)

/-- The head's output at an index. -/
theorem kOut_at (p : FVec Ideal S920x920 .f32) (x2 : Vec Ideal S1x1x920x128 .bf16) (r : Fin 920) (d : Fin 128) :
    (kOut p x2 (ix2 r d) : EReal) = Ideal.div (∑ k : Fin 920, p (ix2 r k) * x2 (ix4 0 0 k d)) (kDen p (ix2 r 0)) := by
  pointwise [kOut]

/-- The head's output is those stages. -/
theorem pay50_eq (x0 x1 x2) : k0_pay50 (F := Ideal) x0 x1 x2 = kOut (kPow (kScore x0 x1)) x2 := rfl

/-- The head's output at an index. -/
theorem pay50_at (x0 x1 x2 : Vec Ideal S1x1x920x128 .bf16) (r : Fin 920) (d : Fin 128) :
    (k0_pay50 (F := Ideal) x0 x1 x2 (ix2 r d) : EReal)
      = Rows.att (fun k => Rows.score (fun e => x0 (ix4 0 0 r e)) (fun e => x1 (ix4 0 0 k e))) (fun k => x2 (ix4 0 0 k d)) := by
  rw [pay50_eq, kOut_at, kDen_at]
  simp only [kPow_at, kScore_at, kCeil_at]
  rfl

/-- The slice stored at an index. -/
theorem pay51_at (x0 x1 x2 : Vec Ideal S1x1x920x128 .bf16) (z : Fin 1) (r : Fin 920) (d : Fin 128) :
    (k0_pay51 (F := Ideal) x0 x1 x2 (ix3 z r d) : EReal) = k0_pay50 (F := Ideal) x0 x1 x2 (ix2 r d) := by
  pointwise [k0_pay51]

/-- The magnitudes at an index. -/
theorem pay53_at (x0 x1 x2 : Vec Ideal S1x1x920x128 .bf16) (r : Fin 920) (d : Fin 128) :
    (k0_pay53 (F := Ideal) x0 x1 x2 (ix2 r d) : EReal) = Rows.mag (k0_pay50 (F := Ideal) x0 x1 x2 (ix2 r d)) := by
  pointwise [k0_pay53, k0_pay52, Rows.mag]

/-- The larger of the maxima so far and the magnitudes, at an index. -/
theorem pay54_at (x0 x1 x2 : Vec Ideal S1x1x920x128 .bf16) (v : Vec Ideal S920x128 .f32) (r : Fin 920) (d : Fin 128) :
    (k0_pay54 (F := Ideal) x0 x1 x2 v (ix2 r d) : EReal) = max (v (ix2 r d)) (Rows.mag (k0_pay50 (F := Ideal) x0 x1 x2 (ix2 r d))) := by
  pointwise [k0_pay54, k0_pay52, Rows.mag]

/-- The rows' largest entries, as the program computes them. -/
def kTop (v : FVec Ideal S920x128 .f32) : FVec Ideal S920x1 .f32 :=
  shapeCast S920x1 (multiReduction .maximumf [1] S920 v 0xFF800000#32 reduces_S920x128_S920 (.inl rfl) rfl) shapeCasts_S920_S920x1

/-- The rows' largest entries at an index. -/
theorem kTop_at (v : FVec Ideal S920x128 .f32) (r : Fin 920) (z : Fin 1) : kTop v (ix2 r z) = Rows.top (fun k => v (ix2 r k)) := by
  unfold Rows.top
  pointwise [kTop]

/-- The quantiser's scales from the rows' largest magnitudes, as the program computes them. -/
def kScaleOf (a : FVec Ideal S920x1 .f32) : FVec Ideal S920x1 .f32 :=
  select (cmpf .oeq a (broadcast S920x1 (Scalar.ofBits (F := Ideal) .f32 0x00000000#32))) (broadcast S920x1 (Scalar.ofBits (F := Ideal) .f32 0x3F800000#32))
    (divf a (broadcast S920x1 (Scalar.ofBits (F := Ideal) .f32 0x43E00000#32)))

/-- The scales at an index, from the largest magnitudes. -/
theorem kScaleOf_at (a : FVec Ideal S920x1 .f32) (r : Fin 920) (z : Fin 1) : kScaleOf a (ix2 r z) = Rows.scale 0x43E00000#32 (a (ix2 r z)) := by
  unfold Rows.scale
  pointwise [kScaleOf]

/-- The scales at an index, from the lanes' maxima. -/
theorem scale_at (v : Vec Ideal S920x128 .f32) (r : Fin 920) (z : Fin 1) :
    k0_pay2 (F := Ideal) v (ix2 r z) = Rows.scale 0x43E00000#32 (Rows.top (fun l : Fin 128 => v (ix2 r l))) := by
  have h : k0_pay2 (F := Ideal) v = kScaleOf (kTop v) := by
    unfold k0_pay2
    rfl
  rw [h, kScaleOf_at, kTop_at]

/-- The codes at an index. -/
theorem code_at (s : Vec Ideal S920x1 .f32) (v : Vec Ideal S1x920x128 .f32) (r : Fin 920) (k : Fin 128) :
    (k0_pay1 (F := Ideal) s v (ix2 r k) : EReal) = Rows.quant (v (ix3 0 r k)) (s (ix2 r 0)) := by
  pointwise [k0_pay1, Rows.quant]

end Cert.SpatialIdeal.RowValue

end
-- ==== Proof.SpatialStep.lean ====
/- The spatial attention: what the scratch buffers hold between two grid steps, and that a step keeps it. -/
module

public import proofs.«01_k».proof.Proof.SpatialRows

@[expose] public section

set_option maxRecDepth 16384

noncomputable section

namespace Cert.SpatialIdeal.TileValue

open Cert Cert.SpatialIdeal Cert.SpatialIdeal.Gen Cert.SpatialIdeal.Body Idealize.ShloMosaic Idealize.ShloMosaic.TcCoe Idealize.SL.Sem

/-- The magnitudes of row `i` of the attention's output `H`. -/
def mags (H : ℕ → ℕ → EReal) (i : ℕ) : ℕ → EReal := fun k => Rows.mag (H i k)

/-- The scale of row `i` of the attention's output `H`. -/
def rowScale (H : ℕ → ℕ → EReal) (i : ℕ) : EReal := Rows.scale 0x43E00000#32 (Rows.top fun k : Fin 5120 => mags H i k)

/-- The scale of a row, from the lanes' maxima. -/
theorem rowScale_eq (H : ℕ → ℕ → EReal) (i : ℕ) : Rows.scale 0x43E00000#32 (Rows.top fun l : Fin 128 => Rows.lane (mags H i) l 40) = rowScale H i := by
  unfold rowScale
  rw [Rows.top_lane (mags H i) fun k => Rows.mag_nonneg _]

/-- What the scratch buffers hold before head `n` of group `b`, the attention's output being `H`: the heads so far, and the lanes'
    maxima over them. -/
structure Inv (H : ℕ → ℕ → EReal) (b n : ℕ) (h : Vec Ideal S40x920x128 .f32) (mx : Vec Ideal S920x128 .f32) : Prop where
  new : ∀ (j : Fin 40) (r : Fin 920) (d : Fin 128), j.val < n → h (ix3 j r d) = H (b * 920 + r.val) (128 * j.val + d.val)
  run : ∀ (r : Fin 920) (l : Fin 128), n ≠ 0 → mx (ix2 r l) = Rows.lane (mags H (b * 920 + r.val)) l.val n

/-- Before a group's first head nothing is known of the scratch buffers. -/
theorem Inv.start (H : ℕ → ℕ → EReal) (b : ℕ) (h mx) : Inv H b 0 h mx :=
  ⟨fun j r d hj => absurd hj (by omega), fun r l hn => absurd rfl hn⟩

/-- The head outputs with one head replaced, at that head. -/
theorem put_in (h : Vec Ideal S40x920x128 .f32) (w : Vec Ideal S1x920x128 .f32) (j : Fin 40) (r : Fin 920) (d : Fin 128) :
    VecWindow.put h ![j.val, 0, 0] S1x920x128.size w (ix3 j r d) = w (ix3 0 r d) := by
  have hin : ∀ a : Fin 3, (![j.val, 0, 0] : Fin 3 → ℕ) a ≤ ((ix3 j r d : S40x920x128.Idx) a).val
      ∧ ((ix3 j r d : S40x920x128.Idx) a).val < (![j.val, 0, 0] : Fin 3 → ℕ) a + S1x920x128.size a := by
    intro a
    match a with
    | ⟨0, _⟩ => exact ⟨le_rfl, by show j.val < j.val + 1; omega⟩
    | ⟨1, _⟩ => exact ⟨Nat.zero_le _, by show r.val < 0 + 920; omega⟩
    | ⟨2, _⟩ => exact ⟨Nat.zero_le _, by show d.val < 0 + 128; omega⟩
  unfold VecWindow.put
  rw [dif_pos hin]
  congr 1
  funext a
  refine Fin.ext ?_
  rw [Rect.unitLocal_val]
  match a with
  | ⟨0, _⟩ => show j.val - j.val = 0; omega
  | ⟨1, _⟩ => show r.val - 0 = r.val; omega
  | ⟨2, _⟩ => show d.val - 0 = d.val; omega

/-- The head outputs with one head replaced, at another head. -/
theorem put_out (n : ℕ) (h : Vec Ideal S40x920x128 .f32) (w : Vec Ideal S1x920x128 .f32) (j : Fin 40) (r : Fin 920) (d : Fin 128) (e : j.val < n) :
    VecWindow.put h ![n, 0, 0] S1x920x128.size w (ix3 j r d) = h (ix3 j r d) := by
  unfold VecWindow.put
  refine dif_neg fun hin => ?_
  have h1 : n ≤ j.val ∧ j.val < n + 1 := hin 0
  omega

/-- The code block with one head's columns replaced, at those columns. -/
theorem cput_in (n : ℕ) (y : Vec Ideal S920x5120 .fp8e4m3) (w : Vec Ideal S920x128 .fp8e4m3) (r : Fin 920) (k : Fin 5120) (d : Fin 128) (e : k.val = 128 * n + d.val) :
    VecWindow.put y ![0, 128 * n] S920x128.size w (ix2 r k) = w (ix2 r d) := by
  have hin : ∀ a : Fin 2, (![0, 128 * n] : Fin 2 → ℕ) a ≤ ((ix2 r k : S920x5120.Idx) a).val
      ∧ ((ix2 r k : S920x5120.Idx) a).val < (![0, 128 * n] : Fin 2 → ℕ) a + S920x128.size a := by
    intro a
    match a with
    | ⟨0, _⟩ => exact ⟨Nat.zero_le _, by show r.val < 0 + 920; omega⟩
    | ⟨1, _⟩ => exact ⟨by show 128 * n ≤ k.val; omega, by show k.val < 128 * n + 128; omega⟩
  unfold VecWindow.put
  rw [dif_pos hin]
  congr 1
  funext a
  refine Fin.ext ?_
  rw [Rect.unitLocal_val]
  match a with
  | ⟨0, _⟩ => show r.val - 0 = r.val; omega
  | ⟨1, _⟩ => show k.val - 128 * n = d.val; omega

/-- The code block with one head's columns replaced, at earlier columns. -/
theorem cput_out (n : ℕ) (y : Vec Ideal S920x5120 .fp8e4m3) (w : Vec Ideal S920x128 .fp8e4m3) (r : Fin 920) (k : Fin 5120) (e : k.val < 128 * n) :
    VecWindow.put y ![0, 128 * n] S920x128.size w (ix2 r k) = y (ix2 r k) := by
  unfold VecWindow.put
  refine dif_neg fun hin => ?_
  have h1 : 128 * n ≤ k.val ∧ k.val < 128 * n + 128 := hin 1
  omega

/-- One head's slice of the head outputs at an index. -/
theorem window_at (n : ℕ) (hn : n < 40) (h : Vec Ideal S40x920x128 .f32) (r : Fin 920) (d : Fin 128) :
    VecWindow.window h ![n, 0, 0] S1x920x128.size (inb_head n hn) (ix3 0 r d) = h (ix3 (⟨n, hn⟩ : Fin 40) r d) := by
  unfold VecWindow.window
  refine congrArg h (funext fun a => Fin.ext ?_)
  match a with
  | ⟨0, _⟩ => show n + 1 * 0 = n; omega
  | ⟨1, _⟩ => show 0 + 1 * r.val = r.val; omega
  | ⟨2, _⟩ => show 0 + 1 * d.val = d.val; omega

/-- The code block with its first `n` heads stored, at their columns. -/
theorem codes_at (h : Vec Ideal S40x920x128 .f32) (mx : Vec Ideal S920x128 .f32) (y : Vec Ideal S920x5120 .fp8e4m3) (r : Fin 920) (k : Fin 5120) :
    ∀ n, n ≤ 40 → k.val < 128 * n → (PUT (F := Ideal) h mx y n (ix2 r k) : EReal)
      = Rows.quant (h (ix3 (⟨k.val / 128, by omega⟩ : Fin 40) r (⟨k.val % 128, by omega⟩ : Fin 128))) (k0_pay2 (F := Ideal) mx (ix2 r 0)) := by
  intro n
  induction n with
  | zero => intro _ hk; exact absurd hk (by omega)
  | succ n ih =>
    intro hn hk
    have hn' : n < 40 := by omega
    rw [PUT, dif_pos hn']
    by_cases hb : k.val < 128 * n
    · rw [cput_out n _ _ r k hb]
      exact ih (by omega) hb
    · have hq : k.val / 128 = n := by omega
      have hf : (⟨k.val / 128, by omega⟩ : Fin 40) = ⟨n, hn'⟩ := Fin.ext hq
      rw [cput_in n _ _ r k (⟨k.val % 128, by omega⟩ : Fin 128) (by dsimp only; omega), hf]
      refine (RowValue.code_at _ _ r _).trans ?_
      rw [window_at n hn']

section Step

variable (H : ℕ → ℕ → EReal) (i : grid0.Coords) (x0 x1 x2 : Vec Ideal S1x1x920x128 .bf16)
  (h : Vec Ideal S40x920x128 .f32) (mx : Vec Ideal S920x128 .f32)

/-- The head's output computed at a grid point is the attention's. -/
def HeadIs : Prop := ∀ (r : Fin 920) (d : Fin 128),
  k0_pay50 (F := Ideal) x0 x1 x2 (ix2 r d) = H ((i 0).val * 920 + r.val) (128 * (i 1).val + d.val)

variable (hI : Inv H (i 0).val (i 1).val h mx) (hT : HeadIs H i x0 x1 x2)

include hI hT

/-- The head outputs after the step: one head more. -/
theorem hid_new (j : Fin 40) (r : Fin 920) (d : Fin 128) (hj : j.val < (i 1).val + 1) :
    HID (F := Ideal) i x0 x1 x2 h (ix3 j r d) = H ((i 0).val * 920 + r.val) (128 * j.val + d.val) := by
  unfold HID
  by_cases hb : j.val < (i 1).val
  · rw [put_out (i 1).val h _ j r d hb]
    exact hI.new j r d hb
  · have e : (i 1).val = j.val := by omega
    rw [e, put_in h _ j r d]
    refine (RowValue.pay51_at x0 x1 x2 0 r d).trans ((hT r d).trans ?_)
    rw [e]

/-- The maxima after the step. -/
theorem mm_at (r : Fin 920) (l : Fin 128) :
    MM (F := Ideal) i x0 x1 x2 mx (ix2 r l) = Rows.lane (mags H ((i 0).val * 920 + r.val)) l.val ((i 1).val + 1) := by
  unfold MM
  by_cases hn : (i 1).val = 0
  · rw [if_pos hn]
    refine (RowValue.pay53_at x0 x1 x2 r l).trans ?_
    rw [hT r l, hn]
    exact (max_eq_right (Rows.mag_nonneg _)).symm
  · rw [if_neg hn]
    refine (RowValue.pay54_at x0 x1 x2 mx r l).trans ?_
    rw [hT r l, hI.run r l hn]
    rfl

/-- A step keeps what the scratch buffers hold. -/
theorem step : Inv H (i 0).val ((i 1).val + 1) (HID (F := Ideal) i x0 x1 x2 h) (MM (F := Ideal) i x0 x1 x2 mx) where
  new j r d hj := hid_new H i x0 x1 x2 h mx hI hT j r d hj
  run r l _ := mm_at H i x0 x1 x2 h mx hI hT r l

variable (hn : (i 1).val = 39)

include hn

/-- The scale after a group's last head is the row's. -/
theorem scale_full (r : Fin 920) (z : Fin 1) : k0_pay2 (F := Ideal) (MM (F := Ideal) i x0 x1 x2 mx) (ix2 r z) = rowScale H ((i 0).val * 920 + r.val) := by
  refine (RowValue.scale_at _ r z).trans ?_
  rw [← rowScale_eq]
  congr 2
  funext l
  refine (mm_at H i x0 x1 x2 h mx hI hT r l).trans ?_
  rw [hn]

/-- The codes stored after a group's last head. -/
theorem y3_at (y3) (r : Fin 920) (k : Fin 5120) :
    (Y3 (F := Ideal) i (HID (F := Ideal) i x0 x1 x2 h) (MM (F := Ideal) i x0 x1 x2 mx) y3 (ix2 r k) : EReal)
      = Rows.quant (H ((i 0).val * 920 + r.val) k.val) (rowScale H ((i 0).val * 920 + r.val)) := by
  unfold Y3
  rw [if_pos hn]
  refine (codes_at _ _ y3 r k 40 le_rfl (by have := k.isLt; omega)).trans ?_
  rw [scale_full H i x0 x1 x2 h mx hI hT hn, hid_new H i x0 x1 x2 h mx hI hT _ r _ (by dsimp only; omega)]
  dsimp only
  rw [show 128 * (k.val / 128) + k.val % 128 = k.val by omega]

/-- The scales stored after a group's last head. -/
theorem y4_at (y4) (r : Fin 920) (z : Fin 1) :
    Y4 (F := Ideal) i (MM (F := Ideal) i x0 x1 x2 mx) y4 (ix2 r z) = rowScale H ((i 0).val * 920 + r.val) := by
  unfold Y4
  rw [if_pos hn]
  exact scale_full H i x0 x1 x2 h mx hI hT hn r z

end Step

end Cert.SpatialIdeal.TileValue

end
-- ==== Proof.SpatialRefRows.lean ====
/- The spatial attention's reference: its arrays at an index. -/
module

public import proofs.«01_k».proof.Proof.SpatialAtt
public import proofs.«01_k».proof.Proof.Gen.RefSpatialIdeal.Value
public import Idealize.ShloMosaic.Lib.Pipeline.Value
public import Idealize.ShloMosaic.Lib.StableHlo.Run
public import Idealize.ShloMosaic.Lib.KernelVsHost
public import Idealize.ShloMosaic.Lib.Tactic

@[expose] public section

set_option maxRecDepth 16384

noncomputable section

namespace Cert.RefSpatialIdeal.RowValue

open Cert Cert.RefSpatialIdeal Cert.RefSpatialIdeal.Gen Idealize.ShloMosaic Idealize.ShloMosaic.TcCoe Idealize.SL.Sem Idealize.ShloMosaic.Tactic

/-- The scaled scores of every head. -/
def rScore (a : FVec Ideal S120x6x920x128 .bf16) : FVec Ideal S40x6x920x920 .f32 :=
  mulf (Host.dotGeneral (F := Ideal) dot_S40x6x920x128_S40x6x920x128_S40x6x920x920_3_3_2_2_01_01 none (extractStridedSlice S40x6x920x128 ![0, 0, 0, 0] a slices_S120x6x920x128_S40x6x920x128_0_0_0_0)
    (extractStridedSlice S40x6x920x128 ![40, 0, 0, 0] a slices_S120x6x920x128_S40x6x920x128_40_0_0_0)) (broadcastInDim S40x6x920x920 ![] bcast_S_S40x6x920x920 (constant (F := Ideal) S_ .f32 0x3E0293EE#32))

/-- The scaled scores at an index. -/
theorem rScore_at (a : FVec Ideal S120x6x920x128 .bf16) (h : Fin 40) (b : Fin 6) (r k : Fin 920) :
    (rScore a (ix4 h b r k) : EReal) = Rows.score (fun e => a (ix4 ⟨h.val, by omega⟩ b r e)) (fun e => a (ix4 ⟨40 + h.val, by omega⟩ b k e)) := by
  unfold Rows.score
  pointwise [rScore]

/-- The rows' maxima rounded up. -/
def rCeil (s : FVec Ideal S40x6x920x920 .f32) : FVec Ideal S40x6x920x1 .f32 :=
  Host.ceil (broadcastInDim S40x6x920x1 ![0, 1, 2] bcast_S40x6x920_S40x6x920x1_0_1_2
    (Host.reduce (FloatOps.maximumf (F := Ideal) (φ := .f32)) s (constant (F := Ideal) S_ .f32 0xFF800000#32) reducesTo_S40x6x920x920_S40x6x920_d3 h_S_))

/-- The last axis is one that a maximum may be taken over. -/
theorem red : S40x6x920x920.Reduces [3] S40x6x920 := ⟨rfl, Nat.succ_pos _, reducesTo_S40x6x920x920_S40x6x920_d3.2⟩

/-- The rows' maxima at an index. -/
theorem rMax_at (s : FVec Ideal S40x6x920x920 .f32) (h : Fin 40) (b : Fin 6) (r : Fin 920) :
    (multiReduction .maximumf [3] S40x6x920 s 0xFF800000#32 red (.inl rfl) rfl (ix3 h b r) : EReal) = Rows.top fun k => s (ix4 h b r k) := by
  unfold Rows.top
  pointwise

/-- A column rounded up, at an index. -/
theorem up_at (u : FVec Ideal S40x6x920 .f32) (h : Fin 40) (b : Fin 6) (r : Fin 920) (z : Fin 1) :
    (Host.ceil (broadcastInDim S40x6x920x1 ![0, 1, 2] bcast_S40x6x920_S40x6x920x1_0_1_2 u) (ix4 h b r z) : EReal) = FloatOps.ceil (F := Ideal) (φ := .f32) (u (ix3 h b r)) := by
  pointwise

/-- The rounded maxima at an index. -/
theorem rCeil_at (s : FVec Ideal S40x6x920x920 .f32) (h : Fin 40) (b : Fin 6) (r : Fin 920) (z : Fin 1) :
    (rCeil s (ix4 h b r z) : EReal) = FloatOps.ceil (F := Ideal) (φ := .f32) (Rows.top fun k => s (ix4 h b r k)) := by
  unfold rCeil
  rw [up_at, ← rMax_at s h b r]
  exact congrArg _ (congrFun (hostReduce_maximumf_eq_multiReduction s 0xFF800000#32 _ _ red (.inl rfl) rfl) (ix3 h b r))

/-- The powers of two. -/
def rPow (s : FVec Ideal S40x6x920x920 .f32) : FVec Ideal S40x6x920x920 .f32 :=
  Host.powf (broadcastInDim S40x6x920x920 ![] bcast_S_S40x6x920x920 (constant (F := Ideal) S_ .f32 0x40000000#32))
    (subf s (broadcastInDim S40x6x920x920 ![0, 1, 2, 3] bcast_S40x6x920x1_S40x6x920x920_0_1_2_3 (rCeil s)))

/-- The powers of two at an index. -/
theorem rPow_at (s : FVec Ideal S40x6x920x920 .f32) (h : Fin 40) (b : Fin 6) (r k : Fin 920) :
    (rPow s (ix4 h b r k) : EReal) = Ideal.pow (Ideal.ofBits FTy.f32 0x40000000#32) (s (ix4 h b r k) - rCeil s (ix4 h b r 0)) := by
  pointwise [rPow]

/-- The rows' sums. -/
def rDen (p : FVec Ideal S40x6x920x920 .f32) : FVec Ideal S40x6x920x1 .f32 :=
  broadcastInDim S40x6x920x1 ![0, 1, 2] bcast_S40x6x920_S40x6x920x1_0_1_2
    (Host.reduceAdd p (constant (F := Ideal) S_ .f32 0x00000000#32) reducesTo_S40x6x920x920_S40x6x920_d3 h_S_)

/-- The rows' sums at an index. -/
theorem rDen_at (p : FVec Ideal S40x6x920x920 .f32) (h : Fin 40) (b : Fin 6) (r : Fin 920) (z : Fin 1) :
    (rDen p (ix4 h b r z) : EReal) = ∑ k, p (ix4 h b r k) := by
  pointwise [rDen]

/-- Every head's output. -/
def rOut (p : FVec Ideal S40x6x920x920 .f32) (a : FVec Ideal S120x6x920x128 .bf16) : FVec Ideal S40x6x920x128 .f32 :=
  Host.divf (Host.dotGeneral (F := Ideal) dot_S40x6x920x920_S40x6x920x128_S40x6x920x128_3_2_2_3_01_01 none (truncf .bf16 p bitsLt_bf16_f32)
      (extractStridedSlice S40x6x920x128 ![80, 0, 0, 0] a slices_S120x6x920x128_S40x6x920x128_80_0_0_0))
    (broadcastInDim S40x6x920x128 ![0, 1, 2, 3] bcast_S40x6x920x1_S40x6x920x128_0_1_2_3 (rDen p))

/-- Every head's output at an index. -/
theorem rOut_at (p : FVec Ideal S40x6x920x920 .f32) (a : FVec Ideal S120x6x920x128 .bf16) (h : Fin 40) (b : Fin 6) (r : Fin 920) (d : Fin 128) :
    (rOut p a (ix4 h b r d) : EReal) = Ideal.div (∑ k : Fin 920, p (ix4 h b r k) * a (ix4 ⟨80 + h.val, by omega⟩ b k d)) (rDen p (ix4 h b r 0)) := by
  pointwise [rOut]

/-- The heads' outputs as the columns of one array of rows. -/
def rFlat (o : FVec Ideal S40x6x920x128 .f32) : FVec Ideal S5520x5120 .f32 :=
  shapeCast S5520x5120 (transpose S6x920x40x128 [1, 2, 0, 3] o transposes_S40x6x920x128_S6x920x40x128_1_2_0_3) shapeCasts_S6x920x40x128_S5520x5120

/-- The array of rows at an index. -/
theorem rFlat_at (o : FVec Ideal S40x6x920x128 .f32) (i : Fin 5520) (k : Fin 5120) :
    (rFlat o (ix2 i k) : EReal) = o (ix4 (⟨k.val / 128, by omega⟩ : Fin 40) (⟨i.val / 920, by omega⟩ : Fin 6) (⟨i.val % 920, by omega⟩ : Fin 920) (⟨k.val % 128, by omega⟩ : Fin 128)) := by
  pointwise [rFlat]

/-- The attention's output of the reference, from its argument. -/
def attn (a : FVec Ideal S120x6x920x128 .bf16) : FVec Ideal S5520x5120 .f32 := rFlat (rOut (rPow (rScore a)) a)

/-- The attention's output at an index. -/
theorem attn_at (a : FVec Ideal S120x6x920x128 .bf16) (i : Fin 5520) (k : Fin 5120) : (attn a (ix2 i k) : EReal) = Rows.heads a i.val k.val := by
  have hk : k.val / 128 % 40 = k.val / 128 := by omega
  have hi : i.val / 920 % 6 = i.val / 920 := by omega
  unfold attn Rows.heads Rows.att Rows.pw
  rw [rFlat_at, rOut_at, rDen_at]
  simp only [rPow_at, rCeil_at, rScore_at, hk, hi, ← Rows.exp2_eq_pow]
  rfl

/-- The array that the reference's call reads is the attention's output. -/
theorem V_attn (m : (ℓ : Loc nD τ sig) → Buf (Elt Ideal) ℓ) (c : Dev nD) :
    V m c main_v20 = attn (m ((c : Thread nD τ).loc main_arg0)) := by
  show StableHlo.after hostOps0 _ (main_v20 : DevRef τ sig) = _
  unfold hostOps0
  after_results_simp
  rfl

end Cert.RefSpatialIdeal.RowValue

end
-- ==== Proof.SpatialRef.lean ====
/- The spatial attention: the reference's arrays after its run, as functions of its argument. -/
module

public import proofs.«01_k».proof.Proof.SpatialRefRows
public import Idealize.ShloMosaic.Lib.Pipeline.ValueKit
public import Idealize.ShloMosaic.Lib.Tactic

@[expose] public section

set_option maxRecDepth 16384

noncomputable section

namespace Cert.RefSpatialIdeal.Arrays

open Cert Cert.RefSpatialIdeal Cert.RefSpatialIdeal.Gen Idealize.ShloMosaic Idealize.ShloMosaic.TcCoe Idealize.SL.Sem
open Idealize.ShloMosaic.Tactic

variable (m : (ℓ : Loc nD τ sig) → Buf (Elt Ideal) ℓ)

/-- The codes of the reference, from its argument. -/
def G3 (a : Vec Ideal S120x6x920x128 .bf16) : Vec Ideal S5520x5120 .fp8e4m3 := k0_pay3 (F := Ideal) (RowValue.attn a)

/-- The scales of the reference, from its argument. -/
def G4 (a : Vec Ideal S120x6x920x128 .bf16) : Vec Ideal S5520x1 .f32 := k0_pay2 (F := Ideal) (RowValue.attn a)

/-- The rows' largest entries, as the program computes them. -/
def kTop (v : FVec Ideal S5520x5120 .f32) : FVec Ideal S5520x1 .f32 :=
  shapeCast S5520x1 (multiReduction .maximumf [1] S5520 v 0xFF800000#32 reduces_S5520x5120_S5520 (.inl rfl) rfl) shapeCasts_S5520_S5520x1

/-- The rows' largest entries at an index. -/
theorem kTop_at (v : FVec Ideal S5520x5120 .f32) (r : Fin 5520) (z : Fin 1) : kTop v (ix2 r z) = Rows.top (fun k => v (ix2 r k)) := by
  unfold Rows.top
  pointwise [kTop]

/-- The quantiser's scales from the rows' largest magnitudes, as the program computes them. -/
def kScaleOf (a : FVec Ideal S5520x1 .f32) : FVec Ideal S5520x1 .f32 :=
  select (cmpf .oeq a (broadcast S5520x1 (Scalar.ofBits (F := Ideal) .f32 0x00000000#32))) (broadcast S5520x1 (Scalar.ofBits (F := Ideal) .f32 0x3F800000#32))
    (divf a (broadcast S5520x1 (Scalar.ofBits (F := Ideal) .f32 0x43E00000#32)))

/-- The scales at an index, from the largest magnitudes. -/
theorem kScaleOf_at (a : FVec Ideal S5520x1 .f32) (r : Fin 5520) (z : Fin 1) : kScaleOf a (ix2 r z) = Rows.scale 0x43E00000#32 (a (ix2 r z)) := by
  unfold Rows.scale
  pointwise [kScaleOf]

/-- The quantised rows, as the program computes them. -/
def kQuant (v : FVec Ideal S5520x5120 .f32) (s : FVec Ideal S5520x1 .f32) : FVec Ideal S5520x5120 .fp8e4m3 :=
  truncf .fp8e4m3 (minimumf (broadcast S5520x5120 (Scalar.ofBits (F := Ideal) .f32 0x43E00000#32)) (maximumf (broadcast S5520x5120 (Scalar.ofBits (F := Ideal) .f32 0xC3E00000#32))
    (divf v (broadcastTo S5520x5120 s broadcasts_S5520x1_S5520x5120)))) bitsLt_fp8e4m3_f32

/-- The quantised rows at an index. -/
theorem kQuant_at (v : FVec Ideal S5520x5120 .f32) (s : FVec Ideal S5520x1 .f32) (r : Fin 5520) (k : Fin 5120) :
    (kQuant v s (ix2 r k) : EReal) = Rows.quant (v (ix2 r k)) (s (ix2 r 0)) := by
  pointwise [kQuant, Rows.quant]

/-- The body's input re-cast to its own shape. -/
theorem pay1_eq (v : Vec Ideal S5520x5120 .f32) : k0_pay1 (F := Ideal) v = v := by
  unfold k0_pay1
  funext y
  exact shapeCast_apply v _ y y rfl

/-- The scales at an index. -/
theorem scale_at (a : Vec Ideal S120x6x920x128 .bf16) (r : Fin 5520) (z : Fin 1) :
    G4 a (ix2 r z) = Rows.scale 0x43E00000#32 (Rows.top fun k : Fin 5120 => Rows.mag (Rows.heads a r.val k.val)) := by
  refine (kScaleOf_at (kTop (absf (k0_pay1 (F := Ideal) (RowValue.attn a)))) r z).trans ?_
  rw [kTop_at, pay1_eq]
  congr 2
  funext k
  exact congrArg Rows.mag (RowValue.attn_at a r k)

/-- The codes at an index. -/
theorem code_at (a : Vec Ideal S120x6x920x128 .bf16) (r : Fin 5520) (k : Fin 5120) :
    (G3 a (ix2 r k) : EReal) = Rows.quant (Rows.heads a r.val k.val) (Rows.scale 0x43E00000#32 (Rows.top fun k : Fin 5120 => Rows.mag (Rows.heads a r.val k.val))) := by
  refine (kQuant_at (k0_pay1 (F := Ideal) (RowValue.attn a)) (k0_pay2 (F := Ideal) (RowValue.attn a)) r k).trans ?_
  rw [pay1_eq, RowValue.attn_at, ← scale_at a r 0]
  rfl

/-- Every window is its whole array. -/
theorem idx : ∀ t : Fin cfg0.N, win0_0.index t = ![0, 0] ∧ win0_1.index t = ![0, 0] ∧ win0_2.index t = ![0, 0] :=
  (by decide +kernel : ∀ t : Fin grid0.N, _)

/-- Window 0's block is its array. -/
theorem blk0 (c : Dev nD) (t : Fin cfg0.N) : iblk m c 0 t = RowValue.attn (m ((c : Thread nD τ).loc main_arg0)) := by
  have e : V m c (Pipeline.arrRef spec0 0) = RowValue.attn (m ((c : Thread nD τ).loc main_arg0)) := RowValue.V_attn m c
  funext y
  refine Eq.trans ?_ (congrFun e y)
  show V m c (Pipeline.arrRef spec0 0) (((cfg0.win 0).blk t).view.emb y) = V m c (Pipeline.arrRef spec0 0) y
  refine congrArg _ ?_
  blk_ext [idx t]

/-- The stores and loads start at the origin. -/
theorem hz : (![0, 0] : Fin 2 → Nat) = fun _ => 0 := funext fun a => by fin_cases a <;> rfl

/-- Output window 1's buffer without the load and the store. -/
theorem out1_eq (x0 : Vec Ideal S5520x5120 .f32) : out0_1 (F := Ideal) x0 = k0_pay3 (F := Ideal) x0 := by
  unfold out0_1
  rw [View.canon_unit_zero hz, View.ld_unit_zero (S := S5520x5120) hz _ x0]

/-- Output window 2's buffer without the load and the store. -/
theorem out2_eq (x0 : Vec Ideal S5520x5120 .f32) : out0_2 (F := Ideal) x0 = k0_pay2 (F := Ideal) x0 := by
  unfold out0_2
  rw [View.canon_unit_zero hz, View.ld_unit_zero (S := S5520x5120) hz _ x0]

/-- What is written back from window 1. -/
theorem cut1 (c : Dev nD) (t : Fin cfg0.N) (y : ((cfg0.win 1).xblock (cfg0.grid.coords t)).Idx) :
    out0_1 (F := Ideal) (iblk m c 0 t) ((cfg0.win 1).xinj (cfg0.grid.coords t) y) = G3 (m ((c : Thread nD τ).loc main_arg0)) (((cfg0.win 1).blk t).view.emb y) := by
  have e : (cfg0.win 1).xinj (cfg0.grid.coords t) y = ((cfg0.win 1).blk t).view.emb y := by blk_ext [idx t]
  rw [out1_eq, blk0]
  exact congrArg _ e

/-- Result array 1 after the run. -/
theorem final1 (c : Dev nD) : (dats m 0 c).arrAt 1 cfg0.N = G3 (m ((c : Thread nD τ).loc main_arg0)) := by
  refine (dats m 0 c).arrAt_eq_of_covers 1 _ (by decide +kernel) fun t _ y => ?_
  rw [after0_1, cast_eq]
  exact cut1 m c t y

/-- What is written back from window 2. -/
theorem cut2 (c : Dev nD) (t : Fin cfg0.N) (y : ((cfg0.win 2).xblock (cfg0.grid.coords t)).Idx) :
    out0_2 (F := Ideal) (iblk m c 0 t) ((cfg0.win 2).xinj (cfg0.grid.coords t) y) = G4 (m ((c : Thread nD τ).loc main_arg0)) (((cfg0.win 2).blk t).view.emb y) := by
  have e : (cfg0.win 2).xinj (cfg0.grid.coords t) y = ((cfg0.win 2).blk t).view.emb y := by blk_ext [idx t]
  rw [out2_eq, blk0]
  exact congrArg _ e

/-- Result array 2 after the run. -/
theorem final2 (c : Dev nD) : (dats m 0 c).arrAt 2 cfg0.N = G4 (m ((c : Thread nD τ).loc main_arg0)) := by
  refine (dats m 0 c).arrAt_eq_of_covers 2 _ (by decide +kernel) fun t _ y => ?_
  rw [after0_2, cast_eq]
  exact cut2 m c t y

/-- The reference's run, with its result arrays named. -/
theorem run (ρ : Dev nD → PrngReg) : θ_run defs (onTc (τ := τ) (main (F := Ideal))) ⟨m, fun _ => 0, ρ⟩ fun r => ∀ c : Dev nD,
      r.2.mem ((c : Thread nD τ).loc main_v21_0) = G3 (m ((c : Thread nD τ).loc main_arg0))
      ∧ r.2.mem ((c : Thread nD τ).loc main_v21_1) = G4 (m ((c : Thread nD τ).loc main_arg0))
      ∧ r.2.mem ((c : Thread nD τ).loc main_arg0) = m ((c : Thread nD τ).loc main_arg0) :=
  (θ_run defs _ _).mono (fun r h c => ⟨(h c).1.trans (final1 m c), (h c).2.1.trans (final2 m c), (h c).2.2⟩)
    (Cert.RefSpatialIdeal.Value.run_blocks m ρ)

end Cert.RefSpatialIdeal.Arrays

end
-- ==== Proof.SpatialValue.lean ====
/- The spatial attention: the arrays the kernel leaves are the reference's arrays. -/
module

public import proofs.«01_k».proof.Proof.SpatialStep
public import proofs.«01_k».proof.Proof.SpatialRef
public import proofs.«01_k».proof.Defs
public import Idealize.ShloMosaic.Lib.Pipeline.ValueKit
public import Idealize.ShloMosaic.Lib.Claim
public import Idealize.ShloMosaic.Lib.Pipeline.FrameBody
public import Idealize.ShloMosaic.Lib.Tactic

@[expose] public section

set_option maxRecDepth 16384

noncomputable section

namespace Cert.SpatialIdeal.TileValue

open Cert Cert.SpatialIdeal Cert.SpatialIdeal.Gen Cert.SpatialIdeal.Body Idealize.ShloMosaic Idealize.ShloMosaic.TcCoe Idealize.SL.Sem
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ)

/-- The attention's output, from the launched array. -/
def out (c : Dev nD) : ℕ → ℕ → EReal := Rows.heads (m ((c : Thread nD τ).loc main_arg0))

/-- The grid point's group and head. -/
theorem coords : ∀ t : Fin cfg0.N, (grid0.coords t 0).val = t.val / 40 ∧ (grid0.coords t 1).val = t.val % 40 :=
  (by decide +kernel : ∀ t : Fin grid0.N, _)

/-- The input windows' block indices. -/
theorem idx : ∀ t : Fin cfg0.N, win0_0.index t = ![t.val % 40, t.val / 40, 0, 0] ∧ win0_1.index t = ![t.val % 40 + 40, t.val / 40, 0, 0]
    ∧ win0_2.index t = ![t.val % 40 + 80, t.val / 40, 0, 0] :=
  (by decide +kernel : ∀ t : Fin grid0.N, _)

/-- The output windows' block indices. -/
theorem idxo : ∀ t : Fin cfg0.N, win0_3.index t = ![t.val / 40, 0] ∧ win0_4.index t = ![t.val / 40, 0] :=
  (by decide +kernel : ∀ t : Fin grid0.N, _)

/-- An entry of the query block. -/
theorem row0 (c : Dev nD) (t : Fin cfg0.N) (r : Fin 920) (d : Fin 128) (q : Fin 120) (b : Fin 6) (hq : q.val = t.val % 40 + 0) (hb : b.val = t.val / 40) :
    iblk m c 0 t (ix4 (0 : Fin 1) (0 : Fin 1) r d) = m ((c : Thread nD τ).loc main_arg0) (ix4 q b r d) := by
  blk_ext [iblk, V, idx t]

/-- An entry of the key block. -/
theorem row1 (c : Dev nD) (t : Fin cfg0.N) (r : Fin 920) (d : Fin 128) (q : Fin 120) (b : Fin 6) (hq : q.val = t.val % 40 + 40) (hb : b.val = t.val / 40) :
    iblk m c 1 t (ix4 (0 : Fin 1) (0 : Fin 1) r d) = m ((c : Thread nD τ).loc main_arg0) (ix4 q b r d) := by
  blk_ext [iblk, V, idx t]

/-- An entry of the value block. -/
theorem row2 (c : Dev nD) (t : Fin cfg0.N) (r : Fin 920) (d : Fin 128) (q : Fin 120) (b : Fin 6) (hq : q.val = t.val % 40 + 80) (hb : b.val = t.val / 40) :
    iblk m c 2 t (ix4 (0 : Fin 1) (0 : Fin 1) r d) = m ((c : Thread nD τ).loc main_arg0) (ix4 q b r d) := by
  blk_ext [iblk, V, idx t]

/-- The head's output computed at a grid point is the attention's. -/
theorem head (c : Dev nD) (t : Fin cfg0.N) : HeadIs (out m c) (grid0.coords t) (iblk m c 0 t) (iblk m c 1 t) (iblk m c 2 t) := by
  intro r d
  obtain ⟨e0, e1⟩ := coords t
  have ht : t.val < 240 := t.isLt
  have hr : r.val < 920 := r.isLt
  have hd : d.val < 128 := d.isLt
  rw [e0, e1]
  refine (RowValue.pay50_at _ _ _ r d).trans ?_
  unfold out Rows.heads
  have hi : (⟨(t.val / 40 * 920 + r.val) % 920, by omega⟩ : Fin 920) = r := Fin.ext (by dsimp only; omega)
  have hk : (⟨(128 * (t.val % 40) + d.val) % 128, by omega⟩ : Fin 128) = d := Fin.ext (by dsimp only; omega)
  rw [hi, hk]
  congr 1
  · funext k
    congr 1
    · funext e
      exact row0 m c t r e _ _ (by dsimp only; omega) (by dsimp only; omega)
    · funext e
      exact row1 m c t k e _ _ (by dsimp only; omega) (by dsimp only; omega)
  · funext k
    exact row2 m c t k d _ _ (by dsimp only; omega) (by dsimp only; omega)

/-- The code block written back: the reference's. -/
def W3 (c : Dev nD) (t : Fin cfg0.N) : Vec Ideal S920x5120 .fp8e4m3 :=
  fun y => Cert.RefSpatialIdeal.Arrays.G3 (m ((c : Thread nD τ).loc main_arg0)) (((cfg0.win 3).blk t).view.emb y)

/-- The scale block written back: the reference's. -/
def W4 (c : Dev nD) (t : Fin cfg0.N) : Vec Ideal S920x1 .f32 :=
  fun y => Cert.RefSpatialIdeal.Arrays.G4 (m ((c : Thread nD τ).loc main_arg0)) (((cfg0.win 4).blk t).view.emb y)

/-- The scratch buffers before grid step `n`, with what they hold. -/
def Held (c : Dev nD) (n : ℕ) : sProp 𝕄 :=
  iprop(∃ h : Vec Ideal S40x920x128 .f32, ∃ mx : Vec Ideal S920x128 .f32,
    ⌜Inv (out m c) (n / 40) (n % 40) h mx⌝
    ∗ owns (c : Thread nD τ) (Memref.whole cc0_scratch0) fullShare h
    ∗ owns (c : Thread nD τ) (Memref.whole cc0_scratch1) fullShare mx
    ∗ ∃ r, prngReg c r)

/-- At the start the scratch buffers may hold anything. -/
theorem held_in (c : Dev nD) : (Pipeline.ΦA (Val := Elt Ideal) (U := UR sig nD τ) spec0 c : sProp 𝕄) ⊢ Held m c 0 := by
  unfold Pipeline.ΦA Held
  rw [scoped_owns]
  iintro ⟨⟨⟨%h0, H5⟩, ⟨%m0, H6⟩⟩, Hr⟩
  iexists h0; iexists m0
  isplitr
  · ipureintro; exact Inv.start _ _ _ _
  isplitl [H5]; · iexact H5
  isplitl [H6]; · iexact H6
  iexact Hr

/-- At the end what the scratch buffers hold does not matter. -/
theorem held_out (c : Dev nD) (n : ℕ) : Held m c n ⊢ (Pipeline.ΦA (Val := Elt Ideal) (U := UR sig nD τ) spec0 c : sProp 𝕄) := by
  unfold Pipeline.ΦA Held
  rw [scoped_owns]
  iintro ⟨%h0, %m0, -, H5, H6, Hr⟩
  isplitl [H5 H6]
  · isplitl [H5]; · iexists _; iexact H5
    iexists _; iexact H6
  iexact Hr

/-- A grid step keeps what the scratch buffers hold. -/
theorem inv_step (c : Dev nD) (t : Fin cfg0.N) (h mx) (hI : Inv (out m c) (t.val / 40) (t.val % 40) h mx) :
    Inv (out m c) ((t.val + 1) / 40) ((t.val + 1) % 40)
      (HID (F := Ideal) (grid0.coords t) (iblk m c 0 t) (iblk m c 1 t) (iblk m c 2 t) h)
      (MM (F := Ideal) (grid0.coords t) (iblk m c 0 t) (iblk m c 1 t) (iblk m c 2 t) mx) := by
  obtain ⟨e0, e1⟩ := coords t
  have hI' : Inv (out m c) (grid0.coords t 0).val (grid0.coords t 1).val h mx := by rw [e0, e1]; exact hI
  by_cases hn : t.val % 40 + 1 = 40
  · rw [show (t.val + 1) % 40 = 0 by omega]
    exact Inv.start _ _ _ _
  · have := step (out m c) (grid0.coords t) _ _ _ h mx hI' (head m c t)
    rw [e0, e1] at this
    rw [show (t.val + 1) / 40 = t.val / 40 by omega, show (t.val + 1) % 40 = t.val % 40 + 1 by omega]
    exact this

/-- The proof data of the call: the arrays as launched; after the body each input's buffer as fetched. -/
def datsV (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => W3 m c t
    | ⟨4, _⟩ => W4 m c t
  Φ t := Held m c t.val
  q := Pipeline.shareOf spec0
  owed _ := 0

/-- The arrays of the proof data are the launched ones. -/
theorem A_eqV (c : Dev nD) (w : Fin cfg0.W) : (datsV m 0 c).A w = V m c (Pipeline.arrRef spec0 w) := by
  dsimp only [datsV]

theorem after0_0V (c : Dev nD) (t : Fin cfg0.N) : (datsV m 0 c).after 0 t = iblk m c 0 t := by dsimp only [datsV]
theorem after0_1V (c : Dev nD) (t : Fin cfg0.N) : (datsV m 0 c).after 1 t = iblk m c 1 t := by dsimp only [datsV]
theorem after0_2V (c : Dev nD) (t : Fin cfg0.N) : (datsV m 0 c).after 2 t = iblk m c 2 t := by dsimp only [datsV]
theorem after0_3V (c : Dev nD) (t : Fin cfg0.N) : (datsV m 0 c).after 3 t = W3 m c t := by dsimp only [datsV]
theorem after0_4V (c : Dev nD) (t : Fin cfg0.N) : (datsV m 0 c).after 4 t = W4 m c t := by dsimp only [datsV]

theorem before0_0V (c : Dev nD) (t : Fin cfg0.N) (d) : (datsV m 0 c).before 0 t d = iblk m c 0 t :=
  before0_0_of m (datsV m 0 c) (A_eqV m c 0) (after0_0V m c) t d
theorem before0_1V (c : Dev nD) (t : Fin cfg0.N) (d) : (datsV m 0 c).before 1 t d = iblk m c 1 t :=
  before0_1_of m (datsV m 0 c) (A_eqV m c 1) (after0_1V m c) t d
theorem before0_2V (c : Dev nD) (t : Fin cfg0.N) (d) : (datsV m 0 c).before 2 t d = iblk m c 2 t :=
  before0_2_of m (datsV m 0 c) (A_eqV m c 2) (after0_2V m c) t d

/-- Before a group's last head nothing is stored in the outputs. -/
theorem idle_at (t : Fin cfg0.N) (ht : ¬ t.val % 40 = 39) : cfg0.idle 3 (cfg0.grid.coords t) = true ∧ cfg0.idle 4 (cfg0.grid.coords t) = true := by
  have h : ¬ k0_cond3 (grid0.coords t) = 1#1 := by rw [c3_iff, (coords t).2]; exact ht
  have e : (!(k0_cond3 (grid0.coords t) == 1#1)) = true := by simp [h]
  exact ⟨e, e⟩

/-- At a group's last head the outputs are stored. -/
theorem live_at (t : Fin cfg0.N) (ht : t.val % 40 = 39) : cfg0.idle 3 (cfg0.grid.coords t) = false ∧ cfg0.idle 4 (cfg0.grid.coords t) = false := by
  have h : k0_cond3 (grid0.coords t) = 1#1 := by rw [c3_iff, (coords t).2]; exact ht
  have e : (!(k0_cond3 (grid0.coords t) == 1#1)) = false := by simp [h]
  exact ⟨e, e⟩

/-- Before a group's last head nothing is written back. -/
theorem flush_at : ∀ t : Fin cfg0.N, ¬ t.val % 40 = 39 → (cfg0.win 3).flush t = false ∧ (cfg0.win 4).flush t = false :=
  (by decide +kernel : ∀ t : Fin grid0.N, ¬ t.val % 40 = 39 → win0_3.flush t = false ∧ win0_4.flush t = false)

/-- What is handed back of a window that the step stores. -/
theorem leaves_live (c : Dev nD) (w : Fin cfg0.W) (t : Fin cfg0.N) (hi : cfg0.idle w (cfg0.grid.coords t) = false) (hl : cfg0.loose w = false) :
    (datsV m 0 c).leaves w t = owns (c : Thread nD τ) ((cfg0.win w).stage (cfg0.slots t w)) fullShare ((datsV m 0 c).after w t) := by
  unfold Dat.leaves; rw [hi, hl]

section Leave

variable (c : Dev nD) (t : Fin cfg0.N) (h : Vec Ideal S40x920x128 .f32) (mx : Vec Ideal S920x128 .f32)
  (hI : Inv (out m c) (t.val / 40) (t.val % 40) h mx)

/-- The head outputs after the step, from the blocks fetched. -/
abbrev hidT : Vec Ideal S40x920x128 .f32 := HID (F := Ideal) (grid0.coords t) (iblk m c 0 t) (iblk m c 1 t) (iblk m c 2 t) h
/-- The maxima after the step, from the blocks fetched. -/
abbrev mmT : Vec Ideal S920x128 .f32 := MM (F := Ideal) (grid0.coords t) (iblk m c 0 t) (iblk m c 1 t) (iblk m c 2 t) mx

include hI

/-- The code stored at an index is the reference's. -/
theorem at3 (ht : t.val % 40 = 39) (y3) (y : S920x5120.Idx) (j : Cert.RefSpatialIdeal.S5520x5120.Idx) (h0 : (j 0 : ℕ) = t.val / 40 * 920 + y 0) (h1 : (j 1 : ℕ) = y 1) :
    Y3 (F := Ideal) (grid0.coords t) (hidT m c t h) (mmT m c t mx) y3 y = Cert.RefSpatialIdeal.Arrays.G3 (m ((c : Thread nD τ).loc main_arg0)) j := by
  obtain ⟨e0, e1⟩ := coords t
  have hI' : Inv (out m c) (grid0.coords t 0).val (grid0.coords t 1).val h mx := by rw [e0, e1]; exact hI
  have hj : j = ix2 (j 0 : Fin 5520) (j 1 : Fin 5120) := by blk_ext
  have hy : y = ix2 (y 0 : Fin 920) (y 1 : Fin 5120) := by blk_ext
  rw [hj, hy]
  refine (y3_at (out m c) (grid0.coords t) _ _ _ h mx hI' (head m c t) (by rw [e1]; exact ht) y3 (y 0) (y 1)).trans (Eq.trans ?_ (Cert.RefSpatialIdeal.Arrays.code_at _ (j 0) (j 1)).symm)
  rw [e0, h0, h1]
  rfl

/-- The scale stored at an index is the reference's. -/
theorem at4 (ht : t.val % 40 = 39) (y4) (y : S920x1.Idx) (j : Cert.RefSpatialIdeal.S5520x1.Idx) (h0 : (j 0 : ℕ) = t.val / 40 * 920 + y 0) :
    Y4 (F := Ideal) (grid0.coords t) (mmT m c t mx) y4 y = Cert.RefSpatialIdeal.Arrays.G4 (m ((c : Thread nD τ).loc main_arg0)) j := by
  obtain ⟨e0, e1⟩ := coords t
  have hI' : Inv (out m c) (grid0.coords t 0).val (grid0.coords t 1).val h mx := by rw [e0, e1]; exact hI
  have hj : j = ix2 (j 0 : Fin 5520) (0 : Fin 1) := by blk_ext
  have hy : y = ix2 (y 0 : Fin 920) (0 : Fin 1) := by blk_ext
  rw [hj, hy]
  refine (y4_at (out m c) (grid0.coords t) _ _ _ h mx hI' (head m c t) (by rw [e1]; exact ht) y4 (y 0) 0).trans (Eq.trans ?_ (Cert.RefSpatialIdeal.Arrays.scale_at _ (j 0) 0).symm)
  rw [e0, h0]
  rfl

/-- What the body leaves in the codes' buffer is what is to be handed back. -/
theorem leave3 (d) : owns (c : Thread nD τ) (st0_3 t) fullShare (Y3 (F := Ideal) (grid0.coords t) (hidT m c t h) (mmT m c t mx) ((datsV m 0 c).before 3 t d)) ⊢ ((datsV m 0 c).leaves 3 t : sProp 𝕄) := by
  obtain ⟨e0, e1⟩ := coords t
  by_cases ht : t.val % 40 = 39
  · have hw : Y3 (F := Ideal) (grid0.coords t) (hidT m c t h) (mmT m c t mx) ((datsV m 0 c).before 3 t d) = W3 m c t := by
      funext y
      unfold W3
      refine at3 m c t h mx hI ht _ y _ ?_ ?_
      all_goals blk_simp [idxo t]
    rw [leaves_live m c 3 t (live_at t ht).1 rfl, after0_3V, hw]
  · rw [(datsV m 0 c).leaves_idle 3 t (idle_at t ht).1 (flush_at t ht).1]
    iintro H
    iexists d
    rw [show Y3 (F := Ideal) (grid0.coords t) (hidT m c t h) (mmT m c t mx) ((datsV m 0 c).before 3 t d) = (datsV m 0 c).before 3 t d from if_neg (by rw [e1]; exact ht)]
    iexact H

/-- What the body leaves in the scales' buffer is what is to be handed back. -/
theorem leave4 (d) : owns (c : Thread nD τ) (st0_4 t) fullShare (Y4 (F := Ideal) (grid0.coords t) (mmT m c t mx) ((datsV m 0 c).before 4 t d)) ⊢ ((datsV m 0 c).leaves 4 t : sProp 𝕄) := by
  obtain ⟨e0, e1⟩ := coords t
  by_cases ht : t.val % 40 = 39
  · have hw : Y4 (F := Ideal) (grid0.coords t) (mmT m c t mx) ((datsV m 0 c).before 4 t d) = W4 m c t := by
      funext y
      unfold W4
      refine at4 m c t h mx hI ht _ y _ ?_
      all_goals blk_simp [idxo t]
    rw [leaves_live m c 4 t (live_at t ht).2 rfl, after0_4V, hw]
  · rw [(datsV m 0 c).leaves_idle 4 t (idle_at t ht).2 (flush_at t ht).2]
    iintro H
    iexists d
    rw [show Y4 (F := Ideal) (grid0.coords t) (mmT m c t mx) ((datsV m 0 c).before 4 t d) = (datsV m 0 c).before 4 t d from if_neg (by rw [e1]; exact ht)]
    iexact H

end Leave

set_option maxHeartbeats 1000000 in
/-- The body at any point, with what it leaves in the outputs and in the scratch buffers. -/
theorem sound_body (c : Dev nD) (t : Fin cfg0.N) :
    iprop((datsV m 0 c).Φ t.castSucc ∗ (datsV m 0 c).owesAt () t.castSucc
    ∗ (∃ d, owns (c : Thread nD τ) (st0_0 t) fullShare ((datsV m 0 c).before 0 t d))
    ∗ (∃ d, owns (c : Thread nD τ) (st0_1 t) fullShare ((datsV m 0 c).before 1 t d))
    ∗ (∃ d, owns (c : Thread nD τ) (st0_2 t) fullShare ((datsV m 0 c).before 2 t d))
    ∗ (∃ d, owns (c : Thread nD τ) (st0_3 t) fullShare ((datsV m 0 c).before 3 t d))
    ∗ (∃ d, owns (c : Thread nD τ) (st0_4 t) fullShare ((datsV m 0 c).before 4 t d)))
    ⊢ wp frame (wpE (defs₀ (F := Ideal)) Variants.none c none) Set.univ (bodyAt0 t) (fun _ =>
    iprop((datsV m 0 c).Φ t.succ ∗ (datsV m 0 c).owesAt () t.succ
    ∗ owns (c : Thread nD τ) (st0_0 t) fullShare ((datsV m 0 c).after 0 t)
    ∗ owns (c : Thread nD τ) (st0_1 t) fullShare ((datsV m 0 c).after 1 t)
    ∗ owns (c : Thread nD τ) (st0_2 t) fullShare ((datsV m 0 c).after 2 t)
    ∗ (datsV m 0 c).leaves 3 t
    ∗ (datsV m 0 c).leaves 4 t)) := by
  unfold bodyAt0
  simp only [before0_0V, before0_1V, before0_2V]
  rw [show (datsV m 0 c).Φ t.succ = Held m c (t.val + 1) from rfl, show (datsV m 0 c).Φ t.castSucc = Held m c t.val from rfl,
    show (datsV m 0 c).owesAt () t.succ = (datsV m 0 c).owesAt () t.castSucc from rfl,
    after0_0V, after0_1V, after0_2V]
  unfold Held
  iintro ⟨⟨%h0, %m0, %hI, H5, H6, Hr⟩, Ho, ⟨%d0, H0⟩, ⟨%d1, H1⟩, ⟨%d2, H2⟩, ⟨%d3, H3⟩, ⟨%d4, H4⟩⟩
  iapply (sound_kernel c Set.univ (grid0.coords t) _ _ _ _ _ _ _ _ _ _ _ _ _ _ (iblk m c 0 t) (iblk m c 1 t) (iblk m c 2 t) ((datsV m 0 c).before 3 t d3) ((datsV m 0 c).before 4 t d4) h0 m0 _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [H5 H6 Hr]
  · iexists _; iexists _
    isplitr
    swap
    · isplitl [H5]; · iexact H5
      isplitl [H6]; · iexact H6
      iexact Hr
    ipureintro
    exact inv_step m c t h0 m0 hI
  isplitl [Ho]; · iexact Ho
  isplitl [H0]; · iexact H0
  isplitl [H1]; · iexact H1
  isplitl [H2]; · iexact H2
  isplitl [H3]; · iapply (leave3 m c t h0 m0 hI d3); iexact H3
  iapply (leave4 m c t h0 m0 hI d4); iexact H4

/-- The body obligation. -/
theorem obligation (c : Dev nD) : BodyObligationLoose (datsV m 0 c) (defs₀ (F := Ideal)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run: every array ends as the proof data say. -/
theorem run_main (ρ : Dev nD → PrngReg) : θ_run (defs (F := Ideal)) (onTc (τ := τ) (main (F := Ideal))) (s₀ m ρ)
    (fun r => Pipeline.FramePost cfgs (datsV m) 0 (V m) r ∧ r.2.sem = fun _ => 0) :=
  Pipeline.θ_run_frame_track_shared (Q' := _) cfgs (datsV m) (0 : Fin 1) launch₀0 defs₀ Variants.none m ρ main
    (hbody := obligation m) (hq := fun _ _ _ => rfl)
    (howed := fun _ _ => rfl) (V := V m) (hmain := hmain m Variants.none) (hA := A_eqV m) (hin := held_in m) (hout := fun c => held_out m c _)

/-- The codes after the run are the reference's. -/
theorem final3 (c : Dev nD) : (datsV m 0 c).arrAt 3 (cfgs 0).N = Cert.RefSpatialIdeal.Arrays.G3 (m ((c : Thread nD τ).loc main_arg0)) := by
  refine (datsV m 0 c).arrAt_eq_of_covers 3 _ (by decide +kernel) fun t _ y => ?_
  rw [after0_3V, cast_eq]
  rfl

/-- The scales after the run are the reference's. -/
theorem final4 (c : Dev nD) : (datsV m 0 c).arrAt 4 (cfgs 0).N = Cert.RefSpatialIdeal.Arrays.G4 (m ((c : Thread nD τ).loc main_arg0)) := by
  refine (datsV m 0 c).arrAt_eq_of_covers 4 _ (by decide +kernel) fun t _ y => ?_
  rw [after0_4V, cast_eq]
  rfl

/-- The run's result arrays are the reference's. -/
theorem results (r : PUnit × MemSt nD τ sig (Elt Ideal)) (h : Pipeline.FramePost cfgs (datsV m) 0 (V m) r) (c : Dev nD) :
    r.2.mem ((c : Thread nD τ).loc main_v0_0) = Cert.RefSpatialIdeal.Arrays.G3 (m ((c : Thread nD τ).loc main_arg0))
    ∧ r.2.mem ((c : Thread nD τ).loc main_v0_1) = Cert.RefSpatialIdeal.Arrays.G4 (m ((c : Thread nD τ).loc main_arg0)) :=
  ⟨((h c).1 3).trans (final3 m c), ((h c).1 4).trans (final4 m c)⟩

/-- The kernel and its reference compute the same arrays. -/
theorem algebraic : Cert.algebraic_SpatialIdeal_RefSpatialIdeal := by
  intro m g m' g' hpre hagree
  refine ⟨fun c => Cert.RefSpatialIdeal.Arrays.G3 (m ((c : Thread nD τ).loc main_arg0)), fun c => Cert.RefSpatialIdeal.Arrays.G4 (m ((c : Thread nD τ).loc main_arg0)), ?_, ?_⟩
  · refine (θ_run _ _ _).mono (fun r h c => ?_) (run_main m g)
    have k : ∀ w : Fin cfg0.W, (cfg0.win w).isOut = false → r.2.mem (((cfgs 0).spec w).arr.view.loc (c.tc : Thread nD τ)) = V m c (Pipeline.arrRef spec0 w) :=
      fun w hw => ((h.1 c).1 w).trans (((datsV m 0 c).arrAt_in w hw _).trans (A_eqV m c w))
    obtain ⟨h3, h4⟩ := results m r h.1 c
    exact ⟨h3, h4, k 0 rfl⟩
  · refine (θ_run _ _ _).mono (fun r h c => ?_) (Cert.RefSpatialIdeal.Arrays.run m' g')
    obtain ⟨h3, h4, k0⟩ := h c
    have e0 := hagree c
    rw [e0] at h3 h4
    exact ⟨h3, h4, k0⟩

end Cert.SpatialIdeal.TileValue

end
-- ==== Proof.Fc2Value.lean ====
/- The last product of the feed-forward network: the array the tiled kernel leaves is the reference's array. -/
module

public import proofs.«01_k».proof.Proof.Gen.Fc2Ideal.Frame
public import proofs.«01_k».proof.Proof.Gen.RefFc2Ideal.Value
public import proofs.«01_k».proof.Defs
public import Idealize.ShloMosaic.Lib.Pipeline.ValueKit
public import Idealize.ShloMosaic.Lib.Claim

@[expose] public section

set_option maxRecDepth 16384

noncomputable section

namespace Cert.Fc2Ideal.TileValue

open Cert.Fc2Ideal Cert.Fc2Ideal.Gen Idealize.ShloMosaic Idealize.ShloMosaic.TcCoe Idealize.SL.Sem
open Idealize.ShloMosaic.Pipeline (Dat)

variable (m : (ℓ : Loc nD τ sig) → Buf (Elt Ideal) ℓ)

/-- The windows' block indices at every grid point: row tile `t / 20`, column tile `t % 20`. -/
theorem idx : ∀ t : Fin cfg0.N, win0_0.index t = ![t.val / 20, 0] ∧ win0_1.index t = ![t.val / 20, 0]
    ∧ win0_2.index t = ![0, t.val % 20] ∧ win0_3.index t = ![0, t.val % 20] ∧ win0_4.index t = ![0, t.val % 20]
    ∧ win0_5.index t = ![t.val / 20, t.val % 20] ∧ win0_6.index t = ![t.val / 20, t.val % 20] :=
  (by decide +kernel : ∀ t : Fin grid0.N, _)

/-- What a grid point stores at an index of its block is the reference's element at the array index it sits at. -/
theorem point (c : Dev nD) (t : Fin cfg0.N) (y : S920x256.Idx) :
    k0_pay1 (F := Ideal) (iblk m c 0 t) (iblk m c 2 t) (iblk m c 1 t) (iblk m c 3 t) (iblk m c 5 t) (iblk m c 4 t) y
      = Cert.RefFc2Ideal.Gen.k0_pay1 (F := Ideal) (m ((c : Thread nD τ).loc main_arg5)) (m ((c : Thread nD τ).loc main_arg0))
          (m ((c : Thread nD τ).loc main_arg1)) (m ((c : Thread nD τ).loc main_arg2)) (m ((c : Thread nD τ).loc main_arg3))
          (m ((c : Thread nD τ).loc main_arg4)) (((cfg0.win 6).blk t).view.emb y) := by
  pointwise [k0_pay1, Cert.RefFc2Ideal.Gen.k0_pay1]
  blk_point [iblk, V, idx t]

/-- The kernel's array after the run is the reference's term of the same arguments. -/
theorem final (c : Dev nD) : (dats m 0 c).arrAt 6 (cfgs 0).N
    = Cert.RefFc2Ideal.Value.G6 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m 0 c).arrAt_eq_of_covers 6 _ (by decide +kernel) fun t _ y => ?_
  blk_simp
  rw [after0_6]; frame_out
  exact point m c t y

/-- The kernel and its reference compute the same array. -/
theorem algebraic : Cert.algebraic_Fc2Ideal_RefFc2Ideal := by
  pair_intro
  · run_from Cert.Fc2Ideal.Gen.run_main m g
  · run_from Cert.RefFc2Ideal.Value.run m' g'
    exact (final m c).symm

end Cert.Fc2Ideal.TileValue

end
-- ==== Proof.QkvSValue.lean ====
/- The spatial query, key and value projection: the array the tiled kernel leaves is the reference's array. -/
module

public import proofs.«01_k».proof.Proof.Gen.QkvSIdeal.Frame
public import proofs.«01_k».proof.Proof.Gen.RefQkvSIdeal.Run
public import proofs.«01_k».proof.Defs
public import Idealize.ShloMosaic.Lib.Pipeline.ValueKit
public import Idealize.ShloMosaic.Lib.Claim

@[expose] public section

set_option maxRecDepth 16384

noncomputable section

namespace Cert.RefQkvSIdeal.TileValue

open Cert.RefQkvSIdeal Cert.RefQkvSIdeal.Gen Idealize.ShloMosaic Idealize.ShloMosaic.TcCoe Idealize.SL.Sem
open Idealize.ShloMosaic.Pipeline (Dat)

variable (m : (ℓ : Loc nD τ sig) → Buf (Elt Ideal) ℓ)

/-- The reference's windows stand at the origin. -/
theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

/-- What the reference's region leaves: its one payload over the argument arrays. -/
theorem reg (c : Dev nD) : Value.reg_main_v0 m c
    = k0_pay1 (F := Ideal) (m ((c : Thread nD τ).loc main_arg0)) (m ((c : Thread nD τ).loc main_arg1))
        (m ((c : Thread nD τ).loc main_arg2)) (m ((c : Thread nD τ).loc main_arg3)) := by
  unfold Value.reg_main_v0
  refine (dats m 0 c).arrAt_eq_of_after_last 4 t0_0 (by decide +kernel) _ fun j => ?_
  blk_simp
  rw [after0_4]; frame_out
  blk_point [iblk, V, idx t0_0]

end Cert.RefQkvSIdeal.TileValue

namespace Cert.QkvSIdeal.TileValue

open Cert.QkvSIdeal Cert.QkvSIdeal.Gen Idealize.ShloMosaic Idealize.ShloMosaic.TcCoe Idealize.SL.Sem
open Idealize.ShloMosaic.Pipeline (Dat)

variable (m : (ℓ : Loc nD τ sig) → Buf (Elt Ideal) ℓ)

/-- The reference's result over its arguments: the product, its two scales, and the heads' layout. -/
abbrev REF (A : Vec Ideal S5520x5120 .fp8e4m3) (s : Vec Ideal S5520x1 .f32) (W : Vec Ideal S5120x15360 .fp8e4m3)
    (w : Vec Ideal S1x15360 .f32) : FVec Ideal S120x6x920x128 .bf16 :=
  transpose S120x6x920x128 [2, 0, 1, 3]
    (shapeCast _ (Cert.RefQkvSIdeal.Gen.k0_pay1 (F := Ideal) A s W w) Cert.RefQkvSIdeal.Gen.shapeCasts_S5520x15360_S6x920x120x128)
    Cert.RefQkvSIdeal.Gen.transposes_S6x920x120x128_S120x6x920x128_2_0_1_3

/-- The windows' block indices at every grid point: column tile `t / 6`, row tile `t % 6`. -/
theorem idx : ∀ t : Fin cfg0.N, win0_0.index t = ![t.val % 6, 0] ∧ win0_1.index t = ![t.val % 6, 0]
    ∧ win0_2.index t = ![0, t.val / 6] ∧ win0_3.index t = ![0, t.val / 6] ∧ win0_4.index t = ![t.val / 6, t.val % 6, 0, 0] :=
  (by decide +kernel : ∀ t : Fin grid0.N, _)

/-- The tile's product at an index of the tile is the reference's element at the array index it sits at. -/
theorem core (c : Dev nD) (t : Fin cfg0.N) (y : S8x1x920x128.Idx) (i : S920x1024.Idx) (j : S120x6x920x128.Idx)
    (hi0 : (i 0 : ℕ) = y 2) (hi1 : (i 1 : ℕ) = (y 0 : ℕ) * 128 + y 3)
    (hj0 : (j 0 : ℕ) = t.val / 6 * 8 + y 0) (hj1 : (j 1 : ℕ) = t.val % 6) (hj2 : (j 2 : ℕ) = y 2) (hj3 : (j 3 : ℕ) = y 3) :
    k0_pay5 (F := Ideal) (iblk m c 0 t) (iblk m c 2 t) (iblk m c 1 t) (iblk m c 3 t) i
      = REF (m ((c : Thread nD τ).loc main_arg0)) (m ((c : Thread nD τ).loc main_arg1)) (m ((c : Thread nD τ).loc main_arg2))
          (m ((c : Thread nD τ).loc main_arg3)) j := by
  pointwise [k0_pay5, REF, Cert.RefQkvSIdeal.Gen.k0_pay1]
  blk_point [iblk, V, idx t]

/-- What a grid point leaves at an index of its block is the reference's element at the array index it sits at. -/
theorem point (c : Dev nD) (t : Fin cfg0.N) (y : S8x1x920x128.Idx) :
    out0_4 (F := Ideal) (iblk m c 0 t) (iblk m c 1 t) (iblk m c 2 t) (iblk m c 3 t) y
      = REF (m ((c : Thread nD τ).loc main_arg0)) (m ((c : Thread nD τ).loc main_arg1)) (m ((c : Thread nD τ).loc main_arg2))
          (m ((c : Thread nD τ).loc main_arg3)) (((cfg0.win 4).blk t).view.emb y) := by
  obtain_idx i : S920x1024 := [(y 2 : ℕ), (y 0 : ℕ) * 128 + (y 3 : ℕ)] with hi
  refine Eq.trans (b := k0_pay5 (F := Ideal) (iblk m c 0 t) (iblk m c 2 t) (iblk m c 1 t) (iblk m c 3 t) i) ?_
    (core m c t y i _ hi0 hi1 ?_ ?_ ?_ ?_)
  · unfold out0_4
    canon_tiles x h
    all_goals (open_payloads; pointwise; blk_ext)
  all_goals (blk_simp [idx t] <;> try omega)

/-- The kernel's array after the run is the reference's term of the same arguments. -/
theorem final (c : Dev nD) : (dats m 0 c).arrAt 4 (cfgs 0).N
    = REF (m ((c : Thread nD τ).loc main_arg0)) (m ((c : Thread nD τ).loc main_arg1)) (m ((c : Thread nD τ).loc main_arg2))
          (m ((c : Thread nD τ).loc main_arg3)) := by
  refine (dats m 0 c).arrAt_eq_of_covers 4 _ (by decide +kernel) fun t _ y => ?_
  blk_simp
  rw [after0_4]
  exact point m c t y

/-- The kernel and its reference compute the same array. -/
theorem algebraic : Cert.algebraic_QkvSIdeal_RefQkvSIdeal := by
  pair_intro
  · run_from Cert.QkvSIdeal.Gen.run_main m g
  · run_from Cert.RefQkvSIdeal.Value.run m' g'
    obtain ⟨e0, e1, e2, e3⟩ := hagree c
    rw [Cert.RefQkvSIdeal.TileValue.reg, e0, e1, e2, e3]
    exact (final m c).symm

end Cert.QkvSIdeal.TileValue

end
-- ==== Proof.QkvTQValue.lean ====
/- The temporal query projection: the array the tiled kernel leaves is the reference's array. -/
module

public import proofs.«01_k».proof.Proof.Gen.QkvTQIdeal.Frame
public import proofs.«01_k».proof.Proof.Gen.RefQkvTQIdeal.Run
public import proofs.«01_k».proof.Defs
public import Idealize.ShloMosaic.Lib.Pipeline.ValueKit
public import Idealize.ShloMosaic.Lib.Claim

@[expose] public section

set_option maxRecDepth 16384

noncomputable section

namespace Cert.RefQkvTQIdeal.TileValue

open Cert.RefQkvTQIdeal Cert.RefQkvTQIdeal.Gen Idealize.ShloMosaic Idealize.ShloMosaic.TcCoe Idealize.SL.Sem
open Idealize.ShloMosaic.Pipeline (Dat)

variable (m : (ℓ : Loc nD τ sig) → Buf (Elt Ideal) ℓ)

/-- The reference's windows stand at the origin. -/
theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

/-- What the reference's region leaves: its one payload over the argument arrays. -/
theorem reg (c : Dev nD) : Value.reg_main_v0 m c
    = k0_pay1 (F := Ideal) (m ((c : Thread nD τ).loc main_arg0)) (m ((c : Thread nD τ).loc main_arg1))
        (m ((c : Thread nD τ).loc main_arg2)) (m ((c : Thread nD τ).loc main_arg3)) := by
  unfold Value.reg_main_v0
  refine (dats m 0 c).arrAt_eq_of_after_last 4 t0_0 (by decide +kernel) _ fun j => ?_
  blk_simp
  rw [after0_4]; frame_out
  blk_point [iblk, V, idx t0_0]

end Cert.RefQkvTQIdeal.TileValue

namespace Cert.QkvTQIdeal.TileValue

open Cert.QkvTQIdeal Cert.QkvTQIdeal.Gen Idealize.ShloMosaic Idealize.ShloMosaic.TcCoe Idealize.SL.Sem
open Idealize.ShloMosaic.Pipeline (Dat)

variable (m : (ℓ : Loc nD τ sig) → Buf (Elt Ideal) ℓ)

/-- The reference's result over its arguments: the product, its two scales, and the heads' layout. -/
abbrev REF (A : Vec Ideal S5520x5120 .fp8e4m3) (s : Vec Ideal S5520x1 .f32) (W : Vec Ideal S5120x15360 .fp8e4m3)
    (w : Vec Ideal S1x15360 .f32) : FVec Ideal S40x6x920x128 .bf16 :=
  transpose S40x6x920x128 [2, 0, 1, 3]
    (shapeCast _ (Cert.RefQkvTQIdeal.Gen.k0_pay1 (F := Ideal) A s W w) Cert.RefQkvTQIdeal.Gen.shapeCasts_S5520x5120_S6x920x40x128)
    Cert.RefQkvTQIdeal.Gen.transposes_S6x920x40x128_S40x6x920x128_2_0_1_3

/-- The windows' block indices at every grid point: column tile `t / 6`, row tile `t % 6`. -/
theorem idx : ∀ t : Fin cfg0.N, win0_0.index t = ![t.val % 6, 0] ∧ win0_1.index t = ![t.val % 6, 0]
    ∧ win0_2.index t = ![0, t.val / 6] ∧ win0_3.index t = ![0, t.val / 6] ∧ win0_4.index t = ![t.val / 6, t.val % 6, 0, 0] :=
  (by decide +kernel : ∀ t : Fin grid0.N, _)

/-- The tile's product at an index of the tile is the reference's element at the array index it sits at. -/
theorem core (c : Dev nD) (t : Fin cfg0.N) (y : S8x1x920x128.Idx) (i : S920x1024.Idx) (j : S40x6x920x128.Idx)
    (hi0 : (i 0 : ℕ) = y 2) (hi1 : (i 1 : ℕ) = (y 0 : ℕ) * 128 + y 3)
    (hj0 : (j 0 : ℕ) = t.val / 6 * 8 + y 0) (hj1 : (j 1 : ℕ) = t.val % 6) (hj2 : (j 2 : ℕ) = y 2) (hj3 : (j 3 : ℕ) = y 3) :
    k0_pay5 (F := Ideal) (iblk m c 0 t) (iblk m c 2 t) (iblk m c 1 t) (iblk m c 3 t) i
      = REF (m ((c : Thread nD τ).loc main_arg0)) (m ((c : Thread nD τ).loc main_arg1)) (m ((c : Thread nD τ).loc main_arg2))
          (m ((c : Thread nD τ).loc main_arg3)) j := by
  pointwise [k0_pay5, REF, Cert.RefQkvTQIdeal.Gen.k0_pay1]
  blk_point [iblk, V, idx t]

/-- What a grid point leaves at an index of its block is the reference's element at the array index it sits at. -/
theorem point (c : Dev nD) (t : Fin cfg0.N) (y : S8x1x920x128.Idx) :
    out0_4 (F := Ideal) (iblk m c 0 t) (iblk m c 1 t) (iblk m c 2 t) (iblk m c 3 t) y
      = REF (m ((c : Thread nD τ).loc main_arg0)) (m ((c : Thread nD τ).loc main_arg1)) (m ((c : Thread nD τ).loc main_arg2))
          (m ((c : Thread nD τ).loc main_arg3)) (((cfg0.win 4).blk t).view.emb y) := by
  obtain_idx i : S920x1024 := [(y 2 : ℕ), (y 0 : ℕ) * 128 + (y 3 : ℕ)] with hi
  refine Eq.trans (b := k0_pay5 (F := Ideal) (iblk m c 0 t) (iblk m c 2 t) (iblk m c 1 t) (iblk m c 3 t) i) ?_
    (core m c t y i _ hi0 hi1 ?_ ?_ ?_ ?_)
  · unfold out0_4
    canon_tiles x h
    all_goals (open_payloads; pointwise; blk_ext)
  all_goals (blk_simp [idx t] <;> try omega)

/-- The kernel's array after the run is the reference's term of the same arguments. -/
theorem final (c : Dev nD) : (dats m 0 c).arrAt 4 (cfgs 0).N
    = REF (m ((c : Thread nD τ).loc main_arg0)) (m ((c : Thread nD τ).loc main_arg1)) (m ((c : Thread nD τ).loc main_arg2))
          (m ((c : Thread nD τ).loc main_arg3)) := by
  refine (dats m 0 c).arrAt_eq_of_covers 4 _ (by decide +kernel) fun t _ y => ?_
  blk_simp
  rw [after0_4]
  exact point m c t y

/-- The kernel and its reference compute the same array. -/
theorem algebraic : Cert.algebraic_QkvTQIdeal_RefQkvTQIdeal := by
  pair_intro
  · run_from Cert.QkvTQIdeal.Gen.run_main m g
  · run_from Cert.RefQkvTQIdeal.Value.run m' g'
    obtain ⟨e0, e1, e2, e3⟩ := hagree c
    rw [Cert.RefQkvTQIdeal.TileValue.reg, e0, e1, e2, e3]
    exact (final m c).symm

end Cert.QkvTQIdeal.TileValue

end
-- ==== Proof.QkvTKvRows.lean ====
/- The temporal key and value projection with its 8-bit quantiser, at an index: the tile's terms and the reference's terms as row functions. -/
module

public import proofs.«01_k».proof.Proof.Gen.QkvTKvIdeal.Frame
public import proofs.«01_k».proof.Proof.Gen.RefQkvTKvIdeal.Run
public import proofs.«01_k».proof.Proof.Rows

@[expose] public section

set_option maxRecDepth 16384

noncomputable section

namespace Cert.Rows

/-- The columns of head `h` in a row of heads of width 128. -/
def headCol {n : ℕ} (h : ℕ) (hn : (h + 1) * 128 ≤ n) (l : Fin 128) : Fin n := ⟨h * 128 + l, by omega⟩

end Cert.Rows

namespace Cert.QkvTKvIdeal.RowValue

open Cert Cert.QkvTKvIdeal Cert.QkvTKvIdeal.Gen Idealize.ShloMosaic Idealize.ShloMosaic.TcCoe Idealize.SL.Sem

/-- A head's largest magnitudes, as the program computes them. -/
def kAmax (v : FVec Ideal S920x128 .f32) : FVec Ideal S920x1 .f32 :=
  shapeCast S920x1 (multiReduction .maximumf [1] S920 (absf v) 0xFF800000#32 reduces_S920x128_S920 (.inl rfl) rfl) shapeCasts_S920_S920x1

/-- A head's scales from its largest magnitudes, as the program computes them. -/
def kScaleOf (a : FVec Ideal S920x1 .f32) : FVec Ideal S920x1 .f32 :=
  select (cmpf .oeq a (broadcast S920x1 (Scalar.ofBits (F := Ideal) .f32 0x00000000#32))) (broadcast S920x1 (Scalar.ofBits (F := Ideal) .f32 0x3F800000#32))
    (divf a (broadcast S920x1 (Scalar.ofBits (F := Ideal) .f32 0x42FE0000#32)))

/-- A head's scales, as the program computes them. -/
def kScale (v : FVec Ideal S920x128 .f32) : FVec Ideal S920x1 .f32 := kScaleOf (kAmax v)

/-- A head's 8-bit values, as the program computes them. -/
def kQ (v : FVec Ideal S920x128 .f32) (s : FVec Ideal S920x1 .f32) : IVec S920x128 8 :=
  fptosi 8 (minimumf (broadcast S920x128 (Scalar.ofBits (F := Ideal) .f32 0x42FE0000#32)) (maximumf (broadcast S920x128 (Scalar.ofBits (F := Ideal) .f32 0xC2FE0000#32))
    (roundeven (divf v (broadcastTo S920x128 s broadcasts_S920x1_S920x128)))))

/-- One lane of the scales' array set to a head's scales, the other lanes kept. -/
def kLane (J : BitVec 32) (s : FVec Ideal S920x1 .f32) (base : FVec Ideal S920x128 .f32) : FVec Ideal S920x128 .f32 :=
  select (cmpi .eq (iota .tc S920x128 32 [1] iota_S920x128_d1_w32) (broadcast S920x128 J)) (broadcastTo S920x128 (shapeCast S920x1 s shapeCasts_S920x1_S920x1) broadcasts_S920x1_S920x128) base

/-- A head's largest magnitudes at an index. -/
theorem kAmax_at (v : FVec Ideal S920x128 .f32) (r : Fin 920) (z : Fin 1) : kAmax v (ix2 r z) = Rows.amax (fun k => v (ix2 r k)) := by
  unfold Rows.amax
  pointwise [kAmax]

/-- A head's scales at an index, from its largest magnitudes. -/
theorem kScaleOf_at (a : FVec Ideal S920x1 .f32) (r : Fin 920) (z : Fin 1) : kScaleOf a (ix2 r z) = Rows.scale 0x42FE0000#32 (a (ix2 r z)) := by
  unfold Rows.scale
  pointwise [kScaleOf]

/-- A head's scales at an index. -/
theorem kScale_at (v : FVec Ideal S920x128 .f32) (r : Fin 920) (z : Fin 1) :
    kScale v (ix2 r z) = Rows.scale 0x42FE0000#32 (Rows.amax (fun k => v (ix2 r k))) := by
  unfold kScale
  rw [kScaleOf_at, kAmax_at]

/-- A head's 8-bit values at an index. -/
theorem kQ_at (v : FVec Ideal S920x128 .f32) (s : FVec Ideal S920x1 .f32) (r : Fin 920) (l : Fin 128) :
    kQ v s (ix2 r l) = Rows.quantI (v (ix2 r l)) (s (ix2 r 0)) := by
  unfold Rows.quantI
  pointwise [kQ]

/-- The scales' array at an index after one lane was set. -/
theorem kLane_at (J : Fin 8) (s : FVec Ideal S920x1 .f32) (base : FVec Ideal S920x128 .f32) (r : Fin 920) (l : Fin 128) :
    kLane (BitVec.ofNat 32 J) s base (ix2 r l) = if (l : ℕ) = J then s (ix2 r 0) else base (ix2 r l) := by
  have e : kLane (BitVec.ofNat 32 J) s base (ix2 r l)
      = Scalar.select (IntOp.cmpi CmpIPredicate.eq (BitVec.ofNat 32 l) (BitVec.ofNat 32 J)) (s (ix2 r 0)) (base (ix2 r l)) := by
    pointwise [kLane]
  rw [e]
  have hc : IntOp.cmpi CmpIPredicate.eq (BitVec.ofNat 32 (l : ℕ)) (BitVec.ofNat 32 (J : ℕ)) = if (l : ℕ) = J then 1#1 else 0#1 :=
    (by decide +kernel : ∀ (l : Fin 128) (J : Fin 8), IntOp.cmpi CmpIPredicate.eq (BitVec.ofNat 32 (l : ℕ)) (BitVec.ofNat 32 (J : ℕ)) = if (l : ℕ) = J then 1#1 else 0#1) l J
  rw [hc]
  split <;> rfl

/-- The scale of head `h` of row `r` of a tile. -/
def tileScale (T : FVec Ideal S920x1024 .f32) (r : Fin 920) (h : Fin 8) : EReal :=
  Rows.scale 0x42FE0000#32 (Rows.amax fun l : Fin 128 => T (ix2 r (⟨h * 128 + l, by omega⟩ : Fin 1024)))

/-- The 8-bit values of a tile. -/
def tileQ (T : FVec Ideal S920x1024 .f32) (r : Fin 920) (q : Fin 1024) : BitVec 8 :=
  Rows.quantI (T (ix2 r q)) (tileScale T r ⟨(q : ℕ) / 128, by omega⟩)

/-- The scales' array of a tile: the eight heads' scales in its first eight lanes, zero in the others. -/
def tileLanes (T : FVec Ideal S920x1024 .f32) (r : Fin 920) (l : Fin 128) : EReal :=
  if h : (l : ℕ) < 8 then tileScale T r ⟨l, h⟩ else 0

/-- A head's 8-bit values are the tile's at the head's columns. -/
theorem piece_at (T : FVec Ideal S920x1024 .f32) (s : FVec Ideal S920x128 .f32) (J : Fin 8)
    (hs : ∀ (r : Fin 920) (l : Fin 128), s (ix2 r l) = T (ix2 r (⟨J * 128 + l, by omega⟩ : Fin 1024)))
    (r r' : Fin 920) (l : Fin 128) (q : Fin 1024) (h1 : (r' : ℕ) = r) (h2 : (q : ℕ) = (J : ℕ) * 128 + l) :
    kQ s (kScale s) (ix2 r l) = tileQ T r' q := by
  rw [kQ_at, kScale_at, hs]
  unfold tileQ tileScale
  obtain rfl : r' = r := Fin.ext h1
  have hb : (J : ℕ) * 128 + l < 1024 := by
    clear h2 q
    omega
  have hq : q = ⟨J * 128 + l, hb⟩ := Fin.ext h2
  subst hq
  have a3 : (⟨((⟨J * 128 + l, hb⟩ : Fin 1024) : ℕ) / 128, by omega⟩ : Fin 8) = J := Fin.ext (by show ((J : ℕ) * 128 + l) / 128 = J; omega)
  rw [a3]
  congr 3
  funext k
  exact hs _ k

/-- A head's piece of the 8-bit values' block is the tile's function there. -/
theorem piece (T : FVec Ideal S920x1024 .f32) (s : FVec Ideal S920x128 .f32) (J : Fin 8)
    (hs : ∀ (r : Fin 920) (l : Fin 128), s (ix2 r l) = T (ix2 r (⟨J * 128 + l, by omega⟩ : Fin 1024)))
    (x : S1x920x128.Idx) (y : S1x920x1024.Idx) (h1 : (y 1 : ℕ) = x 1) (h2 : (y 2 : ℕ) = (J : ℕ) * 128 + x 2) :
    shapeCast S1x920x128 (kQ s (kScale s)) shapeCasts_S920x128_S1x920x128 x = tileQ T (y 1) (y 2) := by
  have e : shapeCast S1x920x128 (kQ s (kScale s)) shapeCasts_S920x128_S1x920x128 x = kQ s (kScale s) (ix2 (x 1 : Fin 920) (x 2 : Fin 128)) := by
    pointwise
    try blk_ext
  exact e.trans (piece_at T s J hs (x 1) (y 1) (x 2) (y 2) h1 h2)

/-- Head 0 of a tile. -/
def head0 (T : FVec Ideal S920x1024 .f32) : FVec Ideal S920x128 .f32 := extractStridedSlice S920x128 ![0, 0] T slices_S920x1024_o0_0_S920x128

/-- Head 0 of a tile at an index. -/
theorem head0_at (T : FVec Ideal S920x1024 .f32) (r : Fin 920) (l : Fin 128) :
    head0 T (ix2 r l) = T (ix2 r (⟨(((0 : Fin 8) : ℕ)) * 128 + l, by have := l.isLt; show 0 * 128 + (l : ℕ) < 1024; omega⟩ : Fin 1024)) := by
  pointwise [head0]
  blk_ext

/-- Head 1 of a tile. -/
def head1 (T : FVec Ideal S920x1024 .f32) : FVec Ideal S920x128 .f32 := extractStridedSlice S920x128 ![0, 128] T slices_S920x1024_o0_128_S920x128

/-- Head 1 of a tile at an index. -/
theorem head1_at (T : FVec Ideal S920x1024 .f32) (r : Fin 920) (l : Fin 128) :
    head1 T (ix2 r l) = T (ix2 r (⟨(((1 : Fin 8) : ℕ)) * 128 + l, by have := l.isLt; show 1 * 128 + (l : ℕ) < 1024; omega⟩ : Fin 1024)) := by
  pointwise [head1]
  blk_ext

/-- Head 2 of a tile. -/
def head2 (T : FVec Ideal S920x1024 .f32) : FVec Ideal S920x128 .f32 := extractStridedSlice S920x128 ![0, 256] T slices_S920x1024_o0_256_S920x128

/-- Head 2 of a tile at an index. -/
theorem head2_at (T : FVec Ideal S920x1024 .f32) (r : Fin 920) (l : Fin 128) :
    head2 T (ix2 r l) = T (ix2 r (⟨(((2 : Fin 8) : ℕ)) * 128 + l, by have := l.isLt; show 2 * 128 + (l : ℕ) < 1024; omega⟩ : Fin 1024)) := by
  pointwise [head2]
  blk_ext

/-- Head 3 of a tile. -/
def head3 (T : FVec Ideal S920x1024 .f32) : FVec Ideal S920x128 .f32 := extractStridedSlice S920x128 ![0, 384] T slices_S920x1024_o0_384_S920x128

/-- Head 3 of a tile at an index. -/
theorem head3_at (T : FVec Ideal S920x1024 .f32) (r : Fin 920) (l : Fin 128) :
    head3 T (ix2 r l) = T (ix2 r (⟨(((3 : Fin 8) : ℕ)) * 128 + l, by have := l.isLt; show 3 * 128 + (l : ℕ) < 1024; omega⟩ : Fin 1024)) := by
  pointwise [head3]
  blk_ext

/-- Head 4 of a tile. -/
def head4 (T : FVec Ideal S920x1024 .f32) : FVec Ideal S920x128 .f32 := extractStridedSlice S920x128 ![0, 512] T slices_S920x1024_o0_512_S920x128

/-- Head 4 of a tile at an index. -/
theorem head4_at (T : FVec Ideal S920x1024 .f32) (r : Fin 920) (l : Fin 128) :
    head4 T (ix2 r l) = T (ix2 r (⟨(((4 : Fin 8) : ℕ)) * 128 + l, by have := l.isLt; show 4 * 128 + (l : ℕ) < 1024; omega⟩ : Fin 1024)) := by
  pointwise [head4]
  blk_ext

/-- Head 5 of a tile. -/
def head5 (T : FVec Ideal S920x1024 .f32) : FVec Ideal S920x128 .f32 := extractStridedSlice S920x128 ![0, 640] T slices_S920x1024_o0_640_S920x128

/-- Head 5 of a tile at an index. -/
theorem head5_at (T : FVec Ideal S920x1024 .f32) (r : Fin 920) (l : Fin 128) :
    head5 T (ix2 r l) = T (ix2 r (⟨(((5 : Fin 8) : ℕ)) * 128 + l, by have := l.isLt; show 5 * 128 + (l : ℕ) < 1024; omega⟩ : Fin 1024)) := by
  pointwise [head5]
  blk_ext

/-- Head 6 of a tile. -/
def head6 (T : FVec Ideal S920x1024 .f32) : FVec Ideal S920x128 .f32 := extractStridedSlice S920x128 ![0, 768] T slices_S920x1024_o0_768_S920x128

/-- Head 6 of a tile at an index. -/
theorem head6_at (T : FVec Ideal S920x1024 .f32) (r : Fin 920) (l : Fin 128) :
    head6 T (ix2 r l) = T (ix2 r (⟨(((6 : Fin 8) : ℕ)) * 128 + l, by have := l.isLt; show 6 * 128 + (l : ℕ) < 1024; omega⟩ : Fin 1024)) := by
  pointwise [head6]
  blk_ext

/-- Head 7 of a tile. -/
def head7 (T : FVec Ideal S920x1024 .f32) : FVec Ideal S920x128 .f32 := extractStridedSlice S920x128 ![0, 896] T slices_S920x1024_o0_896_S920x128

/-- Head 7 of a tile at an index. -/
theorem head7_at (T : FVec Ideal S920x1024 .f32) (r : Fin 920) (l : Fin 128) :
    head7 T (ix2 r l) = T (ix2 r (⟨(((7 : Fin 8) : ℕ)) * 128 + l, by have := l.isLt; show 7 * 128 + (l : ℕ) < 1024; omega⟩ : Fin 1024)) := by
  pointwise [head7]
  blk_ext

/-- The scales' array after the eight heads. -/
def kLanes (T : FVec Ideal S920x1024 .f32) : FVec Ideal S920x128 .f32 :=
  kLane (BitVec.ofNat 32 ((7 : Fin 8) : ℕ)) (kScale (head7 T)) (kLane (BitVec.ofNat 32 ((6 : Fin 8) : ℕ)) (kScale (head6 T)) (kLane (BitVec.ofNat 32 ((5 : Fin 8) : ℕ)) (kScale (head5 T)) (kLane (BitVec.ofNat 32 ((4 : Fin 8) : ℕ)) (kScale (head4 T)) (kLane (BitVec.ofNat 32 ((3 : Fin 8) : ℕ)) (kScale (head3 T)) (kLane (BitVec.ofNat 32 ((2 : Fin 8) : ℕ)) (kScale (head2 T)) (kLane (BitVec.ofNat 32 ((1 : Fin 8) : ℕ)) (kScale (head1 T)) (kLane (BitVec.ofNat 32 ((0 : Fin 8) : ℕ)) (kScale (head0 T)) (broadcast S920x128 (Scalar.ofBits (F := Ideal) .f32 0x00000000#32)))))))))

/-- Head 0's scales. -/
theorem scale0_at (T : FVec Ideal S920x1024 .f32) (r : Fin 920) (z : Fin 1) : kScale (head0 T) (ix2 r z) = tileScale T r 0 := by
  rw [kScale_at]
  unfold tileScale
  congr 2
  funext k
  exact head0_at T r k

/-- Head 1's scales. -/
theorem scale1_at (T : FVec Ideal S920x1024 .f32) (r : Fin 920) (z : Fin 1) : kScale (head1 T) (ix2 r z) = tileScale T r 1 := by
  rw [kScale_at]
  unfold tileScale
  congr 2
  funext k
  exact head1_at T r k

/-- Head 2's scales. -/
theorem scale2_at (T : FVec Ideal S920x1024 .f32) (r : Fin 920) (z : Fin 1) : kScale (head2 T) (ix2 r z) = tileScale T r 2 := by
  rw [kScale_at]
  unfold tileScale
  congr 2
  funext k
  exact head2_at T r k

/-- Head 3's scales. -/
theorem scale3_at (T : FVec Ideal S920x1024 .f32) (r : Fin 920) (z : Fin 1) : kScale (head3 T) (ix2 r z) = tileScale T r 3 := by
  rw [kScale_at]
  unfold tileScale
  congr 2
  funext k
  exact head3_at T r k

/-- Head 4's scales. -/
theorem scale4_at (T : FVec Ideal S920x1024 .f32) (r : Fin 920) (z : Fin 1) : kScale (head4 T) (ix2 r z) = tileScale T r 4 := by
  rw [kScale_at]
  unfold tileScale
  congr 2
  funext k
  exact head4_at T r k

/-- Head 5's scales. -/
theorem scale5_at (T : FVec Ideal S920x1024 .f32) (r : Fin 920) (z : Fin 1) : kScale (head5 T) (ix2 r z) = tileScale T r 5 := by
  rw [kScale_at]
  unfold tileScale
  congr 2
  funext k
  exact head5_at T r k

/-- Head 6's scales. -/
theorem scale6_at (T : FVec Ideal S920x1024 .f32) (r : Fin 920) (z : Fin 1) : kScale (head6 T) (ix2 r z) = tileScale T r 6 := by
  rw [kScale_at]
  unfold tileScale
  congr 2
  funext k
  exact head6_at T r k

/-- Head 7's scales. -/
theorem scale7_at (T : FVec Ideal S920x1024 .f32) (r : Fin 920) (z : Fin 1) : kScale (head7 T) (ix2 r z) = tileScale T r 7 := by
  rw [kScale_at]
  unfold tileScale
  congr 2
  funext k
  exact head7_at T r k

/-- The scales' array at a row and a lane. -/
theorem lanes_at (T : FVec Ideal S920x1024 .f32) (r : Fin 920) (l : Fin 128) : kLanes T (ix2 r l) = tileLanes T r l := by
  unfold kLanes tileLanes
  simp only [kLane_at, scale0_at, scale1_at, scale2_at, scale3_at, scale4_at, scale5_at, scale6_at, scale7_at]
  have hb : (broadcast S920x128 (Scalar.ofBits (F := Ideal) .f32 0x00000000#32) : FVec Ideal S920x128 .f32) (ix2 r l) = (0 : EReal) := by
    pointwise
    try simp
  rw [hb]
  obtain ⟨l, hl⟩ := l
  by_cases h : l < 8
  · interval_cases l <;> rfl
  · rw [dif_neg h]
    iterate 8 rw [if_neg (fun e => h (lt_of_eq_of_lt e (Fin.isLt _)))]

/-- The scales' block at an index. -/
theorem kLanes_at (T : FVec Ideal S920x1024 .f32) (y : S1x1x920x128.Idx) :
    shapeCast S1x1x920x128 (kLanes T) shapeCasts_S920x128_S1x1x920x128 y = tileLanes T (y 2) (y 3) := by
  have e : shapeCast S1x1x920x128 (kLanes T) shapeCasts_S920x128_S1x1x920x128 y = kLanes T (ix2 (y 2 : Fin 920) (y 3 : Fin 128)) := by
    pointwise
    try blk_ext
  exact e.trans (lanes_at T _ _)

/-- The tile the eight heads are cut from. -/
def tile (x0 : Vec Ideal S920x5120 .fp8e4m3) (x1 : Vec Ideal S920x1 .f32) (x2 : Vec Ideal S5120x1024 .fp8e4m3) (x3 : Vec Ideal S1x1024 .f32) : FVec Ideal S920x1024 .f32 :=
  k0_pay4 (F := Ideal) x0 x2 x1 x3

/-- The tile as the body loads its operands. -/
theorem tile_eq (x0 : Vec Ideal S920x5120 .fp8e4m3) (x1 : Vec Ideal S920x1 .f32) (x2 : Vec Ideal S5120x1024 .fp8e4m3) (x3 : Vec Ideal S1x1024 .f32) :
    k0_pay4 (F := Ideal) (View.ld x0 r0_0) (View.ld x2 r0_1) (View.ld x1 r0_2) (View.ld x3 r0_3) = tile x0 x1 x2 x3 := by
  unfold tile
  have hz : (![0, 0] : Fin 2 → Nat) = fun _ => 0 := funext fun a => by fin_cases a <;> rfl
  rw [View.ld_unit_zero (S := S920x5120) hz _ x0, View.ld_unit_zero (S := S5120x1024) hz _ x2, View.ld_unit_zero (S := S920x1) hz _ x1, View.ld_unit_zero (S := S1x1024) hz _ x3]

/-- What the body leaves in the 8-bit values' block. -/
theorem out5_at (x0 : Vec Ideal S920x5120 .fp8e4m3) (x1 : Vec Ideal S920x1 .f32) (x2 : Vec Ideal S5120x1024 .fp8e4m3) (x3 : Vec Ideal S1x1024 .f32) (y : S1x920x1024.Idx) :
    out0_5 (F := Ideal) x0 x1 x2 x3 y = tileQ (tile x0 x1 x2 x3) (y 1) (y 2) := by
  rw [← tile_eq]
  unfold out0_5
  canon_tiles x h
  · exact piece (k0_pay49 x0 x1 x2 x3) (head7 (k0_pay49 x0 x1 x2 x3)) 7 (head7_at _) x y h1 (by show (y 2 : ℕ) = 7 * 128 + x 2; omega)
  · exact piece (k0_pay49 x0 x1 x2 x3) (head6 (k0_pay49 x0 x1 x2 x3)) 6 (head6_at _) x y h1 (by show (y 2 : ℕ) = 6 * 128 + x 2; omega)
  · exact piece (k0_pay49 x0 x1 x2 x3) (head5 (k0_pay49 x0 x1 x2 x3)) 5 (head5_at _) x y h1 (by show (y 2 : ℕ) = 5 * 128 + x 2; omega)
  · exact piece (k0_pay49 x0 x1 x2 x3) (head4 (k0_pay49 x0 x1 x2 x3)) 4 (head4_at _) x y h1 (by show (y 2 : ℕ) = 4 * 128 + x 2; omega)
  · exact piece (k0_pay49 x0 x1 x2 x3) (head3 (k0_pay49 x0 x1 x2 x3)) 3 (head3_at _) x y h1 (by show (y 2 : ℕ) = 3 * 128 + x 2; omega)
  · exact piece (k0_pay49 x0 x1 x2 x3) (head2 (k0_pay49 x0 x1 x2 x3)) 2 (head2_at _) x y h1 (by show (y 2 : ℕ) = 2 * 128 + x 2; omega)
  · exact piece (k0_pay49 x0 x1 x2 x3) (head1 (k0_pay49 x0 x1 x2 x3)) 1 (head1_at _) x y h1 (by show (y 2 : ℕ) = 1 * 128 + x 2; omega)
  · exact piece (k0_pay49 x0 x1 x2 x3) (head0 (k0_pay49 x0 x1 x2 x3)) 0 (head0_at _) x y h1 (by show (y 2 : ℕ) = 0 * 128 + x 2; omega)

/-- What the body leaves in the scales' block. -/
theorem out6_at (x0 : Vec Ideal S920x5120 .fp8e4m3) (x1 : Vec Ideal S920x1 .f32) (x2 : Vec Ideal S5120x1024 .fp8e4m3) (x3 : Vec Ideal S1x1024 .f32) (y : S1x1x920x128.Idx) :
    out0_6 (F := Ideal) x0 x1 x2 x3 y = tileLanes (tile x0 x1 x2 x3) (y 2) (y 3) := by
  rw [← tile_eq, ← kLanes_at]
  unfold out0_6
  have hz : (![0, 0, 0, 0] : Fin 4 → Nat) = fun _ => 0 := funext fun a => by fin_cases a <;> rfl
  rw [View.canon_unit_zero hz]
  rfl

end Cert.QkvTKvIdeal.RowValue

end
-- ==== Proof.QkvTKvRef.lean ====
/- The temporal key and value projection's reference, read at an index. -/
module

public import proofs.«01_k».proof.Proof.Rows
public import proofs.«01_k».proof.Proof.Gen.RefQkvTKvIdeal.Read
public import Idealize.ShloMosaic.Lib.KernelVsHost
public import proofs.«01_k».proof.Defs
public import Idealize.ShloMosaic.Lib.Pipeline.ValueKit
public import Idealize.ShloMosaic.Lib.Claim

@[expose] public section

set_option maxRecDepth 16384

noncomputable section

namespace Cert.RefQkvTKvIdeal.RowValue

open Cert Cert.RefQkvTKvIdeal Cert.RefQkvTKvIdeal.Gen Idealize.ShloMosaic Idealize.ShloMosaic.TcCoe Idealize.SL.Sem
open Idealize.ShloMosaic.Pipeline (Dat)

/-- The heads' largest magnitudes, as the reference computes them. -/
def kAmax (v : FVec Ideal S5520x80x128 .f32) : FVec Ideal S5520x80x1 .f32 :=
  shapeCast S5520x80x1 (multiReduction .maximumf [2] S5520x80 (absf v) 0xFF800000#32 reduces_S5520x80x128_S5520x80 (.inl rfl) rfl) shapeCasts_S5520x80_S5520x80x1

/-- The heads' largest magnitudes at an index. -/
theorem kAmax_at (v : FVec Ideal S5520x80x128 .f32) (r : Fin 5520) (H : Fin 80) (z : Fin 1) :
    kAmax v (ix3 r H z) = Rows.amax (fun k : Fin 128 => v (ix3 r H k)) := by
  unfold Rows.amax
  pointwise [kAmax]

/-- The quantiser's scales from the largest magnitudes, as the reference computes them. -/
def kScaleOf (a : FVec Ideal S5520x80x1 .f32) : FVec Ideal S5520x80x1 .f32 :=
  select (cmpf .oeq a (broadcast S5520x80x1 (Scalar.ofBits (F := Ideal) .f32 0x00000000#32))) (broadcast S5520x80x1 (Scalar.ofBits (F := Ideal) .f32 0x3F800000#32))
    (divf a (broadcast S5520x80x1 (Scalar.ofBits (F := Ideal) .f32 0x42FE0000#32)))

/-- The scales at an index, from the largest magnitudes. -/
theorem kScaleOf_at (a : FVec Ideal S5520x80x1 .f32) (r : Fin 5520) (H : Fin 80) (z : Fin 1) :
    kScaleOf a (ix3 r H z) = Rows.scale 0x42FE0000#32 (a (ix3 r H z)) := by
  unfold Rows.scale
  pointwise [kScaleOf]

/-- The quantiser's scales, as the reference computes them. -/
def kScale (v : FVec Ideal S5520x80x128 .f32) : FVec Ideal S5520x80x1 .f32 := kScaleOf (kAmax v)

/-- The scales at an index are the row function's. -/
theorem kScale_at (v : FVec Ideal S5520x80x128 .f32) (r : Fin 5520) (H : Fin 80) (z : Fin 1) :
    kScale v (ix3 r H z) = Rows.scale 0x42FE0000#32 (Rows.amax (fun k : Fin 128 => v (ix3 r H k))) := by
  unfold kScale
  rw [kScaleOf_at, kAmax_at]

/-- The 8-bit values, as the reference computes them. -/
def kQ (v : FVec Ideal S5520x80x128 .f32) (s : FVec Ideal S5520x80x1 .f32) : IVec S5520x80x128 8 :=
  fptosi 8 (minimumf (broadcast S5520x80x128 (Scalar.ofBits (F := Ideal) .f32 0x42FE0000#32)) (maximumf (broadcast S5520x80x128 (Scalar.ofBits (F := Ideal) .f32 0xC2FE0000#32))
    (roundeven (divf v (broadcastTo S5520x80x128 s broadcasts_S5520x80x1_S5520x80x128)))))

/-- The 8-bit values at an index are the row function's. -/
theorem kQ_at (v : FVec Ideal S5520x80x128 .f32) (s : FVec Ideal S5520x80x1 .f32) (r : Fin 5520) (H : Fin 80) (l : Fin 128) :
    kQ v s (ix3 r H l) = Rows.quantI (v (ix3 r H l)) (s (ix3 r H 0)) := by
  unfold Rows.quantI
  pointwise [kQ]

/-- The reference's scales at an index. -/
theorem pay3_at (A : Vec Ideal S5520x5120 .fp8e4m3) (s : Vec Ideal S5520x1 .f32) (W : Vec Ideal S5120x15360 .fp8e4m3) (w : Vec Ideal S1x15360 .f32)
    (r : Fin 5520) (H : Fin 80) (z : Fin 1) :
    k0_pay3 (F := Ideal) A s W w (ix3 r H z) = Rows.scale 0x42FE0000#32 (Rows.amax (fun k : Fin 128 => k0_pay1 (F := Ideal) A s W w (ix3 r H k))) :=
  kScale_at (k0_pay1 (F := Ideal) A s W w) r H z

/-- The reference's 8-bit values at an index. -/
theorem pay4_at (A : Vec Ideal S5520x5120 .fp8e4m3) (s : Vec Ideal S5520x1 .f32) (W : Vec Ideal S5120x15360 .fp8e4m3) (w : Vec Ideal S1x15360 .f32)
    (r : Fin 5520) (H : Fin 80) (l : Fin 128) :
    k0_pay4 (F := Ideal) A s W w (ix3 r H l) = Rows.quantI (k0_pay1 (F := Ideal) A s W w (ix3 r H l))
      (Rows.scale 0x42FE0000#32 (Rows.amax (fun k : Fin 128 => k0_pay1 (F := Ideal) A s W w (ix3 r H k)))) := by
  refine (kQ_at (k0_pay1 (F := Ideal) A s W w) (k0_pay3 (F := Ideal) A s W w) r H l).trans ?_
  rw [pay3_at]

/-- The wide values' layout: an array of rows and heads at an index of the array by head, action step and row. -/
theorem lay2_at (X : (⟨S5520x80x128, .bf16⟩ : BufTy).Contents (Elt Ideal)) (j : S80x6x920x128.Idx) (R : Fin 5520) (H : Fin 80) (l : Fin 128)
    (hR : (R : ℕ) = (j 1 : ℕ) * 920 + j 2) (hH : (H : ℕ) = j 0) (hl : (l : ℕ) = j 3) :
    transpose S80x6x920x128 [2, 0, 1, 3] (shapeCast _ X shapeCasts_S5520x80x128_S6x920x80x128) transposes_S6x920x80x128_S80x6x920x128_2_0_1_3 j
      = X (ix3 R H l) := by
  refine (Read.val_main_v2_apply X j).trans ((Read.val_main_v1_apply X _).trans (congrArg X ?_))
  have h0 : (j 0 : ℕ) < 80 := (j 0).isLt
  have h1 : (j 1 : ℕ) < 6 := (j 1).isLt
  have h2 : (j 2 : ℕ) < 920 := (j 2).isLt
  have h3 : (j 3 : ℕ) < 128 := (j 3).isLt
  funext a
  match a with
  | ⟨0, _⟩ => exact Fin.ext (by show ((((j 1).val * 920 + (j 2).val) * 80 + (j 0).val) * 128 + (j 3).val) / 10240 = (R : ℕ); omega)
  | ⟨1, _⟩ => exact Fin.ext (by show ((((j 1).val * 920 + (j 2).val) * 80 + (j 0).val) * 128 + (j 3).val) / 128 % 80 = (H : ℕ); omega)
  | ⟨2, _⟩ => exact Fin.ext (by show ((((j 1).val * 920 + (j 2).val) * 80 + (j 0).val) * 128 + (j 3).val) % 128 = (l : ℕ); omega)

/-- The 8-bit values' layout: an array of rows and heads at an index of the array by key or value, row and column. -/
theorem lay4_at (X : (⟨S5520x80x128, .i8⟩ : BufTy).Contents (Elt Ideal)) (j : S2x5520x5120.Idx) (R : Fin 5520) (H : Fin 80) (l : Fin 128)
    (hR : (R : ℕ) = j 1) (hH : (H : ℕ) * 128 + l = (j 0 : ℕ) * 5120 + j 2) :
    transpose S2x5520x5120 [1, 0, 2] (shapeCast _ X shapeCasts_S5520x80x128_S5520x2x5120) transposes_S5520x2x5120_S2x5520x5120_1_0_2 j
      = X (ix3 R H l) := by
  refine (Read.val_main_v4_apply X j).trans ((Read.val_main_v3_apply X _).trans (congrArg X ?_))
  have h0 : (j 0 : ℕ) < 2 := (j 0).isLt
  have h1 : (j 1 : ℕ) < 5520 := (j 1).isLt
  have h2 : (j 2 : ℕ) < 5120 := (j 2).isLt
  have hl := l.isLt
  funext a
  match a with
  | ⟨0, _⟩ => exact Fin.ext (by show (((j 1).val * 2 + (j 0).val) * 5120 + (j 2).val) / 10240 = (R : ℕ); omega)
  | ⟨1, _⟩ => exact Fin.ext (by show (((j 1).val * 2 + (j 0).val) * 5120 + (j 2).val) / 128 % 80 = (H : ℕ); omega)
  | ⟨2, _⟩ => exact Fin.ext (by show (((j 1).val * 2 + (j 0).val) * 5120 + (j 2).val) % 128 = (l : ℕ); omega)

/-- The scales' layout at an index within the first eight lanes. -/
theorem lay6_at (X : (⟨S5520x80x1, .f32⟩ : BufTy).Contents (Elt Ideal)) (j : S10x6x920x8.Idx) (R : Fin 5520) (H : Fin 80)
    (hR : (R : ℕ) = (j 1 : ℕ) * 920 + j 2) (hH : (H : ℕ) = (j 0 : ℕ) * 8 + j 3) :
    transpose S10x6x920x8 [2, 0, 1, 3] (shapeCast _ X shapeCasts_S5520x80x1_S6x920x10x8) transposes_S6x920x10x8_S10x6x920x8_2_0_1_3 j
      = X (ix3 R H 0) := by
  refine (Read.val_main_v6_apply X j).trans ((Read.val_main_v5_apply X _).trans (congrArg X ?_))
  have h0 : (j 0 : ℕ) < 10 := (j 0).isLt
  have h1 : (j 1 : ℕ) < 6 := (j 1).isLt
  have h2 : (j 2 : ℕ) < 920 := (j 2).isLt
  have h3 : (j 3 : ℕ) < 8 := (j 3).isLt
  funext a
  match a with
  | ⟨0, _⟩ => exact Fin.ext (by show ((((j 1).val * 920 + (j 2).val) * 10 + (j 0).val) * 8 + (j 3).val) / 80 = (R : ℕ); omega)
  | ⟨1, _⟩ => exact Fin.ext (by show ((((j 1).val * 920 + (j 2).val) * 10 + (j 0).val) * 8 + (j 3).val) / 1 % 80 = (H : ℕ); omega)
  | ⟨2, _⟩ => rfl

/-- The padded scales at one of the first eight lanes. -/
theorem lay7_in (X : (⟨S5520x80x1, .f32⟩ : BufTy).Contents (Elt Ideal)) (j : S10x6x920x128.Idx) (R : Fin 5520) (H : Fin 80)
    (h : (j 3 : ℕ) < 8) (hR : (R : ℕ) = (j 1 : ℕ) * 920 + j 2) (hH : (H : ℕ) = (j 0 : ℕ) * 8 + j 3) :
    pad S10x6x920x128 ![0, 0, 0, 0] ![0, 0, 0, 120] ![0, 0, 0, 0] (transpose S10x6x920x8 [2, 0, 1, 3] (shapeCast _ X shapeCasts_S5520x80x1_S6x920x10x8) transposes_S6x920x10x8_S10x6x920x8_2_0_1_3) (constant (F := Ideal) S_ .f32 0x00000000#32) pads_S10x6x920x8_S10x6x920x128_000_000_000_01200 h_S_ j
      = X (ix3 R H 0) := by
  refine (pad_apply_of_inside _ _ _ _ _ _ _ j (ix4 (j 0 : Fin 10) (j 1 : Fin 6) (j 2 : Fin 920) ⟨(j 3 : ℕ), h⟩ : S10x6x920x8.Idx) ?_).trans (lay6_at X _ R H hR hH)
  intro a
  match a with
  | ⟨0, _⟩ => exact (by omega : ∀ x : ℕ, x = 0 + x * (0 + 1)) (j 0)
  | ⟨1, _⟩ => exact (by omega : ∀ x : ℕ, x = 0 + x * (0 + 1)) (j 1)
  | ⟨2, _⟩ => exact (by omega : ∀ x : ℕ, x = 0 + x * (0 + 1)) (j 2)
  | ⟨3, _⟩ => exact (by omega : ∀ x : ℕ, x = 0 + x * (0 + 1)) (j 3)

/-- The padded scales at the other lanes. -/
theorem lay7_out (X : (⟨S5520x80x1, .f32⟩ : BufTy).Contents (Elt Ideal)) (j : S10x6x920x128.Idx) (h : ¬ (j 3 : ℕ) < 8) :
    pad S10x6x920x128 ![0, 0, 0, 0] ![0, 0, 0, 120] ![0, 0, 0, 0] (transpose S10x6x920x8 [2, 0, 1, 3] (shapeCast _ X shapeCasts_S5520x80x1_S6x920x10x8) transposes_S6x920x10x8_S10x6x920x8_2_0_1_3) (constant (F := Ideal) S_ .f32 0x00000000#32) pads_S10x6x920x8_S10x6x920x128_000_000_000_01200 h_S_ j
      = (0 : EReal) := by
  refine (pad_apply_of_not_inside _ _ _ _ _ _ _ j (3 : Fin 4) ?_).trans ?_
  · intro hin
    have h2 : ((j 3 : ℕ) - 0) / (0 + 1) < 8 := hin.2.2
    omega
  · pointwise

variable (m : (ℓ : Loc nD τ sig) → Buf (Elt Ideal) ℓ)

/-- The reference's windows stand at the origin. -/
theorem idx : ∀ t : Fin cfg0.N, win0_0.index t = ![0, 0] ∧ win0_1.index t = ![0, 0] ∧ win0_2.index t = ![0, 0]
    ∧ win0_3.index t = ![0, 0] ∧ win0_4.index t = ![0, 0, 0] ∧ win0_5.index t = ![0, 0, 0] ∧ win0_6.index t = ![0, 0, 0] :=
  (by decide +kernel : ∀ t : Fin grid0.N, _)

/-- What the reference's region leaves in the wide values' array. -/
theorem reg0 (c : Dev nD) : Value.reg_main_v0_0 m c
    = k0_pay2 (F := Ideal) (m ((c : Thread nD τ).loc main_arg0)) (m ((c : Thread nD τ).loc main_arg1)) (m ((c : Thread nD τ).loc main_arg2)) (m ((c : Thread nD τ).loc main_arg3)) := by
  unfold Value.reg_main_v0_0
  refine (dats m 0 c).arrAt_eq_of_after_last 4 t0_0 (by decide +kernel) _ fun j => ?_
  blk_simp
  rw [after0_4]; frame_out
  have e0 : iblk m c 0 t0_0 = m ((c : Thread nD τ).loc main_arg0) := by
    funext y; blk_point [iblk, V, idx t0_0]
  have e1 : iblk m c 1 t0_0 = m ((c : Thread nD τ).loc main_arg1) := by
    funext y; blk_point [iblk, V, idx t0_0]
  have e2 : iblk m c 2 t0_0 = m ((c : Thread nD τ).loc main_arg2) := by
    funext y; blk_point [iblk, V, idx t0_0]
  have e3 : iblk m c 3 t0_0 = m ((c : Thread nD τ).loc main_arg3) := by
    funext y; blk_point [iblk, V, idx t0_0]
  rw [e0, e1, e2, e3]

/-- What the reference's region leaves in the 8-bit values' array. -/
theorem reg1 (c : Dev nD) : Value.reg_main_v0_1 m c
    = k0_pay4 (F := Ideal) (m ((c : Thread nD τ).loc main_arg0)) (m ((c : Thread nD τ).loc main_arg1)) (m ((c : Thread nD τ).loc main_arg2)) (m ((c : Thread nD τ).loc main_arg3)) := by
  unfold Value.reg_main_v0_1
  refine (dats m 0 c).arrAt_eq_of_after_last 5 t0_0 (by decide +kernel) _ fun j => ?_
  blk_simp
  rw [after0_5]; frame_out
  have e0 : iblk m c 0 t0_0 = m ((c : Thread nD τ).loc main_arg0) := by
    funext y; blk_point [iblk, V, idx t0_0]
  have e1 : iblk m c 1 t0_0 = m ((c : Thread nD τ).loc main_arg1) := by
    funext y; blk_point [iblk, V, idx t0_0]
  have e2 : iblk m c 2 t0_0 = m ((c : Thread nD τ).loc main_arg2) := by
    funext y; blk_point [iblk, V, idx t0_0]
  have e3 : iblk m c 3 t0_0 = m ((c : Thread nD τ).loc main_arg3) := by
    funext y; blk_point [iblk, V, idx t0_0]
  rw [e0, e1, e2, e3]

/-- What the reference's region leaves in the scales' array. -/
theorem reg2 (c : Dev nD) : Value.reg_main_v0_2 m c
    = k0_pay3 (F := Ideal) (m ((c : Thread nD τ).loc main_arg0)) (m ((c : Thread nD τ).loc main_arg1)) (m ((c : Thread nD τ).loc main_arg2)) (m ((c : Thread nD τ).loc main_arg3)) := by
  unfold Value.reg_main_v0_2
  refine (dats m 0 c).arrAt_eq_of_after_last 6 t0_0 (by decide +kernel) _ fun j => ?_
  blk_simp
  rw [after0_6]; frame_out
  have e0 : iblk m c 0 t0_0 = m ((c : Thread nD τ).loc main_arg0) := by
    funext y; blk_point [iblk, V, idx t0_0]
  have e1 : iblk m c 1 t0_0 = m ((c : Thread nD τ).loc main_arg1) := by
    funext y; blk_point [iblk, V, idx t0_0]
  have e2 : iblk m c 2 t0_0 = m ((c : Thread nD τ).loc main_arg2) := by
    funext y; blk_point [iblk, V, idx t0_0]
  have e3 : iblk m c 3 t0_0 = m ((c : Thread nD τ).loc main_arg3) := by
    funext y; blk_point [iblk, V, idx t0_0]
  rw [e0, e1, e2, e3]

end Cert.RefQkvTKvIdeal.RowValue

end
-- ==== Proof.QkvTKvValue.lean ====
/- The temporal key and value projection: the arrays the tiled kernel leaves are the reference's arrays. -/
module

public import proofs.«01_k».proof.Proof.QkvTKvRows
public import proofs.«01_k».proof.Proof.QkvTKvRef
public import proofs.«01_k».proof.Proof.Gen.QkvTKvIdeal.Frame
public import proofs.«01_k».proof.Defs
public import Idealize.ShloMosaic.Lib.Pipeline.ValueKit
public import Idealize.ShloMosaic.Lib.Claim

@[expose] public section

set_option maxRecDepth 16384

noncomputable section

namespace Cert.QkvTKvIdeal.TileValue

open Cert Cert.QkvTKvIdeal Cert.QkvTKvIdeal.Gen Cert.QkvTKvIdeal.RowValue Idealize.ShloMosaic Idealize.ShloMosaic.TcCoe Idealize.SL.Sem
open Idealize.ShloMosaic.Pipeline (Dat)

variable (m : (ℓ : Loc nD τ sig) → Buf (Elt Ideal) ℓ)

/-- The windows' block indices at every grid point: head group `t / 6`, action step `t % 6`. -/
theorem idx : ∀ t : Fin cfg0.N, win0_0.index t = ![t.val % 6, 0] ∧ win0_1.index t = ![t.val % 6, 0]
    ∧ win0_2.index t = ![0, t.val / 6 + 5] ∧ win0_3.index t = ![0, t.val / 6 + 5] ∧ win0_4.index t = ![t.val / 6, t.val % 6, 0, 0]
    ∧ win0_5.index t = ![t.val / 6 / 5, t.val % 6, t.val / 6 % 5] ∧ win0_6.index t = ![t.val / 6, t.val % 6, 0, 0] :=
  (by decide +kernel : ∀ t : Fin grid0.N, _)

/-- The tile's product at an index is the reference's at the row and the head it belongs to. -/
theorem core (c : Dev nD) (t : Fin cfg0.N) (r : Fin 920) (q : Fin 1024) (R : Fin 5520) (H : Fin 80) (l : Fin 128)
    (hR : (R : ℕ) = t.val % 6 * 920 + r) (hH : (H : ℕ) * 128 + l = t.val / 6 * 1024 + q) :
    tile (iblk m c 0 t) (iblk m c 1 t) (iblk m c 2 t) (iblk m c 3 t) (ix2 r q) = Cert.RefQkvTKvIdeal.Gen.k0_pay1 (F := Ideal) (m ((c : Thread nD τ).loc main_arg0)) (m ((c : Thread nD τ).loc main_arg1)) (m ((c : Thread nD τ).loc main_arg2)) (m ((c : Thread nD τ).loc main_arg3)) (ix3 R H l) := by
  pointwise [tile, k0_pay4, Cert.RefQkvTKvIdeal.Gen.k0_pay1]
  blk_point [iblk, V, idx t]

/-- A head's scale in the tile is the reference's. -/
theorem scale_eq (c : Dev nD) (t : Fin cfg0.N) (r : Fin 920) (J : Fin 8) (R : Fin 5520) (H : Fin 80)
    (hR : (R : ℕ) = t.val % 6 * 920 + r) (hH : (H : ℕ) = t.val / 6 * 8 + J) :
    tileScale (tile (iblk m c 0 t) (iblk m c 1 t) (iblk m c 2 t) (iblk m c 3 t)) r J = Rows.scale 0x42FE0000#32 (Rows.amax (fun k : Fin 128 => Cert.RefQkvTKvIdeal.Gen.k0_pay1 (F := Ideal) (m ((c : Thread nD τ).loc main_arg0)) (m ((c : Thread nD τ).loc main_arg1)) (m ((c : Thread nD τ).loc main_arg2)) (m ((c : Thread nD τ).loc main_arg3)) (ix3 R H k))) := by
  unfold tileScale
  congr 2
  funext k
  exact core m c t r _ R H k hR (by show (H : ℕ) * 128 + k = t.val / 6 * 1024 + ((J : ℕ) * 128 + k); omega)

/-- What a grid point leaves in the wide values' block. -/
theorem out4_at (x0 : Vec Ideal S920x5120 .fp8e4m3) (x1 : Vec Ideal S920x1 .f32) (x2 : Vec Ideal S5120x1024 .fp8e4m3) (x3 : Vec Ideal S1x1024 .f32)
    (y : S8x1x920x128.Idx) (r : Fin 920) (q : Fin 1024) (hr : (r : ℕ) = y 2) (hq : (q : ℕ) = (y 0 : ℕ) * 128 + y 3) :
    out0_4 (F := Ideal) x0 x1 x2 x3 y = tile x0 x1 x2 x3 (ix2 r q) := by
  rw [← tile_eq]
  unfold out0_4
  canon_tiles x h
  all_goals (open_payloads; pointwise; blk_ext)

/-- The wide values after the run. -/
theorem final4 (c : Dev nD) : (dats m 0 c).arrAt 4 (cfgs 0).N
    = transpose Cert.RefQkvTKvIdeal.S80x6x920x128 [2, 0, 1, 3] (shapeCast _ (Cert.RefQkvTKvIdeal.Gen.k0_pay2 (F := Ideal) (m ((c : Thread nD τ).loc main_arg0)) (m ((c : Thread nD τ).loc main_arg1)) (m ((c : Thread nD τ).loc main_arg2)) (m ((c : Thread nD τ).loc main_arg3))) Cert.RefQkvTKvIdeal.Gen.shapeCasts_S5520x80x128_S6x920x80x128) Cert.RefQkvTKvIdeal.Gen.transposes_S6x920x80x128_S80x6x920x128_2_0_1_3 := by
  refine (dats m 0 c).arrAt_eq_of_covers 4 _ (by decide +kernel) fun t _ y => ?_
  blk_simp
  rw [after0_4]
  have b0 : (y 0 : ℕ) < 8 := (y 0).isLt
  have b2 : (y 2 : ℕ) < 920 := (y 2).isLt
  have b3 : (y 3 : ℕ) < 128 := (y 3).isLt
  have ht : t.val < 60 := t.isLt
  refine (out4_at _ _ _ _ y (⟨y 2, b2⟩ : Fin 920) (⟨(y 0 : ℕ) * 128 + y 3, by omega⟩ : Fin 1024) rfl rfl).trans (Eq.trans ?_
    (Cert.RefQkvTKvIdeal.RowValue.lay2_at _ _ (⟨t.val % 6 * 920 + y 2, by omega⟩ : Fin 5520) (⟨t.val / 6 * 8 + y 0, by omega⟩ : Fin 80) (⟨y 3, b3⟩ : Fin 128) ?_ ?_ ?_).symm)
  · exact core m c t _ _ _ _ _ rfl (by show (t.val / 6 * 8 + (y 0 : ℕ)) * 128 + (y 3 : ℕ) = t.val / 6 * 1024 + ((y 0 : ℕ) * 128 + (y 3 : ℕ)); omega)
  all_goals (blk_simp [idx t] <;> try (dsimp only; omega))

/-- The 8-bit values after the run. -/
theorem final5 (c : Dev nD) : (dats m 0 c).arrAt 5 (cfgs 0).N
    = transpose Cert.RefQkvTKvIdeal.S2x5520x5120 [1, 0, 2] (shapeCast _ (Cert.RefQkvTKvIdeal.Gen.k0_pay4 (F := Ideal) (m ((c : Thread nD τ).loc main_arg0)) (m ((c : Thread nD τ).loc main_arg1)) (m ((c : Thread nD τ).loc main_arg2)) (m ((c : Thread nD τ).loc main_arg3))) Cert.RefQkvTKvIdeal.Gen.shapeCasts_S5520x80x128_S5520x2x5120) Cert.RefQkvTKvIdeal.Gen.transposes_S5520x2x5120_S2x5520x5120_1_0_2 := by
  refine (dats m 0 c).arrAt_eq_of_covers 5 _ (by decide +kernel) fun t _ y => ?_
  blk_simp
  rw [after0_5]
  have b1 : (y 1 : ℕ) < 920 := (y 1).isLt
  have b2 : (y 2 : ℕ) < 1024 := (y 2).isLt
  have ht : t.val < 60 := t.isLt
  refine (out5_at _ _ _ _ y).trans (Eq.trans ?_
    (Cert.RefQkvTKvIdeal.RowValue.lay4_at _ _ (⟨t.val % 6 * 920 + y 1, by omega⟩ : Fin 5520) (⟨t.val / 6 * 8 + (y 2 : ℕ) / 128, by omega⟩ : Fin 80) (⟨(y 2 : ℕ) % 128, by omega⟩ : Fin 128) ?_ ?_).symm)
  · refine Eq.trans ?_ (Cert.RefQkvTKvIdeal.RowValue.pay4_at _ _ _ _ _ _ _).symm
    unfold tileQ
    refine congrArg₂ Rows.quantI (core m c t _ _ _ _ _ rfl ?_) (scale_eq m c t _ _ _ _ rfl rfl)
    show (t.val / 6 * 8 + (y 2 : ℕ) / 128) * 128 + (y 2 : ℕ) % 128 = t.val / 6 * 1024 + (y 2 : ℕ)
    omega
  all_goals (blk_simp [idx t] <;> try (dsimp only; omega))

/-- The scales after the run. -/
theorem final6 (c : Dev nD) : (dats m 0 c).arrAt 6 (cfgs 0).N
    = pad Cert.RefQkvTKvIdeal.S10x6x920x128 ![0, 0, 0, 0] ![0, 0, 0, 120] ![0, 0, 0, 0] (transpose Cert.RefQkvTKvIdeal.S10x6x920x8 [2, 0, 1, 3] (shapeCast _ (Cert.RefQkvTKvIdeal.Gen.k0_pay3 (F := Ideal) (m ((c : Thread nD τ).loc main_arg0)) (m ((c : Thread nD τ).loc main_arg1)) (m ((c : Thread nD τ).loc main_arg2)) (m ((c : Thread nD τ).loc main_arg3))) Cert.RefQkvTKvIdeal.Gen.shapeCasts_S5520x80x1_S6x920x10x8) Cert.RefQkvTKvIdeal.Gen.transposes_S6x920x10x8_S10x6x920x8_2_0_1_3) (constant (F := Ideal) Cert.RefQkvTKvIdeal.S_ .f32 0x00000000#32) Cert.RefQkvTKvIdeal.Gen.pads_S10x6x920x8_S10x6x920x128_000_000_000_01200 Cert.RefQkvTKvIdeal.Gen.h_S_ := by
  refine (dats m 0 c).arrAt_eq_of_covers 6 _ (by decide +kernel) fun t _ y => ?_
  blk_simp
  rw [after0_6]
  have b2 : (y 2 : ℕ) < 920 := (y 2).isLt
  have ht : t.val < 60 := t.isLt
  refine (out6_at _ _ _ _ y).trans ?_
  unfold tileLanes
  by_cases h : (y 3 : ℕ) < 8
  · refine (dif_pos h).trans (Eq.trans ?_
      (Cert.RefQkvTKvIdeal.RowValue.lay7_in _ _ (⟨t.val % 6 * 920 + y 2, by omega⟩ : Fin 5520) (⟨t.val / 6 * 8 + y 3, by omega⟩ : Fin 80) ?_ ?_ ?_).symm)
    · refine Eq.trans ?_ (Cert.RefQkvTKvIdeal.RowValue.pay3_at _ _ _ _ _ _ _).symm
      exact scale_eq m c t _ _ _ _ rfl rfl
    all_goals (blk_simp [idx t] <;> try (dsimp only; omega))
  · refine (dif_neg h).trans (Cert.RefQkvTKvIdeal.RowValue.lay7_out _ _ ?_).symm
    blk_simp [idx t]
    try omega

/-- The kernel and its reference compute the same arrays. -/
theorem algebraic : Cert.algebraic_QkvTKvIdeal_RefQkvTKvIdeal := by
  pair_intro
  · run_from Cert.QkvTKvIdeal.Gen.run_main m g
  · refine (θ_run _ _ _).mono (fun r h c => ?_) (Cert.RefQkvTKvIdeal.Value.run m' g')
    obtain ⟨h2, h4, h7, k0, k1, k2, k3⟩ := h c
    obtain ⟨e0, e1, e2, e3⟩ := hagree c
    rw [Cert.RefQkvTKvIdeal.RowValue.reg0, e0, e1, e2, e3] at h2
    rw [Cert.RefQkvTKvIdeal.RowValue.reg1, e0, e1, e2, e3] at h4
    rw [Cert.RefQkvTKvIdeal.RowValue.reg2, e0, e1, e2, e3] at h7
    exact ⟨h2.trans (final4 m c).symm, h4.trans (final5 m c).symm, h7.trans (final6 m c).symm, k0, k1, k2, k3⟩

end Cert.QkvTKvIdeal.TileValue

end
-- ==== Proof.Ln1Rows.lean ====
/- The first layer normalisation and its quantiser, at an index: the tile's terms and the reference's terms as the same row functions. -/
module

public import proofs.«01_k».proof.Proof.Gen.Ln1Ideal.Frame
public import proofs.«01_k».proof.Proof.Gen.RefLn1Ideal.Value
public import proofs.«01_k».proof.Proof.Rows

@[expose] public section

set_option maxRecDepth 16384

noncomputable section

namespace Cert.Ln1Ideal.RowValue

open Cert Cert.Ln1Ideal Cert.Ln1Ideal.Gen Idealize.ShloMosaic Idealize.ShloMosaic.TcCoe Idealize.SL.Sem

/-- The rows' means, as the program computes them. -/
def kMean (v : FVec Ideal S184x5120 .f32) : FVec Ideal S184x1 .f32 :=
  divf (shapeCast S184x1 (multiReduction .add [1] S184 v 0x00000000#32 reduces_S184x5120_S184 (.inl rfl) rfl) shapeCasts_S184_S184x1)
    (broadcast S184x1 (Scalar.ofBits (F := Ideal) .f32 0x45A00000#32))

/-- The rows with their means taken off. -/
def kDev (v : FVec Ideal S184x5120 .f32) : FVec Ideal S184x5120 .f32 :=
  subf v (broadcastTo S184x5120 (kMean v) broadcasts_S184x1_S184x5120)

/-- The rows normalised, from the centred rows and their variances. -/
def kNorm (d : FVec Ideal S184x5120 .f32) (w : FVec Ideal S184x1 .f32) (g b : FVec Ideal S1x5120 .f32) : FVec Ideal S184x5120 .f32 :=
  addf (mulf (divf d (broadcastTo S184x5120 (sqrt (addf w (broadcast S184x1 (Scalar.ofBits (F := Ideal) .f32 0x3727C5AC#32)))) broadcasts_S184x1_S184x5120))
    (broadcastTo S184x5120 g broadcasts_S1x5120_S184x5120)) (broadcastTo S184x5120 b broadcasts_S1x5120_S184x5120)

/-- The rows' means at an index. -/
theorem kMean_at (v : FVec Ideal S184x5120 .f32) (r : Fin 184) (z : Fin 1) : kMean v (ix2 r z) = Rows.mean (fun k => v (ix2 r k)) := by
  pointwise [kMean, Rows.mean]

/-- The centred rows at an index. -/
theorem kDev_at (v : FVec Ideal S184x5120 .f32) (r : Fin 184) (k : Fin 5120) : kDev v (ix2 r k) = Rows.dev (fun k => v (ix2 r k)) k := by
  pointwise [kDev, Rows.dev]
  rw [kMean_at]

/-- The normalised rows at an index, from the centred rows and the variances. -/
theorem kNorm_at (d : FVec Ideal S184x5120 .f32) (w : FVec Ideal S184x1 .f32) (g b : FVec Ideal S1x5120 .f32) (r : Fin 184) (k : Fin 5120) :
    kNorm d w g b (ix2 r k) = Ideal.div (d (ix2 r k)) (Ideal.sqrt (w (ix2 r 0) + Ideal.ofBits FTy.f32 0x3727C5AC#32)) * g (ix2 0 k) + b (ix2 0 k) := by
  pointwise [kNorm]

/-- The whole layer normalisation, as the program computes it. -/
def kLn (v : FVec Ideal S184x5120 .f32) (g b : FVec Ideal S1x5120 .f32) : FVec Ideal S184x5120 .f32 :=
  kNorm (kDev v) (kMean (mulf (kDev v) (kDev v))) g b

/-- The layer normalisation at an index is the row function's. -/
theorem kLn_at (v : FVec Ideal S184x5120 .f32) (g b : FVec Ideal S1x5120 .f32) (r : Fin 184) (k : Fin 5120) :
    kLn v g b (ix2 r k) = Rows.ln (fun k => v (ix2 r k)) (fun k => g (ix2 0 k)) (fun k => b (ix2 0 k)) k := by
  unfold kLn
  rw [kNorm_at, kMean_at, kDev_at]
  unfold Rows.ln
  congr 6
  funext j
  exact congrArg₂ (· * ·) (kDev_at v r j) (kDev_at v r j)

/-- The rows' largest magnitudes, as the program computes them. -/
def kAmax (v : FVec Ideal S184x5120 .f32) : FVec Ideal S184x1 .f32 :=
  shapeCast S184x1 (multiReduction .maximumf [1] S184 (absf v) 0xFF800000#32 reduces_S184x5120_S184 (.inl rfl) rfl) shapeCasts_S184_S184x1

/-- The rows' largest magnitudes at an index. -/
theorem kAmax_at (v : FVec Ideal S184x5120 .f32) (r : Fin 184) (z : Fin 1) : kAmax v (ix2 r z) = Rows.amax (fun k => v (ix2 r k)) := by
  unfold Rows.amax
  pointwise [kAmax]

/-- The quantiser's scales from the rows' largest magnitudes, as the program computes them. -/
def kScaleOf (a : FVec Ideal S184x1 .f32) : FVec Ideal S184x1 .f32 :=
  select (cmpf .oeq a (broadcast S184x1 (Scalar.ofBits (F := Ideal) .f32 0x00000000#32))) (broadcast S184x1 (Scalar.ofBits (F := Ideal) .f32 0x3F800000#32))
    (divf a (broadcast S184x1 (Scalar.ofBits (F := Ideal) .f32 0x43E00000#32)))

/-- The scales at an index, from the largest magnitudes. -/
theorem kScaleOf_at (a : FVec Ideal S184x1 .f32) (r : Fin 184) (z : Fin 1) : kScaleOf a (ix2 r z) = Rows.scale 0x43E00000#32 (a (ix2 r z)) := by
  unfold Rows.scale
  pointwise [kScaleOf]

/-- The quantiser's scales of the rows, as the program computes them. -/
def kScale (v : FVec Ideal S184x5120 .f32) : FVec Ideal S184x1 .f32 := kScaleOf (kAmax v)

/-- The quantised rows, as the program computes them. -/
def kQuant (v : FVec Ideal S184x5120 .f32) (s : FVec Ideal S184x1 .f32) : FVec Ideal S184x5120 .fp8e4m3 :=
  truncf .fp8e4m3 (minimumf (broadcast S184x5120 (Scalar.ofBits (F := Ideal) .f32 0x43E00000#32)) (maximumf (broadcast S184x5120 (Scalar.ofBits (F := Ideal) .f32 0xC3E00000#32))
    (divf v (broadcastTo S184x5120 s broadcasts_S184x1_S184x5120)))) bitsLt_fp8e4m3_f32

/-- The scales at an index are the row function's. -/
theorem kScale_at (v : FVec Ideal S184x5120 .f32) (r : Fin 184) (z : Fin 1) :
    kScale v (ix2 r z) = Rows.scale 0x43E00000#32 (Rows.amax (fun k => v (ix2 r k))) := by
  unfold kScale
  rw [kScaleOf_at, kAmax_at]

/-- The quantised rows at an index are the row function's. -/
theorem kQuant_at (v : FVec Ideal S184x5120 .f32) (s : FVec Ideal S184x1 .f32) (r : Fin 184) (k : Fin 5120) :
    (kQuant v s (ix2 r k) : EReal) = Rows.quant (v (ix2 r k)) (s (ix2 r 0)) := by
  pointwise [kQuant, Rows.quant]

/-- The program's normalised rows at an index. -/
theorem pay1_at (x : Vec Ideal S184x5120 .bf16) (g b : Vec Ideal S1x5120 .f32) (r : Fin 184) (k : Fin 5120) :
    k0_pay1 (F := Ideal) x g b (ix2 r k) = Rows.ln (fun k => x (ix2 r k)) (fun k => g (ix2 0 k)) (fun k => b (ix2 0 k)) k :=
  kLn_at (extf .f32 x bitsLt_bf16_f32) g b r k

/-- The program's scales at an index. -/
theorem pay2_at (x : Vec Ideal S184x5120 .bf16) (g b : Vec Ideal S1x5120 .f32) (r : Fin 184) (z : Fin 1) :
    k0_pay2 (F := Ideal) x g b (ix2 r z)
      = Rows.scale 0x43E00000#32 (Rows.amax (Rows.ln (fun k => x (ix2 r k)) (fun k => g (ix2 0 k)) (fun k => b (ix2 0 k)))) := by
  refine (kScale_at (k0_pay1 (F := Ideal) x g b) r z).trans ?_
  congr 2
  funext k
  exact pay1_at x g b r k

/-- The program's quantised rows at an index. -/
theorem pay3_at (x : Vec Ideal S184x5120 .bf16) (g b : Vec Ideal S1x5120 .f32) (r : Fin 184) (k : Fin 5120) :
    (k0_pay3 (F := Ideal) x g b (ix2 r k) : EReal)
      = Rows.quant (Rows.ln (fun k => x (ix2 r k)) (fun k => g (ix2 0 k)) (fun k => b (ix2 0 k)) k)
          (Rows.scale 0x43E00000#32 (Rows.amax (Rows.ln (fun k => x (ix2 r k)) (fun k => g (ix2 0 k)) (fun k => b (ix2 0 k))))) := by
  refine (kQuant_at (k0_pay1 (F := Ideal) x g b) (k0_pay2 (F := Ideal) x g b) r k).trans ?_
  rw [pay1_at, pay2_at]

end Cert.Ln1Ideal.RowValue

namespace Cert.RefLn1Ideal.RowValue

open Cert Cert.RefLn1Ideal Cert.RefLn1Ideal.Gen Idealize.ShloMosaic Idealize.ShloMosaic.TcCoe Idealize.SL.Sem

/-- The rows' means, as the program computes them. -/
def kMean (v : FVec Ideal S5520x5120 .f32) : FVec Ideal S5520x1 .f32 :=
  divf (shapeCast S5520x1 (multiReduction .add [1] S5520 v 0x00000000#32 reduces_S5520x5120_S5520 (.inl rfl) rfl) shapeCasts_S5520_S5520x1)
    (broadcast S5520x1 (Scalar.ofBits (F := Ideal) .f32 0x45A00000#32))

/-- The rows with their means taken off. -/
def kDev (v : FVec Ideal S5520x5120 .f32) : FVec Ideal S5520x5120 .f32 :=
  subf v (broadcastTo S5520x5120 (kMean v) broadcasts_S5520x1_S5520x5120)

/-- The rows normalised, from the centred rows and their variances. -/
def kNorm (d : FVec Ideal S5520x5120 .f32) (w : FVec Ideal S5520x1 .f32) (g b : FVec Ideal S1x5120 .f32) : FVec Ideal S5520x5120 .f32 :=
  addf (mulf (divf d (broadcastTo S5520x5120 (sqrt (addf w (broadcast S5520x1 (Scalar.ofBits (F := Ideal) .f32 0x3727C5AC#32)))) broadcasts_S5520x1_S5520x5120))
    (broadcastTo S5520x5120 g broadcasts_S1x5120_S5520x5120)) (broadcastTo S5520x5120 b broadcasts_S1x5120_S5520x5120)

/-- The rows' means at an index. -/
theorem kMean_at (v : FVec Ideal S5520x5120 .f32) (r : Fin 5520) (z : Fin 1) : kMean v (ix2 r z) = Rows.mean (fun k => v (ix2 r k)) := by
  pointwise [kMean, Rows.mean]

/-- The centred rows at an index. -/
theorem kDev_at (v : FVec Ideal S5520x5120 .f32) (r : Fin 5520) (k : Fin 5120) : kDev v (ix2 r k) = Rows.dev (fun k => v (ix2 r k)) k := by
  pointwise [kDev, Rows.dev]
  rw [kMean_at]

/-- The normalised rows at an index, from the centred rows and the variances. -/
theorem kNorm_at (d : FVec Ideal S5520x5120 .f32) (w : FVec Ideal S5520x1 .f32) (g b : FVec Ideal S1x5120 .f32) (r : Fin 5520) (k : Fin 5120) :
    kNorm d w g b (ix2 r k) = Ideal.div (d (ix2 r k)) (Ideal.sqrt (w (ix2 r 0) + Ideal.ofBits FTy.f32 0x3727C5AC#32)) * g (ix2 0 k) + b (ix2 0 k) := by
  pointwise [kNorm]

/-- The whole layer normalisation, as the program computes it. -/
def kLn (v : FVec Ideal S5520x5120 .f32) (g b : FVec Ideal S1x5120 .f32) : FVec Ideal S5520x5120 .f32 :=
  kNorm (kDev v) (kMean (mulf (kDev v) (kDev v))) g b

/-- The layer normalisation at an index is the row function's. -/
theorem kLn_at (v : FVec Ideal S5520x5120 .f32) (g b : FVec Ideal S1x5120 .f32) (r : Fin 5520) (k : Fin 5120) :
    kLn v g b (ix2 r k) = Rows.ln (fun k => v (ix2 r k)) (fun k => g (ix2 0 k)) (fun k => b (ix2 0 k)) k := by
  unfold kLn
  rw [kNorm_at, kMean_at, kDev_at]
  unfold Rows.ln
  congr 6
  funext j
  exact congrArg₂ (· * ·) (kDev_at v r j) (kDev_at v r j)

/-- The rows' largest magnitudes, as the program computes them. -/
def kAmax (v : FVec Ideal S5520x5120 .f32) : FVec Ideal S5520x1 .f32 :=
  shapeCast S5520x1 (multiReduction .maximumf [1] S5520 (absf v) 0xFF800000#32 reduces_S5520x5120_S5520 (.inl rfl) rfl) shapeCasts_S5520_S5520x1

/-- The rows' largest magnitudes at an index. -/
theorem kAmax_at (v : FVec Ideal S5520x5120 .f32) (r : Fin 5520) (z : Fin 1) : kAmax v (ix2 r z) = Rows.amax (fun k => v (ix2 r k)) := by
  unfold Rows.amax
  pointwise [kAmax]

/-- The quantiser's scales from the rows' largest magnitudes, as the program computes them. -/
def kScaleOf (a : FVec Ideal S5520x1 .f32) : FVec Ideal S5520x1 .f32 :=
  select (cmpf .oeq a (broadcast S5520x1 (Scalar.ofBits (F := Ideal) .f32 0x00000000#32))) (broadcast S5520x1 (Scalar.ofBits (F := Ideal) .f32 0x3F800000#32))
    (divf a (broadcast S5520x1 (Scalar.ofBits (F := Ideal) .f32 0x43E00000#32)))

/-- The scales at an index, from the largest magnitudes. -/
theorem kScaleOf_at (a : FVec Ideal S5520x1 .f32) (r : Fin 5520) (z : Fin 1) : kScaleOf a (ix2 r z) = Rows.scale 0x43E00000#32 (a (ix2 r z)) := by
  unfold Rows.scale
  pointwise [kScaleOf]

/-- The quantiser's scales of the rows, as the program computes them. -/
def kScale (v : FVec Ideal S5520x5120 .f32) : FVec Ideal S5520x1 .f32 := kScaleOf (kAmax v)

/-- The quantised rows, as the program computes them. -/
def kQuant (v : FVec Ideal S5520x5120 .f32) (s : FVec Ideal S5520x1 .f32) : FVec Ideal S5520x5120 .fp8e4m3 :=
  truncf .fp8e4m3 (minimumf (broadcast S5520x5120 (Scalar.ofBits (F := Ideal) .f32 0x43E00000#32)) (maximumf (broadcast S5520x5120 (Scalar.ofBits (F := Ideal) .f32 0xC3E00000#32))
    (divf v (broadcastTo S5520x5120 s broadcasts_S5520x1_S5520x5120)))) bitsLt_fp8e4m3_f32

/-- The scales at an index are the row function's. -/
theorem kScale_at (v : FVec Ideal S5520x5120 .f32) (r : Fin 5520) (z : Fin 1) :
    kScale v (ix2 r z) = Rows.scale 0x43E00000#32 (Rows.amax (fun k => v (ix2 r k))) := by
  unfold kScale
  rw [kScaleOf_at, kAmax_at]

/-- The quantised rows at an index are the row function's. -/
theorem kQuant_at (v : FVec Ideal S5520x5120 .f32) (s : FVec Ideal S5520x1 .f32) (r : Fin 5520) (k : Fin 5120) :
    (kQuant v s (ix2 r k) : EReal) = Rows.quant (v (ix2 r k)) (s (ix2 r 0)) := by
  pointwise [kQuant, Rows.quant]

/-- The program's normalised rows at an index. -/
theorem pay1_at (x : Vec Ideal S5520x5120 .bf16) (g b : Vec Ideal S1x5120 .f32) (r : Fin 5520) (k : Fin 5120) :
    k0_pay1 (F := Ideal) x g b (ix2 r k) = Rows.ln (fun k => x (ix2 r k)) (fun k => g (ix2 0 k)) (fun k => b (ix2 0 k)) k :=
  kLn_at (extf .f32 x bitsLt_bf16_f32) g b r k

/-- The program's scales at an index. -/
theorem pay2_at (x : Vec Ideal S5520x5120 .bf16) (g b : Vec Ideal S1x5120 .f32) (r : Fin 5520) (z : Fin 1) :
    k0_pay2 (F := Ideal) x g b (ix2 r z)
      = Rows.scale 0x43E00000#32 (Rows.amax (Rows.ln (fun k => x (ix2 r k)) (fun k => g (ix2 0 k)) (fun k => b (ix2 0 k)))) := by
  refine (kScale_at (k0_pay1 (F := Ideal) x g b) r z).trans ?_
  congr 2
  funext k
  exact pay1_at x g b r k

/-- The program's quantised rows at an index. -/
theorem pay3_at (x : Vec Ideal S5520x5120 .bf16) (g b : Vec Ideal S1x5120 .f32) (r : Fin 5520) (k : Fin 5120) :
    (k0_pay3 (F := Ideal) x g b (ix2 r k) : EReal)
      = Rows.quant (Rows.ln (fun k => x (ix2 r k)) (fun k => g (ix2 0 k)) (fun k => b (ix2 0 k)) k)
          (Rows.scale 0x43E00000#32 (Rows.amax (Rows.ln (fun k => x (ix2 r k)) (fun k => g (ix2 0 k)) (fun k => b (ix2 0 k))))) := by
  refine (kQuant_at (k0_pay1 (F := Ideal) x g b) (k0_pay2 (F := Ideal) x g b) r k).trans ?_
  rw [pay1_at, pay2_at]

end Cert.RefLn1Ideal.RowValue

end
-- ==== Proof.Ln1Value.lean ====
/- The first layer normalisation and its quantisation: the arrays the tiled kernel leaves are the reference's arrays. -/
module

public import proofs.«01_k».proof.Proof.Ln1Rows
public import proofs.«01_k».proof.Proof.Gen.RefLn1Ideal.Value
public import proofs.«01_k».proof.Defs
public import Idealize.ShloMosaic.Lib.Pipeline.ValueKit
public import Idealize.ShloMosaic.Lib.Claim

@[expose] public section

set_option maxRecDepth 16384

noncomputable section

namespace Cert.Ln1Ideal.TileValue

open Cert.Ln1Ideal Cert.Ln1Ideal.Gen Idealize.ShloMosaic Idealize.ShloMosaic.TcCoe Idealize.SL.Sem
open Idealize.ShloMosaic.Pipeline (Dat)

variable (m : (ℓ : Loc nD τ sig) → Buf (Elt Ideal) ℓ)

/-- The windows' block indices at every grid point: row tile `t`. -/
theorem idx : ∀ t : Fin cfg0.N, win0_0.index t = ![t.val, 0] ∧ win0_1.index t = ![0, 0]
    ∧ win0_2.index t = ![0, 0] ∧ win0_3.index t = ![t.val, 0] ∧ win0_4.index t = ![t.val, 0] :=
  (by decide +kernel : ∀ t : Fin grid0.N, _)

/-- A row of a tile of the activations is the row of the array it is cut from. -/
theorem row0 (c : Dev nD) (t : Fin cfg0.N) (r : Fin 184) (i : Fin 5520) (h : (i : ℕ) = t.val * 184 + r) :
    (fun k : Fin 5120 => iblk m c 0 t (ix2 r k)) = fun k => m ((c : Thread nD τ).loc main_arg0) (ix2 i k) := by
  funext k
  blk_ext [iblk, V, idx t]

/-- The gain's block is the gain. -/
theorem row1 (c : Dev nD) (t : Fin cfg0.N) :
    (fun k : Fin 5120 => iblk m c 1 t (ix2 (0 : Fin 1) k)) = fun k => m ((c : Thread nD τ).loc main_arg1) (ix2 (0 : Fin 1) k) := by
  funext k
  blk_ext [iblk, V, idx t]

/-- The shift's block is the shift. -/
theorem row2 (c : Dev nD) (t : Fin cfg0.N) :
    (fun k : Fin 5120 => iblk m c 2 t (ix2 (0 : Fin 1) k)) = fun k => m ((c : Thread nD τ).loc main_arg2) (ix2 (0 : Fin 1) k) := by
  funext k
  blk_ext [iblk, V, idx t]

/-- The tile's quantised rows are the reference's. -/
theorem code (c : Dev nD) (t : Fin cfg0.N) (y : S184x5120.Idx) (j : Cert.RefLn1Ideal.S5520x5120.Idx)
    (h0 : (j 0 : ℕ) = t.val * 184 + y 0) (h1 : (j 1 : ℕ) = y 1) :
    k0_pay3 (F := Ideal) (iblk m c 0 t) (iblk m c 1 t) (iblk m c 2 t) y
      = Cert.RefLn1Ideal.Gen.k0_pay3 (F := Ideal) (m ((c : Thread nD τ).loc main_arg0)) (m ((c : Thread nD τ).loc main_arg1))
          (m ((c : Thread nD τ).loc main_arg2)) j := by
  have hj : j = ix2 (j 0 : Fin 5520) (y 1 : Fin 5120) := by blk_ext
  have hy : y = ix2 (y 0 : Fin 184) (y 1 : Fin 5120) := by blk_ext
  rw [hj, hy]
  refine (RowValue.pay3_at _ _ _ (y 0) (y 1)).trans (Eq.trans ?_ (Cert.RefLn1Ideal.RowValue.pay3_at _ _ _ (j 0) (y 1)).symm)
  rw [row0 m c t (y 0) (j 0) h0, row1 m c t, row2 m c t]

/-- The tile's scales are the reference's. -/
theorem scale (c : Dev nD) (t : Fin cfg0.N) (y : S184x1.Idx) (j : Cert.RefLn1Ideal.S5520x1.Idx)
    (h0 : (j 0 : ℕ) = t.val * 184 + y 0) :
    k0_pay2 (F := Ideal) (iblk m c 0 t) (iblk m c 1 t) (iblk m c 2 t) y
      = Cert.RefLn1Ideal.Gen.k0_pay2 (F := Ideal) (m ((c : Thread nD τ).loc main_arg0)) (m ((c : Thread nD τ).loc main_arg1))
          (m ((c : Thread nD τ).loc main_arg2)) j := by
  have hj : j = ix2 (j 0 : Fin 5520) (j 1 : Fin 1) := by blk_ext
  have hy : y = ix2 (y 0 : Fin 184) (y 1 : Fin 1) := by blk_ext
  rw [hj, hy]
  refine (RowValue.pay2_at _ _ _ (y 0) (y 1)).trans (Eq.trans ?_ (Cert.RefLn1Ideal.RowValue.pay2_at _ _ _ (j 0) (j 1)).symm)
  rw [row0 m c t (y 0) (j 0) h0, row1 m c t, row2 m c t]

/-- The quantised array after the run is the reference's term of the same arguments. -/
theorem final3 (c : Dev nD) : (dats m 0 c).arrAt 3 (cfgs 0).N
    = Cert.RefLn1Ideal.Value.G3 (F := Ideal) (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]; frame_out
  refine code m c t y _ ?_ ?_
  all_goals blk_simp [idx t]

/-- The scales after the run are the reference's term of the same arguments. -/
theorem final4 (c : Dev nD) : (dats m 0 c).arrAt 4 (cfgs 0).N
    = Cert.RefLn1Ideal.Value.G4 (F := Ideal) (m ((c : Thread nD τ).loc main_arg0)) (m ((c : Thread nD τ).loc main_arg1))
        (m ((c : Thread nD τ).loc main_arg2)) := by
  refine (dats m 0 c).arrAt_eq_of_covers 4 _ (by decide +kernel) fun t _ y => ?_
  blk_simp
  rw [after0_4]; frame_out
  refine scale m c t y _ ?_
  all_goals blk_simp [idx t]

/-- The kernel and its reference compute the same arrays. -/
theorem algebraic : Cert.algebraic_Ln1Ideal_RefLn1Ideal := by
  pair_intro
  · run_from Cert.Ln1Ideal.Gen.run_main m g
  · refine (θ_run _ _ _).mono (fun r h c => ?_) (Cert.RefLn1Ideal.Value.run m' g')
    obtain ⟨h3, h4, k0, k1, k2⟩ := h c
    obtain ⟨e0, e1, e2⟩ := hagree c
    rw [e0, e1, e2] at h3 h4
    exact ⟨h3.trans (final3 m c).symm, h4.trans (final4 m c).symm, k0, k1, k2⟩

end Cert.Ln1Ideal.TileValue

end
-- ==== Proof.OprojTBody.lean ====
/- The output projection of the temporal attention (OprojT): what its body leaves in the staging buffers, for any contents of the
   rows past the end of the arrays, and the run of the whole call. -/
module

public import proofs.«01_k».proof.Proof.Gen.OprojT.Frame
public import proofs.«01_k».proof.Proof.Gen.OprojT.Skeleton
public import Idealize.ShloMosaic.Lib.Pipeline.FrameBody
public import Idealize.ShloMosaic.Lib.Claim
public import Idealize.ShloMosaic.Lib.Tactic

@[expose] public section

set_option maxRecDepth 16384

noncomputable section

namespace Cert.OprojT.Body

open Cert.OprojT Cert.OprojT.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev rA : Rect S192x5120 := Rect.unit (s := S192x5120) ![0, 0] S192x5120.size inb_S192x5120_S192x5120_0_0
abbrev rB : Rect S192x1 := Rect.unit (s := S192x1) ![0, 0] S192x1.size inb_S192x1_S192x1_0_0
abbrev rW : Rect S5120x5120 := Rect.unit (s := S5120x5120) ![0, 0] S5120x5120.size inb_S5120x5120_S5120x5120_0_0
abbrev rC : Rect S1x5120 := Rect.unit (s := S1x5120) ![0, 0] S1x5120.size inb_S1x5120_S1x5120_0_0

/-- What the body leaves in output window 7's buffer. -/
def out0_7 (x0 : Vec F S192x5120 .fp8e4m3) (x1 : Vec F S192x1 .f32) (x2 : Vec F S5120x5120 .fp8e4m3) (x3 : Vec F S1x5120 .f32) (x4 : Vec F S192x5120 .f32) (x5 : Vec F S1x5120 .f32) (x6 : Vec F S1x5120 .f32) : Vec F S192x5120 .f32 :=
  View.canon [⟨rA, k0_pay3 (View.ld x4 rA) (View.ld x0 rA) (View.ld x2 rW) (View.ld x1 rB) (View.ld x3 rC)⟩]

/-- The one store of window 7 covers its buffer. -/
theorem cover0_7 (p0 : Vec F S192x5120 .f32) (y : S192x5120.Idx) :
    ∃ pc ∈ ([⟨rA, p0⟩] : List (View.Piece (Elt F) S192x5120 .f32)), y ∈ pc.1.set :=
  View.cover_of_tiled [⟨rA, p0⟩] S192x5120.size (by rfl) y

/-- What the body leaves in output window 8's buffer. -/
def out0_8 (x0 : Vec F S192x5120 .fp8e4m3) (x1 : Vec F S192x1 .f32) (x2 : Vec F S5120x5120 .fp8e4m3) (x3 : Vec F S1x5120 .f32) (x4 : Vec F S192x5120 .f32) (x5 : Vec F S1x5120 .f32) (x6 : Vec F S1x5120 .f32) : Vec F S192x5120 .fp8e4m3 :=
  View.canon [⟨rA, k0_pay2 (k0_pay4 (View.ld x4 rA) (View.ld x0 rA) (View.ld x2 rW) (View.ld x1 rB) (View.ld x3 rC) (View.ld x5 rC) (View.ld x6 rC)) (k0_pay5 (View.ld x4 rA) (View.ld x0 rA) (View.ld x2 rW) (View.ld x1 rB) (View.ld x3 rC) (View.ld x5 rC) (View.ld x6 rC))⟩]

/-- The one store of window 8 covers its buffer. -/
theorem cover0_8 (p0 : Vec F S192x5120 .fp8e4m3) (y : S192x5120.Idx) :
    ∃ pc ∈ ([⟨rA, p0⟩] : List (View.Piece (Elt F) S192x5120 .fp8e4m3)), y ∈ pc.1.set :=
  View.cover_of_tiled [⟨rA, p0⟩] S192x5120.size (by rfl) y

/-- What the body leaves in output window 9's buffer. -/
def out0_9 (x0 : Vec F S192x5120 .fp8e4m3) (x1 : Vec F S192x1 .f32) (x2 : Vec F S5120x5120 .fp8e4m3) (x3 : Vec F S1x5120 .f32) (x4 : Vec F S192x5120 .f32) (x5 : Vec F S1x5120 .f32) (x6 : Vec F S1x5120 .f32) : Vec F S192x1 .f32 :=
  View.canon [⟨rB, k0_pay1 (k0_pay5 (View.ld x4 rA) (View.ld x0 rA) (View.ld x2 rW) (View.ld x1 rB) (View.ld x3 rC) (View.ld x5 rC) (View.ld x6 rC))⟩]

/-- The one store of window 9 covers its buffer. -/
theorem cover0_9 (p0 : Vec F S192x1 .f32) (y : S192x1.Idx) :
    ∃ pc ∈ ([⟨rB, p0⟩] : List (View.Piece (Elt F) S192x1 .f32)), y ∈ pc.1.set :=
  View.cover_of_tiled [⟨rB, p0⟩] S192x1.size (by rfl) y

set_option maxHeartbeats 1000000 in
/-- The body on whole staging buffers: the inputs stay, each output ends at `out0_W` of the inputs. -/
theorem sound_kernel (c : Dev nD) (E : Set ℕ) (i : grid0.Coords) (arg1 : Memref sig .tc .vmem S192x5120 .fp8e4m3) (harg1 : arg1.IsWhole) (arg2 : Memref sig .tc .vmem S192x1 .f32) (harg2 : arg2.IsWhole) (arg3 : Memref sig .tc .vmem S5120x5120 .fp8e4m3) (harg3 : arg3.IsWhole) (arg4 : Memref sig .tc .vmem S1x5120 .f32) (harg4 : arg4.IsWhole) (arg5 : Memref sig .tc .vmem S192x5120 .f32) (harg5 : arg5.IsWhole) (arg6 : Memref sig .tc .vmem S1x5120 .f32) (harg6 : arg6.IsWhole) (arg7 : Memref sig .tc .vmem S1x5120 .f32) (harg7 : arg7.IsWhole) (arg8 : Memref sig .tc .vmem S192x5120 .f32) (harg8 : arg8.IsWhole) (arg9 : Memref sig .tc .vmem S192x5120 .fp8e4m3) (harg9 : arg9.IsWhole) (arg10 : Memref sig .tc .vmem S192x1 .f32) (harg10 : arg10.IsWhole)
    (x0 : Vec F S192x5120 .fp8e4m3) (x1 : Vec F S192x1 .f32) (x2 : Vec F S5120x5120 .fp8e4m3) (x3 : Vec F S1x5120 .f32) (x4 : Vec F S192x5120 .f32) (x5 : Vec F S1x5120 .f32) (x6 : Vec F S1x5120 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6) ∗ owns (c : Thread nD τ) arg9 fullShare (out0_8 x0 x1 x2 x3 x4 x5 x6) ∗ owns (c : Thread nD τ) arg10 fullShare (out0_9 x0 x1 x2 x3 x4 x5 x6)) -∗ K ⟨⟩))
      ⊢ wp frame (wpE (defs₀ (F := F)) Variants.none c none) E (cc0_oproj_t i arg1 harg1 arg2 harg2 arg3 harg3 arg4 harg4 arg5 harg5 arg6 harg6 arg7 harg7 arg8 harg8 arg9 harg9 arg10 harg10) K := by
  simp only [cc0_oproj_t_eq_skeleton]; unfold cc0_oproj_t_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  isplitl [H8]
  · iexists _; isplitr
    swap; · iexact H8
    ipureintro
    exact View.read_writes_eq_canon _ _ _ (cover0_8 _)
  iexists _; isplitr
  swap; · iexact H9
  ipureintro
  exact View.read_writes_eq_canon _ _ _ (cover0_9 _)

/-- Input window 0's buffer with zeros past the end of the array. -/
def X0 (c : Dev nD) (t : Fin cfg0.N) : Vec F S192x5120 .fp8e4m3 :=
  (cfg0.win 0).fill (cfg0.grid.coords t) (fun _ => Scalar.ofBits .fp8e4m3 0) (iblk m c 0 t)

/-- Input window 1's buffer with zeros past the end of the array. -/
def X1 (c : Dev nD) (t : Fin cfg0.N) : Vec F S192x1 .f32 :=
  (cfg0.win 1).fill (cfg0.grid.coords t) (fun _ => Scalar.ofBits .f32 0) (iblk m c 1 t)

/-- Input window 4's buffer with zeros past the end of the array. -/
def X4 (c : Dev nD) (t : Fin cfg0.N) : Vec F S192x5120 .f32 :=
  (cfg0.win 4).fill (cfg0.grid.coords t) (fun _ => Scalar.ofBits .f32 0) (iblk m c 4 t)

/-- The proof data of the call: the arrays as launched; after the body each input's buffer as fetched and each output's computed
    from them, stated on the rows inside the arrays. -/
def dats (_ : Fin 1) (c : Dev nD) : Dat τ (Elt F) Unit ℕ (UR sig nD τ) ℕ cfg0 c where
  A w := V m c (Pipeline.arrRef spec0 w)
  after w t := match w with
    | ⟨0, _⟩ => X0 m c t
    | ⟨1, _⟩ => X1 m c t
    | ⟨2, _⟩ => iblk m c 2 t
    | ⟨3, _⟩ => iblk m c 3 t
    | ⟨4, _⟩ => X4 m c t
    | ⟨5, _⟩ => iblk m c 5 t
    | ⟨6, _⟩ => iblk m c 6 t
    | ⟨7, _⟩ => out0_7 (X0 m c t) (X1 m c t) (iblk m c 2 t) (iblk m c 3 t) (X4 m c t) (iblk m c 5 t) (iblk m c 6 t)
    | ⟨8, _⟩ => out0_8 (X0 m c t) (X1 m c t) (iblk m c 2 t) (iblk m c 3 t) (X4 m c t) (iblk m c 5 t) (iblk m c 6 t)
    | ⟨9, _⟩ => out0_9 (X0 m c t) (X1 m c t) (iblk m c 2 t) (iblk m c 3 t) (X4 m c t) (iblk m c 5 t) (iblk m c 6 t)
  Φ _ := Pipeline.ΦA spec0 c
  q _ := fullShare
  owed _ := 0

/-- The arrays of the proof data are the launched ones. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = X0 m c t := by dsimp only [dats]
theorem after0_1 (c : Dev nD) (t : Fin cfg0.N) : (dats m 0 c).after 1 t = X1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = X4 m c t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out0_7 (X0 m c t) (X1 m c t) (iblk m c 2 t) (iblk m c 3 t) (X4 m c t) (iblk m c 5 t) (iblk m c 6 t) := by dsimp only [dats]
theorem after0_8 (c : Dev nD) (t : Fin cfg0.N) : (dats m 0 c).after 8 t = out0_8 (X0 m c t) (X1 m c t) (iblk m c 2 t) (iblk m c 3 t) (X4 m c t) (iblk m c 5 t) (iblk m c 6 t) := by dsimp only [dats]
theorem after0_9 (c : Dev nD) (t : Fin cfg0.N) : (dats m 0 c).after 9 t = out0_9 (X0 m c t) (X1 m c t) (iblk m c 2 t) (iblk m c 3 t) (X4 m c t) (iblk m c 5 t) (iblk m c 6 t) := by dsimp only [dats]

/-- Clipped input window 0 is fetched at every point: its block, anything past the array's end. -/
theorem before0_0 (c : Dev nD) (t : Fin cfg0.N) (d) : (dats m 0 c).before 0 t d = (cfg0.win 0).fill (cfg0.grid.coords t) d (iblk m c 0 t) := by
  rw [Dat.before_fetched _ 0 t (fetch0_0 t)]; unfold Dat.fetched Dat.blockOf iblk; rw [A_eq]
/-- Clipped input window 1 is fetched at every point: its block, anything past the array's end. -/
theorem before0_1 (c : Dev nD) (t : Fin cfg0.N) (d) : (dats m 0 c).before 1 t d = (cfg0.win 1).fill (cfg0.grid.coords t) d (iblk m c 1 t) := by
  rw [Dat.before_fetched _ 1 t (fetch0_1 t)]; unfold Dat.fetched Dat.blockOf iblk; rw [A_eq]
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
/-- Clipped input window 4 is fetched at every point: its block, anything past the array's end. -/
theorem before0_4 (c : Dev nD) (t : Fin cfg0.N) (d) : (dats m 0 c).before 4 t d = (cfg0.win 4).fill (cfg0.grid.coords t) d (iblk m c 4 t) := by
  rw [Dat.before_fetched _ 4 t (fetch0_4 t)]; unfold Dat.fetched Dat.blockOf iblk; rw [A_eq]
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- The body at any point. -/
theorem sound_body_any (c : Dev nD) (t : Fin cfg0.N) :
    iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ X, owns (c : Thread nD τ) (st0_7 t) fullShare X)
    ∗ (∃ X, owns (c : Thread nD τ) (st0_8 t) fullShare X)
    ∗ (∃ X, owns (c : Thread nD τ) (st0_9 t) fullShare X))
    ⊢ wp frame (wpE (defs₀ (F := F)) Variants.none c none) Set.univ (bodyAt0 t) (fun _ =>
    iprop((dats m 0 c).Φ t.succ ∗ (dats m 0 c).owesAt () t.succ
    ∗ (∃ d, owns (c : Thread nD τ) (st0_0 t) fullShare ((cfg0.win 0).fill (cfg0.grid.coords t) d ((cfg0.win 0).cut (cfg0.grid.coords t) ((dats m 0 c).after 0 t))))
    ∗ (∃ d, owns (c : Thread nD τ) (st0_1 t) fullShare ((cfg0.win 1).fill (cfg0.grid.coords t) d ((cfg0.win 1).cut (cfg0.grid.coords t) ((dats m 0 c).after 1 t))))
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare ((cfg0.win 4).fill (cfg0.grid.coords t) d ((cfg0.win 4).cut (cfg0.grid.coords t) ((dats m 0 c).after 4 t))))
    ∗ owns (c : Thread nD τ) (st0_5 t) fullShare ((dats m 0 c).after 5 t)
    ∗ owns (c : Thread nD τ) (st0_6 t) fullShare ((dats m 0 c).after 6 t)
    ∗ (∃ X, owns (c : Thread nD τ) (st0_7 t) fullShare X)
    ∗ (∃ X, owns (c : Thread nD τ) (st0_8 t) fullShare X)
    ∗ (∃ X, owns (c : Thread nD τ) (st0_9 t) fullShare X))) := by
  unfold bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ ((cfg0.win 0).fill (cfg0.grid.coords t) d0 (iblk m c 0 t)) ((cfg0.win 1).fill (cfg0.grid.coords t) d1 (iblk m c 1 t)) (iblk m c 2 t) (iblk m c 3 t) ((cfg0.win 4).fill (cfg0.grid.coords t) d4 (iblk m c 4 t)) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexists d0; rw [show (cfg0.win 0).cut (cfg0.grid.coords t) (X0 m c t) = iblk m c 0 t from (cfg0.win 0).cut_fill _ _ _]; iexact H0
  isplitl [H1]; · iexists d1; rw [show (cfg0.win 1).cut (cfg0.grid.coords t) (X1 m c t) = iblk m c 1 t from (cfg0.win 1).cut_fill _ _ _]; iexact H1
  isplitl [H2]; · iexact H2
  isplitl [H3]; · iexact H3
  isplitl [H4]; · iexists d4; rw [show (cfg0.win 4).cut (cfg0.grid.coords t) (X4 m c t) = iblk m c 4 t from (cfg0.win 4).cut_fill _ _ _]; iexact H4
  isplitl [H5]; · iexact H5
  isplitl [H6]; · iexact H6
  isplitl [H7]; · iexists _; iexact H7
  isplitl [H8]; · iexists _; iexact H8
  iexists _; iexact H9

/-- The body table's row is the body. -/
theorem defs₀_row (t : Fin cfg0.N) :
    defs₀ (F := F) .tc cfg0.body (cfg0.bodyArgs t (cfg0.slots t)) = bodyAt0 t := by
  unfold defs₀; rw [Defs.onTc_tc]

/-- The outputs, of which nothing is said when only the arguments matter. -/
def fgt : Fin cfg0.W → Bool := fun | 7 => true | 8 => true | 9 => true | _ => false

/-- The body obligation with the outputs left open. -/
theorem obligation_any (c : Dev nD) : BodyObligationLoose (dats (F := F) m 0 c) (defs₀ (F := F)) Variants.none () Set.univ fgt := fun t => by
  rw [bigSep_W0, bigSep_W0, defs₀_row]
  exact triple_restated (sound_body_any m c t) rfl .rfl fun _ => .rfl

set_option backward.isDefEq.respectTransparency.types false in
set_option maxHeartbeats 800000 in
/-- The run with the outputs left open. -/
theorem run_any : θ_run defs (onTc (τ := τ) (main (F := F))) (s₀ m ρ)
    (fun r => Pipeline.RDat.FramePost (cfgs 0) (fun c => (dats m 0 c).toRForget fgt) (V m) r ∧ r.2.sem = fun _ => 0) :=
  Pipeline.θ_run_frame_forget (Q' := _) cfgs (dats m) (0 : Fin 1) launch0 defs₀ Variants.none fgt m ρ main
    (hbody := obligation_any m) (hshare := fun c => (dats m 0 c).share_full fun _ => rfl)
    (howed := fun _ _ => rfl) (V := V m) (hmain := hmain m Variants.none) (hA := A_eq m) (hΦ := fun _ _ => rfl)

/-- The call runs to its end and leaves its arguments as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨h.1.arr_in c 0 rfl, h.1.arr_in c 1 rfl, h.1.arr_in c 2 rfl, h.1.arr_in c 3 rfl, h.1.arr_in c 4 rfl, h.1.arr_in c 5 rfl, h.1.arr_in c 6 rfl⟩, h.2⟩) (run_any m ρ)

end Cert.OprojT.Body

end
-- ==== Proof.OprojTIdealBody.lean ====
/- The output projection of the temporal attention (OprojTIdeal): what its body leaves in the staging buffers, for any contents of the
   rows past the end of the arrays, and the run of the whole call. -/
module

public import proofs.«01_k».proof.Proof.Gen.OprojTIdeal.Frame
public import proofs.«01_k».proof.Proof.Gen.OprojTIdeal.Skeleton
public import Idealize.ShloMosaic.Lib.Pipeline.FrameBody
public import Idealize.ShloMosaic.Lib.Claim
public import Idealize.ShloMosaic.Lib.Tactic

@[expose] public section

set_option maxRecDepth 16384

noncomputable section

namespace Cert.OprojTIdeal.Body

open Cert.OprojTIdeal Cert.OprojTIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev rA : Rect S192x5120 := Rect.unit (s := S192x5120) ![0, 0] S192x5120.size inb_S192x5120_S192x5120_0_0
abbrev rB : Rect S192x1 := Rect.unit (s := S192x1) ![0, 0] S192x1.size inb_S192x1_S192x1_0_0
abbrev rW : Rect S5120x5120 := Rect.unit (s := S5120x5120) ![0, 0] S5120x5120.size inb_S5120x5120_S5120x5120_0_0
abbrev rC : Rect S1x5120 := Rect.unit (s := S1x5120) ![0, 0] S1x5120.size inb_S1x5120_S1x5120_0_0

/-- What the body leaves in output window 7's buffer. -/
def out0_7 (x0 : Vec F S192x5120 .fp8e4m3) (x1 : Vec F S192x1 .f32) (x2 : Vec F S5120x5120 .fp8e4m3) (x3 : Vec F S1x5120 .f32) (x4 : Vec F S192x5120 .f32) (x5 : Vec F S1x5120 .f32) (x6 : Vec F S1x5120 .f32) : Vec F S192x5120 .f32 :=
  View.canon [⟨rA, k0_pay3 (View.ld x4 rA) (View.ld x0 rA) (View.ld x2 rW) (View.ld x1 rB) (View.ld x3 rC)⟩]

/-- The one store of window 7 covers its buffer. -/
theorem cover0_7 (p0 : Vec F S192x5120 .f32) (y : S192x5120.Idx) :
    ∃ pc ∈ ([⟨rA, p0⟩] : List (View.Piece (Elt F) S192x5120 .f32)), y ∈ pc.1.set :=
  View.cover_of_tiled [⟨rA, p0⟩] S192x5120.size (by rfl) y

/-- What the body leaves in output window 8's buffer. -/
def out0_8 (x0 : Vec F S192x5120 .fp8e4m3) (x1 : Vec F S192x1 .f32) (x2 : Vec F S5120x5120 .fp8e4m3) (x3 : Vec F S1x5120 .f32) (x4 : Vec F S192x5120 .f32) (x5 : Vec F S1x5120 .f32) (x6 : Vec F S1x5120 .f32) : Vec F S192x5120 .fp8e4m3 :=
  View.canon [⟨rA, k0_pay2 (k0_pay4 (View.ld x4 rA) (View.ld x0 rA) (View.ld x2 rW) (View.ld x1 rB) (View.ld x3 rC) (View.ld x5 rC) (View.ld x6 rC)) (k0_pay5 (View.ld x4 rA) (View.ld x0 rA) (View.ld x2 rW) (View.ld x1 rB) (View.ld x3 rC) (View.ld x5 rC) (View.ld x6 rC))⟩]

/-- The one store of window 8 covers its buffer. -/
theorem cover0_8 (p0 : Vec F S192x5120 .fp8e4m3) (y : S192x5120.Idx) :
    ∃ pc ∈ ([⟨rA, p0⟩] : List (View.Piece (Elt F) S192x5120 .fp8e4m3)), y ∈ pc.1.set :=
  View.cover_of_tiled [⟨rA, p0⟩] S192x5120.size (by rfl) y

/-- What the body leaves in output window 9's buffer. -/
def out0_9 (x0 : Vec F S192x5120 .fp8e4m3) (x1 : Vec F S192x1 .f32) (x2 : Vec F S5120x5120 .fp8e4m3) (x3 : Vec F S1x5120 .f32) (x4 : Vec F S192x5120 .f32) (x5 : Vec F S1x5120 .f32) (x6 : Vec F S1x5120 .f32) : Vec F S192x1 .f32 :=
  View.canon [⟨rB, k0_pay1 (k0_pay5 (View.ld x4 rA) (View.ld x0 rA) (View.ld x2 rW) (View.ld x1 rB) (View.ld x3 rC) (View.ld x5 rC) (View.ld x6 rC))⟩]

/-- The one store of window 9 covers its buffer. -/
theorem cover0_9 (p0 : Vec F S192x1 .f32) (y : S192x1.Idx) :
    ∃ pc ∈ ([⟨rB, p0⟩] : List (View.Piece (Elt F) S192x1 .f32)), y ∈ pc.1.set :=
  View.cover_of_tiled [⟨rB, p0⟩] S192x1.size (by rfl) y

set_option maxHeartbeats 1000000 in
/-- The body on whole staging buffers: the inputs stay, each output ends at `out0_W` of the inputs. -/
theorem sound_kernel (c : Dev nD) (E : Set ℕ) (i : grid0.Coords) (arg1 : Memref sig .tc .vmem S192x5120 .fp8e4m3) (harg1 : arg1.IsWhole) (arg2 : Memref sig .tc .vmem S192x1 .f32) (harg2 : arg2.IsWhole) (arg3 : Memref sig .tc .vmem S5120x5120 .fp8e4m3) (harg3 : arg3.IsWhole) (arg4 : Memref sig .tc .vmem S1x5120 .f32) (harg4 : arg4.IsWhole) (arg5 : Memref sig .tc .vmem S192x5120 .f32) (harg5 : arg5.IsWhole) (arg6 : Memref sig .tc .vmem S1x5120 .f32) (harg6 : arg6.IsWhole) (arg7 : Memref sig .tc .vmem S1x5120 .f32) (harg7 : arg7.IsWhole) (arg8 : Memref sig .tc .vmem S192x5120 .f32) (harg8 : arg8.IsWhole) (arg9 : Memref sig .tc .vmem S192x5120 .fp8e4m3) (harg9 : arg9.IsWhole) (arg10 : Memref sig .tc .vmem S192x1 .f32) (harg10 : arg10.IsWhole)
    (x0 : Vec F S192x5120 .fp8e4m3) (x1 : Vec F S192x1 .f32) (x2 : Vec F S5120x5120 .fp8e4m3) (x3 : Vec F S1x5120 .f32) (x4 : Vec F S192x5120 .f32) (x5 : Vec F S1x5120 .f32) (x6 : Vec F S1x5120 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6) ∗ owns (c : Thread nD τ) arg9 fullShare (out0_8 x0 x1 x2 x3 x4 x5 x6) ∗ owns (c : Thread nD τ) arg10 fullShare (out0_9 x0 x1 x2 x3 x4 x5 x6)) -∗ K ⟨⟩))
      ⊢ wp frame (wpE (defs₀ (F := F)) Variants.none c none) E (cc0_oproj_t i arg1 harg1 arg2 harg2 arg3 harg3 arg4 harg4 arg5 harg5 arg6 harg6 arg7 harg7 arg8 harg8 arg9 harg9 arg10 harg10) K := by
  simp only [cc0_oproj_t_eq_skeleton]; unfold cc0_oproj_t_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  isplitl [H8]
  · iexists _; isplitr
    swap; · iexact H8
    ipureintro
    exact View.read_writes_eq_canon _ _ _ (cover0_8 _)
  iexists _; isplitr
  swap; · iexact H9
  ipureintro
  exact View.read_writes_eq_canon _ _ _ (cover0_9 _)

/-- Input window 0's buffer with zeros past the end of the array. -/
def X0 (c : Dev nD) (t : Fin cfg0.N) : Vec F S192x5120 .fp8e4m3 :=
  (cfg0.win 0).fill (cfg0.grid.coords t) (fun _ => Scalar.ofBits .fp8e4m3 0) (iblk m c 0 t)

/-- Input window 1's buffer with zeros past the end of the array. -/
def X1 (c : Dev nD) (t : Fin cfg0.N) : Vec F S192x1 .f32 :=
  (cfg0.win 1).fill (cfg0.grid.coords t) (fun _ => Scalar.ofBits .f32 0) (iblk m c 1 t)

/-- Input window 4's buffer with zeros past the end of the array. -/
def X4 (c : Dev nD) (t : Fin cfg0.N) : Vec F S192x5120 .f32 :=
  (cfg0.win 4).fill (cfg0.grid.coords t) (fun _ => Scalar.ofBits .f32 0) (iblk m c 4 t)

/-- The proof data of the call: the arrays as launched; after the body each input's buffer as fetched and each output's computed
    from them, stated on the rows inside the arrays. -/
def dats (_ : Fin 1) (c : Dev nD) : Dat τ (Elt F) Unit ℕ (UR sig nD τ) ℕ cfg0 c where
  A w := V m c (Pipeline.arrRef spec0 w)
  after w t := match w with
    | ⟨0, _⟩ => X0 m c t
    | ⟨1, _⟩ => X1 m c t
    | ⟨2, _⟩ => iblk m c 2 t
    | ⟨3, _⟩ => iblk m c 3 t
    | ⟨4, _⟩ => X4 m c t
    | ⟨5, _⟩ => iblk m c 5 t
    | ⟨6, _⟩ => iblk m c 6 t
    | ⟨7, _⟩ => out0_7 (X0 m c t) (X1 m c t) (iblk m c 2 t) (iblk m c 3 t) (X4 m c t) (iblk m c 5 t) (iblk m c 6 t)
    | ⟨8, _⟩ => out0_8 (X0 m c t) (X1 m c t) (iblk m c 2 t) (iblk m c 3 t) (X4 m c t) (iblk m c 5 t) (iblk m c 6 t)
    | ⟨9, _⟩ => out0_9 (X0 m c t) (X1 m c t) (iblk m c 2 t) (iblk m c 3 t) (X4 m c t) (iblk m c 5 t) (iblk m c 6 t)
  Φ _ := Pipeline.ΦA spec0 c
  q _ := fullShare
  owed _ := 0

/-- The arrays of the proof data are the launched ones. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = X0 m c t := by dsimp only [dats]
theorem after0_1 (c : Dev nD) (t : Fin cfg0.N) : (dats m 0 c).after 1 t = X1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = X4 m c t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out0_7 (X0 m c t) (X1 m c t) (iblk m c 2 t) (iblk m c 3 t) (X4 m c t) (iblk m c 5 t) (iblk m c 6 t) := by dsimp only [dats]
theorem after0_8 (c : Dev nD) (t : Fin cfg0.N) : (dats m 0 c).after 8 t = out0_8 (X0 m c t) (X1 m c t) (iblk m c 2 t) (iblk m c 3 t) (X4 m c t) (iblk m c 5 t) (iblk m c 6 t) := by dsimp only [dats]
theorem after0_9 (c : Dev nD) (t : Fin cfg0.N) : (dats m 0 c).after 9 t = out0_9 (X0 m c t) (X1 m c t) (iblk m c 2 t) (iblk m c 3 t) (X4 m c t) (iblk m c 5 t) (iblk m c 6 t) := by dsimp only [dats]

/-- Clipped input window 0 is fetched at every point: its block, anything past the array's end. -/
theorem before0_0 (c : Dev nD) (t : Fin cfg0.N) (d) : (dats m 0 c).before 0 t d = (cfg0.win 0).fill (cfg0.grid.coords t) d (iblk m c 0 t) := by
  rw [Dat.before_fetched _ 0 t (fetch0_0 t)]; unfold Dat.fetched Dat.blockOf iblk; rw [A_eq]
/-- Clipped input window 1 is fetched at every point: its block, anything past the array's end. -/
theorem before0_1 (c : Dev nD) (t : Fin cfg0.N) (d) : (dats m 0 c).before 1 t d = (cfg0.win 1).fill (cfg0.grid.coords t) d (iblk m c 1 t) := by
  rw [Dat.before_fetched _ 1 t (fetch0_1 t)]; unfold Dat.fetched Dat.blockOf iblk; rw [A_eq]
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
/-- Clipped input window 4 is fetched at every point: its block, anything past the array's end. -/
theorem before0_4 (c : Dev nD) (t : Fin cfg0.N) (d) : (dats m 0 c).before 4 t d = (cfg0.win 4).fill (cfg0.grid.coords t) d (iblk m c 4 t) := by
  rw [Dat.before_fetched _ 4 t (fetch0_4 t)]; unfold Dat.fetched Dat.blockOf iblk; rw [A_eq]
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- The body at any point. -/
theorem sound_body_any (c : Dev nD) (t : Fin cfg0.N) :
    iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ X, owns (c : Thread nD τ) (st0_7 t) fullShare X)
    ∗ (∃ X, owns (c : Thread nD τ) (st0_8 t) fullShare X)
    ∗ (∃ X, owns (c : Thread nD τ) (st0_9 t) fullShare X))
    ⊢ wp frame (wpE (defs₀ (F := F)) Variants.none c none) Set.univ (bodyAt0 t) (fun _ =>
    iprop((dats m 0 c).Φ t.succ ∗ (dats m 0 c).owesAt () t.succ
    ∗ (∃ d, owns (c : Thread nD τ) (st0_0 t) fullShare ((cfg0.win 0).fill (cfg0.grid.coords t) d ((cfg0.win 0).cut (cfg0.grid.coords t) ((dats m 0 c).after 0 t))))
    ∗ (∃ d, owns (c : Thread nD τ) (st0_1 t) fullShare ((cfg0.win 1).fill (cfg0.grid.coords t) d ((cfg0.win 1).cut (cfg0.grid.coords t) ((dats m 0 c).after 1 t))))
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare ((cfg0.win 4).fill (cfg0.grid.coords t) d ((cfg0.win 4).cut (cfg0.grid.coords t) ((dats m 0 c).after 4 t))))
    ∗ owns (c : Thread nD τ) (st0_5 t) fullShare ((dats m 0 c).after 5 t)
    ∗ owns (c : Thread nD τ) (st0_6 t) fullShare ((dats m 0 c).after 6 t)
    ∗ (∃ X, owns (c : Thread nD τ) (st0_7 t) fullShare X)
    ∗ (∃ X, owns (c : Thread nD τ) (st0_8 t) fullShare X)
    ∗ (∃ X, owns (c : Thread nD τ) (st0_9 t) fullShare X))) := by
  unfold bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ ((cfg0.win 0).fill (cfg0.grid.coords t) d0 (iblk m c 0 t)) ((cfg0.win 1).fill (cfg0.grid.coords t) d1 (iblk m c 1 t)) (iblk m c 2 t) (iblk m c 3 t) ((cfg0.win 4).fill (cfg0.grid.coords t) d4 (iblk m c 4 t)) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexists d0; rw [show (cfg0.win 0).cut (cfg0.grid.coords t) (X0 m c t) = iblk m c 0 t from (cfg0.win 0).cut_fill _ _ _]; iexact H0
  isplitl [H1]; · iexists d1; rw [show (cfg0.win 1).cut (cfg0.grid.coords t) (X1 m c t) = iblk m c 1 t from (cfg0.win 1).cut_fill _ _ _]; iexact H1
  isplitl [H2]; · iexact H2
  isplitl [H3]; · iexact H3
  isplitl [H4]; · iexists d4; rw [show (cfg0.win 4).cut (cfg0.grid.coords t) (X4 m c t) = iblk m c 4 t from (cfg0.win 4).cut_fill _ _ _]; iexact H4
  isplitl [H5]; · iexact H5
  isplitl [H6]; · iexact H6
  isplitl [H7]; · iexists _; iexact H7
  isplitl [H8]; · iexists _; iexact H8
  iexists _; iexact H9

/-- The body table's row is the body. -/
theorem defs₀_row (t : Fin cfg0.N) :
    defs₀ (F := F) .tc cfg0.body (cfg0.bodyArgs t (cfg0.slots t)) = bodyAt0 t := by
  unfold defs₀; rw [Defs.onTc_tc]

/-- The outputs, of which nothing is said when only the arguments matter. -/
def fgt : Fin cfg0.W → Bool := fun | 7 => true | 8 => true | 9 => true | _ => false

/-- The body obligation with the outputs left open. -/
theorem obligation_any (c : Dev nD) : BodyObligationLoose (dats (F := F) m 0 c) (defs₀ (F := F)) Variants.none () Set.univ fgt := fun t => by
  rw [bigSep_W0, bigSep_W0, defs₀_row]
  exact triple_restated (sound_body_any m c t) rfl .rfl fun _ => .rfl

set_option backward.isDefEq.respectTransparency.types false in
set_option maxHeartbeats 800000 in
/-- The run with the outputs left open. -/
theorem run_any : θ_run defs (onTc (τ := τ) (main (F := F))) (s₀ m ρ)
    (fun r => Pipeline.RDat.FramePost (cfgs 0) (fun c => (dats m 0 c).toRForget fgt) (V m) r ∧ r.2.sem = fun _ => 0) :=
  Pipeline.θ_run_frame_forget (Q' := _) cfgs (dats m) (0 : Fin 1) launch0 defs₀ Variants.none fgt m ρ main
    (hbody := obligation_any m) (hshare := fun c => (dats m 0 c).share_full fun _ => rfl)
    (howed := fun _ _ => rfl) (V := V m) (hmain := hmain m Variants.none) (hA := A_eq m) (hΦ := fun _ _ => rfl)

/-- The call runs to its end and leaves its arguments as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨h.1.arr_in c 0 rfl, h.1.arr_in c 1 rfl, h.1.arr_in c 2 rfl, h.1.arr_in c 3 rfl, h.1.arr_in c 4 rfl, h.1.arr_in c 5 rfl, h.1.arr_in c 6 rfl⟩, h.2⟩) (run_any m ρ)

end Cert.OprojTIdeal.Body

end
-- ==== Proof.OprojTRows.lean ====
/- The output projection of the temporal attention at an index: the tile's terms and the reference's terms as the same row functions. -/
module

public import proofs.«01_k».proof.Proof.OprojTIdealBody
public import proofs.«01_k».proof.Proof.Gen.RefOprojTIdeal.Value
public import proofs.«01_k».proof.Proof.Rows

@[expose] public section

set_option maxRecDepth 16384

noncomputable section

namespace Cert.Rows

/-- The residual row after the projection: the row of `h` plus the scaled product. -/
def res (h c : Fin 5120 → EReal) (s : EReal) (W : Fin 5120 → Fin 5120 → EReal) (w : Fin 5120 → EReal) (k : Fin 5120) : EReal :=
  h k + (Idealize.ShloMosaic.Ideal.ofBits Idealize.ShloMosaic.FTy.f32 0x00000000#32 + ∑ j : Fin 5120, c j * W j k) * s * w k

end Cert.Rows

namespace Cert.OprojTIdeal.RowValue

open Cert Cert.OprojTIdeal Cert.OprojTIdeal.Gen Idealize.ShloMosaic Idealize.ShloMosaic.TcCoe Idealize.SL.Sem

/-- The rows' means, as the program computes them. -/
def kMean (v : FVec Ideal S192x5120 .f32) : FVec Ideal S192x1 .f32 :=
  divf (shapeCast S192x1 (multiReduction .add [1] S192 v 0x00000000#32 reduces_S192x5120_S192 (.inl rfl) rfl) shapeCasts_S192_S192x1)
    (broadcast S192x1 (Scalar.ofBits (F := Ideal) .f32 0x45A00000#32))

/-- The rows with their means taken off. -/
def kDev (v : FVec Ideal S192x5120 .f32) : FVec Ideal S192x5120 .f32 :=
  subf v (broadcastTo S192x5120 (kMean v) broadcasts_S192x1_S192x5120)

/-- The rows normalised, from the centred rows and their variances. -/
def kNorm (d : FVec Ideal S192x5120 .f32) (w : FVec Ideal S192x1 .f32) (g b : FVec Ideal S1x5120 .f32) : FVec Ideal S192x5120 .f32 :=
  addf (mulf (divf d (broadcastTo S192x5120 (sqrt (addf w (broadcast S192x1 (Scalar.ofBits (F := Ideal) .f32 0x3727C5AC#32)))) broadcasts_S192x1_S192x5120))
    (broadcastTo S192x5120 g broadcasts_S1x5120_S192x5120)) (broadcastTo S192x5120 b broadcasts_S1x5120_S192x5120)

/-- The rows' means at an index. -/
theorem kMean_at (v : FVec Ideal S192x5120 .f32) (r : Fin 192) (z : Fin 1) : kMean v (ix2 r z) = Rows.mean (fun k => v (ix2 r k)) := by
  pointwise [kMean, Rows.mean]

/-- The centred rows at an index. -/
theorem kDev_at (v : FVec Ideal S192x5120 .f32) (r : Fin 192) (k : Fin 5120) : kDev v (ix2 r k) = Rows.dev (fun k => v (ix2 r k)) k := by
  pointwise [kDev, Rows.dev]
  rw [kMean_at]

/-- The normalised rows at an index, from the centred rows and the variances. -/
theorem kNorm_at (d : FVec Ideal S192x5120 .f32) (w : FVec Ideal S192x1 .f32) (g b : FVec Ideal S1x5120 .f32) (r : Fin 192) (k : Fin 5120) :
    kNorm d w g b (ix2 r k) = Ideal.div (d (ix2 r k)) (Ideal.sqrt (w (ix2 r 0) + Ideal.ofBits FTy.f32 0x3727C5AC#32)) * g (ix2 0 k) + b (ix2 0 k) := by
  pointwise [kNorm]

/-- The whole layer normalisation, as the program computes it. -/
def kLn (v : FVec Ideal S192x5120 .f32) (g b : FVec Ideal S1x5120 .f32) : FVec Ideal S192x5120 .f32 :=
  kNorm (kDev v) (kMean (mulf (kDev v) (kDev v))) g b

/-- The layer normalisation at an index is the row function's. -/
theorem kLn_at (v : FVec Ideal S192x5120 .f32) (g b : FVec Ideal S1x5120 .f32) (r : Fin 192) (k : Fin 5120) :
    kLn v g b (ix2 r k) = Rows.ln (fun k => v (ix2 r k)) (fun k => g (ix2 0 k)) (fun k => b (ix2 0 k)) k := by
  unfold kLn
  rw [kNorm_at, kMean_at, kDev_at]
  unfold Rows.ln
  congr 6
  funext j
  exact congrArg₂ (· * ·) (kDev_at v r j) (kDev_at v r j)

/-- The rows' largest magnitudes, as the program computes them. -/
def kAmax (v : FVec Ideal S192x5120 .f32) : FVec Ideal S192x1 .f32 :=
  shapeCast S192x1 (multiReduction .maximumf [1] S192 (absf v) 0xFF800000#32 reduces_S192x5120_S192 (.inl rfl) rfl) shapeCasts_S192_S192x1

/-- The rows' largest magnitudes at an index. -/
theorem kAmax_at (v : FVec Ideal S192x5120 .f32) (r : Fin 192) (z : Fin 1) : kAmax v (ix2 r z) = Rows.amax (fun k => v (ix2 r k)) := by
  unfold Rows.amax
  pointwise [kAmax]

/-- The quantiser's scales from the rows' largest magnitudes, as the program computes them. -/
def kScaleOf (a : FVec Ideal S192x1 .f32) : FVec Ideal S192x1 .f32 :=
  select (cmpf .oeq a (broadcast S192x1 (Scalar.ofBits (F := Ideal) .f32 0x00000000#32))) (broadcast S192x1 (Scalar.ofBits (F := Ideal) .f32 0x3F800000#32))
    (divf a (broadcast S192x1 (Scalar.ofBits (F := Ideal) .f32 0x43E00000#32)))

/-- The scales at an index, from the largest magnitudes. -/
theorem kScaleOf_at (a : FVec Ideal S192x1 .f32) (r : Fin 192) (z : Fin 1) : kScaleOf a (ix2 r z) = Rows.scale 0x43E00000#32 (a (ix2 r z)) := by
  unfold Rows.scale
  pointwise [kScaleOf]

/-- The quantiser's scales of the rows, as the program computes them. -/
def kScale (v : FVec Ideal S192x5120 .f32) : FVec Ideal S192x1 .f32 := kScaleOf (kAmax v)

/-- The quantised rows, as the program computes them. -/
def kQuant (v : FVec Ideal S192x5120 .f32) (s : FVec Ideal S192x1 .f32) : FVec Ideal S192x5120 .fp8e4m3 :=
  truncf .fp8e4m3 (minimumf (broadcast S192x5120 (Scalar.ofBits (F := Ideal) .f32 0x43E00000#32)) (maximumf (broadcast S192x5120 (Scalar.ofBits (F := Ideal) .f32 0xC3E00000#32))
    (divf v (broadcastTo S192x5120 s broadcasts_S192x1_S192x5120)))) bitsLt_fp8e4m3_f32

/-- The scales at an index are the row function's. -/
theorem kScale_at (v : FVec Ideal S192x5120 .f32) (r : Fin 192) (z : Fin 1) :
    kScale v (ix2 r z) = Rows.scale 0x43E00000#32 (Rows.amax (fun k => v (ix2 r k))) := by
  unfold kScale
  rw [kScaleOf_at, kAmax_at]

/-- The quantised rows at an index are the row function's. -/
theorem kQuant_at (v : FVec Ideal S192x5120 .f32) (s : FVec Ideal S192x1 .f32) (r : Fin 192) (k : Fin 5120) :
    (kQuant v s (ix2 r k) : EReal) = Rows.quant (v (ix2 r k)) (s (ix2 r 0)) := by
  pointwise [kQuant, Rows.quant]

/-- The residual rows at an index. -/
theorem pay3_at (h : Vec Ideal S192x5120 .f32) (a : Vec Ideal S192x5120 .fp8e4m3) (W : Vec Ideal S5120x5120 .fp8e4m3) (s : Vec Ideal S192x1 .f32) (w : Vec Ideal S1x5120 .f32) (r : Fin 192) (k : Fin 5120) :
    k0_pay3 (F := Ideal) h a W s w (ix2 r k) = (Rows.res (fun k => h (ix2 r k)) (fun k => a (ix2 r k)) (s (ix2 r 0)) (fun j k => W (ix2 j k)) (fun k => w (ix2 0 k))) k := by
  pointwise [k0_pay3, Rows.res]

/-- The normalised rows at an index. -/
theorem pay4_at (h : Vec Ideal S192x5120 .f32) (a : Vec Ideal S192x5120 .fp8e4m3) (W : Vec Ideal S5120x5120 .fp8e4m3) (s : Vec Ideal S192x1 .f32) (w : Vec Ideal S1x5120 .f32) (g b : Vec Ideal S1x5120 .f32) (r : Fin 192) (k : Fin 5120) :
    k0_pay4 (F := Ideal) h a W s w g b (ix2 r k) = (Rows.ln (Rows.res (fun k => h (ix2 r k)) (fun k => a (ix2 r k)) (s (ix2 r 0)) (fun j k => W (ix2 j k)) (fun k => w (ix2 0 k))) (fun k => g (ix2 0 k)) (fun k => b (ix2 0 k))) k := by
  refine (kLn_at (k0_pay3 (F := Ideal) h a W s w) g b r k).trans ?_
  rw [show (fun k => k0_pay3 (F := Ideal) h a W s w (ix2 r k)) = (Rows.res (fun k => h (ix2 r k)) (fun k => a (ix2 r k)) (s (ix2 r 0)) (fun j k => W (ix2 j k)) (fun k => w (ix2 0 k))) from funext fun k => pay3_at h a W s w r k]

/-- The scales at an index. -/
theorem scale_at (h : Vec Ideal S192x5120 .f32) (a : Vec Ideal S192x5120 .fp8e4m3) (W : Vec Ideal S5120x5120 .fp8e4m3) (s : Vec Ideal S192x1 .f32) (w : Vec Ideal S1x5120 .f32) (g b : Vec Ideal S1x5120 .f32) (r : Fin 192) (z : Fin 1) :
    k0_pay1 (F := Ideal) (k0_pay5 (F := Ideal) h a W s w g b) (ix2 r z) = Rows.scale 0x43E00000#32 (Rows.amax (Rows.ln (Rows.res (fun k => h (ix2 r k)) (fun k => a (ix2 r k)) (s (ix2 r 0)) (fun j k => W (ix2 j k)) (fun k => w (ix2 0 k))) (fun k => g (ix2 0 k)) (fun k => b (ix2 0 k)))) := by
  refine (kScale_at (k0_pay4 (F := Ideal) h a W s w g b) r z).trans ?_
  rw [show (fun k => (k0_pay4 (F := Ideal) h a W s w g b) (ix2 r k)) = (Rows.ln (Rows.res (fun k => h (ix2 r k)) (fun k => a (ix2 r k)) (s (ix2 r 0)) (fun j k => W (ix2 j k)) (fun k => w (ix2 0 k))) (fun k => g (ix2 0 k)) (fun k => b (ix2 0 k))) from funext fun k => pay4_at h a W s w g b r k]

/-- The codes at an index. -/
theorem code_at (h : Vec Ideal S192x5120 .f32) (a : Vec Ideal S192x5120 .fp8e4m3) (W : Vec Ideal S5120x5120 .fp8e4m3) (s : Vec Ideal S192x1 .f32) (w : Vec Ideal S1x5120 .f32) (g b : Vec Ideal S1x5120 .f32) (r : Fin 192) (k : Fin 5120) :
    (k0_pay2 (F := Ideal) (k0_pay4 (F := Ideal) h a W s w g b) (k0_pay5 (F := Ideal) h a W s w g b) (ix2 r k) : EReal) = Rows.quant ((Rows.ln (Rows.res (fun k => h (ix2 r k)) (fun k => a (ix2 r k)) (s (ix2 r 0)) (fun j k => W (ix2 j k)) (fun k => w (ix2 0 k))) (fun k => g (ix2 0 k)) (fun k => b (ix2 0 k))) k) (Rows.scale 0x43E00000#32 (Rows.amax (Rows.ln (Rows.res (fun k => h (ix2 r k)) (fun k => a (ix2 r k)) (s (ix2 r 0)) (fun j k => W (ix2 j k)) (fun k => w (ix2 0 k))) (fun k => g (ix2 0 k)) (fun k => b (ix2 0 k))))) := by
  refine (kQuant_at (k0_pay4 (F := Ideal) h a W s w g b) (k0_pay1 (F := Ideal) (k0_pay5 (F := Ideal) h a W s w g b)) r k).trans ?_
  rw [pay4_at, scale_at]

end Cert.OprojTIdeal.RowValue

namespace Cert.RefOprojTIdeal.RowValue

open Cert Cert.RefOprojTIdeal Cert.RefOprojTIdeal.Gen Idealize.ShloMosaic Idealize.ShloMosaic.TcCoe Idealize.SL.Sem

/-- The rows' means, as the program computes them. -/
def kMean (v : FVec Ideal S5520x5120 .f32) : FVec Ideal S5520x1 .f32 :=
  divf (shapeCast S5520x1 (multiReduction .add [1] S5520 v 0x00000000#32 reduces_S5520x5120_S5520 (.inl rfl) rfl) shapeCasts_S5520_S5520x1)
    (broadcast S5520x1 (Scalar.ofBits (F := Ideal) .f32 0x45A00000#32))

/-- The rows with their means taken off. -/
def kDev (v : FVec Ideal S5520x5120 .f32) : FVec Ideal S5520x5120 .f32 :=
  subf v (broadcastTo S5520x5120 (kMean v) broadcasts_S5520x1_S5520x5120)

/-- The rows normalised, from the centred rows and their variances. -/
def kNorm (d : FVec Ideal S5520x5120 .f32) (w : FVec Ideal S5520x1 .f32) (g b : FVec Ideal S1x5120 .f32) : FVec Ideal S5520x5120 .f32 :=
  addf (mulf (divf d (broadcastTo S5520x5120 (sqrt (addf w (broadcast S5520x1 (Scalar.ofBits (F := Ideal) .f32 0x3727C5AC#32)))) broadcasts_S5520x1_S5520x5120))
    (broadcastTo S5520x5120 g broadcasts_S1x5120_S5520x5120)) (broadcastTo S5520x5120 b broadcasts_S1x5120_S5520x5120)

/-- The rows' means at an index. -/
theorem kMean_at (v : FVec Ideal S5520x5120 .f32) (r : Fin 5520) (z : Fin 1) : kMean v (ix2 r z) = Rows.mean (fun k => v (ix2 r k)) := by
  pointwise [kMean, Rows.mean]

/-- The centred rows at an index. -/
theorem kDev_at (v : FVec Ideal S5520x5120 .f32) (r : Fin 5520) (k : Fin 5120) : kDev v (ix2 r k) = Rows.dev (fun k => v (ix2 r k)) k := by
  pointwise [kDev, Rows.dev]
  rw [kMean_at]

/-- The normalised rows at an index, from the centred rows and the variances. -/
theorem kNorm_at (d : FVec Ideal S5520x5120 .f32) (w : FVec Ideal S5520x1 .f32) (g b : FVec Ideal S1x5120 .f32) (r : Fin 5520) (k : Fin 5120) :
    kNorm d w g b (ix2 r k) = Ideal.div (d (ix2 r k)) (Ideal.sqrt (w (ix2 r 0) + Ideal.ofBits FTy.f32 0x3727C5AC#32)) * g (ix2 0 k) + b (ix2 0 k) := by
  pointwise [kNorm]

/-- The whole layer normalisation, as the program computes it. -/
def kLn (v : FVec Ideal S5520x5120 .f32) (g b : FVec Ideal S1x5120 .f32) : FVec Ideal S5520x5120 .f32 :=
  kNorm (kDev v) (kMean (mulf (kDev v) (kDev v))) g b

/-- The layer normalisation at an index is the row function's. -/
theorem kLn_at (v : FVec Ideal S5520x5120 .f32) (g b : FVec Ideal S1x5120 .f32) (r : Fin 5520) (k : Fin 5120) :
    kLn v g b (ix2 r k) = Rows.ln (fun k => v (ix2 r k)) (fun k => g (ix2 0 k)) (fun k => b (ix2 0 k)) k := by
  unfold kLn
  rw [kNorm_at, kMean_at, kDev_at]
  unfold Rows.ln
  congr 6
  funext j
  exact congrArg₂ (· * ·) (kDev_at v r j) (kDev_at v r j)

/-- The rows' largest magnitudes, as the program computes them. -/
def kAmax (v : FVec Ideal S5520x5120 .f32) : FVec Ideal S5520x1 .f32 :=
  shapeCast S5520x1 (multiReduction .maximumf [1] S5520 (absf v) 0xFF800000#32 reduces_S5520x5120_S5520 (.inl rfl) rfl) shapeCasts_S5520_S5520x1

/-- The rows' largest magnitudes at an index. -/
theorem kAmax_at (v : FVec Ideal S5520x5120 .f32) (r : Fin 5520) (z : Fin 1) : kAmax v (ix2 r z) = Rows.amax (fun k => v (ix2 r k)) := by
  unfold Rows.amax
  pointwise [kAmax]

/-- The quantiser's scales from the rows' largest magnitudes, as the program computes them. -/
def kScaleOf (a : FVec Ideal S5520x1 .f32) : FVec Ideal S5520x1 .f32 :=
  select (cmpf .oeq a (broadcast S5520x1 (Scalar.ofBits (F := Ideal) .f32 0x00000000#32))) (broadcast S5520x1 (Scalar.ofBits (F := Ideal) .f32 0x3F800000#32))
    (divf a (broadcast S5520x1 (Scalar.ofBits (F := Ideal) .f32 0x43E00000#32)))

/-- The scales at an index, from the largest magnitudes. -/
theorem kScaleOf_at (a : FVec Ideal S5520x1 .f32) (r : Fin 5520) (z : Fin 1) : kScaleOf a (ix2 r z) = Rows.scale 0x43E00000#32 (a (ix2 r z)) := by
  unfold Rows.scale
  pointwise [kScaleOf]

/-- The quantiser's scales of the rows, as the program computes them. -/
def kScale (v : FVec Ideal S5520x5120 .f32) : FVec Ideal S5520x1 .f32 := kScaleOf (kAmax v)

/-- The quantised rows, as the program computes them. -/
def kQuant (v : FVec Ideal S5520x5120 .f32) (s : FVec Ideal S5520x1 .f32) : FVec Ideal S5520x5120 .fp8e4m3 :=
  truncf .fp8e4m3 (minimumf (broadcast S5520x5120 (Scalar.ofBits (F := Ideal) .f32 0x43E00000#32)) (maximumf (broadcast S5520x5120 (Scalar.ofBits (F := Ideal) .f32 0xC3E00000#32))
    (divf v (broadcastTo S5520x5120 s broadcasts_S5520x1_S5520x5120)))) bitsLt_fp8e4m3_f32

/-- The scales at an index are the row function's. -/
theorem kScale_at (v : FVec Ideal S5520x5120 .f32) (r : Fin 5520) (z : Fin 1) :
    kScale v (ix2 r z) = Rows.scale 0x43E00000#32 (Rows.amax (fun k => v (ix2 r k))) := by
  unfold kScale
  rw [kScaleOf_at, kAmax_at]

/-- The quantised rows at an index are the row function's. -/
theorem kQuant_at (v : FVec Ideal S5520x5120 .f32) (s : FVec Ideal S5520x1 .f32) (r : Fin 5520) (k : Fin 5120) :
    (kQuant v s (ix2 r k) : EReal) = Rows.quant (v (ix2 r k)) (s (ix2 r 0)) := by
  pointwise [kQuant, Rows.quant]

/-- The residual rows at an index. -/
theorem pay3_at (h : Vec Ideal S5520x5120 .f32) (a : Vec Ideal S5520x5120 .fp8e4m3) (W : Vec Ideal S5120x5120 .fp8e4m3) (s : Vec Ideal S5520x1 .f32) (w : Vec Ideal S1x5120 .f32) (r : Fin 5520) (k : Fin 5120) :
    k0_pay3 (F := Ideal) h a s W w (ix2 r k) = (Rows.res (fun k => h (ix2 r k)) (fun k => a (ix2 r k)) (s (ix2 r 0)) (fun j k => W (ix2 j k)) (fun k => w (ix2 0 k))) k := by
  pointwise [k0_pay3, Rows.res]

/-- The normalised rows at an index. -/
theorem pay4_at (h : Vec Ideal S5520x5120 .f32) (a : Vec Ideal S5520x5120 .fp8e4m3) (W : Vec Ideal S5120x5120 .fp8e4m3) (s : Vec Ideal S5520x1 .f32) (w : Vec Ideal S1x5120 .f32) (g b : Vec Ideal S1x5120 .f32) (r : Fin 5520) (k : Fin 5120) :
    k0_pay4 (F := Ideal) h a s W w g b (ix2 r k) = (Rows.ln (Rows.res (fun k => h (ix2 r k)) (fun k => a (ix2 r k)) (s (ix2 r 0)) (fun j k => W (ix2 j k)) (fun k => w (ix2 0 k))) (fun k => g (ix2 0 k)) (fun k => b (ix2 0 k))) k := by
  refine (kLn_at (k0_pay3 (F := Ideal) h a s W w) g b r k).trans ?_
  rw [show (fun k => k0_pay3 (F := Ideal) h a s W w (ix2 r k)) = (Rows.res (fun k => h (ix2 r k)) (fun k => a (ix2 r k)) (s (ix2 r 0)) (fun j k => W (ix2 j k)) (fun k => w (ix2 0 k))) from funext fun k => pay3_at h a W s w r k]

/-- The scales at an index. -/
theorem scale_at (h : Vec Ideal S5520x5120 .f32) (a : Vec Ideal S5520x5120 .fp8e4m3) (W : Vec Ideal S5120x5120 .fp8e4m3) (s : Vec Ideal S5520x1 .f32) (w : Vec Ideal S1x5120 .f32) (g b : Vec Ideal S1x5120 .f32) (r : Fin 5520) (z : Fin 1) :
    k0_pay1 (F := Ideal) (k0_pay5 (F := Ideal) h a s W w g b) (ix2 r z) = Rows.scale 0x43E00000#32 (Rows.amax (Rows.ln (Rows.res (fun k => h (ix2 r k)) (fun k => a (ix2 r k)) (s (ix2 r 0)) (fun j k => W (ix2 j k)) (fun k => w (ix2 0 k))) (fun k => g (ix2 0 k)) (fun k => b (ix2 0 k)))) := by
  refine (kScale_at (k0_pay4 (F := Ideal) h a s W w g b) r z).trans ?_
  rw [show (fun k => (k0_pay4 (F := Ideal) h a s W w g b) (ix2 r k)) = (Rows.ln (Rows.res (fun k => h (ix2 r k)) (fun k => a (ix2 r k)) (s (ix2 r 0)) (fun j k => W (ix2 j k)) (fun k => w (ix2 0 k))) (fun k => g (ix2 0 k)) (fun k => b (ix2 0 k))) from funext fun k => pay4_at h a W s w g b r k]

/-- The codes at an index. -/
theorem code_at (h : Vec Ideal S5520x5120 .f32) (a : Vec Ideal S5520x5120 .fp8e4m3) (W : Vec Ideal S5120x5120 .fp8e4m3) (s : Vec Ideal S5520x1 .f32) (w : Vec Ideal S1x5120 .f32) (g b : Vec Ideal S1x5120 .f32) (r : Fin 5520) (k : Fin 5120) :
    (k0_pay2 (F := Ideal) (k0_pay4 (F := Ideal) h a s W w g b) (k0_pay5 (F := Ideal) h a s W w g b) (ix2 r k) : EReal) = Rows.quant ((Rows.ln (Rows.res (fun k => h (ix2 r k)) (fun k => a (ix2 r k)) (s (ix2 r 0)) (fun j k => W (ix2 j k)) (fun k => w (ix2 0 k))) (fun k => g (ix2 0 k)) (fun k => b (ix2 0 k))) k) (Rows.scale 0x43E00000#32 (Rows.amax (Rows.ln (Rows.res (fun k => h (ix2 r k)) (fun k => a (ix2 r k)) (s (ix2 r 0)) (fun j k => W (ix2 j k)) (fun k => w (ix2 0 k))) (fun k => g (ix2 0 k)) (fun k => b (ix2 0 k))))) := by
  refine (kQuant_at (k0_pay4 (F := Ideal) h a s W w g b) (k0_pay1 (F := Ideal) (k0_pay5 (F := Ideal) h a s W w g b)) r k).trans ?_
  rw [pay4_at, scale_at]

end Cert.RefOprojTIdeal.RowValue

end
-- ==== Proof.OprojTTile.lean ====
/- The output projection of the temporal attention: the arrays the tiled kernel leaves, the last tile cut at the end of the
   arrays, are the reference's arrays: the tiles and the run. -/
module

public import proofs.«01_k».proof.Proof.OprojTRows
public import proofs.«01_k».proof.Defs
public import Idealize.ShloMosaic.Lib.Pipeline.ValueKit
public import Idealize.ShloMosaic.Lib.Claim
public import proofs.«01_k».proof.Proof.Gen.RefOprojTIdeal.Value
public import Idealize.ShloMosaic.Lib.Pipeline.FrameBody
public import Idealize.ShloMosaic.Lib.Tactic

@[expose] public section

set_option maxRecDepth 16384

noncomputable section

namespace Cert.OprojTIdeal.TileValue

open Cert.OprojTIdeal Cert.OprojTIdeal.Gen Cert.OprojTIdeal.Body Idealize.ShloMosaic Idealize.ShloMosaic.TcCoe Idealize.SL.Sem
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ)

/-- The windows' block indices at every grid point: row tile `t`. -/
theorem idx : ∀ t : Fin cfg0.N, win0_0.index t = ![t.val, 0] ∧ win0_1.index t = ![t.val, 0]
    ∧ win0_2.index t = ![0, 0] ∧ win0_3.index t = ![0, 0] ∧ win0_4.index t = ![t.val, 0] ∧ win0_5.index t = ![0, 0]
    ∧ win0_6.index t = ![0, 0] ∧ win0_7.index t = ![t.val, 0] ∧ win0_8.index t = ![t.val, 0] ∧ win0_9.index t = ![t.val, 0] :=
  (by decide +kernel : ∀ t : Fin grid0.N, _)

/-- The part of a row tile inside the arrays, at every grid point. -/
theorem ext : ∀ t : Fin cfg0.N, win0_0.xsize (grid0.coords t) = ![min 192 (5520 - t.val * 192), 5120]
    ∧ win0_1.xsize (grid0.coords t) = ![min 192 (5520 - t.val * 192), 1]
    ∧ win0_4.xsize (grid0.coords t) = ![min 192 (5520 - t.val * 192), 5120] :=
  (by decide +kernel : ∀ t : Fin grid0.N, _)

/-- A row of the codes' tile inside the array is the row of the array, whatever fills the rest. -/
theorem row0 (c : Dev nD) (t : Fin cfg0.N) (d) (r : Fin 192) (i : Fin 5520) (h : (i : ℕ) = t.val * 192 + r) :
    (fun k : Fin 5120 => (cfg0.win 0).fill (cfg0.grid.coords t) d (iblk m c 0 t) (ix2 r k))
      = fun k => m ((c : Thread nD τ).loc main_arg0) (ix2 i k) := by
  funext k
  have hm : (cfg0.win 0).moved (cfg0.grid.coords t) (ix2 r k) = true := by
    refine ((cfg0.win 0).moved_iff _ _).mpr fun a => ?_
    show _ < win0_0.xsize (grid0.coords t) a
    rw [(ext t).1]
    match a with
    | ⟨0, _⟩ => show (r : ℕ) < min 192 (5520 - t.val * 192); omega
    | ⟨1, _⟩ => exact k.isLt
  unfold Pipeline.Window.fill
  rw [dif_pos hm]
  blk_ext [iblk, V, idx t]

/-- A row of the row scales' tile inside the array is the row of the array, whatever fills the rest. -/
theorem row1 (c : Dev nD) (t : Fin cfg0.N) (d) (r : Fin 192) (i : Fin 5520) (h : (i : ℕ) = t.val * 192 + r) :
    (cfg0.win 1).fill (cfg0.grid.coords t) d (iblk m c 1 t) (ix2 r (0 : Fin 1))
      = m ((c : Thread nD τ).loc main_arg1) (ix2 i (0 : Fin 1)) := by
  skip
  have hm : (cfg0.win 1).moved (cfg0.grid.coords t) (ix2 r (0 : Fin 1)) = true := by
    refine ((cfg0.win 1).moved_iff _ _).mpr fun a => ?_
    show _ < win0_1.xsize (grid0.coords t) a
    rw [(ext t).2.1]
    match a with
    | ⟨0, _⟩ => show (r : ℕ) < min 192 (5520 - t.val * 192); omega
    | ⟨1, _⟩ => exact Nat.zero_lt_one
  unfold Pipeline.Window.fill
  rw [dif_pos hm]
  blk_ext [iblk, V, idx t]

/-- A row of the residual stream' tile inside the array is the row of the array, whatever fills the rest. -/
theorem row4 (c : Dev nD) (t : Fin cfg0.N) (d) (r : Fin 192) (i : Fin 5520) (h : (i : ℕ) = t.val * 192 + r) :
    (fun k : Fin 5120 => (cfg0.win 4).fill (cfg0.grid.coords t) d (iblk m c 4 t) (ix2 r k))
      = fun k => m ((c : Thread nD τ).loc main_arg4) (ix2 i k) := by
  funext k
  have hm : (cfg0.win 4).moved (cfg0.grid.coords t) (ix2 r k) = true := by
    refine ((cfg0.win 4).moved_iff _ _).mpr fun a => ?_
    show _ < win0_4.xsize (grid0.coords t) a
    rw [(ext t).2.2]
    match a with
    | ⟨0, _⟩ => show (r : ℕ) < min 192 (5520 - t.val * 192); omega
    | ⟨1, _⟩ => exact k.isLt
  unfold Pipeline.Window.fill
  rw [dif_pos hm]
  blk_ext [iblk, V, idx t]

/-- The weights' block is the weights. -/
theorem row2 (c : Dev nD) (t : Fin cfg0.N) :
    (fun (j k : Fin 5120) => iblk m c 2 t (ix2 j k)) = fun (j k : Fin 5120) => m ((c : Thread nD τ).loc main_arg2) (ix2 j k) := by
  funext j k
  blk_ext [iblk, V, idx t]

/-- The block of the weights' scales is the whole of it. -/
theorem row3 (c : Dev nD) (t : Fin cfg0.N) :
    (fun k : Fin 5120 => iblk m c 3 t (ix2 (0 : Fin 1) k)) = fun k => m ((c : Thread nD τ).loc main_arg3) (ix2 (0 : Fin 1) k) := by
  funext k
  blk_ext [iblk, V, idx t]

/-- The block of the gain is the whole of it. -/
theorem row5 (c : Dev nD) (t : Fin cfg0.N) :
    (fun k : Fin 5120 => iblk m c 5 t (ix2 (0 : Fin 1) k)) = fun k => m ((c : Thread nD τ).loc main_arg5) (ix2 (0 : Fin 1) k) := by
  funext k
  blk_ext [iblk, V, idx t]

/-- The block of the shift is the whole of it. -/
theorem row6 (c : Dev nD) (t : Fin cfg0.N) :
    (fun k : Fin 5120 => iblk m c 6 t (ix2 (0 : Fin 1) k)) = fun k => m ((c : Thread nD τ).loc main_arg6) (ix2 (0 : Fin 1) k) := by
  funext k
  blk_ext [iblk, V, idx t]

/-- The stores and loads start at the origin. -/
theorem hz : (![0, 0] : Fin 2 → Nat) = fun _ => 0 := funext fun a => by fin_cases a <;> rfl

/-- Output window 7's buffer is the body's payload of the inputs' buffers. -/
theorem out7_eq (x0 : Vec Ideal S192x5120 .fp8e4m3) (x1 : Vec Ideal S192x1 .f32) (x2 : Vec Ideal S5120x5120 .fp8e4m3) (x3 : Vec Ideal S1x5120 .f32) (x4 : Vec Ideal S192x5120 .f32) (x5 : Vec Ideal S1x5120 .f32) (x6 : Vec Ideal S1x5120 .f32) :
    out0_7 (F := Ideal) x0 x1 x2 x3 x4 x5 x6 = k0_pay3 (F := Ideal) x4 x0 x2 x1 x3 := by
  unfold out0_7
  rw [View.canon_unit_zero hz, View.ld_unit_zero (S := S192x5120) hz _ x4, View.ld_unit_zero (S := S192x5120) hz _ x0, View.ld_unit_zero (S := S5120x5120) hz _ x2, View.ld_unit_zero (S := S192x1) hz _ x1, View.ld_unit_zero (S := S1x5120) hz _ x3]

/-- Output window 8's buffer is the body's payload of the inputs' buffers. -/
theorem out8_eq (x0 : Vec Ideal S192x5120 .fp8e4m3) (x1 : Vec Ideal S192x1 .f32) (x2 : Vec Ideal S5120x5120 .fp8e4m3) (x3 : Vec Ideal S1x5120 .f32) (x4 : Vec Ideal S192x5120 .f32) (x5 : Vec Ideal S1x5120 .f32) (x6 : Vec Ideal S1x5120 .f32) :
    out0_8 (F := Ideal) x0 x1 x2 x3 x4 x5 x6 = k0_pay2 (F := Ideal) (k0_pay4 (F := Ideal) x4 x0 x2 x1 x3 x5 x6) (k0_pay5 (F := Ideal) x4 x0 x2 x1 x3 x5 x6) := by
  unfold out0_8
  rw [View.canon_unit_zero hz, View.ld_unit_zero (S := S192x5120) hz _ x4, View.ld_unit_zero (S := S192x5120) hz _ x0, View.ld_unit_zero (S := S5120x5120) hz _ x2, View.ld_unit_zero (S := S192x1) hz _ x1, View.ld_unit_zero (S := S1x5120) hz _ x3, View.ld_unit_zero (S := S1x5120) hz _ x5, View.ld_unit_zero (S := S1x5120) hz _ x6]

/-- Output window 9's buffer is the body's payload of the inputs' buffers. -/
theorem out9_eq (x0 : Vec Ideal S192x5120 .fp8e4m3) (x1 : Vec Ideal S192x1 .f32) (x2 : Vec Ideal S5120x5120 .fp8e4m3) (x3 : Vec Ideal S1x5120 .f32) (x4 : Vec Ideal S192x5120 .f32) (x5 : Vec Ideal S1x5120 .f32) (x6 : Vec Ideal S1x5120 .f32) :
    out0_9 (F := Ideal) x0 x1 x2 x3 x4 x5 x6 = k0_pay1 (F := Ideal) (k0_pay5 (F := Ideal) x4 x0 x2 x1 x3 x5 x6) := by
  unfold out0_9
  rw [View.canon_unit_zero hz, View.ld_unit_zero (S := S192x5120) hz _ x4, View.ld_unit_zero (S := S192x5120) hz _ x0, View.ld_unit_zero (S := S5120x5120) hz _ x2, View.ld_unit_zero (S := S192x1) hz _ x1, View.ld_unit_zero (S := S1x5120) hz _ x3, View.ld_unit_zero (S := S1x5120) hz _ x5, View.ld_unit_zero (S := S1x5120) hz _ x6]

/-- The reference's row maxima without their loads. -/
theorem refpay6 (a0 : Vec Ideal Cert.RefOprojTIdeal.S5520x5120 .fp8e4m3) (a1 : Vec Ideal Cert.RefOprojTIdeal.S5520x1 .f32)
    (a2 : Vec Ideal Cert.RefOprojTIdeal.S5120x5120 .fp8e4m3) (a3 : Vec Ideal Cert.RefOprojTIdeal.S1x5120 .f32)
    (a4 : Vec Ideal Cert.RefOprojTIdeal.S5520x5120 .f32) (a5 a6 : Vec Ideal Cert.RefOprojTIdeal.S1x5120 .f32) :
    Cert.RefOprojTIdeal.Gen.k0_pay6 (F := Ideal) a0 a1 a2 a3 a4 a5 a6 = Cert.RefOprojTIdeal.Gen.k0_pay5 (F := Ideal) a4 a0 a1 a2 a3 a5 a6 := by
  unfold Cert.RefOprojTIdeal.Gen.k0_pay6
  rw [View.ld_unit_zero (S := Cert.RefOprojTIdeal.S5520x5120) hz _ a4, View.ld_unit_zero (S := Cert.RefOprojTIdeal.S5520x5120) hz _ a0,
    View.ld_unit_zero (S := Cert.RefOprojTIdeal.S5520x1) hz _ a1, View.ld_unit_zero (S := Cert.RefOprojTIdeal.S5120x5120) hz _ a2,
    View.ld_unit_zero (S := Cert.RefOprojTIdeal.S1x5120) hz _ a3, View.ld_unit_zero (S := Cert.RefOprojTIdeal.S1x5120) hz _ a5,
    View.ld_unit_zero (S := Cert.RefOprojTIdeal.S1x5120) hz _ a6]

/-- Output window 7's buffer on a row inside the array is the reference's row, whatever lies in the rows outside. -/
theorem at7 (c : Dev nD) (t : Fin cfg0.N) (d0 d1 d4) (y : S192x5120.Idx) (j : Cert.RefOprojTIdeal.S5520x5120.Idx) (h0 : (j 0 : ℕ) = t.val * 192 + y 0) (h1 : (j 1 : ℕ) = y 1) :
    out0_7 (F := Ideal) ((cfg0.win 0).fill (cfg0.grid.coords t) d0 (iblk m c 0 t)) ((cfg0.win 1).fill (cfg0.grid.coords t) d1 (iblk m c 1 t)) (iblk m c 2 t) (iblk m c 3 t) ((cfg0.win 4).fill (cfg0.grid.coords t) d4 (iblk m c 4 t)) (iblk m c 5 t) (iblk m c 6 t) y
      = Cert.RefOprojTIdeal.Value.G7 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) j := by
  have hj : j = ix2 (j 0 : Fin 5520) (y 1 : Fin 5120) := by blk_ext
  have hy : y = ix2 (y 0 : Fin 192) (y 1 : Fin 5120) := by blk_ext
  rw [out7_eq, hj, hy]
  refine (RowValue.pay3_at _ _ _ _ _ (y 0) (y 1)).trans (Eq.trans ?_ (Cert.RefOprojTIdeal.RowValue.pay3_at _ _ _ _ _ (j 0) (y 1)).symm)
  rw [row0 m c t d0 (y 0) (j 0) h0, row1 m c t d1 (y 0) (j 0) h0, row4 m c t d4 (y 0) (j 0) h0, row2 m c t, row3 m c t]

/-- Output window 8's buffer on a row inside the array is the reference's row, whatever lies in the rows outside. -/
theorem at8 (c : Dev nD) (t : Fin cfg0.N) (d0 d1 d4) (y : S192x5120.Idx) (j : Cert.RefOprojTIdeal.S5520x5120.Idx) (h0 : (j 0 : ℕ) = t.val * 192 + y 0) (h1 : (j 1 : ℕ) = y 1) :
    out0_8 (F := Ideal) ((cfg0.win 0).fill (cfg0.grid.coords t) d0 (iblk m c 0 t)) ((cfg0.win 1).fill (cfg0.grid.coords t) d1 (iblk m c 1 t)) (iblk m c 2 t) (iblk m c 3 t) ((cfg0.win 4).fill (cfg0.grid.coords t) d4 (iblk m c 4 t)) (iblk m c 5 t) (iblk m c 6 t) y
      = Cert.RefOprojTIdeal.Value.G8 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) j := by
  have hj : j = ix2 (j 0 : Fin 5520) (y 1 : Fin 5120) := by blk_ext
  have hy : y = ix2 (y 0 : Fin 192) (y 1 : Fin 5120) := by blk_ext
  rw [out8_eq, hj, hy]
  unfold Cert.RefOprojTIdeal.Value.G8
  rw [refpay6]
  refine (RowValue.code_at _ _ _ _ _ _ _ (y 0) (y 1)).trans (Eq.trans ?_ (Cert.RefOprojTIdeal.RowValue.code_at _ _ _ _ _ _ _ (j 0) (y 1)).symm)
  rw [row0 m c t d0 (y 0) (j 0) h0, row1 m c t d1 (y 0) (j 0) h0, row4 m c t d4 (y 0) (j 0) h0, row2 m c t, row3 m c t, row5 m c t, row6 m c t]

/-- Output window 9's buffer on a row inside the array is the reference's row, whatever lies in the rows outside. -/
theorem at9 (c : Dev nD) (t : Fin cfg0.N) (d0 d1 d4) (y : S192x1.Idx) (j : Cert.RefOprojTIdeal.S5520x1.Idx) (h0 : (j 0 : ℕ) = t.val * 192 + y 0) :
    out0_9 (F := Ideal) ((cfg0.win 0).fill (cfg0.grid.coords t) d0 (iblk m c 0 t)) ((cfg0.win 1).fill (cfg0.grid.coords t) d1 (iblk m c 1 t)) (iblk m c 2 t) (iblk m c 3 t) ((cfg0.win 4).fill (cfg0.grid.coords t) d4 (iblk m c 4 t)) (iblk m c 5 t) (iblk m c 6 t) y
      = Cert.RefOprojTIdeal.Value.G9 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) j := by
  have hj : j = ix2 (j 0 : Fin 5520) (j 1 : Fin 1) := by blk_ext
  have hy : y = ix2 (y 0 : Fin 192) (y 1 : Fin 1) := by blk_ext
  rw [out9_eq, hj, hy]
  unfold Cert.RefOprojTIdeal.Value.G9
  rw [refpay6]
  refine (RowValue.scale_at _ _ _ _ _ _ _ (y 0) (y 1)).trans (Eq.trans ?_ (Cert.RefOprojTIdeal.RowValue.scale_at _ _ _ _ _ _ _ (j 0) (j 1)).symm)
  rw [row0 m c t d0 (y 0) (j 0) h0, row1 m c t d1 (y 0) (j 0) h0, row4 m c t d4 (y 0) (j 0) h0, row2 m c t, row3 m c t, row5 m c t, row6 m c t]

/-- The same at an index of the part of the buffer that is written back. -/
theorem cut7 (c : Dev nD) (t : Fin cfg0.N) (d0 d1 d4) (y : ((cfg0.win 7).xblock (cfg0.grid.coords t)).Idx) :
    out0_7 (F := Ideal) ((cfg0.win 0).fill (cfg0.grid.coords t) d0 (iblk m c 0 t)) ((cfg0.win 1).fill (cfg0.grid.coords t) d1 (iblk m c 1 t)) (iblk m c 2 t) (iblk m c 3 t) ((cfg0.win 4).fill (cfg0.grid.coords t) d4 (iblk m c 4 t)) (iblk m c 5 t) (iblk m c 6 t) ((cfg0.win 7).xinj (cfg0.grid.coords t) y)
      = Cert.RefOprojTIdeal.Value.G7 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 7).blk t).view.emb y) := by
  refine at7 m c t d0 d1 d4 _ _ ?_ ?_
  all_goals blk_simp [idx t]

/-- What is written back does not depend on the rows outside. -/
theorem hrow7 (c : Dev nD) (t : Fin cfg0.N) (d0 d1 d4) :
    (cfg0.win 7).cut (cfg0.grid.coords t) (out0_7 (F := Ideal) ((cfg0.win 0).fill (cfg0.grid.coords t) d0 (iblk m c 0 t)) ((cfg0.win 1).fill (cfg0.grid.coords t) d1 (iblk m c 1 t)) (iblk m c 2 t) (iblk m c 3 t) ((cfg0.win 4).fill (cfg0.grid.coords t) d4 (iblk m c 4 t)) (iblk m c 5 t) (iblk m c 6 t))
      = (cfg0.win 7).cut (cfg0.grid.coords t) (out0_7 (F := Ideal) (X0 m c t) (X1 m c t) (iblk m c 2 t) (iblk m c 3 t) (X4 m c t) (iblk m c 5 t) (iblk m c 6 t)) := by
  funext y
  exact (cut7 m c t d0 d1 d4 y).trans (cut7 m c t _ _ _ y).symm

/-- The same at an index of the part of the buffer that is written back. -/
theorem cut8 (c : Dev nD) (t : Fin cfg0.N) (d0 d1 d4) (y : ((cfg0.win 8).xblock (cfg0.grid.coords t)).Idx) :
    out0_8 (F := Ideal) ((cfg0.win 0).fill (cfg0.grid.coords t) d0 (iblk m c 0 t)) ((cfg0.win 1).fill (cfg0.grid.coords t) d1 (iblk m c 1 t)) (iblk m c 2 t) (iblk m c 3 t) ((cfg0.win 4).fill (cfg0.grid.coords t) d4 (iblk m c 4 t)) (iblk m c 5 t) (iblk m c 6 t) ((cfg0.win 8).xinj (cfg0.grid.coords t) y)
      = Cert.RefOprojTIdeal.Value.G8 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 8).blk t).view.emb y) := by
  refine at8 m c t d0 d1 d4 _ _ ?_ ?_
  all_goals blk_simp [idx t]

/-- What is written back does not depend on the rows outside. -/
theorem hrow8 (c : Dev nD) (t : Fin cfg0.N) (d0 d1 d4) :
    (cfg0.win 8).cut (cfg0.grid.coords t) (out0_8 (F := Ideal) ((cfg0.win 0).fill (cfg0.grid.coords t) d0 (iblk m c 0 t)) ((cfg0.win 1).fill (cfg0.grid.coords t) d1 (iblk m c 1 t)) (iblk m c 2 t) (iblk m c 3 t) ((cfg0.win 4).fill (cfg0.grid.coords t) d4 (iblk m c 4 t)) (iblk m c 5 t) (iblk m c 6 t))
      = (cfg0.win 8).cut (cfg0.grid.coords t) (out0_8 (F := Ideal) (X0 m c t) (X1 m c t) (iblk m c 2 t) (iblk m c 3 t) (X4 m c t) (iblk m c 5 t) (iblk m c 6 t)) := by
  funext y
  exact (cut8 m c t d0 d1 d4 y).trans (cut8 m c t _ _ _ y).symm

/-- The same at an index of the part of the buffer that is written back. -/
theorem cut9 (c : Dev nD) (t : Fin cfg0.N) (d0 d1 d4) (y : ((cfg0.win 9).xblock (cfg0.grid.coords t)).Idx) :
    out0_9 (F := Ideal) ((cfg0.win 0).fill (cfg0.grid.coords t) d0 (iblk m c 0 t)) ((cfg0.win 1).fill (cfg0.grid.coords t) d1 (iblk m c 1 t)) (iblk m c 2 t) (iblk m c 3 t) ((cfg0.win 4).fill (cfg0.grid.coords t) d4 (iblk m c 4 t)) (iblk m c 5 t) (iblk m c 6 t) ((cfg0.win 9).xinj (cfg0.grid.coords t) y)
      = Cert.RefOprojTIdeal.Value.G9 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 9).blk t).view.emb y) := by
  refine at9 m c t d0 d1 d4 _ _ ?_
  all_goals blk_simp [idx t]

/-- What is written back does not depend on the rows outside. -/
theorem hrow9 (c : Dev nD) (t : Fin cfg0.N) (d0 d1 d4) :
    (cfg0.win 9).cut (cfg0.grid.coords t) (out0_9 (F := Ideal) ((cfg0.win 0).fill (cfg0.grid.coords t) d0 (iblk m c 0 t)) ((cfg0.win 1).fill (cfg0.grid.coords t) d1 (iblk m c 1 t)) (iblk m c 2 t) (iblk m c 3 t) ((cfg0.win 4).fill (cfg0.grid.coords t) d4 (iblk m c 4 t)) (iblk m c 5 t) (iblk m c 6 t))
      = (cfg0.win 9).cut (cfg0.grid.coords t) (out0_9 (F := Ideal) (X0 m c t) (X1 m c t) (iblk m c 2 t) (iblk m c 3 t) (X4 m c t) (iblk m c 5 t) (iblk m c 6 t)) := by
  funext y
  exact (cut9 m c t d0 d1 d4 y).trans (cut9 m c t _ _ _ y).symm

/-- The body at any point, with what it leaves in the outputs. -/
theorem sound_body (c : Dev nD) (t : Fin cfg0.N) :
    iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))
    ⊢ wp frame (wpE (defs₀ (F := Ideal)) Variants.none c none) Set.univ (bodyAt0 t) (fun _ =>
    iprop((dats m 0 c).Φ t.succ ∗ (dats m 0 c).owesAt () t.succ
    ∗ (∃ d, owns (c : Thread nD τ) (st0_0 t) fullShare ((cfg0.win 0).fill (cfg0.grid.coords t) d ((cfg0.win 0).cut (cfg0.grid.coords t) ((dats m 0 c).after 0 t))))
    ∗ (∃ d, owns (c : Thread nD τ) (st0_1 t) fullShare ((cfg0.win 1).fill (cfg0.grid.coords t) d ((cfg0.win 1).cut (cfg0.grid.coords t) ((dats m 0 c).after 1 t))))
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare ((cfg0.win 4).fill (cfg0.grid.coords t) d ((cfg0.win 4).cut (cfg0.grid.coords t) ((dats m 0 c).after 4 t))))
    ∗ owns (c : Thread nD τ) (st0_5 t) fullShare ((dats m 0 c).after 5 t)
    ∗ owns (c : Thread nD τ) (st0_6 t) fullShare ((dats m 0 c).after 6 t)
    ∗ (∃ d, owns (c : Thread nD τ) (st0_7 t) fullShare ((cfg0.win 7).fill (cfg0.grid.coords t) d ((cfg0.win 7).cut (cfg0.grid.coords t) ((dats m 0 c).after 7 t))))
    ∗ (∃ d, owns (c : Thread nD τ) (st0_8 t) fullShare ((cfg0.win 8).fill (cfg0.grid.coords t) d ((cfg0.win 8).cut (cfg0.grid.coords t) ((dats m 0 c).after 8 t))))
    ∗ (∃ d, owns (c : Thread nD τ) (st0_9 t) fullShare ((cfg0.win 9).fill (cfg0.grid.coords t) d ((cfg0.win 9).cut (cfg0.grid.coords t) ((dats m 0 c).after 9 t)))))) := by
  unfold bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ ((cfg0.win 0).fill (cfg0.grid.coords t) d0 (iblk m c 0 t)) ((cfg0.win 1).fill (cfg0.grid.coords t) d1 (iblk m c 1 t)) (iblk m c 2 t) (iblk m c 3 t) ((cfg0.win 4).fill (cfg0.grid.coords t) d4 (iblk m c 4 t)) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexists d0; rw [show (cfg0.win 0).cut (cfg0.grid.coords t) (X0 m c t) = iblk m c 0 t from (cfg0.win 0).cut_fill _ _ _]; iexact H0
  isplitl [H1]; · iexists d1; rw [show (cfg0.win 1).cut (cfg0.grid.coords t) (X1 m c t) = iblk m c 1 t from (cfg0.win 1).cut_fill _ _ _]; iexact H1
  isplitl [H2]; · iexact H2
  isplitl [H3]; · iexact H3
  isplitl [H4]; · iexists d4; rw [show (cfg0.win 4).cut (cfg0.grid.coords t) (X4 m c t) = iblk m c 4 t from (cfg0.win 4).cut_fill _ _ _]; iexact H4
  isplitl [H5]; · iexact H5
  isplitl [H6]; · iexact H6
  isplitl [H7]; · iexists (out0_7 ((cfg0.win 0).fill (cfg0.grid.coords t) d0 (iblk m c 0 t)) ((cfg0.win 1).fill (cfg0.grid.coords t) d1 (iblk m c 1 t)) (iblk m c 2 t) (iblk m c 3 t) ((cfg0.win 4).fill (cfg0.grid.coords t) d4 (iblk m c 4 t)) (iblk m c 5 t) (iblk m c 6 t)); rw [← hrow7 m c t d0 d1 d4, (cfg0.win 7).fill_cut]; iexact H7
  isplitl [H8]; · iexists (out0_8 ((cfg0.win 0).fill (cfg0.grid.coords t) d0 (iblk m c 0 t)) ((cfg0.win 1).fill (cfg0.grid.coords t) d1 (iblk m c 1 t)) (iblk m c 2 t) (iblk m c 3 t) ((cfg0.win 4).fill (cfg0.grid.coords t) d4 (iblk m c 4 t)) (iblk m c 5 t) (iblk m c 6 t)); rw [← hrow8 m c t d0 d1 d4, (cfg0.win 8).fill_cut]; iexact H8
  iexists (out0_9 ((cfg0.win 0).fill (cfg0.grid.coords t) d0 (iblk m c 0 t)) ((cfg0.win 1).fill (cfg0.grid.coords t) d1 (iblk m c 1 t)) (iblk m c 2 t) (iblk m c 3 t) ((cfg0.win 4).fill (cfg0.grid.coords t) d4 (iblk m c 4 t)) (iblk m c 5 t) (iblk m c 6 t)); rw [← hrow9 m c t d0 d1 d4, (cfg0.win 9).fill_cut]; iexact H9

/-- The body obligation, every output stated on the rows inside its array. -/
theorem obligation (c : Dev nD) : BodyObligationLoose (dats (F := Ideal) m 0 c) (defs₀ (F := Ideal)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run: every array ends as the proof data say. -/
theorem run_main (ρ : Dev nD → PrngReg) : θ_run (defs (F := Ideal)) (onTc (τ := τ) (main (F := Ideal))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := obligation m) (hshare := fun c => (dats m 0 c).share_full fun _ => rfl)
    (howed := fun _ _ => rfl) (V := V m) (hmain := hmain m Variants.none) (hA := A_eq m) (hΦ := fun _ _ => rfl)

end Cert.OprojTIdeal.TileValue

end
-- ==== Proof.OprojTValue.lean ====
/- The output projection of the temporal attention: the arrays the tiled kernel leaves, the last tile cut at the end of the
   arrays, are the reference's arrays. -/
module

public import proofs.«01_k».proof.Proof.OprojTTile
public import proofs.«01_k».proof.Defs
public import Idealize.ShloMosaic.Lib.Pipeline.ValueKit
public import Idealize.ShloMosaic.Lib.Claim
public import proofs.«01_k».proof.Proof.Gen.RefOprojTIdeal.Value
public import Idealize.ShloMosaic.Lib.Pipeline.FrameBody
public import Idealize.ShloMosaic.Lib.Tactic

@[expose] public section

set_option maxRecDepth 16384

noncomputable section

namespace Cert.OprojTIdeal.TileValue

open Cert.OprojTIdeal Cert.OprojTIdeal.Gen Cert.OprojTIdeal.Body Idealize.ShloMosaic Idealize.ShloMosaic.TcCoe Idealize.SL.Sem
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ)

/-- What the proof data say is written back from window 7 is the reference's. -/
theorem cutX7 (c : Dev nD) (t : Fin cfg0.N) (y : ((cfg0.win 7).xblock (cfg0.grid.coords t)).Idx) :
    out0_7 (F := Ideal) (X0 m c t) (X1 m c t) (iblk m c 2 t) (iblk m c 3 t) (X4 m c t) (iblk m c 5 t) (iblk m c 6 t) ((cfg0.win 7).xinj (cfg0.grid.coords t) y)
      = Cert.RefOprojTIdeal.Value.G7 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 7).blk t).view.emb y) := by
  unfold X0 X1 X4
  exact cut7 m c t _ _ _ y

/-- Result array 7 after the run is the reference's. -/
theorem final7 (c : Dev nD) : (dats m 0 c).arrAt 7 (cfgs 0).N
    = Cert.RefOprojTIdeal.Value.G7 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t _ y => ?_
  rw [after0_7, cast_eq]
  exact cutX7 m c t y

/-- What the proof data say is written back from window 8 is the reference's. -/
theorem cutX8 (c : Dev nD) (t : Fin cfg0.N) (y : ((cfg0.win 8).xblock (cfg0.grid.coords t)).Idx) :
    out0_8 (F := Ideal) (X0 m c t) (X1 m c t) (iblk m c 2 t) (iblk m c 3 t) (X4 m c t) (iblk m c 5 t) (iblk m c 6 t) ((cfg0.win 8).xinj (cfg0.grid.coords t) y)
      = Cert.RefOprojTIdeal.Value.G8 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 8).blk t).view.emb y) := by
  unfold X0 X1 X4
  exact cut8 m c t _ _ _ y

/-- Result array 8 after the run is the reference's. -/
theorem final8 (c : Dev nD) : (dats m 0 c).arrAt 8 (cfgs 0).N
    = Cert.RefOprojTIdeal.Value.G8 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t _ y => ?_
  rw [after0_8, cast_eq]
  exact cutX8 m c t y

/-- What the proof data say is written back from window 9 is the reference's. -/
theorem cutX9 (c : Dev nD) (t : Fin cfg0.N) (y : ((cfg0.win 9).xblock (cfg0.grid.coords t)).Idx) :
    out0_9 (F := Ideal) (X0 m c t) (X1 m c t) (iblk m c 2 t) (iblk m c 3 t) (X4 m c t) (iblk m c 5 t) (iblk m c 6 t) ((cfg0.win 9).xinj (cfg0.grid.coords t) y)
      = Cert.RefOprojTIdeal.Value.G9 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 9).blk t).view.emb y) := by
  unfold X0 X1 X4
  exact cut9 m c t _ _ _ y

/-- Result array 9 after the run is the reference's. -/
theorem final9 (c : Dev nD) : (dats m 0 c).arrAt 9 (cfgs 0).N
    = Cert.RefOprojTIdeal.Value.G9 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t _ y => ?_
  rw [after0_9, cast_eq]
  exact cutX9 m c t y

/-- The run's result arrays are the reference's. -/
theorem results (r : PUnit × MemSt nD τ sig (Elt Ideal)) (h : Pipeline.FramePost cfgs (dats m) 0 (V m) r) (c : Dev nD) :
    r.2.mem ((c : Thread nD τ).loc main_v0_0) = Cert.RefOprojTIdeal.Value.G7 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    ∧ r.2.mem ((c : Thread nD τ).loc main_v0_1) = Cert.RefOprojTIdeal.Value.G8 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    ∧ r.2.mem ((c : Thread nD τ).loc main_v0_2) = Cert.RefOprojTIdeal.Value.G9 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ⟨((h c).1 7).trans (final7 m c), ((h c).1 8).trans (final8 m c), ((h c).1 9).trans (final9 m c)⟩

/-- The kernel and its reference compute the same arrays. -/
theorem algebraic : Cert.algebraic_OprojTIdeal_RefOprojTIdeal := by
  intro m g m' g' hpre hagree
  refine ⟨fun c => Cert.RefOprojTIdeal.Value.G7 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)), fun c => Cert.RefOprojTIdeal.Value.G8 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)), fun c => Cert.RefOprojTIdeal.Value.G9 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)), ?_, ?_⟩
  · refine (θ_run _ _ _).mono (fun r h c => ?_) (run_main m g)
    have k : ∀ w : Fin cfg0.W, (cfg0.win w).isOut = false → r.2.mem (((cfgs 0).spec w).arr.view.loc (c.tc : Thread nD τ)) = V m c (Pipeline.arrRef spec0 w) :=
      fun w hw => ((h.1 c).1 w).trans (((dats m 0 c).arrAt_in w hw _).trans (A_eq m c w))
    obtain ⟨h7, h8, h9⟩ := results m r h.1 c
    exact ⟨h7, h8, h9, k 0 rfl, k 1 rfl, k 2 rfl, k 3 rfl, k 4 rfl, k 5 rfl, k 6 rfl⟩
  · refine (θ_run _ _ _).mono (fun r h c => ?_) (Cert.RefOprojTIdeal.Value.run m' g')
    obtain ⟨h7, h8, h9, k0, k1, k2, k3, k4, k5, k6⟩ := h c
    obtain ⟨e0, e1, e2, e3, e4, e5, e6⟩ := hagree c
    rw [e0, e1, e2, e3, e4, e5, e6] at h7 h8 h9
    exact ⟨h7, h8, h9, k0, k1, k2, k3, k4, k5, k6⟩

end Cert.OprojTIdeal.TileValue

end
-- ==== Proof.Fc1Body.lean ====
/- The first feed-forward product (Fc1): what its body leaves in the staging and scratch buffers, and the run of the whole call. -/
module

public import proofs.«01_k».proof.Proof.Gen.Fc1.Frame
public import proofs.«01_k».proof.Proof.Gen.Fc1.Skeleton
public import Idealize.ShloMosaic.Lib.Pipeline.FrameBody
public import Idealize.ShloMosaic.Lib.VecWindow
public import Idealize.ShloMosaic.Lib.Claim
public import Idealize.ShloMosaic.Lib.Tactic

@[expose] public section

set_option maxRecDepth 16384

noncomputable section

namespace Cert.Fc1.Body

open Cert.Fc1 Cert.Fc1.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The columns of row-block scratch that grid step `n` works on. -/
theorem inb_col (i : grid0.Coords) : ∀ a, (![0, 512 * (i 1).val] : Fin 2 → ℕ) a + S512x512.size a ≤ S512x20480.size a := by
  intro a
  have h : (i 1).val < 40 := (i 1).isLt
  match a with
  | ⟨0, _⟩ => show 0 + 512 ≤ 512; omega
  | ⟨1, _⟩ => show 512 * (i 1).val + 512 ≤ 20480; omega

/-- The running maximum after its reset at a row block's first step. -/
def M1 (i : grid0.Coords) (m0 : Vec F S512x128 .f32) : Vec F S512x128 .f32 := if (i 1).val = 0 then k0_pay2 else m0
/-- The scale kept: taken from the finished maximum at a row block's first step. -/
def SC (i : grid0.Coords) (m0 : Vec F S512x128 .f32) (sc0 : Vec F S512x1 .f32) : Vec F S512x1 .f32 :=
  if (i 1).val = 0 ∧ 0 < (i 0).val then k0_pay1 m0 else sc0
/-- The running maximum after the step. -/
def MM (i : grid0.Coords) (x0 : Vec F S512x5120 .fp8e4m3) (x1 : Vec F S512x1 .f32) (x2 : Vec F S5120x512 .fp8e4m3) (x3 x4 : Vec F S1x512 .f32)
    (m0 : Vec F S512x128 .f32) : Vec F S512x128 .f32 :=
  if (i 0).val < 11 then k0_pay6 x0 x2 x1 x3 x4 (M1 i m0) else M1 i m0
/-- The hidden rows after the step. -/
def HID (i : grid0.Coords) (x0 : Vec F S512x5120 .fp8e4m3) (x1 : Vec F S512x1 .f32) (x2 : Vec F S5120x512 .fp8e4m3) (x3 x4 : Vec F S1x512 .f32)
    (h0 : Vec F S512x20480 .f32) : Vec F S512x20480 .f32 :=
  if (i 0).val < 11 then VecWindow.put h0 ![0, 512 * (i 1).val] S512x512.size (k0_pay5 x0 x2 x1 x3 x4) else h0
/-- The quantised block stored. -/
def Y5 (i : grid0.Coords) (m0 : Vec F S512x128 .f32) (sc0 : Vec F S512x1 .f32) (h0 : Vec F S512x20480 .f32) (y5 : Vec F S512x512 .fp8e4m3) : Vec F S512x512 .fp8e4m3 :=
  if 0 < (i 0).val then k0_pay3 (SC i m0 sc0) (VecWindow.window h0 ![0, 512 * (i 1).val] S512x512.size (inb_col i)) else y5
/-- The scale block stored. -/
def Y6 (i : grid0.Coords) (m0 : Vec F S512x128 .f32) (sc0 : Vec F S512x1 .f32) (y6 : Vec F S512x1 .f32) : Vec F S512x1 .f32 :=
  if 0 < (i 0).val then SC i m0 sc0 else y6

/-- The first condition of the body. -/
abbrev c1 (i : grid0.Coords) : BitVec 1 :=
  Scalar.cmpi .ne (Scalar.extui (Scalar.andi (Scalar.cmpi .eq (BitVec.ofNat 32 (i 1).val) 0#32) (Scalar.cmpi .sgt (BitVec.ofNat 32 (i 0).val) 0#32))) 0#32
/-- The second condition of the body. -/
abbrev c2 (i : grid0.Coords) : BitVec 1 := Scalar.cmpi .ne (Scalar.extui (Scalar.cmpi .eq (BitVec.ofNat 32 (i 1).val) 0#32)) 0#32

/-- The conditions read as numbers, at every grid point. -/
theorem conds : ∀ (a : Fin 12) (b : Fin 40),
    (Scalar.cmpi .ne (Scalar.extui (Scalar.andi (Scalar.cmpi .eq (BitVec.ofNat 32 b.val) 0#32) (Scalar.cmpi .sgt (BitVec.ofNat 32 a.val) 0#32))) 0#32 = 1#1 ↔ b.val = 0 ∧ 0 < a.val)
    ∧ (Scalar.cmpi .ne (Scalar.extui (Scalar.cmpi .eq (BitVec.ofNat 32 b.val) 0#32)) 0#32 = 1#1 ↔ b.val = 0)
    ∧ (Scalar.cmpi .ne (Scalar.extui (Scalar.cmpi .sgt (BitVec.ofNat 32 a.val) 0#32)) 0#32 = 1#1 ↔ 0 < a.val)
    ∧ (Scalar.cmpi .ne (Scalar.extui (Scalar.cmpi .slt (BitVec.ofNat 32 a.val) 11#32)) 0#32 = 1#1 ↔ a.val < 11) := by decide +kernel

theorem c1_iff (i : grid0.Coords) : c1 i = 1#1 ↔ ((i 1).val = 0 ∧ 0 < (i 0).val) := (conds (i 0) (i 1)).1
theorem c2_iff (i : grid0.Coords) : c2 i = 1#1 ↔ (i 1).val = 0 := (conds (i 0) (i 1)).2.1
theorem c3_iff (i : grid0.Coords) : k0_cond3 i = 1#1 ↔ 0 < (i 0).val := (conds (i 0) (i 1)).2.2.1
theorem c4_iff (i : grid0.Coords) : k0_cond4 i = 1#1 ↔ (i 0).val < 11 := (conds (i 0) (i 1)).2.2.2

set_option maxHeartbeats 2000000 in
/-- The body on whole buffers, at a point with `n = 0` True, `0 < i` False, `i < 11` True. -/
theorem sound_kernelA (c : Dev nD) (E : Set ℕ) (i : grid0.Coords) (hn : (i 1).val = 0) (hi : ¬ 0 < (i 0).val) (hi' : (i 0).val < 11)
    (arg2 : Memref sig .tc .vmem S512x5120 .fp8e4m3) (harg2 : arg2.IsWhole) (arg3 : Memref sig .tc .vmem S512x1 .f32) (harg3 : arg3.IsWhole) (arg4 : Memref sig .tc .vmem S5120x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .fp8e4m3) (harg7 : arg7.IsWhole) (arg8 : Memref sig .tc .vmem S512x1 .f32) (harg8 : arg8.IsWhole) (arg9 : Memref sig .tc .vmem S512x20480 .f32) (harg9 : arg9.IsWhole) (arg10 : Memref sig .tc .vmem S512x128 .f32) (harg10 : arg10.IsWhole) (arg11 : Memref sig .tc .vmem S512x1 .f32) (harg11 : arg11.IsWhole)
    (x0 : Vec F S512x5120 .fp8e4m3) (x1 : Vec F S512x1 .f32) (x2 : Vec F S5120x512 .fp8e4m3) (x3 : Vec F S1x512 .f32) (x4 : Vec F S1x512 .f32) (y5 : Vec F S512x512 .fp8e4m3) (y6 : Vec F S512x1 .f32) (h0 : Vec F S512x20480 .f32) (m0 : Vec F S512x128 .f32) (sc0 : Vec F S512x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare h0 ∗ owns (c : Thread nD τ) arg10 fullShare m0 ∗ owns (c : Thread nD τ) arg11 fullShare sc0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (Y5 i m0 sc0 h0 y5) ∗ owns (c : Thread nD τ) arg8 fullShare (Y6 i m0 sc0 y6) ∗ owns (c : Thread nD τ) arg9 fullShare (HID i x0 x1 x2 x3 x4 h0) ∗ owns (c : Thread nD τ) arg10 fullShare (MM i x0 x1 x2 x3 x4 m0) ∗ owns (c : Thread nD τ) arg11 fullShare (SC i m0 sc0)) -∗ K ⟨⟩))
      ⊢ wp frame (wpE (defs₀ (F := F)) Variants.none c none) E (cc0_fc1 i arg2 harg2 arg3 harg3 arg4 harg4 arg5 harg5 arg6 harg6 arg7 harg7 arg8 harg8 arg9 harg9 arg10 harg10 arg11 harg11) K := by
  have hc1 : ¬ (c1 i = 1#1) := by rw [c1_iff]; omega
  have hc2 : (c2 i = 1#1) := by rw [c2_iff]; omega
  have hc3 : ¬ (k0_cond3 i = 1#1) := by rw [c3_iff]; omega
  have hc4 : (k0_cond4 i = 1#1) := by rw [c4_iff]; omega
  have hn1 : ¬ ((i 1).val = 0 ∧ 0 < (i 0).val) := by omega
  simp only [cc0_fc1_eq_skeleton]; unfold cc0_fc1_skel
  dsimp only
  rw [dif_neg hc1, dif_pos hc2, dif_neg hc3, dif_pos hc4]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    (unfold Y5 SC; rw [if_neg hi])
  isplitl [H6]
  · iexists _; isplitr
    swap; · iexact H6
    ipureintro
    (unfold Y6 SC; rw [if_neg hi])
  isplitl [H7]
  · iexists _; isplitr
    swap; · iexact H7
    ipureintro
    unfold HID; rw [if_pos hi']
    exact (View.read_writes_cons_put _ _ _ _ _ (k0_off2_eq i)).trans (congrArg (VecWindow.put _ _ _) (congr (congr (congr (congr (congrArg k0_pay5 (View.readAt_full _ _ _)) (View.readAt_full _ _ _)) (View.readAt_full _ _ _)) (View.readAt_full _ _ _)) (View.readAt_full _ _ _)))
  isplitl [H8]
  · iexists _; isplitr
    swap; · iexact H8
    ipureintro
    unfold MM M1; rw [if_pos hi', if_pos hn]
    exact (View.read_writes_full _ _ _ _ _).trans (congr (congr (congr (congr (congr (congrArg k0_pay6 (View.readAt_full _ _ _)) (View.readAt_full _ _ _)) (View.readAt_full _ _ _)) (View.readAt_full _ _ _)) (View.readAt_full _ _ _)) (View.readAt_writes_full _ _ _ _ _ _))
  iexists _; isplitr
  swap; · iexact H9
  ipureintro
  (unfold SC; rw [if_neg hn1])

set_option maxHeartbeats 2000000 in
/-- The body on whole buffers, at a point with `n = 0` False, `0 < i` False, `i < 11` True. -/
theorem sound_kernelB (c : Dev nD) (E : Set ℕ) (i : grid0.Coords) (hn : ¬ (i 1).val = 0) (hi : ¬ 0 < (i 0).val) (hi' : (i 0).val < 11)
    (arg2 : Memref sig .tc .vmem S512x5120 .fp8e4m3) (harg2 : arg2.IsWhole) (arg3 : Memref sig .tc .vmem S512x1 .f32) (harg3 : arg3.IsWhole) (arg4 : Memref sig .tc .vmem S5120x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .fp8e4m3) (harg7 : arg7.IsWhole) (arg8 : Memref sig .tc .vmem S512x1 .f32) (harg8 : arg8.IsWhole) (arg9 : Memref sig .tc .vmem S512x20480 .f32) (harg9 : arg9.IsWhole) (arg10 : Memref sig .tc .vmem S512x128 .f32) (harg10 : arg10.IsWhole) (arg11 : Memref sig .tc .vmem S512x1 .f32) (harg11 : arg11.IsWhole)
    (x0 : Vec F S512x5120 .fp8e4m3) (x1 : Vec F S512x1 .f32) (x2 : Vec F S5120x512 .fp8e4m3) (x3 : Vec F S1x512 .f32) (x4 : Vec F S1x512 .f32) (y5 : Vec F S512x512 .fp8e4m3) (y6 : Vec F S512x1 .f32) (h0 : Vec F S512x20480 .f32) (m0 : Vec F S512x128 .f32) (sc0 : Vec F S512x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare h0 ∗ owns (c : Thread nD τ) arg10 fullShare m0 ∗ owns (c : Thread nD τ) arg11 fullShare sc0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (Y5 i m0 sc0 h0 y5) ∗ owns (c : Thread nD τ) arg8 fullShare (Y6 i m0 sc0 y6) ∗ owns (c : Thread nD τ) arg9 fullShare (HID i x0 x1 x2 x3 x4 h0) ∗ owns (c : Thread nD τ) arg10 fullShare (MM i x0 x1 x2 x3 x4 m0) ∗ owns (c : Thread nD τ) arg11 fullShare (SC i m0 sc0)) -∗ K ⟨⟩))
      ⊢ wp frame (wpE (defs₀ (F := F)) Variants.none c none) E (cc0_fc1 i arg2 harg2 arg3 harg3 arg4 harg4 arg5 harg5 arg6 harg6 arg7 harg7 arg8 harg8 arg9 harg9 arg10 harg10 arg11 harg11) K := by
  have hc1 : ¬ (c1 i = 1#1) := by rw [c1_iff]; omega
  have hc2 : ¬ (c2 i = 1#1) := by rw [c2_iff]; omega
  have hc3 : ¬ (k0_cond3 i = 1#1) := by rw [c3_iff]; omega
  have hc4 : (k0_cond4 i = 1#1) := by rw [c4_iff]; omega
  have hn1 : ¬ ((i 1).val = 0 ∧ 0 < (i 0).val) := by omega
  simp only [cc0_fc1_eq_skeleton]; unfold cc0_fc1_skel
  dsimp only
  rw [dif_neg hc1, dif_neg hc2, dif_neg hc3, dif_pos hc4]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    (unfold Y5 SC; rw [if_neg hi])
  isplitl [H6]
  · iexists _; isplitr
    swap; · iexact H6
    ipureintro
    (unfold Y6 SC; rw [if_neg hi])
  isplitl [H7]
  · iexists _; isplitr
    swap; · iexact H7
    ipureintro
    unfold HID; rw [if_pos hi']
    exact (View.read_writes_cons_put _ _ _ _ _ (k0_off2_eq i)).trans (congrArg (VecWindow.put _ _ _) (congr (congr (congr (congr (congrArg k0_pay5 (View.readAt_full _ _ _)) (View.readAt_full _ _ _)) (View.readAt_full _ _ _)) (View.readAt_full _ _ _)) (View.readAt_full _ _ _)))
  isplitl [H8]
  · iexists _; isplitr
    swap; · iexact H8
    ipureintro
    unfold MM M1; rw [if_pos hi', if_neg hn]
    exact (View.read_writes_full _ _ _ _ _).trans (congr (congr (congr (congr (congr (congrArg k0_pay6 (View.readAt_full _ _ _)) (View.readAt_full _ _ _)) (View.readAt_full _ _ _)) (View.readAt_full _ _ _)) (View.readAt_full _ _ _)) (View.readAt_full _ _ _))
  iexists _; isplitr
  swap; · iexact H9
  ipureintro
  (unfold SC; rw [if_neg hn1])

set_option maxHeartbeats 2000000 in
/-- The body on whole buffers, at a point with `n = 0` True, `0 < i` True, `i < 11` True. -/
theorem sound_kernelC (c : Dev nD) (E : Set ℕ) (i : grid0.Coords) (hn : (i 1).val = 0) (hi : 0 < (i 0).val) (hi' : (i 0).val < 11)
    (arg2 : Memref sig .tc .vmem S512x5120 .fp8e4m3) (harg2 : arg2.IsWhole) (arg3 : Memref sig .tc .vmem S512x1 .f32) (harg3 : arg3.IsWhole) (arg4 : Memref sig .tc .vmem S5120x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .fp8e4m3) (harg7 : arg7.IsWhole) (arg8 : Memref sig .tc .vmem S512x1 .f32) (harg8 : arg8.IsWhole) (arg9 : Memref sig .tc .vmem S512x20480 .f32) (harg9 : arg9.IsWhole) (arg10 : Memref sig .tc .vmem S512x128 .f32) (harg10 : arg10.IsWhole) (arg11 : Memref sig .tc .vmem S512x1 .f32) (harg11 : arg11.IsWhole)
    (x0 : Vec F S512x5120 .fp8e4m3) (x1 : Vec F S512x1 .f32) (x2 : Vec F S5120x512 .fp8e4m3) (x3 : Vec F S1x512 .f32) (x4 : Vec F S1x512 .f32) (y5 : Vec F S512x512 .fp8e4m3) (y6 : Vec F S512x1 .f32) (h0 : Vec F S512x20480 .f32) (m0 : Vec F S512x128 .f32) (sc0 : Vec F S512x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare h0 ∗ owns (c : Thread nD τ) arg10 fullShare m0 ∗ owns (c : Thread nD τ) arg11 fullShare sc0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (Y5 i m0 sc0 h0 y5) ∗ owns (c : Thread nD τ) arg8 fullShare (Y6 i m0 sc0 y6) ∗ owns (c : Thread nD τ) arg9 fullShare (HID i x0 x1 x2 x3 x4 h0) ∗ owns (c : Thread nD τ) arg10 fullShare (MM i x0 x1 x2 x3 x4 m0) ∗ owns (c : Thread nD τ) arg11 fullShare (SC i m0 sc0)) -∗ K ⟨⟩))
      ⊢ wp frame (wpE (defs₀ (F := F)) Variants.none c none) E (cc0_fc1 i arg2 harg2 arg3 harg3 arg4 harg4 arg5 harg5 arg6 harg6 arg7 harg7 arg8 harg8 arg9 harg9 arg10 harg10 arg11 harg11) K := by
  have hc1 : (c1 i = 1#1) := by rw [c1_iff]; omega
  have hc2 : (c2 i = 1#1) := by rw [c2_iff]; omega
  have hc3 : (k0_cond3 i = 1#1) := by rw [c3_iff]; omega
  have hc4 : (k0_cond4 i = 1#1) := by rw [c4_iff]; omega
  have hn1 : ((i 1).val = 0 ∧ 0 < (i 0).val) := by omega
  simp only [cc0_fc1_eq_skeleton]; unfold cc0_fc1_skel
  dsimp only
  rw [dif_pos hc1, dif_pos hc2, dif_pos hc3, dif_pos hc4]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    unfold Y5 SC; rw [if_pos hi, if_pos hn1]
    exact (View.read_writes_full _ _ _ _ _).trans (congr (congrArg k0_pay3 ((View.readAt_writes_full _ _ _ _ _ _).trans (congrArg k0_pay1 (View.readAt_full _ _ _)))) (View.readAt_unit _ _ _ (k0_off1_eq i) (inb_col i)))
  isplitl [H6]
  · iexists _; isplitr
    swap; · iexact H6
    ipureintro
    unfold Y6 SC; rw [if_pos hi, if_pos hn1]
    exact (View.read_writes_full _ _ _ _ _).trans ((View.readAt_writes_full _ _ _ _ _ _).trans (congrArg k0_pay1 (View.readAt_full _ _ _)))
  isplitl [H7]
  · iexists _; isplitr
    swap; · iexact H7
    ipureintro
    unfold HID; rw [if_pos hi']
    exact (View.read_writes_cons_put _ _ _ _ _ (k0_off2_eq i)).trans (congrArg (VecWindow.put _ _ _) (congr (congr (congr (congr (congrArg k0_pay5 (View.readAt_full _ _ _)) (View.readAt_full _ _ _)) (View.readAt_full _ _ _)) (View.readAt_full _ _ _)) (View.readAt_full _ _ _)))
  isplitl [H8]
  · iexists _; isplitr
    swap; · iexact H8
    ipureintro
    unfold MM M1; rw [if_pos hi', if_pos hn]
    exact (View.read_writes_full _ _ _ _ _).trans (congr (congr (congr (congr (congr (congrArg k0_pay6 (View.readAt_full _ _ _)) (View.readAt_full _ _ _)) (View.readAt_full _ _ _)) (View.readAt_full _ _ _)) (View.readAt_full _ _ _)) (View.readAt_writes_full _ _ _ _ _ _))
  iexists _; isplitr
  swap; · iexact H9
  ipureintro
  unfold SC; rw [if_pos hn1]
  exact (View.read_writes_full _ _ _ _ _).trans (congrArg k0_pay1 (View.readAt_full _ _ _))

set_option maxHeartbeats 2000000 in
/-- The body on whole buffers, at a point with `n = 0` False, `0 < i` True, `i < 11` True. -/
theorem sound_kernelD (c : Dev nD) (E : Set ℕ) (i : grid0.Coords) (hn : ¬ (i 1).val = 0) (hi : 0 < (i 0).val) (hi' : (i 0).val < 11)
    (arg2 : Memref sig .tc .vmem S512x5120 .fp8e4m3) (harg2 : arg2.IsWhole) (arg3 : Memref sig .tc .vmem S512x1 .f32) (harg3 : arg3.IsWhole) (arg4 : Memref sig .tc .vmem S5120x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .fp8e4m3) (harg7 : arg7.IsWhole) (arg8 : Memref sig .tc .vmem S512x1 .f32) (harg8 : arg8.IsWhole) (arg9 : Memref sig .tc .vmem S512x20480 .f32) (harg9 : arg9.IsWhole) (arg10 : Memref sig .tc .vmem S512x128 .f32) (harg10 : arg10.IsWhole) (arg11 : Memref sig .tc .vmem S512x1 .f32) (harg11 : arg11.IsWhole)
    (x0 : Vec F S512x5120 .fp8e4m3) (x1 : Vec F S512x1 .f32) (x2 : Vec F S5120x512 .fp8e4m3) (x3 : Vec F S1x512 .f32) (x4 : Vec F S1x512 .f32) (y5 : Vec F S512x512 .fp8e4m3) (y6 : Vec F S512x1 .f32) (h0 : Vec F S512x20480 .f32) (m0 : Vec F S512x128 .f32) (sc0 : Vec F S512x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare h0 ∗ owns (c : Thread nD τ) arg10 fullShare m0 ∗ owns (c : Thread nD τ) arg11 fullShare sc0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (Y5 i m0 sc0 h0 y5) ∗ owns (c : Thread nD τ) arg8 fullShare (Y6 i m0 sc0 y6) ∗ owns (c : Thread nD τ) arg9 fullShare (HID i x0 x1 x2 x3 x4 h0) ∗ owns (c : Thread nD τ) arg10 fullShare (MM i x0 x1 x2 x3 x4 m0) ∗ owns (c : Thread nD τ) arg11 fullShare (SC i m0 sc0)) -∗ K ⟨⟩))
      ⊢ wp frame (wpE (defs₀ (F := F)) Variants.none c none) E (cc0_fc1 i arg2 harg2 arg3 harg3 arg4 harg4 arg5 harg5 arg6 harg6 arg7 harg7 arg8 harg8 arg9 harg9 arg10 harg10 arg11 harg11) K := by
  have hc1 : ¬ (c1 i = 1#1) := by rw [c1_iff]; omega
  have hc2 : ¬ (c2 i = 1#1) := by rw [c2_iff]; omega
  have hc3 : (k0_cond3 i = 1#1) := by rw [c3_iff]; omega
  have hc4 : (k0_cond4 i = 1#1) := by rw [c4_iff]; omega
  have hn1 : ¬ ((i 1).val = 0 ∧ 0 < (i 0).val) := by omega
  simp only [cc0_fc1_eq_skeleton]; unfold cc0_fc1_skel
  dsimp only
  rw [dif_neg hc1, dif_neg hc2, dif_pos hc3, dif_pos hc4]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    unfold Y5 SC; rw [if_pos hi, if_neg hn1]
    exact (View.read_writes_full _ _ _ _ _).trans (congr (congrArg k0_pay3 (View.readAt_full _ _ _)) (View.readAt_unit _ _ _ (k0_off1_eq i) (inb_col i)))
  isplitl [H6]
  · iexists _; isplitr
    swap; · iexact H6
    ipureintro
    unfold Y6 SC; rw [if_pos hi, if_neg hn1]
    exact (View.read_writes_full _ _ _ _ _).trans (View.readAt_full _ _ _)
  isplitl [H7]
  · iexists _; isplitr
    swap; · iexact H7
    ipureintro
    unfold HID; rw [if_pos hi']
    exact (View.read_writes_cons_put _ _ _ _ _ (k0_off2_eq i)).trans (congrArg (VecWindow.put _ _ _) (congr (congr (congr (congr (congrArg k0_pay5 (View.readAt_full _ _ _)) (View.readAt_full _ _ _)) (View.readAt_full _ _ _)) (View.readAt_full _ _ _)) (View.readAt_full _ _ _)))
  isplitl [H8]
  · iexists _; isplitr
    swap; · iexact H8
    ipureintro
    unfold MM M1; rw [if_pos hi', if_neg hn]
    exact (View.read_writes_full _ _ _ _ _).trans (congr (congr (congr (congr (congr (congrArg k0_pay6 (View.readAt_full _ _ _)) (View.readAt_full _ _ _)) (View.readAt_full _ _ _)) (View.readAt_full _ _ _)) (View.readAt_full _ _ _)) (View.readAt_full _ _ _))
  iexists _; isplitr
  swap; · iexact H9
  ipureintro
  (unfold SC; rw [if_neg hn1])

set_option maxHeartbeats 2000000 in
/-- The body on whole buffers, at a point with `n = 0` True, `0 < i` True, `i < 11` False. -/
theorem sound_kernelE (c : Dev nD) (E : Set ℕ) (i : grid0.Coords) (hn : (i 1).val = 0) (hi : 0 < (i 0).val) (hi' : ¬ (i 0).val < 11)
    (arg2 : Memref sig .tc .vmem S512x5120 .fp8e4m3) (harg2 : arg2.IsWhole) (arg3 : Memref sig .tc .vmem S512x1 .f32) (harg3 : arg3.IsWhole) (arg4 : Memref sig .tc .vmem S5120x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .fp8e4m3) (harg7 : arg7.IsWhole) (arg8 : Memref sig .tc .vmem S512x1 .f32) (harg8 : arg8.IsWhole) (arg9 : Memref sig .tc .vmem S512x20480 .f32) (harg9 : arg9.IsWhole) (arg10 : Memref sig .tc .vmem S512x128 .f32) (harg10 : arg10.IsWhole) (arg11 : Memref sig .tc .vmem S512x1 .f32) (harg11 : arg11.IsWhole)
    (x0 : Vec F S512x5120 .fp8e4m3) (x1 : Vec F S512x1 .f32) (x2 : Vec F S5120x512 .fp8e4m3) (x3 : Vec F S1x512 .f32) (x4 : Vec F S1x512 .f32) (y5 : Vec F S512x512 .fp8e4m3) (y6 : Vec F S512x1 .f32) (h0 : Vec F S512x20480 .f32) (m0 : Vec F S512x128 .f32) (sc0 : Vec F S512x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare h0 ∗ owns (c : Thread nD τ) arg10 fullShare m0 ∗ owns (c : Thread nD τ) arg11 fullShare sc0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (Y5 i m0 sc0 h0 y5) ∗ owns (c : Thread nD τ) arg8 fullShare (Y6 i m0 sc0 y6) ∗ owns (c : Thread nD τ) arg9 fullShare (HID i x0 x1 x2 x3 x4 h0) ∗ owns (c : Thread nD τ) arg10 fullShare (MM i x0 x1 x2 x3 x4 m0) ∗ owns (c : Thread nD τ) arg11 fullShare (SC i m0 sc0)) -∗ K ⟨⟩))
      ⊢ wp frame (wpE (defs₀ (F := F)) Variants.none c none) E (cc0_fc1 i arg2 harg2 arg3 harg3 arg4 harg4 arg5 harg5 arg6 harg6 arg7 harg7 arg8 harg8 arg9 harg9 arg10 harg10 arg11 harg11) K := by
  have hc1 : (c1 i = 1#1) := by rw [c1_iff]; omega
  have hc2 : (c2 i = 1#1) := by rw [c2_iff]; omega
  have hc3 : (k0_cond3 i = 1#1) := by rw [c3_iff]; omega
  have hc4 : ¬ (k0_cond4 i = 1#1) := by rw [c4_iff]; omega
  have hn1 : ((i 1).val = 0 ∧ 0 < (i 0).val) := by omega
  simp only [cc0_fc1_eq_skeleton]; unfold cc0_fc1_skel
  dsimp only
  rw [dif_pos hc1, dif_pos hc2, dif_pos hc3, dif_neg hc4]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    unfold Y5 SC; rw [if_pos hi, if_pos hn1]
    exact (View.read_writes_full _ _ _ _ _).trans (congr (congrArg k0_pay3 ((View.readAt_writes_full _ _ _ _ _ _).trans (congrArg k0_pay1 (View.readAt_full _ _ _)))) (View.readAt_unit _ _ _ (k0_off1_eq i) (inb_col i)))
  isplitl [H6]
  · iexists _; isplitr
    swap; · iexact H6
    ipureintro
    unfold Y6 SC; rw [if_pos hi, if_pos hn1]
    exact (View.read_writes_full _ _ _ _ _).trans ((View.readAt_writes_full _ _ _ _ _ _).trans (congrArg k0_pay1 (View.readAt_full _ _ _)))
  isplitl [H7]
  · iexists _; isplitr
    swap; · iexact H7
    ipureintro
    (unfold HID; rw [if_neg hi'])
  isplitl [H8]
  · iexists _; isplitr
    swap; · iexact H8
    ipureintro
    unfold MM M1; rw [if_neg hi', if_pos hn]
    exact (View.read_writes_full _ _ _ _ _)
  iexists _; isplitr
  swap; · iexact H9
  ipureintro
  unfold SC; rw [if_pos hn1]
  exact (View.read_writes_full _ _ _ _ _).trans (congrArg k0_pay1 (View.readAt_full _ _ _))

set_option maxHeartbeats 2000000 in
/-- The body on whole buffers, at a point with `n = 0` False, `0 < i` True, `i < 11` False. -/
theorem sound_kernelG (c : Dev nD) (E : Set ℕ) (i : grid0.Coords) (hn : ¬ (i 1).val = 0) (hi : 0 < (i 0).val) (hi' : ¬ (i 0).val < 11)
    (arg2 : Memref sig .tc .vmem S512x5120 .fp8e4m3) (harg2 : arg2.IsWhole) (arg3 : Memref sig .tc .vmem S512x1 .f32) (harg3 : arg3.IsWhole) (arg4 : Memref sig .tc .vmem S5120x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .fp8e4m3) (harg7 : arg7.IsWhole) (arg8 : Memref sig .tc .vmem S512x1 .f32) (harg8 : arg8.IsWhole) (arg9 : Memref sig .tc .vmem S512x20480 .f32) (harg9 : arg9.IsWhole) (arg10 : Memref sig .tc .vmem S512x128 .f32) (harg10 : arg10.IsWhole) (arg11 : Memref sig .tc .vmem S512x1 .f32) (harg11 : arg11.IsWhole)
    (x0 : Vec F S512x5120 .fp8e4m3) (x1 : Vec F S512x1 .f32) (x2 : Vec F S5120x512 .fp8e4m3) (x3 : Vec F S1x512 .f32) (x4 : Vec F S1x512 .f32) (y5 : Vec F S512x512 .fp8e4m3) (y6 : Vec F S512x1 .f32) (h0 : Vec F S512x20480 .f32) (m0 : Vec F S512x128 .f32) (sc0 : Vec F S512x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare h0 ∗ owns (c : Thread nD τ) arg10 fullShare m0 ∗ owns (c : Thread nD τ) arg11 fullShare sc0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (Y5 i m0 sc0 h0 y5) ∗ owns (c : Thread nD τ) arg8 fullShare (Y6 i m0 sc0 y6) ∗ owns (c : Thread nD τ) arg9 fullShare (HID i x0 x1 x2 x3 x4 h0) ∗ owns (c : Thread nD τ) arg10 fullShare (MM i x0 x1 x2 x3 x4 m0) ∗ owns (c : Thread nD τ) arg11 fullShare (SC i m0 sc0)) -∗ K ⟨⟩))
      ⊢ wp frame (wpE (defs₀ (F := F)) Variants.none c none) E (cc0_fc1 i arg2 harg2 arg3 harg3 arg4 harg4 arg5 harg5 arg6 harg6 arg7 harg7 arg8 harg8 arg9 harg9 arg10 harg10 arg11 harg11) K := by
  have hc1 : ¬ (c1 i = 1#1) := by rw [c1_iff]; omega
  have hc2 : ¬ (c2 i = 1#1) := by rw [c2_iff]; omega
  have hc3 : (k0_cond3 i = 1#1) := by rw [c3_iff]; omega
  have hc4 : ¬ (k0_cond4 i = 1#1) := by rw [c4_iff]; omega
  have hn1 : ¬ ((i 1).val = 0 ∧ 0 < (i 0).val) := by omega
  simp only [cc0_fc1_eq_skeleton]; unfold cc0_fc1_skel
  dsimp only
  rw [dif_neg hc1, dif_neg hc2, dif_pos hc3, dif_neg hc4]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    unfold Y5 SC; rw [if_pos hi, if_neg hn1]
    exact (View.read_writes_full _ _ _ _ _).trans (congr (congrArg k0_pay3 (View.readAt_full _ _ _)) (View.readAt_unit _ _ _ (k0_off1_eq i) (inb_col i)))
  isplitl [H6]
  · iexists _; isplitr
    swap; · iexact H6
    ipureintro
    unfold Y6 SC; rw [if_pos hi, if_neg hn1]
    exact (View.read_writes_full _ _ _ _ _).trans (View.readAt_full _ _ _)
  isplitl [H7]
  · iexists _; isplitr
    swap; · iexact H7
    ipureintro
    (unfold HID; rw [if_neg hi'])
  isplitl [H8]
  · iexists _; isplitr
    swap; · iexact H8
    ipureintro
    (unfold MM M1; rw [if_neg hi', if_neg hn])
  iexists _; isplitr
  swap; · iexact H9
  ipureintro
  (unfold SC; rw [if_neg hn1])

/-- The body on whole buffers, at any point. -/
theorem sound_kernel (c : Dev nD) (E : Set ℕ) (i : grid0.Coords)
    (arg2 : Memref sig .tc .vmem S512x5120 .fp8e4m3) (harg2 : arg2.IsWhole) (arg3 : Memref sig .tc .vmem S512x1 .f32) (harg3 : arg3.IsWhole) (arg4 : Memref sig .tc .vmem S5120x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .fp8e4m3) (harg7 : arg7.IsWhole) (arg8 : Memref sig .tc .vmem S512x1 .f32) (harg8 : arg8.IsWhole) (arg9 : Memref sig .tc .vmem S512x20480 .f32) (harg9 : arg9.IsWhole) (arg10 : Memref sig .tc .vmem S512x128 .f32) (harg10 : arg10.IsWhole) (arg11 : Memref sig .tc .vmem S512x1 .f32) (harg11 : arg11.IsWhole)
    (x0 : Vec F S512x5120 .fp8e4m3) (x1 : Vec F S512x1 .f32) (x2 : Vec F S5120x512 .fp8e4m3) (x3 : Vec F S1x512 .f32) (x4 : Vec F S1x512 .f32) (y5 : Vec F S512x512 .fp8e4m3) (y6 : Vec F S512x1 .f32) (h0 : Vec F S512x20480 .f32) (m0 : Vec F S512x128 .f32) (sc0 : Vec F S512x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare h0 ∗ owns (c : Thread nD τ) arg10 fullShare m0 ∗ owns (c : Thread nD τ) arg11 fullShare sc0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (Y5 i m0 sc0 h0 y5) ∗ owns (c : Thread nD τ) arg8 fullShare (Y6 i m0 sc0 y6) ∗ owns (c : Thread nD τ) arg9 fullShare (HID i x0 x1 x2 x3 x4 h0) ∗ owns (c : Thread nD τ) arg10 fullShare (MM i x0 x1 x2 x3 x4 m0) ∗ owns (c : Thread nD τ) arg11 fullShare (SC i m0 sc0)) -∗ K ⟨⟩))
      ⊢ wp frame (wpE (defs₀ (F := F)) Variants.none c none) E (cc0_fc1 i arg2 harg2 arg3 harg3 arg4 harg4 arg5 harg5 arg6 harg6 arg7 harg7 arg8 harg8 arg9 harg9 arg10 harg10 arg11 harg11) K := by
  by_cases hn : (i 1).val = 0
  · by_cases hi : 0 < (i 0).val
    · by_cases hi' : (i 0).val < 11
      · exact sound_kernelC c E i hn hi hi' _ _ _ _ _ _ _ _ _ _ _ _ _ _ _ _ _ _ _ _ _ _ _ _ _ _ _ _ _ _ _
      · exact sound_kernelE c E i hn hi hi' _ _ _ _ _ _ _ _ _ _ _ _ _ _ _ _ _ _ _ _ _ _ _ _ _ _ _ _ _ _ _
    · exact sound_kernelA c E i hn hi (by omega) _ _ _ _ _ _ _ _ _ _ _ _ _ _ _ _ _ _ _ _ _ _ _ _ _ _ _ _ _ _ _
  · by_cases hi : 0 < (i 0).val
    · by_cases hi' : (i 0).val < 11
      · exact sound_kernelD c E i hn hi hi' _ _ _ _ _ _ _ _ _ _ _ _ _ _ _ _ _ _ _ _ _ _ _ _ _ _ _ _ _ _ _
      · exact sound_kernelG c E i hn hi hi' _ _ _ _ _ _ _ _ _ _ _ _ _ _ _ _ _ _ _ _ _ _ _ _ _ _ _ _ _ _ _
    · exact sound_kernelB c E i hn hi (by omega) _ _ _ _ _ _ _ _ _ _ _ _ _ _ _ _ _ _ _ _ _ _ _ _ _ _ _ _ _ _ _
/-- Input window 0's buffer with zeros past the end of the array. -/
def X0 (c : Dev nD) (t : Fin cfg0.N) : Vec F S512x5120 .fp8e4m3 :=
  (cfg0.win 0).fill (cfg0.grid.coords t) (fun _ => Scalar.ofBits .fp8e4m3 0) (iblk m c 0 t)

/-- Input window 1's buffer with zeros past the end of the array. -/
def X1 (c : Dev nD) (t : Fin cfg0.N) : Vec F S512x1 .f32 :=
  (cfg0.win 1).fill (cfg0.grid.coords t) (fun _ => Scalar.ofBits .f32 0) (iblk m c 1 t)

/-- The scratch buffers of the call, as the body sees them. -/
theorem scoped_owns (c : Dev nD) :
    (Pipeline.scopedRest (Ix := Unit) (Name := ℕ) (U := UR sig nD τ) (Lvl := ℕ) (Val := Elt F) spec0 c : sProp 𝕄)
      = iprop((∃ f : Vec F S512x20480 .f32, owns (c : Thread nD τ) (Memref.whole cc0_scratch0) fullShare f)
        ∗ (∃ f : Vec F S512x128 .f32, owns (c : Thread nD τ) (Memref.whole cc0_scratch1) fullShare f)
        ∗ (∃ f : Vec F S512x1 .f32, owns (c : Thread nD τ) (Memref.whole cc0_scratch2) fullShare f)) := by
  have h0 : ∀ f : Vec F S512x20480 .f32, (owns (c : Thread nD τ) (Memref.whole cc0_scratch0) fullShare f : sProp 𝕄) = (((c : Thread nD τ).loc cc0_scratch0) ↦{fullShare} f) := fun f => owns_whole (c : Thread nD τ) cc0_scratch0 fullShare f
  have h1 : ∀ f : Vec F S512x128 .f32, (owns (c : Thread nD τ) (Memref.whole cc0_scratch1) fullShare f : sProp 𝕄) = (((c : Thread nD τ).loc cc0_scratch1) ↦{fullShare} f) := fun f => owns_whole (c : Thread nD τ) cc0_scratch1 fullShare f
  have h2 : ∀ f : Vec F S512x1 .f32, (owns (c : Thread nD τ) (Memref.whole cc0_scratch2) fullShare f : sProp 𝕄) = (((c : Thread nD τ).loc cc0_scratch2) ↦{fullShare} f) := fun f => owns_whole (c : Thread nD τ) cc0_scratch2 fullShare f
  rw [scopedRest0_eq]
  simp only [h0, h1, h2]
  rfl
/-- The proof data of the call: the arrays as launched; after the body each input's buffer as fetched. -/
def dats (_ : Fin 1) (c : Dev nD) : Dat τ (Elt F) Unit ℕ (UR sig nD τ) ℕ cfg0 c where
  A w := V m c (Pipeline.arrRef spec0 w)
  after w t := match w with
    | ⟨0, _⟩ => X0 m c t
    | ⟨1, _⟩ => X1 m c t
    | ⟨2, _⟩ => iblk m c 2 t
    | ⟨3, _⟩ => iblk m c 3 t
    | ⟨4, _⟩ => iblk m c 4 t
    | ⟨5, _⟩ => fun _ => Scalar.ofBits .fp8e4m3 0
    | ⟨6, _⟩ => fun _ => Scalar.ofBits .f32 0
  Φ _ := Pipeline.ΦA spec0 c
  q _ := fullShare
  owed _ := 0

/-- The arrays of the proof data are the launched ones. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = X0 m c t := by dsimp only [dats]
theorem after0_1 (c : Dev nD) (t : Fin cfg0.N) : (dats m 0 c).after 1 t = X1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = fun _ => Scalar.ofBits .fp8e4m3 0 := by dsimp only [dats]
theorem after0_6 (c : Dev nD) (t : Fin cfg0.N) : (dats m 0 c).after 6 t = fun _ => Scalar.ofBits .f32 0 := by dsimp only [dats]

/-- Clipped input window 0 holds its block at every point, anything past the array's end. -/
theorem before0_0 (c : Dev nD) (t : Fin cfg0.N) (d) : ∃ d', (dats m 0 c).before 0 t d = (cfg0.win 0).fill (cfg0.grid.coords t) d' (iblk m c 0 t) := by
  rw [Dat.before_in_eq_fetched (dats m 0 c) 0 rfl (fun _ => rfl) (fun t t' h => funext fun a => congrArg (fun x : Fin 2 → ℕ => Pipeline.Clip.of (x a) ((cfg0.win 0).block.size a) (S5520x5120.size a)) h)
    (fun t => by rw [after0_0]; unfold X0; rw [(cfg0.win 0).cut_fill]; unfold Dat.blockOf iblk; rw [A_eq])]
  refine ⟨d, ?_⟩
  unfold Dat.fetched Dat.blockOf iblk; rw [A_eq]
/-- Clipped input window 1 holds its block at every point, anything past the array's end. -/
theorem before0_1 (c : Dev nD) (t : Fin cfg0.N) (d) : ∃ d', (dats m 0 c).before 1 t d = (cfg0.win 1).fill (cfg0.grid.coords t) d' (iblk m c 1 t) := by
  rw [Dat.before_in_eq_fetched (dats m 0 c) 1 rfl (fun _ => rfl) (fun t t' h => funext fun a => congrArg (fun x : Fin 2 → ℕ => Pipeline.Clip.of (x a) ((cfg0.win 1).block.size a) (S5520x1.size a)) h)
    (fun t => by rw [after0_1]; unfold X1; rw [(cfg0.win 1).cut_fill]; unfold Dat.blockOf iblk; rw [A_eq])]
  refine ⟨d, ?_⟩
  unfold Dat.fetched Dat.blockOf iblk; rw [A_eq]
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

set_option maxHeartbeats 1000000 in
/-- The body at any point, the outputs left open. -/
theorem sound_body_any (c : Dev nD) (t : Fin cfg0.N) :
    iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ X, owns (c : Thread nD τ) (st0_5 t) fullShare X)
    ∗ (∃ X, owns (c : Thread nD τ) (st0_6 t) fullShare X))
    ⊢ wp frame (wpE (defs₀ (F := F)) Variants.none c none) Set.univ (bodyAt0 t) (fun _ =>
    iprop((dats m 0 c).Φ t.succ ∗ (dats m 0 c).owesAt () t.succ
    ∗ (∃ d, owns (c : Thread nD τ) (st0_0 t) fullShare ((cfg0.win 0).fill (cfg0.grid.coords t) d ((cfg0.win 0).cut (cfg0.grid.coords t) ((dats m 0 c).after 0 t))))
    ∗ (∃ d, owns (c : Thread nD τ) (st0_1 t) fullShare ((cfg0.win 1).fill (cfg0.grid.coords t) d ((cfg0.win 1).cut (cfg0.grid.coords t) ((dats m 0 c).after 1 t))))
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ X, owns (c : Thread nD τ) (st0_5 t) fullShare X)
    ∗ (∃ X, owns (c : Thread nD τ) (st0_6 t) fullShare X))) := by
  unfold bodyAt0
  simp only [before0_2, before0_3, before0_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4]
  unfold Pipeline.ΦA
  rw [scoped_owns]
  iintro ⟨⟨⟨⟨%h0, H7⟩, ⟨%m0, H8⟩, ⟨%sc0, H9⟩⟩, Hr⟩, Ho, ⟨%d0, H0⟩, ⟨%d1, H1⟩, ⟨%d2, H2⟩, ⟨%d3, H3⟩, ⟨%d4, H4⟩, ⟨%d5, H5⟩, ⟨%d6, H6⟩⟩
  obtain ⟨e0, he0⟩ := before0_0 m c t d0
  obtain ⟨e1, he1⟩ := before0_1 m c t d1
  rw [he0, he1]
  iapply (sound_kernel c Set.univ (grid0.coords t) _ _ _ _ _ _ _ _ _ _ _ _ _ _ _ _ _ _ _ _ ((cfg0.win 0).fill (cfg0.grid.coords t) e0 (iblk m c 0 t)) ((cfg0.win 1).fill (cfg0.grid.coords t) e1 (iblk m c 1 t)) (iblk m c 2 t) (iblk m c 3 t) (iblk m c 4 t) d5 d6 h0 m0 sc0 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, H5, H6, H7, H8, H9⟩
  isplitl [H7 H8 H9 Hr]
  · isplitl [H7 H8 H9]
    · isplitl [H7]; · iexists _; iexact H7
      isplitl [H8]; · iexists _; iexact H8
      iexists _; iexact H9
    iexact Hr
  isplitl [Ho]; · iexact Ho
  isplitl [H0]; · iexists e0; rw [show (cfg0.win 0).cut (cfg0.grid.coords t) (X0 m c t) = iblk m c 0 t from (cfg0.win 0).cut_fill _ _ _]; iexact H0
  isplitl [H1]; · iexists e1; rw [show (cfg0.win 1).cut (cfg0.grid.coords t) (X1 m c t) = iblk m c 1 t from (cfg0.win 1).cut_fill _ _ _]; iexact H1
  isplitl [H2]; · iexact H2
  isplitl [H3]; · iexact H3
  isplitl [H4]; · iexact H4
  isplitl [H5]; · iexists _; iexact H5
  iexists _; iexact H6

/-- The body table's row is the body. -/
theorem defs₀_row (t : Fin cfg0.N) :
    defs₀ (F := F) .tc cfg0.body (cfg0.bodyArgs t (cfg0.slots t)) = bodyAt0 t := by
  unfold defs₀; rw [Defs.onTc_tc]

/-- The outputs, of which nothing is said when only the arguments matter. -/
def fgt : Fin cfg0.W → Bool := fun | 5 => true | 6 => true | _ => false

/-- The body obligation with the outputs left open. -/
theorem obligation_any (c : Dev nD) : BodyObligationLoose (dats (F := F) m 0 c) (defs₀ (F := F)) Variants.none () Set.univ fgt := fun t => by
  rw [bigSep_W0, bigSep_W0, defs₀_row]
  exact triple_restated (sound_body_any m c t) rfl .rfl fun _ => .rfl

set_option backward.isDefEq.respectTransparency.types false in
set_option maxHeartbeats 800000 in
/-- The run with the outputs left open. -/
theorem run_any : θ_run defs (onTc (τ := τ) (main (F := F))) (s₀ m ρ)
    (fun r => Pipeline.RDat.FramePost (cfgs 0) (fun c => (dats m 0 c).toRForget fgt) (V m) r ∧ r.2.sem = fun _ => 0) :=
  Pipeline.θ_run_frame_forget (Q' := _) cfgs (dats m) (0 : Fin 1) launch0 defs₀ Variants.none fgt m ρ main
    (hbody := obligation_any m) (hshare := fun c => (dats m 0 c).share_full fun _ => rfl)
    (howed := fun _ _ => rfl) (V := V m) (hmain := hmain m Variants.none) (hA := A_eq m) (hΦ := fun _ _ => rfl)

/-- The call runs to its end and leaves its arguments as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨h.1.arr_in c 0 rfl, h.1.arr_in c 1 rfl, h.1.arr_in c 2 rfl, h.1.arr_in c 3 rfl, h.1.arr_in c 4 rfl⟩, h.2⟩) (run_any m ρ)

end Cert.Fc1.Body

end
-- ==== Proof.Fc1Step.lean ====
/- The first feed-forward product: what the scratch buffers hold between two grid steps, and that a step keeps it. -/
module

public import proofs.«01_k».proof.Proof.Fc1Rows

@[expose] public section

set_option maxRecDepth 16384

noncomputable section

namespace Cert.Fc1Ideal.TileValue

open Cert Cert.Fc1Ideal Cert.Fc1Ideal.Gen Cert.Fc1Ideal.Body Idealize.ShloMosaic Idealize.ShloMosaic.TcCoe Idealize.SL.Sem

/-- The magnitudes of row `i` of the hidden rows `H`. -/
def magRow (H : ℕ → ℕ → EReal) (i : ℕ) : ℕ → EReal := fun k => Rows.mag (H i k)

/-- The scale of row `i` of the hidden rows `H`, from the lanes' maxima. -/
def rowScale (H : ℕ → ℕ → EReal) (i : ℕ) : EReal := Rows.scale 0x43E00000#32 (Rows.top fun l : Fin 128 => Rows.run (magRow H i) l 40)

/-- What the scratch buffers hold before step `n` of row block `i`, the hidden rows being `H`: the columns already replaced are of
    this row block, the others of the one before; the maxima are of this row block's columns so far, or before its first step of
    the whole of the one before; the scale is of the row block before. -/
structure Inv (H : ℕ → ℕ → EReal) (i n : ℕ) (h : Vec Ideal S512x20480 .f32) (mx : Vec Ideal S512x128 .f32) (sc : Vec Ideal S512x1 .f32) : Prop where
  new : ∀ (r : Fin 512) (k : Fin 20480), i * 512 + r.val < 5520 → k.val < 512 * n → h (ix2 r k) = H (i * 512 + r.val) k.val
  old : ∀ (r : Fin 512) (k : Fin 20480) (i' : ℕ), i' + 1 = i → i' * 512 + r.val < 5520 → 512 * n ≤ k.val → h (ix2 r k) = H (i' * 512 + r.val) k.val
  run : ∀ (r : Fin 512) (l : Fin 128), i * 512 + r.val < 5520 → n ≠ 0 → mx (ix2 r l) = Rows.run (magRow H (i * 512 + r.val)) l.val n
  full : ∀ (r : Fin 512) (l : Fin 128) (i' : ℕ), i' + 1 = i → i' * 512 + r.val < 5520 → n = 0 → mx (ix2 r l) = Rows.run (magRow H (i' * 512 + r.val)) l.val 40
  scale : ∀ (r : Fin 512) (i' : ℕ), i' + 1 = i → i' * 512 + r.val < 5520 → n ≠ 0 → sc (ix2 r 0) = rowScale H (i' * 512 + r.val)

/-- Before the first step nothing is known of the scratch buffers. -/
theorem Inv.start (H : ℕ → ℕ → EReal) (h mx sc) : Inv H 0 0 h mx sc :=
  ⟨fun r k _ hk => absurd hk (by omega), fun r k i' hi => absurd hi (by omega), fun r l _ hn => absurd rfl hn, fun r l i' hi => absurd hi (by omega),
    fun r i' hi => absurd hi (by omega)⟩

/-- The hidden rows with a column block replaced, at an index of the block. -/
theorem put_in (n : ℕ) (h : Vec Ideal S512x20480 .f32) (w : Vec Ideal S512x512 .f32) (r : Fin 512) (k : Fin 20480) (j : Fin 512) (e : k.val = 512 * n + j.val) :
    VecWindow.put h ![0, 512 * n] S512x512.size w (ix2 r k) = w (ix2 r j) := by
  have hin : ∀ a : Fin 2, (![0, 512 * n] : Fin 2 → ℕ) a ≤ ((ix2 r k : S512x20480.Idx) a).val
      ∧ ((ix2 r k : S512x20480.Idx) a).val < (![0, 512 * n] : Fin 2 → ℕ) a + S512x512.size a := by
    intro a
    match a with
    | ⟨0, _⟩ => exact ⟨Nat.zero_le _, by show r.val < 0 + 512; omega⟩
    | ⟨1, _⟩ => exact ⟨by show 512 * n ≤ k.val; omega, by show k.val < 512 * n + 512; omega⟩
  unfold VecWindow.put
  rw [dif_pos hin]
  congr 1
  funext a
  refine Fin.ext ?_
  rw [Rect.unitLocal_val]
  match a with
  | ⟨0, _⟩ => show r.val - 0 = r.val; omega
  | ⟨1, _⟩ => show k.val - 512 * n = j.val; omega

/-- The hidden rows with a column block replaced, at an index outside the block. -/
theorem put_out (n : ℕ) (h : Vec Ideal S512x20480 .f32) (w : Vec Ideal S512x512 .f32) (r : Fin 512) (k : Fin 20480)
    (e : k.val < 512 * n ∨ 512 * n + 512 ≤ k.val) :
    VecWindow.put h ![0, 512 * n] S512x512.size w (ix2 r k) = h (ix2 r k) := by
  unfold VecWindow.put
  refine dif_neg fun hin => ?_
  have h1 : 512 * n ≤ k.val ∧ k.val < 512 * n + 512 := hin 1
  omega

/-- A column block of the hidden rows at an index. -/
theorem window_at (i : grid0.Coords) (h : Vec Ideal S512x20480 .f32) (r j : Fin 512) (k : Fin 20480) (e : k.val = 512 * (i 1).val + j.val) :
    VecWindow.window h ![0, 512 * (i 1).val] S512x512.size (inb_col i) (ix2 r j) = h (ix2 r k) := by
  unfold VecWindow.window
  refine congrArg h (funext fun a => Fin.ext ?_)
  match a with
  | ⟨0, _⟩ => show 0 + 1 * r.val = r.val; omega
  | ⟨1, _⟩ => show 512 * (i 1).val + 1 * j.val = k.val; omega

section Step

variable (H : ℕ → ℕ → EReal) (i : grid0.Coords) (x0 : Vec Ideal S512x5120 .fp8e4m3) (x1 : Vec Ideal S512x1 .f32) (x2 : Vec Ideal S5120x512 .fp8e4m3)
  (x3 x4 : Vec Ideal S1x512 .f32) (h : Vec Ideal S512x20480 .f32) (mx : Vec Ideal S512x128 .f32) (sc : Vec Ideal S512x1 .f32)

/-- The tile computed at a grid point is the hidden rows' tile, as far as the rows go. -/
def TileIs : Prop := ∀ r k : Fin 512, (i 0).val * 512 + r.val < 5520 →
  k0_pay4 (F := Ideal) x0 x2 x1 x3 x4 (ix2 r k) = H ((i 0).val * 512 + r.val) (512 * (i 1).val + k.val)

variable (hI : Inv H (i 0).val (i 1).val h mx sc)

include hI

/-- The scale kept is that of the row block before. -/
theorem sc_at (r : Fin 512) (i' : ℕ) (hi : i' + 1 = (i 0).val) (hr : i' * 512 + r.val < 5520) :
    SC (F := Ideal) i mx sc (ix2 r 0) = rowScale H (i' * 512 + r.val) := by
  unfold SC
  by_cases hn : (i 1).val = 0
  · rw [if_pos ⟨hn, by omega⟩]
    refine (RowValue.scale_at mx r 0).trans ?_
    unfold rowScale
    congr 2
    funext l
    exact hI.full r l i' hi hr hn
  · rw [if_neg fun hh => hn hh.1]
    exact hI.scale r i' hi hr hn

/-- The code block stored is that of the row block before. -/
theorem y5_at (y5) (r k : Fin 512) (i' : ℕ) (hi : i' + 1 = (i 0).val) (hr : i' * 512 + r.val < 5520) :
    (Y5 (F := Ideal) i mx sc h y5 (ix2 r k) : EReal) = Rows.quant (H (i' * 512 + r.val) (512 * (i 1).val + k.val)) (rowScale H (i' * 512 + r.val)) := by
  have hn : (i 1).val < 40 := (i 1).isLt
  unfold Y5
  rw [if_pos (by omega)]
  refine (RowValue.code_at _ _ r k).trans ?_
  rw [sc_at H i h mx sc hI r i' hi hr, window_at i h r k ⟨512 * (i 1).val + k.val, by omega⟩ rfl,
    hI.old r ⟨512 * (i 1).val + k.val, by omega⟩ i' hi hr (by dsimp only; omega)]

/-- The scale block stored is that of the row block before. -/
theorem y6_at (y6) (r : Fin 512) (i' : ℕ) (hi : i' + 1 = (i 0).val) (hr : i' * 512 + r.val < 5520) :
    Y6 (F := Ideal) i mx sc y6 (ix2 r 0) = rowScale H (i' * 512 + r.val) := by
  unfold Y6
  rw [if_pos (by omega)]
  exact sc_at H i h mx sc hI r i' hi hr

variable (hT : TileIs H i x0 x1 x2 x3 x4)

include hT

/-- The hidden rows after the step: this row block's columns, one block more. -/
theorem hid_new (r : Fin 512) (k : Fin 20480) (hr : (i 0).val * 512 + r.val < 5520) (hk : k.val < 512 * ((i 1).val + 1)) :
    HID (F := Ideal) i x0 x1 x2 x3 x4 h (ix2 r k) = H ((i 0).val * 512 + r.val) k.val := by
  unfold HID
  rw [if_pos (by omega)]
  by_cases hb : k.val < 512 * (i 1).val
  · rw [put_out (i 1).val h _ r k (.inl hb)]
    exact hI.new r k hr hb
  · rw [put_in (i 1).val h _ r k ⟨k.val - 512 * (i 1).val, by omega⟩ (by dsimp only; omega), RowValue.pay5_eq]
    refine (hT r _ hr).trans ?_
    dsimp only
    rw [show 512 * (i 1).val + (k.val - 512 * (i 1).val) = k.val by omega]

omit hT in
/-- The hidden rows after the step: the row block before's columns, one block less. -/
theorem hid_old (r : Fin 512) (k : Fin 20480) (i' : ℕ) (hi : i' + 1 = (i 0).val) (hr : i' * 512 + r.val < 5520) (hk : 512 * ((i 1).val + 1) ≤ k.val) :
    HID (F := Ideal) i x0 x1 x2 x3 x4 h (ix2 r k) = H (i' * 512 + r.val) k.val := by
  unfold HID
  split
  · rw [put_out (i 1).val h _ r k (.inr (by omega))]
    exact hI.old r k i' hi hr (by omega)
  · exact hI.old r k i' hi hr (by omega)

/-- The maxima after the step. -/
theorem mm_at (r : Fin 512) (l : Fin 128) (hr : (i 0).val * 512 + r.val < 5520) :
    MM (F := Ideal) i x0 x1 x2 x3 x4 mx (ix2 r l) = Rows.run (magRow H ((i 0).val * 512 + r.val)) l.val ((i 1).val + 1) := by
  unfold MM
  rw [if_pos (by omega), RowValue.pay6_eq]
  refine (RowValue.kStep_at _ _ r l).trans ?_
  have hl : l.val < 128 := l.isLt
  have h1 : M1 (F := Ideal) i mx (ix2 r l) = Rows.run (magRow H ((i 0).val * 512 + r.val)) l.val (i 1).val := by
    unfold M1
    by_cases hn : (i 1).val = 0
    · rw [if_pos hn, hn]
      exact RowValue.zero_at r l
    · rw [if_neg hn]
      exact hI.run r l hr hn
  rw [h1, hT r _ hr, hT r _ hr, hT r _ hr, hT r _ hr]
  rfl

/-- A step inside a row block keeps what the scratch buffers hold. -/
theorem step_in : Inv H (i 0).val ((i 1).val + 1) (HID (F := Ideal) i x0 x1 x2 x3 x4 h) (MM (F := Ideal) i x0 x1 x2 x3 x4 mx) (SC (F := Ideal) i mx sc) where
  new r k hr hk := hid_new H i x0 x1 x2 x3 x4 h mx sc hI hT r k hr hk
  old r k i' hi hr hk := hid_old H i x0 x1 x2 x3 x4 h mx sc hI r k i' hi hr hk
  run r l hr _ := mm_at H i x0 x1 x2 x3 x4 h mx sc hI hT r l hr
  full r l i' hi hr hn := absurd hn (by omega)
  scale r i' hi hr _ := sc_at H i h mx sc hI r i' hi hr

/-- A row block's last step keeps what the scratch buffers hold, for the next row block. -/
theorem step_out (hn : (i 1).val + 1 = 40) :
    Inv H ((i 0).val + 1) 0 (HID (F := Ideal) i x0 x1 x2 x3 x4 h) (MM (F := Ideal) i x0 x1 x2 x3 x4 mx) (SC (F := Ideal) i mx sc) where
  new r k hr hk := absurd hk (by omega)
  old r k i' hi hr _ := by
    obtain rfl : i' = (i 0).val := by omega
    exact hid_new H i x0 x1 x2 x3 x4 h mx sc hI hT r k hr (by have := k.isLt; omega)
  run r l hr h0 := absurd rfl h0
  full r l i' hi hr _ := by
    obtain rfl : i' = (i 0).val := by omega
    rw [← hn]
    exact mm_at H i x0 x1 x2 x3 x4 h mx sc hI hT r l hr
  scale r i' hi hr h0 := absurd rfl h0

end Step

end Cert.Fc1Ideal.TileValue

end
-- ==== Proof.Fc1Tile.lean ====
/- The first feed-forward product: the tiles the kernel reads, and what it writes back, in terms of the reference. -/
module

public import proofs.«01_k».proof.Proof.Fc1Step
public import proofs.«01_k».proof.Defs
public import Idealize.ShloMosaic.Lib.Pipeline.ValueKit
public import Idealize.ShloMosaic.Lib.Claim
public import Idealize.ShloMosaic.Lib.Pipeline.FrameBody
public import Idealize.ShloMosaic.Lib.Tactic

@[expose] public section

set_option maxRecDepth 16384

noncomputable section

namespace Cert.Fc1Ideal.TileValue

open Cert Cert.Fc1Ideal Cert.Fc1Ideal.Gen Cert.Fc1Ideal.Body Idealize.ShloMosaic Idealize.ShloMosaic.TcCoe Idealize.SL.Sem
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The reference's hidden rows, by row and column number (zero where there is none). -/
def hiddenOf (a0 : Vec Ideal Cert.RefFc1Ideal.S5520x5120 .fp8e4m3) (a1 : Vec Ideal Cert.RefFc1Ideal.S5520x1 .f32) (a2 : Vec Ideal Cert.RefFc1Ideal.S5120x20480 .fp8e4m3) (a3 a4 : Vec Ideal Cert.RefFc1Ideal.S1x20480 .f32) (i k : ℕ) : EReal :=
  if h : i < 5520 ∧ k < 20480 then
    Rows.gelu (Rows.lin (fun j => a0 (ix2 (⟨i, h.1⟩ : Fin 5520) j)) (a1 (ix2 (⟨i, h.1⟩ : Fin 5520) 0)) (fun j => a2 (ix2 j (⟨k, h.2⟩ : Fin 20480)))
      (a3 (ix2 0 (⟨k, h.2⟩ : Fin 20480))) (a4 (ix2 0 (⟨k, h.2⟩ : Fin 20480))))
  else 0

/-- The hidden rows at an index there is. -/
theorem hiddenOf_at (a0 : Vec Ideal Cert.RefFc1Ideal.S5520x5120 .fp8e4m3) (a1 : Vec Ideal Cert.RefFc1Ideal.S5520x1 .f32) (a2 : Vec Ideal Cert.RefFc1Ideal.S5120x20480 .fp8e4m3) (a3 a4 : Vec Ideal Cert.RefFc1Ideal.S1x20480 .f32) (i : Fin 5520) (k : Fin 20480) :
    hiddenOf a0 a1 a2 a3 a4 i.val k.val = Rows.gelu (Rows.lin (fun j => a0 (ix2 i j)) (a1 (ix2 i 0)) (fun j => a2 (ix2 j k)) (a3 (ix2 0 k)) (a4 (ix2 0 k))) := by
  unfold hiddenOf
  rw [dif_pos ⟨i.isLt, k.isLt⟩]

/-- The reference's scales are those of its hidden rows. -/
theorem ref_scale (a0 : Vec Ideal Cert.RefFc1Ideal.S5520x5120 .fp8e4m3) (a1 : Vec Ideal Cert.RefFc1Ideal.S5520x1 .f32) (a2 : Vec Ideal Cert.RefFc1Ideal.S5120x20480 .fp8e4m3) (a3 a4 : Vec Ideal Cert.RefFc1Ideal.S1x20480 .f32) (i : Fin 5520) :
    Cert.RefFc1Ideal.Gen.k0_pay2 (F := Ideal) a0 a1 a2 a3 a4 (ix2 i 0) = rowScale (hiddenOf a0 a1 a2 a3 a4) i.val := by
  refine (Cert.RefFc1Ideal.RowValue.scale_at a0 a1 a2 a3 a4 i 0).trans ?_
  unfold rowScale
  refine congrArg _ (Eq.trans ?_ (Rows.top_run (magRow (hiddenOf a0 a1 a2 a3 a4) i.val) fun k => Rows.mag_nonneg _).symm)
  refine congrArg Rows.top (funext fun k => ?_)
  exact congrArg Rows.mag (hiddenOf_at a0 a1 a2 a3 a4 i k).symm

/-- The reference's codes are those of its hidden rows. -/
theorem ref_code (a0 : Vec Ideal Cert.RefFc1Ideal.S5520x5120 .fp8e4m3) (a1 : Vec Ideal Cert.RefFc1Ideal.S5520x1 .f32) (a2 : Vec Ideal Cert.RefFc1Ideal.S5120x20480 .fp8e4m3) (a3 a4 : Vec Ideal Cert.RefFc1Ideal.S1x20480 .f32) (i : Fin 5520) (k : Fin 20480) :
    (Cert.RefFc1Ideal.Gen.k0_pay3 (F := Ideal) a0 a1 a2 a3 a4 (ix2 i k) : EReal) = Rows.quant (hiddenOf a0 a1 a2 a3 a4 i.val k.val) (rowScale (hiddenOf a0 a1 a2 a3 a4) i.val) := by
  refine (Cert.RefFc1Ideal.RowValue.code_at a0 a1 a2 a3 a4 i k).trans ?_
  rw [ref_scale, hiddenOf_at]

variable (m : (ℓ : Loc nD τ sig) → Buf (Elt Ideal) ℓ)

/-- The reference's hidden rows on the launched arrays. -/
def hidden (c : Dev nD) : ℕ → ℕ → EReal := hiddenOf (m ((c : Thread nD τ).loc main_arg0)) (m ((c : Thread nD τ).loc main_arg1)) (m ((c : Thread nD τ).loc main_arg2)) (m ((c : Thread nD τ).loc main_arg3)) (m ((c : Thread nD τ).loc main_arg4))

/-- A grid point's coordinates: the row block and the column block. -/
theorem coords : ∀ t : Fin cfg0.N, (grid0.coords t 0).val = t.val / 40 ∧ (grid0.coords t 1).val = t.val % 40 :=
  (by decide +kernel : ∀ t : Fin grid0.N, _)

/-- The input windows' block indices while there are rows left. -/
theorem idx : ∀ t : Fin cfg0.N, t.val < 440 → win0_0.index t = ![t.val / 40, 0] ∧ win0_1.index t = ![t.val / 40, 0]
    ∧ win0_2.index t = ![0, t.val % 40] ∧ win0_3.index t = ![0, t.val % 40] ∧ win0_4.index t = ![0, t.val % 40] :=
  (by decide +kernel : ∀ t : Fin grid0.N, _)

/-- The output windows' block indices from the second row block on. -/
theorem idxo : ∀ t : Fin cfg0.N, 40 ≤ t.val → win0_5.index t = ![t.val / 40 - 1, t.val % 40] ∧ win0_6.index t = ![t.val / 40 - 1, 0] :=
  (by decide +kernel : ∀ t : Fin grid0.N, _)

/-- The part of a row block inside the arrays. -/
theorem ext : ∀ t : Fin cfg0.N, t.val < 440 → win0_0.xsize (grid0.coords t) = ![min 512 (5520 - t.val / 40 * 512), 5120]
    ∧ win0_1.xsize (grid0.coords t) = ![min 512 (5520 - t.val / 40 * 512), 1] :=
  (by decide +kernel : ∀ t : Fin grid0.N, _)

/-- A row of the codes' block inside the array is the row of the array, whatever fills the rest. -/
theorem row0 (c : Dev nD) (t : Fin cfg0.N) (ht : t.val < 440) (d) (r : Fin 512) (i : Fin 5520) (h : i.val = t.val / 40 * 512 + r.val) (k : Fin 5120) :
    (cfg0.win 0).fill (cfg0.grid.coords t) d (iblk m c 0 t) (ix2 r k) = m ((c : Thread nD τ).loc main_arg0) (ix2 i k) := by
  have hm : (cfg0.win 0).moved (cfg0.grid.coords t) (ix2 r k) = true := by
    refine ((cfg0.win 0).moved_iff _ _).mpr fun a => ?_
    show _ < win0_0.xsize (grid0.coords t) a
    rw [(ext t ht).1]
    match a with
    | ⟨0, _⟩ => show (r : ℕ) < min 512 (5520 - t.val / 40 * 512); omega
    | ⟨1, _⟩ => exact k.isLt
  unfold Pipeline.Window.fill
  rw [dif_pos hm]
  blk_ext [iblk, V, idx t ht]

/-- A row of the row scales' block inside the array is the row of the array, whatever fills the rest. -/
theorem row1 (c : Dev nD) (t : Fin cfg0.N) (ht : t.val < 440) (d) (r : Fin 512) (i : Fin 5520) (h : i.val = t.val / 40 * 512 + r.val) :
    (cfg0.win 1).fill (cfg0.grid.coords t) d (iblk m c 1 t) (ix2 r (0 : Fin 1)) = m ((c : Thread nD τ).loc main_arg1) (ix2 i (0 : Fin 1)) := by
  have hm : (cfg0.win 1).moved (cfg0.grid.coords t) (ix2 r (0 : Fin 1)) = true := by
    refine ((cfg0.win 1).moved_iff _ _).mpr fun a => ?_
    show _ < win0_1.xsize (grid0.coords t) a
    rw [(ext t ht).2]
    match a with
    | ⟨0, _⟩ => show (r : ℕ) < min 512 (5520 - t.val / 40 * 512); omega
    | ⟨1, _⟩ => exact Nat.zero_lt_one
  unfold Pipeline.Window.fill
  rw [dif_pos hm]
  blk_ext [iblk, V, idx t ht]

/-- A column of the weights' block is the column of the weights. -/
theorem row2 (c : Dev nD) (t : Fin cfg0.N) (ht : t.val < 440) (j : Fin 5120) (k : Fin 512) (q : Fin 20480) (h : q.val = 512 * (t.val % 40) + k.val) :
    iblk m c 2 t (ix2 j k) = m ((c : Thread nD τ).loc main_arg2) (ix2 j q) := by
  blk_ext [iblk, V, idx t ht]

/-- An entry of the block of the weights' scales. -/
theorem row3 (c : Dev nD) (t : Fin cfg0.N) (ht : t.val < 440) (k : Fin 512) (q : Fin 20480) (h : q.val = 512 * (t.val % 40) + k.val) :
    iblk m c 3 t (ix2 (0 : Fin 1) k) = m ((c : Thread nD τ).loc main_arg3) (ix2 (0 : Fin 1) q) := by
  blk_ext [iblk, V, idx t ht]

/-- An entry of the block of the bias. -/
theorem row4 (c : Dev nD) (t : Fin cfg0.N) (ht : t.val < 440) (k : Fin 512) (q : Fin 20480) (h : q.val = 512 * (t.val % 40) + k.val) :
    iblk m c 4 t (ix2 (0 : Fin 1) k) = m ((c : Thread nD τ).loc main_arg4) (ix2 (0 : Fin 1) q) := by
  blk_ext [iblk, V, idx t ht]

/-- The tile computed at a grid point is the hidden rows' tile, whatever lies past the arrays' end. -/
theorem tile (c : Dev nD) (t : Fin cfg0.N) (d0 d1) :
    TileIs (hidden m c) (grid0.coords t) ((cfg0.win 0).fill (cfg0.grid.coords t) d0 (iblk m c 0 t)) ((cfg0.win 1).fill (cfg0.grid.coords t) d1 (iblk m c 1 t)) (iblk m c 2 t) (iblk m c 3 t) (iblk m c 4 t) := by
  intro r k hr
  obtain ⟨e0, e1⟩ := coords t
  rw [e0] at hr
  rw [e0, e1]
  have ht : t.val < 440 := by omega
  have hk : k.val < 512 := k.isLt
  refine (RowValue.hid_at _ _ _ _ _ r k).trans ?_
  unfold hidden
  rw [hiddenOf_at _ _ _ _ _ (⟨t.val / 40 * 512 + r.val, hr⟩ : Fin 5520) (⟨512 * (t.val % 40) + k.val, by omega⟩ : Fin 20480),
    row1 m c t ht d1 r (⟨t.val / 40 * 512 + r.val, hr⟩ : Fin 5520) rfl, row3 m c t ht k (⟨512 * (t.val % 40) + k.val, by omega⟩ : Fin 20480) rfl, row4 m c t ht k (⟨512 * (t.val % 40) + k.val, by omega⟩ : Fin 20480) rfl]
  congr 2
  · funext j; exact row0 m c t ht d0 r (⟨t.val / 40 * 512 + r.val, hr⟩ : Fin 5520) rfl j
  · funext j; exact row2 m c t ht j k (⟨512 * (t.val % 40) + k.val, by omega⟩ : Fin 20480) rfl

section Outputs

variable (c : Dev nD) (t : Fin cfg0.N) (ht : 40 ≤ t.val) (h : Vec Ideal S512x20480 .f32) (mx : Vec Ideal S512x128 .f32) (sc : Vec Ideal S512x1 .f32)
  (hI : Inv (hidden m c) (grid0.coords t 0).val (grid0.coords t 1).val h mx sc)

include ht hI

/-- The code block stored, on a row inside the array, is the reference's. -/
theorem at5 (y5) (y : S512x512.Idx) (j : Cert.RefFc1Ideal.S5520x20480.Idx) (h0 : (j 0 : ℕ) = (t.val / 40 - 1) * 512 + y 0) (h1 : (j 1 : ℕ) = t.val % 40 * 512 + y 1) :
    Y5 (F := Ideal) (grid0.coords t) mx sc h y5 y = Cert.RefFc1Ideal.Value.G5 (F := Ideal) (m ((c : Thread nD τ).loc main_arg0)) (m ((c : Thread nD τ).loc main_arg1)) (m ((c : Thread nD τ).loc main_arg2)) (m ((c : Thread nD τ).loc main_arg3)) (m ((c : Thread nD τ).loc main_arg4)) j := by
  obtain ⟨e0, e1⟩ := coords t
  have hj : j = ix2 (j 0 : Fin 5520) (j 1 : Fin 20480) := by blk_ext
  have hy : y = ix2 (y 0 : Fin 512) (y 1 : Fin 512) := by blk_ext
  have hb : (j 0 : ℕ) < 5520 := (j 0).isLt
  rw [hj, hy]
  refine (y5_at (hidden m c) (grid0.coords t) h mx sc hI y5 (y 0) (y 1) (t.val / 40 - 1) (by omega) (by rw [← h0]; exact hb)).trans (Eq.trans ?_ (ref_code _ _ _ _ _ (j 0) (j 1)).symm)
  rw [e1, h0, h1, Nat.mul_comm 512]
  rfl

/-- The scale block stored, on a row inside the array, is the reference's. -/
theorem at6 (y6) (y : S512x1.Idx) (j : Cert.RefFc1Ideal.S5520x1.Idx) (h0 : (j 0 : ℕ) = (t.val / 40 - 1) * 512 + y 0) :
    Y6 (F := Ideal) (grid0.coords t) mx sc y6 y = Cert.RefFc1Ideal.Value.G6 (F := Ideal) (m ((c : Thread nD τ).loc main_arg0)) (m ((c : Thread nD τ).loc main_arg1)) (m ((c : Thread nD τ).loc main_arg2)) (m ((c : Thread nD τ).loc main_arg3)) (m ((c : Thread nD τ).loc main_arg4)) j := by
  obtain ⟨e0, e1⟩ := coords t
  have hj : j = ix2 (j 0 : Fin 5520) (0 : Fin 1) := by blk_ext
  have hy : y = ix2 (y 0 : Fin 512) (0 : Fin 1) := by blk_ext
  have hb : (j 0 : ℕ) < 5520 := (j 0).isLt
  rw [hj, hy]
  refine (y6_at (hidden m c) (grid0.coords t) h mx sc hI y6 (y 0) (t.val / 40 - 1) (by omega) (by rw [← h0]; exact hb)).trans (Eq.trans ?_ (ref_scale _ _ _ _ _ (j 0)).symm)
  rw [h0]
  rfl

/-- The code block stored at an index that is written back. -/
theorem cut5 (y5) (y : ((cfg0.win 5).xblock (cfg0.grid.coords t)).Idx) :
    Y5 (F := Ideal) (grid0.coords t) mx sc h y5 ((cfg0.win 5).xinj (cfg0.grid.coords t) y)
      = Cert.RefFc1Ideal.Value.G5 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  refine at5 m c t ht h mx sc hI y5 _ _ ?_ ?_
  all_goals blk_simp [idxo t ht]

/-- The scale block stored at an index that is written back. -/
theorem cut6 (y6) (y : ((cfg0.win 6).xblock (cfg0.grid.coords t)).Idx) :
    Y6 (F := Ideal) (grid0.coords t) mx sc y6 ((cfg0.win 6).xinj (cfg0.grid.coords t) y)
      = Cert.RefFc1Ideal.Value.G6 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  refine at6 m c t ht h mx sc hI y6 _ _ ?_
  all_goals blk_simp [idxo t ht]

end Outputs

end Cert.Fc1Ideal.TileValue

end
-- ==== Proof.Fc1Value.lean ====
/- The first feed-forward product: the arrays the tiled kernel leaves are the reference's arrays. -/
module

public import proofs.«01_k».proof.Proof.Fc1Tile
public import proofs.«01_k».proof.Defs
public import Idealize.ShloMosaic.Lib.Pipeline.ValueKit
public import Idealize.ShloMosaic.Lib.Claim
public import Idealize.ShloMosaic.Lib.Pipeline.FrameBody
public import Idealize.ShloMosaic.Lib.Tactic

@[expose] public section

set_option maxRecDepth 16384

noncomputable section

namespace Cert.Fc1Ideal.TileValue

open Cert Cert.Fc1Ideal Cert.Fc1Ideal.Gen Cert.Fc1Ideal.Body Idealize.ShloMosaic Idealize.ShloMosaic.TcCoe Idealize.SL.Sem
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ)

/-- The code block written back: the reference's, zeros past the end of the array. -/
def W5 (c : Dev nD) (t : Fin cfg0.N) : Vec Ideal S512x512 .fp8e4m3 :=
  (cfg0.win 5).fill (cfg0.grid.coords t) (fun _ => Scalar.ofBits (F := Ideal) .fp8e4m3 0)
    (fun y => Cert.RefFc1Ideal.Value.G5 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y))

/-- The scale block written back: the reference's, zeros past the end of the array. -/
def W6 (c : Dev nD) (t : Fin cfg0.N) : Vec Ideal S512x1 .f32 :=
  (cfg0.win 6).fill (cfg0.grid.coords t) (fun _ => Scalar.ofBits (F := Ideal) .f32 0)
    (fun y => Cert.RefFc1Ideal.Value.G6 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y))

/-- The scratch buffers before grid step `n`, with what they hold. -/
def Held (c : Dev nD) (n : ℕ) : sProp 𝕄 :=
  iprop(∃ h : Vec Ideal S512x20480 .f32, ∃ mx : Vec Ideal S512x128 .f32, ∃ sc : Vec Ideal S512x1 .f32,
    ⌜Inv (hidden m c) (n / 40) (n % 40) h mx sc⌝
    ∗ owns (c : Thread nD τ) (Memref.whole cc0_scratch0) fullShare h
    ∗ owns (c : Thread nD τ) (Memref.whole cc0_scratch1) fullShare mx
    ∗ owns (c : Thread nD τ) (Memref.whole cc0_scratch2) fullShare sc
    ∗ ∃ r, prngReg c r)

/-- At the start the scratch buffers may hold anything. -/
theorem held_in (c : Dev nD) : (Pipeline.ΦA (Val := Elt Ideal) (U := UR sig nD τ) spec0 c : sProp 𝕄) ⊢ Held m c 0 := by
  unfold Pipeline.ΦA Held
  rw [scoped_owns]
  iintro ⟨⟨⟨%h0, H7⟩, ⟨%m0, H8⟩, ⟨%sc0, H9⟩⟩, Hr⟩
  iexists h0; iexists m0; iexists sc0
  isplitr
  · ipureintro; exact Inv.start _ _ _ _
  isplitl [H7]; · iexact H7
  isplitl [H8]; · iexact H8
  isplitl [H9]; · iexact H9
  iexact Hr

/-- At the end what the scratch buffers hold does not matter. -/
theorem held_out (c : Dev nD) (n : ℕ) : Held m c n ⊢ (Pipeline.ΦA (Val := Elt Ideal) (U := UR sig nD τ) spec0 c : sProp 𝕄) := by
  unfold Pipeline.ΦA Held
  rw [scoped_owns]
  iintro ⟨%h0, %m0, %sc0, -, H7, H8, H9, Hr⟩
  isplitl [H7 H8 H9]
  · isplitl [H7]; · iexists _; iexact H7
    isplitl [H8]; · iexists _; iexact H8
    iexists _; iexact H9
  iexact Hr

/-- A grid step keeps what the scratch buffers hold. -/
theorem inv_step (c : Dev nD) (t : Fin cfg0.N) (d0 d1) (h mx sc) (hI : Inv (hidden m c) (t.val / 40) (t.val % 40) h mx sc) :
    Inv (hidden m c) ((t.val + 1) / 40) ((t.val + 1) % 40)
      (HID (F := Ideal) (grid0.coords t) ((cfg0.win 0).fill (cfg0.grid.coords t) d0 (iblk m c 0 t)) ((cfg0.win 1).fill (cfg0.grid.coords t) d1 (iblk m c 1 t)) (iblk m c 2 t) (iblk m c 3 t) (iblk m c 4 t) h)
      (MM (F := Ideal) (grid0.coords t) ((cfg0.win 0).fill (cfg0.grid.coords t) d0 (iblk m c 0 t)) ((cfg0.win 1).fill (cfg0.grid.coords t) d1 (iblk m c 1 t)) (iblk m c 2 t) (iblk m c 3 t) (iblk m c 4 t) mx)
      (SC (F := Ideal) (grid0.coords t) mx sc) := by
  obtain ⟨e0, e1⟩ := coords t
  have hI' : Inv (hidden m c) (grid0.coords t 0).val (grid0.coords t 1).val h mx sc := by rw [e0, e1]; exact hI
  by_cases hn : t.val % 40 + 1 = 40
  · have := step_out (hidden m c) (grid0.coords t) _ _ _ _ _ h mx sc hI' (tile m c t d0 d1) (by rw [e1]; exact hn)
    rw [e0] at this
    rw [show (t.val + 1) / 40 = t.val / 40 + 1 by omega, show (t.val + 1) % 40 = 0 by omega]
    exact this
  · have := step_in (hidden m c) (grid0.coords t) _ _ _ _ _ h mx sc hI' (tile m c t d0 d1)
    rw [e0, e1] at this
    rw [show (t.val + 1) / 40 = t.val / 40 by omega, show (t.val + 1) % 40 = t.val % 40 + 1 by omega]
    exact this

/-- The proof data of the call: the arrays as launched; after the body each input's buffer as fetched. -/
def datsV (_ : Fin 1) (c : Dev nD) : Dat τ (Elt Ideal) Unit ℕ (UR sig nD τ) ℕ cfg0 c where
  A w := V m c (Pipeline.arrRef spec0 w)
  after w t := match w with
    | ⟨0, _⟩ => X0 m c t
    | ⟨1, _⟩ => X1 m c t
    | ⟨2, _⟩ => iblk m c 2 t
    | ⟨3, _⟩ => iblk m c 3 t
    | ⟨4, _⟩ => iblk m c 4 t
    | ⟨5, _⟩ => W5 m c t
    | ⟨6, _⟩ => W6 m c t
  Φ t := Held m c t.val
  q _ := fullShare
  owed _ := 0

/-- The arrays of the proof data are the launched ones. -/
theorem A_eqV (c : Dev nD) (w : Fin cfg0.W) : (datsV m 0 c).A w = V m c (Pipeline.arrRef spec0 w) := by
  dsimp only [datsV]

theorem after0_0V (c : Dev nD) (t : Fin cfg0.N) : (datsV m 0 c).after 0 t = X0 m c t := by dsimp only [datsV]
theorem after0_1V (c : Dev nD) (t : Fin cfg0.N) : (datsV m 0 c).after 1 t = X1 m c t := by dsimp only [datsV]
theorem after0_2V (c : Dev nD) (t : Fin cfg0.N) : (datsV m 0 c).after 2 t = iblk m c 2 t := by dsimp only [datsV]
theorem after0_3V (c : Dev nD) (t : Fin cfg0.N) : (datsV m 0 c).after 3 t = iblk m c 3 t := by dsimp only [datsV]
theorem after0_4V (c : Dev nD) (t : Fin cfg0.N) : (datsV m 0 c).after 4 t = iblk m c 4 t := by dsimp only [datsV]
theorem after0_5V (c : Dev nD) (t : Fin cfg0.N) : (datsV m 0 c).after 5 t = W5 m c t := by dsimp only [datsV]
theorem after0_6V (c : Dev nD) (t : Fin cfg0.N) : (datsV m 0 c).after 6 t = W6 m c t := by dsimp only [datsV]

/-- Clipped input window 0 holds its block at every point, anything past the array's end. -/
theorem before0_0V (c : Dev nD) (t : Fin cfg0.N) (d) : ∃ d', (datsV m 0 c).before 0 t d = (cfg0.win 0).fill (cfg0.grid.coords t) d' (iblk m c 0 t) := by
  rw [Dat.before_in_eq_fetched (datsV m 0 c) 0 rfl (fun _ => rfl) (fun t t' h => funext fun a => congrArg (fun x : Fin 2 → ℕ => Pipeline.Clip.of (x a) ((cfg0.win 0).block.size a) (S5520x5120.size a)) h)
    (fun t => by rw [after0_0V]; unfold X0; rw [(cfg0.win 0).cut_fill]; unfold Dat.blockOf iblk; rw [A_eqV])]
  refine ⟨d, ?_⟩
  unfold Dat.fetched Dat.blockOf iblk; rw [A_eqV]
/-- Clipped input window 1 holds its block at every point, anything past the array's end. -/
theorem before0_1V (c : Dev nD) (t : Fin cfg0.N) (d) : ∃ d', (datsV m 0 c).before 1 t d = (cfg0.win 1).fill (cfg0.grid.coords t) d' (iblk m c 1 t) := by
  rw [Dat.before_in_eq_fetched (datsV m 0 c) 1 rfl (fun _ => rfl) (fun t t' h => funext fun a => congrArg (fun x : Fin 2 → ℕ => Pipeline.Clip.of (x a) ((cfg0.win 1).block.size a) (S5520x1.size a)) h)
    (fun t => by rw [after0_1V]; unfold X1; rw [(cfg0.win 1).cut_fill]; unfold Dat.blockOf iblk; rw [A_eqV])]
  refine ⟨d, ?_⟩
  unfold Dat.fetched Dat.blockOf iblk; rw [A_eqV]
theorem before0_2V (c : Dev nD) (t : Fin cfg0.N) (d) : (datsV m 0 c).before 2 t d = iblk m c 2 t :=
  before0_2_of m (datsV m 0 c) (A_eqV m c 2) (after0_2V m c) t d
theorem before0_3V (c : Dev nD) (t : Fin cfg0.N) (d) : (datsV m 0 c).before 3 t d = iblk m c 3 t :=
  before0_3_of m (datsV m 0 c) (A_eqV m c 3) (after0_3V m c) t d
theorem before0_4V (c : Dev nD) (t : Fin cfg0.N) (d) : (datsV m 0 c).before 4 t d = iblk m c 4 t :=
  before0_4_of m (datsV m 0 c) (A_eqV m c 4) (after0_4V m c) t d

/-- In the first row block nothing is stored in the outputs. -/
theorem idle_at (t : Fin cfg0.N) (ht : ¬ 40 ≤ t.val) : cfg0.idle 5 (cfg0.grid.coords t) = true ∧ cfg0.idle 6 (cfg0.grid.coords t) = true := by
  have h : ¬ k0_cond3 (grid0.coords t) = 1#1 := by rw [c3_iff, (coords t).1]; omega
  have e : (!(k0_cond3 (grid0.coords t) == 1#1)) = true := by simp [h]
  exact ⟨e, e⟩

/-- From the second row block on every step stores in the outputs. -/
theorem live_at (t : Fin cfg0.N) (ht : 40 ≤ t.val) : cfg0.idle 5 (cfg0.grid.coords t) = false ∧ cfg0.idle 6 (cfg0.grid.coords t) = false := by
  have h : k0_cond3 (grid0.coords t) = 1#1 := by rw [c3_iff, (coords t).1]; omega
  have e : (!(k0_cond3 (grid0.coords t) == 1#1)) = false := by simp [h]
  exact ⟨e, e⟩

/-- In the first row block nothing is written back. -/
theorem flush_at : ∀ t : Fin cfg0.N, ¬ 40 ≤ t.val → (cfg0.win 5).flush t = false ∧ (cfg0.win 6).flush t = false :=
  (by decide +kernel : ∀ t : Fin grid0.N, ¬ 40 ≤ t.val → win0_5.flush t = false ∧ win0_6.flush t = false)

/-- What is handed back of a window whose last rows are left open. -/
theorem leaves_live (c : Dev nD) (w : Fin cfg0.W) (t : Fin cfg0.N) (hi : cfg0.idle w (cfg0.grid.coords t) = false) (hl : cfg0.loose w = true) :
    (datsV m 0 c).leaves w t = iprop(∃ d, owns (c : Thread nD τ) ((cfg0.win w).stage (cfg0.slots t w)) fullShare ((cfg0.win w).fill (cfg0.grid.coords t) d ((cfg0.win w).cut (cfg0.grid.coords t) ((datsV m 0 c).after w t)))) := by
  unfold Dat.leaves; rw [hi, hl]

section Leave

variable (c : Dev nD) (t : Fin cfg0.N) (h : Vec Ideal S512x20480 .f32) (mx : Vec Ideal S512x128 .f32) (sc : Vec Ideal S512x1 .f32)
  (hI : Inv (hidden m c) (t.val / 40) (t.val % 40) h mx sc)

include hI

/-- What the body leaves in the codes' buffer is what is to be handed back. -/
theorem leave5 (d) : owns (c : Thread nD τ) (st0_5 t) fullShare (Y5 (F := Ideal) (grid0.coords t) mx sc h ((datsV m 0 c).before 5 t d)) ⊢ ((datsV m 0 c).leaves 5 t : sProp 𝕄) := by
  obtain ⟨e0, e1⟩ := coords t
  by_cases ht : 40 ≤ t.val
  · have hI' : Inv (hidden m c) (grid0.coords t 0).val (grid0.coords t 1).val h mx sc := by rw [e0, e1]; exact hI
    have hcut : (cfg0.win 5).cut (cfg0.grid.coords t) (Y5 (F := Ideal) (grid0.coords t) mx sc h ((datsV m 0 c).before 5 t d)) = (cfg0.win 5).cut (cfg0.grid.coords t) ((datsV m 0 c).after 5 t) := by
      rw [after0_5V]
      unfold W5
      rw [(cfg0.win 5).cut_fill]
      funext y
      exact cut5 m c t ht h mx sc hI' _ y
    rw [leaves_live m c 5 t (live_at t ht).1 rfl]
    iintro H
    iexists (Y5 (F := Ideal) (grid0.coords t) mx sc h ((datsV m 0 c).before 5 t d))
    rw [← hcut, (cfg0.win 5).fill_cut]
    iexact H
  · rw [(datsV m 0 c).leaves_idle 5 t (idle_at t ht).1 (flush_at t ht).1]
    iintro H
    iexists d
    rw [show Y5 (F := Ideal) (grid0.coords t) mx sc h ((datsV m 0 c).before 5 t d) = (datsV m 0 c).before 5 t d from if_neg (by rw [e0]; omega)]
    iexact H

/-- What the body leaves in the scales' buffer is what is to be handed back. -/
theorem leave6 (d) : owns (c : Thread nD τ) (st0_6 t) fullShare (Y6 (F := Ideal) (grid0.coords t) mx sc ((datsV m 0 c).before 6 t d)) ⊢ ((datsV m 0 c).leaves 6 t : sProp 𝕄) := by
  obtain ⟨e0, e1⟩ := coords t
  by_cases ht : 40 ≤ t.val
  · have hI' : Inv (hidden m c) (grid0.coords t 0).val (grid0.coords t 1).val h mx sc := by rw [e0, e1]; exact hI
    have hcut : (cfg0.win 6).cut (cfg0.grid.coords t) (Y6 (F := Ideal) (grid0.coords t) mx sc ((datsV m 0 c).before 6 t d)) = (cfg0.win 6).cut (cfg0.grid.coords t) ((datsV m 0 c).after 6 t) := by
      rw [after0_6V]
      unfold W6
      rw [(cfg0.win 6).cut_fill]
      funext y
      exact cut6 m c t ht h mx sc hI' _ y
    rw [leaves_live m c 6 t (live_at t ht).2 rfl]
    iintro H
    iexists (Y6 (F := Ideal) (grid0.coords t) mx sc ((datsV m 0 c).before 6 t d))
    rw [← hcut, (cfg0.win 6).fill_cut]
    iexact H
  · rw [(datsV m 0 c).leaves_idle 6 t (idle_at t ht).2 (flush_at t ht).2]
    iintro H
    iexists d
    rw [show Y6 (F := Ideal) (grid0.coords t) mx sc ((datsV m 0 c).before 6 t d) = (datsV m 0 c).before 6 t d from if_neg (by rw [e0]; omega)]
    iexact H

end Leave

set_option maxHeartbeats 1000000 in
/-- The body at any point, with what it leaves in the outputs and in the scratch buffers. -/
theorem sound_body (c : Dev nD) (t : Fin cfg0.N) :
    iprop((datsV m 0 c).Φ t.castSucc ∗ (datsV m 0 c).owesAt () t.castSucc
    ∗ (∃ d, owns (c : Thread nD τ) (st0_0 t) fullShare ((datsV m 0 c).before 0 t d))
    ∗ (∃ d, owns (c : Thread nD τ) (st0_1 t) fullShare ((datsV m 0 c).before 1 t d))
    ∗ (∃ d, owns (c : Thread nD τ) (st0_2 t) fullShare ((datsV m 0 c).before 2 t d))
    ∗ (∃ d, owns (c : Thread nD τ) (st0_3 t) fullShare ((datsV m 0 c).before 3 t d))
    ∗ (∃ d, owns (c : Thread nD τ) (st0_4 t) fullShare ((datsV m 0 c).before 4 t d))
    ∗ (∃ d, owns (c : Thread nD τ) (st0_5 t) fullShare ((datsV m 0 c).before 5 t d))
    ∗ (∃ d, owns (c : Thread nD τ) (st0_6 t) fullShare ((datsV m 0 c).before 6 t d)))
    ⊢ wp frame (wpE (defs₀ (F := Ideal)) Variants.none c none) Set.univ (bodyAt0 t) (fun _ =>
    iprop((datsV m 0 c).Φ t.succ ∗ (datsV m 0 c).owesAt () t.succ
    ∗ (∃ d, owns (c : Thread nD τ) (st0_0 t) fullShare ((cfg0.win 0).fill (cfg0.grid.coords t) d ((cfg0.win 0).cut (cfg0.grid.coords t) ((datsV m 0 c).after 0 t))))
    ∗ (∃ d, owns (c : Thread nD τ) (st0_1 t) fullShare ((cfg0.win 1).fill (cfg0.grid.coords t) d ((cfg0.win 1).cut (cfg0.grid.coords t) ((datsV m 0 c).after 1 t))))
    ∗ owns (c : Thread nD τ) (st0_2 t) fullShare ((datsV m 0 c).after 2 t)
    ∗ owns (c : Thread nD τ) (st0_3 t) fullShare ((datsV m 0 c).after 3 t)
    ∗ owns (c : Thread nD τ) (st0_4 t) fullShare ((datsV m 0 c).after 4 t)
    ∗ (datsV m 0 c).leaves 5 t
    ∗ (datsV m 0 c).leaves 6 t)) := by
  unfold bodyAt0
  simp only [before0_2V, before0_3V, before0_4V]
  rw [show (datsV m 0 c).Φ t.succ = Held m c (t.val + 1) from rfl, show (datsV m 0 c).Φ t.castSucc = Held m c t.val from rfl,
    show (datsV m 0 c).owesAt () t.succ = (datsV m 0 c).owesAt () t.castSucc from rfl,
    after0_0V, after0_1V, after0_2V, after0_3V, after0_4V]
  unfold Held
  iintro ⟨⟨%h0, %m0, %sc0, %hI, H7, H8, H9, Hr⟩, Ho, ⟨%d0, H0⟩, ⟨%d1, H1⟩, ⟨%d2, H2⟩, ⟨%d3, H3⟩, ⟨%d4, H4⟩, ⟨%d5, H5⟩, ⟨%d6, H6⟩⟩
  obtain ⟨e0, he0⟩ := before0_0V m c t d0
  obtain ⟨e1, he1⟩ := before0_1V m c t d1
  rw [he0, he1]
  iapply (sound_kernel c Set.univ (grid0.coords t) _ _ _ _ _ _ _ _ _ _ _ _ _ _ _ _ _ _ _ _ ((cfg0.win 0).fill (cfg0.grid.coords t) e0 (iblk m c 0 t)) ((cfg0.win 1).fill (cfg0.grid.coords t) e1 (iblk m c 1 t)) (iblk m c 2 t) (iblk m c 3 t) (iblk m c 4 t) ((datsV m 0 c).before 5 t d5) ((datsV m 0 c).before 6 t d6) h0 m0 sc0 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, H5, H6, H7, H8, H9⟩
  isplitl [H7 H8 H9 Hr]
  · iexists _; iexists _; iexists _
    isplitr
    swap
    · isplitl [H7]; · iexact H7
      isplitl [H8]; · iexact H8
      isplitl [H9]; · iexact H9
      iexact Hr
    ipureintro
    exact inv_step m c t e0 e1 h0 m0 sc0 hI
  isplitl [Ho]; · iexact Ho
  isplitl [H0]; · iexists e0; rw [show (cfg0.win 0).cut (cfg0.grid.coords t) (X0 m c t) = iblk m c 0 t from (cfg0.win 0).cut_fill _ _ _]; iexact H0
  isplitl [H1]; · iexists e1; rw [show (cfg0.win 1).cut (cfg0.grid.coords t) (X1 m c t) = iblk m c 1 t from (cfg0.win 1).cut_fill _ _ _]; iexact H1
  isplitl [H2]; · iexact H2
  isplitl [H3]; · iexact H3
  isplitl [H4]; · iexact H4
  isplitl [H5]; · iapply (leave5 m c t h0 m0 sc0 hI d5); iexact H5
  iapply (leave6 m c t h0 m0 sc0 hI d6); iexact H6

/-- The body obligation, every output stated on the rows inside its array. -/
theorem obligation (c : Dev nD) : BodyObligationLoose (datsV m 0 c) (defs₀ (F := Ideal)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run: every array ends as the proof data say. -/
theorem run_main (ρ : Dev nD → PrngReg) : θ_run (defs (F := Ideal)) (onTc (τ := τ) (main (F := Ideal))) (s₀ m ρ)
    (fun r => Pipeline.FramePost cfgs (datsV m) 0 (V m) r ∧ r.2.sem = fun _ => 0) :=
  Pipeline.θ_run_frame_track (Q' := _) cfgs (datsV m) (0 : Fin 1) launch0 defs₀ Variants.none m ρ main
    (hbody := obligation m) (hshare := fun c => (datsV m 0 c).share_full fun _ => rfl)
    (howed := fun _ _ => rfl) (V := V m) (hmain := hmain m Variants.none) (hA := A_eqV m) (hin := held_in m) (hout := fun c => held_out m c _)

/-- What the proof data say is written back of the codes is the reference's. -/
theorem cutW5 (c : Dev nD) (t : Fin cfg0.N) (y : ((cfg0.win 5).xblock (cfg0.grid.coords t)).Idx) :
    W5 m c t ((cfg0.win 5).xinj (cfg0.grid.coords t) y) = Cert.RefFc1Ideal.Value.G5 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  unfold W5
  exact (cfg0.win 5).fill_xinj _ _ _ y

/-- What the proof data say is written back of the scales is the reference's. -/
theorem cutW6 (c : Dev nD) (t : Fin cfg0.N) (y : ((cfg0.win 6).xblock (cfg0.grid.coords t)).Idx) :
    W6 m c t ((cfg0.win 6).xinj (cfg0.grid.coords t) y) = Cert.RefFc1Ideal.Value.G6 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  unfold W6
  exact (cfg0.win 6).fill_xinj _ _ _ y

/-- The codes after the run are the reference's. -/
theorem final5 (c : Dev nD) : (datsV m 0 c).arrAt 5 (cfgs 0).N = Cert.RefFc1Ideal.Value.G5 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (datsV m 0 c).arrAt_eq_of_covers 5 _ (by decide +kernel) fun t _ y => ?_
  rw [after0_5V, cast_eq]
  exact cutW5 m c t y

/-- The scales after the run are the reference's. -/
theorem final6 (c : Dev nD) : (datsV m 0 c).arrAt 6 (cfgs 0).N = Cert.RefFc1Ideal.Value.G6 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (datsV m 0 c).arrAt_eq_of_covers 6 _ (by decide +kernel) fun t _ y => ?_
  rw [after0_6V, cast_eq]
  exact cutW6 m c t y

/-- The run's result arrays are the reference's. -/
theorem results (r : PUnit × MemSt nD τ sig (Elt Ideal)) (h : Pipeline.FramePost cfgs (datsV m) 0 (V m) r) (c : Dev nD) :
    r.2.mem ((c : Thread nD τ).loc main_v0_0) = Cert.RefFc1Ideal.Value.G5 (F := Ideal) (m ((c : Thread nD τ).loc main_arg0)) (m ((c : Thread nD τ).loc main_arg1)) (m ((c : Thread nD τ).loc main_arg2)) (m ((c : Thread nD τ).loc main_arg3)) (m ((c : Thread nD τ).loc main_arg4))
    ∧ r.2.mem ((c : Thread nD τ).loc main_v0_1) = Cert.RefFc1Ideal.Value.G6 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  ⟨((h c).1 5).trans (final5 m c), ((h c).1 6).trans (final6 m c)⟩

/-- The kernel and its reference compute the same arrays. -/
theorem algebraic : Cert.algebraic_Fc1Ideal_RefFc1Ideal := by
  intro m g m' g' hpre hagree
  refine ⟨fun c => Cert.RefFc1Ideal.Value.G5 (F := Ideal) (m ((c : Thread nD τ).loc main_arg0)) (m ((c : Thread nD τ).loc main_arg1)) (m ((c : Thread nD τ).loc main_arg2)) (m ((c : Thread nD τ).loc main_arg3)) (m ((c : Thread nD τ).loc main_arg4)), fun c => Cert.RefFc1Ideal.Value.G6 (F := Ideal) (m ((c : Thread nD τ).loc main_arg0)) (m ((c : Thread nD τ).loc main_arg1)) (m ((c : Thread nD τ).loc main_arg2)) (m ((c : Thread nD τ).loc main_arg3)) (m ((c : Thread nD τ).loc main_arg4)), ?_, ?_⟩
  · refine (θ_run _ _ _).mono (fun r h c => ?_) (run_main m g)
    have k : ∀ w : Fin cfg0.W, (cfg0.win w).isOut = false → r.2.mem (((cfgs 0).spec w).arr.view.loc (c.tc : Thread nD τ)) = V m c (Pipeline.arrRef spec0 w) :=
      fun w hw => ((h.1 c).1 w).trans (((datsV m 0 c).arrAt_in w hw _).trans (A_eqV m c w))
    obtain ⟨h5, h6⟩ := results m r h.1 c
    exact ⟨h5, h6, k 0 rfl, k 1 rfl, k 2 rfl, k 3 rfl, k 4 rfl⟩
  · refine (θ_run _ _ _).mono (fun r h c => ?_) (Cert.RefFc1Ideal.Value.run m' g')
    obtain ⟨h5, h6, k0, k1, k2, k3, k4⟩ := h c
    obtain ⟨e0, e1, e2, e3, e4⟩ := hagree c
    rw [e0, e1, e2, e3, e4] at h5 h6
    exact ⟨h5, h6, k0, k1, k2, k3, k4⟩

end Cert.Fc1Ideal.TileValue

end
-- ==== Proof.OprojSBody.lean ====
/- The output projection of the spatial attention (OprojS): the launch facts of its call with the table of action ids, what its body
   leaves in the staging buffers for any contents of the rows past the end of the arrays, and the run of the whole call. -/
module

public import proofs.«01_k».proof.Proof.Gen.OprojS.Launch
public import proofs.«01_k».proof.Proof.Gen.OprojS.Skeleton
public import Idealize.ShloMosaic.Lib.Pipeline.FrameBody
public import Idealize.ShloMosaic.Lib.Pipeline.Frame
public import Idealize.ShloMosaic.Lib.Pipeline.Kit
public import Idealize.ShloMosaic.Lib.Claim
public import Idealize.ShloMosaic.Lib.Tactic

@[expose] public section

set_option maxRecDepth 16384

noncomputable section

namespace Cert.OprojS.Body

open Cert.OprojS Cert.OprojS.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the call is entered: as launched. -/
abbrev V (c : Dev nD) (b : Ref sig .tc) : Buf (Elt F) ((c : Thread nD τ).loc b) := m ((c : Thread nD τ).loc b)

/-- The table of action ids as launched. -/
def tbl : pre0.Contents (Elt F) := fun j => V m (0 : Dev nD) (pre0.ref j)

/-- The same as six words. -/
def T0 : Vec F S6 .i32 := tbl m 0

/-- Every core's table is that one. -/
theorem V_pre (c : Dev nD) (j : Fin 1) : V m c (pre0.ref j) = tbl m j := by
  obtain rfl : c = 0 := Subsingleton.elim _ _; rfl

/-- The call at that table. -/
abbrev adm : (pcfg0 (F := F)).Adm := ⟨tbl m, trivial⟩
abbrev cfgM := cfg0 (adm m)
abbrev winM := win0 (adm m)

set_option maxHeartbeats 800000 in
/-- The program is the one call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- Window `w`'s block at point `t`, read off its array as launched. -/
def iblk (c : Dev nD) (w : Fin 11) (t : Fin (cfgM m).N) : (((cfgM m).win w).xblock ((cfgM m).grid.coords t)).Idx → Elt F ((cfgM m).win w).elt :=
  (((cfgM m).win w).blk t).view.read (Elt F) (V m c (Pipeline.arrRef spec0 w))

/-- Window 0 is fetched at every point. -/
theorem fetch0_0 : ∀ t : Fin (cfgM m).N, ((cfgM m).win 0).fetch t = true :=
  (fun t => (Pipeline.Window.fetch_reads (winM m 0) rfl 0 (by decide) (show grid0.fixedAfter reads0_0 0 = true by decide) (Pipeline.Window.sep_of_coord cc0_transform_0 0 0 (fun _ => rfl) (by decide)) (P := 1) (by decide) t).mpr (Nat.mod_one _) : ∀ t : Fin grid0.N, (winM m 0).fetch t = true)

/-- Window 1 is fetched at every point. -/
theorem fetch0_1 : ∀ t : Fin (cfgM m).N, ((cfgM m).win 1).fetch t = true :=
  (fun t => (Pipeline.Window.fetch_reads (winM m 1) rfl 0 (by decide) (show grid0.fixedAfter reads0_1 0 = true by decide) (Pipeline.Window.sep_of_coord cc0_transform_1 0 0 (fun _ => rfl) (by decide)) (P := 1) (by decide) t).mpr (Nat.mod_one _) : ∀ t : Fin grid0.N, (winM m 1).fetch t = true)

/-- Window 4 is fetched at every point. -/
theorem fetch0_4 : ∀ t : Fin (cfgM m).N, ((cfgM m).win 4).fetch t = true :=
  (fun t => (Pipeline.Window.fetch_reads (winM m 4) rfl 0 (by decide) (show grid0.fixedAfter reads0_4 0 = true by decide) (Pipeline.Window.sep_of_coord cc0_transform_4 0 0 (fun _ => rfl) (by decide)) (P := 1) (by decide) t).mpr (Nat.mod_one _) : ∀ t : Fin grid0.N, (winM m 4).fetch t = true)

/-- The current staging memref of each window at point `t`. -/
abbrev st0_0 (t : Fin (cfgM m).N) := ((cfgM m).win 0).stage ((cfgM m).slots t 0)
abbrev st0_1 (t : Fin (cfgM m).N) := ((cfgM m).win 1).stage ((cfgM m).slots t 1)
abbrev st0_2 (t : Fin (cfgM m).N) := ((cfgM m).win 2).stage ((cfgM m).slots t 2)
abbrev st0_3 (t : Fin (cfgM m).N) := ((cfgM m).win 3).stage ((cfgM m).slots t 3)
abbrev st0_4 (t : Fin (cfgM m).N) := ((cfgM m).win 4).stage ((cfgM m).slots t 4)
abbrev st0_5 (t : Fin (cfgM m).N) := ((cfgM m).win 5).stage ((cfgM m).slots t 5)
abbrev st0_6 (t : Fin (cfgM m).N) := ((cfgM m).win 6).stage ((cfgM m).slots t 6)
abbrev st0_7 (t : Fin (cfgM m).N) := ((cfgM m).win 7).stage ((cfgM m).slots t 7)
abbrev st0_8 (t : Fin (cfgM m).N) := ((cfgM m).win 8).stage ((cfgM m).slots t 8)
abbrev st0_9 (t : Fin (cfgM m).N) := ((cfgM m).win 9).stage ((cfgM m).slots t 9)
abbrev st0_10 (t : Fin (cfgM m).N) := ((cfgM m).win 10).stage ((cfgM m).slots t 10)

/-- The body at point `t`, on what the pipeline calls it with. -/
abbrev bodyAt0 (t : Fin (cfgM m).N) : Prog (TpuEff nD τ sig (Elt F) Λ₀ .tc) PUnit :=
  cc0_oproj_s (grid0.coords t) (Memref.whole main_arg0) (Memref.isWhole_whole _) (spec0_0.stage ((cfgM m).slots t 0)) (hstage0_0 (((cfgM m).slots t 0).cast nbuf0_0)) (spec0_1.stage ((cfgM m).slots t 1)) (hstage0_1 (((cfgM m).slots t 1).cast nbuf0_1)) (spec0_2.stage ((cfgM m).slots t 2)) (hstage0_2 (((cfgM m).slots t 2).cast nbuf0_2)) (spec0_3.stage ((cfgM m).slots t 3)) (hstage0_3 (((cfgM m).slots t 3).cast nbuf0_3)) (spec0_4.stage ((cfgM m).slots t 4)) (hstage0_4 (((cfgM m).slots t 4).cast nbuf0_4)) (spec0_5.stage ((cfgM m).slots t 5)) (hstage0_5 (((cfgM m).slots t 5).cast nbuf0_5)) (spec0_6.stage ((cfgM m).slots t 6)) (hstage0_6 (((cfgM m).slots t 6).cast nbuf0_6)) (spec0_7.stage ((cfgM m).slots t 7)) (hstage0_7 (((cfgM m).slots t 7).cast nbuf0_7)) (spec0_8.stage ((cfgM m).slots t 8)) (hstage0_8 (((cfgM m).slots t 8).cast nbuf0_8)) (spec0_9.stage ((cfgM m).slots t 9)) (hstage0_9 (((cfgM m).slots t 9).cast nbuf0_9)) (spec0_10.stage ((cfgM m).slots t 10)) (hstage0_10 (((cfgM m).slots t 10).cast nbuf0_10))

abbrev rA : Rect S192x5120 := Rect.unit (s := S192x5120) ![0, 0] S192x5120.size inb_S192x5120_S192x5120_0_0
abbrev rB : Rect S192x1 := Rect.unit (s := S192x1) ![0, 0] S192x1.size inb_S192x1_S192x1_0_0
abbrev rW : Rect S5120x5120 := Rect.unit (s := S5120x5120) ![0, 0] S5120x5120.size inb_S5120x5120_S5120x5120_0_0
abbrev rC : Rect S1x5120 := Rect.unit (s := S1x5120) ![0, 0] S1x5120.size inb_S1x5120_S1x5120_0_0
abbrev r1 (i : grid0.Coords) : Rect S6 := Rect.unit (s := S6) (k0_off1 i) S1.size (k0_off1_inb i)
abbrev r2 (i : grid0.Coords) : Rect S6 := Rect.unit (s := S6) (k0_off3 i) S1.size (k0_off3_inb i)

/-- The action id of the tile's first group. -/
def wd1 (T : Vec F S6 .i32) (i : grid0.Coords) : BitVec 32 := View.ld T (r1 i) (Shape.Idx.first (numel1_S1.symm ▸ Nat.one_pos))
/-- The action id of the group after it (or of the last). -/
def wd2 (T : Vec F S6 .i32) (i : grid0.Coords) : BitVec 32 := View.ld T (r2 i) (Shape.Idx.first (numel1_S1.symm ▸ Nat.one_pos))

/-- The two rows of the action table that the body reads exist. -/
def Ok (T : Vec F S6 .i32) : Prop := ∀ i : grid0.Coords, k0_chk1 (wd1 T i) ∧ k0_chk2 (wd2 T i)

/-- The tile's first row in the whole array. -/
def base (i : grid0.Coords) : BitVec 32 := Scalar.muli (BitVec.ofNat 32 (i 0).val) 192#32

/-- The tile's first group: its first row divided by 920, rounded down. -/
def grp (i : grid0.Coords) : BitVec 32 :=
  let v13 : BitVec 32 := Scalar.muli (BitVec.ofNat 32 (i 0).val) 192#32
  let v14 : BitVec 32 := Scalar.divsi v13 920#32
  let v19 : BitVec 32 := Scalar.subi (Scalar.extui (Scalar.cmpi .sgt v13 0#32)) (Scalar.extui (Scalar.cmpi .slt v13 0#32))
  let v24 : BitVec 32 := Scalar.subi (Scalar.extui (Scalar.cmpi .sgt 920#32 0#32)) (Scalar.extui (Scalar.cmpi .slt 920#32 0#32))
  Scalar.select (Scalar.andi (Scalar.cmpi .ne v19 v24) (Scalar.cmpi .ne (Scalar.remsi v13 920#32) 0#32)) (Scalar.subi v14 1#32) v14

/-- What the body leaves in output window 8's buffer. -/
def out0_8 (x0 : Vec F S192x5120 .fp8e4m3) (x1 : Vec F S192x1 .f32) (x2 : Vec F S5120x5120 .fp8e4m3) (x3 : Vec F S1x5120 .f32) (x4 : Vec F S192x5120 .bf16) : Vec F S192x5120 .f32 :=
  View.canon [⟨rA, k0_pay3 (View.ld x4 rA) (View.ld x0 rA) (View.ld x2 rW) (View.ld x1 rB) (View.ld x3 rC)⟩]

/-- The layer norm's output plus each row's action row. -/
def mid (T : Vec F S6 .i32) (i : grid0.Coords) (h : k0_chk1 (wd1 T i) ∧ k0_chk2 (wd2 T i)) (x0 : Vec F S192x5120 .fp8e4m3) (x1 : Vec F S192x1 .f32) (x2 : Vec F S5120x5120 .fp8e4m3) (x3 : Vec F S1x5120 .f32) (x4 : Vec F S192x5120 .bf16) (x5 : Vec F S1x5120 .f32) (x6 : Vec F S1x5120 .f32) (x7 : Vec F S8x5120 .f32) : FVec F S192x5120 .f32 :=
  k0_pay4 (k0_pay3 (View.ld x4 rA) (View.ld x0 rA) (View.ld x2 rW) (View.ld x1 rB) (View.ld x3 rC)) (grp i) (base i)
    (View.ld x7 (Rect.unit (s := S8x5120) (k0_off2 (wd1 T i)) S1x5120.size (k0_off2_inb (wd1 T i) h.1)))
    (View.ld x7 (Rect.unit (s := S8x5120) (k0_off4 (wd2 T i)) S1x5120.size (k0_off4_inb (wd2 T i) h.2)))
    (View.ld x5 rC) (View.ld x6 rC)

/-- What the body leaves in output window 9's buffer. -/
def out0_9 (T : Vec F S6 .i32) (i : grid0.Coords) (h : k0_chk1 (wd1 T i) ∧ k0_chk2 (wd2 T i)) (x0 : Vec F S192x5120 .fp8e4m3) (x1 : Vec F S192x1 .f32) (x2 : Vec F S5120x5120 .fp8e4m3) (x3 : Vec F S1x5120 .f32) (x4 : Vec F S192x5120 .bf16) (x5 : Vec F S1x5120 .f32) (x6 : Vec F S1x5120 .f32) (x7 : Vec F S8x5120 .f32) : Vec F S192x5120 .fp8e4m3 :=
  View.canon [⟨rA, k0_pay2 (mid T i h x0 x1 x2 x3 x4 x5 x6 x7)⟩]

/-- What the body leaves in output window 10's buffer. -/
def out0_10 (T : Vec F S6 .i32) (i : grid0.Coords) (h : k0_chk1 (wd1 T i) ∧ k0_chk2 (wd2 T i)) (x0 : Vec F S192x5120 .fp8e4m3) (x1 : Vec F S192x1 .f32) (x2 : Vec F S5120x5120 .fp8e4m3) (x3 : Vec F S1x5120 .f32) (x4 : Vec F S192x5120 .bf16) (x5 : Vec F S1x5120 .f32) (x6 : Vec F S1x5120 .f32) (x7 : Vec F S8x5120 .f32) : Vec F S192x1 .f32 :=
  View.canon [⟨rB, k0_pay1 (mid T i h x0 x1 x2 x3 x4 x5 x6 x7)⟩]

/-- The one store of window 8 covers its buffer. -/
theorem cover0_8 (p0 : Vec F S192x5120 .f32) (y : S192x5120.Idx) :
    ∃ pc ∈ ([⟨rA, p0⟩] : List (View.Piece (Elt F) S192x5120 .f32)), y ∈ pc.1.set :=
  View.cover_of_tiled [⟨rA, p0⟩] S192x5120.size (by rfl) y

/-- The one store of window 9 covers its buffer. -/
theorem cover0_9 (p0 : Vec F S192x5120 .fp8e4m3) (y : S192x5120.Idx) :
    ∃ pc ∈ ([⟨rA, p0⟩] : List (View.Piece (Elt F) S192x5120 .fp8e4m3)), y ∈ pc.1.set :=
  View.cover_of_tiled [⟨rA, p0⟩] S192x5120.size (by rfl) y

/-- The one store of window 10 covers its buffer. -/
theorem cover0_10 (p0 : Vec F S192x1 .f32) (y : S192x1.Idx) :
    ∃ pc ∈ ([⟨rB, p0⟩] : List (View.Piece (Elt F) S192x1 .f32)), y ∈ pc.1.set :=
  View.cover_of_tiled [⟨rB, p0⟩] S192x1.size (by rfl) y

set_option maxHeartbeats 1000000 in
/-- The body on whole staging buffers and the table: the inputs and the table stay, each output ends at `out0_W` of them. -/
theorem sound_kernel (c : Dev nD) (E : Set ℕ) (i : grid0.Coords) (arg1 : Memref sig .tc .smem S6 .i32) (harg1 : arg1.IsWhole) (arg2 : Memref sig .tc .vmem S192x5120 .fp8e4m3) (harg2 : arg2.IsWhole) (arg3 : Memref sig .tc .vmem S192x1 .f32) (harg3 : arg3.IsWhole) (arg4 : Memref sig .tc .vmem S5120x5120 .fp8e4m3) (harg4 : arg4.IsWhole) (arg5 : Memref sig .tc .vmem S1x5120 .f32) (harg5 : arg5.IsWhole) (arg6 : Memref sig .tc .vmem S192x5120 .bf16) (harg6 : arg6.IsWhole) (arg7 : Memref sig .tc .vmem S1x5120 .f32) (harg7 : arg7.IsWhole) (arg8 : Memref sig .tc .vmem S1x5120 .f32) (harg8 : arg8.IsWhole) (arg9 : Memref sig .tc .vmem S8x5120 .f32) (harg9 : arg9.IsWhole) (arg10 : Memref sig .tc .vmem S192x5120 .f32) (harg10 : arg10.IsWhole) (arg11 : Memref sig .tc .vmem S192x5120 .fp8e4m3) (harg11 : arg11.IsWhole) (arg12 : Memref sig .tc .vmem S192x1 .f32) (harg12 : arg12.IsWhole)
    (T : Vec F S6 .i32) (h : k0_chk1 (wd1 T i) ∧ k0_chk2 (wd2 T i)) (x0 : Vec F S192x5120 .fp8e4m3) (x1 : Vec F S192x1 .f32) (x2 : Vec F S5120x5120 .fp8e4m3) (x3 : Vec F S1x5120 .f32) (x4 : Vec F S192x5120 .bf16) (x5 : Vec F S1x5120 .f32) (x6 : Vec F S1x5120 .f32) (x7 : Vec F S8x5120 .f32) (K : PUnit → sProp 𝕄) :
    iprop(owns (c : Thread nD τ) arg1 fullShare.right T ∗ owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare.right T ∗ owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (out0_8 x0 x1 x2 x3 x4) ∗ owns (c : Thread nD τ) arg11 fullShare (out0_9 T i h x0 x1 x2 x3 x4 x5 x6 x7) ∗ owns (c : Thread nD τ) arg12 fullShare (out0_10 T i h x0 x1 x2 x3 x4 x5 x6 x7)) -∗ K ⟨⟩))
      ⊢ wp frame (wpE (defs₀ (F := F)) Variants.none c none) E (cc0_oproj_s i arg1 harg1 arg2 harg2 arg3 harg3 arg4 harg4 arg5 harg5 arg6 harg6 arg7 harg7 arg8 harg8 arg9 harg9 arg10 harg10 arg11 harg11 arg12 harg12) K := by
  simp only [cc0_oproj_s_eq_skeleton]; unfold cc0_oproj_s_skel
  simp only [k0_part1_eq_skeleton, k0_part2_eq_skeleton]
  unfold owns
  iintro ⟨⟨%ft, %hft, HT⟩, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hft hf0 hf1 hf2 hf3 hf4 hf5 hf6 hf7
  have h1 : k0_chk1 (View.readAt (Elt F) arg1.view (r1 i).toLoadRect ft (Shape.Idx.first (numel1_S1.symm ▸ Nat.one_pos))) := h.1
  have h2 : k0_chk2 (View.readAt (Elt F) arg1.view (r2 i).toLoadRect ft (Shape.Idx.first (numel1_S1.symm ▸ Nat.one_pos))) := h.2
  sl_exec
  sl_step
  iapply Hk
  isplitl [HT]
  · iexists ft; isplitr; · ipureintro; rfl
    iexact HT
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover0_8 _)
  isplitl [H9]
  · iexists _; isplitr
    swap; · iexact H9
    ipureintro
    exact View.read_writes_eq_canon _ _ _ (cover0_9 _)
  iexists _; isplitr
  swap; · iexact H10
  ipureintro
  exact View.read_writes_eq_canon _ _ _ (cover0_10 _)

/-- Input window 0's buffer with zeros past the end of the array. -/
def X0 (c : Dev nD) (t : Fin (cfgM m).N) : Vec F S192x5120 .fp8e4m3 :=
  ((cfgM m).win 0).fill ((cfgM m).grid.coords t) (fun _ => Scalar.ofBits .fp8e4m3 0) (iblk m c 0 t)

/-- Input window 1's buffer with zeros past the end of the array. -/
def X1 (c : Dev nD) (t : Fin (cfgM m).N) : Vec F S192x1 .f32 :=
  ((cfgM m).win 1).fill ((cfgM m).grid.coords t) (fun _ => Scalar.ofBits .f32 0) (iblk m c 1 t)

/-- Input window 4's buffer with zeros past the end of the array. -/
def X4 (c : Dev nD) (t : Fin (cfgM m).N) : Vec F S192x5120 .bf16 :=
  ((cfgM m).win 4).fill ((cfgM m).grid.coords t) (fun _ => Scalar.ofBits .bf16 0) (iblk m c 4 t)

/-- The proof data of the call: the arrays as launched; after the body each input's buffer as fetched and each output's computed
    from them, stated on the rows inside the arrays; the table held to one half by the body. -/
def dats (hok : Ok (F := F) (T0 m)) (_ : Fin 1) (c : Dev nD) : Dat τ (Elt F) Unit ℕ (UR sig nD τ) ℕ (cfgM m) c where
  A w := V m c (Pipeline.arrRef spec0 w)
  after w t := match w with
    | ⟨0, _⟩ => X0 m c t
    | ⟨1, _⟩ => X1 m c t
    | ⟨2, _⟩ => iblk m c 2 t
    | ⟨3, _⟩ => iblk m c 3 t
    | ⟨4, _⟩ => X4 m c t
    | ⟨5, _⟩ => iblk m c 5 t
    | ⟨6, _⟩ => iblk m c 6 t
    | ⟨7, _⟩ => iblk m c 7 t
    | ⟨8, _⟩ => out0_8 (X0 m c t) (X1 m c t) (iblk m c 2 t) (iblk m c 3 t) (X4 m c t)
    | ⟨9, _⟩ => out0_9 (T0 m) (grid0.coords t) (hok _) (X0 m c t) (X1 m c t) (iblk m c 2 t) (iblk m c 3 t) (X4 m c t) (iblk m c 5 t) (iblk m c 6 t) (iblk m c 7 t)
    | ⟨10, _⟩ => out0_10 (T0 m) (grid0.coords t) (hok _) (X0 m c t) (X1 m c t) (iblk m c 2 t) (iblk m c 3 t) (X4 m c t) (iblk m c 5 t) (iblk m c 6 t) (iblk m c 7 t)
  Φ _ := iprop(Pipeline.ΦA spec0 c ∗ Pipeline.ΦT pre0 (tbl m) c)
  q _ := fullShare
  owed _ := 0

variable (hok : Ok (F := F) (T0 m))

/-- The arrays of the proof data are the launched ones. -/
theorem A_eq (c : Dev nD) (w : Fin (cfgM m).W) : (dats m hok 0 c).A w = V m c (Pipeline.arrRef spec0 w) := by
  dsimp only [dats]

theorem after0_0 (c : Dev nD) (t : Fin (cfgM m).N) : (dats m hok 0 c).after 0 t = X0 m c t := by dsimp only [dats]; rfl
theorem after0_1 (c : Dev nD) (t : Fin (cfgM m).N) : (dats m hok 0 c).after 1 t = X1 m c t := by dsimp only [dats]; rfl
theorem after0_2 (c : Dev nD) (t : Fin (cfgM m).N) : (dats m hok 0 c).after 2 t = iblk m c 2 t := by dsimp only [dats]; rfl
theorem after0_3 (c : Dev nD) (t : Fin (cfgM m).N) : (dats m hok 0 c).after 3 t = iblk m c 3 t := by dsimp only [dats]; rfl
theorem after0_4 (c : Dev nD) (t : Fin (cfgM m).N) : (dats m hok 0 c).after 4 t = X4 m c t := by dsimp only [dats]; rfl
theorem after0_5 (c : Dev nD) (t : Fin (cfgM m).N) : (dats m hok 0 c).after 5 t = iblk m c 5 t := by dsimp only [dats]; rfl
theorem after0_6 (c : Dev nD) (t : Fin (cfgM m).N) : (dats m hok 0 c).after 6 t = iblk m c 6 t := by dsimp only [dats]; rfl
theorem after0_7 (c : Dev nD) (t : Fin (cfgM m).N) : (dats m hok 0 c).after 7 t = iblk m c 7 t := by dsimp only [dats]; rfl
theorem after0_8 (c : Dev nD) (t : Fin (cfgM m).N) : (dats m hok 0 c).after 8 t = out0_8 (X0 m c t) (X1 m c t) (iblk m c 2 t) (iblk m c 3 t) (X4 m c t) := by dsimp only [dats]; rfl
theorem after0_9 (c : Dev nD) (t : Fin (cfgM m).N) : (dats m hok 0 c).after 9 t = out0_9 (T0 m) (grid0.coords t) (hok _) (X0 m c t) (X1 m c t) (iblk m c 2 t) (iblk m c 3 t) (X4 m c t) (iblk m c 5 t) (iblk m c 6 t) (iblk m c 7 t) := by dsimp only [dats]; rfl
theorem after0_10 (c : Dev nD) (t : Fin (cfgM m).N) : (dats m hok 0 c).after 10 t = out0_10 (T0 m) (grid0.coords t) (hok _) (X0 m c t) (X1 m c t) (iblk m c 2 t) (iblk m c 3 t) (X4 m c t) (iblk m c 5 t) (iblk m c 6 t) (iblk m c 7 t) := by dsimp only [dats]; rfl

/-- Clipped input window 0 is fetched at every point: its block, anything past the array's end. -/
theorem before0_0 (c : Dev nD) (t : Fin (cfgM m).N) (d) : (dats m hok 0 c).before 0 t d = ((cfgM m).win 0).fill ((cfgM m).grid.coords t) d (iblk m c 0 t) := by
  rw [Dat.before_fetched _ 0 t (fetch0_0 m t)]; unfold Dat.fetched Dat.blockOf iblk; rw [A_eq]; try rfl
/-- Clipped input window 1 is fetched at every point: its block, anything past the array's end. -/
theorem before0_1 (c : Dev nD) (t : Fin (cfgM m).N) (d) : (dats m hok 0 c).before 1 t d = ((cfgM m).win 1).fill ((cfgM m).grid.coords t) d (iblk m c 1 t) := by
  rw [Dat.before_fetched _ 1 t (fetch0_1 m t)]; unfold Dat.fetched Dat.blockOf iblk; rw [A_eq]; try rfl
/-- Input window 2's buffer holds its block at every point. -/
theorem before0_2 (c : Dev nD) (t : Fin (cfgM m).N) (d) : (dats m hok 0 c).before 2 t d = iblk m c 2 t :=
  ((dats m hok 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
/-- Input window 3's buffer holds its block at every point. -/
theorem before0_3 (c : Dev nD) (t : Fin (cfgM m).N) (d) : (dats m hok 0 c).before 3 t d = iblk m c 3 t :=
  ((dats m hok 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
/-- Clipped input window 4 is fetched at every point: its block, anything past the array's end. -/
theorem before0_4 (c : Dev nD) (t : Fin (cfgM m).N) (d) : (dats m hok 0 c).before 4 t d = ((cfgM m).win 4).fill ((cfgM m).grid.coords t) d (iblk m c 4 t) := by
  rw [Dat.before_fetched _ 4 t (fetch0_4 m t)]; unfold Dat.fetched Dat.blockOf iblk; rw [A_eq]; try rfl
/-- Input window 5's buffer holds its block at every point. -/
theorem before0_5 (c : Dev nD) (t : Fin (cfgM m).N) (d) : (dats m hok 0 c).before 5 t d = iblk m c 5 t :=
  ((dats m hok 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
/-- Input window 6's buffer holds its block at every point. -/
theorem before0_6 (c : Dev nD) (t : Fin (cfgM m).N) (d) : (dats m hok 0 c).before 6 t d = iblk m c 6 t :=
  ((dats m hok 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
/-- Input window 7's buffer holds its block at every point. -/
theorem before0_7 (c : Dev nD) (t : Fin (cfgM m).N) (d) : (dats m hok 0 c).before 7 t d = iblk m c 7 t :=
  ((dats m hok 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)

/-- The body's half of the table, as the body reads it. -/
theorem table_eq (c : Dev nD) : (Pipeline.ΦT pre0 (tbl m) c : sProp 𝕄) = owns (c : Thread nD τ) (Memref.whole main_arg0) fullShare.right (T0 m) := by
  show _ = owns (c : Thread nD τ) (Memref.whole main_arg0) fullShare.right (T0 m)
  refine Eq.trans ?_ (owns_whole (c : Thread nD τ) main_arg0 fullShare.right (T0 m)).symm
  unfold Pipeline.ΦT Pipeline.prefHeld
  rw [show (Finset.univ : Finset (Fin 1)) = {(0 : Fin 1)} from by decide, bigSep_singleton]
  rfl

/-- The body at any point. -/
theorem sound_body_any (c : Dev nD) (t : Fin (cfgM m).N) :
    iprop((dats m hok 0 c).Φ t.castSucc
    ∗ (dats m hok 0 c).owesAt () t.castSucc
    ∗ (∃ d, owns (c : Thread nD τ) (st0_0 m t) fullShare ((dats m hok 0 c).before 0 t d))
    ∗ (∃ d, owns (c : Thread nD τ) (st0_1 m t) fullShare ((dats m hok 0 c).before 1 t d))
    ∗ (∃ d, owns (c : Thread nD τ) (st0_2 m t) fullShare ((dats m hok 0 c).before 2 t d))
    ∗ (∃ d, owns (c : Thread nD τ) (st0_3 m t) fullShare ((dats m hok 0 c).before 3 t d))
    ∗ (∃ d, owns (c : Thread nD τ) (st0_4 m t) fullShare ((dats m hok 0 c).before 4 t d))
    ∗ (∃ d, owns (c : Thread nD τ) (st0_5 m t) fullShare ((dats m hok 0 c).before 5 t d))
    ∗ (∃ d, owns (c : Thread nD τ) (st0_6 m t) fullShare ((dats m hok 0 c).before 6 t d))
    ∗ (∃ d, owns (c : Thread nD τ) (st0_7 m t) fullShare ((dats m hok 0 c).before 7 t d))
    ∗ (∃ X, owns (c : Thread nD τ) (st0_8 m t) fullShare X)
    ∗ (∃ X, owns (c : Thread nD τ) (st0_9 m t) fullShare X)
    ∗ (∃ X, owns (c : Thread nD τ) (st0_10 m t) fullShare X))
    ⊢ wp frame (wpE (defs₀ (F := F)) Variants.none c none) Set.univ (bodyAt0 m t) (fun _ =>
    iprop((dats m hok 0 c).Φ t.succ
    ∗ (dats m hok 0 c).owesAt () t.succ
    ∗ (∃ d, owns (c : Thread nD τ) (st0_0 m t) fullShare (((cfgM m).win 0).fill ((cfgM m).grid.coords t) d (((cfgM m).win 0).cut ((cfgM m).grid.coords t) ((dats m hok 0 c).after 0 t))))
    ∗ (∃ d, owns (c : Thread nD τ) (st0_1 m t) fullShare (((cfgM m).win 1).fill ((cfgM m).grid.coords t) d (((cfgM m).win 1).cut ((cfgM m).grid.coords t) ((dats m hok 0 c).after 1 t))))
    ∗ owns (c : Thread nD τ) (st0_2 m t) fullShare ((dats m hok 0 c).after 2 t)
    ∗ owns (c : Thread nD τ) (st0_3 m t) fullShare ((dats m hok 0 c).after 3 t)
    ∗ (∃ d, owns (c : Thread nD τ) (st0_4 m t) fullShare (((cfgM m).win 4).fill ((cfgM m).grid.coords t) d (((cfgM m).win 4).cut ((cfgM m).grid.coords t) ((dats m hok 0 c).after 4 t))))
    ∗ owns (c : Thread nD τ) (st0_5 m t) fullShare ((dats m hok 0 c).after 5 t)
    ∗ owns (c : Thread nD τ) (st0_6 m t) fullShare ((dats m hok 0 c).after 6 t)
    ∗ owns (c : Thread nD τ) (st0_7 m t) fullShare ((dats m hok 0 c).after 7 t)
    ∗ (∃ X, owns (c : Thread nD τ) (st0_8 m t) fullShare X)
    ∗ (∃ X, owns (c : Thread nD τ) (st0_9 m t) fullShare X)
    ∗ (∃ X, owns (c : Thread nD τ) (st0_10 m t) fullShare X))) := by
  unfold bodyAt0
  simp only [before0_0, before0_1, before0_2, before0_3, before0_4, before0_5, before0_6, before0_7]
  rw [show (dats m hok 0 c).Φ t.succ = iprop(Pipeline.ΦA spec0 c ∗ Pipeline.ΦT pre0 (tbl m) c) from rfl,
    show (dats m hok 0 c).Φ t.castSucc = iprop(Pipeline.ΦA spec0 c ∗ Pipeline.ΦT pre0 (tbl m) c) from rfl,
    show (dats m hok 0 c).owesAt () t.succ = (dats m hok 0 c).owesAt () t.castSucc from rfl,
    after0_0, after0_1, after0_2, after0_3, after0_4, after0_5, after0_6, after0_7, table_eq]
  iintro ⟨⟨HΦ, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ _ _ (T0 m) (hok _) (((cfgM m).win 0).fill ((cfgM m).grid.coords t) d0 (iblk m c 0 t)) (((cfgM m).win 1).fill ((cfgM m).grid.coords t) d1 (iblk m c 1 t)) (iblk m c 2 t) (iblk m c 3 t) (((cfgM m).win 4).fill ((cfgM m).grid.coords t) d4 (iblk m c 4 t)) (iblk m c 5 t) (iblk m c 6 t) (iblk m c 7 t) _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨HT, H0, H1, H2, H3, H4, H5, H6, H7, H8, H9, H10⟩
  isplitl [HΦ HT]
  · isplitl [HΦ]; · iexact HΦ
    iexact HT
  isplitl [Ho]; · iexact Ho
  isplitl [H0]; · iexists d0; rw [show ((cfgM m).win 0).cut ((cfgM m).grid.coords t) (X0 m c t) = iblk m c 0 t from ((cfgM m).win 0).cut_fill _ _ _]; iexact H0
  isplitl [H1]; · iexists d1; rw [show ((cfgM m).win 1).cut ((cfgM m).grid.coords t) (X1 m c t) = iblk m c 1 t from ((cfgM m).win 1).cut_fill _ _ _]; iexact H1
  isplitl [H2]; · iexact H2
  isplitl [H3]; · iexact H3
  isplitl [H4]; · iexists d4; rw [show ((cfgM m).win 4).cut ((cfgM m).grid.coords t) (X4 m c t) = iblk m c 4 t from ((cfgM m).win 4).cut_fill _ _ _]; iexact H4
  isplitl [H5]; · iexact H5
  isplitl [H6]; · iexact H6
  isplitl [H7]; · iexact H7
  isplitl [H8]; · iexists _; iexact H8
  isplitl [H9]; · iexists _; iexact H9
  iexists _; iexact H10

/-- The body table's row is the body. -/
theorem defs₀_row (t : Fin (cfgM m).N) :
    defs₀ (F := F) .tc (cfgM m).body ((cfgM m).bodyArgs t ((cfgM m).slots t)) = bodyAt0 m t := by
  unfold defs₀; rw [Defs.onTc_tc]

/-- The outputs, of which nothing is said when only the arguments matter. -/
def fgt : Fin (cfgM m).W → Bool := fun | 8 => true | 9 => true | 10 => true | _ => false

/-- The body obligation with the outputs left open. -/
theorem obligation_any (c : Dev nD) : BodyObligationLoose (dats (F := F) m hok 0 c) (defs₀ (F := F)) Variants.none () Set.univ (fgt m) := fun t => by
  rw [bigSep_W0, bigSep_W0, defs₀_row]
  exact triple_restated (sound_body_any m hok c t) rfl .rfl fun _ => .rfl

set_option backward.isDefEq.respectTransparency.types false in
set_option maxHeartbeats 800000 in
/-- The run with the outputs left open. -/
theorem run_any : θ_run defs (onTc (τ := τ) (main (F := F))) (s₀ m ρ)
    (fun r => Pipeline.RDat.FramePost (cfgM m) (fun c => (dats m hok 0 c).toRForget (fgt m)) (V m) r ∧ r.2.sem = fun _ => 0) :=
  Pipeline.θ_run_frameP_forget (Q' := _) pcfgs (fun _ => adm m) (dats m hok) (0 : Fin 1) launch0 defs₀ Variants.none (fgt m) m ρ main
    (hbody := obligation_any m hok) (hshare := fun c => (dats m hok 0 c).share_full fun _ => rfl)
    (howed := fun _ _ => rfl) (V := V m) (hmain := hmain m Variants.none) (hA := A_eq m hok) (hpf := V_pre m) (hΦ := fun _ _ => rfl)

include hok in
/-- The call runs to its end and leaves its arguments as they were. -/
theorem frame_of_ok : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => ⟨(h.1 c).2 main_arg0 (show main_arg0 ∈ Pipeline.restRefs sig spec0 by decide), h.1.arr_in c 0 rfl, h.1.arr_in c 1 rfl, h.1.arr_in c 2 rfl, h.1.arr_in c 3 rfl, h.1.arr_in c 4 rfl, h.1.arr_in c 5 rfl, h.1.arr_in c 6 rfl, h.1.arr_in c 7 rfl⟩, h.2⟩) (run_any m ρ hok)

end Cert.OprojS.Body

end
-- ==== Proof.OprojSIdealBody.lean ====
/- The output projection of the spatial attention (OprojSIdeal): the launch facts of its call with the table of action ids, what its body
   leaves in the staging buffers for any contents of the rows past the end of the arrays, and the run of the whole call. -/
module

public import proofs.«01_k».proof.Proof.Gen.OprojSIdeal.Launch
public import proofs.«01_k».proof.Proof.Gen.OprojSIdeal.Skeleton
public import Idealize.ShloMosaic.Lib.Pipeline.FrameBody
public import Idealize.ShloMosaic.Lib.Pipeline.Frame
public import Idealize.ShloMosaic.Lib.Pipeline.Kit
public import Idealize.ShloMosaic.Lib.Claim
public import Idealize.ShloMosaic.Lib.Tactic

@[expose] public section

set_option maxRecDepth 16384

noncomputable section

namespace Cert.OprojSIdeal.Body

open Cert.OprojSIdeal Cert.OprojSIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the call is entered: as launched. -/
abbrev V (c : Dev nD) (b : Ref sig .tc) : Buf (Elt F) ((c : Thread nD τ).loc b) := m ((c : Thread nD τ).loc b)

/-- The table of action ids as launched. -/
def tbl : pre0.Contents (Elt F) := fun j => V m (0 : Dev nD) (pre0.ref j)

/-- The same as six words. -/
def T0 : Vec F S6 .i32 := tbl m 0

/-- Every core's table is that one. -/
theorem V_pre (c : Dev nD) (j : Fin 1) : V m c (pre0.ref j) = tbl m j := by
  obtain rfl : c = 0 := Subsingleton.elim _ _; rfl

/-- The call at that table. -/
abbrev adm : (pcfg0 (F := F)).Adm := ⟨tbl m, trivial⟩
abbrev cfgM := cfg0 (adm m)
abbrev winM := win0 (adm m)

set_option maxHeartbeats 800000 in
/-- The program is the one call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- Window `w`'s block at point `t`, read off its array as launched. -/
def iblk (c : Dev nD) (w : Fin 11) (t : Fin (cfgM m).N) : (((cfgM m).win w).xblock ((cfgM m).grid.coords t)).Idx → Elt F ((cfgM m).win w).elt :=
  (((cfgM m).win w).blk t).view.read (Elt F) (V m c (Pipeline.arrRef spec0 w))

/-- Window 0 is fetched at every point. -/
theorem fetch0_0 : ∀ t : Fin (cfgM m).N, ((cfgM m).win 0).fetch t = true :=
  (fun t => (Pipeline.Window.fetch_reads (winM m 0) rfl 0 (by decide) (show grid0.fixedAfter reads0_0 0 = true by decide) (Pipeline.Window.sep_of_coord cc0_transform_0 0 0 (fun _ => rfl) (by decide)) (P := 1) (by decide) t).mpr (Nat.mod_one _) : ∀ t : Fin grid0.N, (winM m 0).fetch t = true)

/-- Window 1 is fetched at every point. -/
theorem fetch0_1 : ∀ t : Fin (cfgM m).N, ((cfgM m).win 1).fetch t = true :=
  (fun t => (Pipeline.Window.fetch_reads (winM m 1) rfl 0 (by decide) (show grid0.fixedAfter reads0_1 0 = true by decide) (Pipeline.Window.sep_of_coord cc0_transform_1 0 0 (fun _ => rfl) (by decide)) (P := 1) (by decide) t).mpr (Nat.mod_one _) : ∀ t : Fin grid0.N, (winM m 1).fetch t = true)

/-- Window 4 is fetched at every point. -/
theorem fetch0_4 : ∀ t : Fin (cfgM m).N, ((cfgM m).win 4).fetch t = true :=
  (fun t => (Pipeline.Window.fetch_reads (winM m 4) rfl 0 (by decide) (show grid0.fixedAfter reads0_4 0 = true by decide) (Pipeline.Window.sep_of_coord cc0_transform_4 0 0 (fun _ => rfl) (by decide)) (P := 1) (by decide) t).mpr (Nat.mod_one _) : ∀ t : Fin grid0.N, (winM m 4).fetch t = true)

/-- The current staging memref of each window at point `t`. -/
abbrev st0_0 (t : Fin (cfgM m).N) := ((cfgM m).win 0).stage ((cfgM m).slots t 0)
abbrev st0_1 (t : Fin (cfgM m).N) := ((cfgM m).win 1).stage ((cfgM m).slots t 1)
abbrev st0_2 (t : Fin (cfgM m).N) := ((cfgM m).win 2).stage ((cfgM m).slots t 2)
abbrev st0_3 (t : Fin (cfgM m).N) := ((cfgM m).win 3).stage ((cfgM m).slots t 3)
abbrev st0_4 (t : Fin (cfgM m).N) := ((cfgM m).win 4).stage ((cfgM m).slots t 4)
abbrev st0_5 (t : Fin (cfgM m).N) := ((cfgM m).win 5).stage ((cfgM m).slots t 5)
abbrev st0_6 (t : Fin (cfgM m).N) := ((cfgM m).win 6).stage ((cfgM m).slots t 6)
abbrev st0_7 (t : Fin (cfgM m).N) := ((cfgM m).win 7).stage ((cfgM m).slots t 7)
abbrev st0_8 (t : Fin (cfgM m).N) := ((cfgM m).win 8).stage ((cfgM m).slots t 8)
abbrev st0_9 (t : Fin (cfgM m).N) := ((cfgM m).win 9).stage ((cfgM m).slots t 9)
abbrev st0_10 (t : Fin (cfgM m).N) := ((cfgM m).win 10).stage ((cfgM m).slots t 10)

/-- The body at point `t`, on what the pipeline calls it with. -/
abbrev bodyAt0 (t : Fin (cfgM m).N) : Prog (TpuEff nD τ sig (Elt F) Λ₀ .tc) PUnit :=
  cc0_oproj_s (grid0.coords t) (Memref.whole main_arg0) (Memref.isWhole_whole _) (spec0_0.stage ((cfgM m).slots t 0)) (hstage0_0 (((cfgM m).slots t 0).cast nbuf0_0)) (spec0_1.stage ((cfgM m).slots t 1)) (hstage0_1 (((cfgM m).slots t 1).cast nbuf0_1)) (spec0_2.stage ((cfgM m).slots t 2)) (hstage0_2 (((cfgM m).slots t 2).cast nbuf0_2)) (spec0_3.stage ((cfgM m).slots t 3)) (hstage0_3 (((cfgM m).slots t 3).cast nbuf0_3)) (spec0_4.stage ((cfgM m).slots t 4)) (hstage0_4 (((cfgM m).slots t 4).cast nbuf0_4)) (spec0_5.stage ((cfgM m).slots t 5)) (hstage0_5 (((cfgM m).slots t 5).cast nbuf0_5)) (spec0_6.stage ((cfgM m).slots t 6)) (hstage0_6 (((cfgM m).slots t 6).cast nbuf0_6)) (spec0_7.stage ((cfgM m).slots t 7)) (hstage0_7 (((cfgM m).slots t 7).cast nbuf0_7)) (spec0_8.stage ((cfgM m).slots t 8)) (hstage0_8 (((cfgM m).slots t 8).cast nbuf0_8)) (spec0_9.stage ((cfgM m).slots t 9)) (hstage0_9 (((cfgM m).slots t 9).cast nbuf0_9)) (spec0_10.stage ((cfgM m).slots t 10)) (hstage0_10 (((cfgM m).slots t 10).cast nbuf0_10))

abbrev rA : Rect S192x5120 := Rect.unit (s := S192x5120) ![0, 0] S192x5120.size inb_S192x5120_S192x5120_0_0
abbrev rB : Rect S192x1 := Rect.unit (s := S192x1) ![0, 0] S192x1.size inb_S192x1_S192x1_0_0
abbrev rW : Rect S5120x5120 := Rect.unit (s := S5120x5120) ![0, 0] S5120x5120.size inb_S5120x5120_S5120x5120_0_0
abbrev rC : Rect S1x5120 := Rect.unit (s := S1x5120) ![0, 0] S1x5120.size inb_S1x5120_S1x5120_0_0
abbrev r1 (i : grid0.Coords) : Rect S6 := Rect.unit (s := S6) (k0_off1 i) S1.size (k0_off1_inb i)
abbrev r2 (i : grid0.Coords) : Rect S6 := Rect.unit (s := S6) (k0_off3 i) S1.size (k0_off3_inb i)

/-- The action id of the tile's first group. -/
def wd1 (T : Vec F S6 .i32) (i : grid0.Coords) : BitVec 32 := View.ld T (r1 i) (Shape.Idx.first (numel1_S1.symm ▸ Nat.one_pos))
/-- The action id of the group after it (or of the last). -/
def wd2 (T : Vec F S6 .i32) (i : grid0.Coords) : BitVec 32 := View.ld T (r2 i) (Shape.Idx.first (numel1_S1.symm ▸ Nat.one_pos))

/-- The two rows of the action table that the body reads exist. -/
def Ok (T : Vec F S6 .i32) : Prop := ∀ i : grid0.Coords, k0_chk1 (wd1 T i) ∧ k0_chk2 (wd2 T i)

/-- The tile's first row in the whole array. -/
def base (i : grid0.Coords) : BitVec 32 := Scalar.muli (BitVec.ofNat 32 (i 0).val) 192#32

/-- The tile's first group: its first row divided by 920, rounded down. -/
def grp (i : grid0.Coords) : BitVec 32 :=
  let v13 : BitVec 32 := Scalar.muli (BitVec.ofNat 32 (i 0).val) 192#32
  let v14 : BitVec 32 := Scalar.divsi v13 920#32
  let v19 : BitVec 32 := Scalar.subi (Scalar.extui (Scalar.cmpi .sgt v13 0#32)) (Scalar.extui (Scalar.cmpi .slt v13 0#32))
  let v24 : BitVec 32 := Scalar.subi (Scalar.extui (Scalar.cmpi .sgt 920#32 0#32)) (Scalar.extui (Scalar.cmpi .slt 920#32 0#32))
  Scalar.select (Scalar.andi (Scalar.cmpi .ne v19 v24) (Scalar.cmpi .ne (Scalar.remsi v13 920#32) 0#32)) (Scalar.subi v14 1#32) v14

/-- What the body leaves in output window 8's buffer. -/
def out0_8 (x0 : Vec F S192x5120 .fp8e4m3) (x1 : Vec F S192x1 .f32) (x2 : Vec F S5120x5120 .fp8e4m3) (x3 : Vec F S1x5120 .f32) (x4 : Vec F S192x5120 .bf16) : Vec F S192x5120 .f32 :=
  View.canon [⟨rA, k0_pay3 (View.ld x4 rA) (View.ld x0 rA) (View.ld x2 rW) (View.ld x1 rB) (View.ld x3 rC)⟩]

/-- The layer norm's output plus each row's action row. -/
def mid (T : Vec F S6 .i32) (i : grid0.Coords) (h : k0_chk1 (wd1 T i) ∧ k0_chk2 (wd2 T i)) (x0 : Vec F S192x5120 .fp8e4m3) (x1 : Vec F S192x1 .f32) (x2 : Vec F S5120x5120 .fp8e4m3) (x3 : Vec F S1x5120 .f32) (x4 : Vec F S192x5120 .bf16) (x5 : Vec F S1x5120 .f32) (x6 : Vec F S1x5120 .f32) (x7 : Vec F S8x5120 .f32) : FVec F S192x5120 .f32 :=
  k0_pay4 (k0_pay3 (View.ld x4 rA) (View.ld x0 rA) (View.ld x2 rW) (View.ld x1 rB) (View.ld x3 rC)) (grp i) (base i)
    (View.ld x7 (Rect.unit (s := S8x5120) (k0_off2 (wd1 T i)) S1x5120.size (k0_off2_inb (wd1 T i) h.1)))
    (View.ld x7 (Rect.unit (s := S8x5120) (k0_off4 (wd2 T i)) S1x5120.size (k0_off4_inb (wd2 T i) h.2)))
    (View.ld x5 rC) (View.ld x6 rC)

/-- What the body leaves in output window 9's buffer. -/
def out0_9 (T : Vec F S6 .i32) (i : grid0.Coords) (h : k0_chk1 (wd1 T i) ∧ k0_chk2 (wd2 T i)) (x0 : Vec F S192x5120 .fp8e4m3) (x1 : Vec F S192x1 .f32) (x2 : Vec F S5120x5120 .fp8e4m3) (x3 : Vec F S1x5120 .f32) (x4 : Vec F S192x5120 .bf16) (x5 : Vec F S1x5120 .f32) (x6 : Vec F S1x5120 .f32) (x7 : Vec F S8x5120 .f32) : Vec F S192x5120 .fp8e4m3 :=
  View.canon [⟨rA, k0_pay2 (mid T i h x0 x1 x2 x3 x4 x5 x6 x7)⟩]

/-- What the body leaves in output window 10's buffer. -/
def out0_10 (T : Vec F S6 .i32) (i : grid0.Coords) (h : k0_chk1 (wd1 T i) ∧ k0_chk2 (wd2 T i)) (x0 : Vec F S192x5120 .fp8e4m3) (x1 : Vec F S192x1 .f32) (x2 : Vec F S5120x5120 .fp8e4m3) (x3 : Vec F S1x5120 .f32) (x4 : Vec F S192x5120 .bf16) (x5 : Vec F S1x5120 .f32) (x6 : Vec F S1x5120 .f32) (x7 : Vec F S8x5120 .f32) : Vec F S192x1 .f32 :=
  View.canon [⟨rB, k0_pay1 (mid T i h x0 x1 x2 x3 x4 x5 x6 x7)⟩]

/-- The one store of window 8 covers its buffer. -/
theorem cover0_8 (p0 : Vec F S192x5120 .f32) (y : S192x5120.Idx) :
    ∃ pc ∈ ([⟨rA, p0⟩] : List (View.Piece (Elt F) S192x5120 .f32)), y ∈ pc.1.set :=
  View.cover_of_tiled [⟨rA, p0⟩] S192x5120.size (by rfl) y

/-- The one store of window 9 covers its buffer. -/
theorem cover0_9 (p0 : Vec F S192x5120 .fp8e4m3) (y : S192x5120.Idx) :
    ∃ pc ∈ ([⟨rA, p0⟩] : List (View.Piece (Elt F) S192x5120 .fp8e4m3)), y ∈ pc.1.set :=
  View.cover_of_tiled [⟨rA, p0⟩] S192x5120.size (by rfl) y

/-- The one store of window 10 covers its buffer. -/
theorem cover0_10 (p0 : Vec F S192x1 .f32) (y : S192x1.Idx) :
    ∃ pc ∈ ([⟨rB, p0⟩] : List (View.Piece (Elt F) S192x1 .f32)), y ∈ pc.1.set :=
  View.cover_of_tiled [⟨rB, p0⟩] S192x1.size (by rfl) y

set_option maxHeartbeats 1000000 in
/-- The body on whole staging buffers and the table: the inputs and the table stay, each output ends at `out0_W` of them. -/
theorem sound_kernel (c : Dev nD) (E : Set ℕ) (i : grid0.Coords) (arg1 : Memref sig .tc .smem S6 .i32) (harg1 : arg1.IsWhole) (arg2 : Memref sig .tc .vmem S192x5120 .fp8e4m3) (harg2 : arg2.IsWhole) (arg3 : Memref sig .tc .vmem S192x1 .f32) (harg3 : arg3.IsWhole) (arg4 : Memref sig .tc .vmem S5120x5120 .fp8e4m3) (harg4 : arg4.IsWhole) (arg5 : Memref sig .tc .vmem S1x5120 .f32) (harg5 : arg5.IsWhole) (arg6 : Memref sig .tc .vmem S192x5120 .bf16) (harg6 : arg6.IsWhole) (arg7 : Memref sig .tc .vmem S1x5120 .f32) (harg7 : arg7.IsWhole) (arg8 : Memref sig .tc .vmem S1x5120 .f32) (harg8 : arg8.IsWhole) (arg9 : Memref sig .tc .vmem S8x5120 .f32) (harg9 : arg9.IsWhole) (arg10 : Memref sig .tc .vmem S192x5120 .f32) (harg10 : arg10.IsWhole) (arg11 : Memref sig .tc .vmem S192x5120 .fp8e4m3) (harg11 : arg11.IsWhole) (arg12 : Memref sig .tc .vmem S192x1 .f32) (harg12 : arg12.IsWhole)
    (T : Vec F S6 .i32) (h : k0_chk1 (wd1 T i) ∧ k0_chk2 (wd2 T i)) (x0 : Vec F S192x5120 .fp8e4m3) (x1 : Vec F S192x1 .f32) (x2 : Vec F S5120x5120 .fp8e4m3) (x3 : Vec F S1x5120 .f32) (x4 : Vec F S192x5120 .bf16) (x5 : Vec F S1x5120 .f32) (x6 : Vec F S1x5120 .f32) (x7 : Vec F S8x5120 .f32) (K : PUnit → sProp 𝕄) :
    iprop(owns (c : Thread nD τ) arg1 fullShare.right T ∗ owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare.right T ∗ owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (out0_8 x0 x1 x2 x3 x4) ∗ owns (c : Thread nD τ) arg11 fullShare (out0_9 T i h x0 x1 x2 x3 x4 x5 x6 x7) ∗ owns (c : Thread nD τ) arg12 fullShare (out0_10 T i h x0 x1 x2 x3 x4 x5 x6 x7)) -∗ K ⟨⟩))
      ⊢ wp frame (wpE (defs₀ (F := F)) Variants.none c none) E (cc0_oproj_s i arg1 harg1 arg2 harg2 arg3 harg3 arg4 harg4 arg5 harg5 arg6 harg6 arg7 harg7 arg8 harg8 arg9 harg9 arg10 harg10 arg11 harg11 arg12 harg12) K := by
  simp only [cc0_oproj_s_eq_skeleton]; unfold cc0_oproj_s_skel
  simp only [k0_part1_eq_skeleton, k0_part2_eq_skeleton]
  unfold owns
  iintro ⟨⟨%ft, %hft, HT⟩, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hft hf0 hf1 hf2 hf3 hf4 hf5 hf6 hf7
  have h1 : k0_chk1 (View.readAt (Elt F) arg1.view (r1 i).toLoadRect ft (Shape.Idx.first (numel1_S1.symm ▸ Nat.one_pos))) := h.1
  have h2 : k0_chk2 (View.readAt (Elt F) arg1.view (r2 i).toLoadRect ft (Shape.Idx.first (numel1_S1.symm ▸ Nat.one_pos))) := h.2
  sl_exec
  sl_step
  iapply Hk
  isplitl [HT]
  · iexists ft; isplitr; · ipureintro; rfl
    iexact HT
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover0_8 _)
  isplitl [H9]
  · iexists _; isplitr
    swap; · iexact H9
    ipureintro
    exact View.read_writes_eq_canon _ _ _ (cover0_9 _)
  iexists _; isplitr
  swap; · iexact H10
  ipureintro
  exact View.read_writes_eq_canon _ _ _ (cover0_10 _)

/-- Input window 0's buffer with zeros past the end of the array. -/
def X0 (c : Dev nD) (t : Fin (cfgM m).N) : Vec F S192x5120 .fp8e4m3 :=
  ((cfgM m).win 0).fill ((cfgM m).grid.coords t) (fun _ => Scalar.ofBits .fp8e4m3 0) (iblk m c 0 t)

/-- Input window 1's buffer with zeros past the end of the array. -/
def X1 (c : Dev nD) (t : Fin (cfgM m).N) : Vec F S192x1 .f32 :=
  ((cfgM m).win 1).fill ((cfgM m).grid.coords t) (fun _ => Scalar.ofBits .f32 0) (iblk m c 1 t)

/-- Input window 4's buffer with zeros past the end of the array. -/
def X4 (c : Dev nD) (t : Fin (cfgM m).N) : Vec F S192x5120 .bf16 :=
  ((cfgM m).win 4).fill ((cfgM m).grid.coords t) (fun _ => Scalar.ofBits .bf16 0) (iblk m c 4 t)

/-- The proof data of the call: the arrays as launched; after the body each input's buffer as fetched and each output's computed
    from them, stated on the rows inside the arrays; the table held to one half by the body. -/
def dats (hok : Ok (F := F) (T0 m)) (_ : Fin 1) (c : Dev nD) : Dat τ (Elt F) Unit ℕ (UR sig nD τ) ℕ (cfgM m) c where
  A w := V m c (Pipeline.arrRef spec0 w)
  after w t := match w with
    | ⟨0, _⟩ => X0 m c t
    | ⟨1, _⟩ => X1 m c t
    | ⟨2, _⟩ => iblk m c 2 t
    | ⟨3, _⟩ => iblk m c 3 t
    | ⟨4, _⟩ => X4 m c t
    | ⟨5, _⟩ => iblk m c 5 t
    | ⟨6, _⟩ => iblk m c 6 t
    | ⟨7, _⟩ => iblk m c 7 t
    | ⟨8, _⟩ => out0_8 (X0 m c t) (X1 m c t) (iblk m c 2 t) (iblk m c 3 t) (X4 m c t)
    | ⟨9, _⟩ => out0_9 (T0 m) (grid0.coords t) (hok _) (X0 m c t) (X1 m c t) (iblk m c 2 t) (iblk m c 3 t) (X4 m c t) (iblk m c 5 t) (iblk m c 6 t) (iblk m c 7 t)
    | ⟨10, _⟩ => out0_10 (T0 m) (grid0.coords t) (hok _) (X0 m c t) (X1 m c t) (iblk m c 2 t) (iblk m c 3 t) (X4 m c t) (iblk m c 5 t) (iblk m c 6 t) (iblk m c 7 t)
  Φ _ := iprop(Pipeline.ΦA spec0 c ∗ Pipeline.ΦT pre0 (tbl m) c)
  q _ := fullShare
  owed _ := 0

variable (hok : Ok (F := F) (T0 m))

/-- The arrays of the proof data are the launched ones. -/
theorem A_eq (c : Dev nD) (w : Fin (cfgM m).W) : (dats m hok 0 c).A w = V m c (Pipeline.arrRef spec0 w) := by
  dsimp only [dats]

theorem after0_0 (c : Dev nD) (t : Fin (cfgM m).N) : (dats m hok 0 c).after 0 t = X0 m c t := by dsimp only [dats]; rfl
theorem after0_1 (c : Dev nD) (t : Fin (cfgM m).N) : (dats m hok 0 c).after 1 t = X1 m c t := by dsimp only [dats]; rfl
theorem after0_2 (c : Dev nD) (t : Fin (cfgM m).N) : (dats m hok 0 c).after 2 t = iblk m c 2 t := by dsimp only [dats]; rfl
theorem after0_3 (c : Dev nD) (t : Fin (cfgM m).N) : (dats m hok 0 c).after 3 t = iblk m c 3 t := by dsimp only [dats]; rfl
theorem after0_4 (c : Dev nD) (t : Fin (cfgM m).N) : (dats m hok 0 c).after 4 t = X4 m c t := by dsimp only [dats]; rfl
theorem after0_5 (c : Dev nD) (t : Fin (cfgM m).N) : (dats m hok 0 c).after 5 t = iblk m c 5 t := by dsimp only [dats]; rfl
theorem after0_6 (c : Dev nD) (t : Fin (cfgM m).N) : (dats m hok 0 c).after 6 t = iblk m c 6 t := by dsimp only [dats]; rfl
theorem after0_7 (c : Dev nD) (t : Fin (cfgM m).N) : (dats m hok 0 c).after 7 t = iblk m c 7 t := by dsimp only [dats]; rfl
theorem after0_8 (c : Dev nD) (t : Fin (cfgM m).N) : (dats m hok 0 c).after 8 t = out0_8 (X0 m c t) (X1 m c t) (iblk m c 2 t) (iblk m c 3 t) (X4 m c t) := by dsimp only [dats]; rfl
theorem after0_9 (c : Dev nD) (t : Fin (cfgM m).N) : (dats m hok 0 c).after 9 t = out0_9 (T0 m) (grid0.coords t) (hok _) (X0 m c t) (X1 m c t) (iblk m c 2 t) (iblk m c 3 t) (X4 m c t) (iblk m c 5 t) (iblk m c 6 t) (iblk m c 7 t) := by dsimp only [dats]; rfl
theorem after0_10 (c : Dev nD) (t : Fin (cfgM m).N) : (dats m hok 0 c).after 10 t = out0_10 (T0 m) (grid0.coords t) (hok _) (X0 m c t) (X1 m c t) (iblk m c 2 t) (iblk m c 3 t) (X4 m c t) (iblk m c 5 t) (iblk m c 6 t) (iblk m c 7 t) := by dsimp only [dats]; rfl

/-- Clipped input window 0 is fetched at every point: its block, anything past the array's end. -/
theorem before0_0 (c : Dev nD) (t : Fin (cfgM m).N) (d) : (dats m hok 0 c).before 0 t d = ((cfgM m).win 0).fill ((cfgM m).grid.coords t) d (iblk m c 0 t) := by
  rw [Dat.before_fetched _ 0 t (fetch0_0 m t)]; unfold Dat.fetched Dat.blockOf iblk; rw [A_eq]; try rfl
/-- Clipped input window 1 is fetched at every point: its block, anything past the array's end. -/
theorem before0_1 (c : Dev nD) (t : Fin (cfgM m).N) (d) : (dats m hok 0 c).before 1 t d = ((cfgM m).win 1).fill ((cfgM m).grid.coords t) d (iblk m c 1 t) := by
  rw [Dat.before_fetched _ 1 t (fetch0_1 m t)]; unfold Dat.fetched Dat.blockOf iblk; rw [A_eq]; try rfl
/-- Input window 2's buffer holds its block at every point. -/
theorem before0_2 (c : Dev nD) (t : Fin (cfgM m).N) (d) : (dats m hok 0 c).before 2 t d = iblk m c 2 t :=
  ((dats m hok 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
/-- Input window 3's buffer holds its block at every point. -/
theorem before0_3 (c : Dev nD) (t : Fin (cfgM m).N) (d) : (dats m hok 0 c).before 3 t d = iblk m c 3 t :=
  ((dats m hok 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
/-- Clipped input window 4 is fetched at every point: its block, anything past the array's end. -/
theorem before0_4 (c : Dev nD) (t : Fin (cfgM m).N) (d) : (dats m hok 0 c).before 4 t d = ((cfgM m).win 4).fill ((cfgM m).grid.coords t) d (iblk m c 4 t) := by
  rw [Dat.before_fetched _ 4 t (fetch0_4 m t)]; unfold Dat.fetched Dat.blockOf iblk; rw [A_eq]; try rfl
/-- Input window 5's buffer holds its block at every point. -/
theorem before0_5 (c : Dev nD) (t : Fin (cfgM m).N) (d) : (dats m hok 0 c).before 5 t d = iblk m c 5 t :=
  ((dats m hok 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
/-- Input window 6's buffer holds its block at every point. -/
theorem before0_6 (c : Dev nD) (t : Fin (cfgM m).N) (d) : (dats m hok 0 c).before 6 t d = iblk m c 6 t :=
  ((dats m hok 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
/-- Input window 7's buffer holds its block at every point. -/
theorem before0_7 (c : Dev nD) (t : Fin (cfgM m).N) (d) : (dats m hok 0 c).before 7 t d = iblk m c 7 t :=
  ((dats m hok 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)

/-- The body's half of the table, as the body reads it. -/
theorem table_eq (c : Dev nD) : (Pipeline.ΦT pre0 (tbl m) c : sProp 𝕄) = owns (c : Thread nD τ) (Memref.whole main_arg0) fullShare.right (T0 m) := by
  show _ = owns (c : Thread nD τ) (Memref.whole main_arg0) fullShare.right (T0 m)
  refine Eq.trans ?_ (owns_whole (c : Thread nD τ) main_arg0 fullShare.right (T0 m)).symm
  unfold Pipeline.ΦT Pipeline.prefHeld
  rw [show (Finset.univ : Finset (Fin 1)) = {(0 : Fin 1)} from by decide, bigSep_singleton]
  rfl

/-- The body at any point. -/
theorem sound_body_any (c : Dev nD) (t : Fin (cfgM m).N) :
    iprop((dats m hok 0 c).Φ t.castSucc
    ∗ (dats m hok 0 c).owesAt () t.castSucc
    ∗ (∃ d, owns (c : Thread nD τ) (st0_0 m t) fullShare ((dats m hok 0 c).before 0 t d))
    ∗ (∃ d, owns (c : Thread nD τ) (st0_1 m t) fullShare ((dats m hok 0 c).before 1 t d))
    ∗ (∃ d, owns (c : Thread nD τ) (st0_2 m t) fullShare ((dats m hok 0 c).before 2 t d))
    ∗ (∃ d, owns (c : Thread nD τ) (st0_3 m t) fullShare ((dats m hok 0 c).before 3 t d))
    ∗ (∃ d, owns (c : Thread nD τ) (st0_4 m t) fullShare ((dats m hok 0 c).before 4 t d))
    ∗ (∃ d, owns (c : Thread nD τ) (st0_5 m t) fullShare ((dats m hok 0 c).before 5 t d))
    ∗ (∃ d, owns (c : Thread nD τ) (st0_6 m t) fullShare ((dats m hok 0 c).before 6 t d))
    ∗ (∃ d, owns (c : Thread nD τ) (st0_7 m t) fullShare ((dats m hok 0 c).before 7 t d))
    ∗ (∃ X, owns (c : Thread nD τ) (st0_8 m t) fullShare X)
    ∗ (∃ X, owns (c : Thread nD τ) (st0_9 m t) fullShare X)
    ∗ (∃ X, owns (c : Thread nD τ) (st0_10 m t) fullShare X))
    ⊢ wp frame (wpE (defs₀ (F := F)) Variants.none c none) Set.univ (bodyAt0 m t) (fun _ =>
    iprop((dats m hok 0 c).Φ t.succ
    ∗ (dats m hok 0 c).owesAt () t.succ
    ∗ (∃ d, owns (c : Thread nD τ) (st0_0 m t) fullShare (((cfgM m).win 0).fill ((cfgM m).grid.coords t) d (((cfgM m).win 0).cut ((cfgM m).grid.coords t) ((dats m hok 0 c).after 0 t))))
    ∗ (∃ d, owns (c : Thread nD τ) (st0_1 m t) fullShare (((cfgM m).win 1).fill ((cfgM m).grid.coords t) d (((cfgM m).win 1).cut ((cfgM m).grid.coords t) ((dats m hok 0 c).after 1 t))))
    ∗ owns (c : Thread nD τ) (st0_2 m t) fullShare ((dats m hok 0 c).after 2 t)
    ∗ owns (c : Thread nD τ) (st0_3 m t) fullShare ((dats m hok 0 c).after 3 t)
    ∗ (∃ d, owns (c : Thread nD τ) (st0_4 m t) fullShare (((cfgM m).win 4).fill ((cfgM m).grid.coords t) d (((cfgM m).win 4).cut ((cfgM m).grid.coords t) ((dats m hok 0 c).after 4 t))))
    ∗ owns (c : Thread nD τ) (st0_5 m t) fullShare ((dats m hok 0 c).after 5 t)
    ∗ owns (c : Thread nD τ) (st0_6 m t) fullShare ((dats m hok 0 c).after 6 t)
    ∗ owns (c : Thread nD τ) (st0_7 m t) fullShare ((dats m hok 0 c).after 7 t)
    ∗ (∃ X, owns (c : Thread nD τ) (st0_8 m t) fullShare X)
    ∗ (∃ X, owns (c : Thread nD τ) (st0_9 m t) fullShare X)
    ∗ (∃ X, owns (c : Thread nD τ) (st0_10 m t) fullShare X))) := by
  unfold bodyAt0
  simp only [before0_0, before0_1, before0_2, before0_3, before0_4, before0_5, before0_6, before0_7]
  rw [show (dats m hok 0 c).Φ t.succ = iprop(Pipeline.ΦA spec0 c ∗ Pipeline.ΦT pre0 (tbl m) c) from rfl,
    show (dats m hok 0 c).Φ t.castSucc = iprop(Pipeline.ΦA spec0 c ∗ Pipeline.ΦT pre0 (tbl m) c) from rfl,
    show (dats m hok 0 c).owesAt () t.succ = (dats m hok 0 c).owesAt () t.castSucc from rfl,
    after0_0, after0_1, after0_2, after0_3, after0_4, after0_5, after0_6, after0_7, table_eq]
  iintro ⟨⟨HΦ, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ _ _ (T0 m) (hok _) (((cfgM m).win 0).fill ((cfgM m).grid.coords t) d0 (iblk m c 0 t)) (((cfgM m).win 1).fill ((cfgM m).grid.coords t) d1 (iblk m c 1 t)) (iblk m c 2 t) (iblk m c 3 t) (((cfgM m).win 4).fill ((cfgM m).grid.coords t) d4 (iblk m c 4 t)) (iblk m c 5 t) (iblk m c 6 t) (iblk m c 7 t) _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨HT, H0, H1, H2, H3, H4, H5, H6, H7, H8, H9, H10⟩
  isplitl [HΦ HT]
  · isplitl [HΦ]; · iexact HΦ
    iexact HT
  isplitl [Ho]; · iexact Ho
  isplitl [H0]; · iexists d0; rw [show ((cfgM m).win 0).cut ((cfgM m).grid.coords t) (X0 m c t) = iblk m c 0 t from ((cfgM m).win 0).cut_fill _ _ _]; iexact H0
  isplitl [H1]; · iexists d1; rw [show ((cfgM m).win 1).cut ((cfgM m).grid.coords t) (X1 m c t) = iblk m c 1 t from ((cfgM m).win 1).cut_fill _ _ _]; iexact H1
  isplitl [H2]; · iexact H2
  isplitl [H3]; · iexact H3
  isplitl [H4]; · iexists d4; rw [show ((cfgM m).win 4).cut ((cfgM m).grid.coords t) (X4 m c t) = iblk m c 4 t from ((cfgM m).win 4).cut_fill _ _ _]; iexact H4
  isplitl [H5]; · iexact H5
  isplitl [H6]; · iexact H6
  isplitl [H7]; · iexact H7
  isplitl [H8]; · iexists _; iexact H8
  isplitl [H9]; · iexists _; iexact H9
  iexists _; iexact H10

/-- The body table's row is the body. -/
theorem defs₀_row (t : Fin (cfgM m).N) :
    defs₀ (F := F) .tc (cfgM m).body ((cfgM m).bodyArgs t ((cfgM m).slots t)) = bodyAt0 m t := by
  unfold defs₀; rw [Defs.onTc_tc]

/-- The outputs, of which nothing is said when only the arguments matter. -/
def fgt : Fin (cfgM m).W → Bool := fun | 8 => true | 9 => true | 10 => true | _ => false

/-- The body obligation with the outputs left open. -/
theorem obligation_any (c : Dev nD) : BodyObligationLoose (dats (F := F) m hok 0 c) (defs₀ (F := F)) Variants.none () Set.univ (fgt m) := fun t => by
  rw [bigSep_W0, bigSep_W0, defs₀_row]
  exact triple_restated (sound_body_any m hok c t) rfl .rfl fun _ => .rfl

set_option backward.isDefEq.respectTransparency.types false in
set_option maxHeartbeats 800000 in
/-- The run with the outputs left open. -/
theorem run_any : θ_run defs (onTc (τ := τ) (main (F := F))) (s₀ m ρ)
    (fun r => Pipeline.RDat.FramePost (cfgM m) (fun c => (dats m hok 0 c).toRForget (fgt m)) (V m) r ∧ r.2.sem = fun _ => 0) :=
  Pipeline.θ_run_frameP_forget (Q' := _) pcfgs (fun _ => adm m) (dats m hok) (0 : Fin 1) launch0 defs₀ Variants.none (fgt m) m ρ main
    (hbody := obligation_any m hok) (hshare := fun c => (dats m hok 0 c).share_full fun _ => rfl)
    (howed := fun _ _ => rfl) (V := V m) (hmain := hmain m Variants.none) (hA := A_eq m hok) (hpf := V_pre m) (hΦ := fun _ _ => rfl)

include hok in
/-- The call runs to its end and leaves its arguments as they were. -/
theorem frame_of_ok : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => ⟨(h.1 c).2 main_arg0 (show main_arg0 ∈ Pipeline.restRefs sig spec0 by decide), h.1.arr_in c 0 rfl, h.1.arr_in c 1 rfl, h.1.arr_in c 2 rfl, h.1.arr_in c 3 rfl, h.1.arr_in c 4 rfl, h.1.arr_in c 5 rfl, h.1.arr_in c 6 rfl, h.1.arr_in c 7 rfl⟩, h.2⟩) (run_any m ρ hok)

end Cert.OprojSIdeal.Body

end
-- ==== Proof.OprojSIds.lean ====
/- The output projection of the spatial attention: the precondition read as bounds on the action ids, and the frames under it. -/
module

public import proofs.«01_k».proof.Proof.OprojSBody
public import proofs.«01_k».proof.Proof.OprojSIdealBody
public import proofs.«01_k».proof.Proof.Gen.Pre_ids_ok
public import proofs.«01_k».proof.Defs
public import Idealize.ShloMosaic.Lib.WordCmp
public import Idealize.ShloMosaic.Lib.Claim

@[expose] public section

set_option maxRecDepth 16384

noncomputable section

namespace Cert.OprojS.Body

open Cert.OprojS Cert.OprojS.Gen Idealize.ShloMosaic Idealize.ShloMosaic.TcCoe Idealize.SL.Sem
open Idealize.ShloMosaic.WordCmp

/-- The words below eight name rows of the action table. -/
theorem chk_small : ∀ n : Fin 8, k0_chk1 (BitVec.ofNat 32 n.val) ∧ k0_chk2 (BitVec.ofNat 32 n.val)
    ∧ k0_off2 (BitVec.ofNat 32 n.val) = ![n.val, 0] ∧ k0_off4 (BitVec.ofNat 32 n.val) = ![n.val, 0] := by decide

/-- A word below eight is the word of its value. -/
theorem word_eq (v : BitVec 32) (h : v.toNat < 8) : BitVec.ofNat 32 (⟨v.toNat, h⟩ : Fin 8).val = v := BitVec.eq_of_toNat_eq (by simp)

/-- Where every id is below eight the rows that the body reads exist. -/
theorem ok_of_lt {F : FTy → Type} [FloatOps F] (T : Vec F S6 .i32) (hT : ∀ x, (T x : BitVec 32).toNat < 8) : Ok (F := F) T := fun i => by
  have h1 : (wd1 T i).toNat < 8 := hT _
  have h2 : (wd2 T i).toNat < 8 := hT _
  have e1 := (chk_small ⟨_, h1⟩).1
  have e2 := (chk_small ⟨_, h2⟩).2.1
  rw [word_eq _ h1] at e1
  rw [word_eq _ h2] at e2
  exact ⟨e1, e2⟩

/-- The precondition says that every id is below eight. -/
theorem ids_lt (m : (ℓ : Loc nD τ sig) → Buf (Elt Bits) ℓ) (h : Cert.Pre_OprojS m) (x : S6.Idx) : (T0 (F := Bits) m x : BitVec 32).toNat < 8 := by
  have e := congrFun (h 0) x
  have e' : IntOp.andi (IntOp.cmpi .sge (T0 (F := Bits) m x : BitVec 32) (BitVec.ofNat 32 0)) (IntOp.cmpi .slt (T0 (F := Bits) m x : BitVec 32) (BitVec.ofNat 32 8)) = 1#1 := e
  rw [andi_sge_zero_slt_ofNat (by decide)] at e'
  exact (ofBool_decide_eq_one_iff _).mp e'

/-- So under the precondition the rows exist. -/
theorem ok_of_pre (m : (ℓ : Loc nD τ sig) → Buf (Elt Bits) ℓ) (h : Cert.Pre_OprojS m) : Ok (F := Bits) (T0 m) := ok_of_lt _ (ids_lt m h)

/-- Under the precondition the call runs to its end and leaves its arguments as they were. -/
theorem frame : Cert.quiescent_OprojS := fun m ρ h => frame_of_ok m ρ (ok_of_pre m h)

end Cert.OprojS.Body

namespace Cert.OprojSIdeal.Body

open Cert.OprojSIdeal Cert.OprojSIdeal.Gen Idealize.ShloMosaic Idealize.ShloMosaic.TcCoe Idealize.SL.Sem
open Idealize.ShloMosaic.WordCmp

/-- The words below eight name rows of the action table. -/
theorem chk_small : ∀ n : Fin 8, k0_chk1 (BitVec.ofNat 32 n.val) ∧ k0_chk2 (BitVec.ofNat 32 n.val)
    ∧ k0_off2 (BitVec.ofNat 32 n.val) = ![n.val, 0] ∧ k0_off4 (BitVec.ofNat 32 n.val) = ![n.val, 0] := by decide

/-- A word below eight is the word of its value. -/
theorem word_eq (v : BitVec 32) (h : v.toNat < 8) : BitVec.ofNat 32 (⟨v.toNat, h⟩ : Fin 8).val = v := BitVec.eq_of_toNat_eq (by simp)

/-- Where every id is below eight the rows that the body reads exist. -/
theorem ok_of_lt {F : FTy → Type} [FloatOps F] (T : Vec F S6 .i32) (hT : ∀ x, (T x : BitVec 32).toNat < 8) : Ok (F := F) T := fun i => by
  have h1 : (wd1 T i).toNat < 8 := hT _
  have h2 : (wd2 T i).toNat < 8 := hT _
  have e1 := (chk_small ⟨_, h1⟩).1
  have e2 := (chk_small ⟨_, h2⟩).2.1
  rw [word_eq _ h1] at e1
  rw [word_eq _ h2] at e2
  exact ⟨e1, e2⟩

/-- The precondition says that every id is below eight. -/
theorem ids_lt (m : (ℓ : Loc nD τ sig) → Buf (Elt Ideal) ℓ) (h : Cert.Pre_OprojSIdeal m) (x : S6.Idx) : (T0 (F := Ideal) m x : BitVec 32).toNat < 8 := by
  have e := congrFun (h 0) x
  have e' : IntOp.andi (IntOp.cmpi .sge (T0 (F := Ideal) m x : BitVec 32) (BitVec.ofNat 32 0)) (IntOp.cmpi .slt (T0 (F := Ideal) m x : BitVec 32) (BitVec.ofNat 32 8)) = 1#1 := e
  rw [andi_sge_zero_slt_ofNat (by decide)] at e'
  exact (ofBool_decide_eq_one_iff _).mp e'

/-- So under the precondition the rows exist. -/
theorem ok_of_pre (m : (ℓ : Loc nD τ sig) → Buf (Elt Ideal) ℓ) (h : Cert.Pre_OprojSIdeal m) : Ok (F := Ideal) (T0 m) := ok_of_lt _ (ids_lt m h)

/-- Under the precondition the call runs to its end and leaves its arguments as they were. -/
theorem frame : Cert.quiescent_OprojSIdeal := fun m ρ h => frame_of_ok m ρ (ok_of_pre m h)

end Cert.OprojSIdeal.Body

end
-- ==== Proof.OprojSTable.lean ====
/- The output projection of the spatial attention: the row of the action table that each row of the result takes, in the tiled
   kernel and in the reference. -/
module

public import proofs.«01_k».proof.Proof.OprojSIds
public import proofs.«01_k».proof.Proof.Gen.RefOprojSIdeal.Value
public import Idealize.ShloMosaic.Lib.Routing.Ops
public import Idealize.ShloMosaic.Lib.ValueIdxCore
public import Idealize.ShloMosaic.Lib.Pipeline.Value
public import Idealize.ShloMosaic.Lib.StableHlo.Run
public import Idealize.ShloMosaic.Lib.WordCmp
public import Idealize.ShloMosaic.Lib.Tactic

@[expose] public section

set_option maxRecDepth 16384

noncomputable section

namespace Cert.OprojSIdeal.Table

open Cert.OprojSIdeal Cert.OprojSIdeal.Gen Cert.OprojSIdeal.Body Idealize.ShloMosaic Idealize.ShloMosaic.TcCoe Idealize.SL.Sem
open Idealize.ShloMosaic.WordCmp Idealize.ShloMosaic.ValueIdx

/-- The words that the body computes from the tile's number, at every grid point. -/
theorem words : ∀ t : Fin grid0.N, k0_off1 (grid0.coords t) = ![t.val * 192 / 920] ∧ k0_off3 (grid0.coords t) = ![min (t.val * 192 / 920 + 1) 5]
    ∧ grp (grid0.coords t) = BitVec.ofNat 32 (t.val * 192 / 920) ∧ base (grid0.coords t) = BitVec.ofNat 32 (t.val * 192) := by
  decide +kernel

/-- There are twenty-nine tiles. -/
theorem lt29 : ∀ t : Fin grid0.N, t.val < 29 := by decide +kernel

variable (T : Vec Ideal S6 .i32) (hT : ∀ x, (T x : BitVec 32).toNat < 8)

/-- The group of a row of the whole array. -/
def gid (i : Fin 5520) : Fin 6 := ⟨i.val / 920, by omega⟩

/-- The action row of a row of the whole array. -/
def sel (hT : ∀ x, (T x : BitVec 32).toNat < 8) (i : Fin 5520) : Fin 8 := ⟨(T (ix1 (gid i)) : BitVec 32).toNat, hT _⟩

/-- Two equal words name the same action row. -/
theorem sel_eq (i : Fin 5520) (v : BitVec 32) (h : v.toNat < 8) (e : v = T (ix1 (gid i))) : (⟨v.toNat, h⟩ : Fin 8) = sel T hT i := by
  subst e; rfl

/-- The first id that a tile reads. -/
theorem wd1_eq (t : Fin grid0.N) (q : Fin 6) (hq : q.val = t.val * 192 / 920) : wd1 T (grid0.coords t) = T (ix1 q) := by
  refine congrArg T (funext fun a => Fin.ext ?_)
  match a with
  | ⟨0, _⟩ =>
    show k0_off1 (grid0.coords t) 0 + 1 * 0 = q.val
    rw [(words t).1, hq]
    rfl

/-- The second id that a tile reads. -/
theorem wd2_eq (t : Fin grid0.N) (q : Fin 6) (hq : q.val = min (t.val * 192 / 920 + 1) 5) : wd2 T (grid0.coords t) = T (ix1 q) := by
  refine congrArg T (funext fun a => Fin.ext ?_)
  match a with
  | ⟨0, _⟩ =>
    show k0_off3 (grid0.coords t) 0 + 1 * 0 = q.val
    rw [(words t).2.1, hq]
    rfl

/-- The choice between the two ids, in numbers. -/
theorem cond_iff (t : Fin grid0.N) (r : Fin 192) :
    Scalar.cmpi .slt (base (grid0.coords t) + BitVec.ofNat 32 r.val) ((grp (grid0.coords t) + 1#32) * 920#32) = 1#1
      ↔ t.val * 192 + r.val < (t.val * 192 / 920 + 1) * 920 := by
  have h29 := lt29 t
  rw [(words t).2.2.1, (words t).2.2.2, show (1#32 : BitVec 32) = BitVec.ofNat 32 1 from rfl, show (920#32 : BitVec 32) = BitVec.ofNat 32 920 from rfl,
    ← BitVec.ofNat_add, ← BitVec.ofNat_add, ← BitVec.ofNat_mul, scalar_cmpi_eq]
  exact cmpi_slt_ofNat_eq_one_iff (by omega) (by omega)

/-- A row of the action table read at a small word. -/
theorem ld_row1 (x7 : Vec Ideal S8x5120 .f32) (v : BitVec 32) (hv : k0_chk1 v) (h : v.toNat < 8) (k : Fin 5120) :
    View.ld x7 (Rect.unit (s := S8x5120) (k0_off2 v) S1x5120.size (k0_off2_inb v hv)) (ix2 (0 : Fin 1) k) = x7 (ix2 ⟨v.toNat, h⟩ k) := by
  have e := (chk_small ⟨_, h⟩).2.2.1
  rw [word_eq _ h] at e
  refine congrArg x7 (funext fun a => Fin.ext ?_)
  match a with
  | ⟨0, _⟩ =>
    show k0_off2 v 0 + 1 * 0 = v.toNat
    rw [e]
    rfl
  | ⟨1, _⟩ =>
    show k0_off2 v 1 + 1 * k.val = k.val
    rw [e]
    show 0 + 1 * k.val = k.val
    omega

/-- The same for the second word. -/
theorem ld_row2 (x7 : Vec Ideal S8x5120 .f32) (v : BitVec 32) (hv : k0_chk2 v) (h : v.toNat < 8) (k : Fin 5120) :
    View.ld x7 (Rect.unit (s := S8x5120) (k0_off4 v) S1x5120.size (k0_off4_inb v hv)) (ix2 (0 : Fin 1) k) = x7 (ix2 ⟨v.toNat, h⟩ k) := by
  have e := (chk_small ⟨_, h⟩).2.2.2
  rw [word_eq _ h] at e
  refine congrArg x7 (funext fun a => Fin.ext ?_)
  match a with
  | ⟨0, _⟩ =>
    show k0_off4 v 0 + 1 * 0 = v.toNat
    rw [e]
    rfl
  | ⟨1, _⟩ =>
    show k0_off4 v 1 + 1 * k.val = k.val
    rw [e]
    show 0 + 1 * k.val = k.val
    omega

/-- The row of the action table that the kernel adds to a row inside the array is the one of the row's group. -/
theorem act_at (x7 : Vec Ideal S8x5120 .f32) (t : Fin grid0.N) (h : k0_chk1 (wd1 T (grid0.coords t)) ∧ k0_chk2 (wd2 T (grid0.coords t)))
    (r : Fin 192) (i : Fin 5520) (hi : i.val = t.val * 192 + r.val) (k : Fin 5120) :
    (if Scalar.cmpi .slt (base (grid0.coords t) + BitVec.ofNat 32 r.val) ((grp (grid0.coords t) + 1#32) * 920#32) = 1#1
      then View.ld x7 (Rect.unit (s := S8x5120) (k0_off2 (wd1 T (grid0.coords t))) S1x5120.size (k0_off2_inb _ h.1)) (ix2 (0 : Fin 1) k)
      else View.ld x7 (Rect.unit (s := S8x5120) (k0_off4 (wd2 T (grid0.coords t))) S1x5120.size (k0_off4_inb _ h.2)) (ix2 (0 : Fin 1) k))
      = x7 (ix2 (sel T hT i) k) := by
  have h29 := lt29 t
  have hlt := i.isLt
  have hr := r.isLt
  by_cases hc : t.val * 192 + r.val < (t.val * 192 / 920 + 1) * 920
  · rw [if_pos ((cond_iff t r).mpr hc), ld_row1 x7 (wd1 T (grid0.coords t)) h.1 (hT _) k]
    have e : wd1 T (grid0.coords t) = T (ix1 (gid i)) := wd1_eq T t (gid i) (by show i.val / 920 = _; omega)
    exact congrArg x7 (congrArg (fun z : Fin 8 => ix2 z k) (sel_eq T hT i _ _ e))
  · rw [if_neg fun h' => hc ((cond_iff t r).mp h'), ld_row2 x7 (wd2 T (grid0.coords t)) h.2 (hT _) k]
    have e : wd2 T (grid0.coords t) = T (ix1 (gid i)) := wd2_eq T t (gid i) (by show i.val / 920 = _; omega)
    exact congrArg x7 (congrArg (fun z : Fin 8 => ix2 z k) (sel_eq T hT i _ _ e))

end Cert.OprojSIdeal.Table

namespace Cert.RefOprojSIdeal.Table

open Cert.RefOprojSIdeal Cert.RefOprojSIdeal.Gen Idealize.ShloMosaic Idealize.ShloMosaic.TcCoe Idealize.SL.Sem
open Idealize.ShloMosaic.WordCmp Idealize.ShloMosaic.ValueIdx Idealize.ShloMosaic.Routing Idealize.ShloMosaic.StableHlo

/-- The rows' action rows, as the reference computes them from the ids and the table. -/
def acts (ids : Vec Ideal S6 .i32) (tab : Vec Ideal S8x5120 .f32) : Vec Ideal S5520x5120 .f32 :=
  shapeCast S5520x5120 (broadcastInDim S6x920x5120 ![0, 1, 2] bcast_S6x1x5120_S6x920x5120_0_1_2
    (broadcastInDim S6x1x5120 ![0, 2] bcast_S6x5120_S6x1x5120_0_2
      (Host.gather gather_S8x5120_S6x1_S6x5120_1_0_n_n_0_1_15120 tab
        (broadcastInDim S6x1 ![0] bcast_S6_S6x1_0
          (select (cmpi .slt ids (broadcastInDim S6 ![] bcast_S_S6 (constantI S_ 32 0#32)))
            (addi ids (broadcastInDim S6 ![] bcast_S_S6 (constantI S_ 32 8#32))) ids : IVec S6 32)))))
    shapeCasts_S6x920x5120_S5520x5120

/-- An id that is not negative is used as it is. -/
theorem wrap_at (ids : Vec Ideal S6 .i32) (q : Fin 6) (h : (ids (ix1 q) : BitVec 32).toNat < 8) :
    (select (cmpi .slt ids (broadcastInDim S6 ![] bcast_S_S6 (constantI S_ 32 0#32)))
      (addi ids (broadcastInDim S6 ![] bcast_S_S6 (constantI S_ 32 8#32))) ids : IVec S6 32) (ix1 q) = ids (ix1 q) := by
  have e : IntOp.cmpi .slt (ids (ix1 q) : BitVec 32) 0#32 = 0#1 := by
    rw [cmpi_slt_zero, ofBool_decide_eq_zero_iff]
    show ¬ (2 ^ 31 ≤ _)
    omega
  show Scalar.select (IntOp.cmpi .slt (ids (ix1 q) : BitVec 32) 0#32) _ _ = _
  rw [e]
  rfl

/-- The action rows at an index. -/
theorem acts_at (ids : Vec Ideal S6 .i32) (tab : Vec Ideal S8x5120 .f32) (i : Fin 5520) (k : Fin 5120) (q : Fin 6) (hq : q.val = i.val / 920)
    (h : (ids (ix1 q) : BitVec 32).toNat < 8) : acts ids tab (ix2 i k) = tab (ix2 ⟨(ids (ix1 q) : BitVec 32).toNat, h⟩ k) := by
  unfold acts
  refine (shapeCast_apply _ _ (ix2 i k) (ix3 q (⟨i.val % 920, Nat.mod_lt _ (by decide)⟩ : Fin 920) k) ?_).trans ?_
  · rw [Shape.rowMajor_val_two, Shape.rowMajor_val_three]
    show (q.val * 920 + i.val % 920) * 5120 + k.val = i.val * 5120 + k.val
    rw [hq]
    omega
  refine (broadcastInDim_apply _ _ _ _ (ix3 q (0 : Fin 1) k) fun a => ?_).trans ?_
  · match a with
    | ⟨0, _⟩ => rfl
    | ⟨1, _⟩ => rfl
    | ⟨2, _⟩ => rfl
  refine (broadcastInDim_apply _ _ _ _ (ix2 q k) fun a => ?_).trans ?_
  · match a with
    | ⟨0, _⟩ => rfl
    | ⟨1, _⟩ => rfl
  refine gather_row _ rfl rfl rfl rfl rfl _ _ q k ⟨_, h⟩ ?_ (by decide)
  refine (broadcastInDim_apply _ _ _ _ (ix1 q) fun a => ?_).trans ?_
  · match a with
    | ⟨0, _⟩ => rfl
  rw [wrap_at ids q h]
  exact BitVec.eq_of_toNat_eq (by simp)

/-- The array that the reference's call reads holds those action rows. -/
theorem V_acts (m : (ℓ : Loc nD τ sig) → Buf (Elt Ideal) ℓ) (c : Dev nD) :
    V m c main_v9 = acts (m ((c : Thread nD τ).loc main_arg0)) (m ((c : Thread nD τ).loc main_arg8)) := by
  show StableHlo.after hostOps0 _ (main_v9 : DevRef τ sig) = _
  unfold hostOps0
  after_results_simp
  rfl

end Cert.RefOprojSIdeal.Table

end
-- ==== Proof.OprojSRows.lean ====
/- The output projection of the spatial attention at an index: the tile's terms and the reference's terms as the same row functions. -/
module

public import proofs.«01_k».proof.Proof.OprojSIdealBody
public import proofs.«01_k».proof.Proof.Gen.RefOprojSIdeal.Value
public import proofs.«01_k».proof.Proof.OprojTRows

@[expose] public section

set_option maxRecDepth 16384

noncomputable section

namespace Cert.OprojSIdeal.RowValue

open Cert Cert.OprojSIdeal Cert.OprojSIdeal.Gen Idealize.ShloMosaic Idealize.ShloMosaic.TcCoe Idealize.SL.Sem

/-- The rows' means, as the program computes them. -/
def kMean (v : FVec Ideal S192x5120 .f32) : FVec Ideal S192x1 .f32 :=
  divf (shapeCast S192x1 (multiReduction .add [1] S192 v 0x00000000#32 reduces_S192x5120_S192 (.inl rfl) rfl) shapeCasts_S192_S192x1)
    (broadcast S192x1 (Scalar.ofBits (F := Ideal) .f32 0x45A00000#32))

/-- The rows with their means taken off. -/
def kDev (v : FVec Ideal S192x5120 .f32) : FVec Ideal S192x5120 .f32 :=
  subf v (broadcastTo S192x5120 (kMean v) broadcasts_S192x1_S192x5120)

/-- The rows normalised, from the centred rows and their variances. -/
def kNorm (d : FVec Ideal S192x5120 .f32) (w : FVec Ideal S192x1 .f32) (g b : FVec Ideal S1x5120 .f32) : FVec Ideal S192x5120 .f32 :=
  addf (mulf (divf d (broadcastTo S192x5120 (sqrt (addf w (broadcast S192x1 (Scalar.ofBits (F := Ideal) .f32 0x3727C5AC#32)))) broadcasts_S192x1_S192x5120))
    (broadcastTo S192x5120 g broadcasts_S1x5120_S192x5120)) (broadcastTo S192x5120 b broadcasts_S1x5120_S192x5120)

/-- The rows' means at an index. -/
theorem kMean_at (v : FVec Ideal S192x5120 .f32) (r : Fin 192) (z : Fin 1) : kMean v (ix2 r z) = Rows.mean (fun k => v (ix2 r k)) := by
  pointwise [kMean, Rows.mean]

/-- The centred rows at an index. -/
theorem kDev_at (v : FVec Ideal S192x5120 .f32) (r : Fin 192) (k : Fin 5120) : kDev v (ix2 r k) = Rows.dev (fun k => v (ix2 r k)) k := by
  pointwise [kDev, Rows.dev]
  rw [kMean_at]

/-- The normalised rows at an index, from the centred rows and the variances. -/
theorem kNorm_at (d : FVec Ideal S192x5120 .f32) (w : FVec Ideal S192x1 .f32) (g b : FVec Ideal S1x5120 .f32) (r : Fin 192) (k : Fin 5120) :
    kNorm d w g b (ix2 r k) = Ideal.div (d (ix2 r k)) (Ideal.sqrt (w (ix2 r 0) + Ideal.ofBits FTy.f32 0x3727C5AC#32)) * g (ix2 0 k) + b (ix2 0 k) := by
  pointwise [kNorm]

/-- The whole layer normalisation, as the program computes it. -/
def kLn (v : FVec Ideal S192x5120 .f32) (g b : FVec Ideal S1x5120 .f32) : FVec Ideal S192x5120 .f32 :=
  kNorm (kDev v) (kMean (mulf (kDev v) (kDev v))) g b

/-- The layer normalisation at an index is the row function's. -/
theorem kLn_at (v : FVec Ideal S192x5120 .f32) (g b : FVec Ideal S1x5120 .f32) (r : Fin 192) (k : Fin 5120) :
    kLn v g b (ix2 r k) = Rows.ln (fun k => v (ix2 r k)) (fun k => g (ix2 0 k)) (fun k => b (ix2 0 k)) k := by
  unfold kLn
  rw [kNorm_at, kMean_at, kDev_at]
  unfold Rows.ln
  congr 6
  funext j
  exact congrArg₂ (· * ·) (kDev_at v r j) (kDev_at v r j)

/-- The rows' largest magnitudes, as the program computes them. -/
def kAmax (v : FVec Ideal S192x5120 .f32) : FVec Ideal S192x1 .f32 :=
  shapeCast S192x1 (multiReduction .maximumf [1] S192 (absf v) 0xFF800000#32 reduces_S192x5120_S192 (.inl rfl) rfl) shapeCasts_S192_S192x1

/-- The rows' largest magnitudes at an index. -/
theorem kAmax_at (v : FVec Ideal S192x5120 .f32) (r : Fin 192) (z : Fin 1) : kAmax v (ix2 r z) = Rows.amax (fun k => v (ix2 r k)) := by
  unfold Rows.amax
  pointwise [kAmax]

/-- The quantiser's scales from the rows' largest magnitudes, as the program computes them. -/
def kScaleOf (a : FVec Ideal S192x1 .f32) : FVec Ideal S192x1 .f32 :=
  select (cmpf .oeq a (broadcast S192x1 (Scalar.ofBits (F := Ideal) .f32 0x00000000#32))) (broadcast S192x1 (Scalar.ofBits (F := Ideal) .f32 0x3F800000#32))
    (divf a (broadcast S192x1 (Scalar.ofBits (F := Ideal) .f32 0x43E00000#32)))

/-- The scales at an index, from the largest magnitudes. -/
theorem kScaleOf_at (a : FVec Ideal S192x1 .f32) (r : Fin 192) (z : Fin 1) : kScaleOf a (ix2 r z) = Rows.scale 0x43E00000#32 (a (ix2 r z)) := by
  unfold Rows.scale
  pointwise [kScaleOf]

/-- The quantiser's scales of the rows, as the program computes them. -/
def kScale (v : FVec Ideal S192x5120 .f32) : FVec Ideal S192x1 .f32 := kScaleOf (kAmax v)

/-- The quantised rows, as the program computes them. -/
def kQuant (v : FVec Ideal S192x5120 .f32) (s : FVec Ideal S192x1 .f32) : FVec Ideal S192x5120 .fp8e4m3 :=
  truncf .fp8e4m3 (minimumf (broadcast S192x5120 (Scalar.ofBits (F := Ideal) .f32 0x43E00000#32)) (maximumf (broadcast S192x5120 (Scalar.ofBits (F := Ideal) .f32 0xC3E00000#32))
    (divf v (broadcastTo S192x5120 s broadcasts_S192x1_S192x5120)))) bitsLt_fp8e4m3_f32

/-- The scales at an index are the row function's. -/
theorem kScale_at (v : FVec Ideal S192x5120 .f32) (r : Fin 192) (z : Fin 1) :
    kScale v (ix2 r z) = Rows.scale 0x43E00000#32 (Rows.amax (fun k => v (ix2 r k))) := by
  unfold kScale
  rw [kScaleOf_at, kAmax_at]

/-- The quantised rows at an index are the row function's. -/
theorem kQuant_at (v : FVec Ideal S192x5120 .f32) (s : FVec Ideal S192x1 .f32) (r : Fin 192) (k : Fin 5120) :
    (kQuant v s (ix2 r k) : EReal) = Rows.quant (v (ix2 r k)) (s (ix2 r 0)) := by
  pointwise [kQuant, Rows.quant]

/-- Which of the two action rows each row of the tile takes: whether it lies before the next group's first row. -/
def kCond (v30 v33 : BitVec 32) : IVec S192x1 1 :=
  cmpi .slt (addi (broadcast S192x1 v33) (iota .tc S192x1 32 [0] iota_S192x1_d0_w32)) (broadcast S192x1 (Scalar.muli (Scalar.addi v30 1#32) 920#32))

/-- That choice at an index. -/
theorem kCond_at (v30 v33 : BitVec 32) (r : Fin 192) (z : Fin 1) :
    kCond v30 v33 (ix2 r z) = Scalar.cmpi .slt (v33 + BitVec.ofNat 32 r.val) ((v30 + 1#32) * 920#32) := by
  unfold kCond
  simp only [cmpi, addi, broadcast, Scalar.muli, Scalar.addi]
  refine congrArg₂ _ (congrArg (v33 + ·) ?_) rfl
  show BitVec.ofNat 32 (0 * 192 + r.val) = BitVec.ofNat 32 r.val
  rw [Nat.zero_mul, Nat.zero_add]

/-- The action rows of a tile, from the choice and the two rows. -/
def kAct (q : IVec S192x1 1) (ra rb : FVec Ideal S1x5120 .f32) : FVec Ideal S192x5120 .f32 :=
  select (broadcastTo S192x5120 (shapeCast S192x1 q shapeCasts_S192x1_S192x1) broadcasts_S192x1_S192x5120)
    (broadcastTo S192x5120 (shapeCast S1x5120 ra shapeCasts_S1x5120_S1x5120) broadcasts_S1x5120_S192x5120)
    (broadcastTo S192x5120 (shapeCast S1x5120 rb shapeCasts_S1x5120_S1x5120) broadcasts_S1x5120_S192x5120)

/-- The action rows at an index. -/
theorem kAct_at (q : IVec S192x1 1) (ra rb : FVec Ideal S1x5120 .f32) (r : Fin 192) (k : Fin 5120) :
    kAct q ra rb (ix2 r k) = if q (ix2 r 0) = 1#1 then ra (ix2 0 k) else rb (ix2 0 k) := by
  unfold kAct
  rw [shapeCast_self q _, shapeCast_self ra _, shapeCast_self rb _]
  pointwise []
  rfl

/-- The residual rows at an index. -/
theorem pay3_at (h : Vec Ideal S192x5120 .bf16) (a : Vec Ideal S192x5120 .fp8e4m3) (W : Vec Ideal S5120x5120 .fp8e4m3) (s : Vec Ideal S192x1 .f32) (w : Vec Ideal S1x5120 .f32) (r : Fin 192) (k : Fin 5120) :
    k0_pay3 (F := Ideal) h a W s w (ix2 r k) = (Rows.res (fun k => h (ix2 r k)) (fun k => a (ix2 r k)) (s (ix2 r 0)) (fun j k => W (ix2 j k)) (fun k => w (ix2 0 k))) k := by
  pointwise [k0_pay3, Rows.res]

/-- The normalised rows with the action rows added, at an index. -/
theorem pay4_at (v : FVec Ideal S192x5120 .f32) (v30 v33 : BitVec 32) (ra rb g b : Vec Ideal S1x5120 .f32) (r : Fin 192) (k : Fin 5120) :
    (k0_pay4 (F := Ideal) v v30 v33 ra rb g b (ix2 r k) : EReal) = Rows.ln (fun k => v (ix2 r k)) (fun k => g (ix2 0 k)) (fun k => b (ix2 0 k)) k
      + (if Scalar.cmpi .slt (v33 + BitVec.ofNat 32 r.val) ((v30 + 1#32) * 920#32) = 1#1 then ra (ix2 0 k) else rb (ix2 0 k) : EReal) := by
  rw [← kCond_at v30 v33 r 0]
  exact congrArg₂ (fun p q : EReal => p + q) (kLn_at v g b r k) (kAct_at (kCond v30 v33) ra rb r k)

/-- The scales at an index. -/
theorem scale_at (v : FVec Ideal S192x5120 .f32) (r : Fin 192) (z : Fin 1) :
    k0_pay1 (F := Ideal) v (ix2 r z) = Rows.scale 0x43E00000#32 (Rows.amax (fun k => v (ix2 r k))) :=
  kScale_at v r z

/-- The codes at an index. -/
theorem code_at (v : FVec Ideal S192x5120 .f32) (r : Fin 192) (k : Fin 5120) :
    (k0_pay2 (F := Ideal) v (ix2 r k) : EReal) = Rows.quant (v (ix2 r k)) (Rows.scale 0x43E00000#32 (Rows.amax (fun k => v (ix2 r k)))) := by
  refine (kQuant_at v (k0_pay1 (F := Ideal) v) r k).trans ?_
  rw [scale_at]

end Cert.OprojSIdeal.RowValue

namespace Cert.RefOprojSIdeal.RowValue

open Cert Cert.RefOprojSIdeal Cert.RefOprojSIdeal.Gen Idealize.ShloMosaic Idealize.ShloMosaic.TcCoe Idealize.SL.Sem

/-- The rows' means, as the program computes them. -/
def kMean (v : FVec Ideal S5520x5120 .f32) : FVec Ideal S5520x1 .f32 :=
  divf (shapeCast S5520x1 (multiReduction .add [1] S5520 v 0x00000000#32 reduces_S5520x5120_S5520 (.inl rfl) rfl) shapeCasts_S5520_S5520x1)
    (broadcast S5520x1 (Scalar.ofBits (F := Ideal) .f32 0x45A00000#32))

/-- The rows with their means taken off. -/
def kDev (v : FVec Ideal S5520x5120 .f32) : FVec Ideal S5520x5120 .f32 :=
  subf v (broadcastTo S5520x5120 (kMean v) broadcasts_S5520x1_S5520x5120)

/-- The rows normalised, from the centred rows and their variances. -/
def kNorm (d : FVec Ideal S5520x5120 .f32) (w : FVec Ideal S5520x1 .f32) (g b : FVec Ideal S1x5120 .f32) : FVec Ideal S5520x5120 .f32 :=
  addf (mulf (divf d (broadcastTo S5520x5120 (sqrt (addf w (broadcast S5520x1 (Scalar.ofBits (F := Ideal) .f32 0x3727C5AC#32)))) broadcasts_S5520x1_S5520x5120))
    (broadcastTo S5520x5120 g broadcasts_S1x5120_S5520x5120)) (broadcastTo S5520x5120 b broadcasts_S1x5120_S5520x5120)

/-- The rows' means at an index. -/
theorem kMean_at (v : FVec Ideal S5520x5120 .f32) (r : Fin 5520) (z : Fin 1) : kMean v (ix2 r z) = Rows.mean (fun k => v (ix2 r k)) := by
  pointwise [kMean, Rows.mean]

/-- The centred rows at an index. -/
theorem kDev_at (v : FVec Ideal S5520x5120 .f32) (r : Fin 5520) (k : Fin 5120) : kDev v (ix2 r k) = Rows.dev (fun k => v (ix2 r k)) k := by
  pointwise [kDev, Rows.dev]
  rw [kMean_at]

/-- The normalised rows at an index, from the centred rows and the variances. -/
theorem kNorm_at (d : FVec Ideal S5520x5120 .f32) (w : FVec Ideal S5520x1 .f32) (g b : FVec Ideal S1x5120 .f32) (r : Fin 5520) (k : Fin 5120) :
    kNorm d w g b (ix2 r k) = Ideal.div (d (ix2 r k)) (Ideal.sqrt (w (ix2 r 0) + Ideal.ofBits FTy.f32 0x3727C5AC#32)) * g (ix2 0 k) + b (ix2 0 k) := by
  pointwise [kNorm]

/-- The whole layer normalisation, as the program computes it. -/
def kLn (v : FVec Ideal S5520x5120 .f32) (g b : FVec Ideal S1x5120 .f32) : FVec Ideal S5520x5120 .f32 :=
  kNorm (kDev v) (kMean (mulf (kDev v) (kDev v))) g b

/-- The layer normalisation at an index is the row function's. -/
theorem kLn_at (v : FVec Ideal S5520x5120 .f32) (g b : FVec Ideal S1x5120 .f32) (r : Fin 5520) (k : Fin 5120) :
    kLn v g b (ix2 r k) = Rows.ln (fun k => v (ix2 r k)) (fun k => g (ix2 0 k)) (fun k => b (ix2 0 k)) k := by
  unfold kLn
  rw [kNorm_at, kMean_at, kDev_at]
  unfold Rows.ln
  congr 6
  funext j
  exact congrArg₂ (· * ·) (kDev_at v r j) (kDev_at v r j)

/-- The rows' largest magnitudes, as the program computes them. -/
def kAmax (v : FVec Ideal S5520x5120 .f32) : FVec Ideal S5520x1 .f32 :=
  shapeCast S5520x1 (multiReduction .maximumf [1] S5520 (absf v) 0xFF800000#32 reduces_S5520x5120_S5520 (.inl rfl) rfl) shapeCasts_S5520_S5520x1

/-- The rows' largest magnitudes at an index. -/
theorem kAmax_at (v : FVec Ideal S5520x5120 .f32) (r : Fin 5520) (z : Fin 1) : kAmax v (ix2 r z) = Rows.amax (fun k => v (ix2 r k)) := by
  unfold Rows.amax
  pointwise [kAmax]

/-- The quantiser's scales from the rows' largest magnitudes, as the program computes them. -/
def kScaleOf (a : FVec Ideal S5520x1 .f32) : FVec Ideal S5520x1 .f32 :=
  select (cmpf .oeq a (broadcast S5520x1 (Scalar.ofBits (F := Ideal) .f32 0x00000000#32))) (broadcast S5520x1 (Scalar.ofBits (F := Ideal) .f32 0x3F800000#32))
    (divf a (broadcast S5520x1 (Scalar.ofBits (F := Ideal) .f32 0x43E00000#32)))

/-- The scales at an index, from the largest magnitudes. -/
theorem kScaleOf_at (a : FVec Ideal S5520x1 .f32) (r : Fin 5520) (z : Fin 1) : kScaleOf a (ix2 r z) = Rows.scale 0x43E00000#32 (a (ix2 r z)) := by
  unfold Rows.scale
  pointwise [kScaleOf]

/-- The quantiser's scales of the rows, as the program computes them. -/
def kScale (v : FVec Ideal S5520x5120 .f32) : FVec Ideal S5520x1 .f32 := kScaleOf (kAmax v)

/-- The quantised rows, as the program computes them. -/
def kQuant (v : FVec Ideal S5520x5120 .f32) (s : FVec Ideal S5520x1 .f32) : FVec Ideal S5520x5120 .fp8e4m3 :=
  truncf .fp8e4m3 (minimumf (broadcast S5520x5120 (Scalar.ofBits (F := Ideal) .f32 0x43E00000#32)) (maximumf (broadcast S5520x5120 (Scalar.ofBits (F := Ideal) .f32 0xC3E00000#32))
    (divf v (broadcastTo S5520x5120 s broadcasts_S5520x1_S5520x5120)))) bitsLt_fp8e4m3_f32

/-- The scales at an index are the row function's. -/
theorem kScale_at (v : FVec Ideal S5520x5120 .f32) (r : Fin 5520) (z : Fin 1) :
    kScale v (ix2 r z) = Rows.scale 0x43E00000#32 (Rows.amax (fun k => v (ix2 r k))) := by
  unfold kScale
  rw [kScaleOf_at, kAmax_at]

/-- The quantised rows at an index are the row function's. -/
theorem kQuant_at (v : FVec Ideal S5520x5120 .f32) (s : FVec Ideal S5520x1 .f32) (r : Fin 5520) (k : Fin 5120) :
    (kQuant v s (ix2 r k) : EReal) = Rows.quant (v (ix2 r k)) (s (ix2 r 0)) := by
  pointwise [kQuant, Rows.quant]

/-- The residual rows at an index. -/
theorem pay4_at (h : Vec Ideal S5520x5120 .bf16) (a : Vec Ideal S5520x5120 .fp8e4m3) (W : Vec Ideal S5120x5120 .fp8e4m3) (s : Vec Ideal S5520x1 .f32) (w : Vec Ideal S1x5120 .f32) (r : Fin 5520) (k : Fin 5120) :
    k0_pay4 (F := Ideal) h a s W w (ix2 r k) = (Rows.res (fun k => h (ix2 r k)) (fun k => a (ix2 r k)) (s (ix2 r 0)) (fun j k => W (ix2 j k)) (fun k => w (ix2 0 k))) k := by
  pointwise [k0_pay4, Rows.res]

/-- The normalised rows at an index. -/
theorem pay5_at (h : Vec Ideal S5520x5120 .bf16) (a : Vec Ideal S5520x5120 .fp8e4m3) (W : Vec Ideal S5120x5120 .fp8e4m3) (s : Vec Ideal S5520x1 .f32) (w g b : Vec Ideal S1x5120 .f32) (r : Fin 5520) (k : Fin 5120) :
    k0_pay5 (F := Ideal) h a s W w g b (ix2 r k) = Rows.ln (Rows.res (fun k => h (ix2 r k)) (fun k => a (ix2 r k)) (s (ix2 r 0)) (fun j k => W (ix2 j k)) (fun k => w (ix2 0 k))) (fun k => g (ix2 0 k)) (fun k => b (ix2 0 k)) k := by
  refine (kLn_at (k0_pay4 (F := Ideal) h a s W w) g b r k).trans ?_
  rw [show (fun k => k0_pay4 (F := Ideal) h a s W w (ix2 r k)) = (Rows.res (fun k => h (ix2 r k)) (fun k => a (ix2 r k)) (s (ix2 r 0)) (fun j k => W (ix2 j k)) (fun k => w (ix2 0 k))) from funext fun k => pay4_at h a W s w r k]

/-- The sum with the action rows at an index. -/
theorem sum_at (v p : FVec Ideal S5520x5120 .f32) (r : Fin 5520) (k : Fin 5120) : (k0_pay1 (F := Ideal) v p (ix2 r k) : EReal) = v (ix2 r k) + p (ix2 r k) := by
  unfold k0_pay1
  rw [shapeCast_self p _]
  rfl

/-- The scales at an index. -/
theorem scale_at (v p : FVec Ideal S5520x5120 .f32) (r : Fin 5520) (z : Fin 1) :
    k0_pay2 (F := Ideal) v p (ix2 r z) = Rows.scale 0x43E00000#32 (Rows.amax (fun k => (v (ix2 r k) + p (ix2 r k) : EReal))) := by
  refine (kScale_at (k0_pay1 (F := Ideal) v p) r z).trans ?_
  rw [show (fun k => k0_pay1 (F := Ideal) v p (ix2 r k)) = (fun k => (v (ix2 r k) + p (ix2 r k) : EReal)) from funext fun k => sum_at v p r k]

/-- The codes at an index. -/
theorem code_at (v p : FVec Ideal S5520x5120 .f32) (r : Fin 5520) (k : Fin 5120) :
    (k0_pay3 (F := Ideal) v p (ix2 r k) : EReal) = Rows.quant (v (ix2 r k) + p (ix2 r k) : EReal) (Rows.scale 0x43E00000#32 (Rows.amax (fun k => (v (ix2 r k) + p (ix2 r k) : EReal)))) := by
  refine (kQuant_at (k0_pay1 (F := Ideal) v p) (k0_pay2 (F := Ideal) v p) r k).trans ?_
  rw [scale_at, sum_at]

end Cert.RefOprojSIdeal.RowValue

end
-- ==== Proof.OprojSRef.lean ====
/- The output projection of the spatial attention: the reference's arrays after its run, as functions of its arguments. -/
module

public import proofs.«01_k».proof.Proof.OprojSTable
public import proofs.«01_k».proof.Proof.OprojSRows
public import Idealize.ShloMosaic.Lib.Pipeline.ValueKit
public import Idealize.ShloMosaic.Lib.Tactic

@[expose] public section

set_option maxRecDepth 16384

noncomputable section

namespace Cert.RefOprojSIdeal.Arrays

open Cert.RefOprojSIdeal Cert.RefOprojSIdeal.Gen Idealize.ShloMosaic Idealize.ShloMosaic.TcCoe Idealize.SL.Sem
open Idealize.ShloMosaic.Tactic

variable (m : (ℓ : Loc nD τ sig) → Buf (Elt Ideal) ℓ)

/-- The residual stream of the reference, from its arguments. -/
def G8 (a1 : Vec Ideal S5520x5120 .fp8e4m3) (a2 : Vec Ideal S5520x1 .f32) (a3 : Vec Ideal S5120x5120 .fp8e4m3) (a4 : Vec Ideal S1x5120 .f32)
    (a5 : Vec Ideal S5520x5120 .bf16) : Vec Ideal S5520x5120 .f32 := k0_pay4 (F := Ideal) a5 a1 a2 a3 a4

/-- The layer normalisation of the reference, from its arguments. -/
def N (a1 : Vec Ideal S5520x5120 .fp8e4m3) (a2 : Vec Ideal S5520x1 .f32) (a3 : Vec Ideal S5120x5120 .fp8e4m3) (a4 : Vec Ideal S1x5120 .f32)
    (a5 : Vec Ideal S5520x5120 .bf16) (a6 a7 : Vec Ideal S1x5120 .f32) : FVec Ideal S5520x5120 .f32 := k0_pay5 (F := Ideal) a5 a1 a2 a3 a4 a6 a7

/-- The codes of the reference, from its arguments. -/
def G9 (a0 : Vec Ideal S6 .i32) (a1 : Vec Ideal S5520x5120 .fp8e4m3) (a2 : Vec Ideal S5520x1 .f32) (a3 : Vec Ideal S5120x5120 .fp8e4m3) (a4 : Vec Ideal S1x5120 .f32)
    (a5 : Vec Ideal S5520x5120 .bf16) (a6 a7 : Vec Ideal S1x5120 .f32) (a8 : Vec Ideal S8x5120 .f32) : Vec Ideal S5520x5120 .fp8e4m3 :=
  k0_pay3 (F := Ideal) (N a1 a2 a3 a4 a5 a6 a7) (Table.acts a0 a8)

/-- The scales of the reference, from its arguments. -/
def G10 (a0 : Vec Ideal S6 .i32) (a1 : Vec Ideal S5520x5120 .fp8e4m3) (a2 : Vec Ideal S5520x1 .f32) (a3 : Vec Ideal S5120x5120 .fp8e4m3) (a4 : Vec Ideal S1x5120 .f32)
    (a5 : Vec Ideal S5520x5120 .bf16) (a6 a7 : Vec Ideal S1x5120 .f32) (a8 : Vec Ideal S8x5120 .f32) : Vec Ideal S5520x1 .f32 :=
  k0_pay2 (F := Ideal) (N a1 a2 a3 a4 a5 a6 a7) (Table.acts a0 a8)

/-- Every window is its whole array. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] :=
  (by decide +kernel : ∀ t : Fin grid0.N, _)

/-- Window 0's block is its array. -/
theorem blk0 (c : Dev nD) (t : Fin cfg0.N) : iblk m c 0 t = (m ((c : Thread nD τ).loc main_arg1)) := by
  have e : V m c (Pipeline.arrRef spec0 0) = (m ((c : Thread nD τ).loc main_arg1)) := V_main_arg1 m c
  funext y
  refine Eq.trans ?_ (congrFun e y)
  show V m c (Pipeline.arrRef spec0 0) (((cfg0.win 0).blk t).view.emb y) = V m c (Pipeline.arrRef spec0 0) y
  refine congrArg _ ?_
  blk_ext [idx t]

/-- Window 1's block is its array. -/
theorem blk1 (c : Dev nD) (t : Fin cfg0.N) : iblk m c 1 t = (m ((c : Thread nD τ).loc main_arg2)) := by
  have e : V m c (Pipeline.arrRef spec0 1) = (m ((c : Thread nD τ).loc main_arg2)) := V_main_arg2 m c
  funext y
  refine Eq.trans ?_ (congrFun e y)
  show V m c (Pipeline.arrRef spec0 1) (((cfg0.win 1).blk t).view.emb y) = V m c (Pipeline.arrRef spec0 1) y
  refine congrArg _ ?_
  blk_ext [idx t]

/-- Window 2's block is its array. -/
theorem blk2 (c : Dev nD) (t : Fin cfg0.N) : iblk m c 2 t = (m ((c : Thread nD τ).loc main_arg3)) := by
  have e : V m c (Pipeline.arrRef spec0 2) = (m ((c : Thread nD τ).loc main_arg3)) := V_main_arg3 m c
  funext y
  refine Eq.trans ?_ (congrFun e y)
  show V m c (Pipeline.arrRef spec0 2) (((cfg0.win 2).blk t).view.emb y) = V m c (Pipeline.arrRef spec0 2) y
  refine congrArg _ ?_
  blk_ext [idx t]

/-- Window 3's block is its array. -/
theorem blk3 (c : Dev nD) (t : Fin cfg0.N) : iblk m c 3 t = (m ((c : Thread nD τ).loc main_arg4)) := by
  have e : V m c (Pipeline.arrRef spec0 3) = (m ((c : Thread nD τ).loc main_arg4)) := V_main_arg4 m c
  funext y
  refine Eq.trans ?_ (congrFun e y)
  show V m c (Pipeline.arrRef spec0 3) (((cfg0.win 3).blk t).view.emb y) = V m c (Pipeline.arrRef spec0 3) y
  refine congrArg _ ?_
  blk_ext [idx t]

/-- Window 4's block is its array. -/
theorem blk4 (c : Dev nD) (t : Fin cfg0.N) : iblk m c 4 t = (m ((c : Thread nD τ).loc main_arg5)) := by
  have e : V m c (Pipeline.arrRef spec0 4) = (m ((c : Thread nD τ).loc main_arg5)) := V_main_arg5 m c
  funext y
  refine Eq.trans ?_ (congrFun e y)
  show V m c (Pipeline.arrRef spec0 4) (((cfg0.win 4).blk t).view.emb y) = V m c (Pipeline.arrRef spec0 4) y
  refine congrArg _ ?_
  blk_ext [idx t]

/-- Window 5's block is its array. -/
theorem blk5 (c : Dev nD) (t : Fin cfg0.N) : iblk m c 5 t = (m ((c : Thread nD τ).loc main_arg6)) := by
  have e : V m c (Pipeline.arrRef spec0 5) = (m ((c : Thread nD τ).loc main_arg6)) := V_main_arg6 m c
  funext y
  refine Eq.trans ?_ (congrFun e y)
  show V m c (Pipeline.arrRef spec0 5) (((cfg0.win 5).blk t).view.emb y) = V m c (Pipeline.arrRef spec0 5) y
  refine congrArg _ ?_
  blk_ext [idx t]

/-- Window 6's block is its array. -/
theorem blk6 (c : Dev nD) (t : Fin cfg0.N) : iblk m c 6 t = (m ((c : Thread nD τ).loc main_arg7)) := by
  have e : V m c (Pipeline.arrRef spec0 6) = (m ((c : Thread nD τ).loc main_arg7)) := V_main_arg7 m c
  funext y
  refine Eq.trans ?_ (congrFun e y)
  show V m c (Pipeline.arrRef spec0 6) (((cfg0.win 6).blk t).view.emb y) = V m c (Pipeline.arrRef spec0 6) y
  refine congrArg _ ?_
  blk_ext [idx t]

/-- Window 7's block is its array. -/
theorem blk7 (c : Dev nD) (t : Fin cfg0.N) : iblk m c 7 t = Table.acts (m ((c : Thread nD τ).loc main_arg0)) (m ((c : Thread nD τ).loc main_arg8)) := by
  have e : V m c (Pipeline.arrRef spec0 7) = Table.acts (m ((c : Thread nD τ).loc main_arg0)) (m ((c : Thread nD τ).loc main_arg8)) := Table.V_acts m c
  funext y
  refine Eq.trans ?_ (congrFun e y)
  show V m c (Pipeline.arrRef spec0 7) (((cfg0.win 7).blk t).view.emb y) = V m c (Pipeline.arrRef spec0 7) y
  refine congrArg _ ?_
  blk_ext [idx t]

/-- The stores and loads start at the origin. -/
theorem hz : (![0, 0] : Fin 2 → Nat) = fun _ => 0 := funext fun a => by fin_cases a <;> rfl

section
variable (x0 : Vec Ideal S5520x5120 .fp8e4m3) (x1 : Vec Ideal S5520x1 .f32) (x2 : Vec Ideal S5120x5120 .fp8e4m3) (x3 : Vec Ideal S1x5120 .f32)
  (x4 : Vec Ideal S5520x5120 .bf16) (x5 x6 : Vec Ideal S1x5120 .f32) (x7 : Vec Ideal S5520x5120 .f32)

/-- Output window 8's buffer without the loads and the store. -/
theorem out8_eq : out0_8 (F := Ideal) x0 x1 x2 x3 x4 x5 x6 x7 = G8 x0 x1 x2 x3 x4 := by
  unfold out0_8 G8
  rw [View.canon_unit_zero hz, View.ld_unit_zero (S := S5520x5120) hz _ x4, View.ld_unit_zero (S := S5520x5120) hz _ x0, View.ld_unit_zero (S := S5520x1) hz _ x1,
    View.ld_unit_zero (S := S5120x5120) hz _ x2, View.ld_unit_zero (S := S1x5120) hz _ x3]

/-- The normalised rows without the loads. -/
theorem pay6_eq : k0_pay6 (F := Ideal) x0 x1 x2 x3 x4 x5 x6 x7 = N x0 x1 x2 x3 x4 x5 x6 := by
  unfold k0_pay6 N
  rw [View.ld_unit_zero (S := S5520x5120) hz _ x4, View.ld_unit_zero (S := S5520x5120) hz _ x0, View.ld_unit_zero (S := S5520x1) hz _ x1,
    View.ld_unit_zero (S := S5120x5120) hz _ x2, View.ld_unit_zero (S := S1x5120) hz _ x3, View.ld_unit_zero (S := S1x5120) hz _ x5, View.ld_unit_zero (S := S1x5120) hz _ x6]

/-- Output window 9's buffer without the loads and the store. -/
theorem out9_eq : out0_9 (F := Ideal) x0 x1 x2 x3 x4 x5 x6 x7 = k0_pay3 (F := Ideal) (N x0 x1 x2 x3 x4 x5 x6) x7 := by
  unfold out0_9
  rw [View.canon_unit_zero hz, pay6_eq, View.ld_unit_zero (S := S5520x5120) hz _ x7]

/-- Output window 10's buffer without the loads and the store. -/
theorem out10_eq : out0_10 (F := Ideal) x0 x1 x2 x3 x4 x5 x6 x7 = k0_pay2 (F := Ideal) (N x0 x1 x2 x3 x4 x5 x6) x7 := by
  unfold out0_10
  rw [View.canon_unit_zero hz, pay6_eq, View.ld_unit_zero (S := S5520x5120) hz _ x7]

end

/-- What is written back from window 8. -/
theorem cut8 (c : Dev nD) (t : Fin cfg0.N) (y : ((cfg0.win 8).xblock (cfg0.grid.coords t)).Idx) :
    out0_8 (F := Ideal) (iblk m c 0 t) (iblk m c 1 t) (iblk m c 2 t) (iblk m c 3 t) (iblk m c 4 t) (iblk m c 5 t) (iblk m c 6 t) (iblk m c 7 t) ((cfg0.win 8).xinj (cfg0.grid.coords t) y)
      = G8 (m ((c : Thread nD τ).loc main_arg1)) (m ((c : Thread nD τ).loc main_arg2)) (m ((c : Thread nD τ).loc main_arg3)) (m ((c : Thread nD τ).loc main_arg4)) (m ((c : Thread nD τ).loc main_arg5)) (((cfg0.win 8).blk t).view.emb y) := by
  have e : (cfg0.win 8).xinj (cfg0.grid.coords t) y = ((cfg0.win 8).blk t).view.emb y := by blk_ext [idx t]
  rw [out8_eq, blk0, blk1, blk2, blk3, blk4]
  exact congrArg _ e

/-- What is written back from window 9. -/
theorem cut9 (c : Dev nD) (t : Fin cfg0.N) (y : ((cfg0.win 9).xblock (cfg0.grid.coords t)).Idx) :
    out0_9 (F := Ideal) (iblk m c 0 t) (iblk m c 1 t) (iblk m c 2 t) (iblk m c 3 t) (iblk m c 4 t) (iblk m c 5 t) (iblk m c 6 t) (iblk m c 7 t) ((cfg0.win 9).xinj (cfg0.grid.coords t) y)
      = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 9).blk t).view.emb y) := by
  have e : (cfg0.win 9).xinj (cfg0.grid.coords t) y = ((cfg0.win 9).blk t).view.emb y := by blk_ext [idx t]
  rw [out9_eq, blk0, blk1, blk2, blk3, blk4, blk5, blk6, blk7]
  exact congrArg _ e

/-- What is written back from window 10. -/
theorem cut10 (c : Dev nD) (t : Fin cfg0.N) (y : ((cfg0.win 10).xblock (cfg0.grid.coords t)).Idx) :
    out0_10 (F := Ideal) (iblk m c 0 t) (iblk m c 1 t) (iblk m c 2 t) (iblk m c 3 t) (iblk m c 4 t) (iblk m c 5 t) (iblk m c 6 t) (iblk m c 7 t) ((cfg0.win 10).xinj (cfg0.grid.coords t) y)
      = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 10).blk t).view.emb y) := by
  have e : (cfg0.win 10).xinj (cfg0.grid.coords t) y = ((cfg0.win 10).blk t).view.emb y := by blk_ext [idx t]
  rw [out10_eq, blk0, blk1, blk2, blk3, blk4, blk5, blk6, blk7]
  exact congrArg _ e

/-- Result array 8 after the run. -/
theorem final8 (c : Dev nD) : (dats m 0 c).arrAt 8 cfg0.N = G8 (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t _ y => ?_
  rw [after0_8, cast_eq]
  exact cut8 m c t y

/-- Result array 9 after the run. -/
theorem final9 (c : Dev nD) : (dats m 0 c).arrAt 9 cfg0.N = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 9 _ (by decide +kernel) fun t _ y => ?_
  rw [after0_9, cast_eq]
  exact cut9 m c t y

/-- Result array 10 after the run. -/
theorem final10 (c : Dev nD) : (dats m 0 c).arrAt 10 cfg0.N = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 10 _ (by decide +kernel) fun t _ y => ?_
  rw [after0_10, cast_eq]
  exact cut10 m c t y

/-- The reference's run, with its result arrays named. -/
theorem run (ρ : Dev nD → PrngReg) : θ_run defs (onTc (τ := τ) (main (F := Ideal))) ⟨m, fun _ => 0, ρ⟩ fun r => ∀ c : Dev nD,
      r.2.mem ((c : Thread nD τ).loc main_v10_0) = G8 (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v10_1) = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v10_2) = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final8 m c), (h c).2.1.trans (final9 m c), (h c).2.2.1.trans (final10 m c), (h c).2.2.2⟩)
    (Cert.RefOprojSIdeal.Value.run_blocks m ρ)

end Cert.RefOprojSIdeal.Arrays

end
-- ==== Proof.OprojSTile.lean ====
/- The output projection of the spatial attention: the arrays the tiled kernel leaves, the last tile cut at the end of the
   arrays, are the reference's arrays: the tiles and the run. -/
module

public import proofs.«01_k».proof.Proof.OprojSRef
public import proofs.«01_k».proof.Defs
public import Idealize.ShloMosaic.Lib.Pipeline.ValueKit
public import Idealize.ShloMosaic.Lib.Claim
public import proofs.«01_k».proof.Proof.Gen.RefOprojSIdeal.Value
public import Idealize.ShloMosaic.Lib.Pipeline.FrameBody
public import Idealize.ShloMosaic.Lib.Tactic

@[expose] public section

set_option maxRecDepth 16384

noncomputable section

namespace Cert.OprojSIdeal.TileValue

open Cert.OprojSIdeal Cert.OprojSIdeal.Gen Cert.OprojSIdeal.Body Idealize.ShloMosaic Idealize.ShloMosaic.TcCoe Idealize.SL.Sem
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ)

/-- The windows' block indices at every grid point: row tile `t`. -/
theorem idx0 (t : Fin (cfgM m).N) : ((cfgM m).win 0).index t = ![t.val, 0]
    ∧ ((cfgM m).win 1).index t = ![t.val, 0]
    ∧ ((cfgM m).win 2).index t = ![0, 0]
    ∧ ((cfgM m).win 3).index t = ![0, 0]
    ∧ ((cfgM m).win 4).index t = ![t.val, 0]
    ∧ ((cfgM m).win 5).index t = ![0, 0]
    ∧ ((cfgM m).win 6).index t = ![0, 0]
    ∧ ((cfgM m).win 7).index t = ![0, 0]
    ∧ ((cfgM m).win 8).index t = ![t.val, 0]
    ∧ ((cfgM m).win 9).index t = ![t.val, 0]
    ∧ ((cfgM m).win 10).index t = ![t.val, 0] :=
  (by decide +kernel : ∀ t : Fin grid0.N, cc0_transform_0 (grid0.coords t) = ![t.val, 0] ∧ cc0_transform_1 (grid0.coords t) = ![t.val, 0] ∧ cc0_transform_2 (grid0.coords t) = ![0, 0] ∧ cc0_transform_3 (grid0.coords t) = ![0, 0] ∧ cc0_transform_4 (grid0.coords t) = ![t.val, 0] ∧ cc0_transform_5 (grid0.coords t) = ![0, 0] ∧ cc0_transform_6 (grid0.coords t) = ![0, 0] ∧ cc0_transform_7 (grid0.coords t) = ![0, 0] ∧ cc0_transform_8 (grid0.coords t) = ![t.val, 0] ∧ cc0_transform_9 (grid0.coords t) = ![t.val, 0] ∧ cc0_transform_10 (grid0.coords t) = ![t.val, 0]) t

/-- The same, spelt as the block indices come out of the pipeline's configuration. -/
theorem idx (t : Fin (cfgM m).N) : ((pcfg0 (F := Ideal)).win (adm m) 0).index t = ![t.val, 0]
    ∧ ((pcfg0 (F := Ideal)).win (adm m) 1).index t = ![t.val, 0]
    ∧ ((pcfg0 (F := Ideal)).win (adm m) 2).index t = ![0, 0]
    ∧ ((pcfg0 (F := Ideal)).win (adm m) 3).index t = ![0, 0]
    ∧ ((pcfg0 (F := Ideal)).win (adm m) 4).index t = ![t.val, 0]
    ∧ ((pcfg0 (F := Ideal)).win (adm m) 5).index t = ![0, 0]
    ∧ ((pcfg0 (F := Ideal)).win (adm m) 6).index t = ![0, 0]
    ∧ ((pcfg0 (F := Ideal)).win (adm m) 7).index t = ![0, 0]
    ∧ ((pcfg0 (F := Ideal)).win (adm m) 8).index t = ![t.val, 0]
    ∧ ((pcfg0 (F := Ideal)).win (adm m) 9).index t = ![t.val, 0]
    ∧ ((pcfg0 (F := Ideal)).win (adm m) 10).index t = ![t.val, 0] :=
  idx0 m t

/-- The cut of a row tile at the end of the arrays, at every grid point. -/
theorem ext (t : Fin (cfgM m).N) : ((cfgM m).win 0).xsize (grid0.coords t) = ![min 192 (5520 - t.val * 192), 5120]
    ∧ ((cfgM m).win 1).xsize (grid0.coords t) = ![min 192 (5520 - t.val * 192), 1]
    ∧ ((cfgM m).win 4).xsize (grid0.coords t) = ![min 192 (5520 - t.val * 192), 5120] := by
  have e : ∀ t : Fin grid0.N, ∀ a : Fin 2, (clip0_0 (grid0.coords t) a).extent ((![192, 5120] : Fin 2 → ℕ) a) = (![min 192 (5520 - t.val * 192), 5120] : Fin 2 → ℕ) a ∧ (clip0_1 (grid0.coords t) a).extent ((![192, 1] : Fin 2 → ℕ) a) = (![min 192 (5520 - t.val * 192), 1] : Fin 2 → ℕ) a ∧ (clip0_4 (grid0.coords t) a).extent ((![192, 5120] : Fin 2 → ℕ) a) = (![min 192 (5520 - t.val * 192), 5120] : Fin 2 → ℕ) a := by
    decide +kernel
  exact ⟨funext fun a => (e t a).1, funext fun a => (e t a).2.1, funext fun a => (e t a).2.2⟩

/-- A row of the tile of the codes inside the array is the row of the array, whatever fills the rest. -/
theorem row0 (c : Dev nD) (t : Fin (cfgM m).N) (d) (r : Fin 192) (i : Fin 5520) (h : (i : ℕ) = t.val * 192 + r) :
    (fun k : Fin 5120 => ((cfgM m).win 0).fill ((cfgM m).grid.coords t) d (iblk m c 0 t) (ix2 r k)) = fun k => m ((c : Thread nD τ).loc main_arg1) (ix2 i k) := by
  funext k
  have hm : ((cfgM m).win 0).moved ((cfgM m).grid.coords t) (ix2 r k) = true := by
    refine (((cfgM m).win 0).moved_iff _ _).mpr fun a => ?_
    show _ < ((cfgM m).win 0).xsize (grid0.coords t) a
    rw [(ext m t).1]
    match a with
    | ⟨0, _⟩ => show (r : ℕ) < min 192 (5520 - t.val * 192); omega
    | ⟨1, _⟩ => exact k.isLt
  unfold Pipeline.Window.fill
  rw [dif_pos hm]
  blk_ext [iblk, V, idx m t]

/-- A row of the tile of the row scales inside the array is the row of the array, whatever fills the rest. -/
theorem row1 (c : Dev nD) (t : Fin (cfgM m).N) (d) (r : Fin 192) (i : Fin 5520) (h : (i : ℕ) = t.val * 192 + r) :
    ((cfgM m).win 1).fill ((cfgM m).grid.coords t) d (iblk m c 1 t) (ix2 r (0 : Fin 1)) = m ((c : Thread nD τ).loc main_arg2) (ix2 i (0 : Fin 1)) := by
  skip
  have hm : ((cfgM m).win 1).moved ((cfgM m).grid.coords t) (ix2 r (0 : Fin 1)) = true := by
    refine (((cfgM m).win 1).moved_iff _ _).mpr fun a => ?_
    show _ < ((cfgM m).win 1).xsize (grid0.coords t) a
    rw [(ext m t).2.1]
    match a with
    | ⟨0, _⟩ => show (r : ℕ) < min 192 (5520 - t.val * 192); omega
    | ⟨1, _⟩ => exact Nat.zero_lt_one
  unfold Pipeline.Window.fill
  rw [dif_pos hm]
  blk_ext [iblk, V, idx m t]

/-- A row of the tile of the residual stream inside the array is the row of the array, whatever fills the rest. -/
theorem row4 (c : Dev nD) (t : Fin (cfgM m).N) (d) (r : Fin 192) (i : Fin 5520) (h : (i : ℕ) = t.val * 192 + r) :
    (fun k : Fin 5120 => ((cfgM m).win 4).fill ((cfgM m).grid.coords t) d (iblk m c 4 t) (ix2 r k)) = fun k => m ((c : Thread nD τ).loc main_arg5) (ix2 i k) := by
  funext k
  have hm : ((cfgM m).win 4).moved ((cfgM m).grid.coords t) (ix2 r k) = true := by
    refine (((cfgM m).win 4).moved_iff _ _).mpr fun a => ?_
    show _ < ((cfgM m).win 4).xsize (grid0.coords t) a
    rw [(ext m t).2.2]
    match a with
    | ⟨0, _⟩ => show (r : ℕ) < min 192 (5520 - t.val * 192); omega
    | ⟨1, _⟩ => exact k.isLt
  unfold Pipeline.Window.fill
  rw [dif_pos hm]
  blk_ext [iblk, V, idx m t]

/-- The weights' block is the weights. -/
theorem row2 (c : Dev nD) (t : Fin (cfgM m).N) :
    (fun (j k : Fin 5120) => iblk m c 2 t (ix2 j k)) = fun (j k : Fin 5120) => m ((c : Thread nD τ).loc main_arg3) (ix2 j k) := by
  funext j k
  blk_ext [iblk, V, idx m t]

/-- The block of the action table is the table. -/
theorem row7 (c : Dev nD) (t : Fin (cfgM m).N) (j : Fin 8) (k : Fin 5120) :
    iblk m c 7 t (ix2 j k) = m ((c : Thread nD τ).loc main_arg8) (ix2 j k) := by
  blk_ext [iblk, V, idx m t]

/-- The block of the weights' scales is the whole of it. -/
theorem row3 (c : Dev nD) (t : Fin (cfgM m).N) :
    (fun k : Fin 5120 => iblk m c 3 t (ix2 (0 : Fin 1) k)) = fun k => m ((c : Thread nD τ).loc main_arg4) (ix2 (0 : Fin 1) k) := by
  funext k
  blk_ext [iblk, V, idx m t]

/-- The block of the gain is the whole of it. -/
theorem row5 (c : Dev nD) (t : Fin (cfgM m).N) :
    (fun k : Fin 5120 => iblk m c 5 t (ix2 (0 : Fin 1) k)) = fun k => m ((c : Thread nD τ).loc main_arg6) (ix2 (0 : Fin 1) k) := by
  funext k
  blk_ext [iblk, V, idx m t]

/-- The block of the shift is the whole of it. -/
theorem row6 (c : Dev nD) (t : Fin (cfgM m).N) :
    (fun k : Fin 5120 => iblk m c 6 t (ix2 (0 : Fin 1) k)) = fun k => m ((c : Thread nD τ).loc main_arg7) (ix2 (0 : Fin 1) k) := by
  funext k
  blk_ext [iblk, V, idx m t]

/-- The stores and loads start at the origin. -/
theorem hz : (![0, 0] : Fin 2 → Nat) = fun _ => 0 := funext fun a => by fin_cases a <;> rfl

/-- Every core's ids are the table's. -/
theorem T0_eq (c : Dev nD) : T0 m = m ((c : Thread nD τ).loc main_arg0) := by
  obtain rfl : c = 0 := Subsingleton.elim _ _; rfl

section
variable (T : Vec Ideal S6 .i32) (hT : ∀ x, (T x : BitVec 32).toNat < 8)
  (x0 : Vec Ideal S192x5120 .fp8e4m3) (x1 : Vec Ideal S192x1 .f32) (x2 : Vec Ideal S5120x5120 .fp8e4m3) (x3 : Vec Ideal S1x5120 .f32)
  (x4 : Vec Ideal S192x5120 .bf16) (x5 x6 : Vec Ideal S1x5120 .f32) (x7 : Vec Ideal S8x5120 .f32)

/-- Output window 8's buffer without the loads and the store. -/
theorem out8_eq : out0_8 (F := Ideal) x0 x1 x2 x3 x4 = k0_pay3 (F := Ideal) x4 x0 x2 x1 x3 := by
  unfold out0_8
  rw [View.canon_unit_zero hz, View.ld_unit_zero (S := S192x5120) hz _ x4, View.ld_unit_zero (S := S192x5120) hz _ x0,
    View.ld_unit_zero (S := S5120x5120) hz _ x2, View.ld_unit_zero (S := S192x1) hz _ x1, View.ld_unit_zero (S := S1x5120) hz _ x3]

/-- The normalised rows with the action rows added, at a row inside the array. -/
theorem mid_at (t : Fin grid0.N) (h : k0_chk1 (wd1 T (grid0.coords t)) ∧ k0_chk2 (wd2 T (grid0.coords t)))
    (r : Fin 192) (i : Fin 5520) (hi : i.val = t.val * 192 + r.val) (k : Fin 5120) :
    (mid (F := Ideal) T (grid0.coords t) h x0 x1 x2 x3 x4 x5 x6 x7 (ix2 r k) : EReal)
      = Rows.ln (Rows.res (fun k => x4 (ix2 r k)) (fun k => x0 (ix2 r k)) (x1 (ix2 r 0)) (fun j k => x2 (ix2 j k)) (fun k => x3 (ix2 0 k)))
          (fun k => x5 (ix2 0 k)) (fun k => x6 (ix2 0 k)) k + x7 (ix2 (Table.sel T hT i) k) := by
  unfold mid
  rw [View.ld_unit_zero (S := S192x5120) hz _ x4, View.ld_unit_zero (S := S192x5120) hz _ x0, View.ld_unit_zero (S := S5120x5120) hz _ x2,
    View.ld_unit_zero (S := S192x1) hz _ x1, View.ld_unit_zero (S := S1x5120) hz _ x3, View.ld_unit_zero (S := S1x5120) hz _ x5,
    View.ld_unit_zero (S := S1x5120) hz _ x6]
  refine (RowValue.pay4_at _ _ _ _ _ _ _ r k).trans (congrArg₂ (fun p q : EReal => p + q) ?_ (Table.act_at T hT x7 t h r i hi k))
  rw [show (fun k => k0_pay3 (F := Ideal) x4 x0 x2 x1 x3 (ix2 r k)) = _ from funext fun k => RowValue.pay3_at x4 x0 x2 x1 x3 r k]

/-- Output window 9's buffer without its store. -/
theorem out9_eq (i : grid0.Coords) (h : k0_chk1 (wd1 T i) ∧ k0_chk2 (wd2 T i)) :
    out0_9 (F := Ideal) T i h x0 x1 x2 x3 x4 x5 x6 x7 = k0_pay2 (F := Ideal) (mid (F := Ideal) T i h x0 x1 x2 x3 x4 x5 x6 x7) := by
  unfold out0_9
  rw [View.canon_unit_zero hz]

/-- Output window 10's buffer without its store. -/
theorem out10_eq (i : grid0.Coords) (h : k0_chk1 (wd1 T i) ∧ k0_chk2 (wd2 T i)) :
    out0_10 (F := Ideal) T i h x0 x1 x2 x3 x4 x5 x6 x7 = k0_pay1 (F := Ideal) (mid (F := Ideal) T i h x0 x1 x2 x3 x4 x5 x6 x7) := by
  unfold out0_10
  rw [View.canon_unit_zero hz]

end

variable (hok : Ok (F := Ideal) (T0 m)) (hT : ∀ x, (T0 m x : BitVec 32).toNat < 8)

include hT in
/-- A row inside the array of what is quantised is the reference's row, whatever lies in the rows outside. -/
theorem mid_row (c : Dev nD) (t : Fin (cfgM m).N) (d0 d1 d4) (r : Fin 192) (i : Fin 5520) (h : (i : ℕ) = t.val * 192 + r) :
    (fun k : Fin 5120 => (mid (F := Ideal) (T0 m) (grid0.coords t) (hok _) (((cfgM m).win 0).fill ((cfgM m).grid.coords t) d0 (iblk m c 0 t)) (((cfgM m).win 1).fill ((cfgM m).grid.coords t) d1 (iblk m c 1 t)) (iblk m c 2 t) (iblk m c 3 t) (((cfgM m).win 4).fill ((cfgM m).grid.coords t) d4 (iblk m c 4 t)) (iblk m c 5 t) (iblk m c 6 t) (iblk m c 7 t) (ix2 r k) : EReal))
      = fun k => (Cert.RefOprojSIdeal.Arrays.N (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 i k) + Cert.RefOprojSIdeal.Table.acts (m ((c : Thread nD τ).loc main_arg0)) (m ((c : Thread nD τ).loc main_arg8)) (ix2 i k) : EReal) := by
  funext k
  refine (mid_at (T0 m) hT _ _ _ _ _ _ _ _ t _ r i h k).trans (congrArg₂ (fun p q : EReal => p + q) ?_ ?_)
  · unfold Cert.RefOprojSIdeal.Arrays.N
    refine Eq.trans ?_ (Cert.RefOprojSIdeal.RowValue.pay5_at _ _ _ _ _ _ _ i k).symm
    rw [row0 m c t d0 r i h, row1 m c t d1 r i h, row4 m c t d4 r i h, row2 m c t, row3 m c t, row5 m c t, row6 m c t]
  · refine (row7 m c t _ k).trans ?_
    have hq : ((m ((c : Thread nD τ).loc main_arg0) : Vec Ideal S6 .i32) (ix1 (Table.gid i)) : BitVec 32).toNat < 8 := T0_eq m c ▸ hT _
    refine Eq.trans ?_ (Cert.RefOprojSIdeal.Table.acts_at _ _ i k (Table.gid i) rfl hq).symm
    refine congrArg (fun z : Fin 8 => m ((c : Thread nD τ).loc main_arg8) (ix2 z k)) (Fin.ext ?_)
    exact congrArg (fun T : Vec Ideal S6 .i32 => (T (ix1 (Table.gid i)) : BitVec 32).toNat) (T0_eq m c)

/-- Output window 8's buffer on a row inside the array is the reference's row, whatever lies in the rows outside. -/
theorem at8 (c : Dev nD) (t : Fin (cfgM m).N) (d0 d1 d4) (y : S192x5120.Idx) (j : Cert.RefOprojSIdeal.S5520x5120.Idx) (h0 : (j 0 : ℕ) = t.val * 192 + y 0) (h1 : (j 1 : ℕ) = y 1) :
    out0_8 (F := Ideal) (((cfgM m).win 0).fill ((cfgM m).grid.coords t) d0 (iblk m c 0 t)) (((cfgM m).win 1).fill ((cfgM m).grid.coords t) d1 (iblk m c 1 t)) (iblk m c 2 t) (iblk m c 3 t) (((cfgM m).win 4).fill ((cfgM m).grid.coords t) d4 (iblk m c 4 t)) y
      = Cert.RefOprojSIdeal.Arrays.G8 (m ((c : Thread nD τ).loc main_arg1)) (m ((c : Thread nD τ).loc main_arg2)) (m ((c : Thread nD τ).loc main_arg3)) (m ((c : Thread nD τ).loc main_arg4)) (m ((c : Thread nD τ).loc main_arg5)) j := by
  have hj : j = ix2 (j 0 : Fin 5520) (y 1 : Fin 5120) := by blk_ext
  have hy : y = ix2 (y 0 : Fin 192) (y 1 : Fin 5120) := by blk_ext
  refine ((congrFun (out8_eq _ _ _ _ _) y).trans (congrArg _ hy)).trans (Eq.trans ?_ (congrArg _ hj).symm)
  refine (RowValue.pay3_at _ _ _ _ _ (y 0) (y 1)).trans (Eq.trans ?_ (Cert.RefOprojSIdeal.RowValue.pay4_at _ _ _ _ _ (j 0) (y 1)).symm)
  rw [row0 m c t d0 (y 0) (j 0) h0, row1 m c t d1 (y 0) (j 0) h0, row4 m c t d4 (y 0) (j 0) h0, row2 m c t, row3 m c t]

/-- The same at an index of the part of the buffer that is written back. -/
theorem cut8 (c : Dev nD) (t : Fin (cfgM m).N) (d0 d1 d4) (y : (((cfgM m).win 8).xblock ((cfgM m).grid.coords t)).Idx) :
    out0_8 (F := Ideal) (((cfgM m).win 0).fill ((cfgM m).grid.coords t) d0 (iblk m c 0 t)) (((cfgM m).win 1).fill ((cfgM m).grid.coords t) d1 (iblk m c 1 t)) (iblk m c 2 t) (iblk m c 3 t) (((cfgM m).win 4).fill ((cfgM m).grid.coords t) d4 (iblk m c 4 t)) (((cfgM m).win 8).xinj ((cfgM m).grid.coords t) y)
      = Cert.RefOprojSIdeal.Arrays.G8 (m ((c : Thread nD τ).loc main_arg1)) (m ((c : Thread nD τ).loc main_arg2)) (m ((c : Thread nD τ).loc main_arg3)) (m ((c : Thread nD τ).loc main_arg4)) (m ((c : Thread nD τ).loc main_arg5)) ((((cfgM m).win 8).blk t).view.emb y) := by
  refine at8 m c t d0 d1 d4 _ _ ?_ ?_
  · have e : ((cfgM m).win 8).index t (0 : Fin 2) = t.val := congrFun (idx0 m t).2.2.2.2.2.2.2.2.1 (0 : Fin 2)
    blk_simp []
    rw [e]
  · have e : ((cfgM m).win 8).index t (1 : Fin 2) = 0 := congrFun (idx0 m t).2.2.2.2.2.2.2.2.1 (1 : Fin 2)
    blk_simp []
    rw [e, Nat.zero_mul, Nat.zero_add]

/-- What is written back does not depend on the rows outside. -/
theorem hrow8 (c : Dev nD) (t : Fin (cfgM m).N) (d0 d1 d4) :
    ((cfgM m).win 8).cut ((cfgM m).grid.coords t) (out0_8 (F := Ideal) (((cfgM m).win 0).fill ((cfgM m).grid.coords t) d0 (iblk m c 0 t)) (((cfgM m).win 1).fill ((cfgM m).grid.coords t) d1 (iblk m c 1 t)) (iblk m c 2 t) (iblk m c 3 t) (((cfgM m).win 4).fill ((cfgM m).grid.coords t) d4 (iblk m c 4 t)))
      = ((cfgM m).win 8).cut ((cfgM m).grid.coords t) (out0_8 (F := Ideal) (X0 m c t) (X1 m c t) (iblk m c 2 t) (iblk m c 3 t) (X4 m c t)) := by
  funext y
  exact (cut8 m c t d0 d1 d4 y).trans (cut8 m c t _ _ _ y).symm

/-- So the buffer holds what the proof data say, with something in the rows outside. -/
theorem give8 (c : Dev nD) (t : Fin (cfgM m).N) (d0 d1 d4) :
    (owns (c : Thread nD τ) (st0_8 m t) fullShare (out0_8 (F := Ideal) (((cfgM m).win 0).fill ((cfgM m).grid.coords t) d0 (iblk m c 0 t)) (((cfgM m).win 1).fill ((cfgM m).grid.coords t) d1 (iblk m c 1 t)) (iblk m c 2 t) (iblk m c 3 t) (((cfgM m).win 4).fill ((cfgM m).grid.coords t) d4 (iblk m c 4 t))) : sProp 𝕄)
      ⊢ iprop(∃ d, owns (c : Thread nD τ) (st0_8 m t) fullShare (((cfgM m).win 8).fill ((cfgM m).grid.coords t) d (((cfgM m).win 8).cut ((cfgM m).grid.coords t) (out0_8 (F := Ideal) (X0 m c t) (X1 m c t) (iblk m c 2 t) (iblk m c 3 t) (X4 m c t))))) := by
  refine exists_intro_trans (Ψ := fun d => (owns (c : Thread nD τ) (st0_8 m t) fullShare (((cfgM m).win 8).fill ((cfgM m).grid.coords t) d (((cfgM m).win 8).cut ((cfgM m).grid.coords t) (out0_8 (F := Ideal) (X0 m c t) (X1 m c t) (iblk m c 2 t) (iblk m c 3 t) (X4 m c t)))) : sProp 𝕄)) (out0_8 (F := Ideal) (((cfgM m).win 0).fill ((cfgM m).grid.coords t) d0 (iblk m c 0 t)) (((cfgM m).win 1).fill ((cfgM m).grid.coords t) d1 (iblk m c 1 t)) (iblk m c 2 t) (iblk m c 3 t) (((cfgM m).win 4).fill ((cfgM m).grid.coords t) d4 (iblk m c 4 t))) ?_
  have e : ((cfgM m).win 8).fill ((cfgM m).grid.coords t) (out0_8 (F := Ideal) (((cfgM m).win 0).fill ((cfgM m).grid.coords t) d0 (iblk m c 0 t)) (((cfgM m).win 1).fill ((cfgM m).grid.coords t) d1 (iblk m c 1 t)) (iblk m c 2 t) (iblk m c 3 t) (((cfgM m).win 4).fill ((cfgM m).grid.coords t) d4 (iblk m c 4 t))) (((cfgM m).win 8).cut ((cfgM m).grid.coords t) (out0_8 (F := Ideal) (X0 m c t) (X1 m c t) (iblk m c 2 t) (iblk m c 3 t) (X4 m c t))) = out0_8 (F := Ideal) (((cfgM m).win 0).fill ((cfgM m).grid.coords t) d0 (iblk m c 0 t)) (((cfgM m).win 1).fill ((cfgM m).grid.coords t) d1 (iblk m c 1 t)) (iblk m c 2 t) (iblk m c 3 t) (((cfgM m).win 4).fill ((cfgM m).grid.coords t) d4 (iblk m c 4 t)) :=
    (congrArg (((cfgM m).win 8).fill ((cfgM m).grid.coords t) (out0_8 (F := Ideal) (((cfgM m).win 0).fill ((cfgM m).grid.coords t) d0 (iblk m c 0 t)) (((cfgM m).win 1).fill ((cfgM m).grid.coords t) d1 (iblk m c 1 t)) (iblk m c 2 t) (iblk m c 3 t) (((cfgM m).win 4).fill ((cfgM m).grid.coords t) d4 (iblk m c 4 t)))) (hrow8 m c t d0 d1 d4).symm).trans (((cfgM m).win 8).fill_cut _ _)
  exact Entails.of_eq (congrArg (fun X => (owns (c : Thread nD τ) (st0_8 m t) fullShare X : sProp 𝕄)) e.symm)

include hT in
/-- Output window 9's buffer on a row inside the array is the reference's row, whatever lies in the rows outside. -/
theorem at9 (c : Dev nD) (t : Fin (cfgM m).N) (d0 d1 d4) (y : S192x5120.Idx) (j : Cert.RefOprojSIdeal.S5520x5120.Idx) (h0 : (j 0 : ℕ) = t.val * 192 + y 0) (h1 : (j 1 : ℕ) = y 1) :
    out0_9 (F := Ideal) (T0 m) (grid0.coords t) (hok _) (((cfgM m).win 0).fill ((cfgM m).grid.coords t) d0 (iblk m c 0 t)) (((cfgM m).win 1).fill ((cfgM m).grid.coords t) d1 (iblk m c 1 t)) (iblk m c 2 t) (iblk m c 3 t) (((cfgM m).win 4).fill ((cfgM m).grid.coords t) d4 (iblk m c 4 t)) (iblk m c 5 t) (iblk m c 6 t) (iblk m c 7 t) y
      = Cert.RefOprojSIdeal.Arrays.G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) j := by
  have hj : j = ix2 (j 0 : Fin 5520) (y 1 : Fin 5120) := by blk_ext
  have hy : y = ix2 (y 0 : Fin 192) (y 1 : Fin 5120) := by blk_ext
  refine ((congrFun (out9_eq (T0 m) _ _ _ _ _ _ _ _ (grid0.coords t) (hok _)) y).trans (congrArg _ hy)).trans (Eq.trans ?_ (congrArg _ hj).symm)
  refine (RowValue.code_at _ (y 0) (y 1)).trans (Eq.trans ?_ (Cert.RefOprojSIdeal.RowValue.code_at _ _ (j 0) (y 1)).symm)
  have e := mid_row m hok hT c t d0 d1 d4 (y 0) (j 0) h0
  exact congrArg₂ (fun (p : EReal) (q : Fin 5120 → EReal) => Rows.quant p (Rows.scale 0x43E00000#32 (Rows.amax q))) (congrFun e (y 1)) e

include hT in
/-- The same at an index of the part of the buffer that is written back. -/
theorem cut9 (c : Dev nD) (t : Fin (cfgM m).N) (d0 d1 d4) (y : (((cfgM m).win 9).xblock ((cfgM m).grid.coords t)).Idx) :
    out0_9 (F := Ideal) (T0 m) (grid0.coords t) (hok _) (((cfgM m).win 0).fill ((cfgM m).grid.coords t) d0 (iblk m c 0 t)) (((cfgM m).win 1).fill ((cfgM m).grid.coords t) d1 (iblk m c 1 t)) (iblk m c 2 t) (iblk m c 3 t) (((cfgM m).win 4).fill ((cfgM m).grid.coords t) d4 (iblk m c 4 t)) (iblk m c 5 t) (iblk m c 6 t) (iblk m c 7 t) (((cfgM m).win 9).xinj ((cfgM m).grid.coords t) y)
      = Cert.RefOprojSIdeal.Arrays.G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) ((((cfgM m).win 9).blk t).view.emb y) := by
  refine at9 m hok hT c t d0 d1 d4 _ _ ?_ ?_
  · have e : ((cfgM m).win 9).index t (0 : Fin 2) = t.val := congrFun (idx0 m t).2.2.2.2.2.2.2.2.2.1 (0 : Fin 2)
    blk_simp []
    rw [e]
  · have e : ((cfgM m).win 9).index t (1 : Fin 2) = 0 := congrFun (idx0 m t).2.2.2.2.2.2.2.2.2.1 (1 : Fin 2)
    blk_simp []
    rw [e, Nat.zero_mul, Nat.zero_add]

include hT in
/-- What is written back does not depend on the rows outside. -/
theorem hrow9 (c : Dev nD) (t : Fin (cfgM m).N) (d0 d1 d4) :
    ((cfgM m).win 9).cut ((cfgM m).grid.coords t) (out0_9 (F := Ideal) (T0 m) (grid0.coords t) (hok _) (((cfgM m).win 0).fill ((cfgM m).grid.coords t) d0 (iblk m c 0 t)) (((cfgM m).win 1).fill ((cfgM m).grid.coords t) d1 (iblk m c 1 t)) (iblk m c 2 t) (iblk m c 3 t) (((cfgM m).win 4).fill ((cfgM m).grid.coords t) d4 (iblk m c 4 t)) (iblk m c 5 t) (iblk m c 6 t) (iblk m c 7 t))
      = ((cfgM m).win 9).cut ((cfgM m).grid.coords t) (out0_9 (F := Ideal) (T0 m) (grid0.coords t) (hok _) (X0 m c t) (X1 m c t) (iblk m c 2 t) (iblk m c 3 t) (X4 m c t) (iblk m c 5 t) (iblk m c 6 t) (iblk m c 7 t)) := by
  funext y
  exact (cut9 m hok hT c t d0 d1 d4 y).trans (cut9 m hok hT c t _ _ _ y).symm

include hT in
/-- So the buffer holds what the proof data say, with something in the rows outside. -/
theorem give9 (c : Dev nD) (t : Fin (cfgM m).N) (d0 d1 d4) :
    (owns (c : Thread nD τ) (st0_9 m t) fullShare (out0_9 (F := Ideal) (T0 m) (grid0.coords t) (hok _) (((cfgM m).win 0).fill ((cfgM m).grid.coords t) d0 (iblk m c 0 t)) (((cfgM m).win 1).fill ((cfgM m).grid.coords t) d1 (iblk m c 1 t)) (iblk m c 2 t) (iblk m c 3 t) (((cfgM m).win 4).fill ((cfgM m).grid.coords t) d4 (iblk m c 4 t)) (iblk m c 5 t) (iblk m c 6 t) (iblk m c 7 t)) : sProp 𝕄)
      ⊢ iprop(∃ d, owns (c : Thread nD τ) (st0_9 m t) fullShare (((cfgM m).win 9).fill ((cfgM m).grid.coords t) d (((cfgM m).win 9).cut ((cfgM m).grid.coords t) (out0_9 (F := Ideal) (T0 m) (grid0.coords t) (hok _) (X0 m c t) (X1 m c t) (iblk m c 2 t) (iblk m c 3 t) (X4 m c t) (iblk m c 5 t) (iblk m c 6 t) (iblk m c 7 t))))) := by
  refine exists_intro_trans (Ψ := fun d => (owns (c : Thread nD τ) (st0_9 m t) fullShare (((cfgM m).win 9).fill ((cfgM m).grid.coords t) d (((cfgM m).win 9).cut ((cfgM m).grid.coords t) (out0_9 (F := Ideal) (T0 m) (grid0.coords t) (hok _) (X0 m c t) (X1 m c t) (iblk m c 2 t) (iblk m c 3 t) (X4 m c t) (iblk m c 5 t) (iblk m c 6 t) (iblk m c 7 t)))) : sProp 𝕄)) (out0_9 (F := Ideal) (T0 m) (grid0.coords t) (hok _) (((cfgM m).win 0).fill ((cfgM m).grid.coords t) d0 (iblk m c 0 t)) (((cfgM m).win 1).fill ((cfgM m).grid.coords t) d1 (iblk m c 1 t)) (iblk m c 2 t) (iblk m c 3 t) (((cfgM m).win 4).fill ((cfgM m).grid.coords t) d4 (iblk m c 4 t)) (iblk m c 5 t) (iblk m c 6 t) (iblk m c 7 t)) ?_
  have e : ((cfgM m).win 9).fill ((cfgM m).grid.coords t) (out0_9 (F := Ideal) (T0 m) (grid0.coords t) (hok _) (((cfgM m).win 0).fill ((cfgM m).grid.coords t) d0 (iblk m c 0 t)) (((cfgM m).win 1).fill ((cfgM m).grid.coords t) d1 (iblk m c 1 t)) (iblk m c 2 t) (iblk m c 3 t) (((cfgM m).win 4).fill ((cfgM m).grid.coords t) d4 (iblk m c 4 t)) (iblk m c 5 t) (iblk m c 6 t) (iblk m c 7 t)) (((cfgM m).win 9).cut ((cfgM m).grid.coords t) (out0_9 (F := Ideal) (T0 m) (grid0.coords t) (hok _) (X0 m c t) (X1 m c t) (iblk m c 2 t) (iblk m c 3 t) (X4 m c t) (iblk m c 5 t) (iblk m c 6 t) (iblk m c 7 t))) = out0_9 (F := Ideal) (T0 m) (grid0.coords t) (hok _) (((cfgM m).win 0).fill ((cfgM m).grid.coords t) d0 (iblk m c 0 t)) (((cfgM m).win 1).fill ((cfgM m).grid.coords t) d1 (iblk m c 1 t)) (iblk m c 2 t) (iblk m c 3 t) (((cfgM m).win 4).fill ((cfgM m).grid.coords t) d4 (iblk m c 4 t)) (iblk m c 5 t) (iblk m c 6 t) (iblk m c 7 t) :=
    (congrArg (((cfgM m).win 9).fill ((cfgM m).grid.coords t) (out0_9 (F := Ideal) (T0 m) (grid0.coords t) (hok _) (((cfgM m).win 0).fill ((cfgM m).grid.coords t) d0 (iblk m c 0 t)) (((cfgM m).win 1).fill ((cfgM m).grid.coords t) d1 (iblk m c 1 t)) (iblk m c 2 t) (iblk m c 3 t) (((cfgM m).win 4).fill ((cfgM m).grid.coords t) d4 (iblk m c 4 t)) (iblk m c 5 t) (iblk m c 6 t) (iblk m c 7 t))) (hrow9 m hok hT c t d0 d1 d4).symm).trans (((cfgM m).win 9).fill_cut _ _)
  exact Entails.of_eq (congrArg (fun X => (owns (c : Thread nD τ) (st0_9 m t) fullShare X : sProp 𝕄)) e.symm)

include hT in
/-- Output window 10's buffer on a row inside the array is the reference's row, whatever lies in the rows outside. -/
theorem at10 (c : Dev nD) (t : Fin (cfgM m).N) (d0 d1 d4) (y : S192x1.Idx) (j : Cert.RefOprojSIdeal.S5520x1.Idx) (h0 : (j 0 : ℕ) = t.val * 192 + y 0) :
    out0_10 (F := Ideal) (T0 m) (grid0.coords t) (hok _) (((cfgM m).win 0).fill ((cfgM m).grid.coords t) d0 (iblk m c 0 t)) (((cfgM m).win 1).fill ((cfgM m).grid.coords t) d1 (iblk m c 1 t)) (iblk m c 2 t) (iblk m c 3 t) (((cfgM m).win 4).fill ((cfgM m).grid.coords t) d4 (iblk m c 4 t)) (iblk m c 5 t) (iblk m c 6 t) (iblk m c 7 t) y
      = Cert.RefOprojSIdeal.Arrays.G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) j := by
  have hj : j = ix2 (j 0 : Fin 5520) (j 1 : Fin 1) := by blk_ext
  have hy : y = ix2 (y 0 : Fin 192) (y 1 : Fin 1) := by blk_ext
  refine ((congrFun (out10_eq (T0 m) _ _ _ _ _ _ _ _ (grid0.coords t) (hok _)) y).trans (congrArg _ hy)).trans (Eq.trans ?_ (congrArg _ hj).symm)
  refine (RowValue.scale_at _ (y 0) (y 1)).trans (Eq.trans ?_ (Cert.RefOprojSIdeal.RowValue.scale_at _ _ (j 0) (j 1)).symm)
  have e := mid_row m hok hT c t d0 d1 d4 (y 0) (j 0) h0
  exact congrArg (fun q : Fin 5120 → EReal => Rows.scale 0x43E00000#32 (Rows.amax q)) e

include hT in
/-- The same at an index of the part of the buffer that is written back. -/
theorem cut10 (c : Dev nD) (t : Fin (cfgM m).N) (d0 d1 d4) (y : (((cfgM m).win 10).xblock ((cfgM m).grid.coords t)).Idx) :
    out0_10 (F := Ideal) (T0 m) (grid0.coords t) (hok _) (((cfgM m).win 0).fill ((cfgM m).grid.coords t) d0 (iblk m c 0 t)) (((cfgM m).win 1).fill ((cfgM m).grid.coords t) d1 (iblk m c 1 t)) (iblk m c 2 t) (iblk m c 3 t) (((cfgM m).win 4).fill ((cfgM m).grid.coords t) d4 (iblk m c 4 t)) (iblk m c 5 t) (iblk m c 6 t) (iblk m c 7 t) (((cfgM m).win 10).xinj ((cfgM m).grid.coords t) y)
      = Cert.RefOprojSIdeal.Arrays.G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) ((((cfgM m).win 10).blk t).view.emb y) := by
  refine at10 m hok hT c t d0 d1 d4 _ _ ?_
  · have e : ((cfgM m).win 10).index t (0 : Fin 2) = t.val := congrFun (idx0 m t).2.2.2.2.2.2.2.2.2.2 (0 : Fin 2)
    blk_simp []
    rw [e]

include hT in
/-- What is written back does not depend on the rows outside. -/
theorem hrow10 (c : Dev nD) (t : Fin (cfgM m).N) (d0 d1 d4) :
    ((cfgM m).win 10).cut ((cfgM m).grid.coords t) (out0_10 (F := Ideal) (T0 m) (grid0.coords t) (hok _) (((cfgM m).win 0).fill ((cfgM m).grid.coords t) d0 (iblk m c 0 t)) (((cfgM m).win 1).fill ((cfgM m).grid.coords t) d1 (iblk m c 1 t)) (iblk m c 2 t) (iblk m c 3 t) (((cfgM m).win 4).fill ((cfgM m).grid.coords t) d4 (iblk m c 4 t)) (iblk m c 5 t) (iblk m c 6 t) (iblk m c 7 t))
      = ((cfgM m).win 10).cut ((cfgM m).grid.coords t) (out0_10 (F := Ideal) (T0 m) (grid0.coords t) (hok _) (X0 m c t) (X1 m c t) (iblk m c 2 t) (iblk m c 3 t) (X4 m c t) (iblk m c 5 t) (iblk m c 6 t) (iblk m c 7 t)) := by
  funext y
  exact (cut10 m hok hT c t d0 d1 d4 y).trans (cut10 m hok hT c t _ _ _ y).symm

include hT in
/-- So the buffer holds what the proof data say, with something in the rows outside. -/
theorem give10 (c : Dev nD) (t : Fin (cfgM m).N) (d0 d1 d4) :
    (owns (c : Thread nD τ) (st0_10 m t) fullShare (out0_10 (F := Ideal) (T0 m) (grid0.coords t) (hok _) (((cfgM m).win 0).fill ((cfgM m).grid.coords t) d0 (iblk m c 0 t)) (((cfgM m).win 1).fill ((cfgM m).grid.coords t) d1 (iblk m c 1 t)) (iblk m c 2 t) (iblk m c 3 t) (((cfgM m).win 4).fill ((cfgM m).grid.coords t) d4 (iblk m c 4 t)) (iblk m c 5 t) (iblk m c 6 t) (iblk m c 7 t)) : sProp 𝕄)
      ⊢ iprop(∃ d, owns (c : Thread nD τ) (st0_10 m t) fullShare (((cfgM m).win 10).fill ((cfgM m).grid.coords t) d (((cfgM m).win 10).cut ((cfgM m).grid.coords t) (out0_10 (F := Ideal) (T0 m) (grid0.coords t) (hok _) (X0 m c t) (X1 m c t) (iblk m c 2 t) (iblk m c 3 t) (X4 m c t) (iblk m c 5 t) (iblk m c 6 t) (iblk m c 7 t))))) := by
  refine exists_intro_trans (Ψ := fun d => (owns (c : Thread nD τ) (st0_10 m t) fullShare (((cfgM m).win 10).fill ((cfgM m).grid.coords t) d (((cfgM m).win 10).cut ((cfgM m).grid.coords t) (out0_10 (F := Ideal) (T0 m) (grid0.coords t) (hok _) (X0 m c t) (X1 m c t) (iblk m c 2 t) (iblk m c 3 t) (X4 m c t) (iblk m c 5 t) (iblk m c 6 t) (iblk m c 7 t)))) : sProp 𝕄)) (out0_10 (F := Ideal) (T0 m) (grid0.coords t) (hok _) (((cfgM m).win 0).fill ((cfgM m).grid.coords t) d0 (iblk m c 0 t)) (((cfgM m).win 1).fill ((cfgM m).grid.coords t) d1 (iblk m c 1 t)) (iblk m c 2 t) (iblk m c 3 t) (((cfgM m).win 4).fill ((cfgM m).grid.coords t) d4 (iblk m c 4 t)) (iblk m c 5 t) (iblk m c 6 t) (iblk m c 7 t)) ?_
  have e : ((cfgM m).win 10).fill ((cfgM m).grid.coords t) (out0_10 (F := Ideal) (T0 m) (grid0.coords t) (hok _) (((cfgM m).win 0).fill ((cfgM m).grid.coords t) d0 (iblk m c 0 t)) (((cfgM m).win 1).fill ((cfgM m).grid.coords t) d1 (iblk m c 1 t)) (iblk m c 2 t) (iblk m c 3 t) (((cfgM m).win 4).fill ((cfgM m).grid.coords t) d4 (iblk m c 4 t)) (iblk m c 5 t) (iblk m c 6 t) (iblk m c 7 t)) (((cfgM m).win 10).cut ((cfgM m).grid.coords t) (out0_10 (F := Ideal) (T0 m) (grid0.coords t) (hok _) (X0 m c t) (X1 m c t) (iblk m c 2 t) (iblk m c 3 t) (X4 m c t) (iblk m c 5 t) (iblk m c 6 t) (iblk m c 7 t))) = out0_10 (F := Ideal) (T0 m) (grid0.coords t) (hok _) (((cfgM m).win 0).fill ((cfgM m).grid.coords t) d0 (iblk m c 0 t)) (((cfgM m).win 1).fill ((cfgM m).grid.coords t) d1 (iblk m c 1 t)) (iblk m c 2 t) (iblk m c 3 t) (((cfgM m).win 4).fill ((cfgM m).grid.coords t) d4 (iblk m c 4 t)) (iblk m c 5 t) (iblk m c 6 t) (iblk m c 7 t) :=
    (congrArg (((cfgM m).win 10).fill ((cfgM m).grid.coords t) (out0_10 (F := Ideal) (T0 m) (grid0.coords t) (hok _) (((cfgM m).win 0).fill ((cfgM m).grid.coords t) d0 (iblk m c 0 t)) (((cfgM m).win 1).fill ((cfgM m).grid.coords t) d1 (iblk m c 1 t)) (iblk m c 2 t) (iblk m c 3 t) (((cfgM m).win 4).fill ((cfgM m).grid.coords t) d4 (iblk m c 4 t)) (iblk m c 5 t) (iblk m c 6 t) (iblk m c 7 t))) (hrow10 m hok hT c t d0 d1 d4).symm).trans (((cfgM m).win 10).fill_cut _ _)
  exact Entails.of_eq (congrArg (fun X => (owns (c : Thread nD τ) (st0_10 m t) fullShare X : sProp 𝕄)) e.symm)

include hT in
/-- The body at any point, with what it leaves in the outputs. -/
theorem sound_body (c : Dev nD) (t : Fin (cfgM m).N) :
    iprop((dats m hok 0 c).Φ t.castSucc
    ∗ (dats m hok 0 c).owesAt () t.castSucc
    ∗ (∃ d, owns (c : Thread nD τ) (st0_0 m t) fullShare ((dats m hok 0 c).before 0 t d))
    ∗ (∃ d, owns (c : Thread nD τ) (st0_1 m t) fullShare ((dats m hok 0 c).before 1 t d))
    ∗ (∃ d, owns (c : Thread nD τ) (st0_2 m t) fullShare ((dats m hok 0 c).before 2 t d))
    ∗ (∃ d, owns (c : Thread nD τ) (st0_3 m t) fullShare ((dats m hok 0 c).before 3 t d))
    ∗ (∃ d, owns (c : Thread nD τ) (st0_4 m t) fullShare ((dats m hok 0 c).before 4 t d))
    ∗ (∃ d, owns (c : Thread nD τ) (st0_5 m t) fullShare ((dats m hok 0 c).before 5 t d))
    ∗ (∃ d, owns (c : Thread nD τ) (st0_6 m t) fullShare ((dats m hok 0 c).before 6 t d))
    ∗ (∃ d, owns (c : Thread nD τ) (st0_7 m t) fullShare ((dats m hok 0 c).before 7 t d))
    ∗ (∃ d, owns (c : Thread nD τ) (st0_8 m t) fullShare ((dats m hok 0 c).before 8 t d))
    ∗ (∃ d, owns (c : Thread nD τ) (st0_9 m t) fullShare ((dats m hok 0 c).before 9 t d))
    ∗ (∃ d, owns (c : Thread nD τ) (st0_10 m t) fullShare ((dats m hok 0 c).before 10 t d)))
    ⊢ wp frame (wpE (defs₀ (F := Ideal)) Variants.none c none) Set.univ (bodyAt0 m t) (fun _ =>
    iprop((dats m hok 0 c).Φ t.succ
    ∗ (dats m hok 0 c).owesAt () t.succ
    ∗ (∃ d, owns (c : Thread nD τ) (st0_0 m t) fullShare (((cfgM m).win 0).fill ((cfgM m).grid.coords t) d (((cfgM m).win 0).cut ((cfgM m).grid.coords t) ((dats m hok 0 c).after 0 t))))
    ∗ (∃ d, owns (c : Thread nD τ) (st0_1 m t) fullShare (((cfgM m).win 1).fill ((cfgM m).grid.coords t) d (((cfgM m).win 1).cut ((cfgM m).grid.coords t) ((dats m hok 0 c).after 1 t))))
    ∗ owns (c : Thread nD τ) (st0_2 m t) fullShare ((dats m hok 0 c).after 2 t)
    ∗ owns (c : Thread nD τ) (st0_3 m t) fullShare ((dats m hok 0 c).after 3 t)
    ∗ (∃ d, owns (c : Thread nD τ) (st0_4 m t) fullShare (((cfgM m).win 4).fill ((cfgM m).grid.coords t) d (((cfgM m).win 4).cut ((cfgM m).grid.coords t) ((dats m hok 0 c).after 4 t))))
    ∗ owns (c : Thread nD τ) (st0_5 m t) fullShare ((dats m hok 0 c).after 5 t)
    ∗ owns (c : Thread nD τ) (st0_6 m t) fullShare ((dats m hok 0 c).after 6 t)
    ∗ owns (c : Thread nD τ) (st0_7 m t) fullShare ((dats m hok 0 c).after 7 t)
    ∗ (∃ d, owns (c : Thread nD τ) (st0_8 m t) fullShare (((cfgM m).win 8).fill ((cfgM m).grid.coords t) d (((cfgM m).win 8).cut ((cfgM m).grid.coords t) ((dats m hok 0 c).after 8 t))))
    ∗ (∃ d, owns (c : Thread nD τ) (st0_9 m t) fullShare (((cfgM m).win 9).fill ((cfgM m).grid.coords t) d (((cfgM m).win 9).cut ((cfgM m).grid.coords t) ((dats m hok 0 c).after 9 t))))
    ∗ (∃ d, owns (c : Thread nD τ) (st0_10 m t) fullShare (((cfgM m).win 10).fill ((cfgM m).grid.coords t) d (((cfgM m).win 10).cut ((cfgM m).grid.coords t) ((dats m hok 0 c).after 10 t)))))) := by
  unfold bodyAt0
  simp only [before0_0, before0_1, before0_2, before0_3, before0_4, before0_5, before0_6, before0_7]
  rw [show (dats m hok 0 c).Φ t.succ = iprop(Pipeline.ΦA spec0 c ∗ Pipeline.ΦT pre0 (tbl m) c) from rfl,
    show (dats m hok 0 c).Φ t.castSucc = iprop(Pipeline.ΦA spec0 c ∗ Pipeline.ΦT pre0 (tbl m) c) from rfl,
    show (dats m hok 0 c).owesAt () t.succ = (dats m hok 0 c).owesAt () t.castSucc from rfl,
    after0_0, after0_1, after0_2, after0_3, after0_4, after0_5, after0_6, after0_7, after0_8, after0_9, after0_10, table_eq]
  iintro ⟨⟨HΦ, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ _ _ (T0 m) (hok _) (((cfgM m).win 0).fill ((cfgM m).grid.coords t) d0 (iblk m c 0 t)) (((cfgM m).win 1).fill ((cfgM m).grid.coords t) d1 (iblk m c 1 t)) (iblk m c 2 t) (iblk m c 3 t) (((cfgM m).win 4).fill ((cfgM m).grid.coords t) d4 (iblk m c 4 t)) (iblk m c 5 t) (iblk m c 6 t) (iblk m c 7 t) _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨HT, H0, H1, H2, H3, H4, H5, H6, H7, H8, H9, H10⟩
  isplitl [HΦ HT]
  · isplitl [HΦ]; · iexact HΦ
    iexact HT
  isplitl [Ho]; · iexact Ho
  isplitl [H0]; · iexists d0; rw [show ((cfgM m).win 0).cut ((cfgM m).grid.coords t) (X0 m c t) = iblk m c 0 t from ((cfgM m).win 0).cut_fill _ _ _]; iexact H0
  isplitl [H1]; · iexists d1; rw [show ((cfgM m).win 1).cut ((cfgM m).grid.coords t) (X1 m c t) = iblk m c 1 t from ((cfgM m).win 1).cut_fill _ _ _]; iexact H1
  isplitl [H2]; · iexact H2
  isplitl [H3]; · iexact H3
  isplitl [H4]; · iexists d4; rw [show ((cfgM m).win 4).cut ((cfgM m).grid.coords t) (X4 m c t) = iblk m c 4 t from ((cfgM m).win 4).cut_fill _ _ _]; iexact H4
  isplitl [H5]; · iexact H5
  isplitl [H6]; · iexact H6
  isplitl [H7]; · iexact H7
  isplitl [H8]; · iapply (give8 m c t d0 d1 d4); iexact H8
  isplitl [H9]; · iapply (give9 m hok hT c t d0 d1 d4); iexact H9
  iapply (give10 m hok hT c t d0 d1 d4); iexact H10

include hT in
/-- The body obligation, every output stated on the rows inside its array. -/
theorem obligation (c : Dev nD) : BodyObligationLoose (dats (F := Ideal) m hok 0 c) (defs₀ (F := Ideal)) Variants.none () Set.univ := fun t => by
  rw [bigSep_W0, bigSep_W0, defs₀_row]
  exact triple_restated (sound_body m hok hT c t) rfl .rfl fun _ => .rfl

include hT in
set_option backward.isDefEq.respectTransparency.types false in
set_option maxHeartbeats 800000 in
/-- The run: every array ends as the proof data say. -/
theorem run_main (ρ : Dev nD → PrngReg) : θ_run (defs (F := Ideal)) (onTc (τ := τ) (main (F := Ideal))) (s₀ m ρ)
    (fun r => Pipeline.FramePost (Pipeline.pin pcfgs (fun _ => adm m)) (dats m hok) 0 (V m) r ∧ r.2.sem = fun _ => 0) :=
  Pipeline.θ_run_frameP (Q' := _) pcfgs (fun _ => adm m) (dats m hok) (0 : Fin 1) launch0 defs₀ Variants.none m ρ main
    (hbody := obligation m hok hT) (hshare := fun c => (dats m hok 0 c).share_full fun _ => rfl)
    (howed := fun _ _ => rfl) (V := V m) (hmain := hmain m Variants.none) (hA := A_eq m hok) (hpf := V_pre m) (hΦ := fun _ _ => rfl)

end Cert.OprojSIdeal.TileValue

end
-- ==== Proof.OprojSValue.lean ====
/- The output projection of the spatial attention: the arrays the tiled kernel leaves, the last tile cut at the end of the
   arrays, are the reference's arrays. -/
module

public import proofs.«01_k».proof.Proof.OprojSTile
public import proofs.«01_k».proof.Defs
public import Idealize.ShloMosaic.Lib.Pipeline.ValueKit
public import Idealize.ShloMosaic.Lib.Claim
public import proofs.«01_k».proof.Proof.Gen.RefOprojSIdeal.Value
public import Idealize.ShloMosaic.Lib.Pipeline.FrameBody
public import Idealize.ShloMosaic.Lib.Tactic

@[expose] public section

set_option maxRecDepth 16384

noncomputable section

namespace Cert.OprojSIdeal.TileValue

open Cert.OprojSIdeal Cert.OprojSIdeal.Gen Cert.OprojSIdeal.Body Idealize.ShloMosaic Idealize.ShloMosaic.TcCoe Idealize.SL.Sem
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (hok : Ok (F := Ideal) (T0 m)) (hT : ∀ x, (T0 m x : BitVec 32).toNat < 8)

/-- A table of zeros: the windows' index maps read no table, so any will do to decide their cover. -/
def noIds : pre0.Contents (Elt Ideal) := fun j => match j with
  | ⟨0, _⟩ => show Vec Ideal S6 .i32 from fun _ => (0 : BitVec 32)

/-- What the proof data say is written back from window 8 is the reference's. -/
theorem cutX8 (c : Dev nD) (t : Fin (cfgM m).N) (y : (((cfgM m).win 8).xblock ((cfgM m).grid.coords t)).Idx) :
    out0_8 (F := Ideal) (X0 m c t) (X1 m c t) (iblk m c 2 t) (iblk m c 3 t) (X4 m c t) (((cfgM m).win 8).xinj ((cfgM m).grid.coords t) y)
      = Cert.RefOprojSIdeal.Arrays.G8 (m ((c : Thread nD τ).loc main_arg1)) (m ((c : Thread nD τ).loc main_arg2)) (m ((c : Thread nD τ).loc main_arg3)) (m ((c : Thread nD τ).loc main_arg4)) (m ((c : Thread nD τ).loc main_arg5)) ((((cfgM m).win 8).blk t).view.emb y) := by
  unfold X0 X1 X4
  exact cut8 m c t _ _ _ y

/-- The tiles cover result array 8. -/
theorem covers8 : ((cfgM m).win 8).Covers :=
  show ((cfg0 (F := Ideal) ⟨noIds, trivial⟩).win 8).Covers by decide +kernel

/-- Result array 8 after the run is the reference's. -/
theorem final8 (c : Dev nD) : (dats m hok 0 c).arrAt 8 (cfgM m).N
    = Cert.RefOprojSIdeal.Arrays.G8 (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m hok 0 c).arrAt_eq_of_covers 8 _ (covers8 m) fun t _ y => ?_
  exact (cast_eq _ _).trans ((congrFun (after0_8 m hok c t) _).trans (cutX8 m c t y))

include hT in
/-- What the proof data say is written back from window 9 is the reference's. -/
theorem cutX9 (c : Dev nD) (t : Fin (cfgM m).N) (y : (((cfgM m).win 9).xblock ((cfgM m).grid.coords t)).Idx) :
    out0_9 (F := Ideal) (T0 m) (grid0.coords t) (hok _) (X0 m c t) (X1 m c t) (iblk m c 2 t) (iblk m c 3 t) (X4 m c t) (iblk m c 5 t) (iblk m c 6 t) (iblk m c 7 t) (((cfgM m).win 9).xinj ((cfgM m).grid.coords t) y)
      = Cert.RefOprojSIdeal.Arrays.G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) ((((cfgM m).win 9).blk t).view.emb y) := by
  unfold X0 X1 X4
  exact cut9 m hok hT c t _ _ _ y

/-- The tiles cover result array 9. -/
theorem covers9 : ((cfgM m).win 9).Covers :=
  show ((cfg0 (F := Ideal) ⟨noIds, trivial⟩).win 9).Covers by decide +kernel

include hT in
/-- Result array 9 after the run is the reference's. -/
theorem final9 (c : Dev nD) : (dats m hok 0 c).arrAt 9 (cfgM m).N
    = Cert.RefOprojSIdeal.Arrays.G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m hok 0 c).arrAt_eq_of_covers 9 _ (covers9 m) fun t _ y => ?_
  exact (cast_eq _ _).trans ((congrFun (after0_9 m hok c t) _).trans (cutX9 m hok hT c t y))

include hT in
/-- What the proof data say is written back from window 10 is the reference's. -/
theorem cutX10 (c : Dev nD) (t : Fin (cfgM m).N) (y : (((cfgM m).win 10).xblock ((cfgM m).grid.coords t)).Idx) :
    out0_10 (F := Ideal) (T0 m) (grid0.coords t) (hok _) (X0 m c t) (X1 m c t) (iblk m c 2 t) (iblk m c 3 t) (X4 m c t) (iblk m c 5 t) (iblk m c 6 t) (iblk m c 7 t) (((cfgM m).win 10).xinj ((cfgM m).grid.coords t) y)
      = Cert.RefOprojSIdeal.Arrays.G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) ((((cfgM m).win 10).blk t).view.emb y) := by
  unfold X0 X1 X4
  exact cut10 m hok hT c t _ _ _ y

/-- The tiles cover result array 10. -/
theorem covers10 : ((cfgM m).win 10).Covers :=
  show ((cfg0 (F := Ideal) ⟨noIds, trivial⟩).win 10).Covers by decide +kernel

include hT in
/-- Result array 10 after the run is the reference's. -/
theorem final10 (c : Dev nD) : (dats m hok 0 c).arrAt 10 (cfgM m).N
    = Cert.RefOprojSIdeal.Arrays.G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m hok 0 c).arrAt_eq_of_covers 10 _ (covers10 m) fun t _ y => ?_
  exact (cast_eq _ _).trans ((congrFun (after0_10 m hok c t) _).trans (cutX10 m hok hT c t y))

include hT in
/-- The run's result arrays are the reference's. -/
theorem results (r : PUnit × MemSt nD τ sig (Elt Ideal)) (h : Pipeline.FramePost (Pipeline.pin pcfgs (fun _ => adm m)) (dats m hok) 0 (V m) r) (c : Dev nD) :
    r.2.mem ((c : Thread nD τ).loc main_v0_0) = Cert.RefOprojSIdeal.Arrays.G8 (m ((c : Thread nD τ).loc main_arg1)) (m ((c : Thread nD τ).loc main_arg2)) (m ((c : Thread nD τ).loc main_arg3)) (m ((c : Thread nD τ).loc main_arg4)) (m ((c : Thread nD τ).loc main_arg5))
    ∧ r.2.mem ((c : Thread nD τ).loc main_v0_1) = Cert.RefOprojSIdeal.Arrays.G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    ∧ r.2.mem ((c : Thread nD τ).loc main_v0_2) = Cert.RefOprojSIdeal.Arrays.G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  ⟨((h c).1 8).trans (final8 m hok c), ((h c).1 9).trans (final9 m hok hT c), ((h c).1 10).trans (final10 m hok hT c)⟩

/-- The run's argument arrays are as launched. -/
theorem kept (r : PUnit × MemSt nD τ sig (Elt Ideal)) (h : Pipeline.FramePost (Pipeline.pin pcfgs (fun _ => adm m)) (dats m hok) 0 (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8) :=
  have k : ∀ w : Fin (cfgM m).W, ((cfgM m).win w).isOut = false → r.2.mem (((cfgM m).spec w).arr.view.loc (c.tc : Thread nD τ)) = V m c (Pipeline.arrRef spec0 w) :=
    fun w hw => ((h c).1 w).trans (((dats m hok 0 c).arrAt_in w hw _).trans (A_eq m hok c w))
  ⟨(h c).2 main_arg0 (show main_arg0 ∈ Pipeline.restRefs sig spec0 by decide), k 0 rfl, k 1 rfl, k 2 rfl, k 3 rfl, k 4 rfl, k 5 rfl, k 6 rfl, k 7 rfl⟩

/-- The kernel and its reference compute the same arrays. -/
theorem algebraic : Cert.algebraic_OprojSIdeal_RefOprojSIdeal := by
  intro m g m' g' hpre hagree
  have hok : Ok (F := Ideal) (T0 m) := ok_of_pre m hpre
  have hT : ∀ x, (T0 m x : BitVec 32).toNat < 8 := fun x => ids_lt m hpre x
  refine ⟨fun c => Cert.RefOprojSIdeal.Arrays.G8 (m ((c : Thread nD τ).loc main_arg1)) (m ((c : Thread nD τ).loc main_arg2)) (m ((c : Thread nD τ).loc main_arg3)) (m ((c : Thread nD τ).loc main_arg4)) (m ((c : Thread nD τ).loc main_arg5)), fun c => Cert.RefOprojSIdeal.Arrays.G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)), fun c => Cert.RefOprojSIdeal.Arrays.G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)), ?_, ?_⟩
  · refine (θ_run _ _ _).mono (fun r h c => ?_) (run_main m hok hT g)
    obtain ⟨h8, h9, h10⟩ := results m hok hT r h.1 c
    exact ⟨h8, h9, h10, kept m hok r h.1 c⟩
  · refine (θ_run _ _ _).mono (fun r h c => ?_) (Cert.RefOprojSIdeal.Arrays.run m' g')
    obtain ⟨h8, h9, h10, hk⟩ := h c
    obtain ⟨e0, e1, e2, e3, e4, e5, e6, e7, e8⟩ := hagree c
    rw [e1, e2, e3, e4, e5] at h8
    rw [e0, e1, e2, e3, e4, e5, e6, e7, e8] at h9 h10
    exact ⟨h8, h9, h10, hk⟩

end Cert.OprojSIdeal.TileValue

end
-- ==== Proof.lean ====
module

public import proofs.«01_k».proof.Defs
public import proofs.«01_k».proof.Proof.SpatialBody
public import proofs.«01_k».proof.Proof.SpatialValue
public import proofs.«01_k».proof.Proof.Gen.Fc2
public import proofs.«01_k».proof.Proof.Gen.Fc2.Skeleton
public import proofs.«01_k».proof.Proof.Gen.Fc2.Launch
public import proofs.«01_k».proof.Proof.Gen.Fc2.Points
public import proofs.«01_k».proof.Proof.Gen.Fc2.Frame
public import proofs.«01_k».proof.Proof.Gen.Fc2Ideal
public import proofs.«01_k».proof.Proof.Gen.Fc2Ideal.Skeleton
public import proofs.«01_k».proof.Proof.Gen.Fc2Ideal.Launch
public import proofs.«01_k».proof.Proof.Gen.Fc2Ideal.Points
public import proofs.«01_k».proof.Proof.Gen.Fc2Ideal.Frame
public import proofs.«01_k».proof.Proof.Gen.RefFc2Ideal
public import proofs.«01_k».proof.Proof.Gen.RefFc2Ideal.Skeleton
public import proofs.«01_k».proof.Proof.Gen.RefFc2Ideal.Launch
public import proofs.«01_k».proof.Proof.Gen.RefFc2Ideal.Points
public import proofs.«01_k».proof.Proof.Gen.RefFc2Ideal.Frame
public import proofs.«01_k».proof.Proof.Gen.QkvS
public import proofs.«01_k».proof.Proof.Gen.QkvS.Skeleton
public import proofs.«01_k».proof.Proof.Gen.QkvS.Launch
public import proofs.«01_k».proof.Proof.Gen.QkvS.Points
public import proofs.«01_k».proof.Proof.Gen.QkvS.Frame
public import proofs.«01_k».proof.Proof.Gen.QkvSIdeal
public import proofs.«01_k».proof.Proof.Gen.QkvSIdeal.Skeleton
public import proofs.«01_k».proof.Proof.Gen.QkvSIdeal.Launch
public import proofs.«01_k».proof.Proof.Gen.QkvSIdeal.Points
public import proofs.«01_k».proof.Proof.Gen.QkvSIdeal.Frame
public import proofs.«01_k».proof.Proof.Gen.RefQkvSIdeal
public import proofs.«01_k».proof.Proof.Gen.RefQkvSIdeal.Skeleton
public import proofs.«01_k».proof.Proof.Gen.RefQkvSIdeal.Launch
public import proofs.«01_k».proof.Proof.Gen.RefQkvSIdeal.Points
public import proofs.«01_k».proof.Proof.Gen.RefQkvSIdeal.Frame
public import proofs.«01_k».proof.Proof.Gen.QkvTQ
public import proofs.«01_k».proof.Proof.Gen.QkvTQ.Skeleton
public import proofs.«01_k».proof.Proof.Gen.QkvTQ.Launch
public import proofs.«01_k».proof.Proof.Gen.QkvTQ.Points
public import proofs.«01_k».proof.Proof.Gen.QkvTQ.Frame
public import proofs.«01_k».proof.Proof.Gen.QkvTQIdeal
public import proofs.«01_k».proof.Proof.Gen.QkvTQIdeal.Skeleton
public import proofs.«01_k».proof.Proof.Gen.QkvTQIdeal.Launch
public import proofs.«01_k».proof.Proof.Gen.QkvTQIdeal.Points
public import proofs.«01_k».proof.Proof.Gen.QkvTQIdeal.Frame
public import proofs.«01_k».proof.Proof.Gen.RefQkvTQIdeal
public import proofs.«01_k».proof.Proof.Gen.RefQkvTQIdeal.Skeleton
public import proofs.«01_k».proof.Proof.Gen.RefQkvTQIdeal.Launch
public import proofs.«01_k».proof.Proof.Gen.RefQkvTQIdeal.Points
public import proofs.«01_k».proof.Proof.Gen.RefQkvTQIdeal.Frame
public import proofs.«01_k».proof.Proof.Gen.QkvTKv
public import proofs.«01_k».proof.Proof.Gen.QkvTKv.Skeleton
public import proofs.«01_k».proof.Proof.Gen.QkvTKv.Launch
public import proofs.«01_k».proof.Proof.Gen.QkvTKv.Points
public import proofs.«01_k».proof.Proof.Gen.QkvTKv.Frame
public import proofs.«01_k».proof.Proof.Gen.QkvTKvIdeal
public import proofs.«01_k».proof.Proof.Gen.QkvTKvIdeal.Skeleton
public import proofs.«01_k».proof.Proof.Gen.QkvTKvIdeal.Launch
public import proofs.«01_k».proof.Proof.Gen.QkvTKvIdeal.Points
public import proofs.«01_k».proof.Proof.Gen.QkvTKvIdeal.Frame
public import proofs.«01_k».proof.Proof.Gen.RefQkvTKvIdeal
public import proofs.«01_k».proof.Proof.Gen.RefQkvTKvIdeal.Skeleton
public import proofs.«01_k».proof.Proof.Gen.RefQkvTKvIdeal.Launch
public import proofs.«01_k».proof.Proof.Gen.RefQkvTKvIdeal.Points
public import proofs.«01_k».proof.Proof.Gen.RefQkvTKvIdeal.Frame
public import proofs.«01_k».proof.Proof.Gen.Ln1
public import proofs.«01_k».proof.Proof.Gen.Ln1.Skeleton
public import proofs.«01_k».proof.Proof.Gen.Ln1.Launch
public import proofs.«01_k».proof.Proof.Gen.Ln1.Points
public import proofs.«01_k».proof.Proof.Gen.Ln1.Frame
public import proofs.«01_k».proof.Proof.Gen.Ln1Ideal
public import proofs.«01_k».proof.Proof.Gen.Ln1Ideal.Skeleton
public import proofs.«01_k».proof.Proof.Gen.Ln1Ideal.Launch
public import proofs.«01_k».proof.Proof.Gen.Ln1Ideal.Points
public import proofs.«01_k».proof.Proof.Gen.Ln1Ideal.Frame
public import proofs.«01_k».proof.Proof.Gen.RefLn1Ideal
public import proofs.«01_k».proof.Proof.Gen.RefLn1Ideal.Skeleton
public import proofs.«01_k».proof.Proof.Gen.RefLn1Ideal.Launch
public import proofs.«01_k».proof.Proof.Gen.RefLn1Ideal.Points
public import proofs.«01_k».proof.Proof.Gen.RefLn1Ideal.Frame
public import proofs.«01_k».proof.Proof.Gen.Fc2Ideal.Value
public import proofs.«01_k».proof.Proof.Gen.RefFc2Ideal.Value
public import proofs.«01_k».proof.Proof.Gen.QkvSIdeal.Value
public import proofs.«01_k».proof.Proof.Gen.QkvTQIdeal.Value
public import proofs.«01_k».proof.Proof.Gen.QkvTKvIdeal.Value
public import proofs.«01_k».proof.Proof.Gen.Ln1Ideal.Value
public import proofs.«01_k».proof.Proof.Gen.RefLn1Ideal.Value
public import proofs.«01_k».proof.Proof.Gen.RefQkvSIdeal.Run
public import proofs.«01_k».proof.Proof.Gen.RefQkvSIdeal.Read
public import proofs.«01_k».proof.Proof.Gen.RefQkvTQIdeal.Read
public import proofs.«01_k».proof.Proof.Gen.RefQkvTKvIdeal.Read
public import proofs.«01_k».proof.Proof.Gen.OprojT
public import proofs.«01_k».proof.Proof.Gen.OprojT.Skeleton
public import proofs.«01_k».proof.Proof.Gen.OprojT.Launch
public import proofs.«01_k».proof.Proof.Gen.OprojT.Points
public import proofs.«01_k».proof.Proof.Gen.OprojT.Frame
public import proofs.«01_k».proof.Proof.Gen.OprojTIdeal
public import proofs.«01_k».proof.Proof.Gen.OprojTIdeal.Skeleton
public import proofs.«01_k».proof.Proof.Gen.OprojTIdeal.Launch
public import proofs.«01_k».proof.Proof.Gen.OprojTIdeal.Points
public import proofs.«01_k».proof.Proof.Gen.OprojTIdeal.Frame
public import proofs.«01_k».proof.Proof.Gen.RefOprojTIdeal
public import proofs.«01_k».proof.Proof.Gen.RefOprojTIdeal.Skeleton
public import proofs.«01_k».proof.Proof.Gen.RefOprojTIdeal.Launch
public import proofs.«01_k».proof.Proof.Gen.RefOprojTIdeal.Points
public import proofs.«01_k».proof.Proof.Gen.RefOprojTIdeal.Frame
public import proofs.«01_k».proof.Proof.Gen.RefOprojTIdeal.Value
public import proofs.«01_k».proof.Proof.Gen.Fc1
public import proofs.«01_k».proof.Proof.Gen.Fc1.Skeleton
public import proofs.«01_k».proof.Proof.Gen.Fc1.Launch
public import proofs.«01_k».proof.Proof.Gen.Fc1.Points
public import proofs.«01_k».proof.Proof.Gen.Fc1.Frame
public import proofs.«01_k».proof.Proof.Gen.Fc1Ideal
public import proofs.«01_k».proof.Proof.Gen.Fc1Ideal.Skeleton
public import proofs.«01_k».proof.Proof.Gen.Fc1Ideal.Launch
public import proofs.«01_k».proof.Proof.Gen.Fc1Ideal.Points
public import proofs.«01_k».proof.Proof.Gen.Fc1Ideal.Frame
public import proofs.«01_k».proof.Proof.Gen.RefFc1Ideal
public import proofs.«01_k».proof.Proof.Gen.RefFc1Ideal.Skeleton
public import proofs.«01_k».proof.Proof.Gen.RefFc1Ideal.Launch
public import proofs.«01_k».proof.Proof.Gen.RefFc1Ideal.Points
public import proofs.«01_k».proof.Proof.Gen.RefFc1Ideal.Frame
public import proofs.«01_k».proof.Proof.Gen.RefFc1Ideal.Value
public import proofs.«01_k».proof.Proof.Gen.Pre_ids_ok
public import proofs.«01_k».proof.Proof.Gen.OprojS
public import proofs.«01_k».proof.Proof.Gen.OprojS.Skeleton
public import proofs.«01_k».proof.Proof.Gen.OprojS.Launch
public import proofs.«01_k».proof.Proof.Gen.OprojSIdeal
public import proofs.«01_k».proof.Proof.Gen.OprojSIdeal.Skeleton
public import proofs.«01_k».proof.Proof.Gen.OprojSIdeal.Launch
public import proofs.«01_k».proof.Proof.Gen.RefOprojSIdeal
public import proofs.«01_k».proof.Proof.Gen.RefOprojSIdeal.Skeleton
public import proofs.«01_k».proof.Proof.Gen.RefOprojSIdeal.Launch
public import proofs.«01_k».proof.Proof.Gen.RefOprojSIdeal.Points
public import proofs.«01_k».proof.Proof.Gen.RefOprojSIdeal.Frame
public import proofs.«01_k».proof.Proof.Gen.RefOprojSIdeal.Value
public import proofs.«01_k».proof.Proof.Fc2Value
public import proofs.«01_k».proof.Proof.QkvSValue
public import proofs.«01_k».proof.Proof.QkvTQValue
public import proofs.«01_k».proof.Proof.QkvTKvValue
public import proofs.«01_k».proof.Proof.Ln1Value
public import proofs.«01_k».proof.Proof.OprojTBody
public import proofs.«01_k».proof.Proof.OprojTValue
public import proofs.«01_k».proof.Proof.Fc1Body
public import proofs.«01_k».proof.Proof.Fc1Value
public import Idealize.ShloMosaic.Adequacy
public import Idealize.ShloMosaic.Init
public import proofs.«01_k».proof.Proof.OprojSBody
public import proofs.«01_k».proof.Proof.OprojSIds
public import proofs.«01_k».proof.Proof.OprojSValue

@[expose] public section

noncomputable section

namespace Cert.Proof

open Idealize.ShloMosaic Idealize.SL.Sem Cert.Fc2

/-- Every program of the statement runs to its end with its arguments unchanged, and each kernel call computes its reference. -/
theorem claim : Cert.Claim := ⟨Cert.Fc2.Gen.facts,
  Cert.Fc2Ideal.Gen.facts,
  Cert.RefFc2Ideal.Gen.facts,
  Cert.QkvS.Gen.facts,
  Cert.QkvSIdeal.Gen.facts,
  Cert.RefQkvSIdeal.Gen.facts,
  Cert.QkvTQ.Gen.facts,
  Cert.QkvTQIdeal.Gen.facts,
  Cert.RefQkvTQIdeal.Gen.facts,
  Cert.QkvTKv.Gen.facts,
  Cert.QkvTKvIdeal.Gen.facts,
  Cert.RefQkvTKvIdeal.Gen.facts,
  Cert.Ln1.Gen.facts,
  Cert.Ln1Ideal.Gen.facts,
  Cert.RefLn1Ideal.Gen.facts,
  Cert.OprojT.Gen.facts,
  Cert.OprojTIdeal.Gen.facts,
  Cert.RefOprojTIdeal.Gen.facts,
  Cert.Fc1.Gen.facts,
  Cert.Fc1Ideal.Gen.facts,
  Cert.RefFc1Ideal.Gen.facts,
  Cert.OprojS.Gen.facts,
  Cert.OprojSIdeal.Gen.facts,
  Cert.RefOprojSIdeal.Gen.facts,
  Cert.Spatial.Gen.facts,
  Cert.SpatialIdeal.Gen.facts,
  Cert.RefSpatialIdeal.Gen.facts,
  Cert.Pre_ids_ok.Gen.facts,
  fun m ρ _ => Cert.Fc2.Gen.frame m ρ,
  fun m ρ _ => Cert.Fc2Ideal.Gen.frame m ρ,
  fun m ρ _ => Cert.RefFc2Ideal.Gen.frame m ρ,
  fun m ρ _ => Cert.QkvS.Gen.frame m ρ,
  fun m ρ _ => Cert.QkvSIdeal.Gen.frame m ρ,
  fun m ρ _ => Cert.RefQkvSIdeal.Gen.frame m ρ,
  fun m ρ _ => Cert.QkvTQ.Gen.frame m ρ,
  fun m ρ _ => Cert.QkvTQIdeal.Gen.frame m ρ,
  fun m ρ _ => Cert.RefQkvTQIdeal.Gen.frame m ρ,
  fun m ρ _ => Cert.QkvTKv.Gen.frame m ρ,
  fun m ρ _ => Cert.QkvTKvIdeal.Gen.frame m ρ,
  fun m ρ _ => Cert.RefQkvTKvIdeal.Gen.frame m ρ,
  fun m ρ _ => Cert.Ln1.Gen.frame m ρ,
  fun m ρ _ => Cert.Ln1Ideal.Gen.frame m ρ,
  fun m ρ _ => Cert.RefLn1Ideal.Gen.frame m ρ,
  fun m ρ _ => Cert.OprojT.Body.frame m ρ,
  fun m ρ _ => Cert.OprojTIdeal.Body.frame m ρ,
  fun m ρ _ => Cert.RefOprojTIdeal.Gen.frame m ρ,
  fun m ρ _ => Cert.Fc1.Body.frame m ρ,
  fun m ρ _ => Cert.Fc1Ideal.Body.frame m ρ,
  fun m ρ _ => Cert.RefFc1Ideal.Gen.frame m ρ,
  Cert.OprojS.Body.frame,
  Cert.OprojSIdeal.Body.frame,
  fun m ρ _ => Cert.RefOprojSIdeal.Gen.frame m ρ,
  fun m ρ _ => Cert.Spatial.Body.frame m ρ,
  fun m ρ _ => Cert.SpatialIdeal.Body.frame m ρ,
  fun m ρ _ => Cert.RefSpatialIdeal.Gen.frame m ρ,
  trivial,
  Cert.Fc2Ideal.TileValue.algebraic,
  trivial,
  Cert.QkvSIdeal.TileValue.algebraic,
  trivial,
  Cert.QkvTQIdeal.TileValue.algebraic,
  trivial,
  Cert.QkvTKvIdeal.TileValue.algebraic,
  trivial,
  Cert.Ln1Ideal.TileValue.algebraic,
  trivial,
  Cert.OprojTIdeal.TileValue.algebraic,
  trivial,
  Cert.Fc1Ideal.TileValue.algebraic,
  trivial,
  Cert.OprojSIdeal.TileValue.algebraic,
  trivial,
  Cert.SpatialIdeal.TileValue.algebraic⟩

end Cert.Proof

end
